-- ==== Defs.lean ====
def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_Up0RefIdeal (m : (ℓ : Loc Cert.Up0RefIdeal.nD Cert.Up0RefIdeal.τ Cert.Up0RefIdeal.sig) → Buf (Elt Ideal) ℓ) : Prop :=
  True

def Pre_Up1 (m : (ℓ : Loc Cert.Up1.nD Cert.Up1.τ Cert.Up1.sig) → Buf (Elt Bits) ℓ) : Prop :=
  True

def Pre_Up1Ideal (m : (ℓ : Loc Cert.Up1Ideal.nD Cert.Up1Ideal.τ Cert.Up1Ideal.sig) → Buf (Elt Ideal) ℓ) : Prop :=
  True

def Pre_Up1RefIdeal (m : (ℓ : Loc Cert.Up1RefIdeal.nD Cert.Up1RefIdeal.τ Cert.Up1RefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInRefIdeal (m : (ℓ : Loc Cert.GdnInRefIdeal.nD Cert.GdnInRefIdeal.τ Cert.GdnInRefIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutRefIdeal (m : (ℓ : Loc Cert.GdnOutRefIdeal.nD Cert.GdnOutRefIdeal.τ Cert.GdnOutRefIdeal.sig) → Buf (Elt Ideal) ℓ) : Prop :=
  True

def Pre_GdnOutDx (m : (ℓ : Loc Cert.GdnOutDx.nD Cert.GdnOutDx.τ Cert.GdnOutDx.sig) → Buf (Elt Bits) ℓ) : Prop :=
  True

def Pre_GdnOutDxIdeal (m : (ℓ : Loc Cert.GdnOutDxIdeal.nD Cert.GdnOutDxIdeal.τ Cert.GdnOutDxIdeal.sig) → Buf (Elt Ideal) ℓ) : Prop :=
  True

def Pre_GdnOutDxRefIdeal (m : (ℓ : Loc Cert.GdnOutDxRefIdeal.nD Cert.GdnOutDxRefIdeal.τ Cert.GdnOutDxRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_OProjDx (m : (ℓ : Loc Cert.OProjDx.nD Cert.OProjDx.τ Cert.OProjDx.sig) → Buf (Elt Bits) ℓ) : Prop :=
  True

def Pre_OProjDxIdeal (m : (ℓ : Loc Cert.OProjDxIdeal.nD Cert.OProjDxIdeal.τ Cert.OProjDxIdeal.sig) → Buf (Elt Ideal) ℓ) : Prop :=
  True

def Pre_OProjDxRefIdeal (m : (ℓ : Loc Cert.OProjDxRefIdeal.nD Cert.OProjDxRefIdeal.τ Cert.OProjDxRefIdeal.sig) → Buf (Elt Ideal) ℓ) : Prop :=
  True

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwRefIdeal (m : (ℓ : Loc Cert.QDwRefIdeal.nD Cert.QDwRefIdeal.τ Cert.QDwRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_ODw (m : (ℓ : Loc Cert.ODw.nD Cert.ODw.τ Cert.ODw.sig) → Buf (Elt Bits) ℓ) : Prop :=
  True

def Pre_ODwIdeal (m : (ℓ : Loc Cert.ODwIdeal.nD Cert.ODwIdeal.τ Cert.ODwIdeal.sig) → Buf (Elt Ideal) ℓ) : Prop :=
  True

def Pre_ODwRefIdeal (m : (ℓ : Loc Cert.ODwRefIdeal.nD Cert.ODwRefIdeal.τ Cert.ODwRefIdeal.sig) → Buf (Elt Ideal) ℓ) : Prop :=
  True

def Pre_GdnOutDw (m : (ℓ : Loc Cert.GdnOutDw.nD Cert.GdnOutDw.τ Cert.GdnOutDw.sig) → Buf (Elt Bits) ℓ) : Prop :=
  True

def Pre_GdnOutDwIdeal (m : (ℓ : Loc Cert.GdnOutDwIdeal.nD Cert.GdnOutDwIdeal.τ Cert.GdnOutDwIdeal.sig) → Buf (Elt Ideal) ℓ) : Prop :=
  True

def Pre_GdnOutDwRefIdeal (m : (ℓ : Loc Cert.GdnOutDwRefIdeal.nD Cert.GdnOutDwRefIdeal.τ Cert.GdnOutDwRefIdeal.sig) → Buf (Elt Ideal) ℓ) : Prop :=
  True

def Pre_GdnInDw (m : (ℓ : Loc Cert.GdnInDw.nD Cert.GdnInDw.τ Cert.GdnInDw.sig) → Buf (Elt Bits) ℓ) : Prop :=
  True

def Pre_GdnInDwIdeal (m : (ℓ : Loc Cert.GdnInDwIdeal.nD Cert.GdnInDwIdeal.τ Cert.GdnInDwIdeal.sig) → Buf (Elt Ideal) ℓ) : Prop :=
  True

def Pre_GdnInDwRefIdeal (m : (ℓ : Loc Cert.GdnInDwRefIdeal.nD Cert.GdnInDwRefIdeal.τ Cert.GdnInDwRefIdeal.sig) → Buf (Elt Ideal) ℓ) : Prop :=
  True

def Pre_Up1Dw (m : (ℓ : Loc Cert.Up1Dw.nD Cert.Up1Dw.τ Cert.Up1Dw.sig) → Buf (Elt Bits) ℓ) : Prop :=
  True

def Pre_Up1DwIdeal (m : (ℓ : Loc Cert.Up1DwIdeal.nD Cert.Up1DwIdeal.τ Cert.Up1DwIdeal.sig) → Buf (Elt Ideal) ℓ) : Prop :=
  True

def Pre_Up1DwRefIdeal (m : (ℓ : Loc Cert.Up1DwRefIdeal.nD Cert.Up1DwRefIdeal.τ Cert.Up1DwRefIdeal.sig) → Buf (Elt Ideal) ℓ) : Prop :=
  True

def Pre_Up0Dw (m : (ℓ : Loc Cert.Up0Dw.nD Cert.Up0Dw.τ Cert.Up0Dw.sig) → Buf (Elt Bits) ℓ) : Prop :=
  True

def Pre_Up0DwIdeal (m : (ℓ : Loc Cert.Up0DwIdeal.nD Cert.Up0DwIdeal.τ Cert.Up0DwIdeal.sig) → Buf (Elt Ideal) ℓ) : Prop :=
  True

def Pre_Up0DwRefIdeal (m : (ℓ : Loc Cert.Up0DwRefIdeal.nD Cert.Up0DwRefIdeal.τ Cert.Up0DwRefIdeal.sig) → Buf (Elt Ideal) ℓ) : Prop :=
  True

def Pre_Down1Dw (m : (ℓ : Loc Cert.Down1Dw.nD Cert.Down1Dw.τ Cert.Down1Dw.sig) → Buf (Elt Bits) ℓ) : Prop :=
  True

def Pre_Down1DwIdeal (m : (ℓ : Loc Cert.Down1DwIdeal.nD Cert.Down1DwIdeal.τ Cert.Down1DwIdeal.sig) → Buf (Elt Ideal) ℓ) : Prop :=
  True

def Pre_Down1DwRefIdeal (m : (ℓ : Loc Cert.Down1DwRefIdeal.nD Cert.Down1DwRefIdeal.τ Cert.Down1DwRefIdeal.sig) → Buf (Elt Ideal) ℓ) : Prop :=
  True

def Pre_Down0Dw (m : (ℓ : Loc Cert.Down0Dw.nD Cert.Down0Dw.τ Cert.Down0Dw.sig) → Buf (Elt Bits) ℓ) : Prop :=
  True

def Pre_Down0DwIdeal (m : (ℓ : Loc Cert.Down0DwIdeal.nD Cert.Down0DwIdeal.τ Cert.Down0DwIdeal.sig) → Buf (Elt Ideal) ℓ) : Prop :=
  True

def Pre_Down0DwRefIdeal (m : (ℓ : Loc Cert.Down0DwRefIdeal.nD Cert.Down0DwRefIdeal.τ Cert.Down0DwRefIdeal.sig) → Buf (Elt Ideal) ℓ) : Prop :=
  True

def Pre_Up1Dx (m : (ℓ : Loc Cert.Up1Dx.nD Cert.Up1Dx.τ Cert.Up1Dx.sig) → Buf (Elt Bits) ℓ) : Prop :=
  True

def Pre_Up1DxIdeal (m : (ℓ : Loc Cert.Up1DxIdeal.nD Cert.Up1DxIdeal.τ Cert.Up1DxIdeal.sig) → Buf (Elt Ideal) ℓ) : Prop :=
  True

def Pre_Up1DxRefIdeal (m : (ℓ : Loc Cert.Up1DxRefIdeal.nD Cert.Up1DxRefIdeal.τ Cert.Up1DxRefIdeal.sig) → Buf (Elt Ideal) ℓ) : Prop :=
  True

def Pre_Up0Dx (m : (ℓ : Loc Cert.Up0Dx.nD Cert.Up0Dx.τ Cert.Up0Dx.sig) → Buf (Elt Bits) ℓ) : Prop :=
  True

def Pre_Up0DxIdeal (m : (ℓ : Loc Cert.Up0DxIdeal.nD Cert.Up0DxIdeal.τ Cert.Up0DxIdeal.sig) → Buf (Elt Ideal) ℓ) : Prop :=
  True

def Pre_Up0DxRefIdeal (m : (ℓ : Loc Cert.Up0DxRefIdeal.nD Cert.Up0DxRefIdeal.τ Cert.Up0DxRefIdeal.sig) → Buf (Elt Ideal) ℓ) : Prop :=
  True

def Pre_QProjDx (m : (ℓ : Loc Cert.QProjDx.nD Cert.QProjDx.τ Cert.QProjDx.sig) → Buf (Elt Bits) ℓ) : Prop :=
  True

def Pre_QProjDxIdeal (m : (ℓ : Loc Cert.QProjDxIdeal.nD Cert.QProjDxIdeal.τ Cert.QProjDxIdeal.sig) → Buf (Elt Ideal) ℓ) : Prop :=
  True

def Pre_QProjDxRefIdeal (m : (ℓ : Loc Cert.QProjDxRefIdeal.nD Cert.QProjDxRefIdeal.τ Cert.QProjDxRefIdeal.sig) → Buf (Elt Ideal) ℓ) : Prop :=
  True

def Pre_KvProjDx (m : (ℓ : Loc Cert.KvProjDx.nD Cert.KvProjDx.τ Cert.KvProjDx.sig) → Buf (Elt Bits) ℓ) : Prop :=
  True

def Pre_KvProjDxIdeal (m : (ℓ : Loc Cert.KvProjDxIdeal.nD Cert.KvProjDxIdeal.τ Cert.KvProjDxIdeal.sig) → Buf (Elt Ideal) ℓ) : Prop :=
  True

def Pre_KvProjDxRefIdeal (m : (ℓ : Loc Cert.KvProjDxRefIdeal.nD Cert.KvProjDxRefIdeal.τ Cert.KvProjDxRefIdeal.sig) → Buf (Elt Ideal) ℓ) : Prop :=
  True

def Pre_GdnInBaDx (m : (ℓ : Loc Cert.GdnInBaDx.nD Cert.GdnInBaDx.τ Cert.GdnInBaDx.sig) → Buf (Elt Bits) ℓ) : Prop :=
  True

def Pre_GdnInBaDxIdeal (m : (ℓ : Loc Cert.GdnInBaDxIdeal.nD Cert.GdnInBaDxIdeal.τ Cert.GdnInBaDxIdeal.sig) → Buf (Elt Ideal) ℓ) : Prop :=
  True

def Pre_GdnInBaDxRefIdeal (m : (ℓ : Loc Cert.GdnInBaDxRefIdeal.nD Cert.GdnInBaDxRefIdeal.τ Cert.GdnInBaDxRefIdeal.sig) → Buf (Elt Ideal) ℓ) : Prop :=
  True

def Pre_AdamAWIn (m : (ℓ : Loc Cert.AdamAWIn.nD Cert.AdamAWIn.τ Cert.AdamAWIn.sig) → Buf (Elt Bits) ℓ) : Prop :=
  True

def Pre_AdamAWInIdeal (m : (ℓ : Loc Cert.AdamAWInIdeal.nD Cert.AdamAWInIdeal.τ Cert.AdamAWInIdeal.sig) → Buf (Elt Ideal) ℓ) : Prop :=
  True

def Pre_AdamAWInRefIdeal (m : (ℓ : Loc Cert.AdamAWInRefIdeal.nD Cert.AdamAWInRefIdeal.τ Cert.AdamAWInRefIdeal.sig) → Buf (Elt Ideal) ℓ) : Prop :=
  True

def Pre_AdamAWOut (m : (ℓ : Loc Cert.AdamAWOut.nD Cert.AdamAWOut.τ Cert.AdamAWOut.sig) → Buf (Elt Bits) ℓ) : Prop :=
  True

def Pre_AdamAWOutIdeal (m : (ℓ : Loc Cert.AdamAWOutIdeal.nD Cert.AdamAWOutIdeal.τ Cert.AdamAWOutIdeal.sig) → Buf (Elt Ideal) ℓ) : Prop :=
  True

def Pre_AdamAWOutRefIdeal (m : (ℓ : Loc Cert.AdamAWOutRefIdeal.nD Cert.AdamAWOutRefIdeal.τ Cert.AdamAWOutRefIdeal.sig) → Buf (Elt Ideal) ℓ) : Prop :=
  True

def Pre_AdamWKv (m : (ℓ : Loc Cert.AdamWKv.nD Cert.AdamWKv.τ Cert.AdamWKv.sig) → Buf (Elt Bits) ℓ) : Prop :=
  True

def Pre_AdamWKvIdeal (m : (ℓ : Loc Cert.AdamWKvIdeal.nD Cert.AdamWKvIdeal.τ Cert.AdamWKvIdeal.sig) → Buf (Elt Ideal) ℓ) : Prop :=
  True

def Pre_AdamWKvRefIdeal (m : (ℓ : Loc Cert.AdamWKvRefIdeal.nD Cert.AdamWKvRefIdeal.τ Cert.AdamWKvRefIdeal.sig) → Buf (Elt Ideal) ℓ) : Prop :=
  True

def Pre_AdamBWQ (m : (ℓ : Loc Cert.AdamBWQ.nD Cert.AdamBWQ.τ Cert.AdamBWQ.sig) → Buf (Elt Bits) ℓ) : Prop :=
  True

def Pre_AdamBWQIdeal (m : (ℓ : Loc Cert.AdamBWQIdeal.nD Cert.AdamBWQIdeal.τ Cert.AdamBWQIdeal.sig) → Buf (Elt Ideal) ℓ) : Prop :=
  True

def Pre_AdamBWQRefIdeal (m : (ℓ : Loc Cert.AdamBWQRefIdeal.nD Cert.AdamBWQRefIdeal.τ Cert.AdamBWQRefIdeal.sig) → Buf (Elt Ideal) ℓ) : Prop :=
  True

def Pre_AdamBWO (m : (ℓ : Loc Cert.AdamBWO.nD Cert.AdamBWO.τ Cert.AdamBWO.sig) → Buf (Elt Bits) ℓ) : Prop :=
  True

def Pre_AdamBWOIdeal (m : (ℓ : Loc Cert.AdamBWOIdeal.nD Cert.AdamBWOIdeal.τ Cert.AdamBWOIdeal.sig) → Buf (Elt Ideal) ℓ) : Prop :=
  True

def Pre_AdamBWORefIdeal (m : (ℓ : Loc Cert.AdamBWORefIdeal.nD Cert.AdamBWORefIdeal.τ Cert.AdamBWORefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_GdnInBaDw (m : (ℓ : Loc Cert.GdnInBaDw.nD Cert.GdnInBaDw.τ Cert.GdnInBaDw.sig) → Buf (Elt Bits) ℓ) : Prop :=
  True

def Pre_GdnInBaDwIdeal (m : (ℓ : Loc Cert.GdnInBaDwIdeal.nD Cert.GdnInBaDwIdeal.τ Cert.GdnInBaDwIdeal.sig) → Buf (Elt Ideal) ℓ) : Prop :=
  True

def Pre_GdnInBaDwRefIdeal (m : (ℓ : Loc Cert.GdnInBaDwRefIdeal.nD Cert.GdnInBaDwRefIdeal.τ Cert.GdnInBaDwRefIdeal.sig) → Buf (Elt Ideal) ℓ) : Prop :=
  True

def Pre_RelBiasDw (m : (ℓ : Loc Cert.RelBiasDw.nD Cert.RelBiasDw.τ Cert.RelBiasDw.sig) → Buf (Elt Bits) ℓ) : Prop :=
  True

def Pre_RelBiasDwIdeal (m : (ℓ : Loc Cert.RelBiasDwIdeal.nD Cert.RelBiasDwIdeal.τ Cert.RelBiasDwIdeal.sig) → Buf (Elt Ideal) ℓ) : Prop :=
  True

def Pre_RelBiasDwRefIdeal (m : (ℓ : Loc Cert.RelBiasDwRefIdeal.nD Cert.RelBiasDwRefIdeal.τ Cert.RelBiasDwRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_GnormBwd (m : (ℓ : Loc Cert.GnormBwd.nD Cert.GnormBwd.τ Cert.GnormBwd.sig) → Buf (Elt Bits) ℓ) : Prop :=
  True

def Pre_GnormBwdIdeal (m : (ℓ : Loc Cert.GnormBwdIdeal.nD Cert.GnormBwdIdeal.τ Cert.GnormBwdIdeal.sig) → Buf (Elt Ideal) ℓ) : Prop :=
  True

def Pre_GnormBwdRefIdeal (m : (ℓ : Loc Cert.GnormBwdRefIdeal.nD Cert.GnormBwdRefIdeal.τ Cert.GnormBwdRefIdeal.sig) → Buf (Elt Ideal) ℓ) : Prop :=
  True

def Pre_FfnActBwd (m : (ℓ : Loc Cert.FfnActBwd.nD Cert.FfnActBwd.τ Cert.FfnActBwd.sig) → Buf (Elt Bits) ℓ) : Prop :=
  True

def Pre_FfnActBwdIdeal (m : (ℓ : Loc Cert.FfnActBwdIdeal.nD Cert.FfnActBwdIdeal.τ Cert.FfnActBwdIdeal.sig) → Buf (Elt Ideal) ℓ) : Prop :=
  True

def Pre_FfnActBwdIdeal_finite [hPre_finite : Cert.Pre_finite.Facts] (m : (ℓ : Loc Cert.FfnActBwdIdeal.nD Cert.FfnActBwdIdeal.τ Cert.FfnActBwdIdeal.sig) → Buf (Elt Ideal) ℓ) : Prop :=
  ∀ c : Dev Cert.FfnActBwdIdeal.nD,
    (Cert.Pre_finite.fn (F := Ideal) (m ((c.tc : Thread Cert.FfnActBwdIdeal.nD Cert.FfnActBwdIdeal.τ).loc Cert.FfnActBwdIdeal.main_arg0)) (m ((c.tc : Thread Cert.FfnActBwdIdeal.nD Cert.FfnActBwdIdeal.τ).loc Cert.FfnActBwdIdeal.main_arg1)) (m ((c.tc : Thread Cert.FfnActBwdIdeal.nD Cert.FfnActBwdIdeal.τ).loc Cert.FfnActBwdIdeal.main_arg2)) (m ((c.tc : Thread Cert.FfnActBwdIdeal.nD Cert.FfnActBwdIdeal.τ).loc Cert.FfnActBwdIdeal.main_arg3))) = (fun _ => 1#1)

def Pre_FfnActBwdRefIdeal (m : (ℓ : Loc Cert.FfnActBwdRefIdeal.nD Cert.FfnActBwdRefIdeal.τ Cert.FfnActBwdRefIdeal.sig) → Buf (Elt Ideal) ℓ) : Prop :=
  True

def Pre_FfnActBwdRefIdeal_finite [hPre_finite : Cert.Pre_finite.Facts] (m : (ℓ : Loc Cert.FfnActBwdRefIdeal.nD Cert.FfnActBwdRefIdeal.τ Cert.FfnActBwdRefIdeal.sig) → Buf (Elt Ideal) ℓ) : Prop :=
  ∀ c : Dev Cert.FfnActBwdRefIdeal.nD,
    (Cert.Pre_finite.fn (F := Ideal) (m ((c.tc : Thread Cert.FfnActBwdRefIdeal.nD Cert.FfnActBwdRefIdeal.τ).loc Cert.FfnActBwdRefIdeal.main_arg0)) (m ((c.tc : Thread Cert.FfnActBwdRefIdeal.nD Cert.FfnActBwdRefIdeal.τ).loc Cert.FfnActBwdRefIdeal.main_arg1)) (m ((c.tc : Thread Cert.FfnActBwdRefIdeal.nD Cert.FfnActBwdRefIdeal.τ).loc Cert.FfnActBwdRefIdeal.main_arg2)) (m ((c.tc : Thread Cert.FfnActBwdRefIdeal.nD Cert.FfnActBwdRefIdeal.τ).loc Cert.FfnActBwdRefIdeal.main_arg3))) = (fun _ => 1#1)

def Pre_GdnPreBwd (m : (ℓ : Loc Cert.GdnPreBwd.nD Cert.GdnPreBwd.τ Cert.GdnPreBwd.sig) → Buf (Elt Bits) ℓ) : Prop :=
  True

def Pre_GdnPreBwdIdeal (m : (ℓ : Loc Cert.GdnPreBwdIdeal.nD Cert.GdnPreBwdIdeal.τ Cert.GdnPreBwdIdeal.sig) → Buf (Elt Ideal) ℓ) : Prop :=
  True

def Pre_GdnPreBwdIdeal_regular_decay [hPre_regular_decay : Cert.Pre_regular_decay.Facts] (m : (ℓ : Loc Cert.GdnPreBwdIdeal.nD Cert.GdnPreBwdIdeal.τ Cert.GdnPreBwdIdeal.sig) → Buf (Elt Ideal) ℓ) : Prop :=
  ∀ c : Dev Cert.GdnPreBwdIdeal.nD,
    (Cert.Pre_regular_decay.fn (F := Ideal) (m ((c.tc : Thread Cert.GdnPreBwdIdeal.nD Cert.GdnPreBwdIdeal.τ).loc Cert.GdnPreBwdIdeal.main_arg0)) (m ((c.tc : Thread Cert.GdnPreBwdIdeal.nD Cert.GdnPreBwdIdeal.τ).loc Cert.GdnPreBwdIdeal.main_arg1)) (m ((c.tc : Thread Cert.GdnPreBwdIdeal.nD Cert.GdnPreBwdIdeal.τ).loc Cert.GdnPreBwdIdeal.main_arg2)) (m ((c.tc : Thread Cert.GdnPreBwdIdeal.nD Cert.GdnPreBwdIdeal.τ).loc Cert.GdnPreBwdIdeal.main_arg3)) (m ((c.tc : Thread Cert.GdnPreBwdIdeal.nD Cert.GdnPreBwdIdeal.τ).loc Cert.GdnPreBwdIdeal.main_arg4)) (m ((c.tc : Thread Cert.GdnPreBwdIdeal.nD Cert.GdnPreBwdIdeal.τ).loc Cert.GdnPreBwdIdeal.main_arg5)) (m ((c.tc : Thread Cert.GdnPreBwdIdeal.nD Cert.GdnPreBwdIdeal.τ).loc Cert.GdnPreBwdIdeal.main_arg6)) (m ((c.tc : Thread Cert.GdnPreBwdIdeal.nD Cert.GdnPreBwdIdeal.τ).loc Cert.GdnPreBwdIdeal.main_arg7)) (m ((c.tc : Thread Cert.GdnPreBwdIdeal.nD Cert.GdnPreBwdIdeal.τ).loc Cert.GdnPreBwdIdeal.main_arg8)) (m ((c.tc : Thread Cert.GdnPreBwdIdeal.nD Cert.GdnPreBwdIdeal.τ).loc Cert.GdnPreBwdIdeal.main_arg9))) = (fun _ => 1#1)

def Pre_GdnPreBwdRefIdeal (m : (ℓ : Loc Cert.GdnPreBwdRefIdeal.nD Cert.GdnPreBwdRefIdeal.τ Cert.GdnPreBwdRefIdeal.sig) → Buf (Elt Ideal) ℓ) : Prop :=
  True

def Pre_GdnPreBwdRefIdeal_regular_decay [hPre_regular_decay : Cert.Pre_regular_decay.Facts] (m : (ℓ : Loc Cert.GdnPreBwdRefIdeal.nD Cert.GdnPreBwdRefIdeal.τ Cert.GdnPreBwdRefIdeal.sig) → Buf (Elt Ideal) ℓ) : Prop :=
  ∀ c : Dev Cert.GdnPreBwdRefIdeal.nD,
    (Cert.Pre_regular_decay.fn (F := Ideal) (m ((c.tc : Thread Cert.GdnPreBwdRefIdeal.nD Cert.GdnPreBwdRefIdeal.τ).loc Cert.GdnPreBwdRefIdeal.main_arg0)) (m ((c.tc : Thread Cert.GdnPreBwdRefIdeal.nD Cert.GdnPreBwdRefIdeal.τ).loc Cert.GdnPreBwdRefIdeal.main_arg1)) (m ((c.tc : Thread Cert.GdnPreBwdRefIdeal.nD Cert.GdnPreBwdRefIdeal.τ).loc Cert.GdnPreBwdRefIdeal.main_arg2)) (m ((c.tc : Thread Cert.GdnPreBwdRefIdeal.nD Cert.GdnPreBwdRefIdeal.τ).loc Cert.GdnPreBwdRefIdeal.main_arg3)) (m ((c.tc : Thread Cert.GdnPreBwdRefIdeal.nD Cert.GdnPreBwdRefIdeal.τ).loc Cert.GdnPreBwdRefIdeal.main_arg4)) (m ((c.tc : Thread Cert.GdnPreBwdRefIdeal.nD Cert.GdnPreBwdRefIdeal.τ).loc Cert.GdnPreBwdRefIdeal.main_arg5)) (m ((c.tc : Thread Cert.GdnPreBwdRefIdeal.nD Cert.GdnPreBwdRefIdeal.τ).loc Cert.GdnPreBwdRefIdeal.main_arg6)) (m ((c.tc : Thread Cert.GdnPreBwdRefIdeal.nD Cert.GdnPreBwdRefIdeal.τ).loc Cert.GdnPreBwdRefIdeal.main_arg7)) (m ((c.tc : Thread Cert.GdnPreBwdRefIdeal.nD Cert.GdnPreBwdRefIdeal.τ).loc Cert.GdnPreBwdRefIdeal.main_arg8)) (m ((c.tc : Thread Cert.GdnPreBwdRefIdeal.nD Cert.GdnPreBwdRefIdeal.τ).loc Cert.GdnPreBwdRefIdeal.main_arg9))) = (fun _ => 1#1)

def Pre_GdnInBa (m : (ℓ : Loc Cert.GdnInBa.nD Cert.GdnInBa.τ Cert.GdnInBa.sig) → Buf (Elt Bits) ℓ) : Prop :=
  True

def Pre_GdnInBaIdeal (m : (ℓ : Loc Cert.GdnInBaIdeal.nD Cert.GdnInBaIdeal.τ Cert.GdnInBaIdeal.sig) → Buf (Elt Ideal) ℓ) : Prop :=
  True

def Pre_GdnInBaRefIdeal (m : (ℓ : Loc Cert.GdnInBaRefIdeal.nD Cert.GdnInBaRefIdeal.τ Cert.GdnInBaRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_Gnorm (m : (ℓ : Loc Cert.Gnorm.nD Cert.Gnorm.τ Cert.Gnorm.sig) → Buf (Elt Bits) ℓ) : Prop :=
  True

def Pre_GnormIdeal (m : (ℓ : Loc Cert.GnormIdeal.nD Cert.GnormIdeal.τ Cert.GnormIdeal.sig) → Buf (Elt Ideal) ℓ) : Prop :=
  True

def Pre_GnormRefIdeal (m : (ℓ : Loc Cert.GnormRefIdeal.nD Cert.GnormRefIdeal.τ Cert.GnormRefIdeal.sig) → Buf (Elt Ideal) ℓ) : Prop :=
  True

def Pre_RelBias (m : (ℓ : Loc Cert.RelBias.nD Cert.RelBias.τ Cert.RelBias.sig) → Buf (Elt Bits) ℓ) : Prop :=
  True

def Pre_RelBiasIdeal (m : (ℓ : Loc Cert.RelBiasIdeal.nD Cert.RelBiasIdeal.τ Cert.RelBiasIdeal.sig) → Buf (Elt Ideal) ℓ) : Prop :=
  True

def Pre_RelBiasRefIdeal (m : (ℓ : Loc Cert.RelBiasRefIdeal.nD Cert.RelBiasRefIdeal.τ Cert.RelBiasRefIdeal.sig) → Buf (Elt Ideal) ℓ) : Prop :=
  True

def Pre_GdnInDx (m : (ℓ : Loc Cert.GdnInDx.nD Cert.GdnInDx.τ Cert.GdnInDx.sig) → Buf (Elt Bits) ℓ) : Prop :=
  True

def Pre_GdnInDxIdeal (m : (ℓ : Loc Cert.GdnInDxIdeal.nD Cert.GdnInDxIdeal.τ Cert.GdnInDxIdeal.sig) → Buf (Elt Ideal) ℓ) : Prop :=
  True

def Pre_GdnInDxRefIdeal (m : (ℓ : Loc Cert.GdnInDxRefIdeal.nD Cert.GdnInDxRefIdeal.τ Cert.GdnInDxRefIdeal.sig) → Buf (Elt Ideal) ℓ) : Prop :=
  True

def Pre_FfnConvBwd (m : (ℓ : Loc Cert.FfnConvBwd.nD Cert.FfnConvBwd.τ Cert.FfnConvBwd.sig) → Buf (Elt Bits) ℓ) : Prop :=
  True

def Pre_FfnConvBwdIdeal (m : (ℓ : Loc Cert.FfnConvBwdIdeal.nD Cert.FfnConvBwdIdeal.τ Cert.FfnConvBwdIdeal.sig) → Buf (Elt Ideal) ℓ) : Prop :=
  True

def Pre_FfnConvBwdRefIdeal (m : (ℓ : Loc Cert.FfnConvBwdRefIdeal.nD Cert.FfnConvBwdRefIdeal.τ Cert.FfnConvBwdRefIdeal.sig) → Buf (Elt Ideal) ℓ) : Prop :=
  True

def Pre_GdnConvBwd (m : (ℓ : Loc Cert.GdnConvBwd.nD Cert.GdnConvBwd.τ Cert.GdnConvBwd.sig) → Buf (Elt Bits) ℓ) : Prop :=
  True

def Pre_GdnConvBwdIdeal (m : (ℓ : Loc Cert.GdnConvBwdIdeal.nD Cert.GdnConvBwdIdeal.τ Cert.GdnConvBwdIdeal.sig) → Buf (Elt Ideal) ℓ) : Prop :=
  True

def Pre_GdnConvBwdRefIdeal (m : (ℓ : Loc Cert.GdnConvBwdRefIdeal.nD Cert.GdnConvBwdRefIdeal.τ Cert.GdnConvBwdRefIdeal.sig) → Buf (Elt Ideal) ℓ) : Prop :=
  True

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1)
      ∧ r.2.mem ((c.tc : Thread Cert.Up0.nD Cert.Up0.τ).loc Cert.Up0.main_arg2) = m ((c.tc : Thread Cert.Up0.nD Cert.Up0.τ).loc Cert.Up0.main_arg2))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1)
      ∧ r.2.mem ((c.tc : Thread Cert.Up0Ideal.nD Cert.Up0Ideal.τ).loc Cert.Up0Ideal.main_arg2) = m ((c.tc : Thread Cert.Up0Ideal.nD Cert.Up0Ideal.τ).loc Cert.Up0Ideal.main_arg2))
      ∧ r.2.sem = fun _ => 0)

def quiescent_Up0RefIdeal [hUp0RefIdeal : Cert.Up0RefIdeal.Facts] : Prop :=
  ∀ (m : (ℓ : Loc Cert.Up0RefIdeal.nD Cert.Up0RefIdeal.τ Cert.Up0RefIdeal.sig) → Buf (Elt Ideal) ℓ) (g : Dev Cert.Up0RefIdeal.nD → PrngReg), Pre_Up0RefIdeal m →
    θ_run (Cert.Up0RefIdeal.defs (F := Ideal)) (onTc (τ := Cert.Up0RefIdeal.τ) (Cert.Up0RefIdeal.main (F := Ideal))) ⟨m, fun _ => 0, g⟩ (fun r => (∀ c : Dev Cert.Up0RefIdeal.nD,
      r.2.mem ((c.tc : Thread Cert.Up0RefIdeal.nD Cert.Up0RefIdeal.τ).loc Cert.Up0RefIdeal.main_arg0) = m ((c.tc : Thread Cert.Up0RefIdeal.nD Cert.Up0RefIdeal.τ).loc Cert.Up0RefIdeal.main_arg0)
      ∧ r.2.mem ((c.tc : Thread Cert.Up0RefIdeal.nD Cert.Up0RefIdeal.τ).loc Cert.Up0RefIdeal.main_arg1) = m ((c.tc : Thread Cert.Up0RefIdeal.nD Cert.Up0RefIdeal.τ).loc Cert.Up0RefIdeal.main_arg1)
      ∧ r.2.mem ((c.tc : Thread Cert.Up0RefIdeal.nD Cert.Up0RefIdeal.τ).loc Cert.Up0RefIdeal.main_arg2) = m ((c.tc : Thread Cert.Up0RefIdeal.nD Cert.Up0RefIdeal.τ).loc Cert.Up0RefIdeal.main_arg2))
      ∧ r.2.sem = fun _ => 0)

def quiescent_Up1 [hUp1 : Cert.Up1.Facts] : Prop :=
  ∀ (m : (ℓ : Loc Cert.Up1.nD Cert.Up1.τ Cert.Up1.sig) → Buf (Elt Bits) ℓ) (g : Dev Cert.Up1.nD → PrngReg), Pre_Up1 m →
    θ_run (Cert.Up1.defs (F := Bits)) (onTc (τ := Cert.Up1.τ) (Cert.Up1.main (F := Bits))) ⟨m, fun _ => 0, g⟩ (fun r => (∀ c : Dev Cert.Up1.nD,
      r.2.mem ((c.tc : Thread Cert.Up1.nD Cert.Up1.τ).loc Cert.Up1.main_arg0) = m ((c.tc : Thread Cert.Up1.nD Cert.Up1.τ).loc Cert.Up1.main_arg0)
      ∧ r.2.mem ((c.tc : Thread Cert.Up1.nD Cert.Up1.τ).loc Cert.Up1.main_arg1) = m ((c.tc : Thread Cert.Up1.nD Cert.Up1.τ).loc Cert.Up1.main_arg1)
      ∧ r.2.mem ((c.tc : Thread Cert.Up1.nD Cert.Up1.τ).loc Cert.Up1.main_arg2) = m ((c.tc : Thread Cert.Up1.nD Cert.Up1.τ).loc Cert.Up1.main_arg2))
      ∧ r.2.sem = fun _ => 0)

def quiescent_Up1Ideal [hUp1Ideal : Cert.Up1Ideal.Facts] : Prop :=
  ∀ (m : (ℓ : Loc Cert.Up1Ideal.nD Cert.Up1Ideal.τ Cert.Up1Ideal.sig) → Buf (Elt Ideal) ℓ) (g : Dev Cert.Up1Ideal.nD → PrngReg), Pre_Up1Ideal m →
    θ_run (Cert.Up1Ideal.defs (F := Ideal)) (onTc (τ := Cert.Up1Ideal.τ) (Cert.Up1Ideal.main (F := Ideal))) ⟨m, fun _ => 0, g⟩ (fun r => (∀ c : Dev Cert.Up1Ideal.nD,
      r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
      ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1)
      ∧ r.2.mem ((c.tc : Thread Cert.Up1Ideal.nD Cert.Up1Ideal.τ).loc Cert.Up1Ideal.main_arg2) = m ((c.tc : Thread Cert.Up1Ideal.nD Cert.Up1Ideal.τ).loc Cert.Up1Ideal.main_arg2))
      ∧ r.2.sem = fun _ => 0)

def quiescent_Up1RefIdeal [hUp1RefIdeal : Cert.Up1RefIdeal.Facts] : Prop :=
  ∀ (m : (ℓ : Loc Cert.Up1RefIdeal.nD Cert.Up1RefIdeal.τ Cert.Up1RefIdeal.sig) → Buf (Elt Ideal) ℓ) (g : Dev Cert.Up1RefIdeal.nD → PrngReg), Pre_Up1RefIdeal m →
    θ_run (Cert.Up1RefIdeal.defs (F := Ideal)) (onTc (τ := Cert.Up1RefIdeal.τ) (Cert.Up1RefIdeal.main (F := Ideal))) ⟨m, fun _ => 0, g⟩ (fun r => (∀ c : Dev Cert.Up1RefIdeal.nD,
      r.2.mem ((c.tc : Thread Cert.Up1RefIdeal.nD Cert.Up1RefIdeal.τ).loc Cert.Up1RefIdeal.main_arg0) = m ((c.tc : Thread Cert.Up1RefIdeal.nD Cert.Up1RefIdeal.τ).loc Cert.Up1RefIdeal.main_arg0)
      ∧ r.2.mem ((c.tc : Thread Cert.Up1RefIdeal.nD Cert.Up1RefIdeal.τ).loc Cert.Up1RefIdeal.main_arg1) = m ((c.tc : Thread Cert.Up1RefIdeal.nD Cert.Up1RefIdeal.τ).loc Cert.Up1RefIdeal.main_arg1)
      ∧ r.2.mem ((c.tc : Thread Cert.Up1RefIdeal.nD Cert.Up1RefIdeal.τ).loc Cert.Up1RefIdeal.main_arg2) = m ((c.tc : Thread Cert.Up1RefIdeal.nD Cert.Up1RefIdeal.τ).loc Cert.Up1RefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2))
      ∧ r.2.sem = fun _ => 0)

def quiescent_GdnInRefIdeal [hGdnInRefIdeal : Cert.GdnInRefIdeal.Facts] : Prop :=
  ∀ (m : (ℓ : Loc Cert.GdnInRefIdeal.nD Cert.GdnInRefIdeal.τ Cert.GdnInRefIdeal.sig) → Buf (Elt Ideal) ℓ) (g : Dev Cert.GdnInRefIdeal.nD → PrngReg), Pre_GdnInRefIdeal m →
    θ_run (Cert.GdnInRefIdeal.defs (F := Ideal)) (onTc (τ := Cert.GdnInRefIdeal.τ) (Cert.GdnInRefIdeal.main (F := Ideal))) ⟨m, fun _ => 0, g⟩ (fun r => (∀ c : Dev Cert.GdnInRefIdeal.nD,
      r.2.mem ((c.tc : Thread Cert.GdnInRefIdeal.nD Cert.GdnInRefIdeal.τ).loc Cert.GdnInRefIdeal.main_arg0) = m ((c.tc : Thread Cert.GdnInRefIdeal.nD Cert.GdnInRefIdeal.τ).loc Cert.GdnInRefIdeal.main_arg0)
      ∧ r.2.mem ((c.tc : Thread Cert.GdnInRefIdeal.nD Cert.GdnInRefIdeal.τ).loc Cert.GdnInRefIdeal.main_arg1) = m ((c.tc : Thread Cert.GdnInRefIdeal.nD Cert.GdnInRefIdeal.τ).loc Cert.GdnInRefIdeal.main_arg1)
      ∧ r.2.mem ((c.tc : Thread Cert.GdnInRefIdeal.nD Cert.GdnInRefIdeal.τ).loc Cert.GdnInRefIdeal.main_arg2) = m ((c.tc : Thread Cert.GdnInRefIdeal.nD Cert.GdnInRefIdeal.τ).loc Cert.GdnInRefIdeal.main_arg2))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2))
      ∧ r.2.sem = fun _ => 0)

def quiescent_GdnOutRefIdeal [hGdnOutRefIdeal : Cert.GdnOutRefIdeal.Facts] : Prop :=
  ∀ (m : (ℓ : Loc Cert.GdnOutRefIdeal.nD Cert.GdnOutRefIdeal.τ Cert.GdnOutRefIdeal.sig) → Buf (Elt Ideal) ℓ) (g : Dev Cert.GdnOutRefIdeal.nD → PrngReg), Pre_GdnOutRefIdeal m →
    θ_run (Cert.GdnOutRefIdeal.defs (F := Ideal)) (onTc (τ := Cert.GdnOutRefIdeal.τ) (Cert.GdnOutRefIdeal.main (F := Ideal))) ⟨m, fun _ => 0, g⟩ (fun r => (∀ c : Dev Cert.GdnOutRefIdeal.nD,
      r.2.mem ((c.tc : Thread Cert.GdnOutRefIdeal.nD Cert.GdnOutRefIdeal.τ).loc Cert.GdnOutRefIdeal.main_arg0) = m ((c.tc : Thread Cert.GdnOutRefIdeal.nD Cert.GdnOutRefIdeal.τ).loc Cert.GdnOutRefIdeal.main_arg0)
      ∧ r.2.mem ((c.tc : Thread Cert.GdnOutRefIdeal.nD Cert.GdnOutRefIdeal.τ).loc Cert.GdnOutRefIdeal.main_arg1) = m ((c.tc : Thread Cert.GdnOutRefIdeal.nD Cert.GdnOutRefIdeal.τ).loc Cert.GdnOutRefIdeal.main_arg1)
      ∧ r.2.mem ((c.tc : Thread Cert.GdnOutRefIdeal.nD Cert.GdnOutRefIdeal.τ).loc Cert.GdnOutRefIdeal.main_arg2) = m ((c.tc : Thread Cert.GdnOutRefIdeal.nD Cert.GdnOutRefIdeal.τ).loc Cert.GdnOutRefIdeal.main_arg2))
      ∧ r.2.sem = fun _ => 0)

def quiescent_GdnOutDx [hGdnOutDx : Cert.GdnOutDx.Facts] : Prop :=
  ∀ (m : (ℓ : Loc Cert.GdnOutDx.nD Cert.GdnOutDx.τ Cert.GdnOutDx.sig) → Buf (Elt Bits) ℓ) (g : Dev Cert.GdnOutDx.nD → PrngReg), Pre_GdnOutDx m →
    θ_run (Cert.GdnOutDx.defs (F := Bits)) (onTc (τ := Cert.GdnOutDx.τ) (Cert.GdnOutDx.main (F := Bits))) ⟨m, fun _ => 0, g⟩ (fun r => (∀ c : Dev Cert.GdnOutDx.nD,
      r.2.mem ((c.tc : Thread Cert.GdnOutDx.nD Cert.GdnOutDx.τ).loc Cert.GdnOutDx.main_arg0) = m ((c.tc : Thread Cert.GdnOutDx.nD Cert.GdnOutDx.τ).loc Cert.GdnOutDx.main_arg0)
      ∧ r.2.mem ((c.tc : Thread Cert.GdnOutDx.nD Cert.GdnOutDx.τ).loc Cert.GdnOutDx.main_arg1) = m ((c.tc : Thread Cert.GdnOutDx.nD Cert.GdnOutDx.τ).loc Cert.GdnOutDx.main_arg1))
      ∧ r.2.sem = fun _ => 0)

def quiescent_GdnOutDxIdeal [hGdnOutDxIdeal : Cert.GdnOutDxIdeal.Facts] : Prop :=
  ∀ (m : (ℓ : Loc Cert.GdnOutDxIdeal.nD Cert.GdnOutDxIdeal.τ Cert.GdnOutDxIdeal.sig) → Buf (Elt Ideal) ℓ) (g : Dev Cert.GdnOutDxIdeal.nD → PrngReg), Pre_GdnOutDxIdeal m →
    θ_run (Cert.GdnOutDxIdeal.defs (F := Ideal)) (onTc (τ := Cert.GdnOutDxIdeal.τ) (Cert.GdnOutDxIdeal.main (F := Ideal))) ⟨m, fun _ => 0, g⟩ (fun r => (∀ c : Dev Cert.GdnOutDxIdeal.nD,
      r.2.mem ((c.tc : Thread Cert.GdnOutDxIdeal.nD Cert.GdnOutDxIdeal.τ).loc Cert.GdnOutDxIdeal.main_arg0) = m ((c.tc : Thread Cert.GdnOutDxIdeal.nD Cert.GdnOutDxIdeal.τ).loc Cert.GdnOutDxIdeal.main_arg0)
      ∧ r.2.mem ((c.tc : Thread Cert.GdnOutDxIdeal.nD Cert.GdnOutDxIdeal.τ).loc Cert.GdnOutDxIdeal.main_arg1) = m ((c.tc : Thread Cert.GdnOutDxIdeal.nD Cert.GdnOutDxIdeal.τ).loc Cert.GdnOutDxIdeal.main_arg1))
      ∧ r.2.sem = fun _ => 0)

def quiescent_GdnOutDxRefIdeal [hGdnOutDxRefIdeal : Cert.GdnOutDxRefIdeal.Facts] : Prop :=
  ∀ (m : (ℓ : Loc Cert.GdnOutDxRefIdeal.nD Cert.GdnOutDxRefIdeal.τ Cert.GdnOutDxRefIdeal.sig) → Buf (Elt Ideal) ℓ) (g : Dev Cert.GdnOutDxRefIdeal.nD → PrngReg), Pre_GdnOutDxRefIdeal m →
    θ_run (Cert.GdnOutDxRefIdeal.defs (F := Ideal)) (onTc (τ := Cert.GdnOutDxRefIdeal.τ) (Cert.GdnOutDxRefIdeal.main (F := Ideal))) ⟨m, fun _ => 0, g⟩ (fun r => (∀ c : Dev Cert.GdnOutDxRefIdeal.nD,
      r.2.mem ((c.tc : Thread Cert.GdnOutDxRefIdeal.nD Cert.GdnOutDxRefIdeal.τ).loc Cert.GdnOutDxRefIdeal.main_arg0) = m ((c.tc : Thread Cert.GdnOutDxRefIdeal.nD Cert.GdnOutDxRefIdeal.τ).loc Cert.GdnOutDxRefIdeal.main_arg0)
      ∧ r.2.mem ((c.tc : Thread Cert.GdnOutDxRefIdeal.nD Cert.GdnOutDxRefIdeal.τ).loc Cert.GdnOutDxRefIdeal.main_arg1) = m ((c.tc : Thread Cert.GdnOutDxRefIdeal.nD Cert.GdnOutDxRefIdeal.τ).loc Cert.GdnOutDxRefIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2))
      ∧ r.2.sem = fun _ => 0)

def quiescent_OProjDx [hOProjDx : Cert.OProjDx.Facts] : Prop :=
  ∀ (m : (ℓ : Loc Cert.OProjDx.nD Cert.OProjDx.τ Cert.OProjDx.sig) → Buf (Elt Bits) ℓ) (g : Dev Cert.OProjDx.nD → PrngReg), Pre_OProjDx m →
    θ_run (Cert.OProjDx.defs (F := Bits)) (onTc (τ := Cert.OProjDx.τ) (Cert.OProjDx.main (F := Bits))) ⟨m, fun _ => 0, g⟩ (fun r => (∀ c : Dev Cert.OProjDx.nD,
      r.2.mem ((c.tc : Thread Cert.OProjDx.nD Cert.OProjDx.τ).loc Cert.OProjDx.main_arg0) = m ((c.tc : Thread Cert.OProjDx.nD Cert.OProjDx.τ).loc Cert.OProjDx.main_arg0)
      ∧ r.2.mem ((c.tc : Thread Cert.OProjDx.nD Cert.OProjDx.τ).loc Cert.OProjDx.main_arg1) = m ((c.tc : Thread Cert.OProjDx.nD Cert.OProjDx.τ).loc Cert.OProjDx.main_arg1))
      ∧ r.2.sem = fun _ => 0)

def quiescent_OProjDxIdeal [hOProjDxIdeal : Cert.OProjDxIdeal.Facts] : Prop :=
  ∀ (m : (ℓ : Loc Cert.OProjDxIdeal.nD Cert.OProjDxIdeal.τ Cert.OProjDxIdeal.sig) → Buf (Elt Ideal) ℓ) (g : Dev Cert.OProjDxIdeal.nD → PrngReg), Pre_OProjDxIdeal m →
    θ_run (Cert.OProjDxIdeal.defs (F := Ideal)) (onTc (τ := Cert.OProjDxIdeal.τ) (Cert.OProjDxIdeal.main (F := Ideal))) ⟨m, fun _ => 0, g⟩ (fun r => (∀ c : Dev Cert.OProjDxIdeal.nD,
      r.2.mem ((c.tc : Thread Cert.OProjDxIdeal.nD Cert.OProjDxIdeal.τ).loc Cert.OProjDxIdeal.main_arg0) = m ((c.tc : Thread Cert.OProjDxIdeal.nD Cert.OProjDxIdeal.τ).loc Cert.OProjDxIdeal.main_arg0)
      ∧ r.2.mem ((c.tc : Thread Cert.OProjDxIdeal.nD Cert.OProjDxIdeal.τ).loc Cert.OProjDxIdeal.main_arg1) = m ((c.tc : Thread Cert.OProjDxIdeal.nD Cert.OProjDxIdeal.τ).loc Cert.OProjDxIdeal.main_arg1))
      ∧ r.2.sem = fun _ => 0)

def quiescent_OProjDxRefIdeal [hOProjDxRefIdeal : Cert.OProjDxRefIdeal.Facts] : Prop :=
  ∀ (m : (ℓ : Loc Cert.OProjDxRefIdeal.nD Cert.OProjDxRefIdeal.τ Cert.OProjDxRefIdeal.sig) → Buf (Elt Ideal) ℓ) (g : Dev Cert.OProjDxRefIdeal.nD → PrngReg), Pre_OProjDxRefIdeal m →
    θ_run (Cert.OProjDxRefIdeal.defs (F := Ideal)) (onTc (τ := Cert.OProjDxRefIdeal.τ) (Cert.OProjDxRefIdeal.main (F := Ideal))) ⟨m, fun _ => 0, g⟩ (fun r => (∀ c : Dev Cert.OProjDxRefIdeal.nD,
      r.2.mem ((c.tc : Thread Cert.OProjDxRefIdeal.nD Cert.OProjDxRefIdeal.τ).loc Cert.OProjDxRefIdeal.main_arg0) = m ((c.tc : Thread Cert.OProjDxRefIdeal.nD Cert.OProjDxRefIdeal.τ).loc Cert.OProjDxRefIdeal.main_arg0)
      ∧ r.2.mem ((c.tc : Thread Cert.OProjDxRefIdeal.nD Cert.OProjDxRefIdeal.τ).loc Cert.OProjDxRefIdeal.main_arg1) = m ((c.tc : Thread Cert.OProjDxRefIdeal.nD Cert.OProjDxRefIdeal.τ).loc Cert.OProjDxRefIdeal.main_arg1))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1)
      ∧ r.2.mem ((c.tc : Thread Cert.QDw.nD Cert.QDw.τ).loc Cert.QDw.main_arg2) = m ((c.tc : Thread Cert.QDw.nD Cert.QDw.τ).loc Cert.QDw.main_arg2))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1)
      ∧ r.2.mem ((c.tc : Thread Cert.QDwIdeal.nD Cert.QDwIdeal.τ).loc Cert.QDwIdeal.main_arg2) = m ((c.tc : Thread Cert.QDwIdeal.nD Cert.QDwIdeal.τ).loc Cert.QDwIdeal.main_arg2))
      ∧ r.2.sem = fun _ => 0)

def quiescent_QDwRefIdeal [hQDwRefIdeal : Cert.QDwRefIdeal.Facts] : Prop :=
  ∀ (m : (ℓ : Loc Cert.QDwRefIdeal.nD Cert.QDwRefIdeal.τ Cert.QDwRefIdeal.sig) → Buf (Elt Ideal) ℓ) (g : Dev Cert.QDwRefIdeal.nD → PrngReg), Pre_QDwRefIdeal m →
    θ_run (Cert.QDwRefIdeal.defs (F := Ideal)) (onTc (τ := Cert.QDwRefIdeal.τ) (Cert.QDwRefIdeal.main (F := Ideal))) ⟨m, fun _ => 0, g⟩ (fun r => (∀ c : Dev Cert.QDwRefIdeal.nD,
      r.2.mem ((c.tc : Thread Cert.QDwRefIdeal.nD Cert.QDwRefIdeal.τ).loc Cert.QDwRefIdeal.main_arg0) = m ((c.tc : Thread Cert.QDwRefIdeal.nD Cert.QDwRefIdeal.τ).loc Cert.QDwRefIdeal.main_arg0)
      ∧ r.2.mem ((c.tc : Thread Cert.QDwRefIdeal.nD Cert.QDwRefIdeal.τ).loc Cert.QDwRefIdeal.main_arg1) = m ((c.tc : Thread Cert.QDwRefIdeal.nD Cert.QDwRefIdeal.τ).loc Cert.QDwRefIdeal.main_arg1)
      ∧ r.2.mem ((c.tc : Thread Cert.QDwRefIdeal.nD Cert.QDwRefIdeal.τ).loc Cert.QDwRefIdeal.main_arg2) = m ((c.tc : Thread Cert.QDwRefIdeal.nD Cert.QDwRefIdeal.τ).loc Cert.QDwRefIdeal.main_arg2))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1)
      ∧ r.2.mem ((c.tc : Thread Cert.KvDw.nD Cert.KvDw.τ).loc Cert.KvDw.main_arg2) = m ((c.tc : Thread Cert.KvDw.nD Cert.KvDw.τ).loc Cert.KvDw.main_arg2))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
      ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1)
      ∧ r.2.mem ((c.tc : Thread Cert.KvDwRefIdeal.nD Cert.KvDwRefIdeal.τ).loc Cert.KvDwRefIdeal.main_arg2) = m ((c.tc : Thread Cert.KvDwRefIdeal.nD Cert.KvDwRefIdeal.τ).loc Cert.KvDwRefIdeal.main_arg2))
      ∧ r.2.sem = fun _ => 0)

def quiescent_ODw [hODw : Cert.ODw.Facts] : Prop :=
  ∀ (m : (ℓ : Loc Cert.ODw.nD Cert.ODw.τ Cert.ODw.sig) → Buf (Elt Bits) ℓ) (g : Dev Cert.ODw.nD → PrngReg), Pre_ODw m →
    θ_run (Cert.ODw.defs (F := Bits)) (onTc (τ := Cert.ODw.τ) (Cert.ODw.main (F := Bits))) ⟨m, fun _ => 0, g⟩ (fun r => (∀ c : Dev Cert.ODw.nD,
      r.2.mem ((c.tc : Thread Cert.ODw.nD Cert.ODw.τ).loc Cert.ODw.main_arg0) = m ((c.tc : Thread Cert.ODw.nD Cert.ODw.τ).loc Cert.ODw.main_arg0)
      ∧ r.2.mem ((c.tc : Thread Cert.ODw.nD Cert.ODw.τ).loc Cert.ODw.main_arg1) = m ((c.tc : Thread Cert.ODw.nD Cert.ODw.τ).loc Cert.ODw.main_arg1))
      ∧ r.2.sem = fun _ => 0)

def quiescent_ODwIdeal [hODwIdeal : Cert.ODwIdeal.Facts] : Prop :=
  ∀ (m : (ℓ : Loc Cert.ODwIdeal.nD Cert.ODwIdeal.τ Cert.ODwIdeal.sig) → Buf (Elt Ideal) ℓ) (g : Dev Cert.ODwIdeal.nD → PrngReg), Pre_ODwIdeal m →
    θ_run (Cert.ODwIdeal.defs (F := Ideal)) (onTc (τ := Cert.ODwIdeal.τ) (Cert.ODwIdeal.main (F := Ideal))) ⟨m, fun _ => 0, g⟩ (fun r => (∀ c : Dev Cert.ODwIdeal.nD,
      r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
      ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ r.2.sem = fun _ => 0)

def quiescent_ODwRefIdeal [hODwRefIdeal : Cert.ODwRefIdeal.Facts] : Prop :=
  ∀ (m : (ℓ : Loc Cert.ODwRefIdeal.nD Cert.ODwRefIdeal.τ Cert.ODwRefIdeal.sig) → Buf (Elt Ideal) ℓ) (g : Dev Cert.ODwRefIdeal.nD → PrngReg), Pre_ODwRefIdeal m →
    θ_run (Cert.ODwRefIdeal.defs (F := Ideal)) (onTc (τ := Cert.ODwRefIdeal.τ) (Cert.ODwRefIdeal.main (F := Ideal))) ⟨m, fun _ => 0, g⟩ (fun r => (∀ c : Dev Cert.ODwRefIdeal.nD,
      r.2.mem ((c.tc : Thread Cert.ODwRefIdeal.nD Cert.ODwRefIdeal.τ).loc Cert.ODwRefIdeal.main_arg0) = m ((c.tc : Thread Cert.ODwRefIdeal.nD Cert.ODwRefIdeal.τ).loc Cert.ODwRefIdeal.main_arg0)
      ∧ r.2.mem ((c.tc : Thread Cert.ODwRefIdeal.nD Cert.ODwRefIdeal.τ).loc Cert.ODwRefIdeal.main_arg1) = m ((c.tc : Thread Cert.ODwRefIdeal.nD Cert.ODwRefIdeal.τ).loc Cert.ODwRefIdeal.main_arg1))
      ∧ r.2.sem = fun _ => 0)

def quiescent_GdnOutDw [hGdnOutDw : Cert.GdnOutDw.Facts] : Prop :=
  ∀ (m : (ℓ : Loc Cert.GdnOutDw.nD Cert.GdnOutDw.τ Cert.GdnOutDw.sig) → Buf (Elt Bits) ℓ) (g : Dev Cert.GdnOutDw.nD → PrngReg), Pre_GdnOutDw m →
    θ_run (Cert.GdnOutDw.defs (F := Bits)) (onTc (τ := Cert.GdnOutDw.τ) (Cert.GdnOutDw.main (F := Bits))) ⟨m, fun _ => 0, g⟩ (fun r => (∀ c : Dev Cert.GdnOutDw.nD,
      r.2.mem ((c.tc : Thread Cert.GdnOutDw.nD Cert.GdnOutDw.τ).loc Cert.GdnOutDw.main_arg0) = m ((c.tc : Thread Cert.GdnOutDw.nD Cert.GdnOutDw.τ).loc Cert.GdnOutDw.main_arg0)
      ∧ r.2.mem ((c.tc : Thread Cert.GdnOutDw.nD Cert.GdnOutDw.τ).loc Cert.GdnOutDw.main_arg1) = m ((c.tc : Thread Cert.GdnOutDw.nD Cert.GdnOutDw.τ).loc Cert.GdnOutDw.main_arg1))
      ∧ r.2.sem = fun _ => 0)

def quiescent_GdnOutDwIdeal [hGdnOutDwIdeal : Cert.GdnOutDwIdeal.Facts] : Prop :=
  ∀ (m : (ℓ : Loc Cert.GdnOutDwIdeal.nD Cert.GdnOutDwIdeal.τ Cert.GdnOutDwIdeal.sig) → Buf (Elt Ideal) ℓ) (g : Dev Cert.GdnOutDwIdeal.nD → PrngReg), Pre_GdnOutDwIdeal m →
    θ_run (Cert.GdnOutDwIdeal.defs (F := Ideal)) (onTc (τ := Cert.GdnOutDwIdeal.τ) (Cert.GdnOutDwIdeal.main (F := Ideal))) ⟨m, fun _ => 0, g⟩ (fun r => (∀ c : Dev Cert.GdnOutDwIdeal.nD,
      r.2.mem ((c.tc : Thread Cert.GdnOutDwIdeal.nD Cert.GdnOutDwIdeal.τ).loc Cert.GdnOutDwIdeal.main_arg0) = m ((c.tc : Thread Cert.GdnOutDwIdeal.nD Cert.GdnOutDwIdeal.τ).loc Cert.GdnOutDwIdeal.main_arg0)
      ∧ r.2.mem ((c.tc : Thread Cert.GdnOutDwIdeal.nD Cert.GdnOutDwIdeal.τ).loc Cert.GdnOutDwIdeal.main_arg1) = m ((c.tc : Thread Cert.GdnOutDwIdeal.nD Cert.GdnOutDwIdeal.τ).loc Cert.GdnOutDwIdeal.main_arg1))
      ∧ r.2.sem = fun _ => 0)

def quiescent_GdnOutDwRefIdeal [hGdnOutDwRefIdeal : Cert.GdnOutDwRefIdeal.Facts] : Prop :=
  ∀ (m : (ℓ : Loc Cert.GdnOutDwRefIdeal.nD Cert.GdnOutDwRefIdeal.τ Cert.GdnOutDwRefIdeal.sig) → Buf (Elt Ideal) ℓ) (g : Dev Cert.GdnOutDwRefIdeal.nD → PrngReg), Pre_GdnOutDwRefIdeal m →
    θ_run (Cert.GdnOutDwRefIdeal.defs (F := Ideal)) (onTc (τ := Cert.GdnOutDwRefIdeal.τ) (Cert.GdnOutDwRefIdeal.main (F := Ideal))) ⟨m, fun _ => 0, g⟩ (fun r => (∀ c : Dev Cert.GdnOutDwRefIdeal.nD,
      r.2.mem ((c.tc : Thread Cert.GdnOutDwRefIdeal.nD Cert.GdnOutDwRefIdeal.τ).loc Cert.GdnOutDwRefIdeal.main_arg0) = m ((c.tc : Thread Cert.GdnOutDwRefIdeal.nD Cert.GdnOutDwRefIdeal.τ).loc Cert.GdnOutDwRefIdeal.main_arg0)
      ∧ r.2.mem ((c.tc : Thread Cert.GdnOutDwRefIdeal.nD Cert.GdnOutDwRefIdeal.τ).loc Cert.GdnOutDwRefIdeal.main_arg1) = m ((c.tc : Thread Cert.GdnOutDwRefIdeal.nD Cert.GdnOutDwRefIdeal.τ).loc Cert.GdnOutDwRefIdeal.main_arg1))
      ∧ r.2.sem = fun _ => 0)

def quiescent_GdnInDw [hGdnInDw : Cert.GdnInDw.Facts] : Prop :=
  ∀ (m : (ℓ : Loc Cert.GdnInDw.nD Cert.GdnInDw.τ Cert.GdnInDw.sig) → Buf (Elt Bits) ℓ) (g : Dev Cert.GdnInDw.nD → PrngReg), Pre_GdnInDw m →
    θ_run (Cert.GdnInDw.defs (F := Bits)) (onTc (τ := Cert.GdnInDw.τ) (Cert.GdnInDw.main (F := Bits))) ⟨m, fun _ => 0, g⟩ (fun r => (∀ c : Dev Cert.GdnInDw.nD,
      r.2.mem ((c.tc : Thread Cert.GdnInDw.nD Cert.GdnInDw.τ).loc Cert.GdnInDw.main_arg0) = m ((c.tc : Thread Cert.GdnInDw.nD Cert.GdnInDw.τ).loc Cert.GdnInDw.main_arg0)
      ∧ r.2.mem ((c.tc : Thread Cert.GdnInDw.nD Cert.GdnInDw.τ).loc Cert.GdnInDw.main_arg1) = m ((c.tc : Thread Cert.GdnInDw.nD Cert.GdnInDw.τ).loc Cert.GdnInDw.main_arg1)
      ∧ r.2.mem ((c.tc : Thread Cert.GdnInDw.nD Cert.GdnInDw.τ).loc Cert.GdnInDw.main_arg2) = m ((c.tc : Thread Cert.GdnInDw.nD Cert.GdnInDw.τ).loc Cert.GdnInDw.main_arg2))
      ∧ r.2.sem = fun _ => 0)

def quiescent_GdnInDwIdeal [hGdnInDwIdeal : Cert.GdnInDwIdeal.Facts] : Prop :=
  ∀ (m : (ℓ : Loc Cert.GdnInDwIdeal.nD Cert.GdnInDwIdeal.τ Cert.GdnInDwIdeal.sig) → Buf (Elt Ideal) ℓ) (g : Dev Cert.GdnInDwIdeal.nD → PrngReg), Pre_GdnInDwIdeal m →
    θ_run (Cert.GdnInDwIdeal.defs (F := Ideal)) (onTc (τ := Cert.GdnInDwIdeal.τ) (Cert.GdnInDwIdeal.main (F := Ideal))) ⟨m, fun _ => 0, g⟩ (fun r => (∀ c : Dev Cert.GdnInDwIdeal.nD,
      r.2.mem ((c.tc : Thread Cert.GdnInDwIdeal.nD Cert.GdnInDwIdeal.τ).loc Cert.GdnInDwIdeal.main_arg0) = m ((c.tc : Thread Cert.GdnInDwIdeal.nD Cert.GdnInDwIdeal.τ).loc Cert.GdnInDwIdeal.main_arg0)
      ∧ r.2.mem ((c.tc : Thread Cert.GdnInDwIdeal.nD Cert.GdnInDwIdeal.τ).loc Cert.GdnInDwIdeal.main_arg1) = m ((c.tc : Thread Cert.GdnInDwIdeal.nD Cert.GdnInDwIdeal.τ).loc Cert.GdnInDwIdeal.main_arg1)
      ∧ r.2.mem ((c.tc : Thread Cert.GdnInDwIdeal.nD Cert.GdnInDwIdeal.τ).loc Cert.GdnInDwIdeal.main_arg2) = m ((c.tc : Thread Cert.GdnInDwIdeal.nD Cert.GdnInDwIdeal.τ).loc Cert.GdnInDwIdeal.main_arg2))
      ∧ r.2.sem = fun _ => 0)

def quiescent_GdnInDwRefIdeal [hGdnInDwRefIdeal : Cert.GdnInDwRefIdeal.Facts] : Prop :=
  ∀ (m : (ℓ : Loc Cert.GdnInDwRefIdeal.nD Cert.GdnInDwRefIdeal.τ Cert.GdnInDwRefIdeal.sig) → Buf (Elt Ideal) ℓ) (g : Dev Cert.GdnInDwRefIdeal.nD → PrngReg), Pre_GdnInDwRefIdeal m →
    θ_run (Cert.GdnInDwRefIdeal.defs (F := Ideal)) (onTc (τ := Cert.GdnInDwRefIdeal.τ) (Cert.GdnInDwRefIdeal.main (F := Ideal))) ⟨m, fun _ => 0, g⟩ (fun r => (∀ c : Dev Cert.GdnInDwRefIdeal.nD,
      r.2.mem ((c.tc : Thread Cert.GdnInDwRefIdeal.nD Cert.GdnInDwRefIdeal.τ).loc Cert.GdnInDwRefIdeal.main_arg0) = m ((c.tc : Thread Cert.GdnInDwRefIdeal.nD Cert.GdnInDwRefIdeal.τ).loc Cert.GdnInDwRefIdeal.main_arg0)
      ∧ r.2.mem ((c.tc : Thread Cert.GdnInDwRefIdeal.nD Cert.GdnInDwRefIdeal.τ).loc Cert.GdnInDwRefIdeal.main_arg1) = m ((c.tc : Thread Cert.GdnInDwRefIdeal.nD Cert.GdnInDwRefIdeal.τ).loc Cert.GdnInDwRefIdeal.main_arg1)
      ∧ r.2.mem ((c.tc : Thread Cert.GdnInDwRefIdeal.nD Cert.GdnInDwRefIdeal.τ).loc Cert.GdnInDwRefIdeal.main_arg2) = m ((c.tc : Thread Cert.GdnInDwRefIdeal.nD Cert.GdnInDwRefIdeal.τ).loc Cert.GdnInDwRefIdeal.main_arg2))
      ∧ r.2.sem = fun _ => 0)

def quiescent_Up1Dw [hUp1Dw : Cert.Up1Dw.Facts] : Prop :=
  ∀ (m : (ℓ : Loc Cert.Up1Dw.nD Cert.Up1Dw.τ Cert.Up1Dw.sig) → Buf (Elt Bits) ℓ) (g : Dev Cert.Up1Dw.nD → PrngReg), Pre_Up1Dw m →
    θ_run (Cert.Up1Dw.defs (F := Bits)) (onTc (τ := Cert.Up1Dw.τ) (Cert.Up1Dw.main (F := Bits))) ⟨m, fun _ => 0, g⟩ (fun r => (∀ c : Dev Cert.Up1Dw.nD,
      r.2.mem ((c.tc : Thread Cert.Up1Dw.nD Cert.Up1Dw.τ).loc Cert.Up1Dw.main_arg0) = m ((c.tc : Thread Cert.Up1Dw.nD Cert.Up1Dw.τ).loc Cert.Up1Dw.main_arg0)
      ∧ r.2.mem ((c.tc : Thread Cert.Up1Dw.nD Cert.Up1Dw.τ).loc Cert.Up1Dw.main_arg1) = m ((c.tc : Thread Cert.Up1Dw.nD Cert.Up1Dw.τ).loc Cert.Up1Dw.main_arg1)
      ∧ r.2.mem ((c.tc : Thread Cert.Up1Dw.nD Cert.Up1Dw.τ).loc Cert.Up1Dw.main_arg2) = m ((c.tc : Thread Cert.Up1Dw.nD Cert.Up1Dw.τ).loc Cert.Up1Dw.main_arg2))
      ∧ r.2.sem = fun _ => 0)

def quiescent_Up1DwIdeal [hUp1DwIdeal : Cert.Up1DwIdeal.Facts] : Prop :=
  ∀ (m : (ℓ : Loc Cert.Up1DwIdeal.nD Cert.Up1DwIdeal.τ Cert.Up1DwIdeal.sig) → Buf (Elt Ideal) ℓ) (g : Dev Cert.Up1DwIdeal.nD → PrngReg), Pre_Up1DwIdeal m →
    θ_run (Cert.Up1DwIdeal.defs (F := Ideal)) (onTc (τ := Cert.Up1DwIdeal.τ) (Cert.Up1DwIdeal.main (F := Ideal))) ⟨m, fun _ => 0, g⟩ (fun r => (∀ c : Dev Cert.Up1DwIdeal.nD,
      r.2.mem ((c.tc : Thread Cert.Up1DwIdeal.nD Cert.Up1DwIdeal.τ).loc Cert.Up1DwIdeal.main_arg0) = m ((c.tc : Thread Cert.Up1DwIdeal.nD Cert.Up1DwIdeal.τ).loc Cert.Up1DwIdeal.main_arg0)
      ∧ r.2.mem ((c.tc : Thread Cert.Up1DwIdeal.nD Cert.Up1DwIdeal.τ).loc Cert.Up1DwIdeal.main_arg1) = m ((c.tc : Thread Cert.Up1DwIdeal.nD Cert.Up1DwIdeal.τ).loc Cert.Up1DwIdeal.main_arg1)
      ∧ r.2.mem ((c.tc : Thread Cert.Up1DwIdeal.nD Cert.Up1DwIdeal.τ).loc Cert.Up1DwIdeal.main_arg2) = m ((c.tc : Thread Cert.Up1DwIdeal.nD Cert.Up1DwIdeal.τ).loc Cert.Up1DwIdeal.main_arg2))
      ∧ r.2.sem = fun _ => 0)

def quiescent_Up1DwRefIdeal [hUp1DwRefIdeal : Cert.Up1DwRefIdeal.Facts] : Prop :=
  ∀ (m : (ℓ : Loc Cert.Up1DwRefIdeal.nD Cert.Up1DwRefIdeal.τ Cert.Up1DwRefIdeal.sig) → Buf (Elt Ideal) ℓ) (g : Dev Cert.Up1DwRefIdeal.nD → PrngReg), Pre_Up1DwRefIdeal m →
    θ_run (Cert.Up1DwRefIdeal.defs (F := Ideal)) (onTc (τ := Cert.Up1DwRefIdeal.τ) (Cert.Up1DwRefIdeal.main (F := Ideal))) ⟨m, fun _ => 0, g⟩ (fun r => (∀ c : Dev Cert.Up1DwRefIdeal.nD,
      r.2.mem ((c.tc : Thread Cert.Up1DwRefIdeal.nD Cert.Up1DwRefIdeal.τ).loc Cert.Up1DwRefIdeal.main_arg0) = m ((c.tc : Thread Cert.Up1DwRefIdeal.nD Cert.Up1DwRefIdeal.τ).loc Cert.Up1DwRefIdeal.main_arg0)
      ∧ r.2.mem ((c.tc : Thread Cert.Up1DwRefIdeal.nD Cert.Up1DwRefIdeal.τ).loc Cert.Up1DwRefIdeal.main_arg1) = m ((c.tc : Thread Cert.Up1DwRefIdeal.nD Cert.Up1DwRefIdeal.τ).loc Cert.Up1DwRefIdeal.main_arg1)
      ∧ r.2.mem ((c.tc : Thread Cert.Up1DwRefIdeal.nD Cert.Up1DwRefIdeal.τ).loc Cert.Up1DwRefIdeal.main_arg2) = m ((c.tc : Thread Cert.Up1DwRefIdeal.nD Cert.Up1DwRefIdeal.τ).loc Cert.Up1DwRefIdeal.main_arg2))
      ∧ r.2.sem = fun _ => 0)

def quiescent_Up0Dw [hUp0Dw : Cert.Up0Dw.Facts] : Prop :=
  ∀ (m : (ℓ : Loc Cert.Up0Dw.nD Cert.Up0Dw.τ Cert.Up0Dw.sig) → Buf (Elt Bits) ℓ) (g : Dev Cert.Up0Dw.nD → PrngReg), Pre_Up0Dw m →
    θ_run (Cert.Up0Dw.defs (F := Bits)) (onTc (τ := Cert.Up0Dw.τ) (Cert.Up0Dw.main (F := Bits))) ⟨m, fun _ => 0, g⟩ (fun r => (∀ c : Dev Cert.Up0Dw.nD,
      r.2.mem ((c.tc : Thread Cert.Up0Dw.nD Cert.Up0Dw.τ).loc Cert.Up0Dw.main_arg0) = m ((c.tc : Thread Cert.Up0Dw.nD Cert.Up0Dw.τ).loc Cert.Up0Dw.main_arg0)
      ∧ r.2.mem ((c.tc : Thread Cert.Up0Dw.nD Cert.Up0Dw.τ).loc Cert.Up0Dw.main_arg1) = m ((c.tc : Thread Cert.Up0Dw.nD Cert.Up0Dw.τ).loc Cert.Up0Dw.main_arg1)
      ∧ r.2.mem ((c.tc : Thread Cert.Up0Dw.nD Cert.Up0Dw.τ).loc Cert.Up0Dw.main_arg2) = m ((c.tc : Thread Cert.Up0Dw.nD Cert.Up0Dw.τ).loc Cert.Up0Dw.main_arg2)
      ∧ r.2.mem ((c.tc : Thread Cert.Up0Dw.nD Cert.Up0Dw.τ).loc Cert.Up0Dw.main_arg3) = m ((c.tc : Thread Cert.Up0Dw.nD Cert.Up0Dw.τ).loc Cert.Up0Dw.main_arg3))
      ∧ r.2.sem = fun _ => 0)

def quiescent_Up0DwIdeal [hUp0DwIdeal : Cert.Up0DwIdeal.Facts] : Prop :=
  ∀ (m : (ℓ : Loc Cert.Up0DwIdeal.nD Cert.Up0DwIdeal.τ Cert.Up0DwIdeal.sig) → Buf (Elt Ideal) ℓ) (g : Dev Cert.Up0DwIdeal.nD → PrngReg), Pre_Up0DwIdeal m →
    θ_run (Cert.Up0DwIdeal.defs (F := Ideal)) (onTc (τ := Cert.Up0DwIdeal.τ) (Cert.Up0DwIdeal.main (F := Ideal))) ⟨m, fun _ => 0, g⟩ (fun r => (∀ c : Dev Cert.Up0DwIdeal.nD,
      r.2.mem ((c.tc : Thread Cert.Up0DwIdeal.nD Cert.Up0DwIdeal.τ).loc Cert.Up0DwIdeal.main_arg0) = m ((c.tc : Thread Cert.Up0DwIdeal.nD Cert.Up0DwIdeal.τ).loc Cert.Up0DwIdeal.main_arg0)
      ∧ r.2.mem ((c.tc : Thread Cert.Up0DwIdeal.nD Cert.Up0DwIdeal.τ).loc Cert.Up0DwIdeal.main_arg1) = m ((c.tc : Thread Cert.Up0DwIdeal.nD Cert.Up0DwIdeal.τ).loc Cert.Up0DwIdeal.main_arg1)
      ∧ r.2.mem ((c.tc : Thread Cert.Up0DwIdeal.nD Cert.Up0DwIdeal.τ).loc Cert.Up0DwIdeal.main_arg2) = m ((c.tc : Thread Cert.Up0DwIdeal.nD Cert.Up0DwIdeal.τ).loc Cert.Up0DwIdeal.main_arg2)
      ∧ r.2.mem ((c.tc : Thread Cert.Up0DwIdeal.nD Cert.Up0DwIdeal.τ).loc Cert.Up0DwIdeal.main_arg3) = m ((c.tc : Thread Cert.Up0DwIdeal.nD Cert.Up0DwIdeal.τ).loc Cert.Up0DwIdeal.main_arg3))
      ∧ r.2.sem = fun _ => 0)

def quiescent_Up0DwRefIdeal [hUp0DwRefIdeal : Cert.Up0DwRefIdeal.Facts] : Prop :=
  ∀ (m : (ℓ : Loc Cert.Up0DwRefIdeal.nD Cert.Up0DwRefIdeal.τ Cert.Up0DwRefIdeal.sig) → Buf (Elt Ideal) ℓ) (g : Dev Cert.Up0DwRefIdeal.nD → PrngReg), Pre_Up0DwRefIdeal m →
    θ_run (Cert.Up0DwRefIdeal.defs (F := Ideal)) (onTc (τ := Cert.Up0DwRefIdeal.τ) (Cert.Up0DwRefIdeal.main (F := Ideal))) ⟨m, fun _ => 0, g⟩ (fun r => (∀ c : Dev Cert.Up0DwRefIdeal.nD,
      r.2.mem ((c.tc : Thread Cert.Up0DwRefIdeal.nD Cert.Up0DwRefIdeal.τ).loc Cert.Up0DwRefIdeal.main_arg0) = m ((c.tc : Thread Cert.Up0DwRefIdeal.nD Cert.Up0DwRefIdeal.τ).loc Cert.Up0DwRefIdeal.main_arg0)
      ∧ r.2.mem ((c.tc : Thread Cert.Up0DwRefIdeal.nD Cert.Up0DwRefIdeal.τ).loc Cert.Up0DwRefIdeal.main_arg1) = m ((c.tc : Thread Cert.Up0DwRefIdeal.nD Cert.Up0DwRefIdeal.τ).loc Cert.Up0DwRefIdeal.main_arg1)
      ∧ r.2.mem ((c.tc : Thread Cert.Up0DwRefIdeal.nD Cert.Up0DwRefIdeal.τ).loc Cert.Up0DwRefIdeal.main_arg2) = m ((c.tc : Thread Cert.Up0DwRefIdeal.nD Cert.Up0DwRefIdeal.τ).loc Cert.Up0DwRefIdeal.main_arg2)
      ∧ r.2.mem ((c.tc : Thread Cert.Up0DwRefIdeal.nD Cert.Up0DwRefIdeal.τ).loc Cert.Up0DwRefIdeal.main_arg3) = m ((c.tc : Thread Cert.Up0DwRefIdeal.nD Cert.Up0DwRefIdeal.τ).loc Cert.Up0DwRefIdeal.main_arg3))
      ∧ r.2.sem = fun _ => 0)

def quiescent_Down1Dw [hDown1Dw : Cert.Down1Dw.Facts] : Prop :=
  ∀ (m : (ℓ : Loc Cert.Down1Dw.nD Cert.Down1Dw.τ Cert.Down1Dw.sig) → Buf (Elt Bits) ℓ) (g : Dev Cert.Down1Dw.nD → PrngReg), Pre_Down1Dw m →
    θ_run (Cert.Down1Dw.defs (F := Bits)) (onTc (τ := Cert.Down1Dw.τ) (Cert.Down1Dw.main (F := Bits))) ⟨m, fun _ => 0, g⟩ (fun r => (∀ c : Dev Cert.Down1Dw.nD,
      r.2.mem ((c.tc : Thread Cert.Down1Dw.nD Cert.Down1Dw.τ).loc Cert.Down1Dw.main_arg0) = m ((c.tc : Thread Cert.Down1Dw.nD Cert.Down1Dw.τ).loc Cert.Down1Dw.main_arg0)
      ∧ r.2.mem ((c.tc : Thread Cert.Down1Dw.nD Cert.Down1Dw.τ).loc Cert.Down1Dw.main_arg1) = m ((c.tc : Thread Cert.Down1Dw.nD Cert.Down1Dw.τ).loc Cert.Down1Dw.main_arg1))
      ∧ r.2.sem = fun _ => 0)

def quiescent_Down1DwIdeal [hDown1DwIdeal : Cert.Down1DwIdeal.Facts] : Prop :=
  ∀ (m : (ℓ : Loc Cert.Down1DwIdeal.nD Cert.Down1DwIdeal.τ Cert.Down1DwIdeal.sig) → Buf (Elt Ideal) ℓ) (g : Dev Cert.Down1DwIdeal.nD → PrngReg), Pre_Down1DwIdeal m →
    θ_run (Cert.Down1DwIdeal.defs (F := Ideal)) (onTc (τ := Cert.Down1DwIdeal.τ) (Cert.Down1DwIdeal.main (F := Ideal))) ⟨m, fun _ => 0, g⟩ (fun r => (∀ c : Dev Cert.Down1DwIdeal.nD,
      r.2.mem ((c.tc : Thread Cert.Down1DwIdeal.nD Cert.Down1DwIdeal.τ).loc Cert.Down1DwIdeal.main_arg0) = m ((c.tc : Thread Cert.Down1DwIdeal.nD Cert.Down1DwIdeal.τ).loc Cert.Down1DwIdeal.main_arg0)
      ∧ r.2.mem ((c.tc : Thread Cert.Down1DwIdeal.nD Cert.Down1DwIdeal.τ).loc Cert.Down1DwIdeal.main_arg1) = m ((c.tc : Thread Cert.Down1DwIdeal.nD Cert.Down1DwIdeal.τ).loc Cert.Down1DwIdeal.main_arg1))
      ∧ r.2.sem = fun _ => 0)

def quiescent_Down1DwRefIdeal [hDown1DwRefIdeal : Cert.Down1DwRefIdeal.Facts] : Prop :=
  ∀ (m : (ℓ : Loc Cert.Down1DwRefIdeal.nD Cert.Down1DwRefIdeal.τ Cert.Down1DwRefIdeal.sig) → Buf (Elt Ideal) ℓ) (g : Dev Cert.Down1DwRefIdeal.nD → PrngReg), Pre_Down1DwRefIdeal m →
    θ_run (Cert.Down1DwRefIdeal.defs (F := Ideal)) (onTc (τ := Cert.Down1DwRefIdeal.τ) (Cert.Down1DwRefIdeal.main (F := Ideal))) ⟨m, fun _ => 0, g⟩ (fun r => (∀ c : Dev Cert.Down1DwRefIdeal.nD,
      r.2.mem ((c.tc : Thread Cert.Down1DwRefIdeal.nD Cert.Down1DwRefIdeal.τ).loc Cert.Down1DwRefIdeal.main_arg0) = m ((c.tc : Thread Cert.Down1DwRefIdeal.nD Cert.Down1DwRefIdeal.τ).loc Cert.Down1DwRefIdeal.main_arg0)
      ∧ r.2.mem ((c.tc : Thread Cert.Down1DwRefIdeal.nD Cert.Down1DwRefIdeal.τ).loc Cert.Down1DwRefIdeal.main_arg1) = m ((c.tc : Thread Cert.Down1DwRefIdeal.nD Cert.Down1DwRefIdeal.τ).loc Cert.Down1DwRefIdeal.main_arg1))
      ∧ r.2.sem = fun _ => 0)

def quiescent_Down0Dw [hDown0Dw : Cert.Down0Dw.Facts] : Prop :=
  ∀ (m : (ℓ : Loc Cert.Down0Dw.nD Cert.Down0Dw.τ Cert.Down0Dw.sig) → Buf (Elt Bits) ℓ) (g : Dev Cert.Down0Dw.nD → PrngReg), Pre_Down0Dw m →
    θ_run (Cert.Down0Dw.defs (F := Bits)) (onTc (τ := Cert.Down0Dw.τ) (Cert.Down0Dw.main (F := Bits))) ⟨m, fun _ => 0, g⟩ (fun r => (∀ c : Dev Cert.Down0Dw.nD,
      r.2.mem ((c.tc : Thread Cert.Down0Dw.nD Cert.Down0Dw.τ).loc Cert.Down0Dw.main_arg0) = m ((c.tc : Thread Cert.Down0Dw.nD Cert.Down0Dw.τ).loc Cert.Down0Dw.main_arg0)
      ∧ r.2.mem ((c.tc : Thread Cert.Down0Dw.nD Cert.Down0Dw.τ).loc Cert.Down0Dw.main_arg1) = m ((c.tc : Thread Cert.Down0Dw.nD Cert.Down0Dw.τ).loc Cert.Down0Dw.main_arg1)
      ∧ r.2.mem ((c.tc : Thread Cert.Down0Dw.nD Cert.Down0Dw.τ).loc Cert.Down0Dw.main_arg2) = m ((c.tc : Thread Cert.Down0Dw.nD Cert.Down0Dw.τ).loc Cert.Down0Dw.main_arg2))
      ∧ r.2.sem = fun _ => 0)

def quiescent_Down0DwIdeal [hDown0DwIdeal : Cert.Down0DwIdeal.Facts] : Prop :=
  ∀ (m : (ℓ : Loc Cert.Down0DwIdeal.nD Cert.Down0DwIdeal.τ Cert.Down0DwIdeal.sig) → Buf (Elt Ideal) ℓ) (g : Dev Cert.Down0DwIdeal.nD → PrngReg), Pre_Down0DwIdeal m →
    θ_run (Cert.Down0DwIdeal.defs (F := Ideal)) (onTc (τ := Cert.Down0DwIdeal.τ) (Cert.Down0DwIdeal.main (F := Ideal))) ⟨m, fun _ => 0, g⟩ (fun r => (∀ c : Dev Cert.Down0DwIdeal.nD,
      r.2.mem ((c.tc : Thread Cert.Down0DwIdeal.nD Cert.Down0DwIdeal.τ).loc Cert.Down0DwIdeal.main_arg0) = m ((c.tc : Thread Cert.Down0DwIdeal.nD Cert.Down0DwIdeal.τ).loc Cert.Down0DwIdeal.main_arg0)
      ∧ r.2.mem ((c.tc : Thread Cert.Down0DwIdeal.nD Cert.Down0DwIdeal.τ).loc Cert.Down0DwIdeal.main_arg1) = m ((c.tc : Thread Cert.Down0DwIdeal.nD Cert.Down0DwIdeal.τ).loc Cert.Down0DwIdeal.main_arg1)
      ∧ r.2.mem ((c.tc : Thread Cert.Down0DwIdeal.nD Cert.Down0DwIdeal.τ).loc Cert.Down0DwIdeal.main_arg2) = m ((c.tc : Thread Cert.Down0DwIdeal.nD Cert.Down0DwIdeal.τ).loc Cert.Down0DwIdeal.main_arg2))
      ∧ r.2.sem = fun _ => 0)

def quiescent_Down0DwRefIdeal [hDown0DwRefIdeal : Cert.Down0DwRefIdeal.Facts] : Prop :=
  ∀ (m : (ℓ : Loc Cert.Down0DwRefIdeal.nD Cert.Down0DwRefIdeal.τ Cert.Down0DwRefIdeal.sig) → Buf (Elt Ideal) ℓ) (g : Dev Cert.Down0DwRefIdeal.nD → PrngReg), Pre_Down0DwRefIdeal m →
    θ_run (Cert.Down0DwRefIdeal.defs (F := Ideal)) (onTc (τ := Cert.Down0DwRefIdeal.τ) (Cert.Down0DwRefIdeal.main (F := Ideal))) ⟨m, fun _ => 0, g⟩ (fun r => (∀ c : Dev Cert.Down0DwRefIdeal.nD,
      r.2.mem ((c.tc : Thread Cert.Down0DwRefIdeal.nD Cert.Down0DwRefIdeal.τ).loc Cert.Down0DwRefIdeal.main_arg0) = m ((c.tc : Thread Cert.Down0DwRefIdeal.nD Cert.Down0DwRefIdeal.τ).loc Cert.Down0DwRefIdeal.main_arg0)
      ∧ r.2.mem ((c.tc : Thread Cert.Down0DwRefIdeal.nD Cert.Down0DwRefIdeal.τ).loc Cert.Down0DwRefIdeal.main_arg1) = m ((c.tc : Thread Cert.Down0DwRefIdeal.nD Cert.Down0DwRefIdeal.τ).loc Cert.Down0DwRefIdeal.main_arg1)
      ∧ r.2.mem ((c.tc : Thread Cert.Down0DwRefIdeal.nD Cert.Down0DwRefIdeal.τ).loc Cert.Down0DwRefIdeal.main_arg2) = m ((c.tc : Thread Cert.Down0DwRefIdeal.nD Cert.Down0DwRefIdeal.τ).loc Cert.Down0DwRefIdeal.main_arg2))
      ∧ r.2.sem = fun _ => 0)

def quiescent_Up1Dx [hUp1Dx : Cert.Up1Dx.Facts] : Prop :=
  ∀ (m : (ℓ : Loc Cert.Up1Dx.nD Cert.Up1Dx.τ Cert.Up1Dx.sig) → Buf (Elt Bits) ℓ) (g : Dev Cert.Up1Dx.nD → PrngReg), Pre_Up1Dx m →
    θ_run (Cert.Up1Dx.defs (F := Bits)) (onTc (τ := Cert.Up1Dx.τ) (Cert.Up1Dx.main (F := Bits))) ⟨m, fun _ => 0, g⟩ (fun r => (∀ c : Dev Cert.Up1Dx.nD,
      r.2.mem ((c.tc : Thread Cert.Up1Dx.nD Cert.Up1Dx.τ).loc Cert.Up1Dx.main_arg0) = m ((c.tc : Thread Cert.Up1Dx.nD Cert.Up1Dx.τ).loc Cert.Up1Dx.main_arg0)
      ∧ r.2.mem ((c.tc : Thread Cert.Up1Dx.nD Cert.Up1Dx.τ).loc Cert.Up1Dx.main_arg1) = m ((c.tc : Thread Cert.Up1Dx.nD Cert.Up1Dx.τ).loc Cert.Up1Dx.main_arg1)
      ∧ r.2.mem ((c.tc : Thread Cert.Up1Dx.nD Cert.Up1Dx.τ).loc Cert.Up1Dx.main_arg2) = m ((c.tc : Thread Cert.Up1Dx.nD Cert.Up1Dx.τ).loc Cert.Up1Dx.main_arg2)
      ∧ r.2.mem ((c.tc : Thread Cert.Up1Dx.nD Cert.Up1Dx.τ).loc Cert.Up1Dx.main_arg3) = m ((c.tc : Thread Cert.Up1Dx.nD Cert.Up1Dx.τ).loc Cert.Up1Dx.main_arg3)
      ∧ r.2.mem ((c.tc : Thread Cert.Up1Dx.nD Cert.Up1Dx.τ).loc Cert.Up1Dx.main_arg4) = m ((c.tc : Thread Cert.Up1Dx.nD Cert.Up1Dx.τ).loc Cert.Up1Dx.main_arg4))
      ∧ r.2.sem = fun _ => 0)

def quiescent_Up1DxIdeal [hUp1DxIdeal : Cert.Up1DxIdeal.Facts] : Prop :=
  ∀ (m : (ℓ : Loc Cert.Up1DxIdeal.nD Cert.Up1DxIdeal.τ Cert.Up1DxIdeal.sig) → Buf (Elt Ideal) ℓ) (g : Dev Cert.Up1DxIdeal.nD → PrngReg), Pre_Up1DxIdeal m →
    θ_run (Cert.Up1DxIdeal.defs (F := Ideal)) (onTc (τ := Cert.Up1DxIdeal.τ) (Cert.Up1DxIdeal.main (F := Ideal))) ⟨m, fun _ => 0, g⟩ (fun r => (∀ c : Dev Cert.Up1DxIdeal.nD,
      r.2.mem ((c.tc : Thread Cert.Up1DxIdeal.nD Cert.Up1DxIdeal.τ).loc Cert.Up1DxIdeal.main_arg0) = m ((c.tc : Thread Cert.Up1DxIdeal.nD Cert.Up1DxIdeal.τ).loc Cert.Up1DxIdeal.main_arg0)
      ∧ r.2.mem ((c.tc : Thread Cert.Up1DxIdeal.nD Cert.Up1DxIdeal.τ).loc Cert.Up1DxIdeal.main_arg1) = m ((c.tc : Thread Cert.Up1DxIdeal.nD Cert.Up1DxIdeal.τ).loc Cert.Up1DxIdeal.main_arg1)
      ∧ r.2.mem ((c.tc : Thread Cert.Up1DxIdeal.nD Cert.Up1DxIdeal.τ).loc Cert.Up1DxIdeal.main_arg2) = m ((c.tc : Thread Cert.Up1DxIdeal.nD Cert.Up1DxIdeal.τ).loc Cert.Up1DxIdeal.main_arg2)
      ∧ r.2.mem ((c.tc : Thread Cert.Up1DxIdeal.nD Cert.Up1DxIdeal.τ).loc Cert.Up1DxIdeal.main_arg3) = m ((c.tc : Thread Cert.Up1DxIdeal.nD Cert.Up1DxIdeal.τ).loc Cert.Up1DxIdeal.main_arg3)
      ∧ r.2.mem ((c.tc : Thread Cert.Up1DxIdeal.nD Cert.Up1DxIdeal.τ).loc Cert.Up1DxIdeal.main_arg4) = m ((c.tc : Thread Cert.Up1DxIdeal.nD Cert.Up1DxIdeal.τ).loc Cert.Up1DxIdeal.main_arg4))
      ∧ r.2.sem = fun _ => 0)

def quiescent_Up1DxRefIdeal [hUp1DxRefIdeal : Cert.Up1DxRefIdeal.Facts] : Prop :=
  ∀ (m : (ℓ : Loc Cert.Up1DxRefIdeal.nD Cert.Up1DxRefIdeal.τ Cert.Up1DxRefIdeal.sig) → Buf (Elt Ideal) ℓ) (g : Dev Cert.Up1DxRefIdeal.nD → PrngReg), Pre_Up1DxRefIdeal m →
    θ_run (Cert.Up1DxRefIdeal.defs (F := Ideal)) (onTc (τ := Cert.Up1DxRefIdeal.τ) (Cert.Up1DxRefIdeal.main (F := Ideal))) ⟨m, fun _ => 0, g⟩ (fun r => (∀ c : Dev Cert.Up1DxRefIdeal.nD,
      r.2.mem ((c.tc : Thread Cert.Up1DxRefIdeal.nD Cert.Up1DxRefIdeal.τ).loc Cert.Up1DxRefIdeal.main_arg0) = m ((c.tc : Thread Cert.Up1DxRefIdeal.nD Cert.Up1DxRefIdeal.τ).loc Cert.Up1DxRefIdeal.main_arg0)
      ∧ r.2.mem ((c.tc : Thread Cert.Up1DxRefIdeal.nD Cert.Up1DxRefIdeal.τ).loc Cert.Up1DxRefIdeal.main_arg1) = m ((c.tc : Thread Cert.Up1DxRefIdeal.nD Cert.Up1DxRefIdeal.τ).loc Cert.Up1DxRefIdeal.main_arg1)
      ∧ r.2.mem ((c.tc : Thread Cert.Up1DxRefIdeal.nD Cert.Up1DxRefIdeal.τ).loc Cert.Up1DxRefIdeal.main_arg2) = m ((c.tc : Thread Cert.Up1DxRefIdeal.nD Cert.Up1DxRefIdeal.τ).loc Cert.Up1DxRefIdeal.main_arg2)
      ∧ r.2.mem ((c.tc : Thread Cert.Up1DxRefIdeal.nD Cert.Up1DxRefIdeal.τ).loc Cert.Up1DxRefIdeal.main_arg3) = m ((c.tc : Thread Cert.Up1DxRefIdeal.nD Cert.Up1DxRefIdeal.τ).loc Cert.Up1DxRefIdeal.main_arg3)
      ∧ r.2.mem ((c.tc : Thread Cert.Up1DxRefIdeal.nD Cert.Up1DxRefIdeal.τ).loc Cert.Up1DxRefIdeal.main_arg4) = m ((c.tc : Thread Cert.Up1DxRefIdeal.nD Cert.Up1DxRefIdeal.τ).loc Cert.Up1DxRefIdeal.main_arg4))
      ∧ r.2.sem = fun _ => 0)

def quiescent_Up0Dx [hUp0Dx : Cert.Up0Dx.Facts] : Prop :=
  ∀ (m : (ℓ : Loc Cert.Up0Dx.nD Cert.Up0Dx.τ Cert.Up0Dx.sig) → Buf (Elt Bits) ℓ) (g : Dev Cert.Up0Dx.nD → PrngReg), Pre_Up0Dx m →
    θ_run (Cert.Up0Dx.defs (F := Bits)) (onTc (τ := Cert.Up0Dx.τ) (Cert.Up0Dx.main (F := Bits))) ⟨m, fun _ => 0, g⟩ (fun r => (∀ c : Dev Cert.Up0Dx.nD,
      r.2.mem ((c.tc : Thread Cert.Up0Dx.nD Cert.Up0Dx.τ).loc Cert.Up0Dx.main_arg0) = m ((c.tc : Thread Cert.Up0Dx.nD Cert.Up0Dx.τ).loc Cert.Up0Dx.main_arg0)
      ∧ r.2.mem ((c.tc : Thread Cert.Up0Dx.nD Cert.Up0Dx.τ).loc Cert.Up0Dx.main_arg1) = m ((c.tc : Thread Cert.Up0Dx.nD Cert.Up0Dx.τ).loc Cert.Up0Dx.main_arg1)
      ∧ r.2.mem ((c.tc : Thread Cert.Up0Dx.nD Cert.Up0Dx.τ).loc Cert.Up0Dx.main_arg2) = m ((c.tc : Thread Cert.Up0Dx.nD Cert.Up0Dx.τ).loc Cert.Up0Dx.main_arg2)
      ∧ r.2.mem ((c.tc : Thread Cert.Up0Dx.nD Cert.Up0Dx.τ).loc Cert.Up0Dx.main_arg3) = m ((c.tc : Thread Cert.Up0Dx.nD Cert.Up0Dx.τ).loc Cert.Up0Dx.main_arg3)
      ∧ r.2.mem ((c.tc : Thread Cert.Up0Dx.nD Cert.Up0Dx.τ).loc Cert.Up0Dx.main_arg4) = m ((c.tc : Thread Cert.Up0Dx.nD Cert.Up0Dx.τ).loc Cert.Up0Dx.main_arg4))
      ∧ r.2.sem = fun _ => 0)

def quiescent_Up0DxIdeal [hUp0DxIdeal : Cert.Up0DxIdeal.Facts] : Prop :=
  ∀ (m : (ℓ : Loc Cert.Up0DxIdeal.nD Cert.Up0DxIdeal.τ Cert.Up0DxIdeal.sig) → Buf (Elt Ideal) ℓ) (g : Dev Cert.Up0DxIdeal.nD → PrngReg), Pre_Up0DxIdeal m →
    θ_run (Cert.Up0DxIdeal.defs (F := Ideal)) (onTc (τ := Cert.Up0DxIdeal.τ) (Cert.Up0DxIdeal.main (F := Ideal))) ⟨m, fun _ => 0, g⟩ (fun r => (∀ c : Dev Cert.Up0DxIdeal.nD,
      r.2.mem ((c.tc : Thread Cert.Up0DxIdeal.nD Cert.Up0DxIdeal.τ).loc Cert.Up0DxIdeal.main_arg0) = m ((c.tc : Thread Cert.Up0DxIdeal.nD Cert.Up0DxIdeal.τ).loc Cert.Up0DxIdeal.main_arg0)
      ∧ r.2.mem ((c.tc : Thread Cert.Up0DxIdeal.nD Cert.Up0DxIdeal.τ).loc Cert.Up0DxIdeal.main_arg1) = m ((c.tc : Thread Cert.Up0DxIdeal.nD Cert.Up0DxIdeal.τ).loc Cert.Up0DxIdeal.main_arg1)
      ∧ r.2.mem ((c.tc : Thread Cert.Up0DxIdeal.nD Cert.Up0DxIdeal.τ).loc Cert.Up0DxIdeal.main_arg2) = m ((c.tc : Thread Cert.Up0DxIdeal.nD Cert.Up0DxIdeal.τ).loc Cert.Up0DxIdeal.main_arg2)
      ∧ r.2.mem ((c.tc : Thread Cert.Up0DxIdeal.nD Cert.Up0DxIdeal.τ).loc Cert.Up0DxIdeal.main_arg3) = m ((c.tc : Thread Cert.Up0DxIdeal.nD Cert.Up0DxIdeal.τ).loc Cert.Up0DxIdeal.main_arg3)
      ∧ r.2.mem ((c.tc : Thread Cert.Up0DxIdeal.nD Cert.Up0DxIdeal.τ).loc Cert.Up0DxIdeal.main_arg4) = m ((c.tc : Thread Cert.Up0DxIdeal.nD Cert.Up0DxIdeal.τ).loc Cert.Up0DxIdeal.main_arg4))
      ∧ r.2.sem = fun _ => 0)

def quiescent_Up0DxRefIdeal [hUp0DxRefIdeal : Cert.Up0DxRefIdeal.Facts] : Prop :=
  ∀ (m : (ℓ : Loc Cert.Up0DxRefIdeal.nD Cert.Up0DxRefIdeal.τ Cert.Up0DxRefIdeal.sig) → Buf (Elt Ideal) ℓ) (g : Dev Cert.Up0DxRefIdeal.nD → PrngReg), Pre_Up0DxRefIdeal m →
    θ_run (Cert.Up0DxRefIdeal.defs (F := Ideal)) (onTc (τ := Cert.Up0DxRefIdeal.τ) (Cert.Up0DxRefIdeal.main (F := Ideal))) ⟨m, fun _ => 0, g⟩ (fun r => (∀ c : Dev Cert.Up0DxRefIdeal.nD,
      r.2.mem ((c.tc : Thread Cert.Up0DxRefIdeal.nD Cert.Up0DxRefIdeal.τ).loc Cert.Up0DxRefIdeal.main_arg0) = m ((c.tc : Thread Cert.Up0DxRefIdeal.nD Cert.Up0DxRefIdeal.τ).loc Cert.Up0DxRefIdeal.main_arg0)
      ∧ r.2.mem ((c.tc : Thread Cert.Up0DxRefIdeal.nD Cert.Up0DxRefIdeal.τ).loc Cert.Up0DxRefIdeal.main_arg1) = m ((c.tc : Thread Cert.Up0DxRefIdeal.nD Cert.Up0DxRefIdeal.τ).loc Cert.Up0DxRefIdeal.main_arg1)
      ∧ r.2.mem ((c.tc : Thread Cert.Up0DxRefIdeal.nD Cert.Up0DxRefIdeal.τ).loc Cert.Up0DxRefIdeal.main_arg2) = m ((c.tc : Thread Cert.Up0DxRefIdeal.nD Cert.Up0DxRefIdeal.τ).loc Cert.Up0DxRefIdeal.main_arg2)
      ∧ r.2.mem ((c.tc : Thread Cert.Up0DxRefIdeal.nD Cert.Up0DxRefIdeal.τ).loc Cert.Up0DxRefIdeal.main_arg3) = m ((c.tc : Thread Cert.Up0DxRefIdeal.nD Cert.Up0DxRefIdeal.τ).loc Cert.Up0DxRefIdeal.main_arg3)
      ∧ r.2.mem ((c.tc : Thread Cert.Up0DxRefIdeal.nD Cert.Up0DxRefIdeal.τ).loc Cert.Up0DxRefIdeal.main_arg4) = m ((c.tc : Thread Cert.Up0DxRefIdeal.nD Cert.Up0DxRefIdeal.τ).loc Cert.Up0DxRefIdeal.main_arg4))
      ∧ r.2.sem = fun _ => 0)

def quiescent_QProjDx [hQProjDx : Cert.QProjDx.Facts] : Prop :=
  ∀ (m : (ℓ : Loc Cert.QProjDx.nD Cert.QProjDx.τ Cert.QProjDx.sig) → Buf (Elt Bits) ℓ) (g : Dev Cert.QProjDx.nD → PrngReg), Pre_QProjDx m →
    θ_run (Cert.QProjDx.defs (F := Bits)) (onTc (τ := Cert.QProjDx.τ) (Cert.QProjDx.main (F := Bits))) ⟨m, fun _ => 0, g⟩ (fun r => (∀ c : Dev Cert.QProjDx.nD,
      r.2.mem ((c.tc : Thread Cert.QProjDx.nD Cert.QProjDx.τ).loc Cert.QProjDx.main_arg0) = m ((c.tc : Thread Cert.QProjDx.nD Cert.QProjDx.τ).loc Cert.QProjDx.main_arg0)
      ∧ r.2.mem ((c.tc : Thread Cert.QProjDx.nD Cert.QProjDx.τ).loc Cert.QProjDx.main_arg1) = m ((c.tc : Thread Cert.QProjDx.nD Cert.QProjDx.τ).loc Cert.QProjDx.main_arg1)
      ∧ r.2.mem ((c.tc : Thread Cert.QProjDx.nD Cert.QProjDx.τ).loc Cert.QProjDx.main_arg2) = m ((c.tc : Thread Cert.QProjDx.nD Cert.QProjDx.τ).loc Cert.QProjDx.main_arg2)
      ∧ r.2.mem ((c.tc : Thread Cert.QProjDx.nD Cert.QProjDx.τ).loc Cert.QProjDx.main_arg3) = m ((c.tc : Thread Cert.QProjDx.nD Cert.QProjDx.τ).loc Cert.QProjDx.main_arg3)
      ∧ r.2.mem ((c.tc : Thread Cert.QProjDx.nD Cert.QProjDx.τ).loc Cert.QProjDx.main_arg4) = m ((c.tc : Thread Cert.QProjDx.nD Cert.QProjDx.τ).loc Cert.QProjDx.main_arg4))
      ∧ r.2.sem = fun _ => 0)

def quiescent_QProjDxIdeal [hQProjDxIdeal : Cert.QProjDxIdeal.Facts] : Prop :=
  ∀ (m : (ℓ : Loc Cert.QProjDxIdeal.nD Cert.QProjDxIdeal.τ Cert.QProjDxIdeal.sig) → Buf (Elt Ideal) ℓ) (g : Dev Cert.QProjDxIdeal.nD → PrngReg), Pre_QProjDxIdeal m →
    θ_run (Cert.QProjDxIdeal.defs (F := Ideal)) (onTc (τ := Cert.QProjDxIdeal.τ) (Cert.QProjDxIdeal.main (F := Ideal))) ⟨m, fun _ => 0, g⟩ (fun r => (∀ c : Dev Cert.QProjDxIdeal.nD,
      r.2.mem ((c.tc : Thread Cert.QProjDxIdeal.nD Cert.QProjDxIdeal.τ).loc Cert.QProjDxIdeal.main_arg0) = m ((c.tc : Thread Cert.QProjDxIdeal.nD Cert.QProjDxIdeal.τ).loc Cert.QProjDxIdeal.main_arg0)
      ∧ r.2.mem ((c.tc : Thread Cert.QProjDxIdeal.nD Cert.QProjDxIdeal.τ).loc Cert.QProjDxIdeal.main_arg1) = m ((c.tc : Thread Cert.QProjDxIdeal.nD Cert.QProjDxIdeal.τ).loc Cert.QProjDxIdeal.main_arg1)
      ∧ r.2.mem ((c.tc : Thread Cert.QProjDxIdeal.nD Cert.QProjDxIdeal.τ).loc Cert.QProjDxIdeal.main_arg2) = m ((c.tc : Thread Cert.QProjDxIdeal.nD Cert.QProjDxIdeal.τ).loc Cert.QProjDxIdeal.main_arg2)
      ∧ r.2.mem ((c.tc : Thread Cert.QProjDxIdeal.nD Cert.QProjDxIdeal.τ).loc Cert.QProjDxIdeal.main_arg3) = m ((c.tc : Thread Cert.QProjDxIdeal.nD Cert.QProjDxIdeal.τ).loc Cert.QProjDxIdeal.main_arg3)
      ∧ r.2.mem ((c.tc : Thread Cert.QProjDxIdeal.nD Cert.QProjDxIdeal.τ).loc Cert.QProjDxIdeal.main_arg4) = m ((c.tc : Thread Cert.QProjDxIdeal.nD Cert.QProjDxIdeal.τ).loc Cert.QProjDxIdeal.main_arg4))
      ∧ r.2.sem = fun _ => 0)

def quiescent_QProjDxRefIdeal [hQProjDxRefIdeal : Cert.QProjDxRefIdeal.Facts] : Prop :=
  ∀ (m : (ℓ : Loc Cert.QProjDxRefIdeal.nD Cert.QProjDxRefIdeal.τ Cert.QProjDxRefIdeal.sig) → Buf (Elt Ideal) ℓ) (g : Dev Cert.QProjDxRefIdeal.nD → PrngReg), Pre_QProjDxRefIdeal m →
    θ_run (Cert.QProjDxRefIdeal.defs (F := Ideal)) (onTc (τ := Cert.QProjDxRefIdeal.τ) (Cert.QProjDxRefIdeal.main (F := Ideal))) ⟨m, fun _ => 0, g⟩ (fun r => (∀ c : Dev Cert.QProjDxRefIdeal.nD,
      r.2.mem ((c.tc : Thread Cert.QProjDxRefIdeal.nD Cert.QProjDxRefIdeal.τ).loc Cert.QProjDxRefIdeal.main_arg0) = m ((c.tc : Thread Cert.QProjDxRefIdeal.nD Cert.QProjDxRefIdeal.τ).loc Cert.QProjDxRefIdeal.main_arg0)
      ∧ r.2.mem ((c.tc : Thread Cert.QProjDxRefIdeal.nD Cert.QProjDxRefIdeal.τ).loc Cert.QProjDxRefIdeal.main_arg1) = m ((c.tc : Thread Cert.QProjDxRefIdeal.nD Cert.QProjDxRefIdeal.τ).loc Cert.QProjDxRefIdeal.main_arg1)
      ∧ r.2.mem ((c.tc : Thread Cert.QProjDxRefIdeal.nD Cert.QProjDxRefIdeal.τ).loc Cert.QProjDxRefIdeal.main_arg2) = m ((c.tc : Thread Cert.QProjDxRefIdeal.nD Cert.QProjDxRefIdeal.τ).loc Cert.QProjDxRefIdeal.main_arg2)
      ∧ r.2.mem ((c.tc : Thread Cert.QProjDxRefIdeal.nD Cert.QProjDxRefIdeal.τ).loc Cert.QProjDxRefIdeal.main_arg3) = m ((c.tc : Thread Cert.QProjDxRefIdeal.nD Cert.QProjDxRefIdeal.τ).loc Cert.QProjDxRefIdeal.main_arg3)
      ∧ r.2.mem ((c.tc : Thread Cert.QProjDxRefIdeal.nD Cert.QProjDxRefIdeal.τ).loc Cert.QProjDxRefIdeal.main_arg4) = m ((c.tc : Thread Cert.QProjDxRefIdeal.nD Cert.QProjDxRefIdeal.τ).loc Cert.QProjDxRefIdeal.main_arg4))
      ∧ r.2.sem = fun _ => 0)

def quiescent_KvProjDx [hKvProjDx : Cert.KvProjDx.Facts] : Prop :=
  ∀ (m : (ℓ : Loc Cert.KvProjDx.nD Cert.KvProjDx.τ Cert.KvProjDx.sig) → Buf (Elt Bits) ℓ) (g : Dev Cert.KvProjDx.nD → PrngReg), Pre_KvProjDx m →
    θ_run (Cert.KvProjDx.defs (F := Bits)) (onTc (τ := Cert.KvProjDx.τ) (Cert.KvProjDx.main (F := Bits))) ⟨m, fun _ => 0, g⟩ (fun r => (∀ c : Dev Cert.KvProjDx.nD,
      r.2.mem ((c.tc : Thread Cert.KvProjDx.nD Cert.KvProjDx.τ).loc Cert.KvProjDx.main_arg0) = m ((c.tc : Thread Cert.KvProjDx.nD Cert.KvProjDx.τ).loc Cert.KvProjDx.main_arg0)
      ∧ r.2.mem ((c.tc : Thread Cert.KvProjDx.nD Cert.KvProjDx.τ).loc Cert.KvProjDx.main_arg1) = m ((c.tc : Thread Cert.KvProjDx.nD Cert.KvProjDx.τ).loc Cert.KvProjDx.main_arg1)
      ∧ r.2.mem ((c.tc : Thread Cert.KvProjDx.nD Cert.KvProjDx.τ).loc Cert.KvProjDx.main_arg2) = m ((c.tc : Thread Cert.KvProjDx.nD Cert.KvProjDx.τ).loc Cert.KvProjDx.main_arg2)
      ∧ r.2.mem ((c.tc : Thread Cert.KvProjDx.nD Cert.KvProjDx.τ).loc Cert.KvProjDx.main_arg3) = m ((c.tc : Thread Cert.KvProjDx.nD Cert.KvProjDx.τ).loc Cert.KvProjDx.main_arg3)
      ∧ r.2.mem ((c.tc : Thread Cert.KvProjDx.nD Cert.KvProjDx.τ).loc Cert.KvProjDx.main_arg4) = m ((c.tc : Thread Cert.KvProjDx.nD Cert.KvProjDx.τ).loc Cert.KvProjDx.main_arg4))
      ∧ r.2.sem = fun _ => 0)

def quiescent_KvProjDxIdeal [hKvProjDxIdeal : Cert.KvProjDxIdeal.Facts] : Prop :=
  ∀ (m : (ℓ : Loc Cert.KvProjDxIdeal.nD Cert.KvProjDxIdeal.τ Cert.KvProjDxIdeal.sig) → Buf (Elt Ideal) ℓ) (g : Dev Cert.KvProjDxIdeal.nD → PrngReg), Pre_KvProjDxIdeal m →
    θ_run (Cert.KvProjDxIdeal.defs (F := Ideal)) (onTc (τ := Cert.KvProjDxIdeal.τ) (Cert.KvProjDxIdeal.main (F := Ideal))) ⟨m, fun _ => 0, g⟩ (fun r => (∀ c : Dev Cert.KvProjDxIdeal.nD,
      r.2.mem ((c.tc : Thread Cert.KvProjDxIdeal.nD Cert.KvProjDxIdeal.τ).loc Cert.KvProjDxIdeal.main_arg0) = m ((c.tc : Thread Cert.KvProjDxIdeal.nD Cert.KvProjDxIdeal.τ).loc Cert.KvProjDxIdeal.main_arg0)
      ∧ r.2.mem ((c.tc : Thread Cert.KvProjDxIdeal.nD Cert.KvProjDxIdeal.τ).loc Cert.KvProjDxIdeal.main_arg1) = m ((c.tc : Thread Cert.KvProjDxIdeal.nD Cert.KvProjDxIdeal.τ).loc Cert.KvProjDxIdeal.main_arg1)
      ∧ r.2.mem ((c.tc : Thread Cert.KvProjDxIdeal.nD Cert.KvProjDxIdeal.τ).loc Cert.KvProjDxIdeal.main_arg2) = m ((c.tc : Thread Cert.KvProjDxIdeal.nD Cert.KvProjDxIdeal.τ).loc Cert.KvProjDxIdeal.main_arg2)
      ∧ r.2.mem ((c.tc : Thread Cert.KvProjDxIdeal.nD Cert.KvProjDxIdeal.τ).loc Cert.KvProjDxIdeal.main_arg3) = m ((c.tc : Thread Cert.KvProjDxIdeal.nD Cert.KvProjDxIdeal.τ).loc Cert.KvProjDxIdeal.main_arg3)
      ∧ r.2.mem ((c.tc : Thread Cert.KvProjDxIdeal.nD Cert.KvProjDxIdeal.τ).loc Cert.KvProjDxIdeal.main_arg4) = m ((c.tc : Thread Cert.KvProjDxIdeal.nD Cert.KvProjDxIdeal.τ).loc Cert.KvProjDxIdeal.main_arg4))
      ∧ r.2.sem = fun _ => 0)

def quiescent_KvProjDxRefIdeal [hKvProjDxRefIdeal : Cert.KvProjDxRefIdeal.Facts] : Prop :=
  ∀ (m : (ℓ : Loc Cert.KvProjDxRefIdeal.nD Cert.KvProjDxRefIdeal.τ Cert.KvProjDxRefIdeal.sig) → Buf (Elt Ideal) ℓ) (g : Dev Cert.KvProjDxRefIdeal.nD → PrngReg), Pre_KvProjDxRefIdeal m →
    θ_run (Cert.KvProjDxRefIdeal.defs (F := Ideal)) (onTc (τ := Cert.KvProjDxRefIdeal.τ) (Cert.KvProjDxRefIdeal.main (F := Ideal))) ⟨m, fun _ => 0, g⟩ (fun r => (∀ c : Dev Cert.KvProjDxRefIdeal.nD,
      r.2.mem ((c.tc : Thread Cert.KvProjDxRefIdeal.nD Cert.KvProjDxRefIdeal.τ).loc Cert.KvProjDxRefIdeal.main_arg0) = m ((c.tc : Thread Cert.KvProjDxRefIdeal.nD Cert.KvProjDxRefIdeal.τ).loc Cert.KvProjDxRefIdeal.main_arg0)
      ∧ r.2.mem ((c.tc : Thread Cert.KvProjDxRefIdeal.nD Cert.KvProjDxRefIdeal.τ).loc Cert.KvProjDxRefIdeal.main_arg1) = m ((c.tc : Thread Cert.KvProjDxRefIdeal.nD Cert.KvProjDxRefIdeal.τ).loc Cert.KvProjDxRefIdeal.main_arg1)
      ∧ r.2.mem ((c.tc : Thread Cert.KvProjDxRefIdeal.nD Cert.KvProjDxRefIdeal.τ).loc Cert.KvProjDxRefIdeal.main_arg2) = m ((c.tc : Thread Cert.KvProjDxRefIdeal.nD Cert.KvProjDxRefIdeal.τ).loc Cert.KvProjDxRefIdeal.main_arg2)
      ∧ r.2.mem ((c.tc : Thread Cert.KvProjDxRefIdeal.nD Cert.KvProjDxRefIdeal.τ).loc Cert.KvProjDxRefIdeal.main_arg3) = m ((c.tc : Thread Cert.KvProjDxRefIdeal.nD Cert.KvProjDxRefIdeal.τ).loc Cert.KvProjDxRefIdeal.main_arg3)
      ∧ r.2.mem ((c.tc : Thread Cert.KvProjDxRefIdeal.nD Cert.KvProjDxRefIdeal.τ).loc Cert.KvProjDxRefIdeal.main_arg4) = m ((c.tc : Thread Cert.KvProjDxRefIdeal.nD Cert.KvProjDxRefIdeal.τ).loc Cert.KvProjDxRefIdeal.main_arg4))
      ∧ r.2.sem = fun _ => 0)

def quiescent_GdnInBaDx [hGdnInBaDx : Cert.GdnInBaDx.Facts] : Prop :=
  ∀ (m : (ℓ : Loc Cert.GdnInBaDx.nD Cert.GdnInBaDx.τ Cert.GdnInBaDx.sig) → Buf (Elt Bits) ℓ) (g : Dev Cert.GdnInBaDx.nD → PrngReg), Pre_GdnInBaDx m →
    θ_run (Cert.GdnInBaDx.defs (F := Bits)) (onTc (τ := Cert.GdnInBaDx.τ) (Cert.GdnInBaDx.main (F := Bits))) ⟨m, fun _ => 0, g⟩ (fun r => (∀ c : Dev Cert.GdnInBaDx.nD,
      r.2.mem ((c.tc : Thread Cert.GdnInBaDx.nD Cert.GdnInBaDx.τ).loc Cert.GdnInBaDx.main_arg0) = m ((c.tc : Thread Cert.GdnInBaDx.nD Cert.GdnInBaDx.τ).loc Cert.GdnInBaDx.main_arg0)
      ∧ r.2.mem ((c.tc : Thread Cert.GdnInBaDx.nD Cert.GdnInBaDx.τ).loc Cert.GdnInBaDx.main_arg1) = m ((c.tc : Thread Cert.GdnInBaDx.nD Cert.GdnInBaDx.τ).loc Cert.GdnInBaDx.main_arg1)
      ∧ r.2.mem ((c.tc : Thread Cert.GdnInBaDx.nD Cert.GdnInBaDx.τ).loc Cert.GdnInBaDx.main_arg2) = m ((c.tc : Thread Cert.GdnInBaDx.nD Cert.GdnInBaDx.τ).loc Cert.GdnInBaDx.main_arg2)
      ∧ r.2.mem ((c.tc : Thread Cert.GdnInBaDx.nD Cert.GdnInBaDx.τ).loc Cert.GdnInBaDx.main_arg3) = m ((c.tc : Thread Cert.GdnInBaDx.nD Cert.GdnInBaDx.τ).loc Cert.GdnInBaDx.main_arg3)
      ∧ r.2.mem ((c.tc : Thread Cert.GdnInBaDx.nD Cert.GdnInBaDx.τ).loc Cert.GdnInBaDx.main_arg4) = m ((c.tc : Thread Cert.GdnInBaDx.nD Cert.GdnInBaDx.τ).loc Cert.GdnInBaDx.main_arg4)
      ∧ r.2.mem ((c.tc : Thread Cert.GdnInBaDx.nD Cert.GdnInBaDx.τ).loc Cert.GdnInBaDx.main_arg5) = m ((c.tc : Thread Cert.GdnInBaDx.nD Cert.GdnInBaDx.τ).loc Cert.GdnInBaDx.main_arg5))
      ∧ r.2.sem = fun _ => 0)

def quiescent_GdnInBaDxIdeal [hGdnInBaDxIdeal : Cert.GdnInBaDxIdeal.Facts] : Prop :=
  ∀ (m : (ℓ : Loc Cert.GdnInBaDxIdeal.nD Cert.GdnInBaDxIdeal.τ Cert.GdnInBaDxIdeal.sig) → Buf (Elt Ideal) ℓ) (g : Dev Cert.GdnInBaDxIdeal.nD → PrngReg), Pre_GdnInBaDxIdeal m →
    θ_run (Cert.GdnInBaDxIdeal.defs (F := Ideal)) (onTc (τ := Cert.GdnInBaDxIdeal.τ) (Cert.GdnInBaDxIdeal.main (F := Ideal))) ⟨m, fun _ => 0, g⟩ (fun r => (∀ c : Dev Cert.GdnInBaDxIdeal.nD,
      r.2.mem ((c.tc : Thread Cert.GdnInBaDxIdeal.nD Cert.GdnInBaDxIdeal.τ).loc Cert.GdnInBaDxIdeal.main_arg0) = m ((c.tc : Thread Cert.GdnInBaDxIdeal.nD Cert.GdnInBaDxIdeal.τ).loc Cert.GdnInBaDxIdeal.main_arg0)
      ∧ r.2.mem ((c.tc : Thread Cert.GdnInBaDxIdeal.nD Cert.GdnInBaDxIdeal.τ).loc Cert.GdnInBaDxIdeal.main_arg1) = m ((c.tc : Thread Cert.GdnInBaDxIdeal.nD Cert.GdnInBaDxIdeal.τ).loc Cert.GdnInBaDxIdeal.main_arg1)
      ∧ r.2.mem ((c.tc : Thread Cert.GdnInBaDxIdeal.nD Cert.GdnInBaDxIdeal.τ).loc Cert.GdnInBaDxIdeal.main_arg2) = m ((c.tc : Thread Cert.GdnInBaDxIdeal.nD Cert.GdnInBaDxIdeal.τ).loc Cert.GdnInBaDxIdeal.main_arg2)
      ∧ r.2.mem ((c.tc : Thread Cert.GdnInBaDxIdeal.nD Cert.GdnInBaDxIdeal.τ).loc Cert.GdnInBaDxIdeal.main_arg3) = m ((c.tc : Thread Cert.GdnInBaDxIdeal.nD Cert.GdnInBaDxIdeal.τ).loc Cert.GdnInBaDxIdeal.main_arg3)
      ∧ r.2.mem ((c.tc : Thread Cert.GdnInBaDxIdeal.nD Cert.GdnInBaDxIdeal.τ).loc Cert.GdnInBaDxIdeal.main_arg4) = m ((c.tc : Thread Cert.GdnInBaDxIdeal.nD Cert.GdnInBaDxIdeal.τ).loc Cert.GdnInBaDxIdeal.main_arg4)
      ∧ r.2.mem ((c.tc : Thread Cert.GdnInBaDxIdeal.nD Cert.GdnInBaDxIdeal.τ).loc Cert.GdnInBaDxIdeal.main_arg5) = m ((c.tc : Thread Cert.GdnInBaDxIdeal.nD Cert.GdnInBaDxIdeal.τ).loc Cert.GdnInBaDxIdeal.main_arg5))
      ∧ r.2.sem = fun _ => 0)

def quiescent_GdnInBaDxRefIdeal [hGdnInBaDxRefIdeal : Cert.GdnInBaDxRefIdeal.Facts] : Prop :=
  ∀ (m : (ℓ : Loc Cert.GdnInBaDxRefIdeal.nD Cert.GdnInBaDxRefIdeal.τ Cert.GdnInBaDxRefIdeal.sig) → Buf (Elt Ideal) ℓ) (g : Dev Cert.GdnInBaDxRefIdeal.nD → PrngReg), Pre_GdnInBaDxRefIdeal m →
    θ_run (Cert.GdnInBaDxRefIdeal.defs (F := Ideal)) (onTc (τ := Cert.GdnInBaDxRefIdeal.τ) (Cert.GdnInBaDxRefIdeal.main (F := Ideal))) ⟨m, fun _ => 0, g⟩ (fun r => (∀ c : Dev Cert.GdnInBaDxRefIdeal.nD,
      r.2.mem ((c.tc : Thread Cert.GdnInBaDxRefIdeal.nD Cert.GdnInBaDxRefIdeal.τ).loc Cert.GdnInBaDxRefIdeal.main_arg0) = m ((c.tc : Thread Cert.GdnInBaDxRefIdeal.nD Cert.GdnInBaDxRefIdeal.τ).loc Cert.GdnInBaDxRefIdeal.main_arg0)
      ∧ r.2.mem ((c.tc : Thread Cert.GdnInBaDxRefIdeal.nD Cert.GdnInBaDxRefIdeal.τ).loc Cert.GdnInBaDxRefIdeal.main_arg1) = m ((c.tc : Thread Cert.GdnInBaDxRefIdeal.nD Cert.GdnInBaDxRefIdeal.τ).loc Cert.GdnInBaDxRefIdeal.main_arg1)
      ∧ r.2.mem ((c.tc : Thread Cert.GdnInBaDxRefIdeal.nD Cert.GdnInBaDxRefIdeal.τ).loc Cert.GdnInBaDxRefIdeal.main_arg2) = m ((c.tc : Thread Cert.GdnInBaDxRefIdeal.nD Cert.GdnInBaDxRefIdeal.τ).loc Cert.GdnInBaDxRefIdeal.main_arg2)
      ∧ r.2.mem ((c.tc : Thread Cert.GdnInBaDxRefIdeal.nD Cert.GdnInBaDxRefIdeal.τ).loc Cert.GdnInBaDxRefIdeal.main_arg3) = m ((c.tc : Thread Cert.GdnInBaDxRefIdeal.nD Cert.GdnInBaDxRefIdeal.τ).loc Cert.GdnInBaDxRefIdeal.main_arg3)
      ∧ r.2.mem ((c.tc : Thread Cert.GdnInBaDxRefIdeal.nD Cert.GdnInBaDxRefIdeal.τ).loc Cert.GdnInBaDxRefIdeal.main_arg4) = m ((c.tc : Thread Cert.GdnInBaDxRefIdeal.nD Cert.GdnInBaDxRefIdeal.τ).loc Cert.GdnInBaDxRefIdeal.main_arg4)
      ∧ r.2.mem ((c.tc : Thread Cert.GdnInBaDxRefIdeal.nD Cert.GdnInBaDxRefIdeal.τ).loc Cert.GdnInBaDxRefIdeal.main_arg5) = m ((c.tc : Thread Cert.GdnInBaDxRefIdeal.nD Cert.GdnInBaDxRefIdeal.τ).loc Cert.GdnInBaDxRefIdeal.main_arg5))
      ∧ r.2.sem = fun _ => 0)

def quiescent_AdamAWIn [hAdamAWIn : Cert.AdamAWIn.Facts] : Prop :=
  ∀ (m : (ℓ : Loc Cert.AdamAWIn.nD Cert.AdamAWIn.τ Cert.AdamAWIn.sig) → Buf (Elt Bits) ℓ) (g : Dev Cert.AdamAWIn.nD → PrngReg), Pre_AdamAWIn m →
    θ_run (Cert.AdamAWIn.defs (F := Bits)) (onTc (τ := Cert.AdamAWIn.τ) (Cert.AdamAWIn.main (F := Bits))) ⟨m, fun _ => 0, g⟩ (fun r => (∀ c : Dev Cert.AdamAWIn.nD,
      r.2.mem ((c.tc : Thread Cert.AdamAWIn.nD Cert.AdamAWIn.τ).loc Cert.AdamAWIn.main_arg0) = m ((c.tc : Thread Cert.AdamAWIn.nD Cert.AdamAWIn.τ).loc Cert.AdamAWIn.main_arg0)
      ∧ r.2.mem ((c.tc : Thread Cert.AdamAWIn.nD Cert.AdamAWIn.τ).loc Cert.AdamAWIn.main_arg1) = m ((c.tc : Thread Cert.AdamAWIn.nD Cert.AdamAWIn.τ).loc Cert.AdamAWIn.main_arg1)
      ∧ r.2.mem ((c.tc : Thread Cert.AdamAWIn.nD Cert.AdamAWIn.τ).loc Cert.AdamAWIn.main_arg2) = m ((c.tc : Thread Cert.AdamAWIn.nD Cert.AdamAWIn.τ).loc Cert.AdamAWIn.main_arg2)
      ∧ r.2.mem ((c.tc : Thread Cert.AdamAWIn.nD Cert.AdamAWIn.τ).loc Cert.AdamAWIn.main_arg3) = m ((c.tc : Thread Cert.AdamAWIn.nD Cert.AdamAWIn.τ).loc Cert.AdamAWIn.main_arg3))
      ∧ r.2.sem = fun _ => 0)

def quiescent_AdamAWInIdeal [hAdamAWInIdeal : Cert.AdamAWInIdeal.Facts] : Prop :=
  ∀ (m : (ℓ : Loc Cert.AdamAWInIdeal.nD Cert.AdamAWInIdeal.τ Cert.AdamAWInIdeal.sig) → Buf (Elt Ideal) ℓ) (g : Dev Cert.AdamAWInIdeal.nD → PrngReg), Pre_AdamAWInIdeal m →
    θ_run (Cert.AdamAWInIdeal.defs (F := Ideal)) (onTc (τ := Cert.AdamAWInIdeal.τ) (Cert.AdamAWInIdeal.main (F := Ideal))) ⟨m, fun _ => 0, g⟩ (fun r => (∀ c : Dev Cert.AdamAWInIdeal.nD,
      r.2.mem ((c.tc : Thread Cert.AdamAWInIdeal.nD Cert.AdamAWInIdeal.τ).loc Cert.AdamAWInIdeal.main_arg0) = m ((c.tc : Thread Cert.AdamAWInIdeal.nD Cert.AdamAWInIdeal.τ).loc Cert.AdamAWInIdeal.main_arg0)
      ∧ r.2.mem ((c.tc : Thread Cert.AdamAWInIdeal.nD Cert.AdamAWInIdeal.τ).loc Cert.AdamAWInIdeal.main_arg1) = m ((c.tc : Thread Cert.AdamAWInIdeal.nD Cert.AdamAWInIdeal.τ).loc Cert.AdamAWInIdeal.main_arg1)
      ∧ r.2.mem ((c.tc : Thread Cert.AdamAWInIdeal.nD Cert.AdamAWInIdeal.τ).loc Cert.AdamAWInIdeal.main_arg2) = m ((c.tc : Thread Cert.AdamAWInIdeal.nD Cert.AdamAWInIdeal.τ).loc Cert.AdamAWInIdeal.main_arg2)
      ∧ r.2.mem ((c.tc : Thread Cert.AdamAWInIdeal.nD Cert.AdamAWInIdeal.τ).loc Cert.AdamAWInIdeal.main_arg3) = m ((c.tc : Thread Cert.AdamAWInIdeal.nD Cert.AdamAWInIdeal.τ).loc Cert.AdamAWInIdeal.main_arg3))
      ∧ r.2.sem = fun _ => 0)

def quiescent_AdamAWInRefIdeal [hAdamAWInRefIdeal : Cert.AdamAWInRefIdeal.Facts] : Prop :=
  ∀ (m : (ℓ : Loc Cert.AdamAWInRefIdeal.nD Cert.AdamAWInRefIdeal.τ Cert.AdamAWInRefIdeal.sig) → Buf (Elt Ideal) ℓ) (g : Dev Cert.AdamAWInRefIdeal.nD → PrngReg), Pre_AdamAWInRefIdeal m →
    θ_run (Cert.AdamAWInRefIdeal.defs (F := Ideal)) (onTc (τ := Cert.AdamAWInRefIdeal.τ) (Cert.AdamAWInRefIdeal.main (F := Ideal))) ⟨m, fun _ => 0, g⟩ (fun r => (∀ c : Dev Cert.AdamAWInRefIdeal.nD,
      r.2.mem ((c.tc : Thread Cert.AdamAWInRefIdeal.nD Cert.AdamAWInRefIdeal.τ).loc Cert.AdamAWInRefIdeal.main_arg0) = m ((c.tc : Thread Cert.AdamAWInRefIdeal.nD Cert.AdamAWInRefIdeal.τ).loc Cert.AdamAWInRefIdeal.main_arg0)
      ∧ r.2.mem ((c.tc : Thread Cert.AdamAWInRefIdeal.nD Cert.AdamAWInRefIdeal.τ).loc Cert.AdamAWInRefIdeal.main_arg1) = m ((c.tc : Thread Cert.AdamAWInRefIdeal.nD Cert.AdamAWInRefIdeal.τ).loc Cert.AdamAWInRefIdeal.main_arg1)
      ∧ r.2.mem ((c.tc : Thread Cert.AdamAWInRefIdeal.nD Cert.AdamAWInRefIdeal.τ).loc Cert.AdamAWInRefIdeal.main_arg2) = m ((c.tc : Thread Cert.AdamAWInRefIdeal.nD Cert.AdamAWInRefIdeal.τ).loc Cert.AdamAWInRefIdeal.main_arg2)
      ∧ r.2.mem ((c.tc : Thread Cert.AdamAWInRefIdeal.nD Cert.AdamAWInRefIdeal.τ).loc Cert.AdamAWInRefIdeal.main_arg3) = m ((c.tc : Thread Cert.AdamAWInRefIdeal.nD Cert.AdamAWInRefIdeal.τ).loc Cert.AdamAWInRefIdeal.main_arg3))
      ∧ r.2.sem = fun _ => 0)

def quiescent_AdamAWOut [hAdamAWOut : Cert.AdamAWOut.Facts] : Prop :=
  ∀ (m : (ℓ : Loc Cert.AdamAWOut.nD Cert.AdamAWOut.τ Cert.AdamAWOut.sig) → Buf (Elt Bits) ℓ) (g : Dev Cert.AdamAWOut.nD → PrngReg), Pre_AdamAWOut m →
    θ_run (Cert.AdamAWOut.defs (F := Bits)) (onTc (τ := Cert.AdamAWOut.τ) (Cert.AdamAWOut.main (F := Bits))) ⟨m, fun _ => 0, g⟩ (fun r => (∀ c : Dev Cert.AdamAWOut.nD,
      r.2.mem ((c.tc : Thread Cert.AdamAWOut.nD Cert.AdamAWOut.τ).loc Cert.AdamAWOut.main_arg0) = m ((c.tc : Thread Cert.AdamAWOut.nD Cert.AdamAWOut.τ).loc Cert.AdamAWOut.main_arg0)
      ∧ r.2.mem ((c.tc : Thread Cert.AdamAWOut.nD Cert.AdamAWOut.τ).loc Cert.AdamAWOut.main_arg1) = m ((c.tc : Thread Cert.AdamAWOut.nD Cert.AdamAWOut.τ).loc Cert.AdamAWOut.main_arg1)
      ∧ r.2.mem ((c.tc : Thread Cert.AdamAWOut.nD Cert.AdamAWOut.τ).loc Cert.AdamAWOut.main_arg2) = m ((c.tc : Thread Cert.AdamAWOut.nD Cert.AdamAWOut.τ).loc Cert.AdamAWOut.main_arg2)
      ∧ r.2.mem ((c.tc : Thread Cert.AdamAWOut.nD Cert.AdamAWOut.τ).loc Cert.AdamAWOut.main_arg3) = m ((c.tc : Thread Cert.AdamAWOut.nD Cert.AdamAWOut.τ).loc Cert.AdamAWOut.main_arg3))
      ∧ r.2.sem = fun _ => 0)

def quiescent_AdamAWOutIdeal [hAdamAWOutIdeal : Cert.AdamAWOutIdeal.Facts] : Prop :=
  ∀ (m : (ℓ : Loc Cert.AdamAWOutIdeal.nD Cert.AdamAWOutIdeal.τ Cert.AdamAWOutIdeal.sig) → Buf (Elt Ideal) ℓ) (g : Dev Cert.AdamAWOutIdeal.nD → PrngReg), Pre_AdamAWOutIdeal m →
    θ_run (Cert.AdamAWOutIdeal.defs (F := Ideal)) (onTc (τ := Cert.AdamAWOutIdeal.τ) (Cert.AdamAWOutIdeal.main (F := Ideal))) ⟨m, fun _ => 0, g⟩ (fun r => (∀ c : Dev Cert.AdamAWOutIdeal.nD,
      r.2.mem ((c.tc : Thread Cert.AdamAWOutIdeal.nD Cert.AdamAWOutIdeal.τ).loc Cert.AdamAWOutIdeal.main_arg0) = m ((c.tc : Thread Cert.AdamAWOutIdeal.nD Cert.AdamAWOutIdeal.τ).loc Cert.AdamAWOutIdeal.main_arg0)
      ∧ r.2.mem ((c.tc : Thread Cert.AdamAWOutIdeal.nD Cert.AdamAWOutIdeal.τ).loc Cert.AdamAWOutIdeal.main_arg1) = m ((c.tc : Thread Cert.AdamAWOutIdeal.nD Cert.AdamAWOutIdeal.τ).loc Cert.AdamAWOutIdeal.main_arg1)
      ∧ r.2.mem ((c.tc : Thread Cert.AdamAWOutIdeal.nD Cert.AdamAWOutIdeal.τ).loc Cert.AdamAWOutIdeal.main_arg2) = m ((c.tc : Thread Cert.AdamAWOutIdeal.nD Cert.AdamAWOutIdeal.τ).loc Cert.AdamAWOutIdeal.main_arg2)
      ∧ r.2.mem ((c.tc : Thread Cert.AdamAWOutIdeal.nD Cert.AdamAWOutIdeal.τ).loc Cert.AdamAWOutIdeal.main_arg3) = m ((c.tc : Thread Cert.AdamAWOutIdeal.nD Cert.AdamAWOutIdeal.τ).loc Cert.AdamAWOutIdeal.main_arg3))
      ∧ r.2.sem = fun _ => 0)

def quiescent_AdamAWOutRefIdeal [hAdamAWOutRefIdeal : Cert.AdamAWOutRefIdeal.Facts] : Prop :=
  ∀ (m : (ℓ : Loc Cert.AdamAWOutRefIdeal.nD Cert.AdamAWOutRefIdeal.τ Cert.AdamAWOutRefIdeal.sig) → Buf (Elt Ideal) ℓ) (g : Dev Cert.AdamAWOutRefIdeal.nD → PrngReg), Pre_AdamAWOutRefIdeal m →
    θ_run (Cert.AdamAWOutRefIdeal.defs (F := Ideal)) (onTc (τ := Cert.AdamAWOutRefIdeal.τ) (Cert.AdamAWOutRefIdeal.main (F := Ideal))) ⟨m, fun _ => 0, g⟩ (fun r => (∀ c : Dev Cert.AdamAWOutRefIdeal.nD,
      r.2.mem ((c.tc : Thread Cert.AdamAWOutRefIdeal.nD Cert.AdamAWOutRefIdeal.τ).loc Cert.AdamAWOutRefIdeal.main_arg0) = m ((c.tc : Thread Cert.AdamAWOutRefIdeal.nD Cert.AdamAWOutRefIdeal.τ).loc Cert.AdamAWOutRefIdeal.main_arg0)
      ∧ r.2.mem ((c.tc : Thread Cert.AdamAWOutRefIdeal.nD Cert.AdamAWOutRefIdeal.τ).loc Cert.AdamAWOutRefIdeal.main_arg1) = m ((c.tc : Thread Cert.AdamAWOutRefIdeal.nD Cert.AdamAWOutRefIdeal.τ).loc Cert.AdamAWOutRefIdeal.main_arg1)
      ∧ r.2.mem ((c.tc : Thread Cert.AdamAWOutRefIdeal.nD Cert.AdamAWOutRefIdeal.τ).loc Cert.AdamAWOutRefIdeal.main_arg2) = m ((c.tc : Thread Cert.AdamAWOutRefIdeal.nD Cert.AdamAWOutRefIdeal.τ).loc Cert.AdamAWOutRefIdeal.main_arg2)
      ∧ r.2.mem ((c.tc : Thread Cert.AdamAWOutRefIdeal.nD Cert.AdamAWOutRefIdeal.τ).loc Cert.AdamAWOutRefIdeal.main_arg3) = m ((c.tc : Thread Cert.AdamAWOutRefIdeal.nD Cert.AdamAWOutRefIdeal.τ).loc Cert.AdamAWOutRefIdeal.main_arg3))
      ∧ r.2.sem = fun _ => 0)

def quiescent_AdamWKv [hAdamWKv : Cert.AdamWKv.Facts] : Prop :=
  ∀ (m : (ℓ : Loc Cert.AdamWKv.nD Cert.AdamWKv.τ Cert.AdamWKv.sig) → Buf (Elt Bits) ℓ) (g : Dev Cert.AdamWKv.nD → PrngReg), Pre_AdamWKv m →
    θ_run (Cert.AdamWKv.defs (F := Bits)) (onTc (τ := Cert.AdamWKv.τ) (Cert.AdamWKv.main (F := Bits))) ⟨m, fun _ => 0, g⟩ (fun r => (∀ c : Dev Cert.AdamWKv.nD,
      r.2.mem ((c.tc : Thread Cert.AdamWKv.nD Cert.AdamWKv.τ).loc Cert.AdamWKv.main_arg0) = m ((c.tc : Thread Cert.AdamWKv.nD Cert.AdamWKv.τ).loc Cert.AdamWKv.main_arg0)
      ∧ r.2.mem ((c.tc : Thread Cert.AdamWKv.nD Cert.AdamWKv.τ).loc Cert.AdamWKv.main_arg1) = m ((c.tc : Thread Cert.AdamWKv.nD Cert.AdamWKv.τ).loc Cert.AdamWKv.main_arg1)
      ∧ r.2.mem ((c.tc : Thread Cert.AdamWKv.nD Cert.AdamWKv.τ).loc Cert.AdamWKv.main_arg2) = m ((c.tc : Thread Cert.AdamWKv.nD Cert.AdamWKv.τ).loc Cert.AdamWKv.main_arg2)
      ∧ r.2.mem ((c.tc : Thread Cert.AdamWKv.nD Cert.AdamWKv.τ).loc Cert.AdamWKv.main_arg3) = m ((c.tc : Thread Cert.AdamWKv.nD Cert.AdamWKv.τ).loc Cert.AdamWKv.main_arg3))
      ∧ r.2.sem = fun _ => 0)

def quiescent_AdamWKvIdeal [hAdamWKvIdeal : Cert.AdamWKvIdeal.Facts] : Prop :=
  ∀ (m : (ℓ : Loc Cert.AdamWKvIdeal.nD Cert.AdamWKvIdeal.τ Cert.AdamWKvIdeal.sig) → Buf (Elt Ideal) ℓ) (g : Dev Cert.AdamWKvIdeal.nD → PrngReg), Pre_AdamWKvIdeal m →
    θ_run (Cert.AdamWKvIdeal.defs (F := Ideal)) (onTc (τ := Cert.AdamWKvIdeal.τ) (Cert.AdamWKvIdeal.main (F := Ideal))) ⟨m, fun _ => 0, g⟩ (fun r => (∀ c : Dev Cert.AdamWKvIdeal.nD,
      r.2.mem ((c.tc : Thread Cert.AdamWKvIdeal.nD Cert.AdamWKvIdeal.τ).loc Cert.AdamWKvIdeal.main_arg0) = m ((c.tc : Thread Cert.AdamWKvIdeal.nD Cert.AdamWKvIdeal.τ).loc Cert.AdamWKvIdeal.main_arg0)
      ∧ r.2.mem ((c.tc : Thread Cert.AdamWKvIdeal.nD Cert.AdamWKvIdeal.τ).loc Cert.AdamWKvIdeal.main_arg1) = m ((c.tc : Thread Cert.AdamWKvIdeal.nD Cert.AdamWKvIdeal.τ).loc Cert.AdamWKvIdeal.main_arg1)
      ∧ r.2.mem ((c.tc : Thread Cert.AdamWKvIdeal.nD Cert.AdamWKvIdeal.τ).loc Cert.AdamWKvIdeal.main_arg2) = m ((c.tc : Thread Cert.AdamWKvIdeal.nD Cert.AdamWKvIdeal.τ).loc Cert.AdamWKvIdeal.main_arg2)
      ∧ r.2.mem ((c.tc : Thread Cert.AdamWKvIdeal.nD Cert.AdamWKvIdeal.τ).loc Cert.AdamWKvIdeal.main_arg3) = m ((c.tc : Thread Cert.AdamWKvIdeal.nD Cert.AdamWKvIdeal.τ).loc Cert.AdamWKvIdeal.main_arg3))
      ∧ r.2.sem = fun _ => 0)

def quiescent_AdamWKvRefIdeal [hAdamWKvRefIdeal : Cert.AdamWKvRefIdeal.Facts] : Prop :=
  ∀ (m : (ℓ : Loc Cert.AdamWKvRefIdeal.nD Cert.AdamWKvRefIdeal.τ Cert.AdamWKvRefIdeal.sig) → Buf (Elt Ideal) ℓ) (g : Dev Cert.AdamWKvRefIdeal.nD → PrngReg), Pre_AdamWKvRefIdeal m →
    θ_run (Cert.AdamWKvRefIdeal.defs (F := Ideal)) (onTc (τ := Cert.AdamWKvRefIdeal.τ) (Cert.AdamWKvRefIdeal.main (F := Ideal))) ⟨m, fun _ => 0, g⟩ (fun r => (∀ c : Dev Cert.AdamWKvRefIdeal.nD,
      r.2.mem ((c.tc : Thread Cert.AdamWKvRefIdeal.nD Cert.AdamWKvRefIdeal.τ).loc Cert.AdamWKvRefIdeal.main_arg0) = m ((c.tc : Thread Cert.AdamWKvRefIdeal.nD Cert.AdamWKvRefIdeal.τ).loc Cert.AdamWKvRefIdeal.main_arg0)
      ∧ r.2.mem ((c.tc : Thread Cert.AdamWKvRefIdeal.nD Cert.AdamWKvRefIdeal.τ).loc Cert.AdamWKvRefIdeal.main_arg1) = m ((c.tc : Thread Cert.AdamWKvRefIdeal.nD Cert.AdamWKvRefIdeal.τ).loc Cert.AdamWKvRefIdeal.main_arg1)
      ∧ r.2.mem ((c.tc : Thread Cert.AdamWKvRefIdeal.nD Cert.AdamWKvRefIdeal.τ).loc Cert.AdamWKvRefIdeal.main_arg2) = m ((c.tc : Thread Cert.AdamWKvRefIdeal.nD Cert.AdamWKvRefIdeal.τ).loc Cert.AdamWKvRefIdeal.main_arg2)
      ∧ r.2.mem ((c.tc : Thread Cert.AdamWKvRefIdeal.nD Cert.AdamWKvRefIdeal.τ).loc Cert.AdamWKvRefIdeal.main_arg3) = m ((c.tc : Thread Cert.AdamWKvRefIdeal.nD Cert.AdamWKvRefIdeal.τ).loc Cert.AdamWKvRefIdeal.main_arg3))
      ∧ r.2.sem = fun _ => 0)

def quiescent_AdamBWQ [hAdamBWQ : Cert.AdamBWQ.Facts] : Prop :=
  ∀ (m : (ℓ : Loc Cert.AdamBWQ.nD Cert.AdamBWQ.τ Cert.AdamBWQ.sig) → Buf (Elt Bits) ℓ) (g : Dev Cert.AdamBWQ.nD → PrngReg), Pre_AdamBWQ m →
    θ_run (Cert.AdamBWQ.defs (F := Bits)) (onTc (τ := Cert.AdamBWQ.τ) (Cert.AdamBWQ.main (F := Bits))) ⟨m, fun _ => 0, g⟩ (fun r => (∀ c : Dev Cert.AdamBWQ.nD,
      r.2.mem ((c.tc : Thread Cert.AdamBWQ.nD Cert.AdamBWQ.τ).loc Cert.AdamBWQ.main_arg0) = m ((c.tc : Thread Cert.AdamBWQ.nD Cert.AdamBWQ.τ).loc Cert.AdamBWQ.main_arg0)
      ∧ r.2.mem ((c.tc : Thread Cert.AdamBWQ.nD Cert.AdamBWQ.τ).loc Cert.AdamBWQ.main_arg1) = m ((c.tc : Thread Cert.AdamBWQ.nD Cert.AdamBWQ.τ).loc Cert.AdamBWQ.main_arg1)
      ∧ r.2.mem ((c.tc : Thread Cert.AdamBWQ.nD Cert.AdamBWQ.τ).loc Cert.AdamBWQ.main_arg2) = m ((c.tc : Thread Cert.AdamBWQ.nD Cert.AdamBWQ.τ).loc Cert.AdamBWQ.main_arg2)
      ∧ r.2.mem ((c.tc : Thread Cert.AdamBWQ.nD Cert.AdamBWQ.τ).loc Cert.AdamBWQ.main_arg3) = m ((c.tc : Thread Cert.AdamBWQ.nD Cert.AdamBWQ.τ).loc Cert.AdamBWQ.main_arg3))
      ∧ r.2.sem = fun _ => 0)

def quiescent_AdamBWQIdeal [hAdamBWQIdeal : Cert.AdamBWQIdeal.Facts] : Prop :=
  ∀ (m : (ℓ : Loc Cert.AdamBWQIdeal.nD Cert.AdamBWQIdeal.τ Cert.AdamBWQIdeal.sig) → Buf (Elt Ideal) ℓ) (g : Dev Cert.AdamBWQIdeal.nD → PrngReg), Pre_AdamBWQIdeal m →
    θ_run (Cert.AdamBWQIdeal.defs (F := Ideal)) (onTc (τ := Cert.AdamBWQIdeal.τ) (Cert.AdamBWQIdeal.main (F := Ideal))) ⟨m, fun _ => 0, g⟩ (fun r => (∀ c : Dev Cert.AdamBWQIdeal.nD,
      r.2.mem ((c.tc : Thread Cert.AdamBWQIdeal.nD Cert.AdamBWQIdeal.τ).loc Cert.AdamBWQIdeal.main_arg0) = m ((c.tc : Thread Cert.AdamBWQIdeal.nD Cert.AdamBWQIdeal.τ).loc Cert.AdamBWQIdeal.main_arg0)
      ∧ r.2.mem ((c.tc : Thread Cert.AdamBWQIdeal.nD Cert.AdamBWQIdeal.τ).loc Cert.AdamBWQIdeal.main_arg1) = m ((c.tc : Thread Cert.AdamBWQIdeal.nD Cert.AdamBWQIdeal.τ).loc Cert.AdamBWQIdeal.main_arg1)
      ∧ r.2.mem ((c.tc : Thread Cert.AdamBWQIdeal.nD Cert.AdamBWQIdeal.τ).loc Cert.AdamBWQIdeal.main_arg2) = m ((c.tc : Thread Cert.AdamBWQIdeal.nD Cert.AdamBWQIdeal.τ).loc Cert.AdamBWQIdeal.main_arg2)
      ∧ r.2.mem ((c.tc : Thread Cert.AdamBWQIdeal.nD Cert.AdamBWQIdeal.τ).loc Cert.AdamBWQIdeal.main_arg3) = m ((c.tc : Thread Cert.AdamBWQIdeal.nD Cert.AdamBWQIdeal.τ).loc Cert.AdamBWQIdeal.main_arg3))
      ∧ r.2.sem = fun _ => 0)

def quiescent_AdamBWQRefIdeal [hAdamBWQRefIdeal : Cert.AdamBWQRefIdeal.Facts] : Prop :=
  ∀ (m : (ℓ : Loc Cert.AdamBWQRefIdeal.nD Cert.AdamBWQRefIdeal.τ Cert.AdamBWQRefIdeal.sig) → Buf (Elt Ideal) ℓ) (g : Dev Cert.AdamBWQRefIdeal.nD → PrngReg), Pre_AdamBWQRefIdeal m →
    θ_run (Cert.AdamBWQRefIdeal.defs (F := Ideal)) (onTc (τ := Cert.AdamBWQRefIdeal.τ) (Cert.AdamBWQRefIdeal.main (F := Ideal))) ⟨m, fun _ => 0, g⟩ (fun r => (∀ c : Dev Cert.AdamBWQRefIdeal.nD,
      r.2.mem ((c.tc : Thread Cert.AdamBWQRefIdeal.nD Cert.AdamBWQRefIdeal.τ).loc Cert.AdamBWQRefIdeal.main_arg0) = m ((c.tc : Thread Cert.AdamBWQRefIdeal.nD Cert.AdamBWQRefIdeal.τ).loc Cert.AdamBWQRefIdeal.main_arg0)
      ∧ r.2.mem ((c.tc : Thread Cert.AdamBWQRefIdeal.nD Cert.AdamBWQRefIdeal.τ).loc Cert.AdamBWQRefIdeal.main_arg1) = m ((c.tc : Thread Cert.AdamBWQRefIdeal.nD Cert.AdamBWQRefIdeal.τ).loc Cert.AdamBWQRefIdeal.main_arg1)
      ∧ r.2.mem ((c.tc : Thread Cert.AdamBWQRefIdeal.nD Cert.AdamBWQRefIdeal.τ).loc Cert.AdamBWQRefIdeal.main_arg2) = m ((c.tc : Thread Cert.AdamBWQRefIdeal.nD Cert.AdamBWQRefIdeal.τ).loc Cert.AdamBWQRefIdeal.main_arg2)
      ∧ r.2.mem ((c.tc : Thread Cert.AdamBWQRefIdeal.nD Cert.AdamBWQRefIdeal.τ).loc Cert.AdamBWQRefIdeal.main_arg3) = m ((c.tc : Thread Cert.AdamBWQRefIdeal.nD Cert.AdamBWQRefIdeal.τ).loc Cert.AdamBWQRefIdeal.main_arg3))
      ∧ r.2.sem = fun _ => 0)

def quiescent_AdamBWO [hAdamBWO : Cert.AdamBWO.Facts] : Prop :=
  ∀ (m : (ℓ : Loc Cert.AdamBWO.nD Cert.AdamBWO.τ Cert.AdamBWO.sig) → Buf (Elt Bits) ℓ) (g : Dev Cert.AdamBWO.nD → PrngReg), Pre_AdamBWO m →
    θ_run (Cert.AdamBWO.defs (F := Bits)) (onTc (τ := Cert.AdamBWO.τ) (Cert.AdamBWO.main (F := Bits))) ⟨m, fun _ => 0, g⟩ (fun r => (∀ c : Dev Cert.AdamBWO.nD,
      r.2.mem ((c.tc : Thread Cert.AdamBWO.nD Cert.AdamBWO.τ).loc Cert.AdamBWO.main_arg0) = m ((c.tc : Thread Cert.AdamBWO.nD Cert.AdamBWO.τ).loc Cert.AdamBWO.main_arg0)
      ∧ r.2.mem ((c.tc : Thread Cert.AdamBWO.nD Cert.AdamBWO.τ).loc Cert.AdamBWO.main_arg1) = m ((c.tc : Thread Cert.AdamBWO.nD Cert.AdamBWO.τ).loc Cert.AdamBWO.main_arg1)
      ∧ r.2.mem ((c.tc : Thread Cert.AdamBWO.nD Cert.AdamBWO.τ).loc Cert.AdamBWO.main_arg2) = m ((c.tc : Thread Cert.AdamBWO.nD Cert.AdamBWO.τ).loc Cert.AdamBWO.main_arg2)
      ∧ r.2.mem ((c.tc : Thread Cert.AdamBWO.nD Cert.AdamBWO.τ).loc Cert.AdamBWO.main_arg3) = m ((c.tc : Thread Cert.AdamBWO.nD Cert.AdamBWO.τ).loc Cert.AdamBWO.main_arg3))
      ∧ r.2.sem = fun _ => 0)

def quiescent_AdamBWOIdeal [hAdamBWOIdeal : Cert.AdamBWOIdeal.Facts] : Prop :=
  ∀ (m : (ℓ : Loc Cert.AdamBWOIdeal.nD Cert.AdamBWOIdeal.τ Cert.AdamBWOIdeal.sig) → Buf (Elt Ideal) ℓ) (g : Dev Cert.AdamBWOIdeal.nD → PrngReg), Pre_AdamBWOIdeal m →
    θ_run (Cert.AdamBWOIdeal.defs (F := Ideal)) (onTc (τ := Cert.AdamBWOIdeal.τ) (Cert.AdamBWOIdeal.main (F := Ideal))) ⟨m, fun _ => 0, g⟩ (fun r => (∀ c : Dev Cert.AdamBWOIdeal.nD,
      r.2.mem ((c.tc : Thread Cert.AdamBWOIdeal.nD Cert.AdamBWOIdeal.τ).loc Cert.AdamBWOIdeal.main_arg0) = m ((c.tc : Thread Cert.AdamBWOIdeal.nD Cert.AdamBWOIdeal.τ).loc Cert.AdamBWOIdeal.main_arg0)
      ∧ r.2.mem ((c.tc : Thread Cert.AdamBWOIdeal.nD Cert.AdamBWOIdeal.τ).loc Cert.AdamBWOIdeal.main_arg1) = m ((c.tc : Thread Cert.AdamBWOIdeal.nD Cert.AdamBWOIdeal.τ).loc Cert.AdamBWOIdeal.main_arg1)
      ∧ r.2.mem ((c.tc : Thread Cert.AdamBWOIdeal.nD Cert.AdamBWOIdeal.τ).loc Cert.AdamBWOIdeal.main_arg2) = m ((c.tc : Thread Cert.AdamBWOIdeal.nD Cert.AdamBWOIdeal.τ).loc Cert.AdamBWOIdeal.main_arg2)
      ∧ r.2.mem ((c.tc : Thread Cert.AdamBWOIdeal.nD Cert.AdamBWOIdeal.τ).loc Cert.AdamBWOIdeal.main_arg3) = m ((c.tc : Thread Cert.AdamBWOIdeal.nD Cert.AdamBWOIdeal.τ).loc Cert.AdamBWOIdeal.main_arg3))
      ∧ r.2.sem = fun _ => 0)

def quiescent_AdamBWORefIdeal [hAdamBWORefIdeal : Cert.AdamBWORefIdeal.Facts] : Prop :=
  ∀ (m : (ℓ : Loc Cert.AdamBWORefIdeal.nD Cert.AdamBWORefIdeal.τ Cert.AdamBWORefIdeal.sig) → Buf (Elt Ideal) ℓ) (g : Dev Cert.AdamBWORefIdeal.nD → PrngReg), Pre_AdamBWORefIdeal m →
    θ_run (Cert.AdamBWORefIdeal.defs (F := Ideal)) (onTc (τ := Cert.AdamBWORefIdeal.τ) (Cert.AdamBWORefIdeal.main (F := Ideal))) ⟨m, fun _ => 0, g⟩ (fun r => (∀ c : Dev Cert.AdamBWORefIdeal.nD,
      r.2.mem ((c.tc : Thread Cert.AdamBWORefIdeal.nD Cert.AdamBWORefIdeal.τ).loc Cert.AdamBWORefIdeal.main_arg0) = m ((c.tc : Thread Cert.AdamBWORefIdeal.nD Cert.AdamBWORefIdeal.τ).loc Cert.AdamBWORefIdeal.main_arg0)
      ∧ r.2.mem ((c.tc : Thread Cert.AdamBWORefIdeal.nD Cert.AdamBWORefIdeal.τ).loc Cert.AdamBWORefIdeal.main_arg1) = m ((c.tc : Thread Cert.AdamBWORefIdeal.nD Cert.AdamBWORefIdeal.τ).loc Cert.AdamBWORefIdeal.main_arg1)
      ∧ r.2.mem ((c.tc : Thread Cert.AdamBWORefIdeal.nD Cert.AdamBWORefIdeal.τ).loc Cert.AdamBWORefIdeal.main_arg2) = m ((c.tc : Thread Cert.AdamBWORefIdeal.nD Cert.AdamBWORefIdeal.τ).loc Cert.AdamBWORefIdeal.main_arg2)
      ∧ r.2.mem ((c.tc : Thread Cert.AdamBWORefIdeal.nD Cert.AdamBWORefIdeal.τ).loc Cert.AdamBWORefIdeal.main_arg3) = m ((c.tc : Thread Cert.AdamBWORefIdeal.nD Cert.AdamBWORefIdeal.τ).loc Cert.AdamBWORefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_GdnInBaDw [hGdnInBaDw : Cert.GdnInBaDw.Facts] : Prop :=
  ∀ (m : (ℓ : Loc Cert.GdnInBaDw.nD Cert.GdnInBaDw.τ Cert.GdnInBaDw.sig) → Buf (Elt Bits) ℓ) (g : Dev Cert.GdnInBaDw.nD → PrngReg), Pre_GdnInBaDw m →
    θ_run (Cert.GdnInBaDw.defs (F := Bits)) (onTc (τ := Cert.GdnInBaDw.τ) (Cert.GdnInBaDw.main (F := Bits))) ⟨m, fun _ => 0, g⟩ (fun r => (∀ c : Dev Cert.GdnInBaDw.nD,
      r.2.mem ((c.tc : Thread Cert.GdnInBaDw.nD Cert.GdnInBaDw.τ).loc Cert.GdnInBaDw.main_arg0) = m ((c.tc : Thread Cert.GdnInBaDw.nD Cert.GdnInBaDw.τ).loc Cert.GdnInBaDw.main_arg0)
      ∧ r.2.mem ((c.tc : Thread Cert.GdnInBaDw.nD Cert.GdnInBaDw.τ).loc Cert.GdnInBaDw.main_arg1) = m ((c.tc : Thread Cert.GdnInBaDw.nD Cert.GdnInBaDw.τ).loc Cert.GdnInBaDw.main_arg1)
      ∧ r.2.mem ((c.tc : Thread Cert.GdnInBaDw.nD Cert.GdnInBaDw.τ).loc Cert.GdnInBaDw.main_arg2) = m ((c.tc : Thread Cert.GdnInBaDw.nD Cert.GdnInBaDw.τ).loc Cert.GdnInBaDw.main_arg2))
      ∧ r.2.sem = fun _ => 0)

def quiescent_GdnInBaDwIdeal [hGdnInBaDwIdeal : Cert.GdnInBaDwIdeal.Facts] : Prop :=
  ∀ (m : (ℓ : Loc Cert.GdnInBaDwIdeal.nD Cert.GdnInBaDwIdeal.τ Cert.GdnInBaDwIdeal.sig) → Buf (Elt Ideal) ℓ) (g : Dev Cert.GdnInBaDwIdeal.nD → PrngReg), Pre_GdnInBaDwIdeal m →
    θ_run (Cert.GdnInBaDwIdeal.defs (F := Ideal)) (onTc (τ := Cert.GdnInBaDwIdeal.τ) (Cert.GdnInBaDwIdeal.main (F := Ideal))) ⟨m, fun _ => 0, g⟩ (fun r => (∀ c : Dev Cert.GdnInBaDwIdeal.nD,
      r.2.mem ((c.tc : Thread Cert.GdnInBaDwIdeal.nD Cert.GdnInBaDwIdeal.τ).loc Cert.GdnInBaDwIdeal.main_arg0) = m ((c.tc : Thread Cert.GdnInBaDwIdeal.nD Cert.GdnInBaDwIdeal.τ).loc Cert.GdnInBaDwIdeal.main_arg0)
      ∧ r.2.mem ((c.tc : Thread Cert.GdnInBaDwIdeal.nD Cert.GdnInBaDwIdeal.τ).loc Cert.GdnInBaDwIdeal.main_arg1) = m ((c.tc : Thread Cert.GdnInBaDwIdeal.nD Cert.GdnInBaDwIdeal.τ).loc Cert.GdnInBaDwIdeal.main_arg1)
      ∧ r.2.mem ((c.tc : Thread Cert.GdnInBaDwIdeal.nD Cert.GdnInBaDwIdeal.τ).loc Cert.GdnInBaDwIdeal.main_arg2) = m ((c.tc : Thread Cert.GdnInBaDwIdeal.nD Cert.GdnInBaDwIdeal.τ).loc Cert.GdnInBaDwIdeal.main_arg2))
      ∧ r.2.sem = fun _ => 0)

def quiescent_GdnInBaDwRefIdeal [hGdnInBaDwRefIdeal : Cert.GdnInBaDwRefIdeal.Facts] : Prop :=
  ∀ (m : (ℓ : Loc Cert.GdnInBaDwRefIdeal.nD Cert.GdnInBaDwRefIdeal.τ Cert.GdnInBaDwRefIdeal.sig) → Buf (Elt Ideal) ℓ) (g : Dev Cert.GdnInBaDwRefIdeal.nD → PrngReg), Pre_GdnInBaDwRefIdeal m →
    θ_run (Cert.GdnInBaDwRefIdeal.defs (F := Ideal)) (onTc (τ := Cert.GdnInBaDwRefIdeal.τ) (Cert.GdnInBaDwRefIdeal.main (F := Ideal))) ⟨m, fun _ => 0, g⟩ (fun r => (∀ c : Dev Cert.GdnInBaDwRefIdeal.nD,
      r.2.mem ((c.tc : Thread Cert.GdnInBaDwRefIdeal.nD Cert.GdnInBaDwRefIdeal.τ).loc Cert.GdnInBaDwRefIdeal.main_arg0) = m ((c.tc : Thread Cert.GdnInBaDwRefIdeal.nD Cert.GdnInBaDwRefIdeal.τ).loc Cert.GdnInBaDwRefIdeal.main_arg0)
      ∧ r.2.mem ((c.tc : Thread Cert.GdnInBaDwRefIdeal.nD Cert.GdnInBaDwRefIdeal.τ).loc Cert.GdnInBaDwRefIdeal.main_arg1) = m ((c.tc : Thread Cert.GdnInBaDwRefIdeal.nD Cert.GdnInBaDwRefIdeal.τ).loc Cert.GdnInBaDwRefIdeal.main_arg1)
      ∧ r.2.mem ((c.tc : Thread Cert.GdnInBaDwRefIdeal.nD Cert.GdnInBaDwRefIdeal.τ).loc Cert.GdnInBaDwRefIdeal.main_arg2) = m ((c.tc : Thread Cert.GdnInBaDwRefIdeal.nD Cert.GdnInBaDwRefIdeal.τ).loc Cert.GdnInBaDwRefIdeal.main_arg2))
      ∧ r.2.sem = fun _ => 0)

def quiescent_RelBiasDw [hRelBiasDw : Cert.RelBiasDw.Facts] : Prop :=
  ∀ (m : (ℓ : Loc Cert.RelBiasDw.nD Cert.RelBiasDw.τ Cert.RelBiasDw.sig) → Buf (Elt Bits) ℓ) (g : Dev Cert.RelBiasDw.nD → PrngReg), Pre_RelBiasDw m →
    θ_run (Cert.RelBiasDw.defs (F := Bits)) (onTc (τ := Cert.RelBiasDw.τ) (Cert.RelBiasDw.main (F := Bits))) ⟨m, fun _ => 0, g⟩ (fun r => (∀ c : Dev Cert.RelBiasDw.nD,
      r.2.mem ((c.tc : Thread Cert.RelBiasDw.nD Cert.RelBiasDw.τ).loc Cert.RelBiasDw.main_arg0) = m ((c.tc : Thread Cert.RelBiasDw.nD Cert.RelBiasDw.τ).loc Cert.RelBiasDw.main_arg0))
      ∧ r.2.sem = fun _ => 0)

def quiescent_RelBiasDwIdeal [hRelBiasDwIdeal : Cert.RelBiasDwIdeal.Facts] : Prop :=
  ∀ (m : (ℓ : Loc Cert.RelBiasDwIdeal.nD Cert.RelBiasDwIdeal.τ Cert.RelBiasDwIdeal.sig) → Buf (Elt Ideal) ℓ) (g : Dev Cert.RelBiasDwIdeal.nD → PrngReg), Pre_RelBiasDwIdeal m →
    θ_run (Cert.RelBiasDwIdeal.defs (F := Ideal)) (onTc (τ := Cert.RelBiasDwIdeal.τ) (Cert.RelBiasDwIdeal.main (F := Ideal))) ⟨m, fun _ => 0, g⟩ (fun r => (∀ c : Dev Cert.RelBiasDwIdeal.nD,
      r.2.mem ((c.tc : Thread Cert.RelBiasDwIdeal.nD Cert.RelBiasDwIdeal.τ).loc Cert.RelBiasDwIdeal.main_arg0) = m ((c.tc : Thread Cert.RelBiasDwIdeal.nD Cert.RelBiasDwIdeal.τ).loc Cert.RelBiasDwIdeal.main_arg0))
      ∧ r.2.sem = fun _ => 0)

def quiescent_RelBiasDwRefIdeal [hRelBiasDwRefIdeal : Cert.RelBiasDwRefIdeal.Facts] : Prop :=
  ∀ (m : (ℓ : Loc Cert.RelBiasDwRefIdeal.nD Cert.RelBiasDwRefIdeal.τ Cert.RelBiasDwRefIdeal.sig) → Buf (Elt Ideal) ℓ) (g : Dev Cert.RelBiasDwRefIdeal.nD → PrngReg), Pre_RelBiasDwRefIdeal m →
    θ_run (Cert.RelBiasDwRefIdeal.defs (F := Ideal)) (onTc (τ := Cert.RelBiasDwRefIdeal.τ) (Cert.RelBiasDwRefIdeal.main (F := Ideal))) ⟨m, fun _ => 0, g⟩ (fun r => (∀ c : Dev Cert.RelBiasDwRefIdeal.nD,
      r.2.mem ((c.tc : Thread Cert.RelBiasDwRefIdeal.nD Cert.RelBiasDwRefIdeal.τ).loc Cert.RelBiasDwRefIdeal.main_arg0) = m ((c.tc : Thread Cert.RelBiasDwRefIdeal.nD Cert.RelBiasDwRefIdeal.τ).loc Cert.RelBiasDwRefIdeal.main_arg0))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_GnormBwd [hGnormBwd : Cert.GnormBwd.Facts] : Prop :=
  ∀ (m : (ℓ : Loc Cert.GnormBwd.nD Cert.GnormBwd.τ Cert.GnormBwd.sig) → Buf (Elt Bits) ℓ) (g : Dev Cert.GnormBwd.nD → PrngReg), Pre_GnormBwd m →
    θ_run (Cert.GnormBwd.defs (F := Bits)) (onTc (τ := Cert.GnormBwd.τ) (Cert.GnormBwd.main (F := Bits))) ⟨m, fun _ => 0, g⟩ (fun r => (∀ c : Dev Cert.GnormBwd.nD,
      r.2.mem ((c.tc : Thread Cert.GnormBwd.nD Cert.GnormBwd.τ).loc Cert.GnormBwd.main_arg0) = m ((c.tc : Thread Cert.GnormBwd.nD Cert.GnormBwd.τ).loc Cert.GnormBwd.main_arg0)
      ∧ r.2.mem ((c.tc : Thread Cert.GnormBwd.nD Cert.GnormBwd.τ).loc Cert.GnormBwd.main_arg1) = m ((c.tc : Thread Cert.GnormBwd.nD Cert.GnormBwd.τ).loc Cert.GnormBwd.main_arg1)
      ∧ r.2.mem ((c.tc : Thread Cert.GnormBwd.nD Cert.GnormBwd.τ).loc Cert.GnormBwd.main_arg2) = m ((c.tc : Thread Cert.GnormBwd.nD Cert.GnormBwd.τ).loc Cert.GnormBwd.main_arg2)
      ∧ r.2.mem ((c.tc : Thread Cert.GnormBwd.nD Cert.GnormBwd.τ).loc Cert.GnormBwd.main_arg3) = m ((c.tc : Thread Cert.GnormBwd.nD Cert.GnormBwd.τ).loc Cert.GnormBwd.main_arg3))
      ∧ r.2.sem = fun _ => 0)

def quiescent_GnormBwdIdeal [hGnormBwdIdeal : Cert.GnormBwdIdeal.Facts] : Prop :=
  ∀ (m : (ℓ : Loc Cert.GnormBwdIdeal.nD Cert.GnormBwdIdeal.τ Cert.GnormBwdIdeal.sig) → Buf (Elt Ideal) ℓ) (g : Dev Cert.GnormBwdIdeal.nD → PrngReg), Pre_GnormBwdIdeal m →
    θ_run (Cert.GnormBwdIdeal.defs (F := Ideal)) (onTc (τ := Cert.GnormBwdIdeal.τ) (Cert.GnormBwdIdeal.main (F := Ideal))) ⟨m, fun _ => 0, g⟩ (fun r => (∀ c : Dev Cert.GnormBwdIdeal.nD,
      r.2.mem ((c.tc : Thread Cert.GnormBwdIdeal.nD Cert.GnormBwdIdeal.τ).loc Cert.GnormBwdIdeal.main_arg0) = m ((c.tc : Thread Cert.GnormBwdIdeal.nD Cert.GnormBwdIdeal.τ).loc Cert.GnormBwdIdeal.main_arg0)
      ∧ r.2.mem ((c.tc : Thread Cert.GnormBwdIdeal.nD Cert.GnormBwdIdeal.τ).loc Cert.GnormBwdIdeal.main_arg1) = m ((c.tc : Thread Cert.GnormBwdIdeal.nD Cert.GnormBwdIdeal.τ).loc Cert.GnormBwdIdeal.main_arg1)
      ∧ r.2.mem ((c.tc : Thread Cert.GnormBwdIdeal.nD Cert.GnormBwdIdeal.τ).loc Cert.GnormBwdIdeal.main_arg2) = m ((c.tc : Thread Cert.GnormBwdIdeal.nD Cert.GnormBwdIdeal.τ).loc Cert.GnormBwdIdeal.main_arg2)
      ∧ r.2.mem ((c.tc : Thread Cert.GnormBwdIdeal.nD Cert.GnormBwdIdeal.τ).loc Cert.GnormBwdIdeal.main_arg3) = m ((c.tc : Thread Cert.GnormBwdIdeal.nD Cert.GnormBwdIdeal.τ).loc Cert.GnormBwdIdeal.main_arg3))
      ∧ r.2.sem = fun _ => 0)

def quiescent_GnormBwdRefIdeal [hGnormBwdRefIdeal : Cert.GnormBwdRefIdeal.Facts] : Prop :=
  ∀ (m : (ℓ : Loc Cert.GnormBwdRefIdeal.nD Cert.GnormBwdRefIdeal.τ Cert.GnormBwdRefIdeal.sig) → Buf (Elt Ideal) ℓ) (g : Dev Cert.GnormBwdRefIdeal.nD → PrngReg), Pre_GnormBwdRefIdeal m →
    θ_run (Cert.GnormBwdRefIdeal.defs (F := Ideal)) (onTc (τ := Cert.GnormBwdRefIdeal.τ) (Cert.GnormBwdRefIdeal.main (F := Ideal))) ⟨m, fun _ => 0, g⟩ (fun r => (∀ c : Dev Cert.GnormBwdRefIdeal.nD,
      r.2.mem ((c.tc : Thread Cert.GnormBwdRefIdeal.nD Cert.GnormBwdRefIdeal.τ).loc Cert.GnormBwdRefIdeal.main_arg0) = m ((c.tc : Thread Cert.GnormBwdRefIdeal.nD Cert.GnormBwdRefIdeal.τ).loc Cert.GnormBwdRefIdeal.main_arg0)
      ∧ r.2.mem ((c.tc : Thread Cert.GnormBwdRefIdeal.nD Cert.GnormBwdRefIdeal.τ).loc Cert.GnormBwdRefIdeal.main_arg1) = m ((c.tc : Thread Cert.GnormBwdRefIdeal.nD Cert.GnormBwdRefIdeal.τ).loc Cert.GnormBwdRefIdeal.main_arg1)
      ∧ r.2.mem ((c.tc : Thread Cert.GnormBwdRefIdeal.nD Cert.GnormBwdRefIdeal.τ).loc Cert.GnormBwdRefIdeal.main_arg2) = m ((c.tc : Thread Cert.GnormBwdRefIdeal.nD Cert.GnormBwdRefIdeal.τ).loc Cert.GnormBwdRefIdeal.main_arg2)
      ∧ r.2.mem ((c.tc : Thread Cert.GnormBwdRefIdeal.nD Cert.GnormBwdRefIdeal.τ).loc Cert.GnormBwdRefIdeal.main_arg3) = m ((c.tc : Thread Cert.GnormBwdRefIdeal.nD Cert.GnormBwdRefIdeal.τ).loc Cert.GnormBwdRefIdeal.main_arg3))
      ∧ r.2.sem = fun _ => 0)

def quiescent_FfnActBwd [hFfnActBwd : Cert.FfnActBwd.Facts] : Prop :=
  ∀ (m : (ℓ : Loc Cert.FfnActBwd.nD Cert.FfnActBwd.τ Cert.FfnActBwd.sig) → Buf (Elt Bits) ℓ) (g : Dev Cert.FfnActBwd.nD → PrngReg), Pre_FfnActBwd m →
    θ_run (Cert.FfnActBwd.defs (F := Bits)) (onTc (τ := Cert.FfnActBwd.τ) (Cert.FfnActBwd.main (F := Bits))) ⟨m, fun _ => 0, g⟩ (fun r => (∀ c : Dev Cert.FfnActBwd.nD,
      r.2.mem ((c.tc : Thread Cert.FfnActBwd.nD Cert.FfnActBwd.τ).loc Cert.FfnActBwd.main_arg0) = m ((c.tc : Thread Cert.FfnActBwd.nD Cert.FfnActBwd.τ).loc Cert.FfnActBwd.main_arg0)
      ∧ r.2.mem ((c.tc : Thread Cert.FfnActBwd.nD Cert.FfnActBwd.τ).loc Cert.FfnActBwd.main_arg1) = m ((c.tc : Thread Cert.FfnActBwd.nD Cert.FfnActBwd.τ).loc Cert.FfnActBwd.main_arg1)
      ∧ r.2.mem ((c.tc : Thread Cert.FfnActBwd.nD Cert.FfnActBwd.τ).loc Cert.FfnActBwd.main_arg2) = m ((c.tc : Thread Cert.FfnActBwd.nD Cert.FfnActBwd.τ).loc Cert.FfnActBwd.main_arg2)
      ∧ r.2.mem ((c.tc : Thread Cert.FfnActBwd.nD Cert.FfnActBwd.τ).loc Cert.FfnActBwd.main_arg3) = m ((c.tc : Thread Cert.FfnActBwd.nD Cert.FfnActBwd.τ).loc Cert.FfnActBwd.main_arg3))
      ∧ r.2.sem = fun _ => 0)

def quiescent_FfnActBwdIdeal [hFfnActBwdIdeal : Cert.FfnActBwdIdeal.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
      ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3))
      ∧ r.2.sem = fun _ => 0)

def quiescent_FfnActBwdIdeal_pre_finite [hFfnActBwdIdeal : Cert.FfnActBwdIdeal.Facts] [hPre_finite : Cert.Pre_finite.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg), Pre_FfnActBwdIdeal_finite m →
    θ_run (Cert.FfnActBwdIdeal.defs (F := Ideal)) (onTc (τ := Cert.FfnActBwdIdeal.τ) (Cert.FfnActBwdIdeal.main (F := Ideal))) ⟨m, fun _ => 0, g⟩ (fun r => (∀ c : Dev Cert.FfnActBwdIdeal.nD,
      r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
      ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
      ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
      ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3))
      ∧ r.2.sem = fun _ => 0)

def quiescent_FfnActBwdRefIdeal [hFfnActBwdRefIdeal : Cert.FfnActBwdRefIdeal.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2)
      ∧ r.2.mem ((c.tc : Thread Cert.FfnActBwdRefIdeal.nD Cert.FfnActBwdRefIdeal.τ).loc Cert.FfnActBwdRefIdeal.main_arg3) = m ((c.tc : Thread Cert.FfnActBwdRefIdeal.nD Cert.FfnActBwdRefIdeal.τ).loc Cert.FfnActBwdRefIdeal.main_arg3))
      ∧ r.2.sem = fun _ => 0)

def quiescent_FfnActBwdRefIdeal_pre_finite [hFfnActBwdRefIdeal : Cert.FfnActBwdRefIdeal.Facts] [hPre_finite : Cert.Pre_finite.Facts] : Prop :=
  ∀ (m : (ℓ : Loc Cert.FfnActBwdRefIdeal.nD Cert.FfnActBwdRefIdeal.τ Cert.FfnActBwdRefIdeal.sig) → Buf (Elt Ideal) ℓ) (g : Dev Cert.FfnActBwdRefIdeal.nD → PrngReg), Pre_FfnActBwdRefIdeal_finite m →
    θ_run (Cert.FfnActBwdRefIdeal.defs (F := Ideal)) (onTc (τ := Cert.FfnActBwdRefIdeal.τ) (Cert.FfnActBwdRefIdeal.main (F := Ideal))) ⟨m, fun _ => 0, g⟩ (fun r => (∀ c : Dev Cert.FfnActBwdRefIdeal.nD,
      r.2.mem ((c.tc : Thread Cert.FfnActBwdRefIdeal.nD Cert.FfnActBwdRefIdeal.τ).loc Cert.FfnActBwdRefIdeal.main_arg0) = m ((c.tc : Thread Cert.FfnActBwdRefIdeal.nD Cert.FfnActBwdRefIdeal.τ).loc Cert.FfnActBwdRefIdeal.main_arg0)
      ∧ r.2.mem ((c.tc : Thread Cert.FfnActBwdRefIdeal.nD Cert.FfnActBwdRefIdeal.τ).loc Cert.FfnActBwdRefIdeal.main_arg1) = m ((c.tc : Thread Cert.FfnActBwdRefIdeal.nD Cert.FfnActBwdRefIdeal.τ).loc Cert.FfnActBwdRefIdeal.main_arg1)
      ∧ r.2.mem ((c.tc : Thread Cert.FfnActBwdRefIdeal.nD Cert.FfnActBwdRefIdeal.τ).loc Cert.FfnActBwdRefIdeal.main_arg2) = m ((c.tc : Thread Cert.FfnActBwdRefIdeal.nD Cert.FfnActBwdRefIdeal.τ).loc Cert.FfnActBwdRefIdeal.main_arg2)
      ∧ r.2.mem ((c.tc : Thread Cert.FfnActBwdRefIdeal.nD Cert.FfnActBwdRefIdeal.τ).loc Cert.FfnActBwdRefIdeal.main_arg3) = m ((c.tc : Thread Cert.FfnActBwdRefIdeal.nD Cert.FfnActBwdRefIdeal.τ).loc Cert.FfnActBwdRefIdeal.main_arg3))
      ∧ r.2.sem = fun _ => 0)

def quiescent_GdnPreBwd [hGdnPreBwd : Cert.GdnPreBwd.Facts] : Prop :=
  ∀ (m : (ℓ : Loc Cert.GdnPreBwd.nD Cert.GdnPreBwd.τ Cert.GdnPreBwd.sig) → Buf (Elt Bits) ℓ) (g : Dev Cert.GdnPreBwd.nD → PrngReg), Pre_GdnPreBwd m →
    θ_run (Cert.GdnPreBwd.defs (F := Bits)) (onTc (τ := Cert.GdnPreBwd.τ) (Cert.GdnPreBwd.main (F := Bits))) ⟨m, fun _ => 0, g⟩ (fun r => (∀ c : Dev Cert.GdnPreBwd.nD,
      r.2.mem ((c.tc : Thread Cert.GdnPreBwd.nD Cert.GdnPreBwd.τ).loc Cert.GdnPreBwd.main_arg0) = m ((c.tc : Thread Cert.GdnPreBwd.nD Cert.GdnPreBwd.τ).loc Cert.GdnPreBwd.main_arg0)
      ∧ r.2.mem ((c.tc : Thread Cert.GdnPreBwd.nD Cert.GdnPreBwd.τ).loc Cert.GdnPreBwd.main_arg1) = m ((c.tc : Thread Cert.GdnPreBwd.nD Cert.GdnPreBwd.τ).loc Cert.GdnPreBwd.main_arg1)
      ∧ r.2.mem ((c.tc : Thread Cert.GdnPreBwd.nD Cert.GdnPreBwd.τ).loc Cert.GdnPreBwd.main_arg2) = m ((c.tc : Thread Cert.GdnPreBwd.nD Cert.GdnPreBwd.τ).loc Cert.GdnPreBwd.main_arg2)
      ∧ r.2.mem ((c.tc : Thread Cert.GdnPreBwd.nD Cert.GdnPreBwd.τ).loc Cert.GdnPreBwd.main_arg3) = m ((c.tc : Thread Cert.GdnPreBwd.nD Cert.GdnPreBwd.τ).loc Cert.GdnPreBwd.main_arg3)
      ∧ r.2.mem ((c.tc : Thread Cert.GdnPreBwd.nD Cert.GdnPreBwd.τ).loc Cert.GdnPreBwd.main_arg4) = m ((c.tc : Thread Cert.GdnPreBwd.nD Cert.GdnPreBwd.τ).loc Cert.GdnPreBwd.main_arg4)
      ∧ r.2.mem ((c.tc : Thread Cert.GdnPreBwd.nD Cert.GdnPreBwd.τ).loc Cert.GdnPreBwd.main_arg5) = m ((c.tc : Thread Cert.GdnPreBwd.nD Cert.GdnPreBwd.τ).loc Cert.GdnPreBwd.main_arg5)
      ∧ r.2.mem ((c.tc : Thread Cert.GdnPreBwd.nD Cert.GdnPreBwd.τ).loc Cert.GdnPreBwd.main_arg6) = m ((c.tc : Thread Cert.GdnPreBwd.nD Cert.GdnPreBwd.τ).loc Cert.GdnPreBwd.main_arg6)
      ∧ r.2.mem ((c.tc : Thread Cert.GdnPreBwd.nD Cert.GdnPreBwd.τ).loc Cert.GdnPreBwd.main_arg7) = m ((c.tc : Thread Cert.GdnPreBwd.nD Cert.GdnPreBwd.τ).loc Cert.GdnPreBwd.main_arg7)
      ∧ r.2.mem ((c.tc : Thread Cert.GdnPreBwd.nD Cert.GdnPreBwd.τ).loc Cert.GdnPreBwd.main_arg8) = m ((c.tc : Thread Cert.GdnPreBwd.nD Cert.GdnPreBwd.τ).loc Cert.GdnPreBwd.main_arg8)
      ∧ r.2.mem ((c.tc : Thread Cert.GdnPreBwd.nD Cert.GdnPreBwd.τ).loc Cert.GdnPreBwd.main_arg9) = m ((c.tc : Thread Cert.GdnPreBwd.nD Cert.GdnPreBwd.τ).loc Cert.GdnPreBwd.main_arg9))
      ∧ r.2.sem = fun _ => 0)

def quiescent_GdnPreBwdIdeal [hGdnPreBwdIdeal : Cert.GdnPreBwdIdeal.Facts] : Prop :=
  ∀ (m : (ℓ : Loc Cert.GdnPreBwdIdeal.nD Cert.GdnPreBwdIdeal.τ Cert.GdnPreBwdIdeal.sig) → Buf (Elt Ideal) ℓ) (g : Dev Cert.GdnPreBwdIdeal.nD → PrngReg), Pre_GdnPreBwdIdeal m →
    θ_run (Cert.GdnPreBwdIdeal.defs (F := Ideal)) (onTc (τ := Cert.GdnPreBwdIdeal.τ) (Cert.GdnPreBwdIdeal.main (F := Ideal))) ⟨m, fun _ => 0, g⟩ (fun r => (∀ c : Dev Cert.GdnPreBwdIdeal.nD,
      r.2.mem ((c.tc : Thread Cert.GdnPreBwdIdeal.nD Cert.GdnPreBwdIdeal.τ).loc Cert.GdnPreBwdIdeal.main_arg0) = m ((c.tc : Thread Cert.GdnPreBwdIdeal.nD Cert.GdnPreBwdIdeal.τ).loc Cert.GdnPreBwdIdeal.main_arg0)
      ∧ r.2.mem ((c.tc : Thread Cert.GdnPreBwdIdeal.nD Cert.GdnPreBwdIdeal.τ).loc Cert.GdnPreBwdIdeal.main_arg1) = m ((c.tc : Thread Cert.GdnPreBwdIdeal.nD Cert.GdnPreBwdIdeal.τ).loc Cert.GdnPreBwdIdeal.main_arg1)
      ∧ r.2.mem ((c.tc : Thread Cert.GdnPreBwdIdeal.nD Cert.GdnPreBwdIdeal.τ).loc Cert.GdnPreBwdIdeal.main_arg2) = m ((c.tc : Thread Cert.GdnPreBwdIdeal.nD Cert.GdnPreBwdIdeal.τ).loc Cert.GdnPreBwdIdeal.main_arg2)
      ∧ r.2.mem ((c.tc : Thread Cert.GdnPreBwdIdeal.nD Cert.GdnPreBwdIdeal.τ).loc Cert.GdnPreBwdIdeal.main_arg3) = m ((c.tc : Thread Cert.GdnPreBwdIdeal.nD Cert.GdnPreBwdIdeal.τ).loc Cert.GdnPreBwdIdeal.main_arg3)
      ∧ r.2.mem ((c.tc : Thread Cert.GdnPreBwdIdeal.nD Cert.GdnPreBwdIdeal.τ).loc Cert.GdnPreBwdIdeal.main_arg4) = m ((c.tc : Thread Cert.GdnPreBwdIdeal.nD Cert.GdnPreBwdIdeal.τ).loc Cert.GdnPreBwdIdeal.main_arg4)
      ∧ r.2.mem ((c.tc : Thread Cert.GdnPreBwdIdeal.nD Cert.GdnPreBwdIdeal.τ).loc Cert.GdnPreBwdIdeal.main_arg5) = m ((c.tc : Thread Cert.GdnPreBwdIdeal.nD Cert.GdnPreBwdIdeal.τ).loc Cert.GdnPreBwdIdeal.main_arg5)
      ∧ r.2.mem ((c.tc : Thread Cert.GdnPreBwdIdeal.nD Cert.GdnPreBwdIdeal.τ).loc Cert.GdnPreBwdIdeal.main_arg6) = m ((c.tc : Thread Cert.GdnPreBwdIdeal.nD Cert.GdnPreBwdIdeal.τ).loc Cert.GdnPreBwdIdeal.main_arg6)
      ∧ r.2.mem ((c.tc : Thread Cert.GdnPreBwdIdeal.nD Cert.GdnPreBwdIdeal.τ).loc Cert.GdnPreBwdIdeal.main_arg7) = m ((c.tc : Thread Cert.GdnPreBwdIdeal.nD Cert.GdnPreBwdIdeal.τ).loc Cert.GdnPreBwdIdeal.main_arg7)
      ∧ r.2.mem ((c.tc : Thread Cert.GdnPreBwdIdeal.nD Cert.GdnPreBwdIdeal.τ).loc Cert.GdnPreBwdIdeal.main_arg8) = m ((c.tc : Thread Cert.GdnPreBwdIdeal.nD Cert.GdnPreBwdIdeal.τ).loc Cert.GdnPreBwdIdeal.main_arg8)
      ∧ r.2.mem ((c.tc : Thread Cert.GdnPreBwdIdeal.nD Cert.GdnPreBwdIdeal.τ).loc Cert.GdnPreBwdIdeal.main_arg9) = m ((c.tc : Thread Cert.GdnPreBwdIdeal.nD Cert.GdnPreBwdIdeal.τ).loc Cert.GdnPreBwdIdeal.main_arg9))
      ∧ r.2.sem = fun _ => 0)

def quiescent_GdnPreBwdIdeal_pre_regular_decay [hGdnPreBwdIdeal : Cert.GdnPreBwdIdeal.Facts] [hPre_regular_decay : Cert.Pre_regular_decay.Facts] : Prop :=
  ∀ (m : (ℓ : Loc Cert.GdnPreBwdIdeal.nD Cert.GdnPreBwdIdeal.τ Cert.GdnPreBwdIdeal.sig) → Buf (Elt Ideal) ℓ) (g : Dev Cert.GdnPreBwdIdeal.nD → PrngReg), Pre_GdnPreBwdIdeal_regular_decay m →
    θ_run (Cert.GdnPreBwdIdeal.defs (F := Ideal)) (onTc (τ := Cert.GdnPreBwdIdeal.τ) (Cert.GdnPreBwdIdeal.main (F := Ideal))) ⟨m, fun _ => 0, g⟩ (fun r => (∀ c : Dev Cert.GdnPreBwdIdeal.nD,
      r.2.mem ((c.tc : Thread Cert.GdnPreBwdIdeal.nD Cert.GdnPreBwdIdeal.τ).loc Cert.GdnPreBwdIdeal.main_arg0) = m ((c.tc : Thread Cert.GdnPreBwdIdeal.nD Cert.GdnPreBwdIdeal.τ).loc Cert.GdnPreBwdIdeal.main_arg0)
      ∧ r.2.mem ((c.tc : Thread Cert.GdnPreBwdIdeal.nD Cert.GdnPreBwdIdeal.τ).loc Cert.GdnPreBwdIdeal.main_arg1) = m ((c.tc : Thread Cert.GdnPreBwdIdeal.nD Cert.GdnPreBwdIdeal.τ).loc Cert.GdnPreBwdIdeal.main_arg1)
      ∧ r.2.mem ((c.tc : Thread Cert.GdnPreBwdIdeal.nD Cert.GdnPreBwdIdeal.τ).loc Cert.GdnPreBwdIdeal.main_arg2) = m ((c.tc : Thread Cert.GdnPreBwdIdeal.nD Cert.GdnPreBwdIdeal.τ).loc Cert.GdnPreBwdIdeal.main_arg2)
      ∧ r.2.mem ((c.tc : Thread Cert.GdnPreBwdIdeal.nD Cert.GdnPreBwdIdeal.τ).loc Cert.GdnPreBwdIdeal.main_arg3) = m ((c.tc : Thread Cert.GdnPreBwdIdeal.nD Cert.GdnPreBwdIdeal.τ).loc Cert.GdnPreBwdIdeal.main_arg3)
      ∧ r.2.mem ((c.tc : Thread Cert.GdnPreBwdIdeal.nD Cert.GdnPreBwdIdeal.τ).loc Cert.GdnPreBwdIdeal.main_arg4) = m ((c.tc : Thread Cert.GdnPreBwdIdeal.nD Cert.GdnPreBwdIdeal.τ).loc Cert.GdnPreBwdIdeal.main_arg4)
      ∧ r.2.mem ((c.tc : Thread Cert.GdnPreBwdIdeal.nD Cert.GdnPreBwdIdeal.τ).loc Cert.GdnPreBwdIdeal.main_arg5) = m ((c.tc : Thread Cert.GdnPreBwdIdeal.nD Cert.GdnPreBwdIdeal.τ).loc Cert.GdnPreBwdIdeal.main_arg5)
      ∧ r.2.mem ((c.tc : Thread Cert.GdnPreBwdIdeal.nD Cert.GdnPreBwdIdeal.τ).loc Cert.GdnPreBwdIdeal.main_arg6) = m ((c.tc : Thread Cert.GdnPreBwdIdeal.nD Cert.GdnPreBwdIdeal.τ).loc Cert.GdnPreBwdIdeal.main_arg6)
      ∧ r.2.mem ((c.tc : Thread Cert.GdnPreBwdIdeal.nD Cert.GdnPreBwdIdeal.τ).loc Cert.GdnPreBwdIdeal.main_arg7) = m ((c.tc : Thread Cert.GdnPreBwdIdeal.nD Cert.GdnPreBwdIdeal.τ).loc Cert.GdnPreBwdIdeal.main_arg7)
      ∧ r.2.mem ((c.tc : Thread Cert.GdnPreBwdIdeal.nD Cert.GdnPreBwdIdeal.τ).loc Cert.GdnPreBwdIdeal.main_arg8) = m ((c.tc : Thread Cert.GdnPreBwdIdeal.nD Cert.GdnPreBwdIdeal.τ).loc Cert.GdnPreBwdIdeal.main_arg8)
      ∧ r.2.mem ((c.tc : Thread Cert.GdnPreBwdIdeal.nD Cert.GdnPreBwdIdeal.τ).loc Cert.GdnPreBwdIdeal.main_arg9) = m ((c.tc : Thread Cert.GdnPreBwdIdeal.nD Cert.GdnPreBwdIdeal.τ).loc Cert.GdnPreBwdIdeal.main_arg9))
      ∧ r.2.sem = fun _ => 0)

def quiescent_GdnPreBwdRefIdeal [hGdnPreBwdRefIdeal : Cert.GdnPreBwdRefIdeal.Facts] : Prop :=
  ∀ (m : (ℓ : Loc Cert.GdnPreBwdRefIdeal.nD Cert.GdnPreBwdRefIdeal.τ Cert.GdnPreBwdRefIdeal.sig) → Buf (Elt Ideal) ℓ) (g : Dev Cert.GdnPreBwdRefIdeal.nD → PrngReg), Pre_GdnPreBwdRefIdeal m →
    θ_run (Cert.GdnPreBwdRefIdeal.defs (F := Ideal)) (onTc (τ := Cert.GdnPreBwdRefIdeal.τ) (Cert.GdnPreBwdRefIdeal.main (F := Ideal))) ⟨m, fun _ => 0, g⟩ (fun r => (∀ c : Dev Cert.GdnPreBwdRefIdeal.nD,
      r.2.mem ((c.tc : Thread Cert.GdnPreBwdRefIdeal.nD Cert.GdnPreBwdRefIdeal.τ).loc Cert.GdnPreBwdRefIdeal.main_arg0) = m ((c.tc : Thread Cert.GdnPreBwdRefIdeal.nD Cert.GdnPreBwdRefIdeal.τ).loc Cert.GdnPreBwdRefIdeal.main_arg0)
      ∧ r.2.mem ((c.tc : Thread Cert.GdnPreBwdRefIdeal.nD Cert.GdnPreBwdRefIdeal.τ).loc Cert.GdnPreBwdRefIdeal.main_arg1) = m ((c.tc : Thread Cert.GdnPreBwdRefIdeal.nD Cert.GdnPreBwdRefIdeal.τ).loc Cert.GdnPreBwdRefIdeal.main_arg1)
      ∧ r.2.mem ((c.tc : Thread Cert.GdnPreBwdRefIdeal.nD Cert.GdnPreBwdRefIdeal.τ).loc Cert.GdnPreBwdRefIdeal.main_arg2) = m ((c.tc : Thread Cert.GdnPreBwdRefIdeal.nD Cert.GdnPreBwdRefIdeal.τ).loc Cert.GdnPreBwdRefIdeal.main_arg2)
      ∧ r.2.mem ((c.tc : Thread Cert.GdnPreBwdRefIdeal.nD Cert.GdnPreBwdRefIdeal.τ).loc Cert.GdnPreBwdRefIdeal.main_arg3) = m ((c.tc : Thread Cert.GdnPreBwdRefIdeal.nD Cert.GdnPreBwdRefIdeal.τ).loc Cert.GdnPreBwdRefIdeal.main_arg3)
      ∧ r.2.mem ((c.tc : Thread Cert.GdnPreBwdRefIdeal.nD Cert.GdnPreBwdRefIdeal.τ).loc Cert.GdnPreBwdRefIdeal.main_arg4) = m ((c.tc : Thread Cert.GdnPreBwdRefIdeal.nD Cert.GdnPreBwdRefIdeal.τ).loc Cert.GdnPreBwdRefIdeal.main_arg4)
      ∧ r.2.mem ((c.tc : Thread Cert.GdnPreBwdRefIdeal.nD Cert.GdnPreBwdRefIdeal.τ).loc Cert.GdnPreBwdRefIdeal.main_arg5) = m ((c.tc : Thread Cert.GdnPreBwdRefIdeal.nD Cert.GdnPreBwdRefIdeal.τ).loc Cert.GdnPreBwdRefIdeal.main_arg5)
      ∧ r.2.mem ((c.tc : Thread Cert.GdnPreBwdRefIdeal.nD Cert.GdnPreBwdRefIdeal.τ).loc Cert.GdnPreBwdRefIdeal.main_arg6) = m ((c.tc : Thread Cert.GdnPreBwdRefIdeal.nD Cert.GdnPreBwdRefIdeal.τ).loc Cert.GdnPreBwdRefIdeal.main_arg6)
      ∧ r.2.mem ((c.tc : Thread Cert.GdnPreBwdRefIdeal.nD Cert.GdnPreBwdRefIdeal.τ).loc Cert.GdnPreBwdRefIdeal.main_arg7) = m ((c.tc : Thread Cert.GdnPreBwdRefIdeal.nD Cert.GdnPreBwdRefIdeal.τ).loc Cert.GdnPreBwdRefIdeal.main_arg7)
      ∧ r.2.mem ((c.tc : Thread Cert.GdnPreBwdRefIdeal.nD Cert.GdnPreBwdRefIdeal.τ).loc Cert.GdnPreBwdRefIdeal.main_arg8) = m ((c.tc : Thread Cert.GdnPreBwdRefIdeal.nD Cert.GdnPreBwdRefIdeal.τ).loc Cert.GdnPreBwdRefIdeal.main_arg8)
      ∧ r.2.mem ((c.tc : Thread Cert.GdnPreBwdRefIdeal.nD Cert.GdnPreBwdRefIdeal.τ).loc Cert.GdnPreBwdRefIdeal.main_arg9) = m ((c.tc : Thread Cert.GdnPreBwdRefIdeal.nD Cert.GdnPreBwdRefIdeal.τ).loc Cert.GdnPreBwdRefIdeal.main_arg9))
      ∧ r.2.sem = fun _ => 0)

def quiescent_GdnPreBwdRefIdeal_pre_regular_decay [hGdnPreBwdRefIdeal : Cert.GdnPreBwdRefIdeal.Facts] [hPre_regular_decay : Cert.Pre_regular_decay.Facts] : Prop :=
  ∀ (m : (ℓ : Loc Cert.GdnPreBwdRefIdeal.nD Cert.GdnPreBwdRefIdeal.τ Cert.GdnPreBwdRefIdeal.sig) → Buf (Elt Ideal) ℓ) (g : Dev Cert.GdnPreBwdRefIdeal.nD → PrngReg), Pre_GdnPreBwdRefIdeal_regular_decay m →
    θ_run (Cert.GdnPreBwdRefIdeal.defs (F := Ideal)) (onTc (τ := Cert.GdnPreBwdRefIdeal.τ) (Cert.GdnPreBwdRefIdeal.main (F := Ideal))) ⟨m, fun _ => 0, g⟩ (fun r => (∀ c : Dev Cert.GdnPreBwdRefIdeal.nD,
      r.2.mem ((c.tc : Thread Cert.GdnPreBwdRefIdeal.nD Cert.GdnPreBwdRefIdeal.τ).loc Cert.GdnPreBwdRefIdeal.main_arg0) = m ((c.tc : Thread Cert.GdnPreBwdRefIdeal.nD Cert.GdnPreBwdRefIdeal.τ).loc Cert.GdnPreBwdRefIdeal.main_arg0)
      ∧ r.2.mem ((c.tc : Thread Cert.GdnPreBwdRefIdeal.nD Cert.GdnPreBwdRefIdeal.τ).loc Cert.GdnPreBwdRefIdeal.main_arg1) = m ((c.tc : Thread Cert.GdnPreBwdRefIdeal.nD Cert.GdnPreBwdRefIdeal.τ).loc Cert.GdnPreBwdRefIdeal.main_arg1)
      ∧ r.2.mem ((c.tc : Thread Cert.GdnPreBwdRefIdeal.nD Cert.GdnPreBwdRefIdeal.τ).loc Cert.GdnPreBwdRefIdeal.main_arg2) = m ((c.tc : Thread Cert.GdnPreBwdRefIdeal.nD Cert.GdnPreBwdRefIdeal.τ).loc Cert.GdnPreBwdRefIdeal.main_arg2)
      ∧ r.2.mem ((c.tc : Thread Cert.GdnPreBwdRefIdeal.nD Cert.GdnPreBwdRefIdeal.τ).loc Cert.GdnPreBwdRefIdeal.main_arg3) = m ((c.tc : Thread Cert.GdnPreBwdRefIdeal.nD Cert.GdnPreBwdRefIdeal.τ).loc Cert.GdnPreBwdRefIdeal.main_arg3)
      ∧ r.2.mem ((c.tc : Thread Cert.GdnPreBwdRefIdeal.nD Cert.GdnPreBwdRefIdeal.τ).loc Cert.GdnPreBwdRefIdeal.main_arg4) = m ((c.tc : Thread Cert.GdnPreBwdRefIdeal.nD Cert.GdnPreBwdRefIdeal.τ).loc Cert.GdnPreBwdRefIdeal.main_arg4)
      ∧ r.2.mem ((c.tc : Thread Cert.GdnPreBwdRefIdeal.nD Cert.GdnPreBwdRefIdeal.τ).loc Cert.GdnPreBwdRefIdeal.main_arg5) = m ((c.tc : Thread Cert.GdnPreBwdRefIdeal.nD Cert.GdnPreBwdRefIdeal.τ).loc Cert.GdnPreBwdRefIdeal.main_arg5)
      ∧ r.2.mem ((c.tc : Thread Cert.GdnPreBwdRefIdeal.nD Cert.GdnPreBwdRefIdeal.τ).loc Cert.GdnPreBwdRefIdeal.main_arg6) = m ((c.tc : Thread Cert.GdnPreBwdRefIdeal.nD Cert.GdnPreBwdRefIdeal.τ).loc Cert.GdnPreBwdRefIdeal.main_arg6)
      ∧ r.2.mem ((c.tc : Thread Cert.GdnPreBwdRefIdeal.nD Cert.GdnPreBwdRefIdeal.τ).loc Cert.GdnPreBwdRefIdeal.main_arg7) = m ((c.tc : Thread Cert.GdnPreBwdRefIdeal.nD Cert.GdnPreBwdRefIdeal.τ).loc Cert.GdnPreBwdRefIdeal.main_arg7)
      ∧ r.2.mem ((c.tc : Thread Cert.GdnPreBwdRefIdeal.nD Cert.GdnPreBwdRefIdeal.τ).loc Cert.GdnPreBwdRefIdeal.main_arg8) = m ((c.tc : Thread Cert.GdnPreBwdRefIdeal.nD Cert.GdnPreBwdRefIdeal.τ).loc Cert.GdnPreBwdRefIdeal.main_arg8)
      ∧ r.2.mem ((c.tc : Thread Cert.GdnPreBwdRefIdeal.nD Cert.GdnPreBwdRefIdeal.τ).loc Cert.GdnPreBwdRefIdeal.main_arg9) = m ((c.tc : Thread Cert.GdnPreBwdRefIdeal.nD Cert.GdnPreBwdRefIdeal.τ).loc Cert.GdnPreBwdRefIdeal.main_arg9))
      ∧ r.2.sem = fun _ => 0)

def quiescent_GdnInBa [hGdnInBa : Cert.GdnInBa.Facts] : Prop :=
  ∀ (m : (ℓ : Loc Cert.GdnInBa.nD Cert.GdnInBa.τ Cert.GdnInBa.sig) → Buf (Elt Bits) ℓ) (g : Dev Cert.GdnInBa.nD → PrngReg), Pre_GdnInBa m →
    θ_run (Cert.GdnInBa.defs (F := Bits)) (onTc (τ := Cert.GdnInBa.τ) (Cert.GdnInBa.main (F := Bits))) ⟨m, fun _ => 0, g⟩ (fun r => (∀ c : Dev Cert.GdnInBa.nD,
      r.2.mem ((c.tc : Thread Cert.GdnInBa.nD Cert.GdnInBa.τ).loc Cert.GdnInBa.main_arg0) = m ((c.tc : Thread Cert.GdnInBa.nD Cert.GdnInBa.τ).loc Cert.GdnInBa.main_arg0)
      ∧ r.2.mem ((c.tc : Thread Cert.GdnInBa.nD Cert.GdnInBa.τ).loc Cert.GdnInBa.main_arg1) = m ((c.tc : Thread Cert.GdnInBa.nD Cert.GdnInBa.τ).loc Cert.GdnInBa.main_arg1)
      ∧ r.2.mem ((c.tc : Thread Cert.GdnInBa.nD Cert.GdnInBa.τ).loc Cert.GdnInBa.main_arg2) = m ((c.tc : Thread Cert.GdnInBa.nD Cert.GdnInBa.τ).loc Cert.GdnInBa.main_arg2))
      ∧ r.2.sem = fun _ => 0)

def quiescent_GdnInBaIdeal [hGdnInBaIdeal : Cert.GdnInBaIdeal.Facts] : Prop :=
  ∀ (m : (ℓ : Loc Cert.GdnInBaIdeal.nD Cert.GdnInBaIdeal.τ Cert.GdnInBaIdeal.sig) → Buf (Elt Ideal) ℓ) (g : Dev Cert.GdnInBaIdeal.nD → PrngReg), Pre_GdnInBaIdeal m →
    θ_run (Cert.GdnInBaIdeal.defs (F := Ideal)) (onTc (τ := Cert.GdnInBaIdeal.τ) (Cert.GdnInBaIdeal.main (F := Ideal))) ⟨m, fun _ => 0, g⟩ (fun r => (∀ c : Dev Cert.GdnInBaIdeal.nD,
      r.2.mem ((c.tc : Thread Cert.GdnInBaIdeal.nD Cert.GdnInBaIdeal.τ).loc Cert.GdnInBaIdeal.main_arg0) = m ((c.tc : Thread Cert.GdnInBaIdeal.nD Cert.GdnInBaIdeal.τ).loc Cert.GdnInBaIdeal.main_arg0)
      ∧ r.2.mem ((c.tc : Thread Cert.GdnInBaIdeal.nD Cert.GdnInBaIdeal.τ).loc Cert.GdnInBaIdeal.main_arg1) = m ((c.tc : Thread Cert.GdnInBaIdeal.nD Cert.GdnInBaIdeal.τ).loc Cert.GdnInBaIdeal.main_arg1)
      ∧ r.2.mem ((c.tc : Thread Cert.GdnInBaIdeal.nD Cert.GdnInBaIdeal.τ).loc Cert.GdnInBaIdeal.main_arg2) = m ((c.tc : Thread Cert.GdnInBaIdeal.nD Cert.GdnInBaIdeal.τ).loc Cert.GdnInBaIdeal.main_arg2))
      ∧ r.2.sem = fun _ => 0)

def quiescent_GdnInBaRefIdeal [hGdnInBaRefIdeal : Cert.GdnInBaRefIdeal.Facts] : Prop :=
  ∀ (m : (ℓ : Loc Cert.GdnInBaRefIdeal.nD Cert.GdnInBaRefIdeal.τ Cert.GdnInBaRefIdeal.sig) → Buf (Elt Ideal) ℓ) (g : Dev Cert.GdnInBaRefIdeal.nD → PrngReg), Pre_GdnInBaRefIdeal m →
    θ_run (Cert.GdnInBaRefIdeal.defs (F := Ideal)) (onTc (τ := Cert.GdnInBaRefIdeal.τ) (Cert.GdnInBaRefIdeal.main (F := Ideal))) ⟨m, fun _ => 0, g⟩ (fun r => (∀ c : Dev Cert.GdnInBaRefIdeal.nD,
      r.2.mem ((c.tc : Thread Cert.GdnInBaRefIdeal.nD Cert.GdnInBaRefIdeal.τ).loc Cert.GdnInBaRefIdeal.main_arg0) = m ((c.tc : Thread Cert.GdnInBaRefIdeal.nD Cert.GdnInBaRefIdeal.τ).loc Cert.GdnInBaRefIdeal.main_arg0)
      ∧ r.2.mem ((c.tc : Thread Cert.GdnInBaRefIdeal.nD Cert.GdnInBaRefIdeal.τ).loc Cert.GdnInBaRefIdeal.main_arg1) = m ((c.tc : Thread Cert.GdnInBaRefIdeal.nD Cert.GdnInBaRefIdeal.τ).loc Cert.GdnInBaRefIdeal.main_arg1)
      ∧ r.2.mem ((c.tc : Thread Cert.GdnInBaRefIdeal.nD Cert.GdnInBaRefIdeal.τ).loc Cert.GdnInBaRefIdeal.main_arg2) = m ((c.tc : Thread Cert.GdnInBaRefIdeal.nD Cert.GdnInBaRefIdeal.τ).loc Cert.GdnInBaRefIdeal.main_arg2))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2))
      ∧ r.2.sem = fun _ => 0)

def quiescent_Gnorm [hGnorm : Cert.Gnorm.Facts] : Prop :=
  ∀ (m : (ℓ : Loc Cert.Gnorm.nD Cert.Gnorm.τ Cert.Gnorm.sig) → Buf (Elt Bits) ℓ) (g : Dev Cert.Gnorm.nD → PrngReg), Pre_Gnorm m →
    θ_run (Cert.Gnorm.defs (F := Bits)) (onTc (τ := Cert.Gnorm.τ) (Cert.Gnorm.main (F := Bits))) ⟨m, fun _ => 0, g⟩ (fun r => (∀ c : Dev Cert.Gnorm.nD,
      r.2.mem ((c.tc : Thread Cert.Gnorm.nD Cert.Gnorm.τ).loc Cert.Gnorm.main_arg0) = m ((c.tc : Thread Cert.Gnorm.nD Cert.Gnorm.τ).loc Cert.Gnorm.main_arg0)
      ∧ r.2.mem ((c.tc : Thread Cert.Gnorm.nD Cert.Gnorm.τ).loc Cert.Gnorm.main_arg1) = m ((c.tc : Thread Cert.Gnorm.nD Cert.Gnorm.τ).loc Cert.Gnorm.main_arg1)
      ∧ r.2.mem ((c.tc : Thread Cert.Gnorm.nD Cert.Gnorm.τ).loc Cert.Gnorm.main_arg2) = m ((c.tc : Thread Cert.Gnorm.nD Cert.Gnorm.τ).loc Cert.Gnorm.main_arg2))
      ∧ r.2.sem = fun _ => 0)

def quiescent_GnormIdeal [hGnormIdeal : Cert.GnormIdeal.Facts] : Prop :=
  ∀ (m : (ℓ : Loc Cert.GnormIdeal.nD Cert.GnormIdeal.τ Cert.GnormIdeal.sig) → Buf (Elt Ideal) ℓ) (g : Dev Cert.GnormIdeal.nD → PrngReg), Pre_GnormIdeal m →
    θ_run (Cert.GnormIdeal.defs (F := Ideal)) (onTc (τ := Cert.GnormIdeal.τ) (Cert.GnormIdeal.main (F := Ideal))) ⟨m, fun _ => 0, g⟩ (fun r => (∀ c : Dev Cert.GnormIdeal.nD,
      r.2.mem ((c.tc : Thread Cert.GnormIdeal.nD Cert.GnormIdeal.τ).loc Cert.GnormIdeal.main_arg0) = m ((c.tc : Thread Cert.GnormIdeal.nD Cert.GnormIdeal.τ).loc Cert.GnormIdeal.main_arg0)
      ∧ r.2.mem ((c.tc : Thread Cert.GnormIdeal.nD Cert.GnormIdeal.τ).loc Cert.GnormIdeal.main_arg1) = m ((c.tc : Thread Cert.GnormIdeal.nD Cert.GnormIdeal.τ).loc Cert.GnormIdeal.main_arg1)
      ∧ r.2.mem ((c.tc : Thread Cert.GnormIdeal.nD Cert.GnormIdeal.τ).loc Cert.GnormIdeal.main_arg2) = m ((c.tc : Thread Cert.GnormIdeal.nD Cert.GnormIdeal.τ).loc Cert.GnormIdeal.main_arg2))
      ∧ r.2.sem = fun _ => 0)

def quiescent_GnormRefIdeal [hGnormRefIdeal : Cert.GnormRefIdeal.Facts] : Prop :=
  ∀ (m : (ℓ : Loc Cert.GnormRefIdeal.nD Cert.GnormRefIdeal.τ Cert.GnormRefIdeal.sig) → Buf (Elt Ideal) ℓ) (g : Dev Cert.GnormRefIdeal.nD → PrngReg), Pre_GnormRefIdeal m →
    θ_run (Cert.GnormRefIdeal.defs (F := Ideal)) (onTc (τ := Cert.GnormRefIdeal.τ) (Cert.GnormRefIdeal.main (F := Ideal))) ⟨m, fun _ => 0, g⟩ (fun r => (∀ c : Dev Cert.GnormRefIdeal.nD,
      r.2.mem ((c.tc : Thread Cert.GnormRefIdeal.nD Cert.GnormRefIdeal.τ).loc Cert.GnormRefIdeal.main_arg0) = m ((c.tc : Thread Cert.GnormRefIdeal.nD Cert.GnormRefIdeal.τ).loc Cert.GnormRefIdeal.main_arg0)
      ∧ r.2.mem ((c.tc : Thread Cert.GnormRefIdeal.nD Cert.GnormRefIdeal.τ).loc Cert.GnormRefIdeal.main_arg1) = m ((c.tc : Thread Cert.GnormRefIdeal.nD Cert.GnormRefIdeal.τ).loc Cert.GnormRefIdeal.main_arg1)
      ∧ r.2.mem ((c.tc : Thread Cert.GnormRefIdeal.nD Cert.GnormRefIdeal.τ).loc Cert.GnormRefIdeal.main_arg2) = m ((c.tc : Thread Cert.GnormRefIdeal.nD Cert.GnormRefIdeal.τ).loc Cert.GnormRefIdeal.main_arg2))
      ∧ r.2.sem = fun _ => 0)

def quiescent_RelBias [hRelBias : Cert.RelBias.Facts] : Prop :=
  ∀ (m : (ℓ : Loc Cert.RelBias.nD Cert.RelBias.τ Cert.RelBias.sig) → Buf (Elt Bits) ℓ) (g : Dev Cert.RelBias.nD → PrngReg), Pre_RelBias m →
    θ_run (Cert.RelBias.defs (F := Bits)) (onTc (τ := Cert.RelBias.τ) (Cert.RelBias.main (F := Bits))) ⟨m, fun _ => 0, g⟩ (fun r => (∀ c : Dev Cert.RelBias.nD,
      r.2.mem ((c.tc : Thread Cert.RelBias.nD Cert.RelBias.τ).loc Cert.RelBias.main_arg0) = m ((c.tc : Thread Cert.RelBias.nD Cert.RelBias.τ).loc Cert.RelBias.main_arg0))
      ∧ r.2.sem = fun _ => 0)

def quiescent_RelBiasIdeal [hRelBiasIdeal : Cert.RelBiasIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg), Pre_RelBiasIdeal m →
    θ_run (Cert.RelBiasIdeal.defs (F := Ideal)) (onTc (τ := Cert.RelBiasIdeal.τ) (Cert.RelBiasIdeal.main (F := Ideal))) ⟨m, fun _ => 0, g⟩ (fun r => (∀ c : Dev Cert.RelBiasIdeal.nD,
      r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0))
      ∧ r.2.sem = fun _ => 0)

def quiescent_RelBiasRefIdeal [hRelBiasRefIdeal : Cert.RelBiasRefIdeal.Facts] : Prop :=
  ∀ (m : (ℓ : Loc Cert.RelBiasRefIdeal.nD Cert.RelBiasRefIdeal.τ Cert.RelBiasRefIdeal.sig) → Buf (Elt Ideal) ℓ) (g : Dev Cert.RelBiasRefIdeal.nD → PrngReg), Pre_RelBiasRefIdeal m →
    θ_run (Cert.RelBiasRefIdeal.defs (F := Ideal)) (onTc (τ := Cert.RelBiasRefIdeal.τ) (Cert.RelBiasRefIdeal.main (F := Ideal))) ⟨m, fun _ => 0, g⟩ (fun r => (∀ c : Dev Cert.RelBiasRefIdeal.nD,
      r.2.mem ((c.tc : Thread Cert.RelBiasRefIdeal.nD Cert.RelBiasRefIdeal.τ).loc Cert.RelBiasRefIdeal.main_arg0) = m ((c.tc : Thread Cert.RelBiasRefIdeal.nD Cert.RelBiasRefIdeal.τ).loc Cert.RelBiasRefIdeal.main_arg0))
      ∧ r.2.sem = fun _ => 0)

def quiescent_GdnInDx [hGdnInDx : Cert.GdnInDx.Facts] : Prop :=
  ∀ (m : (ℓ : Loc Cert.GdnInDx.nD Cert.GdnInDx.τ Cert.GdnInDx.sig) → Buf (Elt Bits) ℓ) (g : Dev Cert.GdnInDx.nD → PrngReg), Pre_GdnInDx m →
    θ_run (Cert.GdnInDx.defs (F := Bits)) (onTc (τ := Cert.GdnInDx.τ) (Cert.GdnInDx.main (F := Bits))) ⟨m, fun _ => 0, g⟩ (fun r => (∀ c : Dev Cert.GdnInDx.nD,
      r.2.mem ((c.tc : Thread Cert.GdnInDx.nD Cert.GdnInDx.τ).loc Cert.GdnInDx.main_arg0) = m ((c.tc : Thread Cert.GdnInDx.nD Cert.GdnInDx.τ).loc Cert.GdnInDx.main_arg0)
      ∧ r.2.mem ((c.tc : Thread Cert.GdnInDx.nD Cert.GdnInDx.τ).loc Cert.GdnInDx.main_arg1) = m ((c.tc : Thread Cert.GdnInDx.nD Cert.GdnInDx.τ).loc Cert.GdnInDx.main_arg1))
      ∧ r.2.sem = fun _ => 0)

def quiescent_GdnInDxIdeal [hGdnInDxIdeal : Cert.GdnInDxIdeal.Facts] : Prop :=
  ∀ (m : (ℓ : Loc Cert.GdnInDxIdeal.nD Cert.GdnInDxIdeal.τ Cert.GdnInDxIdeal.sig) → Buf (Elt Ideal) ℓ) (g : Dev Cert.GdnInDxIdeal.nD → PrngReg), Pre_GdnInDxIdeal m →
    θ_run (Cert.GdnInDxIdeal.defs (F := Ideal)) (onTc (τ := Cert.GdnInDxIdeal.τ) (Cert.GdnInDxIdeal.main (F := Ideal))) ⟨m, fun _ => 0, g⟩ (fun r => (∀ c : Dev Cert.GdnInDxIdeal.nD,
      r.2.mem ((c.tc : Thread Cert.GdnInDxIdeal.nD Cert.GdnInDxIdeal.τ).loc Cert.GdnInDxIdeal.main_arg0) = m ((c.tc : Thread Cert.GdnInDxIdeal.nD Cert.GdnInDxIdeal.τ).loc Cert.GdnInDxIdeal.main_arg0)
      ∧ r.2.mem ((c.tc : Thread Cert.GdnInDxIdeal.nD Cert.GdnInDxIdeal.τ).loc Cert.GdnInDxIdeal.main_arg1) = m ((c.tc : Thread Cert.GdnInDxIdeal.nD Cert.GdnInDxIdeal.τ).loc Cert.GdnInDxIdeal.main_arg1))
      ∧ r.2.sem = fun _ => 0)

def quiescent_GdnInDxRefIdeal [hGdnInDxRefIdeal : Cert.GdnInDxRefIdeal.Facts] : Prop :=
  ∀ (m : (ℓ : Loc Cert.GdnInDxRefIdeal.nD Cert.GdnInDxRefIdeal.τ Cert.GdnInDxRefIdeal.sig) → Buf (Elt Ideal) ℓ) (g : Dev Cert.GdnInDxRefIdeal.nD → PrngReg), Pre_GdnInDxRefIdeal m →
    θ_run (Cert.GdnInDxRefIdeal.defs (F := Ideal)) (onTc (τ := Cert.GdnInDxRefIdeal.τ) (Cert.GdnInDxRefIdeal.main (F := Ideal))) ⟨m, fun _ => 0, g⟩ (fun r => (∀ c : Dev Cert.GdnInDxRefIdeal.nD,
      r.2.mem ((c.tc : Thread Cert.GdnInDxRefIdeal.nD Cert.GdnInDxRefIdeal.τ).loc Cert.GdnInDxRefIdeal.main_arg0) = m ((c.tc : Thread Cert.GdnInDxRefIdeal.nD Cert.GdnInDxRefIdeal.τ).loc Cert.GdnInDxRefIdeal.main_arg0)
      ∧ r.2.mem ((c.tc : Thread Cert.GdnInDxRefIdeal.nD Cert.GdnInDxRefIdeal.τ).loc Cert.GdnInDxRefIdeal.main_arg1) = m ((c.tc : Thread Cert.GdnInDxRefIdeal.nD Cert.GdnInDxRefIdeal.τ).loc Cert.GdnInDxRefIdeal.main_arg1))
      ∧ r.2.sem = fun _ => 0)

def quiescent_FfnConvBwd [hFfnConvBwd : Cert.FfnConvBwd.Facts] : Prop :=
  ∀ (m : (ℓ : Loc Cert.FfnConvBwd.nD Cert.FfnConvBwd.τ Cert.FfnConvBwd.sig) → Buf (Elt Bits) ℓ) (g : Dev Cert.FfnConvBwd.nD → PrngReg), Pre_FfnConvBwd m →
    θ_run (Cert.FfnConvBwd.defs (F := Bits)) (onTc (τ := Cert.FfnConvBwd.τ) (Cert.FfnConvBwd.main (F := Bits))) ⟨m, fun _ => 0, g⟩ (fun r => (∀ c : Dev Cert.FfnConvBwd.nD,
      r.2.mem ((c.tc : Thread Cert.FfnConvBwd.nD Cert.FfnConvBwd.τ).loc Cert.FfnConvBwd.main_arg0) = m ((c.tc : Thread Cert.FfnConvBwd.nD Cert.FfnConvBwd.τ).loc Cert.FfnConvBwd.main_arg0)
      ∧ r.2.mem ((c.tc : Thread Cert.FfnConvBwd.nD Cert.FfnConvBwd.τ).loc Cert.FfnConvBwd.main_arg1) = m ((c.tc : Thread Cert.FfnConvBwd.nD Cert.FfnConvBwd.τ).loc Cert.FfnConvBwd.main_arg1))
      ∧ r.2.sem = fun _ => 0)

def quiescent_FfnConvBwdIdeal [hFfnConvBwdIdeal : Cert.FfnConvBwdIdeal.Facts] : Prop :=
  ∀ (m : (ℓ : Loc Cert.FfnConvBwdIdeal.nD Cert.FfnConvBwdIdeal.τ Cert.FfnConvBwdIdeal.sig) → Buf (Elt Ideal) ℓ) (g : Dev Cert.FfnConvBwdIdeal.nD → PrngReg), Pre_FfnConvBwdIdeal m →
    θ_run (Cert.FfnConvBwdIdeal.defs (F := Ideal)) (onTc (τ := Cert.FfnConvBwdIdeal.τ) (Cert.FfnConvBwdIdeal.main (F := Ideal))) ⟨m, fun _ => 0, g⟩ (fun r => (∀ c : Dev Cert.FfnConvBwdIdeal.nD,
      r.2.mem ((c.tc : Thread Cert.FfnConvBwdIdeal.nD Cert.FfnConvBwdIdeal.τ).loc Cert.FfnConvBwdIdeal.main_arg0) = m ((c.tc : Thread Cert.FfnConvBwdIdeal.nD Cert.FfnConvBwdIdeal.τ).loc Cert.FfnConvBwdIdeal.main_arg0)
      ∧ r.2.mem ((c.tc : Thread Cert.FfnConvBwdIdeal.nD Cert.FfnConvBwdIdeal.τ).loc Cert.FfnConvBwdIdeal.main_arg1) = m ((c.tc : Thread Cert.FfnConvBwdIdeal.nD Cert.FfnConvBwdIdeal.τ).loc Cert.FfnConvBwdIdeal.main_arg1))
      ∧ r.2.sem = fun _ => 0)

def quiescent_FfnConvBwdRefIdeal [hFfnConvBwdRefIdeal : Cert.FfnConvBwdRefIdeal.Facts] : Prop :=
  ∀ (m : (ℓ : Loc Cert.FfnConvBwdRefIdeal.nD Cert.FfnConvBwdRefIdeal.τ Cert.FfnConvBwdRefIdeal.sig) → Buf (Elt Ideal) ℓ) (g : Dev Cert.FfnConvBwdRefIdeal.nD → PrngReg), Pre_FfnConvBwdRefIdeal m →
    θ_run (Cert.FfnConvBwdRefIdeal.defs (F := Ideal)) (onTc (τ := Cert.FfnConvBwdRefIdeal.τ) (Cert.FfnConvBwdRefIdeal.main (F := Ideal))) ⟨m, fun _ => 0, g⟩ (fun r => (∀ c : Dev Cert.FfnConvBwdRefIdeal.nD,
      r.2.mem ((c.tc : Thread Cert.FfnConvBwdRefIdeal.nD Cert.FfnConvBwdRefIdeal.τ).loc Cert.FfnConvBwdRefIdeal.main_arg0) = m ((c.tc : Thread Cert.FfnConvBwdRefIdeal.nD Cert.FfnConvBwdRefIdeal.τ).loc Cert.FfnConvBwdRefIdeal.main_arg0)
      ∧ r.2.mem ((c.tc : Thread Cert.FfnConvBwdRefIdeal.nD Cert.FfnConvBwdRefIdeal.τ).loc Cert.FfnConvBwdRefIdeal.main_arg1) = m ((c.tc : Thread Cert.FfnConvBwdRefIdeal.nD Cert.FfnConvBwdRefIdeal.τ).loc Cert.FfnConvBwdRefIdeal.main_arg1))
      ∧ r.2.sem = fun _ => 0)

def quiescent_GdnConvBwd [hGdnConvBwd : Cert.GdnConvBwd.Facts] : Prop :=
  ∀ (m : (ℓ : Loc Cert.GdnConvBwd.nD Cert.GdnConvBwd.τ Cert.GdnConvBwd.sig) → Buf (Elt Bits) ℓ) (g : Dev Cert.GdnConvBwd.nD → PrngReg), Pre_GdnConvBwd m →
    θ_run (Cert.GdnConvBwd.defs (F := Bits)) (onTc (τ := Cert.GdnConvBwd.τ) (Cert.GdnConvBwd.main (F := Bits))) ⟨m, fun _ => 0, g⟩ (fun r => (∀ c : Dev Cert.GdnConvBwd.nD,
      r.2.mem ((c.tc : Thread Cert.GdnConvBwd.nD Cert.GdnConvBwd.τ).loc Cert.GdnConvBwd.main_arg0) = m ((c.tc : Thread Cert.GdnConvBwd.nD Cert.GdnConvBwd.τ).loc Cert.GdnConvBwd.main_arg0)
      ∧ r.2.mem ((c.tc : Thread Cert.GdnConvBwd.nD Cert.GdnConvBwd.τ).loc Cert.GdnConvBwd.main_arg1) = m ((c.tc : Thread Cert.GdnConvBwd.nD Cert.GdnConvBwd.τ).loc Cert.GdnConvBwd.main_arg1)
      ∧ r.2.mem ((c.tc : Thread Cert.GdnConvBwd.nD Cert.GdnConvBwd.τ).loc Cert.GdnConvBwd.main_arg2) = m ((c.tc : Thread Cert.GdnConvBwd.nD Cert.GdnConvBwd.τ).loc Cert.GdnConvBwd.main_arg2))
      ∧ r.2.sem = fun _ => 0)

def quiescent_GdnConvBwdIdeal [hGdnConvBwdIdeal : Cert.GdnConvBwdIdeal.Facts] : Prop :=
  ∀ (m : (ℓ : Loc Cert.GdnConvBwdIdeal.nD Cert.GdnConvBwdIdeal.τ Cert.GdnConvBwdIdeal.sig) → Buf (Elt Ideal) ℓ) (g : Dev Cert.GdnConvBwdIdeal.nD → PrngReg), Pre_GdnConvBwdIdeal m →
    θ_run (Cert.GdnConvBwdIdeal.defs (F := Ideal)) (onTc (τ := Cert.GdnConvBwdIdeal.τ) (Cert.GdnConvBwdIdeal.main (F := Ideal))) ⟨m, fun _ => 0, g⟩ (fun r => (∀ c : Dev Cert.GdnConvBwdIdeal.nD,
      r.2.mem ((c.tc : Thread Cert.GdnConvBwdIdeal.nD Cert.GdnConvBwdIdeal.τ).loc Cert.GdnConvBwdIdeal.main_arg0) = m ((c.tc : Thread Cert.GdnConvBwdIdeal.nD Cert.GdnConvBwdIdeal.τ).loc Cert.GdnConvBwdIdeal.main_arg0)
      ∧ r.2.mem ((c.tc : Thread Cert.GdnConvBwdIdeal.nD Cert.GdnConvBwdIdeal.τ).loc Cert.GdnConvBwdIdeal.main_arg1) = m ((c.tc : Thread Cert.GdnConvBwdIdeal.nD Cert.GdnConvBwdIdeal.τ).loc Cert.GdnConvBwdIdeal.main_arg1)
      ∧ r.2.mem ((c.tc : Thread Cert.GdnConvBwdIdeal.nD Cert.GdnConvBwdIdeal.τ).loc Cert.GdnConvBwdIdeal.main_arg2) = m ((c.tc : Thread Cert.GdnConvBwdIdeal.nD Cert.GdnConvBwdIdeal.τ).loc Cert.GdnConvBwdIdeal.main_arg2))
      ∧ r.2.sem = fun _ => 0)

def quiescent_GdnConvBwdRefIdeal [hGdnConvBwdRefIdeal : Cert.GdnConvBwdRefIdeal.Facts] : Prop :=
  ∀ (m : (ℓ : Loc Cert.GdnConvBwdRefIdeal.nD Cert.GdnConvBwdRefIdeal.τ Cert.GdnConvBwdRefIdeal.sig) → Buf (Elt Ideal) ℓ) (g : Dev Cert.GdnConvBwdRefIdeal.nD → PrngReg), Pre_GdnConvBwdRefIdeal m →
    θ_run (Cert.GdnConvBwdRefIdeal.defs (F := Ideal)) (onTc (τ := Cert.GdnConvBwdRefIdeal.τ) (Cert.GdnConvBwdRefIdeal.main (F := Ideal))) ⟨m, fun _ => 0, g⟩ (fun r => (∀ c : Dev Cert.GdnConvBwdRefIdeal.nD,
      r.2.mem ((c.tc : Thread Cert.GdnConvBwdRefIdeal.nD Cert.GdnConvBwdRefIdeal.τ).loc Cert.GdnConvBwdRefIdeal.main_arg0) = m ((c.tc : Thread Cert.GdnConvBwdRefIdeal.nD Cert.GdnConvBwdRefIdeal.τ).loc Cert.GdnConvBwdRefIdeal.main_arg0)
      ∧ r.2.mem ((c.tc : Thread Cert.GdnConvBwdRefIdeal.nD Cert.GdnConvBwdRefIdeal.τ).loc Cert.GdnConvBwdRefIdeal.main_arg1) = m ((c.tc : Thread Cert.GdnConvBwdRefIdeal.nD Cert.GdnConvBwdRefIdeal.τ).loc Cert.GdnConvBwdRefIdeal.main_arg1)
      ∧ r.2.mem ((c.tc : Thread Cert.GdnConvBwdRefIdeal.nD Cert.GdnConvBwdRefIdeal.τ).loc Cert.GdnConvBwdRefIdeal.main_arg2) = m ((c.tc : Thread Cert.GdnConvBwdRefIdeal.nD Cert.GdnConvBwdRefIdeal.τ).loc Cert.GdnConvBwdRefIdeal.main_arg2))
      ∧ r.2.sem = fun _ => 0)

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_Up0_Up0Ideal : Prop :=
  True

def algebraic_Up0Ideal_Up0RefIdeal [hUp0Ideal : Cert.Up0Ideal.Facts] [hUp0RefIdeal : Cert.Up0RefIdeal.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.Up0RefIdeal.nD Cert.Up0RefIdeal.τ Cert.Up0RefIdeal.sig) → Buf (Elt Ideal) ℓ) (g' : Dev Cert.Up0RefIdeal.nD → PrngReg), Pre_Up0Ideal m →
    (∀ c : Dev Cert.Up0Ideal.nD,
      m' ((c.tc : Thread Cert.Up0RefIdeal.nD Cert.Up0RefIdeal.τ).loc Cert.Up0RefIdeal.main_arg0) = m ((c.tc : Thread Cert.Up0Ideal.nD Cert.Up0Ideal.τ).loc Cert.Up0Ideal.main_arg0)
      ∧ m' ((c.tc : Thread Cert.Up0RefIdeal.nD Cert.Up0RefIdeal.τ).loc Cert.Up0RefIdeal.main_arg1) = m ((c.tc : Thread Cert.Up0Ideal.nD Cert.Up0Ideal.τ).loc Cert.Up0Ideal.main_arg1)
      ∧ m' ((c.tc : Thread Cert.Up0RefIdeal.nD Cert.Up0RefIdeal.τ).loc Cert.Up0RefIdeal.main_arg2) = m ((c.tc : Thread Cert.Up0Ideal.nD Cert.Up0Ideal.τ).loc Cert.Up0Ideal.main_arg2)) →
    ∃ (v0 : (c : Dev Cert.Up0Ideal.nD) → Buf (Elt Ideal) ((c.tc : Thread Cert.Up0Ideal.nD Cert.Up0Ideal.τ).loc Cert.Up0Ideal.main_v0)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v0) = v0 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1)
          ∧ r.2.mem ((c.tc : Thread Cert.Up0Ideal.nD Cert.Up0Ideal.τ).loc Cert.Up0Ideal.main_arg2) = m ((c.tc : Thread Cert.Up0Ideal.nD Cert.Up0Ideal.τ).loc Cert.Up0Ideal.main_arg2))
      ∧ θ_run (Cert.Up0RefIdeal.defs (F := Ideal)) (onTc (τ := Cert.Up0RefIdeal.τ) (Cert.Up0RefIdeal.main (F := Ideal))) ⟨m', fun _ => 0, g'⟩ (fun r => ∀ c : Dev Cert.Up0RefIdeal.nD,
          r.2.mem ((c.tc : Thread Cert.Up0RefIdeal.nD Cert.Up0RefIdeal.τ).loc Cert.Up0RefIdeal.main_v20) = v0 c
          ∧ r.2.mem ((c.tc : Thread Cert.Up0RefIdeal.nD Cert.Up0RefIdeal.τ).loc Cert.Up0RefIdeal.main_arg0) = m' ((c.tc : Thread Cert.Up0RefIdeal.nD Cert.Up0RefIdeal.τ).loc Cert.Up0RefIdeal.main_arg0)
          ∧ r.2.mem ((c.tc : Thread Cert.Up0RefIdeal.nD Cert.Up0RefIdeal.τ).loc Cert.Up0RefIdeal.main_arg1) = m' ((c.tc : Thread Cert.Up0RefIdeal.nD Cert.Up0RefIdeal.τ).loc Cert.Up0RefIdeal.main_arg1)
          ∧ r.2.mem ((c.tc : Thread Cert.Up0RefIdeal.nD Cert.Up0RefIdeal.τ).loc Cert.Up0RefIdeal.main_arg2) = m' ((c.tc : Thread Cert.Up0RefIdeal.nD Cert.Up0RefIdeal.τ).loc Cert.Up0RefIdeal.main_arg2))

def preserves_Up1_Up1Ideal : Prop :=
  True

def algebraic_Up1Ideal_Up1RefIdeal [hUp1Ideal : Cert.Up1Ideal.Facts] [hUp1RefIdeal : Cert.Up1RefIdeal.Facts] : Prop :=
  ∀ (m : (ℓ : Loc Cert.Up1Ideal.nD Cert.Up1Ideal.τ Cert.Up1Ideal.sig) → Buf (Elt Ideal) ℓ) (g : Dev Cert.Up1Ideal.nD → PrngReg)
    (m' : (ℓ : Loc Cert.Up1RefIdeal.nD Cert.Up1RefIdeal.τ Cert.Up1RefIdeal.sig) → Buf (Elt Ideal) ℓ) (g' : Dev Cert.Up1RefIdeal.nD → PrngReg), Pre_Up1Ideal m →
    (∀ c : Dev Cert.Up1Ideal.nD,
      m' ((c.tc : Thread Cert.Up1RefIdeal.nD Cert.Up1RefIdeal.τ).loc Cert.Up1RefIdeal.main_arg0) = m ((c.tc : Thread Cert.Up1Ideal.nD Cert.Up1Ideal.τ).loc Cert.Up1Ideal.main_arg0)
      ∧ m' ((c.tc : Thread Cert.Up1RefIdeal.nD Cert.Up1RefIdeal.τ).loc Cert.Up1RefIdeal.main_arg1) = m ((c.tc : Thread Cert.Up1Ideal.nD Cert.Up1Ideal.τ).loc Cert.Up1Ideal.main_arg1)
      ∧ m' ((c.tc : Thread Cert.Up1RefIdeal.nD Cert.Up1RefIdeal.τ).loc Cert.Up1RefIdeal.main_arg2) = m ((c.tc : Thread Cert.Up1Ideal.nD Cert.Up1Ideal.τ).loc Cert.Up1Ideal.main_arg2)) →
    ∃ (v0 : (c : Dev Cert.Up1Ideal.nD) → Buf (Elt Ideal) ((c.tc : Thread Cert.Up1Ideal.nD Cert.Up1Ideal.τ).loc Cert.Up1Ideal.main_v0)),
      θ_run (Cert.Up1Ideal.defs (F := Ideal)) (onTc (τ := Cert.Up1Ideal.τ) (Cert.Up1Ideal.main (F := Ideal))) ⟨m, fun _ => 0, g⟩ (fun r => ∀ c : Dev Cert.Up1Ideal.nD,
          r.2.mem ((c.tc : Thread Cert.Up1Ideal.nD Cert.Up1Ideal.τ).loc Cert.Up1Ideal.main_v0) = v0 c
          ∧ r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
          ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1)
          ∧ r.2.mem ((c.tc : Thread Cert.Up1Ideal.nD Cert.Up1Ideal.τ).loc Cert.Up1Ideal.main_arg2) = m ((c.tc : Thread Cert.Up1Ideal.nD Cert.Up1Ideal.τ).loc Cert.Up1Ideal.main_arg2))
      ∧ θ_run (Cert.Up1RefIdeal.defs (F := Ideal)) (onTc (τ := Cert.Up1RefIdeal.τ) (Cert.Up1RefIdeal.main (F := Ideal))) ⟨m', fun _ => 0, g'⟩ (fun r => ∀ c : Dev Cert.Up1RefIdeal.nD,
          r.2.mem ((c.tc : Thread Cert.Up1RefIdeal.nD Cert.Up1RefIdeal.τ).loc Cert.Up1RefIdeal.main_v20) = v0 c
          ∧ r.2.mem ((c.tc : Thread Cert.Up1RefIdeal.nD Cert.Up1RefIdeal.τ).loc Cert.Up1RefIdeal.main_arg0) = m' ((c.tc : Thread Cert.Up1RefIdeal.nD Cert.Up1RefIdeal.τ).loc Cert.Up1RefIdeal.main_arg0)
          ∧ r.2.mem ((c.tc : Thread Cert.Up1RefIdeal.nD Cert.Up1RefIdeal.τ).loc Cert.Up1RefIdeal.main_arg1) = m' ((c.tc : Thread Cert.Up1RefIdeal.nD Cert.Up1RefIdeal.τ).loc Cert.Up1RefIdeal.main_arg1)
          ∧ r.2.mem ((c.tc : Thread Cert.Up1RefIdeal.nD Cert.Up1RefIdeal.τ).loc Cert.Up1RefIdeal.main_arg2) = m' ((c.tc : Thread Cert.Up1RefIdeal.nD Cert.Up1RefIdeal.τ).loc Cert.Up1RefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_GdnIn_GdnInIdeal : Prop :=
  True

def algebraic_GdnInIdeal_GdnInRefIdeal [hGdnInIdeal : Cert.GdnInIdeal.Facts] [hGdnInRefIdeal : Cert.GdnInRefIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInRefIdeal.nD Cert.GdnInRefIdeal.τ Cert.GdnInRefIdeal.sig) → Buf (Elt Ideal) ℓ) (g' : Dev Cert.GdnInRefIdeal.nD → PrngReg), Pre_GdnInIdeal m →
    (∀ c : Dev Cert.GdnInIdeal.nD,
      m' ((c.tc : Thread Cert.GdnInRefIdeal.nD Cert.GdnInRefIdeal.τ).loc Cert.GdnInRefIdeal.main_arg0) = m ((c.tc : Thread Cert.GdnInIdeal.nD Cert.GdnInIdeal.τ).loc Cert.GdnInIdeal.main_arg0)
      ∧ m' ((c.tc : Thread Cert.GdnInRefIdeal.nD Cert.GdnInRefIdeal.τ).loc Cert.GdnInRefIdeal.main_arg1) = m ((c.tc : Thread Cert.GdnInIdeal.nD Cert.GdnInIdeal.τ).loc Cert.GdnInIdeal.main_arg1)
      ∧ m' ((c.tc : Thread Cert.GdnInRefIdeal.nD Cert.GdnInRefIdeal.τ).loc Cert.GdnInRefIdeal.main_arg2) = m ((c.tc : Thread Cert.GdnInIdeal.nD Cert.GdnInIdeal.τ).loc Cert.GdnInIdeal.main_arg2)) →
    ∃ (v0 : (c : Dev Cert.GdnInIdeal.nD) → Buf (Elt Ideal) ((c.tc : Thread Cert.GdnInIdeal.nD Cert.GdnInIdeal.τ).loc Cert.GdnInIdeal.main_v0)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v0) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2))
      ∧ θ_run (Cert.GdnInRefIdeal.defs (F := Ideal)) (onTc (τ := Cert.GdnInRefIdeal.τ) (Cert.GdnInRefIdeal.main (F := Ideal))) ⟨m', fun _ => 0, g'⟩ (fun r => ∀ c : Dev Cert.GdnInRefIdeal.nD,
          r.2.mem ((c.tc : Thread Cert.GdnInRefIdeal.nD Cert.GdnInRefIdeal.τ).loc Cert.GdnInRefIdeal.main_v16) = v0 c
          ∧ r.2.mem ((c.tc : Thread Cert.GdnInRefIdeal.nD Cert.GdnInRefIdeal.τ).loc Cert.GdnInRefIdeal.main_arg0) = m' ((c.tc : Thread Cert.GdnInRefIdeal.nD Cert.GdnInRefIdeal.τ).loc Cert.GdnInRefIdeal.main_arg0)
          ∧ r.2.mem ((c.tc : Thread Cert.GdnInRefIdeal.nD Cert.GdnInRefIdeal.τ).loc Cert.GdnInRefIdeal.main_arg1) = m' ((c.tc : Thread Cert.GdnInRefIdeal.nD Cert.GdnInRefIdeal.τ).loc Cert.GdnInRefIdeal.main_arg1)
          ∧ r.2.mem ((c.tc : Thread Cert.GdnInRefIdeal.nD Cert.GdnInRefIdeal.τ).loc Cert.GdnInRefIdeal.main_arg2) = m' ((c.tc : Thread Cert.GdnInRefIdeal.nD Cert.GdnInRefIdeal.τ).loc Cert.GdnInRefIdeal.main_arg2))

def preserves_GdnOut_GdnOutIdeal : Prop :=
  True

def algebraic_GdnOutIdeal_GdnOutRefIdeal [hGdnOutIdeal : Cert.GdnOutIdeal.Facts] [hGdnOutRefIdeal : Cert.GdnOutRefIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutRefIdeal.nD Cert.GdnOutRefIdeal.τ Cert.GdnOutRefIdeal.sig) → Buf (Elt Ideal) ℓ) (g' : Dev Cert.GdnOutRefIdeal.nD → PrngReg), Pre_GdnOutIdeal m →
    (∀ c : Dev Cert.GdnOutIdeal.nD,
      m' ((c.tc : Thread Cert.GdnOutRefIdeal.nD Cert.GdnOutRefIdeal.τ).loc Cert.GdnOutRefIdeal.main_arg0) = m ((c.tc : Thread Cert.GdnOutIdeal.nD Cert.GdnOutIdeal.τ).loc Cert.GdnOutIdeal.main_arg0)
      ∧ m' ((c.tc : Thread Cert.GdnOutRefIdeal.nD Cert.GdnOutRefIdeal.τ).loc Cert.GdnOutRefIdeal.main_arg1) = m ((c.tc : Thread Cert.GdnOutIdeal.nD Cert.GdnOutIdeal.τ).loc Cert.GdnOutIdeal.main_arg1)
      ∧ m' ((c.tc : Thread Cert.GdnOutRefIdeal.nD Cert.GdnOutRefIdeal.τ).loc Cert.GdnOutRefIdeal.main_arg2) = m ((c.tc : Thread Cert.GdnOutIdeal.nD Cert.GdnOutIdeal.τ).loc Cert.GdnOutIdeal.main_arg2)) →
    ∃ (v0 : (c : Dev Cert.GdnOutIdeal.nD) → Buf (Elt Ideal) ((c.tc : Thread Cert.GdnOutIdeal.nD Cert.GdnOutIdeal.τ).loc Cert.GdnOutIdeal.main_v0)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v0) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2))
      ∧ θ_run (Cert.GdnOutRefIdeal.defs (F := Ideal)) (onTc (τ := Cert.GdnOutRefIdeal.τ) (Cert.GdnOutRefIdeal.main (F := Ideal))) ⟨m', fun _ => 0, g'⟩ (fun r => ∀ c : Dev Cert.GdnOutRefIdeal.nD,
          r.2.mem ((c.tc : Thread Cert.GdnOutRefIdeal.nD Cert.GdnOutRefIdeal.τ).loc Cert.GdnOutRefIdeal.main_v3) = v0 c
          ∧ r.2.mem ((c.tc : Thread Cert.GdnOutRefIdeal.nD Cert.GdnOutRefIdeal.τ).loc Cert.GdnOutRefIdeal.main_arg0) = m' ((c.tc : Thread Cert.GdnOutRefIdeal.nD Cert.GdnOutRefIdeal.τ).loc Cert.GdnOutRefIdeal.main_arg0)
          ∧ r.2.mem ((c.tc : Thread Cert.GdnOutRefIdeal.nD Cert.GdnOutRefIdeal.τ).loc Cert.GdnOutRefIdeal.main_arg1) = m' ((c.tc : Thread Cert.GdnOutRefIdeal.nD Cert.GdnOutRefIdeal.τ).loc Cert.GdnOutRefIdeal.main_arg1)
          ∧ r.2.mem ((c.tc : Thread Cert.GdnOutRefIdeal.nD Cert.GdnOutRefIdeal.τ).loc Cert.GdnOutRefIdeal.main_arg2) = m' ((c.tc : Thread Cert.GdnOutRefIdeal.nD Cert.GdnOutRefIdeal.τ).loc Cert.GdnOutRefIdeal.main_arg2))

def preserves_GdnOutDx_GdnOutDxIdeal : Prop :=
  True

def algebraic_GdnOutDxIdeal_GdnOutDxRefIdeal [hGdnOutDxIdeal : Cert.GdnOutDxIdeal.Facts] [hGdnOutDxRefIdeal : Cert.GdnOutDxRefIdeal.Facts] : Prop :=
  ∀ (m : (ℓ : Loc Cert.GdnOutDxIdeal.nD Cert.GdnOutDxIdeal.τ Cert.GdnOutDxIdeal.sig) → Buf (Elt Ideal) ℓ) (g : Dev Cert.GdnOutDxIdeal.nD → PrngReg)
    (m' : (ℓ : Loc Cert.GdnOutDxRefIdeal.nD Cert.GdnOutDxRefIdeal.τ Cert.GdnOutDxRefIdeal.sig) → Buf (Elt Ideal) ℓ) (g' : Dev Cert.GdnOutDxRefIdeal.nD → PrngReg), Pre_GdnOutDxIdeal m →
    (∀ c : Dev Cert.GdnOutDxIdeal.nD,
      m' ((c.tc : Thread Cert.GdnOutDxRefIdeal.nD Cert.GdnOutDxRefIdeal.τ).loc Cert.GdnOutDxRefIdeal.main_arg0) = m ((c.tc : Thread Cert.GdnOutDxIdeal.nD Cert.GdnOutDxIdeal.τ).loc Cert.GdnOutDxIdeal.main_arg0)
      ∧ m' ((c.tc : Thread Cert.GdnOutDxRefIdeal.nD Cert.GdnOutDxRefIdeal.τ).loc Cert.GdnOutDxRefIdeal.main_arg1) = m ((c.tc : Thread Cert.GdnOutDxIdeal.nD Cert.GdnOutDxIdeal.τ).loc Cert.GdnOutDxIdeal.main_arg1)) →
    ∃ (v0 : (c : Dev Cert.GdnOutDxIdeal.nD) → Buf (Elt Ideal) ((c.tc : Thread Cert.GdnOutDxIdeal.nD Cert.GdnOutDxIdeal.τ).loc Cert.GdnOutDxIdeal.main_v0)),
      θ_run (Cert.GdnOutDxIdeal.defs (F := Ideal)) (onTc (τ := Cert.GdnOutDxIdeal.τ) (Cert.GdnOutDxIdeal.main (F := Ideal))) ⟨m, fun _ => 0, g⟩ (fun r => ∀ c : Dev Cert.GdnOutDxIdeal.nD,
          r.2.mem ((c.tc : Thread Cert.GdnOutDxIdeal.nD Cert.GdnOutDxIdeal.τ).loc Cert.GdnOutDxIdeal.main_v0) = v0 c
          ∧ r.2.mem ((c.tc : Thread Cert.GdnOutDxIdeal.nD Cert.GdnOutDxIdeal.τ).loc Cert.GdnOutDxIdeal.main_arg0) = m ((c.tc : Thread Cert.GdnOutDxIdeal.nD Cert.GdnOutDxIdeal.τ).loc Cert.GdnOutDxIdeal.main_arg0)
          ∧ r.2.mem ((c.tc : Thread Cert.GdnOutDxIdeal.nD Cert.GdnOutDxIdeal.τ).loc Cert.GdnOutDxIdeal.main_arg1) = m ((c.tc : Thread Cert.GdnOutDxIdeal.nD Cert.GdnOutDxIdeal.τ).loc Cert.GdnOutDxIdeal.main_arg1))
      ∧ θ_run (Cert.GdnOutDxRefIdeal.defs (F := Ideal)) (onTc (τ := Cert.GdnOutDxRefIdeal.τ) (Cert.GdnOutDxRefIdeal.main (F := Ideal))) ⟨m', fun _ => 0, g'⟩ (fun r => ∀ c : Dev Cert.GdnOutDxRefIdeal.nD,
          r.2.mem ((c.tc : Thread Cert.GdnOutDxRefIdeal.nD Cert.GdnOutDxRefIdeal.τ).loc Cert.GdnOutDxRefIdeal.main_v4) = v0 c
          ∧ r.2.mem ((c.tc : Thread Cert.GdnOutDxRefIdeal.nD Cert.GdnOutDxRefIdeal.τ).loc Cert.GdnOutDxRefIdeal.main_arg0) = m' ((c.tc : Thread Cert.GdnOutDxRefIdeal.nD Cert.GdnOutDxRefIdeal.τ).loc Cert.GdnOutDxRefIdeal.main_arg0)
          ∧ r.2.mem ((c.tc : Thread Cert.GdnOutDxRefIdeal.nD Cert.GdnOutDxRefIdeal.τ).loc Cert.GdnOutDxRefIdeal.main_arg1) = m' ((c.tc : Thread Cert.GdnOutDxRefIdeal.nD Cert.GdnOutDxRefIdeal.τ).loc Cert.GdnOutDxRefIdeal.main_arg1))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v16) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v16) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)) →
    ∃ (v0 : (c : Dev Cert.OProjIdeal.nD) → Buf (Elt Ideal) ((c.tc : Thread Cert.OProjIdeal.nD Cert.OProjIdeal.τ).loc Cert.OProjIdeal.main_v0)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v3) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2))

def preserves_OProjDx_OProjDxIdeal : Prop :=
  True

def algebraic_OProjDxIdeal_OProjDxRefIdeal [hOProjDxIdeal : Cert.OProjDxIdeal.Facts] [hOProjDxRefIdeal : Cert.OProjDxRefIdeal.Facts] : Prop :=
  ∀ (m : (ℓ : Loc Cert.OProjDxIdeal.nD Cert.OProjDxIdeal.τ Cert.OProjDxIdeal.sig) → Buf (Elt Ideal) ℓ) (g : Dev Cert.OProjDxIdeal.nD → PrngReg)
    (m' : (ℓ : Loc Cert.OProjDxRefIdeal.nD Cert.OProjDxRefIdeal.τ Cert.OProjDxRefIdeal.sig) → Buf (Elt Ideal) ℓ) (g' : Dev Cert.OProjDxRefIdeal.nD → PrngReg), Pre_OProjDxIdeal m →
    (∀ c : Dev Cert.OProjDxIdeal.nD,
      m' ((c.tc : Thread Cert.OProjDxRefIdeal.nD Cert.OProjDxRefIdeal.τ).loc Cert.OProjDxRefIdeal.main_arg0) = m ((c.tc : Thread Cert.OProjDxIdeal.nD Cert.OProjDxIdeal.τ).loc Cert.OProjDxIdeal.main_arg0)
      ∧ m' ((c.tc : Thread Cert.OProjDxRefIdeal.nD Cert.OProjDxRefIdeal.τ).loc Cert.OProjDxRefIdeal.main_arg1) = m ((c.tc : Thread Cert.OProjDxIdeal.nD Cert.OProjDxIdeal.τ).loc Cert.OProjDxIdeal.main_arg1)) →
    ∃ (v0 : (c : Dev Cert.OProjDxIdeal.nD) → Buf (Elt Ideal) ((c.tc : Thread Cert.OProjDxIdeal.nD Cert.OProjDxIdeal.τ).loc Cert.OProjDxIdeal.main_v0)),
      θ_run (Cert.OProjDxIdeal.defs (F := Ideal)) (onTc (τ := Cert.OProjDxIdeal.τ) (Cert.OProjDxIdeal.main (F := Ideal))) ⟨m, fun _ => 0, g⟩ (fun r => ∀ c : Dev Cert.OProjDxIdeal.nD,
          r.2.mem ((c.tc : Thread Cert.OProjDxIdeal.nD Cert.OProjDxIdeal.τ).loc Cert.OProjDxIdeal.main_v0) = v0 c
          ∧ r.2.mem ((c.tc : Thread Cert.OProjDxIdeal.nD Cert.OProjDxIdeal.τ).loc Cert.OProjDxIdeal.main_arg0) = m ((c.tc : Thread Cert.OProjDxIdeal.nD Cert.OProjDxIdeal.τ).loc Cert.OProjDxIdeal.main_arg0)
          ∧ r.2.mem ((c.tc : Thread Cert.OProjDxIdeal.nD Cert.OProjDxIdeal.τ).loc Cert.OProjDxIdeal.main_arg1) = m ((c.tc : Thread Cert.OProjDxIdeal.nD Cert.OProjDxIdeal.τ).loc Cert.OProjDxIdeal.main_arg1))
      ∧ θ_run (Cert.OProjDxRefIdeal.defs (F := Ideal)) (onTc (τ := Cert.OProjDxRefIdeal.τ) (Cert.OProjDxRefIdeal.main (F := Ideal))) ⟨m', fun _ => 0, g'⟩ (fun r => ∀ c : Dev Cert.OProjDxRefIdeal.nD,
          r.2.mem ((c.tc : Thread Cert.OProjDxRefIdeal.nD Cert.OProjDxRefIdeal.τ).loc Cert.OProjDxRefIdeal.main_v4) = v0 c
          ∧ r.2.mem ((c.tc : Thread Cert.OProjDxRefIdeal.nD Cert.OProjDxRefIdeal.τ).loc Cert.OProjDxRefIdeal.main_arg0) = m' ((c.tc : Thread Cert.OProjDxRefIdeal.nD Cert.OProjDxRefIdeal.τ).loc Cert.OProjDxRefIdeal.main_arg0)
          ∧ r.2.mem ((c.tc : Thread Cert.OProjDxRefIdeal.nD Cert.OProjDxRefIdeal.τ).loc Cert.OProjDxRefIdeal.main_arg1) = m' ((c.tc : Thread Cert.OProjDxRefIdeal.nD Cert.OProjDxRefIdeal.τ).loc Cert.OProjDxRefIdeal.main_arg1))

def preserves_QDw_QDwIdeal : Prop :=
  True

def algebraic_QDwIdeal_QDwRefIdeal [hQDwIdeal : Cert.QDwIdeal.Facts] [hQDwRefIdeal : Cert.QDwRefIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwRefIdeal.nD Cert.QDwRefIdeal.τ Cert.QDwRefIdeal.sig) → Buf (Elt Ideal) ℓ) (g' : Dev Cert.QDwRefIdeal.nD → PrngReg), Pre_QDwIdeal m →
    (∀ c : Dev Cert.QDwIdeal.nD,
      m' ((c.tc : Thread Cert.QDwRefIdeal.nD Cert.QDwRefIdeal.τ).loc Cert.QDwRefIdeal.main_arg0) = m ((c.tc : Thread Cert.QDwIdeal.nD Cert.QDwIdeal.τ).loc Cert.QDwIdeal.main_arg0)
      ∧ m' ((c.tc : Thread Cert.QDwRefIdeal.nD Cert.QDwRefIdeal.τ).loc Cert.QDwRefIdeal.main_arg1) = m ((c.tc : Thread Cert.QDwIdeal.nD Cert.QDwIdeal.τ).loc Cert.QDwIdeal.main_arg1)
      ∧ m' ((c.tc : Thread Cert.QDwRefIdeal.nD Cert.QDwRefIdeal.τ).loc Cert.QDwRefIdeal.main_arg2) = m ((c.tc : Thread Cert.QDwIdeal.nD Cert.QDwIdeal.τ).loc Cert.QDwIdeal.main_arg2)) →
    ∃ (v0 : (c : Dev Cert.QDwIdeal.nD) → Buf (Elt Ideal) ((c.tc : Thread Cert.QDwIdeal.nD Cert.QDwIdeal.τ).loc Cert.QDwIdeal.main_v0)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v0) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1)
          ∧ r.2.mem ((c.tc : Thread Cert.QDwIdeal.nD Cert.QDwIdeal.τ).loc Cert.QDwIdeal.main_arg2) = m ((c.tc : Thread Cert.QDwIdeal.nD Cert.QDwIdeal.τ).loc Cert.QDwIdeal.main_arg2))
      ∧ θ_run (Cert.QDwRefIdeal.defs (F := Ideal)) (onTc (τ := Cert.QDwRefIdeal.τ) (Cert.QDwRefIdeal.main (F := Ideal))) ⟨m', fun _ => 0, g'⟩ (fun r => ∀ c : Dev Cert.QDwRefIdeal.nD,
          r.2.mem ((c.tc : Thread Cert.QDwRefIdeal.nD Cert.QDwRefIdeal.τ).loc Cert.QDwRefIdeal.main_v18) = v0 c
          ∧ r.2.mem ((c.tc : Thread Cert.QDwRefIdeal.nD Cert.QDwRefIdeal.τ).loc Cert.QDwRefIdeal.main_arg0) = m' ((c.tc : Thread Cert.QDwRefIdeal.nD Cert.QDwRefIdeal.τ).loc Cert.QDwRefIdeal.main_arg0)
          ∧ r.2.mem ((c.tc : Thread Cert.QDwRefIdeal.nD Cert.QDwRefIdeal.τ).loc Cert.QDwRefIdeal.main_arg1) = m' ((c.tc : Thread Cert.QDwRefIdeal.nD Cert.QDwRefIdeal.τ).loc Cert.QDwRefIdeal.main_arg1)
          ∧ r.2.mem ((c.tc : Thread Cert.QDwRefIdeal.nD Cert.QDwRefIdeal.τ).loc Cert.QDwRefIdeal.main_arg2) = m' ((c.tc : Thread Cert.QDwRefIdeal.nD Cert.QDwRefIdeal.τ).loc Cert.QDwRefIdeal.main_arg2))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)
      ∧ m' ((c.tc : Thread Cert.KvDwRefIdeal.nD Cert.KvDwRefIdeal.τ).loc Cert.KvDwRefIdeal.main_arg2) = m ((c.tc : Thread Cert.KvDwIdeal.nD Cert.KvDwIdeal.τ).loc Cert.KvDwIdeal.main_arg2)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1)
          ∧ r.2.mem ((c.tc : Thread Cert.KvDwIdeal.nD Cert.KvDwIdeal.τ).loc Cert.KvDwIdeal.main_arg2) = m ((c.tc : Thread Cert.KvDwIdeal.nD Cert.KvDwIdeal.τ).loc Cert.KvDwIdeal.main_arg2))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v18) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1)
          ∧ r.2.mem ((c.tc : Thread Cert.KvDwRefIdeal.nD Cert.KvDwRefIdeal.τ).loc Cert.KvDwRefIdeal.main_arg2) = m' ((c.tc : Thread Cert.KvDwRefIdeal.nD Cert.KvDwRefIdeal.τ).loc Cert.KvDwRefIdeal.main_arg2))

def preserves_ODw_ODwIdeal : Prop :=
  True

def algebraic_ODwIdeal_ODwRefIdeal [hODwIdeal : Cert.ODwIdeal.Facts] [hODwRefIdeal : Cert.ODwRefIdeal.Facts] : Prop :=
  ∀ (m : (ℓ : Loc Cert.ODwIdeal.nD Cert.ODwIdeal.τ Cert.ODwIdeal.sig) → Buf (Elt Ideal) ℓ) (g : Dev Cert.ODwIdeal.nD → PrngReg)
    (m' : (ℓ : Loc Cert.ODwRefIdeal.nD Cert.ODwRefIdeal.τ Cert.ODwRefIdeal.sig) → Buf (Elt Ideal) ℓ) (g' : Dev Cert.ODwRefIdeal.nD → PrngReg), Pre_ODwIdeal m →
    (∀ c : Dev Cert.ODwIdeal.nD,
      m' ((c.tc : Thread Cert.ODwRefIdeal.nD Cert.ODwRefIdeal.τ).loc Cert.ODwRefIdeal.main_arg0) = m ((c.tc : Thread Cert.ODwIdeal.nD Cert.ODwIdeal.τ).loc Cert.ODwIdeal.main_arg0)
      ∧ m' ((c.tc : Thread Cert.ODwRefIdeal.nD Cert.ODwRefIdeal.τ).loc Cert.ODwRefIdeal.main_arg1) = m ((c.tc : Thread Cert.ODwIdeal.nD Cert.ODwIdeal.τ).loc Cert.ODwIdeal.main_arg1)) →
    ∃ (v0 : (c : Dev Cert.ODwIdeal.nD) → Buf (Elt Ideal) ((c.tc : Thread Cert.ODwIdeal.nD Cert.ODwIdeal.τ).loc Cert.ODwIdeal.main_v0)),
      θ_run (Cert.ODwIdeal.defs (F := Ideal)) (onTc (τ := Cert.ODwIdeal.τ) (Cert.ODwIdeal.main (F := Ideal))) ⟨m, fun _ => 0, g⟩ (fun r => ∀ c : Dev Cert.ODwIdeal.nD,
          r.2.mem ((c.tc : Thread Cert.ODwIdeal.nD Cert.ODwIdeal.τ).loc Cert.ODwIdeal.main_v0) = v0 c
          ∧ r.2.mem ((c.tc : Thread Cert.ODwIdeal.nD Cert.ODwIdeal.τ).loc Cert.ODwIdeal.main_arg0) = m ((c.tc : Thread Cert.ODwIdeal.nD Cert.ODwIdeal.τ).loc Cert.ODwIdeal.main_arg0)
          ∧ r.2.mem ((c.tc : Thread Cert.ODwIdeal.nD Cert.ODwIdeal.τ).loc Cert.ODwIdeal.main_arg1) = m ((c.tc : Thread Cert.ODwIdeal.nD Cert.ODwIdeal.τ).loc Cert.ODwIdeal.main_arg1))
      ∧ θ_run (Cert.ODwRefIdeal.defs (F := Ideal)) (onTc (τ := Cert.ODwRefIdeal.τ) (Cert.ODwRefIdeal.main (F := Ideal))) ⟨m', fun _ => 0, g'⟩ (fun r => ∀ c : Dev Cert.ODwRefIdeal.nD,
          r.2.mem ((c.tc : Thread Cert.ODwRefIdeal.nD Cert.ODwRefIdeal.τ).loc Cert.ODwRefIdeal.main_v4) = v0 c
          ∧ r.2.mem ((c.tc : Thread Cert.ODwRefIdeal.nD Cert.ODwRefIdeal.τ).loc Cert.ODwRefIdeal.main_arg0) = m' ((c.tc : Thread Cert.ODwRefIdeal.nD Cert.ODwRefIdeal.τ).loc Cert.ODwRefIdeal.main_arg0)
          ∧ r.2.mem ((c.tc : Thread Cert.ODwRefIdeal.nD Cert.ODwRefIdeal.τ).loc Cert.ODwRefIdeal.main_arg1) = m' ((c.tc : Thread Cert.ODwRefIdeal.nD Cert.ODwRefIdeal.τ).loc Cert.ODwRefIdeal.main_arg1))

def preserves_GdnOutDw_GdnOutDwIdeal : Prop :=
  True

def algebraic_GdnOutDwIdeal_GdnOutDwRefIdeal [hGdnOutDwIdeal : Cert.GdnOutDwIdeal.Facts] [hGdnOutDwRefIdeal : Cert.GdnOutDwRefIdeal.Facts] : Prop :=
  ∀ (m : (ℓ : Loc Cert.GdnOutDwIdeal.nD Cert.GdnOutDwIdeal.τ Cert.GdnOutDwIdeal.sig) → Buf (Elt Ideal) ℓ) (g : Dev Cert.GdnOutDwIdeal.nD → PrngReg)
    (m' : (ℓ : Loc Cert.GdnOutDwRefIdeal.nD Cert.GdnOutDwRefIdeal.τ Cert.GdnOutDwRefIdeal.sig) → Buf (Elt Ideal) ℓ) (g' : Dev Cert.GdnOutDwRefIdeal.nD → PrngReg), Pre_GdnOutDwIdeal m →
    (∀ c : Dev Cert.GdnOutDwIdeal.nD,
      m' ((c.tc : Thread Cert.GdnOutDwRefIdeal.nD Cert.GdnOutDwRefIdeal.τ).loc Cert.GdnOutDwRefIdeal.main_arg0) = m ((c.tc : Thread Cert.GdnOutDwIdeal.nD Cert.GdnOutDwIdeal.τ).loc Cert.GdnOutDwIdeal.main_arg0)
      ∧ m' ((c.tc : Thread Cert.GdnOutDwRefIdeal.nD Cert.GdnOutDwRefIdeal.τ).loc Cert.GdnOutDwRefIdeal.main_arg1) = m ((c.tc : Thread Cert.GdnOutDwIdeal.nD Cert.GdnOutDwIdeal.τ).loc Cert.GdnOutDwIdeal.main_arg1)) →
    ∃ (v0 : (c : Dev Cert.GdnOutDwIdeal.nD) → Buf (Elt Ideal) ((c.tc : Thread Cert.GdnOutDwIdeal.nD Cert.GdnOutDwIdeal.τ).loc Cert.GdnOutDwIdeal.main_v0)),
      θ_run (Cert.GdnOutDwIdeal.defs (F := Ideal)) (onTc (τ := Cert.GdnOutDwIdeal.τ) (Cert.GdnOutDwIdeal.main (F := Ideal))) ⟨m, fun _ => 0, g⟩ (fun r => ∀ c : Dev Cert.GdnOutDwIdeal.nD,
          r.2.mem ((c.tc : Thread Cert.GdnOutDwIdeal.nD Cert.GdnOutDwIdeal.τ).loc Cert.GdnOutDwIdeal.main_v0) = v0 c
          ∧ r.2.mem ((c.tc : Thread Cert.GdnOutDwIdeal.nD Cert.GdnOutDwIdeal.τ).loc Cert.GdnOutDwIdeal.main_arg0) = m ((c.tc : Thread Cert.GdnOutDwIdeal.nD Cert.GdnOutDwIdeal.τ).loc Cert.GdnOutDwIdeal.main_arg0)
          ∧ r.2.mem ((c.tc : Thread Cert.GdnOutDwIdeal.nD Cert.GdnOutDwIdeal.τ).loc Cert.GdnOutDwIdeal.main_arg1) = m ((c.tc : Thread Cert.GdnOutDwIdeal.nD Cert.GdnOutDwIdeal.τ).loc Cert.GdnOutDwIdeal.main_arg1))
      ∧ θ_run (Cert.GdnOutDwRefIdeal.defs (F := Ideal)) (onTc (τ := Cert.GdnOutDwRefIdeal.τ) (Cert.GdnOutDwRefIdeal.main (F := Ideal))) ⟨m', fun _ => 0, g'⟩ (fun r => ∀ c : Dev Cert.GdnOutDwRefIdeal.nD,
          r.2.mem ((c.tc : Thread Cert.GdnOutDwRefIdeal.nD Cert.GdnOutDwRefIdeal.τ).loc Cert.GdnOutDwRefIdeal.main_v4) = v0 c
          ∧ r.2.mem ((c.tc : Thread Cert.GdnOutDwRefIdeal.nD Cert.GdnOutDwRefIdeal.τ).loc Cert.GdnOutDwRefIdeal.main_arg0) = m' ((c.tc : Thread Cert.GdnOutDwRefIdeal.nD Cert.GdnOutDwRefIdeal.τ).loc Cert.GdnOutDwRefIdeal.main_arg0)
          ∧ r.2.mem ((c.tc : Thread Cert.GdnOutDwRefIdeal.nD Cert.GdnOutDwRefIdeal.τ).loc Cert.GdnOutDwRefIdeal.main_arg1) = m' ((c.tc : Thread Cert.GdnOutDwRefIdeal.nD Cert.GdnOutDwRefIdeal.τ).loc Cert.GdnOutDwRefIdeal.main_arg1))

def preserves_GdnInDw_GdnInDwIdeal : Prop :=
  True

def algebraic_GdnInDwIdeal_GdnInDwRefIdeal [hGdnInDwIdeal : Cert.GdnInDwIdeal.Facts] [hGdnInDwRefIdeal : Cert.GdnInDwRefIdeal.Facts] : Prop :=
  ∀ (m : (ℓ : Loc Cert.GdnInDwIdeal.nD Cert.GdnInDwIdeal.τ Cert.GdnInDwIdeal.sig) → Buf (Elt Ideal) ℓ) (g : Dev Cert.GdnInDwIdeal.nD → PrngReg)
    (m' : (ℓ : Loc Cert.GdnInDwRefIdeal.nD Cert.GdnInDwRefIdeal.τ Cert.GdnInDwRefIdeal.sig) → Buf (Elt Ideal) ℓ) (g' : Dev Cert.GdnInDwRefIdeal.nD → PrngReg), Pre_GdnInDwIdeal m →
    (∀ c : Dev Cert.GdnInDwIdeal.nD,
      m' ((c.tc : Thread Cert.GdnInDwRefIdeal.nD Cert.GdnInDwRefIdeal.τ).loc Cert.GdnInDwRefIdeal.main_arg0) = m ((c.tc : Thread Cert.GdnInDwIdeal.nD Cert.GdnInDwIdeal.τ).loc Cert.GdnInDwIdeal.main_arg0)
      ∧ m' ((c.tc : Thread Cert.GdnInDwRefIdeal.nD Cert.GdnInDwRefIdeal.τ).loc Cert.GdnInDwRefIdeal.main_arg1) = m ((c.tc : Thread Cert.GdnInDwIdeal.nD Cert.GdnInDwIdeal.τ).loc Cert.GdnInDwIdeal.main_arg1)
      ∧ m' ((c.tc : Thread Cert.GdnInDwRefIdeal.nD Cert.GdnInDwRefIdeal.τ).loc Cert.GdnInDwRefIdeal.main_arg2) = m ((c.tc : Thread Cert.GdnInDwIdeal.nD Cert.GdnInDwIdeal.τ).loc Cert.GdnInDwIdeal.main_arg2)) →
    ∃ (v0 : (c : Dev Cert.GdnInDwIdeal.nD) → Buf (Elt Ideal) ((c.tc : Thread Cert.GdnInDwIdeal.nD Cert.GdnInDwIdeal.τ).loc Cert.GdnInDwIdeal.main_v0)),
      θ_run (Cert.GdnInDwIdeal.defs (F := Ideal)) (onTc (τ := Cert.GdnInDwIdeal.τ) (Cert.GdnInDwIdeal.main (F := Ideal))) ⟨m, fun _ => 0, g⟩ (fun r => ∀ c : Dev Cert.GdnInDwIdeal.nD,
          r.2.mem ((c.tc : Thread Cert.GdnInDwIdeal.nD Cert.GdnInDwIdeal.τ).loc Cert.GdnInDwIdeal.main_v0) = v0 c
          ∧ r.2.mem ((c.tc : Thread Cert.GdnInDwIdeal.nD Cert.GdnInDwIdeal.τ).loc Cert.GdnInDwIdeal.main_arg0) = m ((c.tc : Thread Cert.GdnInDwIdeal.nD Cert.GdnInDwIdeal.τ).loc Cert.GdnInDwIdeal.main_arg0)
          ∧ r.2.mem ((c.tc : Thread Cert.GdnInDwIdeal.nD Cert.GdnInDwIdeal.τ).loc Cert.GdnInDwIdeal.main_arg1) = m ((c.tc : Thread Cert.GdnInDwIdeal.nD Cert.GdnInDwIdeal.τ).loc Cert.GdnInDwIdeal.main_arg1)
          ∧ r.2.mem ((c.tc : Thread Cert.GdnInDwIdeal.nD Cert.GdnInDwIdeal.τ).loc Cert.GdnInDwIdeal.main_arg2) = m ((c.tc : Thread Cert.GdnInDwIdeal.nD Cert.GdnInDwIdeal.τ).loc Cert.GdnInDwIdeal.main_arg2))
      ∧ θ_run (Cert.GdnInDwRefIdeal.defs (F := Ideal)) (onTc (τ := Cert.GdnInDwRefIdeal.τ) (Cert.GdnInDwRefIdeal.main (F := Ideal))) ⟨m', fun _ => 0, g'⟩ (fun r => ∀ c : Dev Cert.GdnInDwRefIdeal.nD,
          r.2.mem ((c.tc : Thread Cert.GdnInDwRefIdeal.nD Cert.GdnInDwRefIdeal.τ).loc Cert.GdnInDwRefIdeal.main_v18) = v0 c
          ∧ r.2.mem ((c.tc : Thread Cert.GdnInDwRefIdeal.nD Cert.GdnInDwRefIdeal.τ).loc Cert.GdnInDwRefIdeal.main_arg0) = m' ((c.tc : Thread Cert.GdnInDwRefIdeal.nD Cert.GdnInDwRefIdeal.τ).loc Cert.GdnInDwRefIdeal.main_arg0)
          ∧ r.2.mem ((c.tc : Thread Cert.GdnInDwRefIdeal.nD Cert.GdnInDwRefIdeal.τ).loc Cert.GdnInDwRefIdeal.main_arg1) = m' ((c.tc : Thread Cert.GdnInDwRefIdeal.nD Cert.GdnInDwRefIdeal.τ).loc Cert.GdnInDwRefIdeal.main_arg1)
          ∧ r.2.mem ((c.tc : Thread Cert.GdnInDwRefIdeal.nD Cert.GdnInDwRefIdeal.τ).loc Cert.GdnInDwRefIdeal.main_arg2) = m' ((c.tc : Thread Cert.GdnInDwRefIdeal.nD Cert.GdnInDwRefIdeal.τ).loc Cert.GdnInDwRefIdeal.main_arg2))

def preserves_Up1Dw_Up1DwIdeal : Prop :=
  True

def algebraic_Up1DwIdeal_Up1DwRefIdeal [hUp1DwIdeal : Cert.Up1DwIdeal.Facts] [hUp1DwRefIdeal : Cert.Up1DwRefIdeal.Facts] : Prop :=
  ∀ (m : (ℓ : Loc Cert.Up1DwIdeal.nD Cert.Up1DwIdeal.τ Cert.Up1DwIdeal.sig) → Buf (Elt Ideal) ℓ) (g : Dev Cert.Up1DwIdeal.nD → PrngReg)
    (m' : (ℓ : Loc Cert.Up1DwRefIdeal.nD Cert.Up1DwRefIdeal.τ Cert.Up1DwRefIdeal.sig) → Buf (Elt Ideal) ℓ) (g' : Dev Cert.Up1DwRefIdeal.nD → PrngReg), Pre_Up1DwIdeal m →
    (∀ c : Dev Cert.Up1DwIdeal.nD,
      m' ((c.tc : Thread Cert.Up1DwRefIdeal.nD Cert.Up1DwRefIdeal.τ).loc Cert.Up1DwRefIdeal.main_arg0) = m ((c.tc : Thread Cert.Up1DwIdeal.nD Cert.Up1DwIdeal.τ).loc Cert.Up1DwIdeal.main_arg0)
      ∧ m' ((c.tc : Thread Cert.Up1DwRefIdeal.nD Cert.Up1DwRefIdeal.τ).loc Cert.Up1DwRefIdeal.main_arg1) = m ((c.tc : Thread Cert.Up1DwIdeal.nD Cert.Up1DwIdeal.τ).loc Cert.Up1DwIdeal.main_arg1)
      ∧ m' ((c.tc : Thread Cert.Up1DwRefIdeal.nD Cert.Up1DwRefIdeal.τ).loc Cert.Up1DwRefIdeal.main_arg2) = m ((c.tc : Thread Cert.Up1DwIdeal.nD Cert.Up1DwIdeal.τ).loc Cert.Up1DwIdeal.main_arg2)) →
    ∃ (v0 : (c : Dev Cert.Up1DwIdeal.nD) → Buf (Elt Ideal) ((c.tc : Thread Cert.Up1DwIdeal.nD Cert.Up1DwIdeal.τ).loc Cert.Up1DwIdeal.main_v2)),
      θ_run (Cert.Up1DwIdeal.defs (F := Ideal)) (onTc (τ := Cert.Up1DwIdeal.τ) (Cert.Up1DwIdeal.main (F := Ideal))) ⟨m, fun _ => 0, g⟩ (fun r => ∀ c : Dev Cert.Up1DwIdeal.nD,
          r.2.mem ((c.tc : Thread Cert.Up1DwIdeal.nD Cert.Up1DwIdeal.τ).loc Cert.Up1DwIdeal.main_v2) = v0 c
          ∧ r.2.mem ((c.tc : Thread Cert.Up1DwIdeal.nD Cert.Up1DwIdeal.τ).loc Cert.Up1DwIdeal.main_arg0) = m ((c.tc : Thread Cert.Up1DwIdeal.nD Cert.Up1DwIdeal.τ).loc Cert.Up1DwIdeal.main_arg0)
          ∧ r.2.mem ((c.tc : Thread Cert.Up1DwIdeal.nD Cert.Up1DwIdeal.τ).loc Cert.Up1DwIdeal.main_arg1) = m ((c.tc : Thread Cert.Up1DwIdeal.nD Cert.Up1DwIdeal.τ).loc Cert.Up1DwIdeal.main_arg1)
          ∧ r.2.mem ((c.tc : Thread Cert.Up1DwIdeal.nD Cert.Up1DwIdeal.τ).loc Cert.Up1DwIdeal.main_arg2) = m ((c.tc : Thread Cert.Up1DwIdeal.nD Cert.Up1DwIdeal.τ).loc Cert.Up1DwIdeal.main_arg2))
      ∧ θ_run (Cert.Up1DwRefIdeal.defs (F := Ideal)) (onTc (τ := Cert.Up1DwRefIdeal.τ) (Cert.Up1DwRefIdeal.main (F := Ideal))) ⟨m', fun _ => 0, g'⟩ (fun r => ∀ c : Dev Cert.Up1DwRefIdeal.nD,
          r.2.mem ((c.tc : Thread Cert.Up1DwRefIdeal.nD Cert.Up1DwRefIdeal.τ).loc Cert.Up1DwRefIdeal.main_v20) = v0 c
          ∧ r.2.mem ((c.tc : Thread Cert.Up1DwRefIdeal.nD Cert.Up1DwRefIdeal.τ).loc Cert.Up1DwRefIdeal.main_arg0) = m' ((c.tc : Thread Cert.Up1DwRefIdeal.nD Cert.Up1DwRefIdeal.τ).loc Cert.Up1DwRefIdeal.main_arg0)
          ∧ r.2.mem ((c.tc : Thread Cert.Up1DwRefIdeal.nD Cert.Up1DwRefIdeal.τ).loc Cert.Up1DwRefIdeal.main_arg1) = m' ((c.tc : Thread Cert.Up1DwRefIdeal.nD Cert.Up1DwRefIdeal.τ).loc Cert.Up1DwRefIdeal.main_arg1)
          ∧ r.2.mem ((c.tc : Thread Cert.Up1DwRefIdeal.nD Cert.Up1DwRefIdeal.τ).loc Cert.Up1DwRefIdeal.main_arg2) = m' ((c.tc : Thread Cert.Up1DwRefIdeal.nD Cert.Up1DwRefIdeal.τ).loc Cert.Up1DwRefIdeal.main_arg2))

def preserves_Up0Dw_Up0DwIdeal : Prop :=
  True

def algebraic_Up0DwIdeal_Up0DwRefIdeal [hUp0DwIdeal : Cert.Up0DwIdeal.Facts] [hUp0DwRefIdeal : Cert.Up0DwRefIdeal.Facts] : Prop :=
  ∀ (m : (ℓ : Loc Cert.Up0DwIdeal.nD Cert.Up0DwIdeal.τ Cert.Up0DwIdeal.sig) → Buf (Elt Ideal) ℓ) (g : Dev Cert.Up0DwIdeal.nD → PrngReg)
    (m' : (ℓ : Loc Cert.Up0DwRefIdeal.nD Cert.Up0DwRefIdeal.τ Cert.Up0DwRefIdeal.sig) → Buf (Elt Ideal) ℓ) (g' : Dev Cert.Up0DwRefIdeal.nD → PrngReg), Pre_Up0DwIdeal m →
    (∀ c : Dev Cert.Up0DwIdeal.nD,
      m' ((c.tc : Thread Cert.Up0DwRefIdeal.nD Cert.Up0DwRefIdeal.τ).loc Cert.Up0DwRefIdeal.main_arg0) = m ((c.tc : Thread Cert.Up0DwIdeal.nD Cert.Up0DwIdeal.τ).loc Cert.Up0DwIdeal.main_arg0)
      ∧ m' ((c.tc : Thread Cert.Up0DwRefIdeal.nD Cert.Up0DwRefIdeal.τ).loc Cert.Up0DwRefIdeal.main_arg1) = m ((c.tc : Thread Cert.Up0DwIdeal.nD Cert.Up0DwIdeal.τ).loc Cert.Up0DwIdeal.main_arg1)
      ∧ m' ((c.tc : Thread Cert.Up0DwRefIdeal.nD Cert.Up0DwRefIdeal.τ).loc Cert.Up0DwRefIdeal.main_arg2) = m ((c.tc : Thread Cert.Up0DwIdeal.nD Cert.Up0DwIdeal.τ).loc Cert.Up0DwIdeal.main_arg2)
      ∧ m' ((c.tc : Thread Cert.Up0DwRefIdeal.nD Cert.Up0DwRefIdeal.τ).loc Cert.Up0DwRefIdeal.main_arg3) = m ((c.tc : Thread Cert.Up0DwIdeal.nD Cert.Up0DwIdeal.τ).loc Cert.Up0DwIdeal.main_arg3)) →
    ∃ (v0 : (c : Dev Cert.Up0DwIdeal.nD) → Buf (Elt Ideal) ((c.tc : Thread Cert.Up0DwIdeal.nD Cert.Up0DwIdeal.τ).loc Cert.Up0DwIdeal.main_v0)),
      θ_run (Cert.Up0DwIdeal.defs (F := Ideal)) (onTc (τ := Cert.Up0DwIdeal.τ) (Cert.Up0DwIdeal.main (F := Ideal))) ⟨m, fun _ => 0, g⟩ (fun r => ∀ c : Dev Cert.Up0DwIdeal.nD,
          r.2.mem ((c.tc : Thread Cert.Up0DwIdeal.nD Cert.Up0DwIdeal.τ).loc Cert.Up0DwIdeal.main_v0) = v0 c
          ∧ r.2.mem ((c.tc : Thread Cert.Up0DwIdeal.nD Cert.Up0DwIdeal.τ).loc Cert.Up0DwIdeal.main_arg0) = m ((c.tc : Thread Cert.Up0DwIdeal.nD Cert.Up0DwIdeal.τ).loc Cert.Up0DwIdeal.main_arg0)
          ∧ r.2.mem ((c.tc : Thread Cert.Up0DwIdeal.nD Cert.Up0DwIdeal.τ).loc Cert.Up0DwIdeal.main_arg1) = m ((c.tc : Thread Cert.Up0DwIdeal.nD Cert.Up0DwIdeal.τ).loc Cert.Up0DwIdeal.main_arg1)
          ∧ r.2.mem ((c.tc : Thread Cert.Up0DwIdeal.nD Cert.Up0DwIdeal.τ).loc Cert.Up0DwIdeal.main_arg2) = m ((c.tc : Thread Cert.Up0DwIdeal.nD Cert.Up0DwIdeal.τ).loc Cert.Up0DwIdeal.main_arg2)
          ∧ r.2.mem ((c.tc : Thread Cert.Up0DwIdeal.nD Cert.Up0DwIdeal.τ).loc Cert.Up0DwIdeal.main_arg3) = m ((c.tc : Thread Cert.Up0DwIdeal.nD Cert.Up0DwIdeal.τ).loc Cert.Up0DwIdeal.main_arg3))
      ∧ θ_run (Cert.Up0DwRefIdeal.defs (F := Ideal)) (onTc (τ := Cert.Up0DwRefIdeal.τ) (Cert.Up0DwRefIdeal.main (F := Ideal))) ⟨m', fun _ => 0, g'⟩ (fun r => ∀ c : Dev Cert.Up0DwRefIdeal.nD,
          r.2.mem ((c.tc : Thread Cert.Up0DwRefIdeal.nD Cert.Up0DwRefIdeal.τ).loc Cert.Up0DwRefIdeal.main_v25) = v0 c
          ∧ r.2.mem ((c.tc : Thread Cert.Up0DwRefIdeal.nD Cert.Up0DwRefIdeal.τ).loc Cert.Up0DwRefIdeal.main_arg0) = m' ((c.tc : Thread Cert.Up0DwRefIdeal.nD Cert.Up0DwRefIdeal.τ).loc Cert.Up0DwRefIdeal.main_arg0)
          ∧ r.2.mem ((c.tc : Thread Cert.Up0DwRefIdeal.nD Cert.Up0DwRefIdeal.τ).loc Cert.Up0DwRefIdeal.main_arg1) = m' ((c.tc : Thread Cert.Up0DwRefIdeal.nD Cert.Up0DwRefIdeal.τ).loc Cert.Up0DwRefIdeal.main_arg1)
          ∧ r.2.mem ((c.tc : Thread Cert.Up0DwRefIdeal.nD Cert.Up0DwRefIdeal.τ).loc Cert.Up0DwRefIdeal.main_arg2) = m' ((c.tc : Thread Cert.Up0DwRefIdeal.nD Cert.Up0DwRefIdeal.τ).loc Cert.Up0DwRefIdeal.main_arg2)
          ∧ r.2.mem ((c.tc : Thread Cert.Up0DwRefIdeal.nD Cert.Up0DwRefIdeal.τ).loc Cert.Up0DwRefIdeal.main_arg3) = m' ((c.tc : Thread Cert.Up0DwRefIdeal.nD Cert.Up0DwRefIdeal.τ).loc Cert.Up0DwRefIdeal.main_arg3))

def preserves_Down1Dw_Down1DwIdeal : Prop :=
  True

def algebraic_Down1DwIdeal_Down1DwRefIdeal [hDown1DwIdeal : Cert.Down1DwIdeal.Facts] [hDown1DwRefIdeal : Cert.Down1DwRefIdeal.Facts] : Prop :=
  ∀ (m : (ℓ : Loc Cert.Down1DwIdeal.nD Cert.Down1DwIdeal.τ Cert.Down1DwIdeal.sig) → Buf (Elt Ideal) ℓ) (g : Dev Cert.Down1DwIdeal.nD → PrngReg)
    (m' : (ℓ : Loc Cert.Down1DwRefIdeal.nD Cert.Down1DwRefIdeal.τ Cert.Down1DwRefIdeal.sig) → Buf (Elt Ideal) ℓ) (g' : Dev Cert.Down1DwRefIdeal.nD → PrngReg), Pre_Down1DwIdeal m →
    (∀ c : Dev Cert.Down1DwIdeal.nD,
      m' ((c.tc : Thread Cert.Down1DwRefIdeal.nD Cert.Down1DwRefIdeal.τ).loc Cert.Down1DwRefIdeal.main_arg0) = m ((c.tc : Thread Cert.Down1DwIdeal.nD Cert.Down1DwIdeal.τ).loc Cert.Down1DwIdeal.main_arg0)
      ∧ m' ((c.tc : Thread Cert.Down1DwRefIdeal.nD Cert.Down1DwRefIdeal.τ).loc Cert.Down1DwRefIdeal.main_arg1) = m ((c.tc : Thread Cert.Down1DwIdeal.nD Cert.Down1DwIdeal.τ).loc Cert.Down1DwIdeal.main_arg1)) →
    ∃ (v0 : (c : Dev Cert.Down1DwIdeal.nD) → Buf (Elt Ideal) ((c.tc : Thread Cert.Down1DwIdeal.nD Cert.Down1DwIdeal.τ).loc Cert.Down1DwIdeal.main_v2)),
      θ_run (Cert.Down1DwIdeal.defs (F := Ideal)) (onTc (τ := Cert.Down1DwIdeal.τ) (Cert.Down1DwIdeal.main (F := Ideal))) ⟨m, fun _ => 0, g⟩ (fun r => ∀ c : Dev Cert.Down1DwIdeal.nD,
          r.2.mem ((c.tc : Thread Cert.Down1DwIdeal.nD Cert.Down1DwIdeal.τ).loc Cert.Down1DwIdeal.main_v2) = v0 c
          ∧ r.2.mem ((c.tc : Thread Cert.Down1DwIdeal.nD Cert.Down1DwIdeal.τ).loc Cert.Down1DwIdeal.main_arg0) = m ((c.tc : Thread Cert.Down1DwIdeal.nD Cert.Down1DwIdeal.τ).loc Cert.Down1DwIdeal.main_arg0)
          ∧ r.2.mem ((c.tc : Thread Cert.Down1DwIdeal.nD Cert.Down1DwIdeal.τ).loc Cert.Down1DwIdeal.main_arg1) = m ((c.tc : Thread Cert.Down1DwIdeal.nD Cert.Down1DwIdeal.τ).loc Cert.Down1DwIdeal.main_arg1))
      ∧ θ_run (Cert.Down1DwRefIdeal.defs (F := Ideal)) (onTc (τ := Cert.Down1DwRefIdeal.τ) (Cert.Down1DwRefIdeal.main (F := Ideal))) ⟨m', fun _ => 0, g'⟩ (fun r => ∀ c : Dev Cert.Down1DwRefIdeal.nD,
          r.2.mem ((c.tc : Thread Cert.Down1DwRefIdeal.nD Cert.Down1DwRefIdeal.τ).loc Cert.Down1DwRefIdeal.main_v5) = v0 c
          ∧ r.2.mem ((c.tc : Thread Cert.Down1DwRefIdeal.nD Cert.Down1DwRefIdeal.τ).loc Cert.Down1DwRefIdeal.main_arg0) = m' ((c.tc : Thread Cert.Down1DwRefIdeal.nD Cert.Down1DwRefIdeal.τ).loc Cert.Down1DwRefIdeal.main_arg0)
          ∧ r.2.mem ((c.tc : Thread Cert.Down1DwRefIdeal.nD Cert.Down1DwRefIdeal.τ).loc Cert.Down1DwRefIdeal.main_arg1) = m' ((c.tc : Thread Cert.Down1DwRefIdeal.nD Cert.Down1DwRefIdeal.τ).loc Cert.Down1DwRefIdeal.main_arg1))

def preserves_Down0Dw_Down0DwIdeal : Prop :=
  True

def algebraic_Down0DwIdeal_Down0DwRefIdeal [hDown0DwIdeal : Cert.Down0DwIdeal.Facts] [hDown0DwRefIdeal : Cert.Down0DwRefIdeal.Facts] : Prop :=
  ∀ (m : (ℓ : Loc Cert.Down0DwIdeal.nD Cert.Down0DwIdeal.τ Cert.Down0DwIdeal.sig) → Buf (Elt Ideal) ℓ) (g : Dev Cert.Down0DwIdeal.nD → PrngReg)
    (m' : (ℓ : Loc Cert.Down0DwRefIdeal.nD Cert.Down0DwRefIdeal.τ Cert.Down0DwRefIdeal.sig) → Buf (Elt Ideal) ℓ) (g' : Dev Cert.Down0DwRefIdeal.nD → PrngReg), Pre_Down0DwIdeal m →
    (∀ c : Dev Cert.Down0DwIdeal.nD,
      m' ((c.tc : Thread Cert.Down0DwRefIdeal.nD Cert.Down0DwRefIdeal.τ).loc Cert.Down0DwRefIdeal.main_arg0) = m ((c.tc : Thread Cert.Down0DwIdeal.nD Cert.Down0DwIdeal.τ).loc Cert.Down0DwIdeal.main_arg0)
      ∧ m' ((c.tc : Thread Cert.Down0DwRefIdeal.nD Cert.Down0DwRefIdeal.τ).loc Cert.Down0DwRefIdeal.main_arg1) = m ((c.tc : Thread Cert.Down0DwIdeal.nD Cert.Down0DwIdeal.τ).loc Cert.Down0DwIdeal.main_arg1)
      ∧ m' ((c.tc : Thread Cert.Down0DwRefIdeal.nD Cert.Down0DwRefIdeal.τ).loc Cert.Down0DwRefIdeal.main_arg2) = m ((c.tc : Thread Cert.Down0DwIdeal.nD Cert.Down0DwIdeal.τ).loc Cert.Down0DwIdeal.main_arg2)) →
    ∃ (v0 : (c : Dev Cert.Down0DwIdeal.nD) → Buf (Elt Ideal) ((c.tc : Thread Cert.Down0DwIdeal.nD Cert.Down0DwIdeal.τ).loc Cert.Down0DwIdeal.main_v0)),
      θ_run (Cert.Down0DwIdeal.defs (F := Ideal)) (onTc (τ := Cert.Down0DwIdeal.τ) (Cert.Down0DwIdeal.main (F := Ideal))) ⟨m, fun _ => 0, g⟩ (fun r => ∀ c : Dev Cert.Down0DwIdeal.nD,
          r.2.mem ((c.tc : Thread Cert.Down0DwIdeal.nD Cert.Down0DwIdeal.τ).loc Cert.Down0DwIdeal.main_v0) = v0 c
          ∧ r.2.mem ((c.tc : Thread Cert.Down0DwIdeal.nD Cert.Down0DwIdeal.τ).loc Cert.Down0DwIdeal.main_arg0) = m ((c.tc : Thread Cert.Down0DwIdeal.nD Cert.Down0DwIdeal.τ).loc Cert.Down0DwIdeal.main_arg0)
          ∧ r.2.mem ((c.tc : Thread Cert.Down0DwIdeal.nD Cert.Down0DwIdeal.τ).loc Cert.Down0DwIdeal.main_arg1) = m ((c.tc : Thread Cert.Down0DwIdeal.nD Cert.Down0DwIdeal.τ).loc Cert.Down0DwIdeal.main_arg1)
          ∧ r.2.mem ((c.tc : Thread Cert.Down0DwIdeal.nD Cert.Down0DwIdeal.τ).loc Cert.Down0DwIdeal.main_arg2) = m ((c.tc : Thread Cert.Down0DwIdeal.nD Cert.Down0DwIdeal.τ).loc Cert.Down0DwIdeal.main_arg2))
      ∧ θ_run (Cert.Down0DwRefIdeal.defs (F := Ideal)) (onTc (τ := Cert.Down0DwRefIdeal.τ) (Cert.Down0DwRefIdeal.main (F := Ideal))) ⟨m', fun _ => 0, g'⟩ (fun r => ∀ c : Dev Cert.Down0DwRefIdeal.nD,
          r.2.mem ((c.tc : Thread Cert.Down0DwRefIdeal.nD Cert.Down0DwRefIdeal.τ).loc Cert.Down0DwRefIdeal.main_v10) = v0 c
          ∧ r.2.mem ((c.tc : Thread Cert.Down0DwRefIdeal.nD Cert.Down0DwRefIdeal.τ).loc Cert.Down0DwRefIdeal.main_arg0) = m' ((c.tc : Thread Cert.Down0DwRefIdeal.nD Cert.Down0DwRefIdeal.τ).loc Cert.Down0DwRefIdeal.main_arg0)
          ∧ r.2.mem ((c.tc : Thread Cert.Down0DwRefIdeal.nD Cert.Down0DwRefIdeal.τ).loc Cert.Down0DwRefIdeal.main_arg1) = m' ((c.tc : Thread Cert.Down0DwRefIdeal.nD Cert.Down0DwRefIdeal.τ).loc Cert.Down0DwRefIdeal.main_arg1)
          ∧ r.2.mem ((c.tc : Thread Cert.Down0DwRefIdeal.nD Cert.Down0DwRefIdeal.τ).loc Cert.Down0DwRefIdeal.main_arg2) = m' ((c.tc : Thread Cert.Down0DwRefIdeal.nD Cert.Down0DwRefIdeal.τ).loc Cert.Down0DwRefIdeal.main_arg2))

def preserves_Up1Dx_Up1DxIdeal : Prop :=
  True

def algebraic_Up1DxIdeal_Up1DxRefIdeal [hUp1DxIdeal : Cert.Up1DxIdeal.Facts] [hUp1DxRefIdeal : Cert.Up1DxRefIdeal.Facts] : Prop :=
  ∀ (m : (ℓ : Loc Cert.Up1DxIdeal.nD Cert.Up1DxIdeal.τ Cert.Up1DxIdeal.sig) → Buf (Elt Ideal) ℓ) (g : Dev Cert.Up1DxIdeal.nD → PrngReg)
    (m' : (ℓ : Loc Cert.Up1DxRefIdeal.nD Cert.Up1DxRefIdeal.τ Cert.Up1DxRefIdeal.sig) → Buf (Elt Ideal) ℓ) (g' : Dev Cert.Up1DxRefIdeal.nD → PrngReg), Pre_Up1DxIdeal m →
    (∀ c : Dev Cert.Up1DxIdeal.nD,
      m' ((c.tc : Thread Cert.Up1DxRefIdeal.nD Cert.Up1DxRefIdeal.τ).loc Cert.Up1DxRefIdeal.main_arg0) = m ((c.tc : Thread Cert.Up1DxIdeal.nD Cert.Up1DxIdeal.τ).loc Cert.Up1DxIdeal.main_arg0)
      ∧ m' ((c.tc : Thread Cert.Up1DxRefIdeal.nD Cert.Up1DxRefIdeal.τ).loc Cert.Up1DxRefIdeal.main_arg1) = m ((c.tc : Thread Cert.Up1DxIdeal.nD Cert.Up1DxIdeal.τ).loc Cert.Up1DxIdeal.main_arg1)
      ∧ m' ((c.tc : Thread Cert.Up1DxRefIdeal.nD Cert.Up1DxRefIdeal.τ).loc Cert.Up1DxRefIdeal.main_arg2) = m ((c.tc : Thread Cert.Up1DxIdeal.nD Cert.Up1DxIdeal.τ).loc Cert.Up1DxIdeal.main_arg2)
      ∧ m' ((c.tc : Thread Cert.Up1DxRefIdeal.nD Cert.Up1DxRefIdeal.τ).loc Cert.Up1DxRefIdeal.main_arg3) = m ((c.tc : Thread Cert.Up1DxIdeal.nD Cert.Up1DxIdeal.τ).loc Cert.Up1DxIdeal.main_arg3)
      ∧ m' ((c.tc : Thread Cert.Up1DxRefIdeal.nD Cert.Up1DxRefIdeal.τ).loc Cert.Up1DxRefIdeal.main_arg4) = m ((c.tc : Thread Cert.Up1DxIdeal.nD Cert.Up1DxIdeal.τ).loc Cert.Up1DxIdeal.main_arg4)) →
    ∃ (v0 : (c : Dev Cert.Up1DxIdeal.nD) → Buf (Elt Ideal) ((c.tc : Thread Cert.Up1DxIdeal.nD Cert.Up1DxIdeal.τ).loc Cert.Up1DxIdeal.main_v0_0)) (v1 : (c : Dev Cert.Up1DxIdeal.nD) → Buf (Elt Ideal) ((c.tc : Thread Cert.Up1DxIdeal.nD Cert.Up1DxIdeal.τ).loc Cert.Up1DxIdeal.main_v0_1)),
      θ_run (Cert.Up1DxIdeal.defs (F := Ideal)) (onTc (τ := Cert.Up1DxIdeal.τ) (Cert.Up1DxIdeal.main (F := Ideal))) ⟨m, fun _ => 0, g⟩ (fun r => ∀ c : Dev Cert.Up1DxIdeal.nD,
          r.2.mem ((c.tc : Thread Cert.Up1DxIdeal.nD Cert.Up1DxIdeal.τ).loc Cert.Up1DxIdeal.main_v0_0) = v0 c
          ∧ r.2.mem ((c.tc : Thread Cert.Up1DxIdeal.nD Cert.Up1DxIdeal.τ).loc Cert.Up1DxIdeal.main_v0_1) = v1 c
          ∧ r.2.mem ((c.tc : Thread Cert.Up1DxIdeal.nD Cert.Up1DxIdeal.τ).loc Cert.Up1DxIdeal.main_arg0) = m ((c.tc : Thread Cert.Up1DxIdeal.nD Cert.Up1DxIdeal.τ).loc Cert.Up1DxIdeal.main_arg0)
          ∧ r.2.mem ((c.tc : Thread Cert.Up1DxIdeal.nD Cert.Up1DxIdeal.τ).loc Cert.Up1DxIdeal.main_arg1) = m ((c.tc : Thread Cert.Up1DxIdeal.nD Cert.Up1DxIdeal.τ).loc Cert.Up1DxIdeal.main_arg1)
          ∧ r.2.mem ((c.tc : Thread Cert.Up1DxIdeal.nD Cert.Up1DxIdeal.τ).loc Cert.Up1DxIdeal.main_arg2) = m ((c.tc : Thread Cert.Up1DxIdeal.nD Cert.Up1DxIdeal.τ).loc Cert.Up1DxIdeal.main_arg2)
          ∧ r.2.mem ((c.tc : Thread Cert.Up1DxIdeal.nD Cert.Up1DxIdeal.τ).loc Cert.Up1DxIdeal.main_arg3) = m ((c.tc : Thread Cert.Up1DxIdeal.nD Cert.Up1DxIdeal.τ).loc Cert.Up1DxIdeal.main_arg3)
          ∧ r.2.mem ((c.tc : Thread Cert.Up1DxIdeal.nD Cert.Up1DxIdeal.τ).loc Cert.Up1DxIdeal.main_arg4) = m ((c.tc : Thread Cert.Up1DxIdeal.nD Cert.Up1DxIdeal.τ).loc Cert.Up1DxIdeal.main_arg4))
      ∧ θ_run (Cert.Up1DxRefIdeal.defs (F := Ideal)) (onTc (τ := Cert.Up1DxRefIdeal.τ) (Cert.Up1DxRefIdeal.main (F := Ideal))) ⟨m', fun _ => 0, g'⟩ (fun r => ∀ c : Dev Cert.Up1DxRefIdeal.nD,
          r.2.mem ((c.tc : Thread Cert.Up1DxRefIdeal.nD Cert.Up1DxRefIdeal.τ).loc Cert.Up1DxRefIdeal.main_v45) = v0 c
          ∧ r.2.mem ((c.tc : Thread Cert.Up1DxRefIdeal.nD Cert.Up1DxRefIdeal.τ).loc Cert.Up1DxRefIdeal.main_v46) = v1 c
          ∧ r.2.mem ((c.tc : Thread Cert.Up1DxRefIdeal.nD Cert.Up1DxRefIdeal.τ).loc Cert.Up1DxRefIdeal.main_arg0) = m' ((c.tc : Thread Cert.Up1DxRefIdeal.nD Cert.Up1DxRefIdeal.τ).loc Cert.Up1DxRefIdeal.main_arg0)
          ∧ r.2.mem ((c.tc : Thread Cert.Up1DxRefIdeal.nD Cert.Up1DxRefIdeal.τ).loc Cert.Up1DxRefIdeal.main_arg1) = m' ((c.tc : Thread Cert.Up1DxRefIdeal.nD Cert.Up1DxRefIdeal.τ).loc Cert.Up1DxRefIdeal.main_arg1)
          ∧ r.2.mem ((c.tc : Thread Cert.Up1DxRefIdeal.nD Cert.Up1DxRefIdeal.τ).loc Cert.Up1DxRefIdeal.main_arg2) = m' ((c.tc : Thread Cert.Up1DxRefIdeal.nD Cert.Up1DxRefIdeal.τ).loc Cert.Up1DxRefIdeal.main_arg2)
          ∧ r.2.mem ((c.tc : Thread Cert.Up1DxRefIdeal.nD Cert.Up1DxRefIdeal.τ).loc Cert.Up1DxRefIdeal.main_arg3) = m' ((c.tc : Thread Cert.Up1DxRefIdeal.nD Cert.Up1DxRefIdeal.τ).loc Cert.Up1DxRefIdeal.main_arg3)
          ∧ r.2.mem ((c.tc : Thread Cert.Up1DxRefIdeal.nD Cert.Up1DxRefIdeal.τ).loc Cert.Up1DxRefIdeal.main_arg4) = m' ((c.tc : Thread Cert.Up1DxRefIdeal.nD Cert.Up1DxRefIdeal.τ).loc Cert.Up1DxRefIdeal.main_arg4))

def preserves_Up0Dx_Up0DxIdeal : Prop :=
  True

def algebraic_Up0DxIdeal_Up0DxRefIdeal [hUp0DxIdeal : Cert.Up0DxIdeal.Facts] [hUp0DxRefIdeal : Cert.Up0DxRefIdeal.Facts] : Prop :=
  ∀ (m : (ℓ : Loc Cert.Up0DxIdeal.nD Cert.Up0DxIdeal.τ Cert.Up0DxIdeal.sig) → Buf (Elt Ideal) ℓ) (g : Dev Cert.Up0DxIdeal.nD → PrngReg)
    (m' : (ℓ : Loc Cert.Up0DxRefIdeal.nD Cert.Up0DxRefIdeal.τ Cert.Up0DxRefIdeal.sig) → Buf (Elt Ideal) ℓ) (g' : Dev Cert.Up0DxRefIdeal.nD → PrngReg), Pre_Up0DxIdeal m →
    (∀ c : Dev Cert.Up0DxIdeal.nD,
      m' ((c.tc : Thread Cert.Up0DxRefIdeal.nD Cert.Up0DxRefIdeal.τ).loc Cert.Up0DxRefIdeal.main_arg0) = m ((c.tc : Thread Cert.Up0DxIdeal.nD Cert.Up0DxIdeal.τ).loc Cert.Up0DxIdeal.main_arg0)
      ∧ m' ((c.tc : Thread Cert.Up0DxRefIdeal.nD Cert.Up0DxRefIdeal.τ).loc Cert.Up0DxRefIdeal.main_arg1) = m ((c.tc : Thread Cert.Up0DxIdeal.nD Cert.Up0DxIdeal.τ).loc Cert.Up0DxIdeal.main_arg1)
      ∧ m' ((c.tc : Thread Cert.Up0DxRefIdeal.nD Cert.Up0DxRefIdeal.τ).loc Cert.Up0DxRefIdeal.main_arg2) = m ((c.tc : Thread Cert.Up0DxIdeal.nD Cert.Up0DxIdeal.τ).loc Cert.Up0DxIdeal.main_arg2)
      ∧ m' ((c.tc : Thread Cert.Up0DxRefIdeal.nD Cert.Up0DxRefIdeal.τ).loc Cert.Up0DxRefIdeal.main_arg3) = m ((c.tc : Thread Cert.Up0DxIdeal.nD Cert.Up0DxIdeal.τ).loc Cert.Up0DxIdeal.main_arg3)
      ∧ m' ((c.tc : Thread Cert.Up0DxRefIdeal.nD Cert.Up0DxRefIdeal.τ).loc Cert.Up0DxRefIdeal.main_arg4) = m ((c.tc : Thread Cert.Up0DxIdeal.nD Cert.Up0DxIdeal.τ).loc Cert.Up0DxIdeal.main_arg4)) →
    ∃ (v0 : (c : Dev Cert.Up0DxIdeal.nD) → Buf (Elt Ideal) ((c.tc : Thread Cert.Up0DxIdeal.nD Cert.Up0DxIdeal.τ).loc Cert.Up0DxIdeal.main_v0_0)) (v1 : (c : Dev Cert.Up0DxIdeal.nD) → Buf (Elt Ideal) ((c.tc : Thread Cert.Up0DxIdeal.nD Cert.Up0DxIdeal.τ).loc Cert.Up0DxIdeal.main_v0_1)),
      θ_run (Cert.Up0DxIdeal.defs (F := Ideal)) (onTc (τ := Cert.Up0DxIdeal.τ) (Cert.Up0DxIdeal.main (F := Ideal))) ⟨m, fun _ => 0, g⟩ (fun r => ∀ c : Dev Cert.Up0DxIdeal.nD,
          r.2.mem ((c.tc : Thread Cert.Up0DxIdeal.nD Cert.Up0DxIdeal.τ).loc Cert.Up0DxIdeal.main_v0_0) = v0 c
          ∧ r.2.mem ((c.tc : Thread Cert.Up0DxIdeal.nD Cert.Up0DxIdeal.τ).loc Cert.Up0DxIdeal.main_v0_1) = v1 c
          ∧ r.2.mem ((c.tc : Thread Cert.Up0DxIdeal.nD Cert.Up0DxIdeal.τ).loc Cert.Up0DxIdeal.main_arg0) = m ((c.tc : Thread Cert.Up0DxIdeal.nD Cert.Up0DxIdeal.τ).loc Cert.Up0DxIdeal.main_arg0)
          ∧ r.2.mem ((c.tc : Thread Cert.Up0DxIdeal.nD Cert.Up0DxIdeal.τ).loc Cert.Up0DxIdeal.main_arg1) = m ((c.tc : Thread Cert.Up0DxIdeal.nD Cert.Up0DxIdeal.τ).loc Cert.Up0DxIdeal.main_arg1)
          ∧ r.2.mem ((c.tc : Thread Cert.Up0DxIdeal.nD Cert.Up0DxIdeal.τ).loc Cert.Up0DxIdeal.main_arg2) = m ((c.tc : Thread Cert.Up0DxIdeal.nD Cert.Up0DxIdeal.τ).loc Cert.Up0DxIdeal.main_arg2)
          ∧ r.2.mem ((c.tc : Thread Cert.Up0DxIdeal.nD Cert.Up0DxIdeal.τ).loc Cert.Up0DxIdeal.main_arg3) = m ((c.tc : Thread Cert.Up0DxIdeal.nD Cert.Up0DxIdeal.τ).loc Cert.Up0DxIdeal.main_arg3)
          ∧ r.2.mem ((c.tc : Thread Cert.Up0DxIdeal.nD Cert.Up0DxIdeal.τ).loc Cert.Up0DxIdeal.main_arg4) = m ((c.tc : Thread Cert.Up0DxIdeal.nD Cert.Up0DxIdeal.τ).loc Cert.Up0DxIdeal.main_arg4))
      ∧ θ_run (Cert.Up0DxRefIdeal.defs (F := Ideal)) (onTc (τ := Cert.Up0DxRefIdeal.τ) (Cert.Up0DxRefIdeal.main (F := Ideal))) ⟨m', fun _ => 0, g'⟩ (fun r => ∀ c : Dev Cert.Up0DxRefIdeal.nD,
          r.2.mem ((c.tc : Thread Cert.Up0DxRefIdeal.nD Cert.Up0DxRefIdeal.τ).loc Cert.Up0DxRefIdeal.main_v45) = v0 c
          ∧ r.2.mem ((c.tc : Thread Cert.Up0DxRefIdeal.nD Cert.Up0DxRefIdeal.τ).loc Cert.Up0DxRefIdeal.main_v46) = v1 c
          ∧ r.2.mem ((c.tc : Thread Cert.Up0DxRefIdeal.nD Cert.Up0DxRefIdeal.τ).loc Cert.Up0DxRefIdeal.main_arg0) = m' ((c.tc : Thread Cert.Up0DxRefIdeal.nD Cert.Up0DxRefIdeal.τ).loc Cert.Up0DxRefIdeal.main_arg0)
          ∧ r.2.mem ((c.tc : Thread Cert.Up0DxRefIdeal.nD Cert.Up0DxRefIdeal.τ).loc Cert.Up0DxRefIdeal.main_arg1) = m' ((c.tc : Thread Cert.Up0DxRefIdeal.nD Cert.Up0DxRefIdeal.τ).loc Cert.Up0DxRefIdeal.main_arg1)
          ∧ r.2.mem ((c.tc : Thread Cert.Up0DxRefIdeal.nD Cert.Up0DxRefIdeal.τ).loc Cert.Up0DxRefIdeal.main_arg2) = m' ((c.tc : Thread Cert.Up0DxRefIdeal.nD Cert.Up0DxRefIdeal.τ).loc Cert.Up0DxRefIdeal.main_arg2)
          ∧ r.2.mem ((c.tc : Thread Cert.Up0DxRefIdeal.nD Cert.Up0DxRefIdeal.τ).loc Cert.Up0DxRefIdeal.main_arg3) = m' ((c.tc : Thread Cert.Up0DxRefIdeal.nD Cert.Up0DxRefIdeal.τ).loc Cert.Up0DxRefIdeal.main_arg3)
          ∧ r.2.mem ((c.tc : Thread Cert.Up0DxRefIdeal.nD Cert.Up0DxRefIdeal.τ).loc Cert.Up0DxRefIdeal.main_arg4) = m' ((c.tc : Thread Cert.Up0DxRefIdeal.nD Cert.Up0DxRefIdeal.τ).loc Cert.Up0DxRefIdeal.main_arg4))

def preserves_QProjDx_QProjDxIdeal : Prop :=
  True

def algebraic_QProjDxIdeal_QProjDxRefIdeal [hQProjDxIdeal : Cert.QProjDxIdeal.Facts] [hQProjDxRefIdeal : Cert.QProjDxRefIdeal.Facts] : Prop :=
  ∀ (m : (ℓ : Loc Cert.QProjDxIdeal.nD Cert.QProjDxIdeal.τ Cert.QProjDxIdeal.sig) → Buf (Elt Ideal) ℓ) (g : Dev Cert.QProjDxIdeal.nD → PrngReg)
    (m' : (ℓ : Loc Cert.QProjDxRefIdeal.nD Cert.QProjDxRefIdeal.τ Cert.QProjDxRefIdeal.sig) → Buf (Elt Ideal) ℓ) (g' : Dev Cert.QProjDxRefIdeal.nD → PrngReg), Pre_QProjDxIdeal m →
    (∀ c : Dev Cert.QProjDxIdeal.nD,
      m' ((c.tc : Thread Cert.QProjDxRefIdeal.nD Cert.QProjDxRefIdeal.τ).loc Cert.QProjDxRefIdeal.main_arg0) = m ((c.tc : Thread Cert.QProjDxIdeal.nD Cert.QProjDxIdeal.τ).loc Cert.QProjDxIdeal.main_arg0)
      ∧ m' ((c.tc : Thread Cert.QProjDxRefIdeal.nD Cert.QProjDxRefIdeal.τ).loc Cert.QProjDxRefIdeal.main_arg1) = m ((c.tc : Thread Cert.QProjDxIdeal.nD Cert.QProjDxIdeal.τ).loc Cert.QProjDxIdeal.main_arg1)
      ∧ m' ((c.tc : Thread Cert.QProjDxRefIdeal.nD Cert.QProjDxRefIdeal.τ).loc Cert.QProjDxRefIdeal.main_arg2) = m ((c.tc : Thread Cert.QProjDxIdeal.nD Cert.QProjDxIdeal.τ).loc Cert.QProjDxIdeal.main_arg2)
      ∧ m' ((c.tc : Thread Cert.QProjDxRefIdeal.nD Cert.QProjDxRefIdeal.τ).loc Cert.QProjDxRefIdeal.main_arg3) = m ((c.tc : Thread Cert.QProjDxIdeal.nD Cert.QProjDxIdeal.τ).loc Cert.QProjDxIdeal.main_arg3)
      ∧ m' ((c.tc : Thread Cert.QProjDxRefIdeal.nD Cert.QProjDxRefIdeal.τ).loc Cert.QProjDxRefIdeal.main_arg4) = m ((c.tc : Thread Cert.QProjDxIdeal.nD Cert.QProjDxIdeal.τ).loc Cert.QProjDxIdeal.main_arg4)) →
    ∃ (v0 : (c : Dev Cert.QProjDxIdeal.nD) → Buf (Elt Ideal) ((c.tc : Thread Cert.QProjDxIdeal.nD Cert.QProjDxIdeal.τ).loc Cert.QProjDxIdeal.main_v0_0)) (v1 : (c : Dev Cert.QProjDxIdeal.nD) → Buf (Elt Ideal) ((c.tc : Thread Cert.QProjDxIdeal.nD Cert.QProjDxIdeal.τ).loc Cert.QProjDxIdeal.main_v0_1)),
      θ_run (Cert.QProjDxIdeal.defs (F := Ideal)) (onTc (τ := Cert.QProjDxIdeal.τ) (Cert.QProjDxIdeal.main (F := Ideal))) ⟨m, fun _ => 0, g⟩ (fun r => ∀ c : Dev Cert.QProjDxIdeal.nD,
          r.2.mem ((c.tc : Thread Cert.QProjDxIdeal.nD Cert.QProjDxIdeal.τ).loc Cert.QProjDxIdeal.main_v0_0) = v0 c
          ∧ r.2.mem ((c.tc : Thread Cert.QProjDxIdeal.nD Cert.QProjDxIdeal.τ).loc Cert.QProjDxIdeal.main_v0_1) = v1 c
          ∧ r.2.mem ((c.tc : Thread Cert.QProjDxIdeal.nD Cert.QProjDxIdeal.τ).loc Cert.QProjDxIdeal.main_arg0) = m ((c.tc : Thread Cert.QProjDxIdeal.nD Cert.QProjDxIdeal.τ).loc Cert.QProjDxIdeal.main_arg0)
          ∧ r.2.mem ((c.tc : Thread Cert.QProjDxIdeal.nD Cert.QProjDxIdeal.τ).loc Cert.QProjDxIdeal.main_arg1) = m ((c.tc : Thread Cert.QProjDxIdeal.nD Cert.QProjDxIdeal.τ).loc Cert.QProjDxIdeal.main_arg1)
          ∧ r.2.mem ((c.tc : Thread Cert.QProjDxIdeal.nD Cert.QProjDxIdeal.τ).loc Cert.QProjDxIdeal.main_arg2) = m ((c.tc : Thread Cert.QProjDxIdeal.nD Cert.QProjDxIdeal.τ).loc Cert.QProjDxIdeal.main_arg2)
          ∧ r.2.mem ((c.tc : Thread Cert.QProjDxIdeal.nD Cert.QProjDxIdeal.τ).loc Cert.QProjDxIdeal.main_arg3) = m ((c.tc : Thread Cert.QProjDxIdeal.nD Cert.QProjDxIdeal.τ).loc Cert.QProjDxIdeal.main_arg3)
          ∧ r.2.mem ((c.tc : Thread Cert.QProjDxIdeal.nD Cert.QProjDxIdeal.τ).loc Cert.QProjDxIdeal.main_arg4) = m ((c.tc : Thread Cert.QProjDxIdeal.nD Cert.QProjDxIdeal.τ).loc Cert.QProjDxIdeal.main_arg4))
      ∧ θ_run (Cert.QProjDxRefIdeal.defs (F := Ideal)) (onTc (τ := Cert.QProjDxRefIdeal.τ) (Cert.QProjDxRefIdeal.main (F := Ideal))) ⟨m', fun _ => 0, g'⟩ (fun r => ∀ c : Dev Cert.QProjDxRefIdeal.nD,
          r.2.mem ((c.tc : Thread Cert.QProjDxRefIdeal.nD Cert.QProjDxRefIdeal.τ).loc Cert.QProjDxRefIdeal.main_v41) = v0 c
          ∧ r.2.mem ((c.tc : Thread Cert.QProjDxRefIdeal.nD Cert.QProjDxRefIdeal.τ).loc Cert.QProjDxRefIdeal.main_v42) = v1 c
          ∧ r.2.mem ((c.tc : Thread Cert.QProjDxRefIdeal.nD Cert.QProjDxRefIdeal.τ).loc Cert.QProjDxRefIdeal.main_arg0) = m' ((c.tc : Thread Cert.QProjDxRefIdeal.nD Cert.QProjDxRefIdeal.τ).loc Cert.QProjDxRefIdeal.main_arg0)
          ∧ r.2.mem ((c.tc : Thread Cert.QProjDxRefIdeal.nD Cert.QProjDxRefIdeal.τ).loc Cert.QProjDxRefIdeal.main_arg1) = m' ((c.tc : Thread Cert.QProjDxRefIdeal.nD Cert.QProjDxRefIdeal.τ).loc Cert.QProjDxRefIdeal.main_arg1)
          ∧ r.2.mem ((c.tc : Thread Cert.QProjDxRefIdeal.nD Cert.QProjDxRefIdeal.τ).loc Cert.QProjDxRefIdeal.main_arg2) = m' ((c.tc : Thread Cert.QProjDxRefIdeal.nD Cert.QProjDxRefIdeal.τ).loc Cert.QProjDxRefIdeal.main_arg2)
          ∧ r.2.mem ((c.tc : Thread Cert.QProjDxRefIdeal.nD Cert.QProjDxRefIdeal.τ).loc Cert.QProjDxRefIdeal.main_arg3) = m' ((c.tc : Thread Cert.QProjDxRefIdeal.nD Cert.QProjDxRefIdeal.τ).loc Cert.QProjDxRefIdeal.main_arg3)
          ∧ r.2.mem ((c.tc : Thread Cert.QProjDxRefIdeal.nD Cert.QProjDxRefIdeal.τ).loc Cert.QProjDxRefIdeal.main_arg4) = m' ((c.tc : Thread Cert.QProjDxRefIdeal.nD Cert.QProjDxRefIdeal.τ).loc Cert.QProjDxRefIdeal.main_arg4))

def preserves_KvProjDx_KvProjDxIdeal : Prop :=
  True

def algebraic_KvProjDxIdeal_KvProjDxRefIdeal [hKvProjDxIdeal : Cert.KvProjDxIdeal.Facts] [hKvProjDxRefIdeal : Cert.KvProjDxRefIdeal.Facts] : Prop :=
  ∀ (m : (ℓ : Loc Cert.KvProjDxIdeal.nD Cert.KvProjDxIdeal.τ Cert.KvProjDxIdeal.sig) → Buf (Elt Ideal) ℓ) (g : Dev Cert.KvProjDxIdeal.nD → PrngReg)
    (m' : (ℓ : Loc Cert.KvProjDxRefIdeal.nD Cert.KvProjDxRefIdeal.τ Cert.KvProjDxRefIdeal.sig) → Buf (Elt Ideal) ℓ) (g' : Dev Cert.KvProjDxRefIdeal.nD → PrngReg), Pre_KvProjDxIdeal m →
    (∀ c : Dev Cert.KvProjDxIdeal.nD,
      m' ((c.tc : Thread Cert.KvProjDxRefIdeal.nD Cert.KvProjDxRefIdeal.τ).loc Cert.KvProjDxRefIdeal.main_arg0) = m ((c.tc : Thread Cert.KvProjDxIdeal.nD Cert.KvProjDxIdeal.τ).loc Cert.KvProjDxIdeal.main_arg0)
      ∧ m' ((c.tc : Thread Cert.KvProjDxRefIdeal.nD Cert.KvProjDxRefIdeal.τ).loc Cert.KvProjDxRefIdeal.main_arg1) = m ((c.tc : Thread Cert.KvProjDxIdeal.nD Cert.KvProjDxIdeal.τ).loc Cert.KvProjDxIdeal.main_arg1)
      ∧ m' ((c.tc : Thread Cert.KvProjDxRefIdeal.nD Cert.KvProjDxRefIdeal.τ).loc Cert.KvProjDxRefIdeal.main_arg2) = m ((c.tc : Thread Cert.KvProjDxIdeal.nD Cert.KvProjDxIdeal.τ).loc Cert.KvProjDxIdeal.main_arg2)
      ∧ m' ((c.tc : Thread Cert.KvProjDxRefIdeal.nD Cert.KvProjDxRefIdeal.τ).loc Cert.KvProjDxRefIdeal.main_arg3) = m ((c.tc : Thread Cert.KvProjDxIdeal.nD Cert.KvProjDxIdeal.τ).loc Cert.KvProjDxIdeal.main_arg3)
      ∧ m' ((c.tc : Thread Cert.KvProjDxRefIdeal.nD Cert.KvProjDxRefIdeal.τ).loc Cert.KvProjDxRefIdeal.main_arg4) = m ((c.tc : Thread Cert.KvProjDxIdeal.nD Cert.KvProjDxIdeal.τ).loc Cert.KvProjDxIdeal.main_arg4)) →
    ∃ (v0 : (c : Dev Cert.KvProjDxIdeal.nD) → Buf (Elt Ideal) ((c.tc : Thread Cert.KvProjDxIdeal.nD Cert.KvProjDxIdeal.τ).loc Cert.KvProjDxIdeal.main_v0_0)) (v1 : (c : Dev Cert.KvProjDxIdeal.nD) → Buf (Elt Ideal) ((c.tc : Thread Cert.KvProjDxIdeal.nD Cert.KvProjDxIdeal.τ).loc Cert.KvProjDxIdeal.main_v0_1)),
      θ_run (Cert.KvProjDxIdeal.defs (F := Ideal)) (onTc (τ := Cert.KvProjDxIdeal.τ) (Cert.KvProjDxIdeal.main (F := Ideal))) ⟨m, fun _ => 0, g⟩ (fun r => ∀ c : Dev Cert.KvProjDxIdeal.nD,
          r.2.mem ((c.tc : Thread Cert.KvProjDxIdeal.nD Cert.KvProjDxIdeal.τ).loc Cert.KvProjDxIdeal.main_v0_0) = v0 c
          ∧ r.2.mem ((c.tc : Thread Cert.KvProjDxIdeal.nD Cert.KvProjDxIdeal.τ).loc Cert.KvProjDxIdeal.main_v0_1) = v1 c
          ∧ r.2.mem ((c.tc : Thread Cert.KvProjDxIdeal.nD Cert.KvProjDxIdeal.τ).loc Cert.KvProjDxIdeal.main_arg0) = m ((c.tc : Thread Cert.KvProjDxIdeal.nD Cert.KvProjDxIdeal.τ).loc Cert.KvProjDxIdeal.main_arg0)
          ∧ r.2.mem ((c.tc : Thread Cert.KvProjDxIdeal.nD Cert.KvProjDxIdeal.τ).loc Cert.KvProjDxIdeal.main_arg1) = m ((c.tc : Thread Cert.KvProjDxIdeal.nD Cert.KvProjDxIdeal.τ).loc Cert.KvProjDxIdeal.main_arg1)
          ∧ r.2.mem ((c.tc : Thread Cert.KvProjDxIdeal.nD Cert.KvProjDxIdeal.τ).loc Cert.KvProjDxIdeal.main_arg2) = m ((c.tc : Thread Cert.KvProjDxIdeal.nD Cert.KvProjDxIdeal.τ).loc Cert.KvProjDxIdeal.main_arg2)
          ∧ r.2.mem ((c.tc : Thread Cert.KvProjDxIdeal.nD Cert.KvProjDxIdeal.τ).loc Cert.KvProjDxIdeal.main_arg3) = m ((c.tc : Thread Cert.KvProjDxIdeal.nD Cert.KvProjDxIdeal.τ).loc Cert.KvProjDxIdeal.main_arg3)
          ∧ r.2.mem ((c.tc : Thread Cert.KvProjDxIdeal.nD Cert.KvProjDxIdeal.τ).loc Cert.KvProjDxIdeal.main_arg4) = m ((c.tc : Thread Cert.KvProjDxIdeal.nD Cert.KvProjDxIdeal.τ).loc Cert.KvProjDxIdeal.main_arg4))
      ∧ θ_run (Cert.KvProjDxRefIdeal.defs (F := Ideal)) (onTc (τ := Cert.KvProjDxRefIdeal.τ) (Cert.KvProjDxRefIdeal.main (F := Ideal))) ⟨m', fun _ => 0, g'⟩ (fun r => ∀ c : Dev Cert.KvProjDxRefIdeal.nD,
          r.2.mem ((c.tc : Thread Cert.KvProjDxRefIdeal.nD Cert.KvProjDxRefIdeal.τ).loc Cert.KvProjDxRefIdeal.main_v41) = v0 c
          ∧ r.2.mem ((c.tc : Thread Cert.KvProjDxRefIdeal.nD Cert.KvProjDxRefIdeal.τ).loc Cert.KvProjDxRefIdeal.main_v42) = v1 c
          ∧ r.2.mem ((c.tc : Thread Cert.KvProjDxRefIdeal.nD Cert.KvProjDxRefIdeal.τ).loc Cert.KvProjDxRefIdeal.main_arg0) = m' ((c.tc : Thread Cert.KvProjDxRefIdeal.nD Cert.KvProjDxRefIdeal.τ).loc Cert.KvProjDxRefIdeal.main_arg0)
          ∧ r.2.mem ((c.tc : Thread Cert.KvProjDxRefIdeal.nD Cert.KvProjDxRefIdeal.τ).loc Cert.KvProjDxRefIdeal.main_arg1) = m' ((c.tc : Thread Cert.KvProjDxRefIdeal.nD Cert.KvProjDxRefIdeal.τ).loc Cert.KvProjDxRefIdeal.main_arg1)
          ∧ r.2.mem ((c.tc : Thread Cert.KvProjDxRefIdeal.nD Cert.KvProjDxRefIdeal.τ).loc Cert.KvProjDxRefIdeal.main_arg2) = m' ((c.tc : Thread Cert.KvProjDxRefIdeal.nD Cert.KvProjDxRefIdeal.τ).loc Cert.KvProjDxRefIdeal.main_arg2)
          ∧ r.2.mem ((c.tc : Thread Cert.KvProjDxRefIdeal.nD Cert.KvProjDxRefIdeal.τ).loc Cert.KvProjDxRefIdeal.main_arg3) = m' ((c.tc : Thread Cert.KvProjDxRefIdeal.nD Cert.KvProjDxRefIdeal.τ).loc Cert.KvProjDxRefIdeal.main_arg3)
          ∧ r.2.mem ((c.tc : Thread Cert.KvProjDxRefIdeal.nD Cert.KvProjDxRefIdeal.τ).loc Cert.KvProjDxRefIdeal.main_arg4) = m' ((c.tc : Thread Cert.KvProjDxRefIdeal.nD Cert.KvProjDxRefIdeal.τ).loc Cert.KvProjDxRefIdeal.main_arg4))

def preserves_GdnInBaDx_GdnInBaDxIdeal : Prop :=
  True

def algebraic_GdnInBaDxIdeal_GdnInBaDxRefIdeal [hGdnInBaDxIdeal : Cert.GdnInBaDxIdeal.Facts] [hGdnInBaDxRefIdeal : Cert.GdnInBaDxRefIdeal.Facts] : Prop :=
  ∀ (m : (ℓ : Loc Cert.GdnInBaDxIdeal.nD Cert.GdnInBaDxIdeal.τ Cert.GdnInBaDxIdeal.sig) → Buf (Elt Ideal) ℓ) (g : Dev Cert.GdnInBaDxIdeal.nD → PrngReg)
    (m' : (ℓ : Loc Cert.GdnInBaDxRefIdeal.nD Cert.GdnInBaDxRefIdeal.τ Cert.GdnInBaDxRefIdeal.sig) → Buf (Elt Ideal) ℓ) (g' : Dev Cert.GdnInBaDxRefIdeal.nD → PrngReg), Pre_GdnInBaDxIdeal m →
    (∀ c : Dev Cert.GdnInBaDxIdeal.nD,
      m' ((c.tc : Thread Cert.GdnInBaDxRefIdeal.nD Cert.GdnInBaDxRefIdeal.τ).loc Cert.GdnInBaDxRefIdeal.main_arg0) = m ((c.tc : Thread Cert.GdnInBaDxIdeal.nD Cert.GdnInBaDxIdeal.τ).loc Cert.GdnInBaDxIdeal.main_arg0)
      ∧ m' ((c.tc : Thread Cert.GdnInBaDxRefIdeal.nD Cert.GdnInBaDxRefIdeal.τ).loc Cert.GdnInBaDxRefIdeal.main_arg1) = m ((c.tc : Thread Cert.GdnInBaDxIdeal.nD Cert.GdnInBaDxIdeal.τ).loc Cert.GdnInBaDxIdeal.main_arg1)
      ∧ m' ((c.tc : Thread Cert.GdnInBaDxRefIdeal.nD Cert.GdnInBaDxRefIdeal.τ).loc Cert.GdnInBaDxRefIdeal.main_arg2) = m ((c.tc : Thread Cert.GdnInBaDxIdeal.nD Cert.GdnInBaDxIdeal.τ).loc Cert.GdnInBaDxIdeal.main_arg2)
      ∧ m' ((c.tc : Thread Cert.GdnInBaDxRefIdeal.nD Cert.GdnInBaDxRefIdeal.τ).loc Cert.GdnInBaDxRefIdeal.main_arg3) = m ((c.tc : Thread Cert.GdnInBaDxIdeal.nD Cert.GdnInBaDxIdeal.τ).loc Cert.GdnInBaDxIdeal.main_arg3)
      ∧ m' ((c.tc : Thread Cert.GdnInBaDxRefIdeal.nD Cert.GdnInBaDxRefIdeal.τ).loc Cert.GdnInBaDxRefIdeal.main_arg4) = m ((c.tc : Thread Cert.GdnInBaDxIdeal.nD Cert.GdnInBaDxIdeal.τ).loc Cert.GdnInBaDxIdeal.main_arg4)
      ∧ m' ((c.tc : Thread Cert.GdnInBaDxRefIdeal.nD Cert.GdnInBaDxRefIdeal.τ).loc Cert.GdnInBaDxRefIdeal.main_arg5) = m ((c.tc : Thread Cert.GdnInBaDxIdeal.nD Cert.GdnInBaDxIdeal.τ).loc Cert.GdnInBaDxIdeal.main_arg5)) →
    ∃ (v0 : (c : Dev Cert.GdnInBaDxIdeal.nD) → Buf (Elt Ideal) ((c.tc : Thread Cert.GdnInBaDxIdeal.nD Cert.GdnInBaDxIdeal.τ).loc Cert.GdnInBaDxIdeal.main_v0_0)) (v1 : (c : Dev Cert.GdnInBaDxIdeal.nD) → Buf (Elt Ideal) ((c.tc : Thread Cert.GdnInBaDxIdeal.nD Cert.GdnInBaDxIdeal.τ).loc Cert.GdnInBaDxIdeal.main_v0_1)),
      θ_run (Cert.GdnInBaDxIdeal.defs (F := Ideal)) (onTc (τ := Cert.GdnInBaDxIdeal.τ) (Cert.GdnInBaDxIdeal.main (F := Ideal))) ⟨m, fun _ => 0, g⟩ (fun r => ∀ c : Dev Cert.GdnInBaDxIdeal.nD,
          r.2.mem ((c.tc : Thread Cert.GdnInBaDxIdeal.nD Cert.GdnInBaDxIdeal.τ).loc Cert.GdnInBaDxIdeal.main_v0_0) = v0 c
          ∧ r.2.mem ((c.tc : Thread Cert.GdnInBaDxIdeal.nD Cert.GdnInBaDxIdeal.τ).loc Cert.GdnInBaDxIdeal.main_v0_1) = v1 c
          ∧ r.2.mem ((c.tc : Thread Cert.GdnInBaDxIdeal.nD Cert.GdnInBaDxIdeal.τ).loc Cert.GdnInBaDxIdeal.main_arg0) = m ((c.tc : Thread Cert.GdnInBaDxIdeal.nD Cert.GdnInBaDxIdeal.τ).loc Cert.GdnInBaDxIdeal.main_arg0)
          ∧ r.2.mem ((c.tc : Thread Cert.GdnInBaDxIdeal.nD Cert.GdnInBaDxIdeal.τ).loc Cert.GdnInBaDxIdeal.main_arg1) = m ((c.tc : Thread Cert.GdnInBaDxIdeal.nD Cert.GdnInBaDxIdeal.τ).loc Cert.GdnInBaDxIdeal.main_arg1)
          ∧ r.2.mem ((c.tc : Thread Cert.GdnInBaDxIdeal.nD Cert.GdnInBaDxIdeal.τ).loc Cert.GdnInBaDxIdeal.main_arg2) = m ((c.tc : Thread Cert.GdnInBaDxIdeal.nD Cert.GdnInBaDxIdeal.τ).loc Cert.GdnInBaDxIdeal.main_arg2)
          ∧ r.2.mem ((c.tc : Thread Cert.GdnInBaDxIdeal.nD Cert.GdnInBaDxIdeal.τ).loc Cert.GdnInBaDxIdeal.main_arg3) = m ((c.tc : Thread Cert.GdnInBaDxIdeal.nD Cert.GdnInBaDxIdeal.τ).loc Cert.GdnInBaDxIdeal.main_arg3)
          ∧ r.2.mem ((c.tc : Thread Cert.GdnInBaDxIdeal.nD Cert.GdnInBaDxIdeal.τ).loc Cert.GdnInBaDxIdeal.main_arg4) = m ((c.tc : Thread Cert.GdnInBaDxIdeal.nD Cert.GdnInBaDxIdeal.τ).loc Cert.GdnInBaDxIdeal.main_arg4)
          ∧ r.2.mem ((c.tc : Thread Cert.GdnInBaDxIdeal.nD Cert.GdnInBaDxIdeal.τ).loc Cert.GdnInBaDxIdeal.main_arg5) = m ((c.tc : Thread Cert.GdnInBaDxIdeal.nD Cert.GdnInBaDxIdeal.τ).loc Cert.GdnInBaDxIdeal.main_arg5))
      ∧ θ_run (Cert.GdnInBaDxRefIdeal.defs (F := Ideal)) (onTc (τ := Cert.GdnInBaDxRefIdeal.τ) (Cert.GdnInBaDxRefIdeal.main (F := Ideal))) ⟨m', fun _ => 0, g'⟩ (fun r => ∀ c : Dev Cert.GdnInBaDxRefIdeal.nD,
          r.2.mem ((c.tc : Thread Cert.GdnInBaDxRefIdeal.nD Cert.GdnInBaDxRefIdeal.τ).loc Cert.GdnInBaDxRefIdeal.main_v41) = v0 c
          ∧ r.2.mem ((c.tc : Thread Cert.GdnInBaDxRefIdeal.nD Cert.GdnInBaDxRefIdeal.τ).loc Cert.GdnInBaDxRefIdeal.main_v42) = v1 c
          ∧ r.2.mem ((c.tc : Thread Cert.GdnInBaDxRefIdeal.nD Cert.GdnInBaDxRefIdeal.τ).loc Cert.GdnInBaDxRefIdeal.main_arg0) = m' ((c.tc : Thread Cert.GdnInBaDxRefIdeal.nD Cert.GdnInBaDxRefIdeal.τ).loc Cert.GdnInBaDxRefIdeal.main_arg0)
          ∧ r.2.mem ((c.tc : Thread Cert.GdnInBaDxRefIdeal.nD Cert.GdnInBaDxRefIdeal.τ).loc Cert.GdnInBaDxRefIdeal.main_arg1) = m' ((c.tc : Thread Cert.GdnInBaDxRefIdeal.nD Cert.GdnInBaDxRefIdeal.τ).loc Cert.GdnInBaDxRefIdeal.main_arg1)
          ∧ r.2.mem ((c.tc : Thread Cert.GdnInBaDxRefIdeal.nD Cert.GdnInBaDxRefIdeal.τ).loc Cert.GdnInBaDxRefIdeal.main_arg2) = m' ((c.tc : Thread Cert.GdnInBaDxRefIdeal.nD Cert.GdnInBaDxRefIdeal.τ).loc Cert.GdnInBaDxRefIdeal.main_arg2)
          ∧ r.2.mem ((c.tc : Thread Cert.GdnInBaDxRefIdeal.nD Cert.GdnInBaDxRefIdeal.τ).loc Cert.GdnInBaDxRefIdeal.main_arg3) = m' ((c.tc : Thread Cert.GdnInBaDxRefIdeal.nD Cert.GdnInBaDxRefIdeal.τ).loc Cert.GdnInBaDxRefIdeal.main_arg3)
          ∧ r.2.mem ((c.tc : Thread Cert.GdnInBaDxRefIdeal.nD Cert.GdnInBaDxRefIdeal.τ).loc Cert.GdnInBaDxRefIdeal.main_arg4) = m' ((c.tc : Thread Cert.GdnInBaDxRefIdeal.nD Cert.GdnInBaDxRefIdeal.τ).loc Cert.GdnInBaDxRefIdeal.main_arg4)
          ∧ r.2.mem ((c.tc : Thread Cert.GdnInBaDxRefIdeal.nD Cert.GdnInBaDxRefIdeal.τ).loc Cert.GdnInBaDxRefIdeal.main_arg5) = m' ((c.tc : Thread Cert.GdnInBaDxRefIdeal.nD Cert.GdnInBaDxRefIdeal.τ).loc Cert.GdnInBaDxRefIdeal.main_arg5))

def preserves_AdamAWIn_AdamAWInIdeal : Prop :=
  True

def algebraic_AdamAWInIdeal_AdamAWInRefIdeal [hAdamAWInIdeal : Cert.AdamAWInIdeal.Facts] [hAdamAWInRefIdeal : Cert.AdamAWInRefIdeal.Facts] : Prop :=
  ∀ (m : (ℓ : Loc Cert.AdamAWInIdeal.nD Cert.AdamAWInIdeal.τ Cert.AdamAWInIdeal.sig) → Buf (Elt Ideal) ℓ) (g : Dev Cert.AdamAWInIdeal.nD → PrngReg)
    (m' : (ℓ : Loc Cert.AdamAWInRefIdeal.nD Cert.AdamAWInRefIdeal.τ Cert.AdamAWInRefIdeal.sig) → Buf (Elt Ideal) ℓ) (g' : Dev Cert.AdamAWInRefIdeal.nD → PrngReg), Pre_AdamAWInIdeal m →
    (∀ c : Dev Cert.AdamAWInIdeal.nD,
      m' ((c.tc : Thread Cert.AdamAWInRefIdeal.nD Cert.AdamAWInRefIdeal.τ).loc Cert.AdamAWInRefIdeal.main_arg0) = m ((c.tc : Thread Cert.AdamAWInIdeal.nD Cert.AdamAWInIdeal.τ).loc Cert.AdamAWInIdeal.main_arg0)
      ∧ m' ((c.tc : Thread Cert.AdamAWInRefIdeal.nD Cert.AdamAWInRefIdeal.τ).loc Cert.AdamAWInRefIdeal.main_arg1) = m ((c.tc : Thread Cert.AdamAWInIdeal.nD Cert.AdamAWInIdeal.τ).loc Cert.AdamAWInIdeal.main_arg1)
      ∧ m' ((c.tc : Thread Cert.AdamAWInRefIdeal.nD Cert.AdamAWInRefIdeal.τ).loc Cert.AdamAWInRefIdeal.main_arg2) = m ((c.tc : Thread Cert.AdamAWInIdeal.nD Cert.AdamAWInIdeal.τ).loc Cert.AdamAWInIdeal.main_arg2)
      ∧ m' ((c.tc : Thread Cert.AdamAWInRefIdeal.nD Cert.AdamAWInRefIdeal.τ).loc Cert.AdamAWInRefIdeal.main_arg3) = m ((c.tc : Thread Cert.AdamAWInIdeal.nD Cert.AdamAWInIdeal.τ).loc Cert.AdamAWInIdeal.main_arg3)) →
    ∃ (v0 : (c : Dev Cert.AdamAWInIdeal.nD) → Buf (Elt Ideal) ((c.tc : Thread Cert.AdamAWInIdeal.nD Cert.AdamAWInIdeal.τ).loc Cert.AdamAWInIdeal.main_v0_0)) (v1 : (c : Dev Cert.AdamAWInIdeal.nD) → Buf (Elt Ideal) ((c.tc : Thread Cert.AdamAWInIdeal.nD Cert.AdamAWInIdeal.τ).loc Cert.AdamAWInIdeal.main_v0_1)) (v2 : (c : Dev Cert.AdamAWInIdeal.nD) → Buf (Elt Ideal) ((c.tc : Thread Cert.AdamAWInIdeal.nD Cert.AdamAWInIdeal.τ).loc Cert.AdamAWInIdeal.main_v0_2)),
      θ_run (Cert.AdamAWInIdeal.defs (F := Ideal)) (onTc (τ := Cert.AdamAWInIdeal.τ) (Cert.AdamAWInIdeal.main (F := Ideal))) ⟨m, fun _ => 0, g⟩ (fun r => ∀ c : Dev Cert.AdamAWInIdeal.nD,
          r.2.mem ((c.tc : Thread Cert.AdamAWInIdeal.nD Cert.AdamAWInIdeal.τ).loc Cert.AdamAWInIdeal.main_v0_0) = v0 c
          ∧ r.2.mem ((c.tc : Thread Cert.AdamAWInIdeal.nD Cert.AdamAWInIdeal.τ).loc Cert.AdamAWInIdeal.main_v0_1) = v1 c
          ∧ r.2.mem ((c.tc : Thread Cert.AdamAWInIdeal.nD Cert.AdamAWInIdeal.τ).loc Cert.AdamAWInIdeal.main_v0_2) = v2 c
          ∧ r.2.mem ((c.tc : Thread Cert.AdamAWInIdeal.nD Cert.AdamAWInIdeal.τ).loc Cert.AdamAWInIdeal.main_arg0) = m ((c.tc : Thread Cert.AdamAWInIdeal.nD Cert.AdamAWInIdeal.τ).loc Cert.AdamAWInIdeal.main_arg0)
          ∧ r.2.mem ((c.tc : Thread Cert.AdamAWInIdeal.nD Cert.AdamAWInIdeal.τ).loc Cert.AdamAWInIdeal.main_arg1) = m ((c.tc : Thread Cert.AdamAWInIdeal.nD Cert.AdamAWInIdeal.τ).loc Cert.AdamAWInIdeal.main_arg1)
          ∧ r.2.mem ((c.tc : Thread Cert.AdamAWInIdeal.nD Cert.AdamAWInIdeal.τ).loc Cert.AdamAWInIdeal.main_arg2) = m ((c.tc : Thread Cert.AdamAWInIdeal.nD Cert.AdamAWInIdeal.τ).loc Cert.AdamAWInIdeal.main_arg2)
          ∧ r.2.mem ((c.tc : Thread Cert.AdamAWInIdeal.nD Cert.AdamAWInIdeal.τ).loc Cert.AdamAWInIdeal.main_arg3) = m ((c.tc : Thread Cert.AdamAWInIdeal.nD Cert.AdamAWInIdeal.τ).loc Cert.AdamAWInIdeal.main_arg3))
      ∧ θ_run (Cert.AdamAWInRefIdeal.defs (F := Ideal)) (onTc (τ := Cert.AdamAWInRefIdeal.τ) (Cert.AdamAWInRefIdeal.main (F := Ideal))) ⟨m', fun _ => 0, g'⟩ (fun r => ∀ c : Dev Cert.AdamAWInRefIdeal.nD,
          r.2.mem ((c.tc : Thread Cert.AdamAWInRefIdeal.nD Cert.AdamAWInRefIdeal.τ).loc Cert.AdamAWInRefIdeal.main_v23) = v0 c
          ∧ r.2.mem ((c.tc : Thread Cert.AdamAWInRefIdeal.nD Cert.AdamAWInRefIdeal.τ).loc Cert.AdamAWInRefIdeal.main_v4) = v1 c
          ∧ r.2.mem ((c.tc : Thread Cert.AdamAWInRefIdeal.nD Cert.AdamAWInRefIdeal.τ).loc Cert.AdamAWInRefIdeal.main_v10) = v2 c
          ∧ r.2.mem ((c.tc : Thread Cert.AdamAWInRefIdeal.nD Cert.AdamAWInRefIdeal.τ).loc Cert.AdamAWInRefIdeal.main_arg0) = m' ((c.tc : Thread Cert.AdamAWInRefIdeal.nD Cert.AdamAWInRefIdeal.τ).loc Cert.AdamAWInRefIdeal.main_arg0)
          ∧ r.2.mem ((c.tc : Thread Cert.AdamAWInRefIdeal.nD Cert.AdamAWInRefIdeal.τ).loc Cert.AdamAWInRefIdeal.main_arg1) = m' ((c.tc : Thread Cert.AdamAWInRefIdeal.nD Cert.AdamAWInRefIdeal.τ).loc Cert.AdamAWInRefIdeal.main_arg1)
          ∧ r.2.mem ((c.tc : Thread Cert.AdamAWInRefIdeal.nD Cert.AdamAWInRefIdeal.τ).loc Cert.AdamAWInRefIdeal.main_arg2) = m' ((c.tc : Thread Cert.AdamAWInRefIdeal.nD Cert.AdamAWInRefIdeal.τ).loc Cert.AdamAWInRefIdeal.main_arg2)
          ∧ r.2.mem ((c.tc : Thread Cert.AdamAWInRefIdeal.nD Cert.AdamAWInRefIdeal.τ).loc Cert.AdamAWInRefIdeal.main_arg3) = m' ((c.tc : Thread Cert.AdamAWInRefIdeal.nD Cert.AdamAWInRefIdeal.τ).loc Cert.AdamAWInRefIdeal.main_arg3))

def preserves_AdamAWOut_AdamAWOutIdeal : Prop :=
  True

def algebraic_AdamAWOutIdeal_AdamAWOutRefIdeal [hAdamAWOutIdeal : Cert.AdamAWOutIdeal.Facts] [hAdamAWOutRefIdeal : Cert.AdamAWOutRefIdeal.Facts] : Prop :=
  ∀ (m : (ℓ : Loc Cert.AdamAWOutIdeal.nD Cert.AdamAWOutIdeal.τ Cert.AdamAWOutIdeal.sig) → Buf (Elt Ideal) ℓ) (g : Dev Cert.AdamAWOutIdeal.nD → PrngReg)
    (m' : (ℓ : Loc Cert.AdamAWOutRefIdeal.nD Cert.AdamAWOutRefIdeal.τ Cert.AdamAWOutRefIdeal.sig) → Buf (Elt Ideal) ℓ) (g' : Dev Cert.AdamAWOutRefIdeal.nD → PrngReg), Pre_AdamAWOutIdeal m →
    (∀ c : Dev Cert.AdamAWOutIdeal.nD,
      m' ((c.tc : Thread Cert.AdamAWOutRefIdeal.nD Cert.AdamAWOutRefIdeal.τ).loc Cert.AdamAWOutRefIdeal.main_arg0) = m ((c.tc : Thread Cert.AdamAWOutIdeal.nD Cert.AdamAWOutIdeal.τ).loc Cert.AdamAWOutIdeal.main_arg0)
      ∧ m' ((c.tc : Thread Cert.AdamAWOutRefIdeal.nD Cert.AdamAWOutRefIdeal.τ).loc Cert.AdamAWOutRefIdeal.main_arg1) = m ((c.tc : Thread Cert.AdamAWOutIdeal.nD Cert.AdamAWOutIdeal.τ).loc Cert.AdamAWOutIdeal.main_arg1)
      ∧ m' ((c.tc : Thread Cert.AdamAWOutRefIdeal.nD Cert.AdamAWOutRefIdeal.τ).loc Cert.AdamAWOutRefIdeal.main_arg2) = m ((c.tc : Thread Cert.AdamAWOutIdeal.nD Cert.AdamAWOutIdeal.τ).loc Cert.AdamAWOutIdeal.main_arg2)
      ∧ m' ((c.tc : Thread Cert.AdamAWOutRefIdeal.nD Cert.AdamAWOutRefIdeal.τ).loc Cert.AdamAWOutRefIdeal.main_arg3) = m ((c.tc : Thread Cert.AdamAWOutIdeal.nD Cert.AdamAWOutIdeal.τ).loc Cert.AdamAWOutIdeal.main_arg3)) →
    ∃ (v0 : (c : Dev Cert.AdamAWOutIdeal.nD) → Buf (Elt Ideal) ((c.tc : Thread Cert.AdamAWOutIdeal.nD Cert.AdamAWOutIdeal.τ).loc Cert.AdamAWOutIdeal.main_v0_0)) (v1 : (c : Dev Cert.AdamAWOutIdeal.nD) → Buf (Elt Ideal) ((c.tc : Thread Cert.AdamAWOutIdeal.nD Cert.AdamAWOutIdeal.τ).loc Cert.AdamAWOutIdeal.main_v0_1)) (v2 : (c : Dev Cert.AdamAWOutIdeal.nD) → Buf (Elt Ideal) ((c.tc : Thread Cert.AdamAWOutIdeal.nD Cert.AdamAWOutIdeal.τ).loc Cert.AdamAWOutIdeal.main_v0_2)),
      θ_run (Cert.AdamAWOutIdeal.defs (F := Ideal)) (onTc (τ := Cert.AdamAWOutIdeal.τ) (Cert.AdamAWOutIdeal.main (F := Ideal))) ⟨m, fun _ => 0, g⟩ (fun r => ∀ c : Dev Cert.AdamAWOutIdeal.nD,
          r.2.mem ((c.tc : Thread Cert.AdamAWOutIdeal.nD Cert.AdamAWOutIdeal.τ).loc Cert.AdamAWOutIdeal.main_v0_0) = v0 c
          ∧ r.2.mem ((c.tc : Thread Cert.AdamAWOutIdeal.nD Cert.AdamAWOutIdeal.τ).loc Cert.AdamAWOutIdeal.main_v0_1) = v1 c
          ∧ r.2.mem ((c.tc : Thread Cert.AdamAWOutIdeal.nD Cert.AdamAWOutIdeal.τ).loc Cert.AdamAWOutIdeal.main_v0_2) = v2 c
          ∧ r.2.mem ((c.tc : Thread Cert.AdamAWOutIdeal.nD Cert.AdamAWOutIdeal.τ).loc Cert.AdamAWOutIdeal.main_arg0) = m ((c.tc : Thread Cert.AdamAWOutIdeal.nD Cert.AdamAWOutIdeal.τ).loc Cert.AdamAWOutIdeal.main_arg0)
          ∧ r.2.mem ((c.tc : Thread Cert.AdamAWOutIdeal.nD Cert.AdamAWOutIdeal.τ).loc Cert.AdamAWOutIdeal.main_arg1) = m ((c.tc : Thread Cert.AdamAWOutIdeal.nD Cert.AdamAWOutIdeal.τ).loc Cert.AdamAWOutIdeal.main_arg1)
          ∧ r.2.mem ((c.tc : Thread Cert.AdamAWOutIdeal.nD Cert.AdamAWOutIdeal.τ).loc Cert.AdamAWOutIdeal.main_arg2) = m ((c.tc : Thread Cert.AdamAWOutIdeal.nD Cert.AdamAWOutIdeal.τ).loc Cert.AdamAWOutIdeal.main_arg2)
          ∧ r.2.mem ((c.tc : Thread Cert.AdamAWOutIdeal.nD Cert.AdamAWOutIdeal.τ).loc Cert.AdamAWOutIdeal.main_arg3) = m ((c.tc : Thread Cert.AdamAWOutIdeal.nD Cert.AdamAWOutIdeal.τ).loc Cert.AdamAWOutIdeal.main_arg3))
      ∧ θ_run (Cert.AdamAWOutRefIdeal.defs (F := Ideal)) (onTc (τ := Cert.AdamAWOutRefIdeal.τ) (Cert.AdamAWOutRefIdeal.main (F := Ideal))) ⟨m', fun _ => 0, g'⟩ (fun r => ∀ c : Dev Cert.AdamAWOutRefIdeal.nD,
          r.2.mem ((c.tc : Thread Cert.AdamAWOutRefIdeal.nD Cert.AdamAWOutRefIdeal.τ).loc Cert.AdamAWOutRefIdeal.main_v23) = v0 c
          ∧ r.2.mem ((c.tc : Thread Cert.AdamAWOutRefIdeal.nD Cert.AdamAWOutRefIdeal.τ).loc Cert.AdamAWOutRefIdeal.main_v4) = v1 c
          ∧ r.2.mem ((c.tc : Thread Cert.AdamAWOutRefIdeal.nD Cert.AdamAWOutRefIdeal.τ).loc Cert.AdamAWOutRefIdeal.main_v10) = v2 c
          ∧ r.2.mem ((c.tc : Thread Cert.AdamAWOutRefIdeal.nD Cert.AdamAWOutRefIdeal.τ).loc Cert.AdamAWOutRefIdeal.main_arg0) = m' ((c.tc : Thread Cert.AdamAWOutRefIdeal.nD Cert.AdamAWOutRefIdeal.τ).loc Cert.AdamAWOutRefIdeal.main_arg0)
          ∧ r.2.mem ((c.tc : Thread Cert.AdamAWOutRefIdeal.nD Cert.AdamAWOutRefIdeal.τ).loc Cert.AdamAWOutRefIdeal.main_arg1) = m' ((c.tc : Thread Cert.AdamAWOutRefIdeal.nD Cert.AdamAWOutRefIdeal.τ).loc Cert.AdamAWOutRefIdeal.main_arg1)
          ∧ r.2.mem ((c.tc : Thread Cert.AdamAWOutRefIdeal.nD Cert.AdamAWOutRefIdeal.τ).loc Cert.AdamAWOutRefIdeal.main_arg2) = m' ((c.tc : Thread Cert.AdamAWOutRefIdeal.nD Cert.AdamAWOutRefIdeal.τ).loc Cert.AdamAWOutRefIdeal.main_arg2)
          ∧ r.2.mem ((c.tc : Thread Cert.AdamAWOutRefIdeal.nD Cert.AdamAWOutRefIdeal.τ).loc Cert.AdamAWOutRefIdeal.main_arg3) = m' ((c.tc : Thread Cert.AdamAWOutRefIdeal.nD Cert.AdamAWOutRefIdeal.τ).loc Cert.AdamAWOutRefIdeal.main_arg3))

def preserves_AdamWKv_AdamWKvIdeal : Prop :=
  True

def algebraic_AdamWKvIdeal_AdamWKvRefIdeal [hAdamWKvIdeal : Cert.AdamWKvIdeal.Facts] [hAdamWKvRefIdeal : Cert.AdamWKvRefIdeal.Facts] : Prop :=
  ∀ (m : (ℓ : Loc Cert.AdamWKvIdeal.nD Cert.AdamWKvIdeal.τ Cert.AdamWKvIdeal.sig) → Buf (Elt Ideal) ℓ) (g : Dev Cert.AdamWKvIdeal.nD → PrngReg)
    (m' : (ℓ : Loc Cert.AdamWKvRefIdeal.nD Cert.AdamWKvRefIdeal.τ Cert.AdamWKvRefIdeal.sig) → Buf (Elt Ideal) ℓ) (g' : Dev Cert.AdamWKvRefIdeal.nD → PrngReg), Pre_AdamWKvIdeal m →
    (∀ c : Dev Cert.AdamWKvIdeal.nD,
      m' ((c.tc : Thread Cert.AdamWKvRefIdeal.nD Cert.AdamWKvRefIdeal.τ).loc Cert.AdamWKvRefIdeal.main_arg0) = m ((c.tc : Thread Cert.AdamWKvIdeal.nD Cert.AdamWKvIdeal.τ).loc Cert.AdamWKvIdeal.main_arg0)
      ∧ m' ((c.tc : Thread Cert.AdamWKvRefIdeal.nD Cert.AdamWKvRefIdeal.τ).loc Cert.AdamWKvRefIdeal.main_arg1) = m ((c.tc : Thread Cert.AdamWKvIdeal.nD Cert.AdamWKvIdeal.τ).loc Cert.AdamWKvIdeal.main_arg1)
      ∧ m' ((c.tc : Thread Cert.AdamWKvRefIdeal.nD Cert.AdamWKvRefIdeal.τ).loc Cert.AdamWKvRefIdeal.main_arg2) = m ((c.tc : Thread Cert.AdamWKvIdeal.nD Cert.AdamWKvIdeal.τ).loc Cert.AdamWKvIdeal.main_arg2)
      ∧ m' ((c.tc : Thread Cert.AdamWKvRefIdeal.nD Cert.AdamWKvRefIdeal.τ).loc Cert.AdamWKvRefIdeal.main_arg3) = m ((c.tc : Thread Cert.AdamWKvIdeal.nD Cert.AdamWKvIdeal.τ).loc Cert.AdamWKvIdeal.main_arg3)) →
    ∃ (v0 : (c : Dev Cert.AdamWKvIdeal.nD) → Buf (Elt Ideal) ((c.tc : Thread Cert.AdamWKvIdeal.nD Cert.AdamWKvIdeal.τ).loc Cert.AdamWKvIdeal.main_v0_0)) (v1 : (c : Dev Cert.AdamWKvIdeal.nD) → Buf (Elt Ideal) ((c.tc : Thread Cert.AdamWKvIdeal.nD Cert.AdamWKvIdeal.τ).loc Cert.AdamWKvIdeal.main_v0_1)) (v2 : (c : Dev Cert.AdamWKvIdeal.nD) → Buf (Elt Ideal) ((c.tc : Thread Cert.AdamWKvIdeal.nD Cert.AdamWKvIdeal.τ).loc Cert.AdamWKvIdeal.main_v0_2)),
      θ_run (Cert.AdamWKvIdeal.defs (F := Ideal)) (onTc (τ := Cert.AdamWKvIdeal.τ) (Cert.AdamWKvIdeal.main (F := Ideal))) ⟨m, fun _ => 0, g⟩ (fun r => ∀ c : Dev Cert.AdamWKvIdeal.nD,
          r.2.mem ((c.tc : Thread Cert.AdamWKvIdeal.nD Cert.AdamWKvIdeal.τ).loc Cert.AdamWKvIdeal.main_v0_0) = v0 c
          ∧ r.2.mem ((c.tc : Thread Cert.AdamWKvIdeal.nD Cert.AdamWKvIdeal.τ).loc Cert.AdamWKvIdeal.main_v0_1) = v1 c
          ∧ r.2.mem ((c.tc : Thread Cert.AdamWKvIdeal.nD Cert.AdamWKvIdeal.τ).loc Cert.AdamWKvIdeal.main_v0_2) = v2 c
          ∧ r.2.mem ((c.tc : Thread Cert.AdamWKvIdeal.nD Cert.AdamWKvIdeal.τ).loc Cert.AdamWKvIdeal.main_arg0) = m ((c.tc : Thread Cert.AdamWKvIdeal.nD Cert.AdamWKvIdeal.τ).loc Cert.AdamWKvIdeal.main_arg0)
          ∧ r.2.mem ((c.tc : Thread Cert.AdamWKvIdeal.nD Cert.AdamWKvIdeal.τ).loc Cert.AdamWKvIdeal.main_arg1) = m ((c.tc : Thread Cert.AdamWKvIdeal.nD Cert.AdamWKvIdeal.τ).loc Cert.AdamWKvIdeal.main_arg1)
          ∧ r.2.mem ((c.tc : Thread Cert.AdamWKvIdeal.nD Cert.AdamWKvIdeal.τ).loc Cert.AdamWKvIdeal.main_arg2) = m ((c.tc : Thread Cert.AdamWKvIdeal.nD Cert.AdamWKvIdeal.τ).loc Cert.AdamWKvIdeal.main_arg2)
          ∧ r.2.mem ((c.tc : Thread Cert.AdamWKvIdeal.nD Cert.AdamWKvIdeal.τ).loc Cert.AdamWKvIdeal.main_arg3) = m ((c.tc : Thread Cert.AdamWKvIdeal.nD Cert.AdamWKvIdeal.τ).loc Cert.AdamWKvIdeal.main_arg3))
      ∧ θ_run (Cert.AdamWKvRefIdeal.defs (F := Ideal)) (onTc (τ := Cert.AdamWKvRefIdeal.τ) (Cert.AdamWKvRefIdeal.main (F := Ideal))) ⟨m', fun _ => 0, g'⟩ (fun r => ∀ c : Dev Cert.AdamWKvRefIdeal.nD,
          r.2.mem ((c.tc : Thread Cert.AdamWKvRefIdeal.nD Cert.AdamWKvRefIdeal.τ).loc Cert.AdamWKvRefIdeal.main_v23) = v0 c
          ∧ r.2.mem ((c.tc : Thread Cert.AdamWKvRefIdeal.nD Cert.AdamWKvRefIdeal.τ).loc Cert.AdamWKvRefIdeal.main_v4) = v1 c
          ∧ r.2.mem ((c.tc : Thread Cert.AdamWKvRefIdeal.nD Cert.AdamWKvRefIdeal.τ).loc Cert.AdamWKvRefIdeal.main_v10) = v2 c
          ∧ r.2.mem ((c.tc : Thread Cert.AdamWKvRefIdeal.nD Cert.AdamWKvRefIdeal.τ).loc Cert.AdamWKvRefIdeal.main_arg0) = m' ((c.tc : Thread Cert.AdamWKvRefIdeal.nD Cert.AdamWKvRefIdeal.τ).loc Cert.AdamWKvRefIdeal.main_arg0)
          ∧ r.2.mem ((c.tc : Thread Cert.AdamWKvRefIdeal.nD Cert.AdamWKvRefIdeal.τ).loc Cert.AdamWKvRefIdeal.main_arg1) = m' ((c.tc : Thread Cert.AdamWKvRefIdeal.nD Cert.AdamWKvRefIdeal.τ).loc Cert.AdamWKvRefIdeal.main_arg1)
          ∧ r.2.mem ((c.tc : Thread Cert.AdamWKvRefIdeal.nD Cert.AdamWKvRefIdeal.τ).loc Cert.AdamWKvRefIdeal.main_arg2) = m' ((c.tc : Thread Cert.AdamWKvRefIdeal.nD Cert.AdamWKvRefIdeal.τ).loc Cert.AdamWKvRefIdeal.main_arg2)
          ∧ r.2.mem ((c.tc : Thread Cert.AdamWKvRefIdeal.nD Cert.AdamWKvRefIdeal.τ).loc Cert.AdamWKvRefIdeal.main_arg3) = m' ((c.tc : Thread Cert.AdamWKvRefIdeal.nD Cert.AdamWKvRefIdeal.τ).loc Cert.AdamWKvRefIdeal.main_arg3))

def preserves_AdamBWQ_AdamBWQIdeal : Prop :=
  True

def algebraic_AdamBWQIdeal_AdamBWQRefIdeal [hAdamBWQIdeal : Cert.AdamBWQIdeal.Facts] [hAdamBWQRefIdeal : Cert.AdamBWQRefIdeal.Facts] : Prop :=
  ∀ (m : (ℓ : Loc Cert.AdamBWQIdeal.nD Cert.AdamBWQIdeal.τ Cert.AdamBWQIdeal.sig) → Buf (Elt Ideal) ℓ) (g : Dev Cert.AdamBWQIdeal.nD → PrngReg)
    (m' : (ℓ : Loc Cert.AdamBWQRefIdeal.nD Cert.AdamBWQRefIdeal.τ Cert.AdamBWQRefIdeal.sig) → Buf (Elt Ideal) ℓ) (g' : Dev Cert.AdamBWQRefIdeal.nD → PrngReg), Pre_AdamBWQIdeal m →
    (∀ c : Dev Cert.AdamBWQIdeal.nD,
      m' ((c.tc : Thread Cert.AdamBWQRefIdeal.nD Cert.AdamBWQRefIdeal.τ).loc Cert.AdamBWQRefIdeal.main_arg0) = m ((c.tc : Thread Cert.AdamBWQIdeal.nD Cert.AdamBWQIdeal.τ).loc Cert.AdamBWQIdeal.main_arg0)
      ∧ m' ((c.tc : Thread Cert.AdamBWQRefIdeal.nD Cert.AdamBWQRefIdeal.τ).loc Cert.AdamBWQRefIdeal.main_arg1) = m ((c.tc : Thread Cert.AdamBWQIdeal.nD Cert.AdamBWQIdeal.τ).loc Cert.AdamBWQIdeal.main_arg1)
      ∧ m' ((c.tc : Thread Cert.AdamBWQRefIdeal.nD Cert.AdamBWQRefIdeal.τ).loc Cert.AdamBWQRefIdeal.main_arg2) = m ((c.tc : Thread Cert.AdamBWQIdeal.nD Cert.AdamBWQIdeal.τ).loc Cert.AdamBWQIdeal.main_arg2)
      ∧ m' ((c.tc : Thread Cert.AdamBWQRefIdeal.nD Cert.AdamBWQRefIdeal.τ).loc Cert.AdamBWQRefIdeal.main_arg3) = m ((c.tc : Thread Cert.AdamBWQIdeal.nD Cert.AdamBWQIdeal.τ).loc Cert.AdamBWQIdeal.main_arg3)) →
    ∃ (v0 : (c : Dev Cert.AdamBWQIdeal.nD) → Buf (Elt Ideal) ((c.tc : Thread Cert.AdamBWQIdeal.nD Cert.AdamBWQIdeal.τ).loc Cert.AdamBWQIdeal.main_v0_0)) (v1 : (c : Dev Cert.AdamBWQIdeal.nD) → Buf (Elt Ideal) ((c.tc : Thread Cert.AdamBWQIdeal.nD Cert.AdamBWQIdeal.τ).loc Cert.AdamBWQIdeal.main_v0_1)) (v2 : (c : Dev Cert.AdamBWQIdeal.nD) → Buf (Elt Ideal) ((c.tc : Thread Cert.AdamBWQIdeal.nD Cert.AdamBWQIdeal.τ).loc Cert.AdamBWQIdeal.main_v0_2)),
      θ_run (Cert.AdamBWQIdeal.defs (F := Ideal)) (onTc (τ := Cert.AdamBWQIdeal.τ) (Cert.AdamBWQIdeal.main (F := Ideal))) ⟨m, fun _ => 0, g⟩ (fun r => ∀ c : Dev Cert.AdamBWQIdeal.nD,
          r.2.mem ((c.tc : Thread Cert.AdamBWQIdeal.nD Cert.AdamBWQIdeal.τ).loc Cert.AdamBWQIdeal.main_v0_0) = v0 c
          ∧ r.2.mem ((c.tc : Thread Cert.AdamBWQIdeal.nD Cert.AdamBWQIdeal.τ).loc Cert.AdamBWQIdeal.main_v0_1) = v1 c
          ∧ r.2.mem ((c.tc : Thread Cert.AdamBWQIdeal.nD Cert.AdamBWQIdeal.τ).loc Cert.AdamBWQIdeal.main_v0_2) = v2 c
          ∧ r.2.mem ((c.tc : Thread Cert.AdamBWQIdeal.nD Cert.AdamBWQIdeal.τ).loc Cert.AdamBWQIdeal.main_arg0) = m ((c.tc : Thread Cert.AdamBWQIdeal.nD Cert.AdamBWQIdeal.τ).loc Cert.AdamBWQIdeal.main_arg0)
          ∧ r.2.mem ((c.tc : Thread Cert.AdamBWQIdeal.nD Cert.AdamBWQIdeal.τ).loc Cert.AdamBWQIdeal.main_arg1) = m ((c.tc : Thread Cert.AdamBWQIdeal.nD Cert.AdamBWQIdeal.τ).loc Cert.AdamBWQIdeal.main_arg1)
          ∧ r.2.mem ((c.tc : Thread Cert.AdamBWQIdeal.nD Cert.AdamBWQIdeal.τ).loc Cert.AdamBWQIdeal.main_arg2) = m ((c.tc : Thread Cert.AdamBWQIdeal.nD Cert.AdamBWQIdeal.τ).loc Cert.AdamBWQIdeal.main_arg2)
          ∧ r.2.mem ((c.tc : Thread Cert.AdamBWQIdeal.nD Cert.AdamBWQIdeal.τ).loc Cert.AdamBWQIdeal.main_arg3) = m ((c.tc : Thread Cert.AdamBWQIdeal.nD Cert.AdamBWQIdeal.τ).loc Cert.AdamBWQIdeal.main_arg3))
      ∧ θ_run (Cert.AdamBWQRefIdeal.defs (F := Ideal)) (onTc (τ := Cert.AdamBWQRefIdeal.τ) (Cert.AdamBWQRefIdeal.main (F := Ideal))) ⟨m', fun _ => 0, g'⟩ (fun r => ∀ c : Dev Cert.AdamBWQRefIdeal.nD,
          r.2.mem ((c.tc : Thread Cert.AdamBWQRefIdeal.nD Cert.AdamBWQRefIdeal.τ).loc Cert.AdamBWQRefIdeal.main_v23) = v0 c
          ∧ r.2.mem ((c.tc : Thread Cert.AdamBWQRefIdeal.nD Cert.AdamBWQRefIdeal.τ).loc Cert.AdamBWQRefIdeal.main_v4) = v1 c
          ∧ r.2.mem ((c.tc : Thread Cert.AdamBWQRefIdeal.nD Cert.AdamBWQRefIdeal.τ).loc Cert.AdamBWQRefIdeal.main_v10) = v2 c
          ∧ r.2.mem ((c.tc : Thread Cert.AdamBWQRefIdeal.nD Cert.AdamBWQRefIdeal.τ).loc Cert.AdamBWQRefIdeal.main_arg0) = m' ((c.tc : Thread Cert.AdamBWQRefIdeal.nD Cert.AdamBWQRefIdeal.τ).loc Cert.AdamBWQRefIdeal.main_arg0)
          ∧ r.2.mem ((c.tc : Thread Cert.AdamBWQRefIdeal.nD Cert.AdamBWQRefIdeal.τ).loc Cert.AdamBWQRefIdeal.main_arg1) = m' ((c.tc : Thread Cert.AdamBWQRefIdeal.nD Cert.AdamBWQRefIdeal.τ).loc Cert.AdamBWQRefIdeal.main_arg1)
          ∧ r.2.mem ((c.tc : Thread Cert.AdamBWQRefIdeal.nD Cert.AdamBWQRefIdeal.τ).loc Cert.AdamBWQRefIdeal.main_arg2) = m' ((c.tc : Thread Cert.AdamBWQRefIdeal.nD Cert.AdamBWQRefIdeal.τ).loc Cert.AdamBWQRefIdeal.main_arg2)
          ∧ r.2.mem ((c.tc : Thread Cert.AdamBWQRefIdeal.nD Cert.AdamBWQRefIdeal.τ).loc Cert.AdamBWQRefIdeal.main_arg3) = m' ((c.tc : Thread Cert.AdamBWQRefIdeal.nD Cert.AdamBWQRefIdeal.τ).loc Cert.AdamBWQRefIdeal.main_arg3))

def preserves_AdamBWO_AdamBWOIdeal : Prop :=
  True

def algebraic_AdamBWOIdeal_AdamBWORefIdeal [hAdamBWOIdeal : Cert.AdamBWOIdeal.Facts] [hAdamBWORefIdeal : Cert.AdamBWORefIdeal.Facts] : Prop :=
  ∀ (m : (ℓ : Loc Cert.AdamBWOIdeal.nD Cert.AdamBWOIdeal.τ Cert.AdamBWOIdeal.sig) → Buf (Elt Ideal) ℓ) (g : Dev Cert.AdamBWOIdeal.nD → PrngReg)
    (m' : (ℓ : Loc Cert.AdamBWORefIdeal.nD Cert.AdamBWORefIdeal.τ Cert.AdamBWORefIdeal.sig) → Buf (Elt Ideal) ℓ) (g' : Dev Cert.AdamBWORefIdeal.nD → PrngReg), Pre_AdamBWOIdeal m →
    (∀ c : Dev Cert.AdamBWOIdeal.nD,
      m' ((c.tc : Thread Cert.AdamBWORefIdeal.nD Cert.AdamBWORefIdeal.τ).loc Cert.AdamBWORefIdeal.main_arg0) = m ((c.tc : Thread Cert.AdamBWOIdeal.nD Cert.AdamBWOIdeal.τ).loc Cert.AdamBWOIdeal.main_arg0)
      ∧ m' ((c.tc : Thread Cert.AdamBWORefIdeal.nD Cert.AdamBWORefIdeal.τ).loc Cert.AdamBWORefIdeal.main_arg1) = m ((c.tc : Thread Cert.AdamBWOIdeal.nD Cert.AdamBWOIdeal.τ).loc Cert.AdamBWOIdeal.main_arg1)
      ∧ m' ((c.tc : Thread Cert.AdamBWORefIdeal.nD Cert.AdamBWORefIdeal.τ).loc Cert.AdamBWORefIdeal.main_arg2) = m ((c.tc : Thread Cert.AdamBWOIdeal.nD Cert.AdamBWOIdeal.τ).loc Cert.AdamBWOIdeal.main_arg2)
      ∧ m' ((c.tc : Thread Cert.AdamBWORefIdeal.nD Cert.AdamBWORefIdeal.τ).loc Cert.AdamBWORefIdeal.main_arg3) = m ((c.tc : Thread Cert.AdamBWOIdeal.nD Cert.AdamBWOIdeal.τ).loc Cert.AdamBWOIdeal.main_arg3)) →
    ∃ (v0 : (c : Dev Cert.AdamBWOIdeal.nD) → Buf (Elt Ideal) ((c.tc : Thread Cert.AdamBWOIdeal.nD Cert.AdamBWOIdeal.τ).loc Cert.AdamBWOIdeal.main_v0_0)) (v1 : (c : Dev Cert.AdamBWOIdeal.nD) → Buf (Elt Ideal) ((c.tc : Thread Cert.AdamBWOIdeal.nD Cert.AdamBWOIdeal.τ).loc Cert.AdamBWOIdeal.main_v0_1)) (v2 : (c : Dev Cert.AdamBWOIdeal.nD) → Buf (Elt Ideal) ((c.tc : Thread Cert.AdamBWOIdeal.nD Cert.AdamBWOIdeal.τ).loc Cert.AdamBWOIdeal.main_v0_2)),
      θ_run (Cert.AdamBWOIdeal.defs (F := Ideal)) (onTc (τ := Cert.AdamBWOIdeal.τ) (Cert.AdamBWOIdeal.main (F := Ideal))) ⟨m, fun _ => 0, g⟩ (fun r => ∀ c : Dev Cert.AdamBWOIdeal.nD,
          r.2.mem ((c.tc : Thread Cert.AdamBWOIdeal.nD Cert.AdamBWOIdeal.τ).loc Cert.AdamBWOIdeal.main_v0_0) = v0 c
          ∧ r.2.mem ((c.tc : Thread Cert.AdamBWOIdeal.nD Cert.AdamBWOIdeal.τ).loc Cert.AdamBWOIdeal.main_v0_1) = v1 c
          ∧ r.2.mem ((c.tc : Thread Cert.AdamBWOIdeal.nD Cert.AdamBWOIdeal.τ).loc Cert.AdamBWOIdeal.main_v0_2) = v2 c
          ∧ r.2.mem ((c.tc : Thread Cert.AdamBWOIdeal.nD Cert.AdamBWOIdeal.τ).loc Cert.AdamBWOIdeal.main_arg0) = m ((c.tc : Thread Cert.AdamBWOIdeal.nD Cert.AdamBWOIdeal.τ).loc Cert.AdamBWOIdeal.main_arg0)
          ∧ r.2.mem ((c.tc : Thread Cert.AdamBWOIdeal.nD Cert.AdamBWOIdeal.τ).loc Cert.AdamBWOIdeal.main_arg1) = m ((c.tc : Thread Cert.AdamBWOIdeal.nD Cert.AdamBWOIdeal.τ).loc Cert.AdamBWOIdeal.main_arg1)
          ∧ r.2.mem ((c.tc : Thread Cert.AdamBWOIdeal.nD Cert.AdamBWOIdeal.τ).loc Cert.AdamBWOIdeal.main_arg2) = m ((c.tc : Thread Cert.AdamBWOIdeal.nD Cert.AdamBWOIdeal.τ).loc Cert.AdamBWOIdeal.main_arg2)
          ∧ r.2.mem ((c.tc : Thread Cert.AdamBWOIdeal.nD Cert.AdamBWOIdeal.τ).loc Cert.AdamBWOIdeal.main_arg3) = m ((c.tc : Thread Cert.AdamBWOIdeal.nD Cert.AdamBWOIdeal.τ).loc Cert.AdamBWOIdeal.main_arg3))
      ∧ θ_run (Cert.AdamBWORefIdeal.defs (F := Ideal)) (onTc (τ := Cert.AdamBWORefIdeal.τ) (Cert.AdamBWORefIdeal.main (F := Ideal))) ⟨m', fun _ => 0, g'⟩ (fun r => ∀ c : Dev Cert.AdamBWORefIdeal.nD,
          r.2.mem ((c.tc : Thread Cert.AdamBWORefIdeal.nD Cert.AdamBWORefIdeal.τ).loc Cert.AdamBWORefIdeal.main_v23) = v0 c
          ∧ r.2.mem ((c.tc : Thread Cert.AdamBWORefIdeal.nD Cert.AdamBWORefIdeal.τ).loc Cert.AdamBWORefIdeal.main_v4) = v1 c
          ∧ r.2.mem ((c.tc : Thread Cert.AdamBWORefIdeal.nD Cert.AdamBWORefIdeal.τ).loc Cert.AdamBWORefIdeal.main_v10) = v2 c
          ∧ r.2.mem ((c.tc : Thread Cert.AdamBWORefIdeal.nD Cert.AdamBWORefIdeal.τ).loc Cert.AdamBWORefIdeal.main_arg0) = m' ((c.tc : Thread Cert.AdamBWORefIdeal.nD Cert.AdamBWORefIdeal.τ).loc Cert.AdamBWORefIdeal.main_arg0)
          ∧ r.2.mem ((c.tc : Thread Cert.AdamBWORefIdeal.nD Cert.AdamBWORefIdeal.τ).loc Cert.AdamBWORefIdeal.main_arg1) = m' ((c.tc : Thread Cert.AdamBWORefIdeal.nD Cert.AdamBWORefIdeal.τ).loc Cert.AdamBWORefIdeal.main_arg1)
          ∧ r.2.mem ((c.tc : Thread Cert.AdamBWORefIdeal.nD Cert.AdamBWORefIdeal.τ).loc Cert.AdamBWORefIdeal.main_arg2) = m' ((c.tc : Thread Cert.AdamBWORefIdeal.nD Cert.AdamBWORefIdeal.τ).loc Cert.AdamBWORefIdeal.main_arg2)
          ∧ r.2.mem ((c.tc : Thread Cert.AdamBWORefIdeal.nD Cert.AdamBWORefIdeal.τ).loc Cert.AdamBWORefIdeal.main_arg3) = m' ((c.tc : Thread Cert.AdamBWORefIdeal.nD Cert.AdamBWORefIdeal.τ).loc Cert.AdamBWORefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_GdnInBaDw_GdnInBaDwIdeal : Prop :=
  True

def algebraic_GdnInBaDwIdeal_GdnInBaDwRefIdeal [hGdnInBaDwIdeal : Cert.GdnInBaDwIdeal.Facts] [hGdnInBaDwRefIdeal : Cert.GdnInBaDwRefIdeal.Facts] : Prop :=
  ∀ (m : (ℓ : Loc Cert.GdnInBaDwIdeal.nD Cert.GdnInBaDwIdeal.τ Cert.GdnInBaDwIdeal.sig) → Buf (Elt Ideal) ℓ) (g : Dev Cert.GdnInBaDwIdeal.nD → PrngReg)
    (m' : (ℓ : Loc Cert.GdnInBaDwRefIdeal.nD Cert.GdnInBaDwRefIdeal.τ Cert.GdnInBaDwRefIdeal.sig) → Buf (Elt Ideal) ℓ) (g' : Dev Cert.GdnInBaDwRefIdeal.nD → PrngReg), Pre_GdnInBaDwIdeal m →
    (∀ c : Dev Cert.GdnInBaDwIdeal.nD,
      m' ((c.tc : Thread Cert.GdnInBaDwRefIdeal.nD Cert.GdnInBaDwRefIdeal.τ).loc Cert.GdnInBaDwRefIdeal.main_arg0) = m ((c.tc : Thread Cert.GdnInBaDwIdeal.nD Cert.GdnInBaDwIdeal.τ).loc Cert.GdnInBaDwIdeal.main_arg0)
      ∧ m' ((c.tc : Thread Cert.GdnInBaDwRefIdeal.nD Cert.GdnInBaDwRefIdeal.τ).loc Cert.GdnInBaDwRefIdeal.main_arg1) = m ((c.tc : Thread Cert.GdnInBaDwIdeal.nD Cert.GdnInBaDwIdeal.τ).loc Cert.GdnInBaDwIdeal.main_arg1)
      ∧ m' ((c.tc : Thread Cert.GdnInBaDwRefIdeal.nD Cert.GdnInBaDwRefIdeal.τ).loc Cert.GdnInBaDwRefIdeal.main_arg2) = m ((c.tc : Thread Cert.GdnInBaDwIdeal.nD Cert.GdnInBaDwIdeal.τ).loc Cert.GdnInBaDwIdeal.main_arg2)) →
    ∃ (v0 : (c : Dev Cert.GdnInBaDwIdeal.nD) → Buf (Elt Ideal) ((c.tc : Thread Cert.GdnInBaDwIdeal.nD Cert.GdnInBaDwIdeal.τ).loc Cert.GdnInBaDwIdeal.main_v0)),
      θ_run (Cert.GdnInBaDwIdeal.defs (F := Ideal)) (onTc (τ := Cert.GdnInBaDwIdeal.τ) (Cert.GdnInBaDwIdeal.main (F := Ideal))) ⟨m, fun _ => 0, g⟩ (fun r => ∀ c : Dev Cert.GdnInBaDwIdeal.nD,
          r.2.mem ((c.tc : Thread Cert.GdnInBaDwIdeal.nD Cert.GdnInBaDwIdeal.τ).loc Cert.GdnInBaDwIdeal.main_v0) = v0 c
          ∧ r.2.mem ((c.tc : Thread Cert.GdnInBaDwIdeal.nD Cert.GdnInBaDwIdeal.τ).loc Cert.GdnInBaDwIdeal.main_arg0) = m ((c.tc : Thread Cert.GdnInBaDwIdeal.nD Cert.GdnInBaDwIdeal.τ).loc Cert.GdnInBaDwIdeal.main_arg0)
          ∧ r.2.mem ((c.tc : Thread Cert.GdnInBaDwIdeal.nD Cert.GdnInBaDwIdeal.τ).loc Cert.GdnInBaDwIdeal.main_arg1) = m ((c.tc : Thread Cert.GdnInBaDwIdeal.nD Cert.GdnInBaDwIdeal.τ).loc Cert.GdnInBaDwIdeal.main_arg1)
          ∧ r.2.mem ((c.tc : Thread Cert.GdnInBaDwIdeal.nD Cert.GdnInBaDwIdeal.τ).loc Cert.GdnInBaDwIdeal.main_arg2) = m ((c.tc : Thread Cert.GdnInBaDwIdeal.nD Cert.GdnInBaDwIdeal.τ).loc Cert.GdnInBaDwIdeal.main_arg2))
      ∧ θ_run (Cert.GdnInBaDwRefIdeal.defs (F := Ideal)) (onTc (τ := Cert.GdnInBaDwRefIdeal.τ) (Cert.GdnInBaDwRefIdeal.main (F := Ideal))) ⟨m', fun _ => 0, g'⟩ (fun r => ∀ c : Dev Cert.GdnInBaDwRefIdeal.nD,
          r.2.mem ((c.tc : Thread Cert.GdnInBaDwRefIdeal.nD Cert.GdnInBaDwRefIdeal.τ).loc Cert.GdnInBaDwRefIdeal.main_v17) = v0 c
          ∧ r.2.mem ((c.tc : Thread Cert.GdnInBaDwRefIdeal.nD Cert.GdnInBaDwRefIdeal.τ).loc Cert.GdnInBaDwRefIdeal.main_arg0) = m' ((c.tc : Thread Cert.GdnInBaDwRefIdeal.nD Cert.GdnInBaDwRefIdeal.τ).loc Cert.GdnInBaDwRefIdeal.main_arg0)
          ∧ r.2.mem ((c.tc : Thread Cert.GdnInBaDwRefIdeal.nD Cert.GdnInBaDwRefIdeal.τ).loc Cert.GdnInBaDwRefIdeal.main_arg1) = m' ((c.tc : Thread Cert.GdnInBaDwRefIdeal.nD Cert.GdnInBaDwRefIdeal.τ).loc Cert.GdnInBaDwRefIdeal.main_arg1)
          ∧ r.2.mem ((c.tc : Thread Cert.GdnInBaDwRefIdeal.nD Cert.GdnInBaDwRefIdeal.τ).loc Cert.GdnInBaDwRefIdeal.main_arg2) = m' ((c.tc : Thread Cert.GdnInBaDwRefIdeal.nD Cert.GdnInBaDwRefIdeal.τ).loc Cert.GdnInBaDwRefIdeal.main_arg2))

def preserves_RelBiasDw_RelBiasDwIdeal : Prop :=
  True

def algebraic_RelBiasDwIdeal_RelBiasDwRefIdeal [hRelBiasDwIdeal : Cert.RelBiasDwIdeal.Facts] [hRelBiasDwRefIdeal : Cert.RelBiasDwRefIdeal.Facts] : Prop :=
  ∀ (m : (ℓ : Loc Cert.RelBiasDwIdeal.nD Cert.RelBiasDwIdeal.τ Cert.RelBiasDwIdeal.sig) → Buf (Elt Ideal) ℓ) (g : Dev Cert.RelBiasDwIdeal.nD → PrngReg)
    (m' : (ℓ : Loc Cert.RelBiasDwRefIdeal.nD Cert.RelBiasDwRefIdeal.τ Cert.RelBiasDwRefIdeal.sig) → Buf (Elt Ideal) ℓ) (g' : Dev Cert.RelBiasDwRefIdeal.nD → PrngReg), Pre_RelBiasDwIdeal m →
    (∀ c : Dev Cert.RelBiasDwIdeal.nD,
      m' ((c.tc : Thread Cert.RelBiasDwRefIdeal.nD Cert.RelBiasDwRefIdeal.τ).loc Cert.RelBiasDwRefIdeal.main_arg0) = m ((c.tc : Thread Cert.RelBiasDwIdeal.nD Cert.RelBiasDwIdeal.τ).loc Cert.RelBiasDwIdeal.main_arg0)) →
    ∃ (v0 : (c : Dev Cert.RelBiasDwIdeal.nD) → Buf (Elt Ideal) ((c.tc : Thread Cert.RelBiasDwIdeal.nD Cert.RelBiasDwIdeal.τ).loc Cert.RelBiasDwIdeal.main_v38)),
      θ_run (Cert.RelBiasDwIdeal.defs (F := Ideal)) (onTc (τ := Cert.RelBiasDwIdeal.τ) (Cert.RelBiasDwIdeal.main (F := Ideal))) ⟨m, fun _ => 0, g⟩ (fun r => ∀ c : Dev Cert.RelBiasDwIdeal.nD,
          r.2.mem ((c.tc : Thread Cert.RelBiasDwIdeal.nD Cert.RelBiasDwIdeal.τ).loc Cert.RelBiasDwIdeal.main_v38) = v0 c
          ∧ r.2.mem ((c.tc : Thread Cert.RelBiasDwIdeal.nD Cert.RelBiasDwIdeal.τ).loc Cert.RelBiasDwIdeal.main_arg0) = m ((c.tc : Thread Cert.RelBiasDwIdeal.nD Cert.RelBiasDwIdeal.τ).loc Cert.RelBiasDwIdeal.main_arg0))
      ∧ θ_run (Cert.RelBiasDwRefIdeal.defs (F := Ideal)) (onTc (τ := Cert.RelBiasDwRefIdeal.τ) (Cert.RelBiasDwRefIdeal.main (F := Ideal))) ⟨m', fun _ => 0, g'⟩ (fun r => ∀ c : Dev Cert.RelBiasDwRefIdeal.nD,
          r.2.mem ((c.tc : Thread Cert.RelBiasDwRefIdeal.nD Cert.RelBiasDwRefIdeal.τ).loc Cert.RelBiasDwRefIdeal.main_v40) = v0 c
          ∧ r.2.mem ((c.tc : Thread Cert.RelBiasDwRefIdeal.nD Cert.RelBiasDwRefIdeal.τ).loc Cert.RelBiasDwRefIdeal.main_arg0) = m' ((c.tc : Thread Cert.RelBiasDwRefIdeal.nD Cert.RelBiasDwRefIdeal.τ).loc Cert.RelBiasDwRefIdeal.main_arg0))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v53) = v0 c
          ∧ r.2.mem ((c.tc : Thread Cert.FinalRefIdeal.nD Cert.FinalRefIdeal.τ).loc Cert.FinalRefIdeal.main_v51) = v1 c
          ∧ r.2.mem ((c.tc : Thread Cert.FinalRefIdeal.nD Cert.FinalRefIdeal.τ).loc Cert.FinalRefIdeal.main_v52) = v2 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_GnormBwd_GnormBwdIdeal : Prop :=
  True

def algebraic_GnormBwdIdeal_GnormBwdRefIdeal [hGnormBwdIdeal : Cert.GnormBwdIdeal.Facts] [hGnormBwdRefIdeal : Cert.GnormBwdRefIdeal.Facts] : Prop :=
  ∀ (m : (ℓ : Loc Cert.GnormBwdIdeal.nD Cert.GnormBwdIdeal.τ Cert.GnormBwdIdeal.sig) → Buf (Elt Ideal) ℓ) (g : Dev Cert.GnormBwdIdeal.nD → PrngReg)
    (m' : (ℓ : Loc Cert.GnormBwdRefIdeal.nD Cert.GnormBwdRefIdeal.τ Cert.GnormBwdRefIdeal.sig) → Buf (Elt Ideal) ℓ) (g' : Dev Cert.GnormBwdRefIdeal.nD → PrngReg), Pre_GnormBwdIdeal m →
    (∀ c : Dev Cert.GnormBwdIdeal.nD,
      m' ((c.tc : Thread Cert.GnormBwdRefIdeal.nD Cert.GnormBwdRefIdeal.τ).loc Cert.GnormBwdRefIdeal.main_arg0) = m ((c.tc : Thread Cert.GnormBwdIdeal.nD Cert.GnormBwdIdeal.τ).loc Cert.GnormBwdIdeal.main_arg0)
      ∧ m' ((c.tc : Thread Cert.GnormBwdRefIdeal.nD Cert.GnormBwdRefIdeal.τ).loc Cert.GnormBwdRefIdeal.main_arg1) = m ((c.tc : Thread Cert.GnormBwdIdeal.nD Cert.GnormBwdIdeal.τ).loc Cert.GnormBwdIdeal.main_arg1)
      ∧ m' ((c.tc : Thread Cert.GnormBwdRefIdeal.nD Cert.GnormBwdRefIdeal.τ).loc Cert.GnormBwdRefIdeal.main_arg2) = m ((c.tc : Thread Cert.GnormBwdIdeal.nD Cert.GnormBwdIdeal.τ).loc Cert.GnormBwdIdeal.main_arg2)
      ∧ m' ((c.tc : Thread Cert.GnormBwdRefIdeal.nD Cert.GnormBwdRefIdeal.τ).loc Cert.GnormBwdRefIdeal.main_arg3) = m ((c.tc : Thread Cert.GnormBwdIdeal.nD Cert.GnormBwdIdeal.τ).loc Cert.GnormBwdIdeal.main_arg3)) →
    ∃ (v0 : (c : Dev Cert.GnormBwdIdeal.nD) → Buf (Elt Ideal) ((c.tc : Thread Cert.GnormBwdIdeal.nD Cert.GnormBwdIdeal.τ).loc Cert.GnormBwdIdeal.main_v0_0)) (v1 : (c : Dev Cert.GnormBwdIdeal.nD) → Buf (Elt Ideal) ((c.tc : Thread Cert.GnormBwdIdeal.nD Cert.GnormBwdIdeal.τ).loc Cert.GnormBwdIdeal.main_v0_1)) (v2 : (c : Dev Cert.GnormBwdIdeal.nD) → Buf (Elt Ideal) ((c.tc : Thread Cert.GnormBwdIdeal.nD Cert.GnormBwdIdeal.τ).loc Cert.GnormBwdIdeal.main_v0_2)),
      θ_run (Cert.GnormBwdIdeal.defs (F := Ideal)) (onTc (τ := Cert.GnormBwdIdeal.τ) (Cert.GnormBwdIdeal.main (F := Ideal))) ⟨m, fun _ => 0, g⟩ (fun r => ∀ c : Dev Cert.GnormBwdIdeal.nD,
          r.2.mem ((c.tc : Thread Cert.GnormBwdIdeal.nD Cert.GnormBwdIdeal.τ).loc Cert.GnormBwdIdeal.main_v0_0) = v0 c
          ∧ r.2.mem ((c.tc : Thread Cert.GnormBwdIdeal.nD Cert.GnormBwdIdeal.τ).loc Cert.GnormBwdIdeal.main_v0_1) = v1 c
          ∧ r.2.mem ((c.tc : Thread Cert.GnormBwdIdeal.nD Cert.GnormBwdIdeal.τ).loc Cert.GnormBwdIdeal.main_v0_2) = v2 c
          ∧ r.2.mem ((c.tc : Thread Cert.GnormBwdIdeal.nD Cert.GnormBwdIdeal.τ).loc Cert.GnormBwdIdeal.main_arg0) = m ((c.tc : Thread Cert.GnormBwdIdeal.nD Cert.GnormBwdIdeal.τ).loc Cert.GnormBwdIdeal.main_arg0)
          ∧ r.2.mem ((c.tc : Thread Cert.GnormBwdIdeal.nD Cert.GnormBwdIdeal.τ).loc Cert.GnormBwdIdeal.main_arg1) = m ((c.tc : Thread Cert.GnormBwdIdeal.nD Cert.GnormBwdIdeal.τ).loc Cert.GnormBwdIdeal.main_arg1)
          ∧ r.2.mem ((c.tc : Thread Cert.GnormBwdIdeal.nD Cert.GnormBwdIdeal.τ).loc Cert.GnormBwdIdeal.main_arg2) = m ((c.tc : Thread Cert.GnormBwdIdeal.nD Cert.GnormBwdIdeal.τ).loc Cert.GnormBwdIdeal.main_arg2)
          ∧ r.2.mem ((c.tc : Thread Cert.GnormBwdIdeal.nD Cert.GnormBwdIdeal.τ).loc Cert.GnormBwdIdeal.main_arg3) = m ((c.tc : Thread Cert.GnormBwdIdeal.nD Cert.GnormBwdIdeal.τ).loc Cert.GnormBwdIdeal.main_arg3))
      ∧ θ_run (Cert.GnormBwdRefIdeal.defs (F := Ideal)) (onTc (τ := Cert.GnormBwdRefIdeal.τ) (Cert.GnormBwdRefIdeal.main (F := Ideal))) ⟨m', fun _ => 0, g'⟩ (fun r => ∀ c : Dev Cert.GnormBwdRefIdeal.nD,
          r.2.mem ((c.tc : Thread Cert.GnormBwdRefIdeal.nD Cert.GnormBwdRefIdeal.τ).loc Cert.GnormBwdRefIdeal.main_v51) = v0 c
          ∧ r.2.mem ((c.tc : Thread Cert.GnormBwdRefIdeal.nD Cert.GnormBwdRefIdeal.τ).loc Cert.GnormBwdRefIdeal.main_v53) = v1 c
          ∧ r.2.mem ((c.tc : Thread Cert.GnormBwdRefIdeal.nD Cert.GnormBwdRefIdeal.τ).loc Cert.GnormBwdRefIdeal.main_v49) = v2 c
          ∧ r.2.mem ((c.tc : Thread Cert.GnormBwdRefIdeal.nD Cert.GnormBwdRefIdeal.τ).loc Cert.GnormBwdRefIdeal.main_arg0) = m' ((c.tc : Thread Cert.GnormBwdRefIdeal.nD Cert.GnormBwdRefIdeal.τ).loc Cert.GnormBwdRefIdeal.main_arg0)
          ∧ r.2.mem ((c.tc : Thread Cert.GnormBwdRefIdeal.nD Cert.GnormBwdRefIdeal.τ).loc Cert.GnormBwdRefIdeal.main_arg1) = m' ((c.tc : Thread Cert.GnormBwdRefIdeal.nD Cert.GnormBwdRefIdeal.τ).loc Cert.GnormBwdRefIdeal.main_arg1)
          ∧ r.2.mem ((c.tc : Thread Cert.GnormBwdRefIdeal.nD Cert.GnormBwdRefIdeal.τ).loc Cert.GnormBwdRefIdeal.main_arg2) = m' ((c.tc : Thread Cert.GnormBwdRefIdeal.nD Cert.GnormBwdRefIdeal.τ).loc Cert.GnormBwdRefIdeal.main_arg2)
          ∧ r.2.mem ((c.tc : Thread Cert.GnormBwdRefIdeal.nD Cert.GnormBwdRefIdeal.τ).loc Cert.GnormBwdRefIdeal.main_arg3) = m' ((c.tc : Thread Cert.GnormBwdRefIdeal.nD Cert.GnormBwdRefIdeal.τ).loc Cert.GnormBwdRefIdeal.main_arg3))

def preserves_FfnActBwd_FfnActBwdIdeal : Prop :=
  True

def algebraic_FfnActBwdIdeal_FfnActBwdRefIdeal_pre_finite [hFfnActBwdIdeal : Cert.FfnActBwdIdeal.Facts] [hFfnActBwdRefIdeal : Cert.FfnActBwdRefIdeal.Facts] [hPre_finite : Cert.Pre_finite.Facts] : Prop :=
  ∀ (m : (ℓ : Loc Cert.FfnActBwdIdeal.nD Cert.FfnActBwdIdeal.τ Cert.FfnActBwdIdeal.sig) → Buf (Elt Ideal) ℓ) (g : Dev Cert.FfnActBwdIdeal.nD → PrngReg)
    (m' : (ℓ : Loc Cert.FfnActBwdRefIdeal.nD Cert.FfnActBwdRefIdeal.τ Cert.FfnActBwdRefIdeal.sig) → Buf (Elt Ideal) ℓ) (g' : Dev Cert.FfnActBwdRefIdeal.nD → PrngReg), Pre_FfnActBwdIdeal_finite m →
    (∀ c : Dev Cert.FfnActBwdIdeal.nD,
      m' ((c.tc : Thread Cert.FfnActBwdRefIdeal.nD Cert.FfnActBwdRefIdeal.τ).loc Cert.FfnActBwdRefIdeal.main_arg0) = m ((c.tc : Thread Cert.FfnActBwdIdeal.nD Cert.FfnActBwdIdeal.τ).loc Cert.FfnActBwdIdeal.main_arg0)
      ∧ m' ((c.tc : Thread Cert.FfnActBwdRefIdeal.nD Cert.FfnActBwdRefIdeal.τ).loc Cert.FfnActBwdRefIdeal.main_arg1) = m ((c.tc : Thread Cert.FfnActBwdIdeal.nD Cert.FfnActBwdIdeal.τ).loc Cert.FfnActBwdIdeal.main_arg1)
      ∧ m' ((c.tc : Thread Cert.FfnActBwdRefIdeal.nD Cert.FfnActBwdRefIdeal.τ).loc Cert.FfnActBwdRefIdeal.main_arg2) = m ((c.tc : Thread Cert.FfnActBwdIdeal.nD Cert.FfnActBwdIdeal.τ).loc Cert.FfnActBwdIdeal.main_arg2)
      ∧ m' ((c.tc : Thread Cert.FfnActBwdRefIdeal.nD Cert.FfnActBwdRefIdeal.τ).loc Cert.FfnActBwdRefIdeal.main_arg3) = m ((c.tc : Thread Cert.FfnActBwdIdeal.nD Cert.FfnActBwdIdeal.τ).loc Cert.FfnActBwdIdeal.main_arg3)) →
    ∃ (v0 : (c : Dev Cert.FfnActBwdIdeal.nD) → Buf (Elt Ideal) ((c.tc : Thread Cert.FfnActBwdIdeal.nD Cert.FfnActBwdIdeal.τ).loc Cert.FfnActBwdIdeal.main_v0_0)) (v1 : (c : Dev Cert.FfnActBwdIdeal.nD) → Buf (Elt Ideal) ((c.tc : Thread Cert.FfnActBwdIdeal.nD Cert.FfnActBwdIdeal.τ).loc Cert.FfnActBwdIdeal.main_v0_1)) (v2 : (c : Dev Cert.FfnActBwdIdeal.nD) → Buf (Elt Ideal) ((c.tc : Thread Cert.FfnActBwdIdeal.nD Cert.FfnActBwdIdeal.τ).loc Cert.FfnActBwdIdeal.main_v0_2)),
      θ_run (Cert.FfnActBwdIdeal.defs (F := Ideal)) (onTc (τ := Cert.FfnActBwdIdeal.τ) (Cert.FfnActBwdIdeal.main (F := Ideal))) ⟨m, fun _ => 0, g⟩ (fun r => ∀ c : Dev Cert.FfnActBwdIdeal.nD,
          r.2.mem ((c.tc : Thread Cert.FfnActBwdIdeal.nD Cert.FfnActBwdIdeal.τ).loc Cert.FfnActBwdIdeal.main_v0_0) = v0 c
          ∧ r.2.mem ((c.tc : Thread Cert.FfnActBwdIdeal.nD Cert.FfnActBwdIdeal.τ).loc Cert.FfnActBwdIdeal.main_v0_1) = v1 c
          ∧ r.2.mem ((c.tc : Thread Cert.FfnActBwdIdeal.nD Cert.FfnActBwdIdeal.τ).loc Cert.FfnActBwdIdeal.main_v0_2) = v2 c
          ∧ r.2.mem ((c.tc : Thread Cert.FfnActBwdIdeal.nD Cert.FfnActBwdIdeal.τ).loc Cert.FfnActBwdIdeal.main_arg0) = m ((c.tc : Thread Cert.FfnActBwdIdeal.nD Cert.FfnActBwdIdeal.τ).loc Cert.FfnActBwdIdeal.main_arg0)
          ∧ r.2.mem ((c.tc : Thread Cert.FfnActBwdIdeal.nD Cert.FfnActBwdIdeal.τ).loc Cert.FfnActBwdIdeal.main_arg1) = m ((c.tc : Thread Cert.FfnActBwdIdeal.nD Cert.FfnActBwdIdeal.τ).loc Cert.FfnActBwdIdeal.main_arg1)
          ∧ r.2.mem ((c.tc : Thread Cert.FfnActBwdIdeal.nD Cert.FfnActBwdIdeal.τ).loc Cert.FfnActBwdIdeal.main_arg2) = m ((c.tc : Thread Cert.FfnActBwdIdeal.nD Cert.FfnActBwdIdeal.τ).loc Cert.FfnActBwdIdeal.main_arg2)
          ∧ r.2.mem ((c.tc : Thread Cert.FfnActBwdIdeal.nD Cert.FfnActBwdIdeal.τ).loc Cert.FfnActBwdIdeal.main_arg3) = m ((c.tc : Thread Cert.FfnActBwdIdeal.nD Cert.FfnActBwdIdeal.τ).loc Cert.FfnActBwdIdeal.main_arg3))
      ∧ θ_run (Cert.FfnActBwdRefIdeal.defs (F := Ideal)) (onTc (τ := Cert.FfnActBwdRefIdeal.τ) (Cert.FfnActBwdRefIdeal.main (F := Ideal))) ⟨m', fun _ => 0, g'⟩ (fun r => ∀ c : Dev Cert.FfnActBwdRefIdeal.nD,
          r.2.mem ((c.tc : Thread Cert.FfnActBwdRefIdeal.nD Cert.FfnActBwdRefIdeal.τ).loc Cert.FfnActBwdRefIdeal.main_v31) = v0 c
          ∧ r.2.mem ((c.tc : Thread Cert.FfnActBwdRefIdeal.nD Cert.FfnActBwdRefIdeal.τ).loc Cert.FfnActBwdRefIdeal.main_v32) = v1 c
          ∧ r.2.mem ((c.tc : Thread Cert.FfnActBwdRefIdeal.nD Cert.FfnActBwdRefIdeal.τ).loc Cert.FfnActBwdRefIdeal.main_v25) = v2 c
          ∧ r.2.mem ((c.tc : Thread Cert.FfnActBwdRefIdeal.nD Cert.FfnActBwdRefIdeal.τ).loc Cert.FfnActBwdRefIdeal.main_arg0) = m' ((c.tc : Thread Cert.FfnActBwdRefIdeal.nD Cert.FfnActBwdRefIdeal.τ).loc Cert.FfnActBwdRefIdeal.main_arg0)
          ∧ r.2.mem ((c.tc : Thread Cert.FfnActBwdRefIdeal.nD Cert.FfnActBwdRefIdeal.τ).loc Cert.FfnActBwdRefIdeal.main_arg1) = m' ((c.tc : Thread Cert.FfnActBwdRefIdeal.nD Cert.FfnActBwdRefIdeal.τ).loc Cert.FfnActBwdRefIdeal.main_arg1)
          ∧ r.2.mem ((c.tc : Thread Cert.FfnActBwdRefIdeal.nD Cert.FfnActBwdRefIdeal.τ).loc Cert.FfnActBwdRefIdeal.main_arg2) = m' ((c.tc : Thread Cert.FfnActBwdRefIdeal.nD Cert.FfnActBwdRefIdeal.τ).loc Cert.FfnActBwdRefIdeal.main_arg2)
          ∧ r.2.mem ((c.tc : Thread Cert.FfnActBwdRefIdeal.nD Cert.FfnActBwdRefIdeal.τ).loc Cert.FfnActBwdRefIdeal.main_arg3) = m' ((c.tc : Thread Cert.FfnActBwdRefIdeal.nD Cert.FfnActBwdRefIdeal.τ).loc Cert.FfnActBwdRefIdeal.main_arg3))

def preserves_GdnPreBwd_GdnPreBwdIdeal : Prop :=
  True

def algebraic_GdnPreBwdIdeal_GdnPreBwdRefIdeal_pre_regular_decay [hGdnPreBwdIdeal : Cert.GdnPreBwdIdeal.Facts] [hGdnPreBwdRefIdeal : Cert.GdnPreBwdRefIdeal.Facts] [hPre_regular_decay : Cert.Pre_regular_decay.Facts] : Prop :=
  ∀ (m : (ℓ : Loc Cert.GdnPreBwdIdeal.nD Cert.GdnPreBwdIdeal.τ Cert.GdnPreBwdIdeal.sig) → Buf (Elt Ideal) ℓ) (g : Dev Cert.GdnPreBwdIdeal.nD → PrngReg)
    (m' : (ℓ : Loc Cert.GdnPreBwdRefIdeal.nD Cert.GdnPreBwdRefIdeal.τ Cert.GdnPreBwdRefIdeal.sig) → Buf (Elt Ideal) ℓ) (g' : Dev Cert.GdnPreBwdRefIdeal.nD → PrngReg), Pre_GdnPreBwdIdeal_regular_decay m →
    (∀ c : Dev Cert.GdnPreBwdIdeal.nD,
      m' ((c.tc : Thread Cert.GdnPreBwdRefIdeal.nD Cert.GdnPreBwdRefIdeal.τ).loc Cert.GdnPreBwdRefIdeal.main_arg0) = m ((c.tc : Thread Cert.GdnPreBwdIdeal.nD Cert.GdnPreBwdIdeal.τ).loc Cert.GdnPreBwdIdeal.main_arg0)
      ∧ m' ((c.tc : Thread Cert.GdnPreBwdRefIdeal.nD Cert.GdnPreBwdRefIdeal.τ).loc Cert.GdnPreBwdRefIdeal.main_arg1) = m ((c.tc : Thread Cert.GdnPreBwdIdeal.nD Cert.GdnPreBwdIdeal.τ).loc Cert.GdnPreBwdIdeal.main_arg1)
      ∧ m' ((c.tc : Thread Cert.GdnPreBwdRefIdeal.nD Cert.GdnPreBwdRefIdeal.τ).loc Cert.GdnPreBwdRefIdeal.main_arg2) = m ((c.tc : Thread Cert.GdnPreBwdIdeal.nD Cert.GdnPreBwdIdeal.τ).loc Cert.GdnPreBwdIdeal.main_arg2)
      ∧ m' ((c.tc : Thread Cert.GdnPreBwdRefIdeal.nD Cert.GdnPreBwdRefIdeal.τ).loc Cert.GdnPreBwdRefIdeal.main_arg3) = m ((c.tc : Thread Cert.GdnPreBwdIdeal.nD Cert.GdnPreBwdIdeal.τ).loc Cert.GdnPreBwdIdeal.main_arg3)
      ∧ m' ((c.tc : Thread Cert.GdnPreBwdRefIdeal.nD Cert.GdnPreBwdRefIdeal.τ).loc Cert.GdnPreBwdRefIdeal.main_arg4) = m ((c.tc : Thread Cert.GdnPreBwdIdeal.nD Cert.GdnPreBwdIdeal.τ).loc Cert.GdnPreBwdIdeal.main_arg4)
      ∧ m' ((c.tc : Thread Cert.GdnPreBwdRefIdeal.nD Cert.GdnPreBwdRefIdeal.τ).loc Cert.GdnPreBwdRefIdeal.main_arg5) = m ((c.tc : Thread Cert.GdnPreBwdIdeal.nD Cert.GdnPreBwdIdeal.τ).loc Cert.GdnPreBwdIdeal.main_arg5)
      ∧ m' ((c.tc : Thread Cert.GdnPreBwdRefIdeal.nD Cert.GdnPreBwdRefIdeal.τ).loc Cert.GdnPreBwdRefIdeal.main_arg6) = m ((c.tc : Thread Cert.GdnPreBwdIdeal.nD Cert.GdnPreBwdIdeal.τ).loc Cert.GdnPreBwdIdeal.main_arg6)
      ∧ m' ((c.tc : Thread Cert.GdnPreBwdRefIdeal.nD Cert.GdnPreBwdRefIdeal.τ).loc Cert.GdnPreBwdRefIdeal.main_arg7) = m ((c.tc : Thread Cert.GdnPreBwdIdeal.nD Cert.GdnPreBwdIdeal.τ).loc Cert.GdnPreBwdIdeal.main_arg7)
      ∧ m' ((c.tc : Thread Cert.GdnPreBwdRefIdeal.nD Cert.GdnPreBwdRefIdeal.τ).loc Cert.GdnPreBwdRefIdeal.main_arg8) = m ((c.tc : Thread Cert.GdnPreBwdIdeal.nD Cert.GdnPreBwdIdeal.τ).loc Cert.GdnPreBwdIdeal.main_arg8)
      ∧ m' ((c.tc : Thread Cert.GdnPreBwdRefIdeal.nD Cert.GdnPreBwdRefIdeal.τ).loc Cert.GdnPreBwdRefIdeal.main_arg9) = m ((c.tc : Thread Cert.GdnPreBwdIdeal.nD Cert.GdnPreBwdIdeal.τ).loc Cert.GdnPreBwdIdeal.main_arg9)) →
    ∃ (v0 : (c : Dev Cert.GdnPreBwdIdeal.nD) → Buf (Elt Ideal) ((c.tc : Thread Cert.GdnPreBwdIdeal.nD Cert.GdnPreBwdIdeal.τ).loc Cert.GdnPreBwdIdeal.main_v0_3)) (v1 : (c : Dev Cert.GdnPreBwdIdeal.nD) → Buf (Elt Ideal) ((c.tc : Thread Cert.GdnPreBwdIdeal.nD Cert.GdnPreBwdIdeal.τ).loc Cert.GdnPreBwdIdeal.main_v0_4)),
      θ_run (Cert.GdnPreBwdIdeal.defs (F := Ideal)) (onTc (τ := Cert.GdnPreBwdIdeal.τ) (Cert.GdnPreBwdIdeal.main (F := Ideal))) ⟨m, fun _ => 0, g⟩ (fun r => ∀ c : Dev Cert.GdnPreBwdIdeal.nD,
          r.2.mem ((c.tc : Thread Cert.GdnPreBwdIdeal.nD Cert.GdnPreBwdIdeal.τ).loc Cert.GdnPreBwdIdeal.main_v0_3) = v0 c
          ∧ r.2.mem ((c.tc : Thread Cert.GdnPreBwdIdeal.nD Cert.GdnPreBwdIdeal.τ).loc Cert.GdnPreBwdIdeal.main_v0_4) = v1 c
          ∧ r.2.mem ((c.tc : Thread Cert.GdnPreBwdIdeal.nD Cert.GdnPreBwdIdeal.τ).loc Cert.GdnPreBwdIdeal.main_arg0) = m ((c.tc : Thread Cert.GdnPreBwdIdeal.nD Cert.GdnPreBwdIdeal.τ).loc Cert.GdnPreBwdIdeal.main_arg0)
          ∧ r.2.mem ((c.tc : Thread Cert.GdnPreBwdIdeal.nD Cert.GdnPreBwdIdeal.τ).loc Cert.GdnPreBwdIdeal.main_arg1) = m ((c.tc : Thread Cert.GdnPreBwdIdeal.nD Cert.GdnPreBwdIdeal.τ).loc Cert.GdnPreBwdIdeal.main_arg1)
          ∧ r.2.mem ((c.tc : Thread Cert.GdnPreBwdIdeal.nD Cert.GdnPreBwdIdeal.τ).loc Cert.GdnPreBwdIdeal.main_arg2) = m ((c.tc : Thread Cert.GdnPreBwdIdeal.nD Cert.GdnPreBwdIdeal.τ).loc Cert.GdnPreBwdIdeal.main_arg2)
          ∧ r.2.mem ((c.tc : Thread Cert.GdnPreBwdIdeal.nD Cert.GdnPreBwdIdeal.τ).loc Cert.GdnPreBwdIdeal.main_arg3) = m ((c.tc : Thread Cert.GdnPreBwdIdeal.nD Cert.GdnPreBwdIdeal.τ).loc Cert.GdnPreBwdIdeal.main_arg3)
          ∧ r.2.mem ((c.tc : Thread Cert.GdnPreBwdIdeal.nD Cert.GdnPreBwdIdeal.τ).loc Cert.GdnPreBwdIdeal.main_arg4) = m ((c.tc : Thread Cert.GdnPreBwdIdeal.nD Cert.GdnPreBwdIdeal.τ).loc Cert.GdnPreBwdIdeal.main_arg4)
          ∧ r.2.mem ((c.tc : Thread Cert.GdnPreBwdIdeal.nD Cert.GdnPreBwdIdeal.τ).loc Cert.GdnPreBwdIdeal.main_arg5) = m ((c.tc : Thread Cert.GdnPreBwdIdeal.nD Cert.GdnPreBwdIdeal.τ).loc Cert.GdnPreBwdIdeal.main_arg5)
          ∧ r.2.mem ((c.tc : Thread Cert.GdnPreBwdIdeal.nD Cert.GdnPreBwdIdeal.τ).loc Cert.GdnPreBwdIdeal.main_arg6) = m ((c.tc : Thread Cert.GdnPreBwdIdeal.nD Cert.GdnPreBwdIdeal.τ).loc Cert.GdnPreBwdIdeal.main_arg6)
          ∧ r.2.mem ((c.tc : Thread Cert.GdnPreBwdIdeal.nD Cert.GdnPreBwdIdeal.τ).loc Cert.GdnPreBwdIdeal.main_arg7) = m ((c.tc : Thread Cert.GdnPreBwdIdeal.nD Cert.GdnPreBwdIdeal.τ).loc Cert.GdnPreBwdIdeal.main_arg7)
          ∧ r.2.mem ((c.tc : Thread Cert.GdnPreBwdIdeal.nD Cert.GdnPreBwdIdeal.τ).loc Cert.GdnPreBwdIdeal.main_arg8) = m ((c.tc : Thread Cert.GdnPreBwdIdeal.nD Cert.GdnPreBwdIdeal.τ).loc Cert.GdnPreBwdIdeal.main_arg8)
          ∧ r.2.mem ((c.tc : Thread Cert.GdnPreBwdIdeal.nD Cert.GdnPreBwdIdeal.τ).loc Cert.GdnPreBwdIdeal.main_arg9) = m ((c.tc : Thread Cert.GdnPreBwdIdeal.nD Cert.GdnPreBwdIdeal.τ).loc Cert.GdnPreBwdIdeal.main_arg9))
      ∧ θ_run (Cert.GdnPreBwdRefIdeal.defs (F := Ideal)) (onTc (τ := Cert.GdnPreBwdRefIdeal.τ) (Cert.GdnPreBwdRefIdeal.main (F := Ideal))) ⟨m', fun _ => 0, g'⟩ (fun r => ∀ c : Dev Cert.GdnPreBwdRefIdeal.nD,
          r.2.mem ((c.tc : Thread Cert.GdnPreBwdRefIdeal.nD Cert.GdnPreBwdRefIdeal.τ).loc Cert.GdnPreBwdRefIdeal.main_v17) = v0 c
          ∧ r.2.mem ((c.tc : Thread Cert.GdnPreBwdRefIdeal.nD Cert.GdnPreBwdRefIdeal.τ).loc Cert.GdnPreBwdRefIdeal.main_v15) = v1 c
          ∧ r.2.mem ((c.tc : Thread Cert.GdnPreBwdRefIdeal.nD Cert.GdnPreBwdRefIdeal.τ).loc Cert.GdnPreBwdRefIdeal.main_arg0) = m' ((c.tc : Thread Cert.GdnPreBwdRefIdeal.nD Cert.GdnPreBwdRefIdeal.τ).loc Cert.GdnPreBwdRefIdeal.main_arg0)
          ∧ r.2.mem ((c.tc : Thread Cert.GdnPreBwdRefIdeal.nD Cert.GdnPreBwdRefIdeal.τ).loc Cert.GdnPreBwdRefIdeal.main_arg1) = m' ((c.tc : Thread Cert.GdnPreBwdRefIdeal.nD Cert.GdnPreBwdRefIdeal.τ).loc Cert.GdnPreBwdRefIdeal.main_arg1)
          ∧ r.2.mem ((c.tc : Thread Cert.GdnPreBwdRefIdeal.nD Cert.GdnPreBwdRefIdeal.τ).loc Cert.GdnPreBwdRefIdeal.main_arg2) = m' ((c.tc : Thread Cert.GdnPreBwdRefIdeal.nD Cert.GdnPreBwdRefIdeal.τ).loc Cert.GdnPreBwdRefIdeal.main_arg2)
          ∧ r.2.mem ((c.tc : Thread Cert.GdnPreBwdRefIdeal.nD Cert.GdnPreBwdRefIdeal.τ).loc Cert.GdnPreBwdRefIdeal.main_arg3) = m' ((c.tc : Thread Cert.GdnPreBwdRefIdeal.nD Cert.GdnPreBwdRefIdeal.τ).loc Cert.GdnPreBwdRefIdeal.main_arg3)
          ∧ r.2.mem ((c.tc : Thread Cert.GdnPreBwdRefIdeal.nD Cert.GdnPreBwdRefIdeal.τ).loc Cert.GdnPreBwdRefIdeal.main_arg4) = m' ((c.tc : Thread Cert.GdnPreBwdRefIdeal.nD Cert.GdnPreBwdRefIdeal.τ).loc Cert.GdnPreBwdRefIdeal.main_arg4)
          ∧ r.2.mem ((c.tc : Thread Cert.GdnPreBwdRefIdeal.nD Cert.GdnPreBwdRefIdeal.τ).loc Cert.GdnPreBwdRefIdeal.main_arg5) = m' ((c.tc : Thread Cert.GdnPreBwdRefIdeal.nD Cert.GdnPreBwdRefIdeal.τ).loc Cert.GdnPreBwdRefIdeal.main_arg5)
          ∧ r.2.mem ((c.tc : Thread Cert.GdnPreBwdRefIdeal.nD Cert.GdnPreBwdRefIdeal.τ).loc Cert.GdnPreBwdRefIdeal.main_arg6) = m' ((c.tc : Thread Cert.GdnPreBwdRefIdeal.nD Cert.GdnPreBwdRefIdeal.τ).loc Cert.GdnPreBwdRefIdeal.main_arg6)
          ∧ r.2.mem ((c.tc : Thread Cert.GdnPreBwdRefIdeal.nD Cert.GdnPreBwdRefIdeal.τ).loc Cert.GdnPreBwdRefIdeal.main_arg7) = m' ((c.tc : Thread Cert.GdnPreBwdRefIdeal.nD Cert.GdnPreBwdRefIdeal.τ).loc Cert.GdnPreBwdRefIdeal.main_arg7)
          ∧ r.2.mem ((c.tc : Thread Cert.GdnPreBwdRefIdeal.nD Cert.GdnPreBwdRefIdeal.τ).loc Cert.GdnPreBwdRefIdeal.main_arg8) = m' ((c.tc : Thread Cert.GdnPreBwdRefIdeal.nD Cert.GdnPreBwdRefIdeal.τ).loc Cert.GdnPreBwdRefIdeal.main_arg8)
          ∧ r.2.mem ((c.tc : Thread Cert.GdnPreBwdRefIdeal.nD Cert.GdnPreBwdRefIdeal.τ).loc Cert.GdnPreBwdRefIdeal.main_arg9) = m' ((c.tc : Thread Cert.GdnPreBwdRefIdeal.nD Cert.GdnPreBwdRefIdeal.τ).loc Cert.GdnPreBwdRefIdeal.main_arg9))

def preserves_GdnInBa_GdnInBaIdeal : Prop :=
  True

def algebraic_GdnInBaIdeal_GdnInBaRefIdeal [hGdnInBaIdeal : Cert.GdnInBaIdeal.Facts] [hGdnInBaRefIdeal : Cert.GdnInBaRefIdeal.Facts] : Prop :=
  ∀ (m : (ℓ : Loc Cert.GdnInBaIdeal.nD Cert.GdnInBaIdeal.τ Cert.GdnInBaIdeal.sig) → Buf (Elt Ideal) ℓ) (g : Dev Cert.GdnInBaIdeal.nD → PrngReg)
    (m' : (ℓ : Loc Cert.GdnInBaRefIdeal.nD Cert.GdnInBaRefIdeal.τ Cert.GdnInBaRefIdeal.sig) → Buf (Elt Ideal) ℓ) (g' : Dev Cert.GdnInBaRefIdeal.nD → PrngReg), Pre_GdnInBaIdeal m →
    (∀ c : Dev Cert.GdnInBaIdeal.nD,
      m' ((c.tc : Thread Cert.GdnInBaRefIdeal.nD Cert.GdnInBaRefIdeal.τ).loc Cert.GdnInBaRefIdeal.main_arg0) = m ((c.tc : Thread Cert.GdnInBaIdeal.nD Cert.GdnInBaIdeal.τ).loc Cert.GdnInBaIdeal.main_arg0)
      ∧ m' ((c.tc : Thread Cert.GdnInBaRefIdeal.nD Cert.GdnInBaRefIdeal.τ).loc Cert.GdnInBaRefIdeal.main_arg1) = m ((c.tc : Thread Cert.GdnInBaIdeal.nD Cert.GdnInBaIdeal.τ).loc Cert.GdnInBaIdeal.main_arg1)
      ∧ m' ((c.tc : Thread Cert.GdnInBaRefIdeal.nD Cert.GdnInBaRefIdeal.τ).loc Cert.GdnInBaRefIdeal.main_arg2) = m ((c.tc : Thread Cert.GdnInBaIdeal.nD Cert.GdnInBaIdeal.τ).loc Cert.GdnInBaIdeal.main_arg2)) →
    ∃ (v0 : (c : Dev Cert.GdnInBaIdeal.nD) → Buf (Elt Ideal) ((c.tc : Thread Cert.GdnInBaIdeal.nD Cert.GdnInBaIdeal.τ).loc Cert.GdnInBaIdeal.main_v0)),
      θ_run (Cert.GdnInBaIdeal.defs (F := Ideal)) (onTc (τ := Cert.GdnInBaIdeal.τ) (Cert.GdnInBaIdeal.main (F := Ideal))) ⟨m, fun _ => 0, g⟩ (fun r => ∀ c : Dev Cert.GdnInBaIdeal.nD,
          r.2.mem ((c.tc : Thread Cert.GdnInBaIdeal.nD Cert.GdnInBaIdeal.τ).loc Cert.GdnInBaIdeal.main_v0) = v0 c
          ∧ r.2.mem ((c.tc : Thread Cert.GdnInBaIdeal.nD Cert.GdnInBaIdeal.τ).loc Cert.GdnInBaIdeal.main_arg0) = m ((c.tc : Thread Cert.GdnInBaIdeal.nD Cert.GdnInBaIdeal.τ).loc Cert.GdnInBaIdeal.main_arg0)
          ∧ r.2.mem ((c.tc : Thread Cert.GdnInBaIdeal.nD Cert.GdnInBaIdeal.τ).loc Cert.GdnInBaIdeal.main_arg1) = m ((c.tc : Thread Cert.GdnInBaIdeal.nD Cert.GdnInBaIdeal.τ).loc Cert.GdnInBaIdeal.main_arg1)
          ∧ r.2.mem ((c.tc : Thread Cert.GdnInBaIdeal.nD Cert.GdnInBaIdeal.τ).loc Cert.GdnInBaIdeal.main_arg2) = m ((c.tc : Thread Cert.GdnInBaIdeal.nD Cert.GdnInBaIdeal.τ).loc Cert.GdnInBaIdeal.main_arg2))
      ∧ θ_run (Cert.GdnInBaRefIdeal.defs (F := Ideal)) (onTc (τ := Cert.GdnInBaRefIdeal.τ) (Cert.GdnInBaRefIdeal.main (F := Ideal))) ⟨m', fun _ => 0, g'⟩ (fun r => ∀ c : Dev Cert.GdnInBaRefIdeal.nD,
          r.2.mem ((c.tc : Thread Cert.GdnInBaRefIdeal.nD Cert.GdnInBaRefIdeal.τ).loc Cert.GdnInBaRefIdeal.main_v15) = v0 c
          ∧ r.2.mem ((c.tc : Thread Cert.GdnInBaRefIdeal.nD Cert.GdnInBaRefIdeal.τ).loc Cert.GdnInBaRefIdeal.main_arg0) = m' ((c.tc : Thread Cert.GdnInBaRefIdeal.nD Cert.GdnInBaRefIdeal.τ).loc Cert.GdnInBaRefIdeal.main_arg0)
          ∧ r.2.mem ((c.tc : Thread Cert.GdnInBaRefIdeal.nD Cert.GdnInBaRefIdeal.τ).loc Cert.GdnInBaRefIdeal.main_arg1) = m' ((c.tc : Thread Cert.GdnInBaRefIdeal.nD Cert.GdnInBaRefIdeal.τ).loc Cert.GdnInBaRefIdeal.main_arg1)
          ∧ r.2.mem ((c.tc : Thread Cert.GdnInBaRefIdeal.nD Cert.GdnInBaRefIdeal.τ).loc Cert.GdnInBaRefIdeal.main_arg2) = m' ((c.tc : Thread Cert.GdnInBaRefIdeal.nD Cert.GdnInBaRefIdeal.τ).loc Cert.GdnInBaRefIdeal.main_arg2))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)) →
    ∃ (v0 : (c : Dev Cert.FfnActIdeal.nD) → Buf (Elt Ideal) ((c.tc : Thread Cert.FfnActIdeal.nD Cert.FfnActIdeal.τ).loc Cert.FfnActIdeal.main_v0)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v0) = v0 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v19) = v0 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2))

def preserves_Gnorm_GnormIdeal : Prop :=
  True

def algebraic_GnormIdeal_GnormRefIdeal [hGnormIdeal : Cert.GnormIdeal.Facts] [hGnormRefIdeal : Cert.GnormRefIdeal.Facts] : Prop :=
  ∀ (m : (ℓ : Loc Cert.GnormIdeal.nD Cert.GnormIdeal.τ Cert.GnormIdeal.sig) → Buf (Elt Ideal) ℓ) (g : Dev Cert.GnormIdeal.nD → PrngReg)
    (m' : (ℓ : Loc Cert.GnormRefIdeal.nD Cert.GnormRefIdeal.τ Cert.GnormRefIdeal.sig) → Buf (Elt Ideal) ℓ) (g' : Dev Cert.GnormRefIdeal.nD → PrngReg), Pre_GnormIdeal m →
    (∀ c : Dev Cert.GnormIdeal.nD,
      m' ((c.tc : Thread Cert.GnormRefIdeal.nD Cert.GnormRefIdeal.τ).loc Cert.GnormRefIdeal.main_arg0) = m ((c.tc : Thread Cert.GnormIdeal.nD Cert.GnormIdeal.τ).loc Cert.GnormIdeal.main_arg0)
      ∧ m' ((c.tc : Thread Cert.GnormRefIdeal.nD Cert.GnormRefIdeal.τ).loc Cert.GnormRefIdeal.main_arg1) = m ((c.tc : Thread Cert.GnormIdeal.nD Cert.GnormIdeal.τ).loc Cert.GnormIdeal.main_arg1)
      ∧ m' ((c.tc : Thread Cert.GnormRefIdeal.nD Cert.GnormRefIdeal.τ).loc Cert.GnormRefIdeal.main_arg2) = m ((c.tc : Thread Cert.GnormIdeal.nD Cert.GnormIdeal.τ).loc Cert.GnormIdeal.main_arg2)) →
    ∃ (v0 : (c : Dev Cert.GnormIdeal.nD) → Buf (Elt Ideal) ((c.tc : Thread Cert.GnormIdeal.nD Cert.GnormIdeal.τ).loc Cert.GnormIdeal.main_v0)),
      θ_run (Cert.GnormIdeal.defs (F := Ideal)) (onTc (τ := Cert.GnormIdeal.τ) (Cert.GnormIdeal.main (F := Ideal))) ⟨m, fun _ => 0, g⟩ (fun r => ∀ c : Dev Cert.GnormIdeal.nD,
          r.2.mem ((c.tc : Thread Cert.GnormIdeal.nD Cert.GnormIdeal.τ).loc Cert.GnormIdeal.main_v0) = v0 c
          ∧ r.2.mem ((c.tc : Thread Cert.GnormIdeal.nD Cert.GnormIdeal.τ).loc Cert.GnormIdeal.main_arg0) = m ((c.tc : Thread Cert.GnormIdeal.nD Cert.GnormIdeal.τ).loc Cert.GnormIdeal.main_arg0)
          ∧ r.2.mem ((c.tc : Thread Cert.GnormIdeal.nD Cert.GnormIdeal.τ).loc Cert.GnormIdeal.main_arg1) = m ((c.tc : Thread Cert.GnormIdeal.nD Cert.GnormIdeal.τ).loc Cert.GnormIdeal.main_arg1)
          ∧ r.2.mem ((c.tc : Thread Cert.GnormIdeal.nD Cert.GnormIdeal.τ).loc Cert.GnormIdeal.main_arg2) = m ((c.tc : Thread Cert.GnormIdeal.nD Cert.GnormIdeal.τ).loc Cert.GnormIdeal.main_arg2))
      ∧ θ_run (Cert.GnormRefIdeal.defs (F := Ideal)) (onTc (τ := Cert.GnormRefIdeal.τ) (Cert.GnormRefIdeal.main (F := Ideal))) ⟨m', fun _ => 0, g'⟩ (fun r => ∀ c : Dev Cert.GnormRefIdeal.nD,
          r.2.mem ((c.tc : Thread Cert.GnormRefIdeal.nD Cert.GnormRefIdeal.τ).loc Cert.GnormRefIdeal.main_v22) = v0 c
          ∧ r.2.mem ((c.tc : Thread Cert.GnormRefIdeal.nD Cert.GnormRefIdeal.τ).loc Cert.GnormRefIdeal.main_arg0) = m' ((c.tc : Thread Cert.GnormRefIdeal.nD Cert.GnormRefIdeal.τ).loc Cert.GnormRefIdeal.main_arg0)
          ∧ r.2.mem ((c.tc : Thread Cert.GnormRefIdeal.nD Cert.GnormRefIdeal.τ).loc Cert.GnormRefIdeal.main_arg1) = m' ((c.tc : Thread Cert.GnormRefIdeal.nD Cert.GnormRefIdeal.τ).loc Cert.GnormRefIdeal.main_arg1)
          ∧ r.2.mem ((c.tc : Thread Cert.GnormRefIdeal.nD Cert.GnormRefIdeal.τ).loc Cert.GnormRefIdeal.main_arg2) = m' ((c.tc : Thread Cert.GnormRefIdeal.nD Cert.GnormRefIdeal.τ).loc Cert.GnormRefIdeal.main_arg2))

def preserves_RelBias_RelBiasIdeal : Prop :=
  True

def algebraic_RelBiasIdeal_RelBiasRefIdeal [hRelBiasIdeal : Cert.RelBiasIdeal.Facts] [hRelBiasRefIdeal : Cert.RelBiasRefIdeal.Facts] : Prop :=
  ∀ (m : (ℓ : Loc Cert.RelBiasIdeal.nD Cert.RelBiasIdeal.τ Cert.RelBiasIdeal.sig) → Buf (Elt Ideal) ℓ) (g : Dev Cert.RelBiasIdeal.nD → PrngReg)
    (m' : (ℓ : Loc Cert.RelBiasRefIdeal.nD Cert.RelBiasRefIdeal.τ Cert.RelBiasRefIdeal.sig) → Buf (Elt Ideal) ℓ) (g' : Dev Cert.RelBiasRefIdeal.nD → PrngReg), Pre_RelBiasIdeal m →
    (∀ c : Dev Cert.RelBiasIdeal.nD,
      m' ((c.tc : Thread Cert.RelBiasRefIdeal.nD Cert.RelBiasRefIdeal.τ).loc Cert.RelBiasRefIdeal.main_arg0) = m ((c.tc : Thread Cert.RelBiasIdeal.nD Cert.RelBiasIdeal.τ).loc Cert.RelBiasIdeal.main_arg0)) →
    ∃ (v0 : (c : Dev Cert.RelBiasIdeal.nD) → Buf (Elt Ideal) ((c.tc : Thread Cert.RelBiasIdeal.nD Cert.RelBiasIdeal.τ).loc Cert.RelBiasIdeal.main_v38)),
      θ_run (Cert.RelBiasIdeal.defs (F := Ideal)) (onTc (τ := Cert.RelBiasIdeal.τ) (Cert.RelBiasIdeal.main (F := Ideal))) ⟨m, fun _ => 0, g⟩ (fun r => ∀ c : Dev Cert.RelBiasIdeal.nD,
          r.2.mem ((c.tc : Thread Cert.RelBiasIdeal.nD Cert.RelBiasIdeal.τ).loc Cert.RelBiasIdeal.main_v38) = v0 c
          ∧ r.2.mem ((c.tc : Thread Cert.RelBiasIdeal.nD Cert.RelBiasIdeal.τ).loc Cert.RelBiasIdeal.main_arg0) = m ((c.tc : Thread Cert.RelBiasIdeal.nD Cert.RelBiasIdeal.τ).loc Cert.RelBiasIdeal.main_arg0))
      ∧ θ_run (Cert.RelBiasRefIdeal.defs (F := Ideal)) (onTc (τ := Cert.RelBiasRefIdeal.τ) (Cert.RelBiasRefIdeal.main (F := Ideal))) ⟨m', fun _ => 0, g'⟩ (fun r => ∀ c : Dev Cert.RelBiasRefIdeal.nD,
          r.2.mem ((c.tc : Thread Cert.RelBiasRefIdeal.nD Cert.RelBiasRefIdeal.τ).loc Cert.RelBiasRefIdeal.main_v37) = v0 c
          ∧ r.2.mem ((c.tc : Thread Cert.RelBiasRefIdeal.nD Cert.RelBiasRefIdeal.τ).loc Cert.RelBiasRefIdeal.main_arg0) = m' ((c.tc : Thread Cert.RelBiasRefIdeal.nD Cert.RelBiasRefIdeal.τ).loc Cert.RelBiasRefIdeal.main_arg0))

def preserves_GdnInDx_GdnInDxIdeal : Prop :=
  True

def algebraic_GdnInDxIdeal_GdnInDxRefIdeal [hGdnInDxIdeal : Cert.GdnInDxIdeal.Facts] [hGdnInDxRefIdeal : Cert.GdnInDxRefIdeal.Facts] : Prop :=
  ∀ (m : (ℓ : Loc Cert.GdnInDxIdeal.nD Cert.GdnInDxIdeal.τ Cert.GdnInDxIdeal.sig) → Buf (Elt Ideal) ℓ) (g : Dev Cert.GdnInDxIdeal.nD → PrngReg)
    (m' : (ℓ : Loc Cert.GdnInDxRefIdeal.nD Cert.GdnInDxRefIdeal.τ Cert.GdnInDxRefIdeal.sig) → Buf (Elt Ideal) ℓ) (g' : Dev Cert.GdnInDxRefIdeal.nD → PrngReg), Pre_GdnInDxIdeal m →
    (∀ c : Dev Cert.GdnInDxIdeal.nD,
      m' ((c.tc : Thread Cert.GdnInDxRefIdeal.nD Cert.GdnInDxRefIdeal.τ).loc Cert.GdnInDxRefIdeal.main_arg0) = m ((c.tc : Thread Cert.GdnInDxIdeal.nD Cert.GdnInDxIdeal.τ).loc Cert.GdnInDxIdeal.main_arg0)
      ∧ m' ((c.tc : Thread Cert.GdnInDxRefIdeal.nD Cert.GdnInDxRefIdeal.τ).loc Cert.GdnInDxRefIdeal.main_arg1) = m ((c.tc : Thread Cert.GdnInDxIdeal.nD Cert.GdnInDxIdeal.τ).loc Cert.GdnInDxIdeal.main_arg1)) →
    ∃ (v0 : (c : Dev Cert.GdnInDxIdeal.nD) → Buf (Elt Ideal) ((c.tc : Thread Cert.GdnInDxIdeal.nD Cert.GdnInDxIdeal.τ).loc Cert.GdnInDxIdeal.main_v0)),
      θ_run (Cert.GdnInDxIdeal.defs (F := Ideal)) (onTc (τ := Cert.GdnInDxIdeal.τ) (Cert.GdnInDxIdeal.main (F := Ideal))) ⟨m, fun _ => 0, g⟩ (fun r => ∀ c : Dev Cert.GdnInDxIdeal.nD,
          r.2.mem ((c.tc : Thread Cert.GdnInDxIdeal.nD Cert.GdnInDxIdeal.τ).loc Cert.GdnInDxIdeal.main_v0) = v0 c
          ∧ r.2.mem ((c.tc : Thread Cert.GdnInDxIdeal.nD Cert.GdnInDxIdeal.τ).loc Cert.GdnInDxIdeal.main_arg0) = m ((c.tc : Thread Cert.GdnInDxIdeal.nD Cert.GdnInDxIdeal.τ).loc Cert.GdnInDxIdeal.main_arg0)
          ∧ r.2.mem ((c.tc : Thread Cert.GdnInDxIdeal.nD Cert.GdnInDxIdeal.τ).loc Cert.GdnInDxIdeal.main_arg1) = m ((c.tc : Thread Cert.GdnInDxIdeal.nD Cert.GdnInDxIdeal.τ).loc Cert.GdnInDxIdeal.main_arg1))
      ∧ θ_run (Cert.GdnInDxRefIdeal.defs (F := Ideal)) (onTc (τ := Cert.GdnInDxRefIdeal.τ) (Cert.GdnInDxRefIdeal.main (F := Ideal))) ⟨m', fun _ => 0, g'⟩ (fun r => ∀ c : Dev Cert.GdnInDxRefIdeal.nD,
          r.2.mem ((c.tc : Thread Cert.GdnInDxRefIdeal.nD Cert.GdnInDxRefIdeal.τ).loc Cert.GdnInDxRefIdeal.main_v4) = v0 c
          ∧ r.2.mem ((c.tc : Thread Cert.GdnInDxRefIdeal.nD Cert.GdnInDxRefIdeal.τ).loc Cert.GdnInDxRefIdeal.main_arg0) = m' ((c.tc : Thread Cert.GdnInDxRefIdeal.nD Cert.GdnInDxRefIdeal.τ).loc Cert.GdnInDxRefIdeal.main_arg0)
          ∧ r.2.mem ((c.tc : Thread Cert.GdnInDxRefIdeal.nD Cert.GdnInDxRefIdeal.τ).loc Cert.GdnInDxRefIdeal.main_arg1) = m' ((c.tc : Thread Cert.GdnInDxRefIdeal.nD Cert.GdnInDxRefIdeal.τ).loc Cert.GdnInDxRefIdeal.main_arg1))

def preserves_FfnConvBwd_FfnConvBwdIdeal : Prop :=
  True

def algebraic_FfnConvBwdIdeal_FfnConvBwdRefIdeal [hFfnConvBwdIdeal : Cert.FfnConvBwdIdeal.Facts] [hFfnConvBwdRefIdeal : Cert.FfnConvBwdRefIdeal.Facts] : Prop :=
  ∀ (m : (ℓ : Loc Cert.FfnConvBwdIdeal.nD Cert.FfnConvBwdIdeal.τ Cert.FfnConvBwdIdeal.sig) → Buf (Elt Ideal) ℓ) (g : Dev Cert.FfnConvBwdIdeal.nD → PrngReg)
    (m' : (ℓ : Loc Cert.FfnConvBwdRefIdeal.nD Cert.FfnConvBwdRefIdeal.τ Cert.FfnConvBwdRefIdeal.sig) → Buf (Elt Ideal) ℓ) (g' : Dev Cert.FfnConvBwdRefIdeal.nD → PrngReg), Pre_FfnConvBwdIdeal m →
    (∀ c : Dev Cert.FfnConvBwdIdeal.nD,
      m' ((c.tc : Thread Cert.FfnConvBwdRefIdeal.nD Cert.FfnConvBwdRefIdeal.τ).loc Cert.FfnConvBwdRefIdeal.main_arg0) = m ((c.tc : Thread Cert.FfnConvBwdIdeal.nD Cert.FfnConvBwdIdeal.τ).loc Cert.FfnConvBwdIdeal.main_arg0)
      ∧ m' ((c.tc : Thread Cert.FfnConvBwdRefIdeal.nD Cert.FfnConvBwdRefIdeal.τ).loc Cert.FfnConvBwdRefIdeal.main_arg1) = m ((c.tc : Thread Cert.FfnConvBwdIdeal.nD Cert.FfnConvBwdIdeal.τ).loc Cert.FfnConvBwdIdeal.main_arg1)) →
    ∃ (v0 : (c : Dev Cert.FfnConvBwdIdeal.nD) → Buf (Elt Ideal) ((c.tc : Thread Cert.FfnConvBwdIdeal.nD Cert.FfnConvBwdIdeal.τ).loc Cert.FfnConvBwdIdeal.main_v0)),
      θ_run (Cert.FfnConvBwdIdeal.defs (F := Ideal)) (onTc (τ := Cert.FfnConvBwdIdeal.τ) (Cert.FfnConvBwdIdeal.main (F := Ideal))) ⟨m, fun _ => 0, g⟩ (fun r => ∀ c : Dev Cert.FfnConvBwdIdeal.nD,
          r.2.mem ((c.tc : Thread Cert.FfnConvBwdIdeal.nD Cert.FfnConvBwdIdeal.τ).loc Cert.FfnConvBwdIdeal.main_v0) = v0 c
          ∧ r.2.mem ((c.tc : Thread Cert.FfnConvBwdIdeal.nD Cert.FfnConvBwdIdeal.τ).loc Cert.FfnConvBwdIdeal.main_arg0) = m ((c.tc : Thread Cert.FfnConvBwdIdeal.nD Cert.FfnConvBwdIdeal.τ).loc Cert.FfnConvBwdIdeal.main_arg0)
          ∧ r.2.mem ((c.tc : Thread Cert.FfnConvBwdIdeal.nD Cert.FfnConvBwdIdeal.τ).loc Cert.FfnConvBwdIdeal.main_arg1) = m ((c.tc : Thread Cert.FfnConvBwdIdeal.nD Cert.FfnConvBwdIdeal.τ).loc Cert.FfnConvBwdIdeal.main_arg1))
      ∧ θ_run (Cert.FfnConvBwdRefIdeal.defs (F := Ideal)) (onTc (τ := Cert.FfnConvBwdRefIdeal.τ) (Cert.FfnConvBwdRefIdeal.main (F := Ideal))) ⟨m', fun _ => 0, g'⟩ (fun r => ∀ c : Dev Cert.FfnConvBwdRefIdeal.nD,
          r.2.mem ((c.tc : Thread Cert.FfnConvBwdRefIdeal.nD Cert.FfnConvBwdRefIdeal.τ).loc Cert.FfnConvBwdRefIdeal.main_v40) = v0 c
          ∧ r.2.mem ((c.tc : Thread Cert.FfnConvBwdRefIdeal.nD Cert.FfnConvBwdRefIdeal.τ).loc Cert.FfnConvBwdRefIdeal.main_arg0) = m' ((c.tc : Thread Cert.FfnConvBwdRefIdeal.nD Cert.FfnConvBwdRefIdeal.τ).loc Cert.FfnConvBwdRefIdeal.main_arg0)
          ∧ r.2.mem ((c.tc : Thread Cert.FfnConvBwdRefIdeal.nD Cert.FfnConvBwdRefIdeal.τ).loc Cert.FfnConvBwdRefIdeal.main_arg1) = m' ((c.tc : Thread Cert.FfnConvBwdRefIdeal.nD Cert.FfnConvBwdRefIdeal.τ).loc Cert.FfnConvBwdRefIdeal.main_arg1))

def preserves_GdnConvBwd_GdnConvBwdIdeal : Prop :=
  True

def algebraic_GdnConvBwdIdeal_GdnConvBwdRefIdeal [hGdnConvBwdIdeal : Cert.GdnConvBwdIdeal.Facts] [hGdnConvBwdRefIdeal : Cert.GdnConvBwdRefIdeal.Facts] : Prop :=
  ∀ (m : (ℓ : Loc Cert.GdnConvBwdIdeal.nD Cert.GdnConvBwdIdeal.τ Cert.GdnConvBwdIdeal.sig) → Buf (Elt Ideal) ℓ) (g : Dev Cert.GdnConvBwdIdeal.nD → PrngReg)
    (m' : (ℓ : Loc Cert.GdnConvBwdRefIdeal.nD Cert.GdnConvBwdRefIdeal.τ Cert.GdnConvBwdRefIdeal.sig) → Buf (Elt Ideal) ℓ) (g' : Dev Cert.GdnConvBwdRefIdeal.nD → PrngReg), Pre_GdnConvBwdIdeal m →
    (∀ c : Dev Cert.GdnConvBwdIdeal.nD,
      m' ((c.tc : Thread Cert.GdnConvBwdRefIdeal.nD Cert.GdnConvBwdRefIdeal.τ).loc Cert.GdnConvBwdRefIdeal.main_arg0) = m ((c.tc : Thread Cert.GdnConvBwdIdeal.nD Cert.GdnConvBwdIdeal.τ).loc Cert.GdnConvBwdIdeal.main_arg0)
      ∧ m' ((c.tc : Thread Cert.GdnConvBwdRefIdeal.nD Cert.GdnConvBwdRefIdeal.τ).loc Cert.GdnConvBwdRefIdeal.main_arg1) = m ((c.tc : Thread Cert.GdnConvBwdIdeal.nD Cert.GdnConvBwdIdeal.τ).loc Cert.GdnConvBwdIdeal.main_arg1)
      ∧ m' ((c.tc : Thread Cert.GdnConvBwdRefIdeal.nD Cert.GdnConvBwdRefIdeal.τ).loc Cert.GdnConvBwdRefIdeal.main_arg2) = m ((c.tc : Thread Cert.GdnConvBwdIdeal.nD Cert.GdnConvBwdIdeal.τ).loc Cert.GdnConvBwdIdeal.main_arg2)) →
    ∃ (v0 : (c : Dev Cert.GdnConvBwdIdeal.nD) → Buf (Elt Ideal) ((c.tc : Thread Cert.GdnConvBwdIdeal.nD Cert.GdnConvBwdIdeal.τ).loc Cert.GdnConvBwdIdeal.main_v0)),
      θ_run (Cert.GdnConvBwdIdeal.defs (F := Ideal)) (onTc (τ := Cert.GdnConvBwdIdeal.τ) (Cert.GdnConvBwdIdeal.main (F := Ideal))) ⟨m, fun _ => 0, g⟩ (fun r => ∀ c : Dev Cert.GdnConvBwdIdeal.nD,
          r.2.mem ((c.tc : Thread Cert.GdnConvBwdIdeal.nD Cert.GdnConvBwdIdeal.τ).loc Cert.GdnConvBwdIdeal.main_v0) = v0 c
          ∧ r.2.mem ((c.tc : Thread Cert.GdnConvBwdIdeal.nD Cert.GdnConvBwdIdeal.τ).loc Cert.GdnConvBwdIdeal.main_arg0) = m ((c.tc : Thread Cert.GdnConvBwdIdeal.nD Cert.GdnConvBwdIdeal.τ).loc Cert.GdnConvBwdIdeal.main_arg0)
          ∧ r.2.mem ((c.tc : Thread Cert.GdnConvBwdIdeal.nD Cert.GdnConvBwdIdeal.τ).loc Cert.GdnConvBwdIdeal.main_arg1) = m ((c.tc : Thread Cert.GdnConvBwdIdeal.nD Cert.GdnConvBwdIdeal.τ).loc Cert.GdnConvBwdIdeal.main_arg1)
          ∧ r.2.mem ((c.tc : Thread Cert.GdnConvBwdIdeal.nD Cert.GdnConvBwdIdeal.τ).loc Cert.GdnConvBwdIdeal.main_arg2) = m ((c.tc : Thread Cert.GdnConvBwdIdeal.nD Cert.GdnConvBwdIdeal.τ).loc Cert.GdnConvBwdIdeal.main_arg2))
      ∧ θ_run (Cert.GdnConvBwdRefIdeal.defs (F := Ideal)) (onTc (τ := Cert.GdnConvBwdRefIdeal.τ) (Cert.GdnConvBwdRefIdeal.main (F := Ideal))) ⟨m', fun _ => 0, g'⟩ (fun r => ∀ c : Dev Cert.GdnConvBwdRefIdeal.nD,
          r.2.mem ((c.tc : Thread Cert.GdnConvBwdRefIdeal.nD Cert.GdnConvBwdRefIdeal.τ).loc Cert.GdnConvBwdRefIdeal.main_v52) = v0 c
          ∧ r.2.mem ((c.tc : Thread Cert.GdnConvBwdRefIdeal.nD Cert.GdnConvBwdRefIdeal.τ).loc Cert.GdnConvBwdRefIdeal.main_arg0) = m' ((c.tc : Thread Cert.GdnConvBwdRefIdeal.nD Cert.GdnConvBwdRefIdeal.τ).loc Cert.GdnConvBwdRefIdeal.main_arg0)
          ∧ r.2.mem ((c.tc : Thread Cert.GdnConvBwdRefIdeal.nD Cert.GdnConvBwdRefIdeal.τ).loc Cert.GdnConvBwdRefIdeal.main_arg1) = m' ((c.tc : Thread Cert.GdnConvBwdRefIdeal.nD Cert.GdnConvBwdRefIdeal.τ).loc Cert.GdnConvBwdRefIdeal.main_arg1)
          ∧ r.2.mem ((c.tc : Thread Cert.GdnConvBwdRefIdeal.nD Cert.GdnConvBwdRefIdeal.τ).loc Cert.GdnConvBwdRefIdeal.main_arg2) = m' ((c.tc : Thread Cert.GdnConvBwdRefIdeal.nD Cert.GdnConvBwdRefIdeal.τ).loc Cert.GdnConvBwdRefIdeal.main_arg2))

def Claim : Prop :=
  ∃ (hDownDx : Cert.DownDx.Facts) (hDownDxIdeal : Cert.DownDxIdeal.Facts) (hDownDxRefIdeal : Cert.DownDxRefIdeal.Facts) (hUp0 : Cert.Up0.Facts) (hUp0Ideal : Cert.Up0Ideal.Facts) (hUp0RefIdeal : Cert.Up0RefIdeal.Facts) (hUp1 : Cert.Up1.Facts) (hUp1Ideal : Cert.Up1Ideal.Facts) (hUp1RefIdeal : Cert.Up1RefIdeal.Facts) (hDown : Cert.Down.Facts) (hDownIdeal : Cert.DownIdeal.Facts) (hDownRefIdeal : Cert.DownRefIdeal.Facts) (hGdnIn : Cert.GdnIn.Facts) (hGdnInIdeal : Cert.GdnInIdeal.Facts) (hGdnInRefIdeal : Cert.GdnInRefIdeal.Facts) (hGdnOut : Cert.GdnOut.Facts) (hGdnOutIdeal : Cert.GdnOutIdeal.Facts) (hGdnOutRefIdeal : Cert.GdnOutRefIdeal.Facts) (hGdnOutDx : Cert.GdnOutDx.Facts) (hGdnOutDxIdeal : Cert.GdnOutDxIdeal.Facts) (hGdnOutDxRefIdeal : Cert.GdnOutDxRefIdeal.Facts) (hQProj : Cert.QProj.Facts) (hQProjIdeal : Cert.QProjIdeal.Facts) (hQProjRefIdeal : Cert.QProjRefIdeal.Facts) (hKvProj : Cert.KvProj.Facts) (hKvProjIdeal : Cert.KvProjIdeal.Facts) (hKvProjRefIdeal : Cert.KvProjRefIdeal.Facts) (hOProj : Cert.OProj.Facts) (hOProjIdeal : Cert.OProjIdeal.Facts) (hOProjRefIdeal : Cert.OProjRefIdeal.Facts) (hOProjDx : Cert.OProjDx.Facts) (hOProjDxIdeal : Cert.OProjDxIdeal.Facts) (hOProjDxRefIdeal : Cert.OProjDxRefIdeal.Facts) (hQDw : Cert.QDw.Facts) (hQDwIdeal : Cert.QDwIdeal.Facts) (hQDwRefIdeal : Cert.QDwRefIdeal.Facts) (hKvDw : Cert.KvDw.Facts) (hKvDwIdeal : Cert.KvDwIdeal.Facts) (hKvDwRefIdeal : Cert.KvDwRefIdeal.Facts) (hODw : Cert.ODw.Facts) (hODwIdeal : Cert.ODwIdeal.Facts) (hODwRefIdeal : Cert.ODwRefIdeal.Facts) (hGdnOutDw : Cert.GdnOutDw.Facts) (hGdnOutDwIdeal : Cert.GdnOutDwIdeal.Facts) (hGdnOutDwRefIdeal : Cert.GdnOutDwRefIdeal.Facts) (hGdnInDw : Cert.GdnInDw.Facts) (hGdnInDwIdeal : Cert.GdnInDwIdeal.Facts) (hGdnInDwRefIdeal : Cert.GdnInDwRefIdeal.Facts) (hUp1Dw : Cert.Up1Dw.Facts) (hUp1DwIdeal : Cert.Up1DwIdeal.Facts) (hUp1DwRefIdeal : Cert.Up1DwRefIdeal.Facts) (hUp0Dw : Cert.Up0Dw.Facts) (hUp0DwIdeal : Cert.Up0DwIdeal.Facts) (hUp0DwRefIdeal : Cert.Up0DwRefIdeal.Facts) (hDown1Dw : Cert.Down1Dw.Facts) (hDown1DwIdeal : Cert.Down1DwIdeal.Facts) (hDown1DwRefIdeal : Cert.Down1DwRefIdeal.Facts) (hDown0Dw : Cert.Down0Dw.Facts) (hDown0DwIdeal : Cert.Down0DwIdeal.Facts) (hDown0DwRefIdeal : Cert.Down0DwRefIdeal.Facts) (hUp1Dx : Cert.Up1Dx.Facts) (hUp1DxIdeal : Cert.Up1DxIdeal.Facts) (hUp1DxRefIdeal : Cert.Up1DxRefIdeal.Facts) (hUp0Dx : Cert.Up0Dx.Facts) (hUp0DxIdeal : Cert.Up0DxIdeal.Facts) (hUp0DxRefIdeal : Cert.Up0DxRefIdeal.Facts) (hQProjDx : Cert.QProjDx.Facts) (hQProjDxIdeal : Cert.QProjDxIdeal.Facts) (hQProjDxRefIdeal : Cert.QProjDxRefIdeal.Facts) (hKvProjDx : Cert.KvProjDx.Facts) (hKvProjDxIdeal : Cert.KvProjDxIdeal.Facts) (hKvProjDxRefIdeal : Cert.KvProjDxRefIdeal.Facts) (hGdnInBaDx : Cert.GdnInBaDx.Facts) (hGdnInBaDxIdeal : Cert.GdnInBaDxIdeal.Facts) (hGdnInBaDxRefIdeal : Cert.GdnInBaDxRefIdeal.Facts) (hAdamAWIn : Cert.AdamAWIn.Facts) (hAdamAWInIdeal : Cert.AdamAWInIdeal.Facts) (hAdamAWInRefIdeal : Cert.AdamAWInRefIdeal.Facts) (hAdamAWOut : Cert.AdamAWOut.Facts) (hAdamAWOutIdeal : Cert.AdamAWOutIdeal.Facts) (hAdamAWOutRefIdeal : Cert.AdamAWOutRefIdeal.Facts) (hAdamWKv : Cert.AdamWKv.Facts) (hAdamWKvIdeal : Cert.AdamWKvIdeal.Facts) (hAdamWKvRefIdeal : Cert.AdamWKvRefIdeal.Facts) (hAdamBWQ : Cert.AdamBWQ.Facts) (hAdamBWQIdeal : Cert.AdamBWQIdeal.Facts) (hAdamBWQRefIdeal : Cert.AdamBWQRefIdeal.Facts) (hAdamBWO : Cert.AdamBWO.Facts) (hAdamBWOIdeal : Cert.AdamBWOIdeal.Facts) (hAdamBWORefIdeal : Cert.AdamBWORefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hGdnInBaDw : Cert.GdnInBaDw.Facts) (hGdnInBaDwIdeal : Cert.GdnInBaDwIdeal.Facts) (hGdnInBaDwRefIdeal : Cert.GdnInBaDwRefIdeal.Facts) (hRelBiasDw : Cert.RelBiasDw.Facts) (hRelBiasDwIdeal : Cert.RelBiasDwIdeal.Facts) (hRelBiasDwRefIdeal : Cert.RelBiasDwRefIdeal.Facts) (hFinal : Cert.Final.Facts) (hFinalIdeal : Cert.FinalIdeal.Facts) (hFinalRefIdeal : Cert.FinalRefIdeal.Facts) (hGnormBwd : Cert.GnormBwd.Facts) (hGnormBwdIdeal : Cert.GnormBwdIdeal.Facts) (hGnormBwdRefIdeal : Cert.GnormBwdRefIdeal.Facts) (hFfnActBwd : Cert.FfnActBwd.Facts) (hFfnActBwdIdeal : Cert.FfnActBwdIdeal.Facts) (hFfnActBwdRefIdeal : Cert.FfnActBwdRefIdeal.Facts) (hGdnPreBwd : Cert.GdnPreBwd.Facts) (hGdnPreBwdIdeal : Cert.GdnPreBwdIdeal.Facts) (hGdnPreBwdRefIdeal : Cert.GdnPreBwdRefIdeal.Facts) (hGdnInBa : Cert.GdnInBa.Facts) (hGdnInBaIdeal : Cert.GdnInBaIdeal.Facts) (hGdnInBaRefIdeal : Cert.GdnInBaRefIdeal.Facts) (hFfnAct : Cert.FfnAct.Facts) (hFfnActIdeal : Cert.FfnActIdeal.Facts) (hFfnActRefIdeal : Cert.FfnActRefIdeal.Facts) (hGnorm : Cert.Gnorm.Facts) (hGnormIdeal : Cert.GnormIdeal.Facts) (hGnormRefIdeal : Cert.GnormRefIdeal.Facts) (hRelBias : Cert.RelBias.Facts) (hRelBiasIdeal : Cert.RelBiasIdeal.Facts) (hRelBiasRefIdeal : Cert.RelBiasRefIdeal.Facts) (hGdnInDx : Cert.GdnInDx.Facts) (hGdnInDxIdeal : Cert.GdnInDxIdeal.Facts) (hGdnInDxRefIdeal : Cert.GdnInDxRefIdeal.Facts) (hFfnConvBwd : Cert.FfnConvBwd.Facts) (hFfnConvBwdIdeal : Cert.FfnConvBwdIdeal.Facts) (hFfnConvBwdRefIdeal : Cert.FfnConvBwdRefIdeal.Facts) (hGdnConvBwd : Cert.GdnConvBwd.Facts) (hGdnConvBwdIdeal : Cert.GdnConvBwdIdeal.Facts) (hGdnConvBwdRefIdeal : Cert.GdnConvBwdRefIdeal.Facts) (hPre_finite : Cert.Pre_finite.Facts) (hPre_regular_decay : Cert.Pre_regular_decay.Facts),
    quiescent_DownDx (hDownDx := hDownDx)
    ∧ quiescent_DownDxIdeal (hDownDxIdeal := hDownDxIdeal)
    ∧ quiescent_DownDxRefIdeal (hDownDxRefIdeal := hDownDxRefIdeal)
    ∧ quiescent_Up0 (hUp0 := hUp0)
    ∧ quiescent_Up0Ideal (hUp0Ideal := hUp0Ideal)
    ∧ quiescent_Up0RefIdeal (hUp0RefIdeal := hUp0RefIdeal)
    ∧ quiescent_Up1 (hUp1 := hUp1)
    ∧ quiescent_Up1Ideal (hUp1Ideal := hUp1Ideal)
    ∧ quiescent_Up1RefIdeal (hUp1RefIdeal := hUp1RefIdeal)
    ∧ quiescent_Down (hDown := hDown)
    ∧ quiescent_DownIdeal (hDownIdeal := hDownIdeal)
    ∧ quiescent_DownRefIdeal (hDownRefIdeal := hDownRefIdeal)
    ∧ quiescent_GdnIn (hGdnIn := hGdnIn)
    ∧ quiescent_GdnInIdeal (hGdnInIdeal := hGdnInIdeal)
    ∧ quiescent_GdnInRefIdeal (hGdnInRefIdeal := hGdnInRefIdeal)
    ∧ quiescent_GdnOut (hGdnOut := hGdnOut)
    ∧ quiescent_GdnOutIdeal (hGdnOutIdeal := hGdnOutIdeal)
    ∧ quiescent_GdnOutRefIdeal (hGdnOutRefIdeal := hGdnOutRefIdeal)
    ∧ quiescent_GdnOutDx (hGdnOutDx := hGdnOutDx)
    ∧ quiescent_GdnOutDxIdeal (hGdnOutDxIdeal := hGdnOutDxIdeal)
    ∧ quiescent_GdnOutDxRefIdeal (hGdnOutDxRefIdeal := hGdnOutDxRefIdeal)
    ∧ quiescent_QProj (hQProj := hQProj)
    ∧ quiescent_QProjIdeal (hQProjIdeal := hQProjIdeal)
    ∧ quiescent_QProjRefIdeal (hQProjRefIdeal := hQProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_OProj (hOProj := hOProj)
    ∧ quiescent_OProjIdeal (hOProjIdeal := hOProjIdeal)
    ∧ quiescent_OProjRefIdeal (hOProjRefIdeal := hOProjRefIdeal)
    ∧ quiescent_OProjDx (hOProjDx := hOProjDx)
    ∧ quiescent_OProjDxIdeal (hOProjDxIdeal := hOProjDxIdeal)
    ∧ quiescent_OProjDxRefIdeal (hOProjDxRefIdeal := hOProjDxRefIdeal)
    ∧ quiescent_QDw (hQDw := hQDw)
    ∧ quiescent_QDwIdeal (hQDwIdeal := hQDwIdeal)
    ∧ quiescent_QDwRefIdeal (hQDwRefIdeal := hQDwRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_ODw (hODw := hODw)
    ∧ quiescent_ODwIdeal (hODwIdeal := hODwIdeal)
    ∧ quiescent_ODwRefIdeal (hODwRefIdeal := hODwRefIdeal)
    ∧ quiescent_GdnOutDw (hGdnOutDw := hGdnOutDw)
    ∧ quiescent_GdnOutDwIdeal (hGdnOutDwIdeal := hGdnOutDwIdeal)
    ∧ quiescent_GdnOutDwRefIdeal (hGdnOutDwRefIdeal := hGdnOutDwRefIdeal)
    ∧ quiescent_GdnInDw (hGdnInDw := hGdnInDw)
    ∧ quiescent_GdnInDwIdeal (hGdnInDwIdeal := hGdnInDwIdeal)
    ∧ quiescent_GdnInDwRefIdeal (hGdnInDwRefIdeal := hGdnInDwRefIdeal)
    ∧ quiescent_Up1Dw (hUp1Dw := hUp1Dw)
    ∧ quiescent_Up1DwIdeal (hUp1DwIdeal := hUp1DwIdeal)
    ∧ quiescent_Up1DwRefIdeal (hUp1DwRefIdeal := hUp1DwRefIdeal)
    ∧ quiescent_Up0Dw (hUp0Dw := hUp0Dw)
    ∧ quiescent_Up0DwIdeal (hUp0DwIdeal := hUp0DwIdeal)
    ∧ quiescent_Up0DwRefIdeal (hUp0DwRefIdeal := hUp0DwRefIdeal)
    ∧ quiescent_Down1Dw (hDown1Dw := hDown1Dw)
    ∧ quiescent_Down1DwIdeal (hDown1DwIdeal := hDown1DwIdeal)
    ∧ quiescent_Down1DwRefIdeal (hDown1DwRefIdeal := hDown1DwRefIdeal)
    ∧ quiescent_Down0Dw (hDown0Dw := hDown0Dw)
    ∧ quiescent_Down0DwIdeal (hDown0DwIdeal := hDown0DwIdeal)
    ∧ quiescent_Down0DwRefIdeal (hDown0DwRefIdeal := hDown0DwRefIdeal)
    ∧ quiescent_Up1Dx (hUp1Dx := hUp1Dx)
    ∧ quiescent_Up1DxIdeal (hUp1DxIdeal := hUp1DxIdeal)
    ∧ quiescent_Up1DxRefIdeal (hUp1DxRefIdeal := hUp1DxRefIdeal)
    ∧ quiescent_Up0Dx (hUp0Dx := hUp0Dx)
    ∧ quiescent_Up0DxIdeal (hUp0DxIdeal := hUp0DxIdeal)
    ∧ quiescent_Up0DxRefIdeal (hUp0DxRefIdeal := hUp0DxRefIdeal)
    ∧ quiescent_QProjDx (hQProjDx := hQProjDx)
    ∧ quiescent_QProjDxIdeal (hQProjDxIdeal := hQProjDxIdeal)
    ∧ quiescent_QProjDxRefIdeal (hQProjDxRefIdeal := hQProjDxRefIdeal)
    ∧ quiescent_KvProjDx (hKvProjDx := hKvProjDx)
    ∧ quiescent_KvProjDxIdeal (hKvProjDxIdeal := hKvProjDxIdeal)
    ∧ quiescent_KvProjDxRefIdeal (hKvProjDxRefIdeal := hKvProjDxRefIdeal)
    ∧ quiescent_GdnInBaDx (hGdnInBaDx := hGdnInBaDx)
    ∧ quiescent_GdnInBaDxIdeal (hGdnInBaDxIdeal := hGdnInBaDxIdeal)
    ∧ quiescent_GdnInBaDxRefIdeal (hGdnInBaDxRefIdeal := hGdnInBaDxRefIdeal)
    ∧ quiescent_AdamAWIn (hAdamAWIn := hAdamAWIn)
    ∧ quiescent_AdamAWInIdeal (hAdamAWInIdeal := hAdamAWInIdeal)
    ∧ quiescent_AdamAWInRefIdeal (hAdamAWInRefIdeal := hAdamAWInRefIdeal)
    ∧ quiescent_AdamAWOut (hAdamAWOut := hAdamAWOut)
    ∧ quiescent_AdamAWOutIdeal (hAdamAWOutIdeal := hAdamAWOutIdeal)
    ∧ quiescent_AdamAWOutRefIdeal (hAdamAWOutRefIdeal := hAdamAWOutRefIdeal)
    ∧ quiescent_AdamWKv (hAdamWKv := hAdamWKv)
    ∧ quiescent_AdamWKvIdeal (hAdamWKvIdeal := hAdamWKvIdeal)
    ∧ quiescent_AdamWKvRefIdeal (hAdamWKvRefIdeal := hAdamWKvRefIdeal)
    ∧ quiescent_AdamBWQ (hAdamBWQ := hAdamBWQ)
    ∧ quiescent_AdamBWQIdeal (hAdamBWQIdeal := hAdamBWQIdeal)
    ∧ quiescent_AdamBWQRefIdeal (hAdamBWQRefIdeal := hAdamBWQRefIdeal)
    ∧ quiescent_AdamBWO (hAdamBWO := hAdamBWO)
    ∧ quiescent_AdamBWOIdeal (hAdamBWOIdeal := hAdamBWOIdeal)
    ∧ quiescent_AdamBWORefIdeal (hAdamBWORefIdeal := hAdamBWORefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_GdnInBaDw (hGdnInBaDw := hGdnInBaDw)
    ∧ quiescent_GdnInBaDwIdeal (hGdnInBaDwIdeal := hGdnInBaDwIdeal)
    ∧ quiescent_GdnInBaDwRefIdeal (hGdnInBaDwRefIdeal := hGdnInBaDwRefIdeal)
    ∧ quiescent_RelBiasDw (hRelBiasDw := hRelBiasDw)
    ∧ quiescent_RelBiasDwIdeal (hRelBiasDwIdeal := hRelBiasDwIdeal)
    ∧ quiescent_RelBiasDwRefIdeal (hRelBiasDwRefIdeal := hRelBiasDwRefIdeal)
    ∧ quiescent_Final (hFinal := hFinal)
    ∧ quiescent_FinalIdeal (hFinalIdeal := hFinalIdeal)
    ∧ quiescent_FinalRefIdeal (hFinalRefIdeal := hFinalRefIdeal)
    ∧ quiescent_GnormBwd (hGnormBwd := hGnormBwd)
    ∧ quiescent_GnormBwdIdeal (hGnormBwdIdeal := hGnormBwdIdeal)
    ∧ quiescent_GnormBwdRefIdeal (hGnormBwdRefIdeal := hGnormBwdRefIdeal)
    ∧ quiescent_FfnActBwd (hFfnActBwd := hFfnActBwd)
    ∧ quiescent_FfnActBwdIdeal (hFfnActBwdIdeal := hFfnActBwdIdeal)
    ∧ quiescent_FfnActBwdIdeal_pre_finite (hFfnActBwdIdeal := hFfnActBwdIdeal) (hPre_finite := hPre_finite)
    ∧ quiescent_FfnActBwdRefIdeal (hFfnActBwdRefIdeal := hFfnActBwdRefIdeal)
    ∧ quiescent_FfnActBwdRefIdeal_pre_finite (hFfnActBwdRefIdeal := hFfnActBwdRefIdeal) (hPre_finite := hPre_finite)
    ∧ quiescent_GdnPreBwd (hGdnPreBwd := hGdnPreBwd)
    ∧ quiescent_GdnPreBwdIdeal (hGdnPreBwdIdeal := hGdnPreBwdIdeal)
    ∧ quiescent_GdnPreBwdIdeal_pre_regular_decay (hGdnPreBwdIdeal := hGdnPreBwdIdeal) (hPre_regular_decay := hPre_regular_decay)
    ∧ quiescent_GdnPreBwdRefIdeal (hGdnPreBwdRefIdeal := hGdnPreBwdRefIdeal)
    ∧ quiescent_GdnPreBwdRefIdeal_pre_regular_decay (hGdnPreBwdRefIdeal := hGdnPreBwdRefIdeal) (hPre_regular_decay := hPre_regular_decay)
    ∧ quiescent_GdnInBa (hGdnInBa := hGdnInBa)
    ∧ quiescent_GdnInBaIdeal (hGdnInBaIdeal := hGdnInBaIdeal)
    ∧ quiescent_GdnInBaRefIdeal (hGdnInBaRefIdeal := hGdnInBaRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_Gnorm (hGnorm := hGnorm)
    ∧ quiescent_GnormIdeal (hGnormIdeal := hGnormIdeal)
    ∧ quiescent_GnormRefIdeal (hGnormRefIdeal := hGnormRefIdeal)
    ∧ quiescent_RelBias (hRelBias := hRelBias)
    ∧ quiescent_RelBiasIdeal (hRelBiasIdeal := hRelBiasIdeal)
    ∧ quiescent_RelBiasRefIdeal (hRelBiasRefIdeal := hRelBiasRefIdeal)
    ∧ quiescent_GdnInDx (hGdnInDx := hGdnInDx)
    ∧ quiescent_GdnInDxIdeal (hGdnInDxIdeal := hGdnInDxIdeal)
    ∧ quiescent_GdnInDxRefIdeal (hGdnInDxRefIdeal := hGdnInDxRefIdeal)
    ∧ quiescent_FfnConvBwd (hFfnConvBwd := hFfnConvBwd)
    ∧ quiescent_FfnConvBwdIdeal (hFfnConvBwdIdeal := hFfnConvBwdIdeal)
    ∧ quiescent_FfnConvBwdRefIdeal (hFfnConvBwdRefIdeal := hFfnConvBwdRefIdeal)
    ∧ quiescent_GdnConvBwd (hGdnConvBwd := hGdnConvBwd)
    ∧ quiescent_GdnConvBwdIdeal (hGdnConvBwdIdeal := hGdnConvBwdIdeal)
    ∧ quiescent_GdnConvBwdRefIdeal (hGdnConvBwdRefIdeal := hGdnConvBwdRefIdeal)
    ∧ preserves_DownDx_DownDxIdeal
    ∧ algebraic_DownDxIdeal_DownDxRefIdeal (hDownDxIdeal := hDownDxIdeal) (hDownDxRefIdeal := hDownDxRefIdeal)
    ∧ preserves_Up0_Up0Ideal
    ∧ algebraic_Up0Ideal_Up0RefIdeal (hUp0Ideal := hUp0Ideal) (hUp0RefIdeal := hUp0RefIdeal)
    ∧ preserves_Up1_Up1Ideal
    ∧ algebraic_Up1Ideal_Up1RefIdeal (hUp1Ideal := hUp1Ideal) (hUp1RefIdeal := hUp1RefIdeal)
    ∧ preserves_Down_DownIdeal
    ∧ algebraic_DownIdeal_DownRefIdeal (hDownIdeal := hDownIdeal) (hDownRefIdeal := hDownRefIdeal)
    ∧ preserves_GdnIn_GdnInIdeal
    ∧ algebraic_GdnInIdeal_GdnInRefIdeal (hGdnInIdeal := hGdnInIdeal) (hGdnInRefIdeal := hGdnInRefIdeal)
    ∧ preserves_GdnOut_GdnOutIdeal
    ∧ algebraic_GdnOutIdeal_GdnOutRefIdeal (hGdnOutIdeal := hGdnOutIdeal) (hGdnOutRefIdeal := hGdnOutRefIdeal)
    ∧ preserves_GdnOutDx_GdnOutDxIdeal
    ∧ algebraic_GdnOutDxIdeal_GdnOutDxRefIdeal (hGdnOutDxIdeal := hGdnOutDxIdeal) (hGdnOutDxRefIdeal := hGdnOutDxRefIdeal)
    ∧ preserves_QProj_QProjIdeal
    ∧ algebraic_QProjIdeal_QProjRefIdeal (hQProjIdeal := hQProjIdeal) (hQProjRefIdeal := hQProjRefIdeal)
    ∧ preserves_KvProj_KvProjIdeal
    ∧ algebraic_KvProjIdeal_KvProjRefIdeal (hKvProjIdeal := hKvProjIdeal) (hKvProjRefIdeal := hKvProjRefIdeal)
    ∧ preserves_OProj_OProjIdeal
    ∧ algebraic_OProjIdeal_OProjRefIdeal (hOProjIdeal := hOProjIdeal) (hOProjRefIdeal := hOProjRefIdeal)
    ∧ preserves_OProjDx_OProjDxIdeal
    ∧ algebraic_OProjDxIdeal_OProjDxRefIdeal (hOProjDxIdeal := hOProjDxIdeal) (hOProjDxRefIdeal := hOProjDxRefIdeal)
    ∧ preserves_QDw_QDwIdeal
    ∧ algebraic_QDwIdeal_QDwRefIdeal (hQDwIdeal := hQDwIdeal) (hQDwRefIdeal := hQDwRefIdeal)
    ∧ preserves_KvDw_KvDwIdeal
    ∧ algebraic_KvDwIdeal_KvDwRefIdeal (hKvDwIdeal := hKvDwIdeal) (hKvDwRefIdeal := hKvDwRefIdeal)
    ∧ preserves_ODw_ODwIdeal
    ∧ algebraic_ODwIdeal_ODwRefIdeal (hODwIdeal := hODwIdeal) (hODwRefIdeal := hODwRefIdeal)
    ∧ preserves_GdnOutDw_GdnOutDwIdeal
    ∧ algebraic_GdnOutDwIdeal_GdnOutDwRefIdeal (hGdnOutDwIdeal := hGdnOutDwIdeal) (hGdnOutDwRefIdeal := hGdnOutDwRefIdeal)
    ∧ preserves_GdnInDw_GdnInDwIdeal
    ∧ algebraic_GdnInDwIdeal_GdnInDwRefIdeal (hGdnInDwIdeal := hGdnInDwIdeal) (hGdnInDwRefIdeal := hGdnInDwRefIdeal)
    ∧ preserves_Up1Dw_Up1DwIdeal
    ∧ algebraic_Up1DwIdeal_Up1DwRefIdeal (hUp1DwIdeal := hUp1DwIdeal) (hUp1DwRefIdeal := hUp1DwRefIdeal)
    ∧ preserves_Up0Dw_Up0DwIdeal
    ∧ algebraic_Up0DwIdeal_Up0DwRefIdeal (hUp0DwIdeal := hUp0DwIdeal) (hUp0DwRefIdeal := hUp0DwRefIdeal)
    ∧ preserves_Down1Dw_Down1DwIdeal
    ∧ algebraic_Down1DwIdeal_Down1DwRefIdeal (hDown1DwIdeal := hDown1DwIdeal) (hDown1DwRefIdeal := hDown1DwRefIdeal)
    ∧ preserves_Down0Dw_Down0DwIdeal
    ∧ algebraic_Down0DwIdeal_Down0DwRefIdeal (hDown0DwIdeal := hDown0DwIdeal) (hDown0DwRefIdeal := hDown0DwRefIdeal)
    ∧ preserves_Up1Dx_Up1DxIdeal
    ∧ algebraic_Up1DxIdeal_Up1DxRefIdeal (hUp1DxIdeal := hUp1DxIdeal) (hUp1DxRefIdeal := hUp1DxRefIdeal)
    ∧ preserves_Up0Dx_Up0DxIdeal
    ∧ algebraic_Up0DxIdeal_Up0DxRefIdeal (hUp0DxIdeal := hUp0DxIdeal) (hUp0DxRefIdeal := hUp0DxRefIdeal)
    ∧ preserves_QProjDx_QProjDxIdeal
    ∧ algebraic_QProjDxIdeal_QProjDxRefIdeal (hQProjDxIdeal := hQProjDxIdeal) (hQProjDxRefIdeal := hQProjDxRefIdeal)
    ∧ preserves_KvProjDx_KvProjDxIdeal
    ∧ algebraic_KvProjDxIdeal_KvProjDxRefIdeal (hKvProjDxIdeal := hKvProjDxIdeal) (hKvProjDxRefIdeal := hKvProjDxRefIdeal)
    ∧ preserves_GdnInBaDx_GdnInBaDxIdeal
    ∧ algebraic_GdnInBaDxIdeal_GdnInBaDxRefIdeal (hGdnInBaDxIdeal := hGdnInBaDxIdeal) (hGdnInBaDxRefIdeal := hGdnInBaDxRefIdeal)
    ∧ preserves_AdamAWIn_AdamAWInIdeal
    ∧ algebraic_AdamAWInIdeal_AdamAWInRefIdeal (hAdamAWInIdeal := hAdamAWInIdeal) (hAdamAWInRefIdeal := hAdamAWInRefIdeal)
    ∧ preserves_AdamAWOut_AdamAWOutIdeal
    ∧ algebraic_AdamAWOutIdeal_AdamAWOutRefIdeal (hAdamAWOutIdeal := hAdamAWOutIdeal) (hAdamAWOutRefIdeal := hAdamAWOutRefIdeal)
    ∧ preserves_AdamWKv_AdamWKvIdeal
    ∧ algebraic_AdamWKvIdeal_AdamWKvRefIdeal (hAdamWKvIdeal := hAdamWKvIdeal) (hAdamWKvRefIdeal := hAdamWKvRefIdeal)
    ∧ preserves_AdamBWQ_AdamBWQIdeal
    ∧ algebraic_AdamBWQIdeal_AdamBWQRefIdeal (hAdamBWQIdeal := hAdamBWQIdeal) (hAdamBWQRefIdeal := hAdamBWQRefIdeal)
    ∧ preserves_AdamBWO_AdamBWOIdeal
    ∧ algebraic_AdamBWOIdeal_AdamBWORefIdeal (hAdamBWOIdeal := hAdamBWOIdeal) (hAdamBWORefIdeal := hAdamBWORefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_GdnInBaDw_GdnInBaDwIdeal
    ∧ algebraic_GdnInBaDwIdeal_GdnInBaDwRefIdeal (hGdnInBaDwIdeal := hGdnInBaDwIdeal) (hGdnInBaDwRefIdeal := hGdnInBaDwRefIdeal)
    ∧ preserves_RelBiasDw_RelBiasDwIdeal
    ∧ algebraic_RelBiasDwIdeal_RelBiasDwRefIdeal (hRelBiasDwIdeal := hRelBiasDwIdeal) (hRelBiasDwRefIdeal := hRelBiasDwRefIdeal)
    ∧ preserves_Final_FinalIdeal
    ∧ algebraic_FinalIdeal_FinalRefIdeal (hFinalIdeal := hFinalIdeal) (hFinalRefIdeal := hFinalRefIdeal)
    ∧ preserves_GnormBwd_GnormBwdIdeal
    ∧ algebraic_GnormBwdIdeal_GnormBwdRefIdeal (hGnormBwdIdeal := hGnormBwdIdeal) (hGnormBwdRefIdeal := hGnormBwdRefIdeal)
    ∧ preserves_FfnActBwd_FfnActBwdIdeal
    ∧ algebraic_FfnActBwdIdeal_FfnActBwdRefIdeal_pre_finite (hFfnActBwdIdeal := hFfnActBwdIdeal) (hFfnActBwdRefIdeal := hFfnActBwdRefIdeal) (hPre_finite := hPre_finite)
    ∧ preserves_GdnPreBwd_GdnPreBwdIdeal
    ∧ algebraic_GdnPreBwdIdeal_GdnPreBwdRefIdeal_pre_regular_decay (hGdnPreBwdIdeal := hGdnPreBwdIdeal) (hGdnPreBwdRefIdeal := hGdnPreBwdRefIdeal) (hPre_regular_decay := hPre_regular_decay)
    ∧ preserves_GdnInBa_GdnInBaIdeal
    ∧ algebraic_GdnInBaIdeal_GdnInBaRefIdeal (hGdnInBaIdeal := hGdnInBaIdeal) (hGdnInBaRefIdeal := hGdnInBaRefIdeal)
    ∧ preserves_FfnAct_FfnActIdeal
    ∧ algebraic_FfnActIdeal_FfnActRefIdeal (hFfnActIdeal := hFfnActIdeal) (hFfnActRefIdeal := hFfnActRefIdeal)
    ∧ preserves_Gnorm_GnormIdeal
    ∧ algebraic_GnormIdeal_GnormRefIdeal (hGnormIdeal := hGnormIdeal) (hGnormRefIdeal := hGnormRefIdeal)
    ∧ preserves_RelBias_RelBiasIdeal
    ∧ algebraic_RelBiasIdeal_RelBiasRefIdeal (hRelBiasIdeal := hRelBiasIdeal) (hRelBiasRefIdeal := hRelBiasRefIdeal)
    ∧ preserves_GdnInDx_GdnInDxIdeal
    ∧ algebraic_GdnInDxIdeal_GdnInDxRefIdeal (hGdnInDxIdeal := hGdnInDxIdeal) (hGdnInDxRefIdeal := hGdnInDxRefIdeal)
    ∧ preserves_FfnConvBwd_FfnConvBwdIdeal
    ∧ algebraic_FfnConvBwdIdeal_FfnConvBwdRefIdeal (hFfnConvBwdIdeal := hFfnConvBwdIdeal) (hFfnConvBwdRefIdeal := hFfnConvBwdRefIdeal)
    ∧ preserves_GdnConvBwd_GdnConvBwdIdeal
    ∧ algebraic_GdnConvBwdIdeal_GdnConvBwdRefIdeal (hGdnConvBwdIdeal := hGdnConvBwdIdeal) (hGdnConvBwdRefIdeal := hGdnConvBwdRefIdeal)
-- ==== Pre_finite.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S8192x5632 : S_.BroadcastsInDim S8192x5632 (![] : Fin 0 → Fin S8192x5632.rank)
  slices_S3x5632_S1x5632_0_0 : S3x5632.Slices ![0, 0] S1x5632
  bcast_S_S1x5632 : S_.BroadcastsInDim S1x5632 (![] : Fin 0 → Fin S1x5632.rank)
  bcast_S1x5632_S8192x5632_0_1 : S1x5632.BroadcastsInDim S8192x5632 (![0, 1] : Fin 2 → Fin S8192x5632.rank)
  slices_S3x5632_S1x5632_1_0 : S3x5632.Slices ![1, 0] S1x5632
  slices_S3x5632_S1x5632_2_0 : S3x5632.Slices ![2, 0] S1x5632
  concatenates_S8192x2816_S8192x2816_S8192x5632_d1 : Shape.Concatenates [S8192x2816, S8192x2816] S8192x5632 1

variable [Facts]

def fn_part1 {F : FTy → Type} [FloatOps F] (main_arg1 : FVec F S3x5632 .f32) (main_arg2 : FVec F S1x5632 .f32) (main_v3 : IVec S8192x2816 1) (main_v19 : IVec S8192x5632 1) : IVec S8192x5632 1 :=
  let main_v20 : FVec F S1x5632 .f32 := (extractStridedSlice S1x5632 ![2, 0] · slices_S3x5632_S1x5632_2_0) main_arg1
  let main_v21 : FVec F S1x5632 .f32 := Host.absf main_v20
  let main_cst_3 : FVec F S_ .f32 := constant S_ .f32 0x7F800000#32
  let main_v22 : FVec F S1x5632 .f32 := broadcastInDim S1x5632 ![] bcast_S_S1x5632 main_cst_3
  let main_v23 : IVec S1x5632 1 := cmpf .olt main_v21 main_v22
  let main_v24 : IVec S8192x5632 1 := broadcastInDim S8192x5632 ![0, 1] bcast_S1x5632_S8192x5632_0_1 main_v23
  let main_v25 : IVec S8192x5632 1 := andi main_v19 main_v24
  let main_v26 : FVec F S1x5632 .f32 := Host.absf main_arg2
  let main_cst_4 : FVec F S_ .f32 := constant S_ .f32 0x7F800000#32
  let main_v27 : FVec F S1x5632 .f32 := broadcastInDim S1x5632 ![] bcast_S_S1x5632 main_cst_4
  let main_v28 : IVec S1x5632 1 := cmpf .olt main_v26 main_v27
  let main_v29 : IVec S8192x5632 1 := broadcastInDim S8192x5632 ![0, 1] bcast_S1x5632_S8192x5632_0_1 main_v28
  let main_v30 : IVec S8192x5632 1 := andi main_v25 main_v29
  let main_v31 : IVec S8192x5632 1 := (fun a b => concatenate S8192x5632 1 [⟨S8192x2816, a⟩, ⟨S8192x2816, b⟩] concatenates_S8192x2816_S8192x2816_S8192x5632_d1) main_v3 main_v3
  let main_v32 : IVec S8192x5632 1 := andi main_v30 main_v31
  main_v32

def fn {F : FTy → Type} [FloatOps F] (main_arg0 : FVec F S8192x5632 .bf16) (main_arg1 : FVec F S3x5632 .f32) (main_arg2 : FVec F S1x5632 .f32) (main_arg3 : FVec F S8192x2816 .bf16) : IVec S8192x5632 1 :=
  let main_v0 : FVec F S8192x2816 .f32 := (extf .f32 · bitsLt_bf16_f32) main_arg3
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x5632 .f32 := (extf .f32 · bitsLt_bf16_f32) main_arg0
  let main_v5 : FVec F S8192x5632 .f32 := Host.absf main_v4
  let main_cst_0 : FVec F S_ .f32 := constant S_ .f32 0x7F800000#32
  let main_v6 : FVec F S8192x5632 .f32 := broadcastInDim S8192x5632 ![] bcast_S_S8192x5632 main_cst_0
  let main_v7 : IVec S8192x5632 1 := cmpf .olt main_v5 main_v6
  let main_v8 : FVec F S1x5632 .f32 := (extractStridedSlice S1x5632 ![0, 0] · slices_S3x5632_S1x5632_0_0) main_arg1
  let main_v9 : FVec F S1x5632 .f32 := Host.absf main_v8
  let main_cst_1 : FVec F S_ .f32 := constant S_ .f32 0x7F800000#32
  let main_v10 : FVec F S1x5632 .f32 := broadcastInDim S1x5632 ![] bcast_S_S1x5632 main_cst_1
  let main_v11 : IVec S1x5632 1 := cmpf .olt main_v9 main_v10
  let main_v12 : IVec S8192x5632 1 := broadcastInDim S8192x5632 ![0, 1] bcast_S1x5632_S8192x5632_0_1 main_v11
  let main_v13 : IVec S8192x5632 1 := andi main_v7 main_v12
  let main_v14 : FVec F S1x5632 .f32 := (extractStridedSlice S1x5632 ![1, 0] · slices_S3x5632_S1x5632_1_0) main_arg1
  let main_v15 : FVec F S1x5632 .f32 := Host.absf main_v14
  let main_cst_2 : FVec F S_ .f32 := constant S_ .f32 0x7F800000#32
  let main_v16 : FVec F S1x5632 .f32 := broadcastInDim S1x5632 ![] bcast_S_S1x5632 main_cst_2
  let main_v17 : IVec S1x5632 1 := cmpf .olt main_v15 main_v16
  let main_v18 : IVec S8192x5632 1 := broadcastInDim S8192x5632 ![0, 1] bcast_S1x5632_S8192x5632_0_1 main_v17
  let main_v19 : IVec S8192x5632 1 := andi main_v13 main_v18
  fn_part1 (F := F) main_arg1 main_arg2 main_v3 main_v19
-- ==== Pre_regular_decay.lean ====
abbrev S8192x6144 : Shape := ⟨2, ![8192, 6144]⟩
abbrev S8192x256 : Shape := ⟨2, ![8192, 256]⟩
abbrev S4x4096 : Shape := ⟨2, ![4, 4096]⟩
abbrev S1x128 : Shape := ⟨2, ![1, 128]⟩
abbrev S8x8192x128 : Shape := ⟨3, ![8, 8192, 128]⟩
abbrev S16x8192x128 : Shape := ⟨3, ![16, 8192, 128]⟩
abbrev S8192x128 : Shape := ⟨2, ![8192, 128]⟩
abbrev S_ : Shape := ⟨0, ![]⟩

class Facts : Prop where
  slices_S8192x256_S8192x128_0_128 : S8192x256.Slices ![0, 128] S8192x128
  bcast_S_S8192x128 : S_.BroadcastsInDim S8192x128 (![] : Fin 0 → Fin S8192x128.rank)
  bcast_S_S1x128 : S_.BroadcastsInDim S1x128 (![] : Fin 0 → Fin S1x128.rank)
  bcast_S1x128_S8192x128_0_1 : S1x128.BroadcastsInDim S8192x128 (![0, 1] : Fin 2 → Fin S8192x128.rank)

variable [Facts]

def fn_part1 {F : FTy → Type} [FloatOps F] (main_arg9 : FVec F S8192x128 .f32) (main_v17 : IVec S8192x128 1) (main_v19 : FVec F S8192x128 .f32) : IVec S8192x128 1 :=
  let main_cst_3 : FVec F S_ .f32 := constant S_ .f32 0x00000000#32
  let main_v20 : FVec F S8192x128 .f32 := broadcastInDim S8192x128 ![] bcast_S_S8192x128 main_cst_3
  let main_v21 : IVec S8192x128 1 := cmpf .une main_v19 main_v20
  let main_cst_4 : FVec F S_ .f32 := constant S_ .f32 0x00000000#32
  let main_v22 : FVec F S8192x128 .f32 := broadcastInDim S8192x128 ![] bcast_S_S8192x128 main_cst_4
  let main_v23 : IVec S8192x128 1 := cmpf .oeq main_arg9 main_v22
  let main_v24 : IVec S8192x128 1 := ori main_v21 main_v23
  let main_v25 : IVec S8192x128 1 := andi main_v17 main_v24
  main_v25

def fn {F : FTy → Type} [FloatOps F] (main_arg0 : FVec F S8192x6144 .bf16) (main_arg1 : FVec F S8192x256 .f32) (main_arg2 : FVec F S4x4096 .f32) (main_arg3 : FVec F S1x128 .f32) (main_arg4 : FVec F S1x128 .f32) (main_arg5 : FVec F S8x8192x128 .f32) (main_arg6 : FVec F S8x8192x128 .f32) (main_arg7 : FVec F S16x8192x128 .f32) (main_arg8 : FVec F S8192x128 .f32) (main_arg9 : FVec F S8192x128 .f32) : IVec S8192x128 1 :=
  let main_v0 : FVec F S8192x128 .f32 := (extractStridedSlice S8192x128 ![0, 128] · slices_S8192x256_S8192x128_0_128) main_arg1
  let main_v1 : FVec F S8192x128 .f32 := Host.absf main_v0
  let main_cst : FVec F S_ .f32 := constant S_ .f32 0x7F800000#32
  let main_v2 : FVec F S8192x128 .f32 := broadcastInDim S8192x128 ![] bcast_S_S8192x128 main_cst
  let main_v3 : IVec S8192x128 1 := cmpf .olt main_v1 main_v2
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_v7 : IVec S8192x128 1 := broadcastInDim S8192x128 ![0, 1] bcast_S1x128_S8192x128_0_1 main_v6
  let main_v8 : IVec S8192x128 1 := andi main_v3 main_v7
  let main_v9 : FVec F S1x128 .f32 := Host.absf main_arg4
  let main_cst_1 : FVec F S_ .f32 := constant S_ .f32 0x7F800000#32
  let main_v10 : FVec F S1x128 .f32 := broadcastInDim S1x128 ![] bcast_S_S1x128 main_cst_1
  let main_v11 : IVec S1x128 1 := cmpf .olt main_v9 main_v10
  let main_v12 : IVec S8192x128 1 := broadcastInDim S8192x128 ![0, 1] bcast_S1x128_S8192x128_0_1 main_v11
  let main_v13 : IVec S8192x128 1 := andi main_v8 main_v12
  let main_v14 : FVec F S8192x128 .f32 := Host.absf main_arg9
  let main_cst_2 : FVec F S_ .f32 := constant S_ .f32 0x7F800000#32
  let main_v15 : FVec F S8192x128 .f32 := broadcastInDim S8192x128 ![] bcast_S_S8192x128 main_cst_2
  let main_v16 : IVec S8192x128 1 := cmpf .olt main_v14 main_v15
  let main_v17 : IVec S8192x128 1 := andi main_v13 main_v16
  let main_v18 : FVec F S8192x128 .f32 := broadcastInDim S8192x128 ![0, 1] bcast_S1x128_S8192x128_0_1 main_arg4
  let main_v19 : FVec F S8192x128 .f32 := addf main_v0 main_v18
  fn_part1 (F := F) main_arg9 main_v17 main_v19
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up0.lean ====
abbrev S8192x1024 : Shape := ⟨2, ![8192, 1024]⟩
abbrev S1x1024 : Shape := ⟨2, ![1, 1024]⟩
abbrev S4x2x1024x1408 : Shape := ⟨4, ![4, 2, 1024, 1408]⟩
abbrev S8192x5632 : Shape := ⟨2, ![8192, 5632]⟩
abbrev S1024x1024 : Shape := ⟨2, ![1024, 1024]⟩
abbrev S1x1x1024x1408 : Shape := ⟨4, ![1, 1, 1024, 1408]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x2x1024x1408, .bf16⟩
  | .hbm, ⟨3, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up0RefIdeal.lean ====
abbrev S8192x1024 : Shape := ⟨2, ![8192, 1024]⟩
abbrev S1x1024 : Shape := ⟨2, ![1, 1024]⟩
abbrev S4x2x1024x1408 : Shape := ⟨4, ![4, 2, 1024, 1408]⟩
abbrev S1024 : Shape := ⟨1, ![1024]⟩
abbrev S_ : Shape := ⟨0, ![]⟩
abbrev S8192 : Shape := ⟨1, ![8192]⟩
abbrev S8192x1 : Shape := ⟨2, ![8192, 1]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x2x1024x1408, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S4x2x1024x1408, .f32⟩
  | .hbm, ⟨21, _⟩ => ⟨S4x1x1024x1408, .f32⟩
  | .hbm, ⟨22, _⟩ => ⟨S4x1024x1408, .f32⟩
  | .hbm, ⟨23, _⟩ => ⟨S1024x4x1408, .f32⟩
  | .hbm, ⟨24, _⟩ => ⟨S1024x5632, .f32⟩
  | .hbm, ⟨25, _⟩ => ⟨S8192x5632, .f32⟩
  | .hbm, ⟨26, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Up1.lean ====
abbrev S8192x1024 : Shape := ⟨2, ![8192, 1024]⟩
abbrev S1x1024 : Shape := ⟨2, ![1, 1024]⟩
abbrev S4x2x1024x1408 : Shape := ⟨4, ![4, 2, 1024, 1408]⟩
abbrev S8192x5632 : Shape := ⟨2, ![8192, 5632]⟩
abbrev S1024x1024 : Shape := ⟨2, ![1024, 1024]⟩
abbrev S1x1x1024x1408 : Shape := ⟨4, ![1, 1, 1024, 1408]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x2x1024x1408, .bf16⟩
  | .hbm, ⟨3, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up1RefIdeal.lean ====
abbrev S8192x1024 : Shape := ⟨2, ![8192, 1024]⟩
abbrev S1x1024 : Shape := ⟨2, ![1, 1024]⟩
abbrev S4x2x1024x1408 : Shape := ⟨4, ![4, 2, 1024, 1408]⟩
abbrev S1024 : Shape := ⟨1, ![1024]⟩
abbrev S_ : Shape := ⟨0, ![]⟩
abbrev S8192 : Shape := ⟨1, ![8192]⟩
abbrev S8192x1 : Shape := ⟨2, ![8192, 1]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x2x1024x1408, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S4x2x1024x1408, .f32⟩
  | .hbm, ⟨21, _⟩ => ⟨S4x1x1024x1408, .f32⟩
  | .hbm, ⟨22, _⟩ => ⟨S4x1024x1408, .f32⟩
  | .hbm, ⟨23, _⟩ => ⟨S1024x4x1408, .f32⟩
  | .hbm, ⟨24, _⟩ => ⟨S1024x5632, .f32⟩
  | .hbm, ⟨25, _⟩ => ⟨S8192x5632, .f32⟩
  | .hbm, ⟨26, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GdnIn.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .bf16⟩
  | .hbm, ⟨3, _⟩ => ⟨S8192x6144, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdnInRefIdeal.lean ====
abbrev S8192x1024 : Shape := ⟨2, ![8192, 1024]⟩
abbrev S1x1024 : Shape := ⟨2, ![1, 1024]⟩
abbrev S1024x6144 : Shape := ⟨2, ![1024, 6144]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x6144, .f32⟩
  | .hbm, ⟨21, _⟩ => ⟨S8192x6144, .f32⟩
  | .hbm, ⟨22, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== GdnOut.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdnOutRefIdeal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GdnOutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S8192x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnOutDxRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x2048, .f32⟩
  | .hbm, ⟨7, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QProj.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QProjRefIdeal.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x1024, .f32⟩
  | .hbm, ⟨21, _⟩ => ⟨S8192x1024, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KvProj.lean ====
abbrev S8192x1024 : Shape := ⟨2, ![8192, 1024]⟩
abbrev S1x1024 : Shape := ⟨2, ![1, 1024]⟩
abbrev S1024x512 : Shape := ⟨2, ![1024, 512]⟩
abbrev S8192x512 : Shape := ⟨2, ![8192, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x512, .bf16⟩
  | .hbm, ⟨3, _⟩ => ⟨S8192x512, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1x1024, .f32⟩
  | .local _ .vmem, ⟨4, _⟩ => ⟨S1024x512, .bf16⟩
  | .local _ .vmem, ⟨5, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KvProjRefIdeal.lean ====
abbrev S8192x1024 : Shape := ⟨2, ![8192, 1024]⟩
abbrev S1x1024 : Shape := ⟨2, ![1, 1024]⟩
abbrev S1024x512 : Shape := ⟨2, ![1024, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x512 : Shape := ⟨2, ![8192, 512]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x512, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x512, .f32⟩
  | .hbm, ⟨21, _⟩ => ⟨S8192x512, .f32⟩
  | .hbm, ⟨22, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OProj.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OProjRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OProjDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OProjDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QDw.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== QDwRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S1024x1024, .f32⟩
  | .hbm, ⟨23, _⟩ => ⟨S8192x1024, .f32⟩
  | .hbm, ⟨24, _⟩ => ⟨S1024x1024, .f32⟩
  | .hbm, ⟨25, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KvDw.lean ====
abbrev S8192x1024 : Shape := ⟨2, ![8192, 1024]⟩
abbrev S1x1024 : Shape := ⟨2, ![1, 1024]⟩
abbrev S8192x512 : Shape := ⟨2, ![8192, 512]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x512, .bf16⟩
  | .hbm, ⟨3, _⟩ => ⟨S1024x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== KvDwRefIdeal.lean ====
abbrev S8192x1024 : Shape := ⟨2, ![8192, 1024]⟩
abbrev S1x1024 : Shape := ⟨2, ![1, 1024]⟩
abbrev S8192x512 : Shape := ⟨2, ![8192, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x512 : Shape := ⟨2, ![1024, 512]⟩
abbrev S512x1024 : Shape := ⟨2, ![512, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x512, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S_, .f32⟩
  | .hbm, ⟨22, _⟩ => ⟨S1024x512, .f32⟩
  | .hbm, ⟨23, _⟩ => ⟨S8192x512, .f32⟩
  | .hbm, ⟨24, _⟩ => ⟨S512x1024, .f32⟩
  | .hbm, ⟨25, _⟩ => ⟨S1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== ODw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ODwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GdnOutDw.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnOutDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S1024x2048, .f32⟩
  | .hbm, ⟨7, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GdnInDw.lean ====
abbrev S8192x1024 : Shape := ⟨2, ![8192, 1024]⟩
abbrev S1x1024 : Shape := ⟨2, ![1, 1024]⟩
abbrev S8192x6144 : Shape := ⟨2, ![8192, 6144]⟩
abbrev S1024x6144 : Shape := ⟨2, ![1024, 6144]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x6144, .bf16⟩
  | .hbm, ⟨3, _⟩ => ⟨S1024x6144, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 6, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdnInDwRefIdeal.lean ====
abbrev S8192x1024 : Shape := ⟨2, ![8192, 1024]⟩
abbrev S1x1024 : Shape := ⟨2, ![1, 1024]⟩
abbrev S8192x6144 : Shape := ⟨2, ![8192, 6144]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x6144 : Shape := ⟨2, ![1024, 6144]⟩
abbrev S6144x1024 : Shape := ⟨2, ![6144, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x6144, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x6144, .f32⟩
  | .hbm, ⟨21, _⟩ => ⟨S_, .f32⟩
  | .hbm, ⟨22, _⟩ => ⟨S1024x6144, .f32⟩
  | .hbm, ⟨23, _⟩ => ⟨S8192x6144, .f32⟩
  | .hbm, ⟨24, _⟩ => ⟨S6144x1024, .f32⟩
  | .hbm, ⟨25, _⟩ => ⟨S1024x6144, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Up1Dw.lean ====
abbrev S8192x1024 : Shape := ⟨2, ![8192, 1024]⟩
abbrev S1x1024 : Shape := ⟨2, ![1, 1024]⟩
abbrev S8192x5632 : Shape := ⟨2, ![8192, 5632]⟩
abbrev S4x2x1024x1408 : Shape := ⟨4, ![4, 2, 1024, 1408]⟩
abbrev S1024x1024 : Shape := ⟨2, ![1024, 1024]⟩
abbrev S1024x1408 : Shape := ⟨2, ![1024, 1408]⟩
abbrev S1x1x1024x1408 : Shape := ⟨4, ![1, 1, 1024, 1408]⟩
abbrev S1024 : Shape := ⟨1, ![1024]⟩
abbrev S1024x1 : Shape := ⟨2, ![1024, 1]⟩
abbrev S4x1x1024x1408 : Shape := ⟨4, ![4, 1, 1024, 1408]⟩
abbrev S4x1024x1408 : Shape := ⟨3, ![4, 1024, 1408]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S4x2x1024x1408, .f32⟩
  | .hbm, ⟨4, _⟩ => ⟨S4x1x1024x1408, .f32⟩
  | .hbm, ⟨5, _⟩ => ⟨S4x1024x1408, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1024, .f32⟩
  | .local _ .vmem, ⟨5, _⟩ => ⟨S1x1x1024x1408, .f32⟩
  | .local _ .vmem, ⟨6, _⟩ => ⟨S1x1x1024x1408, .f32⟩
  | .local _ .vmem, ⟨7, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up1DwRefIdeal.lean ====
abbrev S8192x1024 : Shape := ⟨2, ![8192, 1024]⟩
abbrev S1x1024 : Shape := ⟨2, ![1, 1024]⟩
abbrev S8192x5632 : Shape := ⟨2, ![8192, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S_, .f32⟩
  | .hbm, ⟨22, _⟩ => ⟨S1024x5632, .f32⟩
  | .hbm, ⟨23, _⟩ => ⟨S8192x5632, .f32⟩
  | .hbm, ⟨24, _⟩ => ⟨S5632x1024, .f32⟩
  | .hbm, ⟨25, _⟩ => ⟨S1024x5632, .f32⟩
  | .hbm, ⟨26, _⟩ => ⟨S1024x4x1408, .f32⟩
  | .hbm, ⟨27, _⟩ => ⟨S4x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Up0Dw.lean ====
abbrev S8192x1024 : Shape := ⟨2, ![8192, 1024]⟩
abbrev S1x1024 : Shape := ⟨2, ![1, 1024]⟩
abbrev S8192x5632 : Shape := ⟨2, ![8192, 5632]⟩
abbrev S4x2x1024x1408 : Shape := ⟨4, ![4, 2, 1024, 1408]⟩
abbrev S1024x1024 : Shape := ⟨2, ![1024, 1024]⟩
abbrev S1024x1408 : Shape := ⟨2, ![1024, 1408]⟩
abbrev S1x1x1024x1408 : Shape := ⟨4, ![1, 1, 1024, 1408]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S4x2x1024x1408, .f32⟩
  | .hbm, ⟨4, _⟩ => ⟨S4x2x1024x1408, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1024, .f32⟩
  | .local _ .vmem, ⟨5, _⟩ => ⟨S1x1x1024x1408, .f32⟩
  | .local _ .vmem, ⟨6, _⟩ => ⟨S1x1x1024x1408, .f32⟩
  | .local _ .vmem, ⟨7, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Up0DwRefIdeal.lean ====
abbrev S8192x1024 : Shape := ⟨2, ![8192, 1024]⟩
abbrev S1x1024 : Shape := ⟨2, ![1, 1024]⟩
abbrev S8192x5632 : Shape := ⟨2, ![8192, 5632]⟩
abbrev S4x2x1024x1408 : Shape := ⟨4, ![4, 2, 1024, 1408]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x5632, .bf16⟩
  | .hbm, ⟨3, _⟩ => ⟨S4x2x1024x1408, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S_, .f32⟩
  | .hbm, ⟨23, _⟩ => ⟨S1024x5632, .f32⟩
  | .hbm, ⟨24, _⟩ => ⟨S8192x5632, .f32⟩
  | .hbm, ⟨25, _⟩ => ⟨S5632x1024, .f32⟩
  | .hbm, ⟨26, _⟩ => ⟨S1024x5632, .f32⟩
  | .hbm, ⟨27, _⟩ => ⟨S1024x4x1408, .f32⟩
  | .hbm, ⟨28, _⟩ => ⟨S4x1024x1408, .f32⟩
  | .hbm, ⟨29, _⟩ => ⟨S4x1x1024x1408, .f32⟩
  | .hbm, ⟨30, _⟩ => ⟨S4x1024x1408, .f32⟩
  | .hbm, ⟨31, _⟩ => ⟨S4x1x1024x1408, .f32⟩
  | .hbm, ⟨32, _⟩ => ⟨S4x1x1024x1408, .f32⟩
  | .hbm, ⟨33, _⟩ => ⟨S4x2x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Down1Dw.lean ====
abbrev S8192x2816 : Shape := ⟨2, ![8192, 2816]⟩
abbrev S8192x1024 : Shape := ⟨2, ![8192, 1024]⟩
abbrev S2x2x2x704x1024 : Shape := ⟨5, ![2, 2, 2, 704, 1024]⟩
abbrev S1024x1408 : Shape := ⟨2, ![1024, 1408]⟩
abbrev S1024x1024 : Shape := ⟨2, ![1024, 1024]⟩
abbrev S1x2x1x704x1024 : Shape := ⟨5, ![1, 2, 1, 704, 1024]⟩
abbrev S1408x1024 : Shape := ⟨2, ![1408, 1024]⟩
abbrev S2x704x1024 : Shape := ⟨3, ![2, 704, 1024]⟩
abbrev S2x2x1x704x1024 : Shape := ⟨5, ![2, 2, 1, 704, 1024]⟩
abbrev S2x2x704x1024 : Shape := ⟨4, ![2, 2, 704, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2x2x2x704x1024, .f32⟩
  | .hbm, ⟨3, _⟩ => ⟨S2x2x1x704x1024, .f32⟩
  | .hbm, ⟨4, _⟩ => ⟨S2x2x704x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x2x1x704x1024, .f32⟩
  | .local _ .vmem, ⟨5, _⟩ => ⟨S1x2x1x704x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![arg0.toNat, c0_i32.toNat, c1_i32.toNat, c0_i32_0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down1DwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S2x2x704x1024 : Shape := ⟨4, ![2, 2, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2x2x704x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Down0Dw.lean ====
abbrev S8192x2816 : Shape := ⟨2, ![8192, 2816]⟩
abbrev S8192x1024 : Shape := ⟨2, ![8192, 1024]⟩
abbrev S2x2x2x704x1024 : Shape := ⟨5, ![2, 2, 2, 704, 1024]⟩
abbrev S1024x1408 : Shape := ⟨2, ![1024, 1408]⟩
abbrev S1024x1024 : Shape := ⟨2, ![1024, 1024]⟩
abbrev S1x2x1x704x1024 : Shape := ⟨5, ![1, 2, 1, 704, 1024]⟩
abbrev S1408x1024 : Shape := ⟨2, ![1408, 1024]⟩
abbrev S2x704x1024 : Shape := ⟨3, ![2, 704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2x2x2x704x1024, .f32⟩
  | .hbm, ⟨3, _⟩ => ⟨S2x2x2x704x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x2x1x704x1024, .f32⟩
  | .local _ .vmem, ⟨5, _⟩ => ⟨S1x2x1x704x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Down0DwRefIdeal.lean ====
abbrev S8192x2816 : Shape := ⟨2, ![8192, 2816]⟩
abbrev S8192x1024 : Shape := ⟨2, ![8192, 1024]⟩
abbrev S2x2x2x704x1024 : Shape := ⟨5, ![2, 2, 2, 704, 1024]⟩
abbrev S_ : Shape := ⟨0, ![]⟩
abbrev S2816x1024 : Shape := ⟨2, ![2816, 1024]⟩
abbrev S1024x2816 : Shape := ⟨2, ![1024, 2816]⟩
abbrev S2x2x704x1024 : Shape := ⟨4, ![2, 2, 704, 1024]⟩
abbrev S2x2x1x704x1024 : Shape := ⟨5, ![2, 2, 1, 704, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2x2x2x704x1024, .f32⟩
  | .hbm, ⟨3, _⟩ => ⟨S8192x2816, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2x2x704x1024, .f32⟩
  | .hbm, ⟨10, _⟩ => ⟨S2x2x1x704x1024, .f32⟩
  | .hbm, ⟨11, _⟩ => ⟨S2x2x704x1024, .f32⟩
  | .hbm, ⟨12, _⟩ => ⟨S2x2x1x704x1024, .f32⟩
  | .hbm, ⟨13, _⟩ => ⟨S2x2x1x704x1024, .f32⟩
  | .hbm, ⟨14, _⟩ => ⟨S2x2x2x704x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Up1Dx.lean ====
abbrev S8192x5632 : Shape := ⟨2, ![8192, 5632]⟩
abbrev S4x2x1024x1408 : Shape := ⟨4, ![4, 2, 1024, 1408]⟩
abbrev S8192x1024 : Shape := ⟨2, ![8192, 1024]⟩
abbrev S1x1024 : Shape := ⟨2, ![1, 1024]⟩
abbrev S512x1408 : Shape := ⟨2, ![512, 1408]⟩
abbrev S1x1x1024x1408 : Shape := ⟨4, ![1, 1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S4x2x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v52 : BitVec 32 := Scalar.extui v0
  let c0_i32_26 : BitVec 32 := 0#32
  let v53 : BitVec 1 := Scalar.cmpi .ne v52 c0_i32_26
  v53

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v54 : BitVec 1 := Scalar.xori v0 v_true
  let v55 : BitVec 32 := Scalar.extui v54
  let c0_i32_27 : BitVec 32 := 0#32
  let v56 : BitVec 1 := Scalar.cmpi .ne v55 c0_i32_27
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Up1DxRefIdeal.lean ====
abbrev S8192x5632 : Shape := ⟨2, ![8192, 5632]⟩
abbrev S4x2x1024x1408 : Shape := ⟨4, ![4, 2, 1024, 1408]⟩
abbrev S8192x1024 : Shape := ⟨2, ![8192, 1024]⟩
abbrev S1x1024 : Shape := ⟨2, ![1, 1024]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S4x2x1024x1408, .f32⟩
  | .hbm, ⟨6, _⟩ => ⟨S4x1x1024x1408, .f32⟩
  | .hbm, ⟨7, _⟩ => ⟨S4x1024x1408, .f32⟩
  | .hbm, ⟨8, _⟩ => ⟨S1024x4x1408, .f32⟩
  | .hbm, ⟨9, _⟩ => ⟨S1024x5632, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x5632, .f32⟩
  | .hbm, ⟨32, _⟩ => ⟨S8192x5632, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Up0Dx.lean ====
abbrev S8192x5632 : Shape := ⟨2, ![8192, 5632]⟩
abbrev S4x2x1024x1408 : Shape := ⟨4, ![4, 2, 1024, 1408]⟩
abbrev S8192x1024 : Shape := ⟨2, ![8192, 1024]⟩
abbrev S1x1024 : Shape := ⟨2, ![1, 1024]⟩
abbrev S512x1408 : Shape := ⟨2, ![512, 1408]⟩
abbrev S1x1x1024x1408 : Shape := ⟨4, ![1, 1, 1024, 1408]⟩
abbrev S512x1024 : Shape := ⟨2, ![512, 1024]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S4x2x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v52 : BitVec 32 := Scalar.extui v0
  let c0_i32_26 : BitVec 32 := 0#32
  let v53 : BitVec 1 := Scalar.cmpi .ne v52 c0_i32_26
  v53

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v54 : BitVec 1 := Scalar.xori v0 v_true
  let v55 : BitVec 32 := Scalar.extui v54
  let c0_i32_27 : BitVec 32 := 0#32
  let v56 : BitVec 1 := Scalar.cmpi .ne v55 c0_i32_27
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Up0DxRefIdeal.lean ====
abbrev S8192x5632 : Shape := ⟨2, ![8192, 5632]⟩
abbrev S4x2x1024x1408 : Shape := ⟨4, ![4, 2, 1024, 1408]⟩
abbrev S8192x1024 : Shape := ⟨2, ![8192, 1024]⟩
abbrev S1x1024 : Shape := ⟨2, ![1, 1024]⟩
abbrev S4x1x1024x1408 : Shape := ⟨4, ![4, 1, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 61
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x2x1024x1408, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S4x2x1024x1408, .f32⟩
  | .hbm, ⟨6, _⟩ => ⟨S4x1x1024x1408, .f32⟩
  | .hbm, ⟨7, _⟩ => ⟨S4x1024x1408, .f32⟩
  | .hbm, ⟨8, _⟩ => ⟨S1024x4x1408, .f32⟩
  | .hbm, ⟨9, _⟩ => ⟨S1024x5632, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x5632, .f32⟩
  | .hbm, ⟨32, _⟩ => ⟨S8192x5632, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== QProjDx.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v41 : BitVec 32 := Scalar.extui v0
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v43 : BitVec 1 := Scalar.xori v0 v_true
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== QProjDxRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KvProjDx.lean ====
abbrev S8192x512 : Shape := ⟨2, ![8192, 512]⟩
abbrev S1024x512 : Shape := ⟨2, ![1024, 512]⟩
abbrev S8192x1024 : Shape := ⟨2, ![8192, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v41 : BitVec 32 := Scalar.extui v0
  let c0_i32_17 : BitVec 32 := 0#32
  let v42 : BitVec 1 := Scalar.cmpi .ne v41 c0_i32_17
  v42

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v43 : BitVec 1 := Scalar.xori v0 v_true
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== KvProjDxRefIdeal.lean ====
abbrev S8192x512 : Shape := ⟨2, ![8192, 512]⟩
abbrev S1024x512 : Shape := ⟨2, ![1024, 512]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x512, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== GdnInBaDx.lean ====
abbrev S8192x256 : Shape := ⟨2, ![8192, 256]⟩
abbrev S1024x256 : Shape := ⟨2, ![1024, 256]⟩
abbrev S8192x1024 : Shape := ⟨2, ![8192, 1024]⟩
abbrev S1x1024 : Shape := ⟨2, ![1, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S1024x256, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .local _ .vmem, ⟨0, _⟩ => ⟨S512x256, .f32⟩
  | .local _ .vmem, ⟨1, _⟩ => ⟨S512x256, .f32⟩
  | .local _ .vmem, ⟨2, _⟩ => ⟨S1024x256, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v44 : BitVec 32 := Scalar.extui v0
  let c0_i32_19 : BitVec 32 := 0#32
  let v45 : BitVec 1 := Scalar.cmpi .ne v44 c0_i32_19
  v45

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v46 : BitVec 1 := Scalar.xori v0 v_true
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== GdnInBaDxRefIdeal.lean ====
abbrev S8192x256 : Shape := ⟨2, ![8192, 256]⟩
abbrev S1024x256 : Shape := ⟨2, ![1024, 256]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S1024x256, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x256, .f32⟩
  | .hbm, ⟨28, _⟩ => ⟨S8192x256, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== AdamAWIn.lean ====
abbrev S1024x1544 : Shape := ⟨2, ![1024, 1544]⟩
abbrev S256x1544 : Shape := ⟨2, ![256, 1544]⟩

abbrev nBuf : Space → Nat
  | .hbm => 7
  | .vmem => 14
  | .smem => 0
  | _ => 0

abbrev bufTy : (tb : Table) → Fin (tcTables nBuf tb) → BufTy
  | .hbm, ⟨0, _⟩ => ⟨S1024x1544, .f32⟩
  | .hbm, ⟨1, _⟩ => ⟨S1024x1544, .f32⟩
  | .hbm, ⟨2, _⟩ => ⟨S1024x1544, .f32⟩
  | .hbm, ⟨3, _⟩ => ⟨S1024x1544, .f32⟩
  | .hbm, ⟨4, _⟩ => ⟨S1024x1544, .f32⟩
  | .hbm, ⟨5, _⟩ => ⟨S1024x1544, .f32⟩
  | .hbm, ⟨6, _⟩ => ⟨S1024x1544, .f32⟩
  | .local _ .vmem, ⟨0, _⟩ => ⟨S256x1544, .f32⟩
  | .local _ .vmem, ⟨1, _⟩ => ⟨S256x1544, .f32⟩
  | .local _ .vmem, ⟨2, _⟩ => ⟨S256x1544, .f32⟩
  | .local _ .vmem, ⟨3, _⟩ => ⟨S256x1544, .f32⟩
  | .local _ .vmem, ⟨4, _⟩ => ⟨S256x1544, .f32⟩
  | .local _ .vmem, ⟨5, _⟩ => ⟨S256x1544, .f32⟩
  | .local _ .vmem, ⟨6, _⟩ => ⟨S256x1544, .f32⟩
  | .local _ .vmem, ⟨7, _⟩ => ⟨S256x1544, .f32⟩
  | .local _ .vmem, ⟨8, _⟩ => ⟨S256x1544, .f32⟩
  | .local _ .vmem, ⟨9, _⟩ => ⟨S256x1544, .f32⟩
  | .local _ .vmem, ⟨10, _⟩ => ⟨S256x1544, .f32⟩
  | .local _ .vmem, ⟨11, _⟩ => ⟨S256x1544, .f32⟩
  | .local _ .vmem, ⟨12, _⟩ => ⟨S256x1544, .f32⟩
  | .local _ .vmem, ⟨13, _⟩ => ⟨S256x1544, .f32⟩
  | _, _ => ⟨S1024x1544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1544 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1544 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1544 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1544 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1544 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAWInRefIdeal.lean ====
abbrev S1024x1544 : Shape := ⟨2, ![1024, 1544]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1544, .f32⟩
  | .hbm, ⟨1, _⟩ => ⟨S1024x1544, .f32⟩
  | .hbm, ⟨2, _⟩ => ⟨S1024x1544, .f32⟩
  | .hbm, ⟨3, _⟩ => ⟨S1024x1544, .f32⟩
  | .hbm, ⟨4, _⟩ => ⟨S_, .f32⟩
  | .hbm, ⟨5, _⟩ => ⟨S1024x1544, .f32⟩
  | .hbm, ⟨6, _⟩ => ⟨S1024x1544, .f32⟩
  | .hbm, ⟨7, _⟩ => ⟨S_, .f32⟩
  | .hbm, ⟨8, _⟩ => ⟨S1024x1544, .f32⟩
  | .hbm, ⟨9, _⟩ => ⟨S1024x1544, .f32⟩
  | .hbm, ⟨10, _⟩ => ⟨S1024x1544, .f32⟩
  | .hbm, ⟨11, _⟩ => ⟨S_, .f32⟩
  | .hbm, ⟨12, _⟩ => ⟨S1024x1544, .f32⟩
  | .hbm, ⟨13, _⟩ => ⟨S1024x1544, .f32⟩
  | .hbm, ⟨14, _⟩ => ⟨S1024x1544, .f32⟩
  | .hbm, ⟨15, _⟩ => ⟨S_, .f32⟩
  | .hbm, ⟨16, _⟩ => ⟨S1024x1544, .f32⟩
  | .hbm, ⟨17, _⟩ => ⟨S1024x1544, .f32⟩
  | .hbm, ⟨18, _⟩ => ⟨S1024x1544, .f32⟩
  | .hbm, ⟨19, _⟩ => ⟨S_, .f32⟩
  | .hbm, ⟨20, _⟩ => ⟨S1024x1544, .f32⟩
  | .hbm, ⟨21, _⟩ => ⟨S1024x1544, .f32⟩
  | .hbm, ⟨22, _⟩ => ⟨S_, .f32⟩
  | .hbm, ⟨23, _⟩ => ⟨S1024x1544, .f32⟩
  | .hbm, ⟨24, _⟩ => ⟨S1024x1544, .f32⟩
  | .hbm, ⟨25, _⟩ => ⟨S1024x1544, .f32⟩
  | .hbm, ⟨26, _⟩ => ⟨S_, .f32⟩
  | .hbm, ⟨27, _⟩ => ⟨S1024x1544, .f32⟩
  | .hbm, ⟨28, _⟩ => ⟨S1024x1544, .f32⟩
  | .hbm, ⟨29, _⟩ => ⟨S1024x1544, .f32⟩
  | .hbm, ⟨30, _⟩ => ⟨S_, .f32⟩
  | .hbm, ⟨31, _⟩ => ⟨S1024x1544, .f32⟩
  | .hbm, ⟨32, _⟩ => ⟨S1024x1544, .f32⟩
  | .hbm, ⟨33, _⟩ => ⟨S1024x1544, .f32⟩
  | .hbm, ⟨34, _⟩ => ⟨S_, .f32⟩
  | .hbm, ⟨35, _⟩ => ⟨S1024x1544, .f32⟩
  | .hbm, ⟨36, _⟩ => ⟨S1024x1544, .f32⟩
  | _, _ => ⟨S1024x1544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAWOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAWOutRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWKv.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWKvRefIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBWQ.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBWQRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBWO.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBWORefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S240x128 : Shape := ⟨2, ![240, 128]⟩
abbrev S16x128 : Shape := ⟨2, ![16, 128]⟩

abbrev nBuf : Space → Nat
  | .hbm => 7
  | .vmem => 14
  | .smem => 0
  | _ => 0

abbrev bufTy : (tb : Table) → Fin (tcTables nBuf tb) → BufTy
  | .hbm, ⟨0, _⟩ => ⟨S240x128, .f32⟩
  | .hbm, ⟨1, _⟩ => ⟨S240x128, .f32⟩
  | .hbm, ⟨2, _⟩ => ⟨S240x128, .f32⟩
  | .hbm, ⟨3, _⟩ => ⟨S240x128, .f32⟩
  | .hbm, ⟨4, _⟩ => ⟨S240x128, .f32⟩
  | .hbm, ⟨5, _⟩ => ⟨S240x128, .f32⟩
  | .hbm, ⟨6, _⟩ => ⟨S240x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | _, _ => ⟨S240x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S240x128 : Shape := ⟨2, ![240, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S240x128, .f32⟩
  | .hbm, ⟨1, _⟩ => ⟨S240x128, .f32⟩
  | .hbm, ⟨2, _⟩ => ⟨S240x128, .f32⟩
  | .hbm, ⟨3, _⟩ => ⟨S240x128, .f32⟩
  | .hbm, ⟨4, _⟩ => ⟨S_, .f32⟩
  | .hbm, ⟨5, _⟩ => ⟨S240x128, .f32⟩
  | .hbm, ⟨6, _⟩ => ⟨S240x128, .f32⟩
  | .hbm, ⟨7, _⟩ => ⟨S_, .f32⟩
  | .hbm, ⟨8, _⟩ => ⟨S240x128, .f32⟩
  | .hbm, ⟨9, _⟩ => ⟨S240x128, .f32⟩
  | .hbm, ⟨10, _⟩ => ⟨S240x128, .f32⟩
  | .hbm, ⟨11, _⟩ => ⟨S_, .f32⟩
  | .hbm, ⟨12, _⟩ => ⟨S240x128, .f32⟩
  | .hbm, ⟨13, _⟩ => ⟨S240x128, .f32⟩
  | .hbm, ⟨14, _⟩ => ⟨S240x128, .f32⟩
  | .hbm, ⟨15, _⟩ => ⟨S_, .f32⟩
  | .hbm, ⟨16, _⟩ => ⟨S240x128, .f32⟩
  | .hbm, ⟨17, _⟩ => ⟨S240x128, .f32⟩
  | .hbm, ⟨18, _⟩ => ⟨S240x128, .f32⟩
  | .hbm, ⟨19, _⟩ => ⟨S_, .f32⟩
  | .hbm, ⟨20, _⟩ => ⟨S240x128, .f32⟩
  | .hbm, ⟨21, _⟩ => ⟨S240x128, .f32⟩
  | .hbm, ⟨22, _⟩ => ⟨S_, .f32⟩
  | .hbm, ⟨23, _⟩ => ⟨S240x128, .f32⟩
  | .hbm, ⟨24, _⟩ => ⟨S240x128, .f32⟩
  | .hbm, ⟨25, _⟩ => ⟨S240x128, .f32⟩
  | .hbm, ⟨26, _⟩ => ⟨S_, .f32⟩
  | .hbm, ⟨27, _⟩ => ⟨S240x128, .f32⟩
  | .hbm, ⟨28, _⟩ => ⟨S240x128, .f32⟩
  | .hbm, ⟨29, _⟩ => ⟨S240x128, .f32⟩
  | .hbm, ⟨30, _⟩ => ⟨S_, .f32⟩
  | .hbm, ⟨31, _⟩ => ⟨S240x128, .f32⟩
  | .hbm, ⟨32, _⟩ => ⟨S240x128, .f32⟩
  | .hbm, ⟨33, _⟩ => ⟨S240x128, .f32⟩
  | .hbm, ⟨34, _⟩ => ⟨S_, .f32⟩
  | .hbm, ⟨35, _⟩ => ⟨S240x128, .f32⟩
  | .hbm, ⟨36, _⟩ => ⟨S240x128, .f32⟩
  | _, _ => ⟨S240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== GdnInBaDw.lean ====
abbrev S8192x1024 : Shape := ⟨2, ![8192, 1024]⟩
abbrev S1x1024 : Shape := ⟨2, ![1, 1024]⟩
abbrev S8192x256 : Shape := ⟨2, ![8192, 256]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x256, .f32⟩
  | .hbm, ⟨3, _⟩ => ⟨S1024x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1024x256, .f32⟩
  | .local _ .vmem, ⟨6, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== GdnInBaDwRefIdeal.lean ====
abbrev S8192x1024 : Shape := ⟨2, ![8192, 1024]⟩
abbrev S1x1024 : Shape := ⟨2, ![1, 1024]⟩
abbrev S8192x256 : Shape := ⟨2, ![8192, 256]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S256x1024 : Shape := ⟨2, ![256, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x256, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1024x256, .f32⟩
  | .hbm, ⟨22, _⟩ => ⟨S8192x256, .f32⟩
  | .hbm, ⟨23, _⟩ => ⟨S256x1024, .f32⟩
  | .hbm, ⟨24, _⟩ => ⟨S1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== RelBiasDw.lean ====
abbrev S16x128x256 : Shape := ⟨3, ![16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32768 : Shape := ⟨1, ![32768]⟩
abbrev S1x32768 : Shape := ⟨2, ![1, 32768]⟩
abbrev S32 : Shape := ⟨1, ![32]⟩
abbrev S32x1 : Shape := ⟨2, ![32, 1]⟩
abbrev S32x32768 : Shape := ⟨2, ![32, 32768]⟩
abbrev S16x32768 : Shape := ⟨2, ![16, 32768]⟩
abbrev S32x16 : Shape := ⟨2, ![32, 16]⟩
abbrev S32x1024 : Shape := ⟨2, ![32, 1024]⟩
abbrev S16x1024 : Shape := ⟨2, ![16, 1024]⟩

abbrev nBuf : Space → Nat
  | .hbm => 49
  | .vmem => 6
  | .smem => 0
  | _ => 0

abbrev bufTy : (tb : Table) → Fin (tcTables nBuf tb) → BufTy
  | .hbm, ⟨0, _⟩ => ⟨S16x128x256, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S32768, .i32⟩
  | .hbm, ⟨40, _⟩ => ⟨S1x32768, .i32⟩
  | .hbm, ⟨41, _⟩ => ⟨S32, .i32⟩
  | .hbm, ⟨42, _⟩ => ⟨S32x1, .i32⟩
  | .hbm, ⟨43, _⟩ => ⟨S32x32768, .i32⟩
  | .hbm, ⟨44, _⟩ => ⟨S32x32768, .i32⟩
  | .hbm, ⟨45, _⟩ => ⟨S32x32768, .i1⟩
  | .hbm, ⟨46, _⟩ => ⟨S32x32768, .f32⟩
  | .hbm, ⟨47, _⟩ => ⟨S16x32768, .f32⟩
  | .hbm, ⟨48, _⟩ => ⟨S32x16, .f32⟩
  | .local _ .vmem, ⟨0, _⟩ => ⟨S32x1024, .f32⟩
  | .local _ .vmem, ⟨1, _⟩ => ⟨S32x1024, .f32⟩
  | .local _ .vmem, ⟨2, _⟩ => ⟨S16x1024, .f32⟩
  | .local _ .vmem, ⟨3, _⟩ => ⟨S16x1024, .f32⟩
  | .local _ .vmem, ⟨4, _⟩ => ⟨S32x16, .f32⟩
  | .local _ .vmem, ⟨5, _⟩ => ⟨S32x16, .f32⟩
  | _, _ => ⟨S16x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 32], ![false, false, false]⟩

def k0_cond3 (i : grid0.Coords) : BitVec 1 :=
  let arg2 : BitVec 32 := BitVec.ofNat 32 (i 2).val
  let c31_i32 : BitVec 32 := 31#32
  let v11 : BitVec 1 := Scalar.cmpi .eq arg2 c31_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RelBiasDwRefIdeal.lean ====
abbrev S16x128x256 : Shape := ⟨3, ![16, 128, 256]⟩
abbrev S_ : Shape := ⟨0, ![]⟩
abbrev S32x16 : Shape := ⟨2, ![32, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩

abbrev nBuf : Space → Nat
  | .hbm => 55
  | .vmem => 0
  | .smem => 0
  | _ => 0

abbrev bufTy : (tb : Table) → Fin (tcTables nBuf tb) → BufTy
  | .hbm, ⟨0, _⟩ => ⟨S16x128x256, .f32⟩
  | .hbm, ⟨1, _⟩ => ⟨S_, .f32⟩
  | .hbm, ⟨2, _⟩ => ⟨S32x16, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i32⟩
  | .hbm, ⟨19, _⟩ => ⟨S128x256, .f32⟩
  | .hbm, ⟨20, _⟩ => ⟨S_, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S_, .f32⟩
  | .hbm, ⟨25, _⟩ => ⟨S128x256, .f32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .i32⟩
  | .hbm, ⟨31, _⟩ => ⟨S_, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i32⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S128x256x1, .i32⟩
  | .hbm, ⟨49, _⟩ => ⟨S128x256x16, .f32⟩
  | .hbm, ⟨50, _⟩ => ⟨S16x128x256, .f32⟩
  | .hbm, ⟨51, _⟩ => ⟨S128x256x16, .f32⟩
  | .hbm, ⟨52, _⟩ => ⟨S_, .f32⟩
  | .hbm, ⟨53, _⟩ => ⟨S32x16, .f32⟩
  | .hbm, ⟨54, _⟩ => ⟨S32x16, .f32⟩
  | _, _ => ⟨S16x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_v23 : Ref sig .tc := ⟨.hbm, 32, rfl⟩
abbrev main_v24 : Ref sig .tc := ⟨.hbm, 33, rfl⟩
abbrev main_c_6 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_8 : Ref sig .tc := ⟨.hbm, 41, rfl⟩
abbrev main_v30 : Ref sig .tc := ⟨.hbm, 42, rfl⟩
abbrev main_v31 : Ref sig .tc := ⟨.hbm, 43, rfl⟩
abbrev main_c_9 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Final.lean ====
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8x128, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_17 : BitVec 32 := 0#32
  let v54 : BitVec 1 := Scalar.cmpi .ne v53 c0_i32_17
  v54

def k0_cond2 (i : grid0.Coords) : BitVec 1 :=
  let arg0 : BitVec 32 := BitVec.ofNat 32 (i 0).val
  let c0_i32_18 : BitVec 32 := 0#32
  let v55 : BitVec 1 := Scalar.cmpi .sgt arg0 c0_i32_18
  let v56 : BitVec 32 := Scalar.extui v55
  let c0_i32_19 : BitVec 32 := 0#32
  let v57 : BitVec 1 := Scalar.cmpi .ne v56 c0_i32_19
  v57

def k0_cond3 (i : grid0.Coords) : BitVec 1 :=
  let arg0 : BitVec 32 := BitVec.ofNat 32 (i 0).val
  let c0_i32_22 : BitVec 32 := 0#32
  let v59 : BitVec 1 := Scalar.cmpi .eq arg0 c0_i32_22
  let v60 : BitVec 32 := Scalar.extui v59
  let c0_i32_23 : BitVec 32 := 0#32
  let v61 : BitVec 1 := Scalar.cmpi .ne v60 c0_i32_23
  v61

def k0_cond4 (i : grid0.Coords) : BitVec 1 :=
  let arg0 : BitVec 32 := BitVec.ofNat 32 (i 0).val
  let c0_i32_24 : BitVec 32 := 0#32
  let v62 : BitVec 1 := Scalar.cmpi .sgt arg0 c0_i32_24
  let v63 : BitVec 32 := Scalar.extui v62
  let c0_i32_25 : BitVec 32 := 0#32
  let v64 : BitVec 1 := Scalar.cmpi .ne v63 c0_i32_25
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinalRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== GnormBwd.lean ====
abbrev S16x8192x128 : Shape := ⟨3, ![16, 8192, 128]⟩
abbrev S8192x6144 : Shape := ⟨2, ![8192, 6144]⟩
abbrev S1x128 : Shape := ⟨2, ![1, 128]⟩
abbrev S8192x2048 : Shape := ⟨2, ![8192, 2048]⟩
abbrev S16x128x128 : Shape := ⟨3, ![16, 128, 128]⟩
abbrev S128x2048 : Shape := ⟨2, ![128, 2048]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x8192x128, .bf16⟩
  | .hbm, ⟨1, _⟩ => ⟨S8192x6144, .bf16⟩
  | .hbm, ⟨2, _⟩ => ⟨S1x128, .f32⟩
  | .hbm, ⟨3, _⟩ => ⟨S8192x2048, .bf16⟩
  | .hbm, ⟨4, _⟩ => ⟨S16x8192x128, .bf16⟩
  | .hbm, ⟨5, _⟩ => ⟨S8192x2048, .bf16⟩
  | .hbm, ⟨6, _⟩ => ⟨S1x128, .f32⟩
  | .local _ .vmem, ⟨0, _⟩ => ⟨S16x128x128, .bf16⟩
  | .local _ .vmem, ⟨1, _⟩ => ⟨S16x128x128, .bf16⟩
  | .local _ .vmem, ⟨2, _⟩ => ⟨S128x2048, .bf16⟩
  | .local _ .vmem, ⟨3, _⟩ => ⟨S128x2048, .bf16⟩
  | .local _ .vmem, ⟨4, _⟩ => ⟨S1x128, .f32⟩
  | .local _ .vmem, ⟨5, _⟩ => ⟨S128x2048, .bf16⟩
  | .local _ .vmem, ⟨6, _⟩ => ⟨S128x2048, .bf16⟩
  | .local _ .vmem, ⟨7, _⟩ => ⟨S16x128x128, .bf16⟩
  | .local _ .vmem, ⟨8, _⟩ => ⟨S16x128x128, .bf16⟩
  | .local _ .vmem, ⟨9, _⟩ => ⟨S128x2048, .bf16⟩
  | .local _ .vmem, ⟨10, _⟩ => ⟨S128x2048, .bf16⟩
  | .local _ .vmem, ⟨11, _⟩ => ⟨S1x128, .f32⟩
  | _, _ => ⟨S16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v1051 : BitVec 1 := Scalar.cmpi .eq arg0 c0_i32
  let v1052 : BitVec 32 := Scalar.extui v1051
  let c0_i32_252 : BitVec 32 := 0#32
  let v1053 : BitVec 1 := Scalar.cmpi .ne v1052 c0_i32_252
  v1053

def k0_cond2 (i : grid0.Coords) : BitVec 1 :=
  let arg0 : BitVec 32 := BitVec.ofNat 32 (i 0).val
  let c0_i32_253 : BitVec 32 := 0#32
  let v1054 : BitVec 1 := Scalar.cmpi .sgt arg0 c0_i32_253
  let v1055 : BitVec 32 := Scalar.extui v1054
  let c0_i32_254 : BitVec 32 := 0#32
  let v1056 : BitVec 1 := Scalar.cmpi .ne v1055 c0_i32_254
  v1056

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GnormBwdRefIdeal.lean ====
abbrev S16x8192x128 : Shape := ⟨3, ![16, 8192, 128]⟩
abbrev S8192x6144 : Shape := ⟨2, ![8192, 6144]⟩
abbrev S1x128 : Shape := ⟨2, ![1, 128]⟩
abbrev S8192x2048 : Shape := ⟨2, ![8192, 2048]⟩
abbrev S8192x16x128 : Shape := ⟨3, ![8192, 16, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S16x8192x128, .bf16⟩
  | .hbm, ⟨1, _⟩ => ⟨S8192x6144, .bf16⟩
  | .hbm, ⟨2, _⟩ => ⟨S1x128, .f32⟩
  | .hbm, ⟨3, _⟩ => ⟨S8192x2048, .bf16⟩
  | .hbm, ⟨4, _⟩ => ⟨S8192x2048, .bf16⟩
  | .hbm, ⟨5, _⟩ => ⟨S8192x2048, .f32⟩
  | .hbm, ⟨6, _⟩ => ⟨S8192x16x128, .f32⟩
  | .hbm, ⟨7, _⟩ => ⟨S16x8192x128, .f32⟩
  | .hbm, ⟨8, _⟩ => ⟨S8192x16x128, .f32⟩
  | .hbm, ⟨9, _⟩ => ⟨S128, .f32⟩
  | .hbm, ⟨10, _⟩ => ⟨S8192x16x128, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x1, .f32⟩
  | .hbm, ⟨22, _⟩ => ⟨S_, .f32⟩
  | .hbm, ⟨23, _⟩ => ⟨S8192x16x1, .f32⟩
  | .hbm, ⟨24, _⟩ => ⟨S8192x16x1, .f32⟩
  | .hbm, ⟨25, _⟩ => ⟨S8192x16x128, .f32⟩
  | .hbm, ⟨26, _⟩ => ⟨S8192x16x128, .f32⟩
  | .hbm, ⟨27, _⟩ => ⟨S1x1x128, .f32⟩
  | .hbm, ⟨28, _⟩ => ⟨S8192x16x128, .f32⟩
  | .hbm, ⟨29, _⟩ => ⟨S8192x16x128, .f32⟩
  | .hbm, ⟨30, _⟩ => ⟨S8192x16x128, .f32⟩
  | .hbm, ⟨31, _⟩ => ⟨S8192x16x128, .f32⟩
  | .hbm, ⟨32, _⟩ => ⟨S_, .f32⟩
  | .hbm, ⟨33, _⟩ => ⟨S8192x16x128, .f32⟩
  | .hbm, ⟨34, _⟩ => ⟨S8192x16x128, .f32⟩
  | .hbm, ⟨35, _⟩ => ⟨S_, .f32⟩
  | .hbm, ⟨36, _⟩ => ⟨S8192x16x128, .f32⟩
  | .hbm, ⟨37, _⟩ => ⟨S8192x16x128, .f32⟩
  | .hbm, ⟨38, _⟩ => ⟨S_, .f32⟩
  | .hbm, ⟨39, _⟩ => ⟨S8192x16x128, .f32⟩
  | .hbm, ⟨40, _⟩ => ⟨S8192x16x128, .f32⟩
  | .hbm, ⟨41, _⟩ => ⟨S8192x16x128, .f32⟩
  | .hbm, ⟨42, _⟩ => ⟨S8192x16x128, .f32⟩
  | .hbm, ⟨43, _⟩ => ⟨S8192x16x128, .f32⟩
  | .hbm, ⟨44, _⟩ => ⟨S8192x2048, .f32⟩
  | .hbm, ⟨45, _⟩ => ⟨S8192x16x128, .f32⟩
  | .hbm, ⟨46, _⟩ => ⟨S8192x16x128, .f32⟩
  | .hbm, ⟨47, _⟩ => ⟨S8192x16x128, .f32⟩
  | .hbm, ⟨48, _⟩ => ⟨S8192x16x128, .f32⟩
  | .hbm, ⟨49, _⟩ => ⟨S8192x16x128, .f32⟩
  | .hbm, ⟨50, _⟩ => ⟨S8192x16x128, .f32⟩
  | .hbm, ⟨51, _⟩ => ⟨S8192x16x128, .f32⟩
  | .hbm, ⟨52, _⟩ => ⟨S8192x16x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S8192x16x128, .f32⟩
  | .hbm, ⟨57, _⟩ => ⟨S8192x16x128, .f32⟩
  | .hbm, ⟨58, _⟩ => ⟨S_, .f32⟩
  | .hbm, ⟨59, _⟩ => ⟨S128, .f32⟩
  | .hbm, ⟨60, _⟩ => ⟨S8192x16x128, .f32⟩
  | .hbm, ⟨61, _⟩ => ⟨S_, .f32⟩
  | .hbm, ⟨62, _⟩ => ⟨S8192x16, .f32⟩
  | .hbm, ⟨63, _⟩ => ⟨S8192x16x1, .f32⟩
  | .hbm, ⟨64, _⟩ => ⟨S8192x16x128, .f32⟩
  | .hbm, ⟨65, _⟩ => ⟨S8192x16x128, .f32⟩
  | .hbm, ⟨66, _⟩ => ⟨S8192x16x1, .f32⟩
  | .hbm, ⟨67, _⟩ => ⟨S_, .f32⟩
  | .hbm, ⟨68, _⟩ => ⟨S8192x16x1, .f32⟩
  | .hbm, ⟨69, _⟩ => ⟨S8192x16x1, .f32⟩
  | .hbm, ⟨70, _⟩ => ⟨S_, .f32⟩
  | .hbm, ⟨71, _⟩ => ⟨S8192x16, .f32⟩
  | .hbm, ⟨72, _⟩ => ⟨S8192x16x128, .f32⟩
  | .hbm, ⟨73, _⟩ => ⟨S8192x16x128, .f32⟩
  | .hbm, ⟨74, _⟩ => ⟨S8192x16x128, .f32⟩
  | .hbm, ⟨75, _⟩ => ⟨S8192x16x128, .f32⟩
  | .hbm, ⟨76, _⟩ => ⟨S8192x16x128, .f32⟩
  | .hbm, ⟨77, _⟩ => ⟨S1x128, .f32⟩
  | .hbm, ⟨78, _⟩ => ⟨S16x8192x128, .f32⟩
  | .hbm, ⟨79, _⟩ => ⟨S16x8192x128, .bf16⟩
  | .hbm, ⟨80, _⟩ => ⟨S8192x2048, .f32⟩
  | .hbm, ⟨81, _⟩ => ⟨S8192x2048, .bf16⟩
  | _, _ => ⟨S16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v22_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v22_1 : Ref sig .tc := ⟨.hbm, 41, rfl⟩
abbrev main_v22_0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== FfnActBwd.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S8x5632 : Shape := ⟨2, ![8, 5632]⟩
abbrev S256x5632 : Shape := ⟨2, ![256, 5632]⟩
abbrev S256x2816 : Shape := ⟨2, ![256, 2816]⟩
abbrev S248x5632 : Shape := ⟨2, ![248, 5632]⟩
abbrev S5632 : Shape := ⟨1, ![5632]⟩
abbrev S5x5632 : Shape := ⟨2, ![5, 5632]⟩

abbrev nBuf : Space → Nat
  | .hbm => 7
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x2816, .bf16⟩
  | .hbm, ⟨4, _⟩ => ⟨S8192x5632, .bf16⟩
  | .hbm, ⟨5, _⟩ => ⟨S8x5632, .f32⟩
  | .hbm, ⟨6, _⟩ => ⟨S1x5632, .f32⟩
  | .local _ .vmem, ⟨0, _⟩ => ⟨S256x5632, .bf16⟩
  | .local _ .vmem, ⟨1, _⟩ => ⟨S256x5632, .bf16⟩
  | .local _ .vmem, ⟨2, _⟩ => ⟨S8x5632, .bf16⟩
  | .local _ .vmem, ⟨3, _⟩ => ⟨S8x5632, .bf16⟩
  | .local _ .vmem, ⟨4, _⟩ => ⟨S3x5632, .f32⟩
  | .local _ .vmem, ⟨5, _⟩ => ⟨S1x5632, .f32⟩
  | .local _ .vmem, ⟨6, _⟩ => ⟨S256x2816, .bf16⟩
  | .local _ .vmem, ⟨7, _⟩ => ⟨S256x2816, .bf16⟩
  | .local _ .vmem, ⟨8, _⟩ => ⟨S256x5632, .bf16⟩
  | .local _ .vmem, ⟨9, _⟩ => ⟨S256x5632, .bf16⟩
  | .local _ .vmem, ⟨10, _⟩ => ⟨S8x5632, .f32⟩
  | .local _ .vmem, ⟨11, _⟩ => ⟨S1x5632, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_27 : BitVec 32 := 0#32
  let v80 : BitVec 1 := Scalar.cmpi .eq arg0 c0_i32_27
  let v81 : BitVec 32 := Scalar.extui v80
  let c0_i32_28 : BitVec 32 := 0#32
  let v82 : BitVec 1 := Scalar.cmpi .ne v81 c0_i32_28
  v82

def k0_cond2 (i : grid0.Coords) : BitVec 1 :=
  let arg0 : BitVec 32 := BitVec.ofNat 32 (i 0).val
  let c0_i32_29 : BitVec 32 := 0#32
  let v83 : BitVec 1 := Scalar.cmpi .sgt arg0 c0_i32_29
  let v84 : BitVec 32 := Scalar.extui v83
  let c0_i32_30 : BitVec 32 := 0#32
  let v85 : BitVec 1 := Scalar.cmpi .ne v84 c0_i32_30
  v85

def k0_cond3 (i : grid0.Coords) : BitVec 1 :=
  let arg0 : BitVec 32 := BitVec.ofNat 32 (i 0).val
  let c0_i32_31 : BitVec 32 := 0#32
  let v86 : BitVec 1 := Scalar.cmpi .eq arg0 c0_i32_31
  let v87 : BitVec 32 := Scalar.extui v86
  let c0_i32_32 : BitVec 32 := 0#32
  let v88 : BitVec 1 := Scalar.cmpi .ne v87 c0_i32_32
  v88

def k0_cond4 (i : grid0.Coords) : BitVec 1 :=
  let arg0 : BitVec 32 := BitVec.ofNat 32 (i 0).val
  let c0_i32_33 : BitVec 32 := 0#32
  let v89 : BitVec 1 := Scalar.cmpi .sgt arg0 c0_i32_33
  let v90 : BitVec 32 := Scalar.extui v89
  let c0_i32_34 : BitVec 32 := 0#32
  let v91 : BitVec 1 := Scalar.cmpi .ne v90 c0_i32_34
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnActBwdRefIdeal.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S_ : Shape := ⟨0, ![]⟩
abbrev S8194x5632 : Shape := ⟨2, ![8194, 5632]⟩
abbrev S1x8192x5632 : Shape := ⟨3, ![1, 8192, 5632]⟩
abbrev S3x8192x5632 : Shape := ⟨3, ![3, 8192, 5632]⟩
abbrev S3x1x5632 : Shape := ⟨3, ![3, 1, 5632]⟩
abbrev S5632 : Shape := ⟨1, ![5632]⟩
abbrev S8x5632 : Shape := ⟨2, ![8, 5632]⟩

abbrev nBuf : Space → Nat
  | .hbm => 60
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x2816, .bf16⟩
  | .hbm, ⟨4, _⟩ => ⟨S8192x5632, .f32⟩
  | .hbm, ⟨5, _⟩ => ⟨S_, .i32⟩
  | .hbm, ⟨6, _⟩ => ⟨S_, .f32⟩
  | .hbm, ⟨7, _⟩ => ⟨S8194x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S1x8192x5632, .f32⟩
  | .hbm, ⟨12, _⟩ => ⟨S1x8192x5632, .f32⟩
  | .hbm, ⟨13, _⟩ => ⟨S1x8192x5632, .f32⟩
  | .hbm, ⟨14, _⟩ => ⟨S3x8192x5632, .f32⟩
  | .hbm, ⟨15, _⟩ => ⟨S3x1x5632, .f32⟩
  | .hbm, ⟨16, _⟩ => ⟨S3x8192x5632, .f32⟩
  | .hbm, ⟨17, _⟩ => ⟨S3x8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x5632, .f32⟩
  | .hbm, ⟨46, _⟩ => ⟨S_, .f32⟩
  | .hbm, ⟨47, _⟩ => ⟨S5632, .f32⟩
  | .hbm, ⟨48, _⟩ => ⟨S1x5632, .f32⟩
  | .hbm, ⟨49, _⟩ => ⟨S3x8192x5632, .f32⟩
  | .hbm, ⟨50, _⟩ => ⟨S3x8192x5632, .f32⟩
  | .hbm, ⟨51, _⟩ => ⟨S_, .f32⟩
  | .hbm, ⟨52, _⟩ => ⟨S3x5632, .f32⟩
  | .hbm, ⟨53, _⟩ => ⟨S3x1x5632, .f32⟩
  | .hbm, ⟨54, _⟩ => ⟨S_, .f32⟩
  | .hbm, ⟨55, _⟩ => ⟨S3x5632, .f32⟩
  | .hbm, ⟨56, _⟩ => ⟨S8192x5632, .bf16⟩
  | .hbm, ⟨57, _⟩ => ⟨S_, .i32⟩
  | .hbm, ⟨58, _⟩ => ⟨S_, .f32⟩
  | .hbm, ⟨59, _⟩ => ⟨S8x5632, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_v17_2 : Ref sig .tc := ⟨.hbm, 31, rfl⟩
abbrev main_call1_cst_1 : Ref sig .tc := ⟨.hbm, 32, rfl⟩
abbrev main_call1_v6 : Ref sig .tc := ⟨.hbm, 33, rfl⟩
abbrev main_call1_v7 : Ref sig .tc := ⟨.hbm, 34, rfl⟩
abbrev main_v17_1 : Ref sig .tc := ⟨.hbm, 35, rfl⟩
abbrev main_v17_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v22 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_1 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_c_3 : Ref sig .tc := ⟨.hbm, 57, rfl⟩
abbrev main_call3_v0 : Ref sig .tc := ⟨.hbm, 58, rfl⟩
abbrev main_v32 : Ref sig .tc := ⟨.hbm, 59, rfl⟩

abbrev nD : Nat := 1
abbrev τ : Topo := Topo.v7x

variable {F : FTy → Type} [FloatOps F]
-- ==== GdnPreBwd.lean ====
abbrev S8192x6144 : Shape := ⟨2, ![8192, 6144]⟩
abbrev S8192x256 : Shape := ⟨2, ![8192, 256]⟩
abbrev S4x4096 : Shape := ⟨2, ![4, 4096]⟩
abbrev S1x128 : Shape := ⟨2, ![1, 128]⟩
abbrev S8x8192x128 : Shape := ⟨3, ![8, 8192, 128]⟩
abbrev S16x8192x128 : Shape := ⟨3, ![16, 8192, 128]⟩
abbrev S8192x128 : Shape := ⟨2, ![8192, 128]⟩
abbrev S8192x4096 : Shape := ⟨2, ![8192, 4096]⟩
abbrev S8x4096 : Shape := ⟨2, ![8, 4096]⟩
abbrev S128x4096 : Shape := ⟨2, ![128, 4096]⟩
abbrev S128x256 : Shape := ⟨2, ![128, 256]⟩
abbrev S8x128x128 : Shape := ⟨3, ![8, 128, 128]⟩
abbrev S16x128x128 : Shape := ⟨3, ![16, 128, 128]⟩
abbrev S128x128 : Shape := ⟨2, ![128, 128]⟩
abbrev S120x4096 : Shape := ⟨2, ![120, 4096]⟩
abbrev S1x4096 : Shape := ⟨2, ![1, 4096]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S4096 : Shape := ⟨1, ![4096]⟩

abbrev nBuf : Space → Nat
  | .hbm => 15
  | .vmem => 26
  | .smem => 0
  | _ => 0

abbrev bufTy : (tb : Table) → Fin (tcTables nBuf tb) → BufTy
  | .hbm, ⟨0, _⟩ => ⟨S8192x6144, .bf16⟩
  | .hbm, ⟨1, _⟩ => ⟨S8192x256, .f32⟩
  | .hbm, ⟨2, _⟩ => ⟨S4x4096, .f32⟩
  | .hbm, ⟨3, _⟩ => ⟨S1x128, .f32⟩
  | .hbm, ⟨4, _⟩ => ⟨S1x128, .f32⟩
  | .hbm, ⟨5, _⟩ => ⟨S8x8192x128, .f32⟩
  | .hbm, ⟨6, _⟩ => ⟨S8x8192x128, .f32⟩
  | .hbm, ⟨7, _⟩ => ⟨S16x8192x128, .f32⟩
  | .hbm, ⟨8, _⟩ => ⟨S8192x128, .f32⟩
  | .hbm, ⟨9, _⟩ => ⟨S8192x128, .f32⟩
  | .hbm, ⟨10, _⟩ => ⟨S8192x4096, .bf16⟩
  | .hbm, ⟨11, _⟩ => ⟨S8192x256, .f32⟩
  | .hbm, ⟨12, _⟩ => ⟨S8x4096, .f32⟩
  | .hbm, ⟨13, _⟩ => ⟨S1x128, .f32⟩
  | .hbm, ⟨14, _⟩ => ⟨S1x128, .f32⟩
  | .local _ .vmem, ⟨0, _⟩ => ⟨S128x4096, .bf16⟩
  | .local _ .vmem, ⟨1, _⟩ => ⟨S128x4096, .bf16⟩
  | .local _ .vmem, ⟨2, _⟩ => ⟨S8x4096, .bf16⟩
  | .local _ .vmem, ⟨3, _⟩ => ⟨S8x4096, .bf16⟩
  | .local _ .vmem, ⟨4, _⟩ => ⟨S128x256, .f32⟩
  | .local _ .vmem, ⟨5, _⟩ => ⟨S128x256, .f32⟩
  | .local _ .vmem, ⟨6, _⟩ => ⟨S4x4096, .f32⟩
  | .local _ .vmem, ⟨7, _⟩ => ⟨S1x128, .f32⟩
  | .local _ .vmem, ⟨8, _⟩ => ⟨S1x128, .f32⟩
  | .local _ .vmem, ⟨9, _⟩ => ⟨S8x128x128, .f32⟩
  | .local _ .vmem, ⟨10, _⟩ => ⟨S8x128x128, .f32⟩
  | .local _ .vmem, ⟨11, _⟩ => ⟨S8x128x128, .f32⟩
  | .local _ .vmem, ⟨12, _⟩ => ⟨S8x128x128, .f32⟩
  | .local _ .vmem, ⟨13, _⟩ => ⟨S16x128x128, .f32⟩
  | .local _ .vmem, ⟨14, _⟩ => ⟨S16x128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x4096, .bf16⟩
  | .local _ .vmem, ⟨20, _⟩ => ⟨S128x4096, .bf16⟩
  | .local _ .vmem, ⟨21, _⟩ => ⟨S128x256, .f32⟩
  | .local _ .vmem, ⟨22, _⟩ => ⟨S128x256, .f32⟩
  | .local _ .vmem, ⟨23, _⟩ => ⟨S8x4096, .f32⟩
  | .local _ .vmem, ⟨24, _⟩ => ⟨S1x128, .f32⟩
  | .local _ .vmem, ⟨25, _⟩ => ⟨S1x128, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_271 : BitVec 32 := 0#32
  let v954 : BitVec 1 := Scalar.cmpi .eq arg0 c0_i32_271
  let v955 : BitVec 32 := Scalar.extui v954
  let c0_i32_272 : BitVec 32 := 0#32
  let v956 : BitVec 1 := Scalar.cmpi .ne v955 c0_i32_272
  v956

def k0_cond2 (i : grid0.Coords) : BitVec 1 :=
  let arg0 : BitVec 32 := BitVec.ofNat 32 (i 0).val
  let c0_i32_273 : BitVec 32 := 0#32
  let v957 : BitVec 1 := Scalar.cmpi .sgt arg0 c0_i32_273
  let v958 : BitVec 32 := Scalar.extui v957
  let c0_i32_274 : BitVec 32 := 0#32
  let v959 : BitVec 1 := Scalar.cmpi .ne v958 c0_i32_274
  v959

def k0_cond3 (i : grid0.Coords) : BitVec 1 :=
  let arg0 : BitVec 32 := BitVec.ofNat 32 (i 0).val
  let c0_i32_275 : BitVec 32 := 0#32
  let v960 : BitVec 1 := Scalar.cmpi .eq arg0 c0_i32_275
  let v961 : BitVec 32 := Scalar.extui v960
  let c0_i32_276 : BitVec 32 := 0#32
  let v962 : BitVec 1 := Scalar.cmpi .ne v961 c0_i32_276
  v962

def k0_cond4 (i : grid0.Coords) : BitVec 1 :=
  let arg0 : BitVec 32 := BitVec.ofNat 32 (i 0).val
  let c0_i32_277 : BitVec 32 := 0#32
  let v963 : BitVec 1 := Scalar.cmpi .sgt arg0 c0_i32_277
  let v964 : BitVec 32 := Scalar.extui v963
  let c0_i32_278 : BitVec 32 := 0#32
  let v965 : BitVec 1 := Scalar.cmpi .ne v964 c0_i32_278
  v965

def k0_cond5 (i : grid0.Coords) : BitVec 1 :=
  let arg0 : BitVec 32 := BitVec.ofNat 32 (i 0).val
  let c0_i32_279 : BitVec 32 := 0#32
  let v966 : BitVec 1 := Scalar.cmpi .eq arg0 c0_i32_279
  let v967 : BitVec 32 := Scalar.extui v966
  let c0_i32_280 : BitVec 32 := 0#32
  let v968 : BitVec 1 := Scalar.cmpi .ne v967 c0_i32_280
  v968

def k0_cond6 (i : grid0.Coords) : BitVec 1 :=
  let arg0 : BitVec 32 := BitVec.ofNat 32 (i 0).val
  let c0_i32_281 : BitVec 32 := 0#32
  let v969 : BitVec 1 := Scalar.cmpi .sgt arg0 c0_i32_281
  let v970 : BitVec 32 := Scalar.extui v969
  let c0_i32_282 : BitVec 32 := 0#32
  let v971 : BitVec 1 := Scalar.cmpi .ne v970 c0_i32_282
  v971

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x4096 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== GdnPreBwdRefIdeal.lean ====
abbrev S8192x6144 : Shape := ⟨2, ![8192, 6144]⟩
abbrev S8192x256 : Shape := ⟨2, ![8192, 256]⟩
abbrev S4x4096 : Shape := ⟨2, ![4, 4096]⟩
abbrev S1x128 : Shape := ⟨2, ![1, 128]⟩
abbrev S8x8192x128 : Shape := ⟨3, ![8, 8192, 128]⟩
abbrev S16x8192x128 : Shape := ⟨3, ![16, 8192, 128]⟩
abbrev S8192x128 : Shape := ⟨2, ![8192, 128]⟩
abbrev S_ : Shape := ⟨0, ![]⟩
abbrev S128 : Shape := ⟨1, ![128]⟩

abbrev nBuf : Space → Nat
  | .hbm => 75
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x256, .f32⟩
  | .hbm, ⟨2, _⟩ => ⟨S4x4096, .f32⟩
  | .hbm, ⟨3, _⟩ => ⟨S1x128, .f32⟩
  | .hbm, ⟨4, _⟩ => ⟨S1x128, .f32⟩
  | .hbm, ⟨5, _⟩ => ⟨S8x8192x128, .f32⟩
  | .hbm, ⟨6, _⟩ => ⟨S8x8192x128, .f32⟩
  | .hbm, ⟨7, _⟩ => ⟨S16x8192x128, .f32⟩
  | .hbm, ⟨8, _⟩ => ⟨S8192x128, .f32⟩
  | .hbm, ⟨9, _⟩ => ⟨S8192x128, .f32⟩
  | .hbm, ⟨10, _⟩ => ⟨S1x128, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S8192x128, .i1⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S8192x128, .f32⟩
  | .hbm, ⟨31, _⟩ => ⟨S8192x128, .i1⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .i1⟩
  | .hbm, ⟨38, _⟩ => ⟨S_, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192x128, .f32⟩
  | .hbm, ⟨51, _⟩ => ⟨S8192x128, .i1⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S_, .f32⟩
  | .hbm, ⟨59, _⟩ => ⟨S8192x128, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S8192x128, .f32⟩
  | .hbm, ⟨64, _⟩ => ⟨S8192x128, .f32⟩
  | .hbm, ⟨65, _⟩ => ⟨S8192x128, .f32⟩
  | .hbm, ⟨66, _⟩ => ⟨S_, .f32⟩
  | .hbm, ⟨67, _⟩ => ⟨S128, .f32⟩
  | .hbm, ⟨68, _⟩ => ⟨S1x128, .f32⟩
  | .hbm, ⟨69, _⟩ => ⟨S8192x128, .f32⟩
  | .hbm, ⟨70, _⟩ => ⟨S_, .f32⟩
  | .hbm, ⟨71, _⟩ => ⟨S128, .f32⟩
  | .hbm, ⟨72, _⟩ => ⟨S1x128, .f32⟩
  | .hbm, ⟨73, _⟩ => ⟨S1x128, .f32⟩
  | .hbm, ⟨74, _⟩ => ⟨S1x128, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v5_0 : Ref sig .tc := ⟨.hbm, 28, rfl⟩
abbrev main_call0_cst_0 : Ref sig .tc := ⟨.hbm, 29, rfl⟩
abbrev main_call0_v13 : Ref sig .tc := ⟨.hbm, 30, rfl⟩
abbrev main_call0_v14 : Ref sig .tc := ⟨.hbm, 31, rfl⟩
abbrev main_call0_cst_1 : Ref sig .tc := ⟨.hbm, 32, rfl⟩
abbrev main_call0_v15 : Ref sig .tc := ⟨.hbm, 33, rfl⟩
abbrev main_call0_v16 : Ref sig .tc := ⟨.hbm, 34, rfl⟩
abbrev main_call0_cst_2 : Ref sig .tc := ⟨.hbm, 35, rfl⟩
abbrev main_call0_v17 : Ref sig .tc := ⟨.hbm, 36, rfl⟩
abbrev main_call0_v18 : Ref sig .tc := ⟨.hbm, 37, rfl⟩
abbrev main_call0_cst_3 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_v5_1 : Ref sig .tc := ⟨.hbm, 42, rfl⟩
abbrev main_call0_cst_4 : Ref sig .tc := ⟨.hbm, 43, rfl⟩
abbrev main_call0_cst_5 : Ref sig .tc := ⟨.hbm, 44, rfl⟩
abbrev main_call0_v23 : Ref sig .tc := ⟨.hbm, 45, rfl⟩
abbrev main_call0_cst_6 : Ref sig .tc := ⟨.hbm, 46, rfl⟩
abbrev main_call0_cst_7 : Ref sig .tc := ⟨.hbm, 47, rfl⟩
abbrev main_call0_v24 : Ref sig .tc := ⟨.hbm, 48, rfl⟩
abbrev main_call0_cst_8 : Ref sig .tc := ⟨.hbm, 49, rfl⟩
abbrev main_call0_v25 : Ref sig .tc := ⟨.hbm, 50, rfl⟩
abbrev main_call0_v26 : Ref sig .tc := ⟨.hbm, 51, rfl⟩
abbrev main_call0_cst_9 : Ref sig .tc := ⟨.hbm, 52, rfl⟩
abbrev main_call0_v27 : Ref sig .tc := ⟨.hbm, 53, rfl⟩
abbrev main_call0_v28 : Ref sig .tc := ⟨.hbm, 54, rfl⟩
abbrev main_call0_v29 : Ref sig .tc := ⟨.hbm, 55, rfl⟩
abbrev main_call0_v30 : Ref sig .tc := ⟨.hbm, 56, rfl⟩
abbrev main_call0_v31 : Ref sig .tc := ⟨.hbm, 57, rfl⟩
abbrev main_call0_cst_10 : Ref sig .tc := ⟨.hbm, 58, rfl⟩
abbrev main_call0_v32 : Ref sig .tc := ⟨.hbm, 59, rfl⟩
abbrev main_v5_2 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_cst : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_cst_0 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩

abbrev nD : Nat := 1
abbrev τ : Topo := Topo.v7x

variable {F : FTy → Type} [FloatOps F]
-- ==== GdnInBa.lean ====
abbrev S8192x1024 : Shape := ⟨2, ![8192, 1024]⟩
abbrev S1x1024 : Shape := ⟨2, ![1, 1024]⟩
abbrev S1024x256 : Shape := ⟨2, ![1024, 256]⟩
abbrev S8192x256 : Shape := ⟨2, ![8192, 256]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x256, .bf16⟩
  | .hbm, ⟨3, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1x1024, .f32⟩
  | .local _ .vmem, ⟨4, _⟩ => ⟨S1024x256, .f32⟩
  | .local _ .vmem, ⟨5, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GdnInBaRefIdeal.lean ====
abbrev S8192x1024 : Shape := ⟨2, ![8192, 1024]⟩
abbrev S1x1024 : Shape := ⟨2, ![1, 1024]⟩
abbrev S1024x256 : Shape := ⟨2, ![1024, 256]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x256 : Shape := ⟨2, ![8192, 256]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x256, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x256, .f32⟩
  | .hbm, ⟨21, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FfnAct.lean ====
abbrev S8192x5632 : Shape := ⟨2, ![8192, 5632]⟩
abbrev S3x5632 : Shape := ⟨2, ![3, 5632]⟩
abbrev S1x5632 : Shape := ⟨2, ![1, 5632]⟩
abbrev S8192x2816 : Shape := ⟨2, ![8192, 2816]⟩
abbrev S256x5632 : Shape := ⟨2, ![256, 5632]⟩
abbrev S8x5632 : Shape := ⟨2, ![8, 5632]⟩
abbrev S256x2816 : Shape := ⟨2, ![256, 2816]⟩
abbrev S248x5632 : Shape := ⟨2, ![248, 5632]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x2816, .bf16⟩
  | .local _ .vmem, ⟨0, _⟩ => ⟨S256x5632, .bf16⟩
  | .local _ .vmem, ⟨1, _⟩ => ⟨S256x5632, .bf16⟩
  | .local _ .vmem, ⟨2, _⟩ => ⟨S8x5632, .bf16⟩
  | .local _ .vmem, ⟨3, _⟩ => ⟨S8x5632, .bf16⟩
  | .local _ .vmem, ⟨4, _⟩ => ⟨S3x5632, .f32⟩
  | .local _ .vmem, ⟨5, _⟩ => ⟨S1x5632, .f32⟩
  | .local _ .vmem, ⟨6, _⟩ => ⟨S256x2816, .bf16⟩
  | .local _ .vmem, ⟨7, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnActRefIdeal.lean ====
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S8194x5632 : Shape := ⟨2, ![8194, 5632]⟩
abbrev S1x8192x5632 : Shape := ⟨3, ![1, 8192, 5632]⟩
abbrev S3x8192x5632 : Shape := ⟨3, ![3, 8192, 5632]⟩
abbrev S3x1x5632 : Shape := ⟨3, ![3, 1, 5632]⟩
abbrev S8192x2816 : Shape := ⟨2, ![8192, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S1x5632, .f32⟩
  | .hbm, ⟨3, _⟩ => ⟨S8192x5632, .f32⟩
  | .hbm, ⟨4, _⟩ => ⟨S_, .i32⟩
  | .hbm, ⟨5, _⟩ => ⟨S_, .f32⟩
  | .hbm, ⟨6, _⟩ => ⟨S8194x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S1x8192x5632, .f32⟩
  | .hbm, ⟨11, _⟩ => ⟨S1x8192x5632, .f32⟩
  | .hbm, ⟨12, _⟩ => ⟨S1x8192x5632, .f32⟩
  | .hbm, ⟨13, _⟩ => ⟨S3x8192x5632, .f32⟩
  | .hbm, ⟨14, _⟩ => ⟨S3x1x5632, .f32⟩
  | .hbm, ⟨15, _⟩ => ⟨S3x8192x5632, .f32⟩
  | .hbm, ⟨16, _⟩ => ⟨S3x8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Gnorm.lean ====
abbrev S16x8192x128 : Shape := ⟨3, ![16, 8192, 128]⟩
abbrev S8192x6144 : Shape := ⟨2, ![8192, 6144]⟩
abbrev S1x128 : Shape := ⟨2, ![1, 128]⟩
abbrev S8192x2048 : Shape := ⟨2, ![8192, 2048]⟩
abbrev S16x256x128 : Shape := ⟨3, ![16, 256, 128]⟩
abbrev S256x2048 : Shape := ⟨2, ![256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S16x8192x128, .bf16⟩
  | .hbm, ⟨1, _⟩ => ⟨S8192x6144, .bf16⟩
  | .hbm, ⟨2, _⟩ => ⟨S1x128, .f32⟩
  | .hbm, ⟨3, _⟩ => ⟨S8192x2048, .bf16⟩
  | .local _ .vmem, ⟨0, _⟩ => ⟨S16x256x128, .bf16⟩
  | .local _ .vmem, ⟨1, _⟩ => ⟨S16x256x128, .bf16⟩
  | .local _ .vmem, ⟨2, _⟩ => ⟨S256x2048, .bf16⟩
  | .local _ .vmem, ⟨3, _⟩ => ⟨S256x2048, .bf16⟩
  | .local _ .vmem, ⟨4, _⟩ => ⟨S1x128, .f32⟩
  | .local _ .vmem, ⟨5, _⟩ => ⟨S256x2048, .bf16⟩
  | .local _ .vmem, ⟨6, _⟩ => ⟨S256x2048, .bf16⟩
  | _, _ => ⟨S16x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GnormRefIdeal.lean ====
abbrev S16x8192x128 : Shape := ⟨3, ![16, 8192, 128]⟩
abbrev S8192x6144 : Shape := ⟨2, ![8192, 6144]⟩
abbrev S1x128 : Shape := ⟨2, ![1, 128]⟩
abbrev S8192x2048 : Shape := ⟨2, ![8192, 2048]⟩
abbrev S8192x16x128 : Shape := ⟨3, ![8192, 16, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S16x8192x128, .bf16⟩
  | .hbm, ⟨1, _⟩ => ⟨S8192x6144, .bf16⟩
  | .hbm, ⟨2, _⟩ => ⟨S1x128, .f32⟩
  | .hbm, ⟨3, _⟩ => ⟨S8192x2048, .bf16⟩
  | .hbm, ⟨4, _⟩ => ⟨S8192x2048, .f32⟩
  | .hbm, ⟨5, _⟩ => ⟨S8192x16x128, .f32⟩
  | .hbm, ⟨6, _⟩ => ⟨S16x8192x128, .f32⟩
  | .hbm, ⟨7, _⟩ => ⟨S8192x16x128, .f32⟩
  | .hbm, ⟨8, _⟩ => ⟨S128, .f32⟩
  | .hbm, ⟨9, _⟩ => ⟨S8192x16x128, .f32⟩
  | .hbm, ⟨10, _⟩ => ⟨S_, .f32⟩
  | .hbm, ⟨11, _⟩ => ⟨S8192x16, .f32⟩
  | .hbm, ⟨12, _⟩ => ⟨S8192x16x1, .f32⟩
  | .hbm, ⟨13, _⟩ => ⟨S_, .f32⟩
  | .hbm, ⟨14, _⟩ => ⟨S8192x16x1, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S8192x16x1, .f32⟩
  | .hbm, ⟨20, _⟩ => ⟨S8192x16x128, .f32⟩
  | .hbm, ⟨21, _⟩ => ⟨S8192x16x128, .f32⟩
  | .hbm, ⟨22, _⟩ => ⟨S1x1x128, .f32⟩
  | .hbm, ⟨23, _⟩ => ⟨S8192x16x128, .f32⟩
  | .hbm, ⟨24, _⟩ => ⟨S8192x16x128, .f32⟩
  | .hbm, ⟨25, _⟩ => ⟨S8192x16x128, .f32⟩
  | .hbm, ⟨26, _⟩ => ⟨S8192x16x128, .f32⟩
  | .hbm, ⟨27, _⟩ => ⟨S_, .f32⟩
  | .hbm, ⟨28, _⟩ => ⟨S8192x16x128, .f32⟩
  | .hbm, ⟨29, _⟩ => ⟨S8192x16x128, .f32⟩
  | .hbm, ⟨30, _⟩ => ⟨S_, .f32⟩
  | .hbm, ⟨31, _⟩ => ⟨S8192x16x128, .f32⟩
  | .hbm, ⟨32, _⟩ => ⟨S8192x16x128, .f32⟩
  | .hbm, ⟨33, _⟩ => ⟨S8192x16x128, .f32⟩
  | .hbm, ⟨34, _⟩ => ⟨S8192x16x128, .f32⟩
  | .hbm, ⟨35, _⟩ => ⟨S8192x2048, .f32⟩
  | .hbm, ⟨36, _⟩ => ⟨S8192x2048, .bf16⟩
  | _, _ => ⟨S16x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== RelBias.lean ====
abbrev S32x16 : Shape := ⟨2, ![32, 16]⟩
abbrev S16x32 : Shape := ⟨2, ![16, 32]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32768 : Shape := ⟨1, ![32768]⟩
abbrev S1x32768 : Shape := ⟨2, ![1, 32768]⟩
abbrev S32 : Shape := ⟨1, ![32]⟩
abbrev S32x1 : Shape := ⟨2, ![32, 1]⟩
abbrev S32x32768 : Shape := ⟨2, ![32, 32768]⟩
abbrev S16x32768 : Shape := ⟨2, ![16, 32768]⟩
abbrev S32x1024 : Shape := ⟨2, ![32, 1024]⟩
abbrev S16x1024 : Shape := ⟨2, ![16, 1024]⟩

abbrev nBuf : Space → Nat
  | .hbm => 49
  | .vmem => 5
  | .smem => 0
  | _ => 0

abbrev bufTy : (tb : Table) → Fin (tcTables nBuf tb) → BufTy
  | .hbm, ⟨0, _⟩ => ⟨S32x16, .f32⟩
  | .hbm, ⟨1, _⟩ => ⟨S16x32, .f32⟩
  | .hbm, ⟨2, _⟩ => ⟨S128, .i32⟩
  | .hbm, ⟨3, _⟩ => ⟨S128x1, .i32⟩
  | .hbm, ⟨4, _⟩ => ⟨S256, .i32⟩
  | .hbm, ⟨5, _⟩ => ⟨S1x256, .i32⟩
  | .hbm, ⟨6, _⟩ => ⟨S_, .i32⟩
  | .hbm, ⟨7, _⟩ => ⟨S128x1, .i32⟩
  | .hbm, ⟨8, _⟩ => ⟨S128x1, .i32⟩
  | .hbm, ⟨9, _⟩ => ⟨S128x256, .i32⟩
  | .hbm, ⟨10, _⟩ => ⟨S128x256, .i32⟩
  | .hbm, ⟨11, _⟩ => ⟨S128x256, .i32⟩
  | .hbm, ⟨12, _⟩ => ⟨S_, .i32⟩
  | .hbm, ⟨13, _⟩ => ⟨S128x256, .i32⟩
  | .hbm, ⟨14, _⟩ => ⟨S128x256, .i32⟩
  | .hbm, ⟨15, _⟩ => ⟨S_, .i32⟩
  | .hbm, ⟨16, _⟩ => ⟨S128x256, .i32⟩
  | .hbm, ⟨17, _⟩ => ⟨S128x256, .i32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S_, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i32⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S32768, .i32⟩
  | .hbm, ⟨41, _⟩ => ⟨S1x32768, .i32⟩
  | .hbm, ⟨42, _⟩ => ⟨S32, .i32⟩
  | .hbm, ⟨43, _⟩ => ⟨S32x1, .i32⟩
  | .hbm, ⟨44, _⟩ => ⟨S32x32768, .i32⟩
  | .hbm, ⟨45, _⟩ => ⟨S32x32768, .i32⟩
  | .hbm, ⟨46, _⟩ => ⟨S32x32768, .i1⟩
  | .hbm, ⟨47, _⟩ => ⟨S32x32768, .f32⟩
  | .hbm, ⟨48, _⟩ => ⟨S16x32768, .f32⟩
  | .local _ .vmem, ⟨0, _⟩ => ⟨S16x32, .f32⟩
  | .local _ .vmem, ⟨1, _⟩ => ⟨S32x1024, .f32⟩
  | .local _ .vmem, ⟨2, _⟩ => ⟨S32x1024, .f32⟩
  | .local _ .vmem, ⟨3, _⟩ => ⟨S16x1024, .f32⟩
  | .local _ .vmem, ⟨4, _⟩ => ⟨S16x1024, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_c_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RelBiasRefIdeal.lean ====
abbrev S32x16 : Shape := ⟨2, ![32, 16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S16x32768 : Shape := ⟨2, ![16, 32768]⟩

abbrev nBuf : Space → Nat
  | .hbm => 50
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S128, .i32⟩
  | .hbm, ⟨2, _⟩ => ⟨S128x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S128x1, .i32⟩
  | .hbm, ⟨7, _⟩ => ⟨S128x1, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S_, .i32⟩
  | .hbm, ⟨12, _⟩ => ⟨S128x256, .i32⟩
  | .hbm, ⟨13, _⟩ => ⟨S128x256, .i32⟩
  | .hbm, ⟨14, _⟩ => ⟨S_, .i32⟩
  | .hbm, ⟨15, _⟩ => ⟨S128x256, .i32⟩
  | .hbm, ⟨16, _⟩ => ⟨S128x256, .i32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .i32⟩
  | .hbm, ⟨29, _⟩ => ⟨S_, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S128x256x1, .i32⟩
  | .hbm, ⟨47, _⟩ => ⟨S128x256x16, .f32⟩
  | .hbm, ⟨48, _⟩ => ⟨S16x128x256, .f32⟩
  | .hbm, ⟨49, _⟩ => ⟨S16x32768, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== GdnInDx.lean ====
abbrev S8192x6144 : Shape := ⟨2, ![8192, 6144]⟩
abbrev S1024x6144 : Shape := ⟨2, ![1024, 6144]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S8192x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdnInDxRefIdeal.lean ====
abbrev S8192x6144 : Shape := ⟨2, ![8192, 6144]⟩
abbrev S1024x6144 : Shape := ⟨2, ![1024, 6144]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S1024x6144, .bf16⟩
  | .hbm, ⟨2, _⟩ => ⟨S_, .f32⟩
  | .hbm, ⟨3, _⟩ => ⟨S8192x1024, .f32⟩
  | .hbm, ⟨4, _⟩ => ⟨S1024x6144, .f32⟩
  | .hbm, ⟨5, _⟩ => ⟨S8192x6144, .f32⟩
  | .hbm, ⟨6, _⟩ => ⟨S8192x6144, .f32⟩
  | .hbm, ⟨7, _⟩ => ⟨S8192x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnConvBwd.lean ====
abbrev S8192x5632 : Shape := ⟨2, ![8192, 5632]⟩
abbrev S3x5632 : Shape := ⟨2, ![3, 5632]⟩
abbrev S256x5632 : Shape := ⟨2, ![256, 5632]⟩
abbrev S8x5632 : Shape := ⟨2, ![8, 5632]⟩
abbrev S1x5632 : Shape := ⟨2, ![1, 5632]⟩
abbrev S248x5632 : Shape := ⟨2, ![248, 5632]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S8192x5632, .bf16⟩
  | .local _ .vmem, ⟨0, _⟩ => ⟨S256x5632, .bf16⟩
  | .local _ .vmem, ⟨1, _⟩ => ⟨S256x5632, .bf16⟩
  | .local _ .vmem, ⟨2, _⟩ => ⟨S8x5632, .bf16⟩
  | .local _ .vmem, ⟨3, _⟩ => ⟨S8x5632, .bf16⟩
  | .local _ .vmem, ⟨4, _⟩ => ⟨S3x5632, .f32⟩
  | .local _ .vmem, ⟨5, _⟩ => ⟨S256x5632, .bf16⟩
  | .local _ .vmem, ⟨6, _⟩ => ⟨S256x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnConvBwdRefIdeal.lean ====
abbrev S8192x5632 : Shape := ⟨2, ![8192, 5632]⟩
abbrev S3x5632 : Shape := ⟨2, ![3, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S5632 : Shape := ⟨1, ![5632]⟩

abbrev nBuf : Space → Nat
  | .hbm => 50
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x5632, .f32⟩
  | .hbm, ⟨2, _⟩ => ⟨S_, .f32⟩
  | .hbm, ⟨3, _⟩ => ⟨S8192x5632, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S_, .f32⟩
  | .hbm, ⟨8, _⟩ => ⟨S2x5632, .f32⟩
  | .hbm, ⟨9, _⟩ => ⟨S8192x5632, .f32⟩
  | .hbm, ⟨10, _⟩ => ⟨S1x5632, .f32⟩
  | .hbm, ⟨11, _⟩ => ⟨S5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8194x5632, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S8194x5632, .f32⟩
  | .hbm, ⟨41, _⟩ => ⟨S8194x5632, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8194x5632, .f32⟩
  | .hbm, ⟨46, _⟩ => ⟨S8194x5632, .f32⟩
  | .hbm, ⟨47, _⟩ => ⟨S2x5632, .f32⟩
  | .hbm, ⟨48, _⟩ => ⟨S8192x5632, .f32⟩
  | .hbm, ⟨49, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== GdnConvBwd.lean ====
abbrev S8192x4096 : Shape := ⟨2, ![8192, 4096]⟩
abbrev S8192x2048 : Shape := ⟨2, ![8192, 2048]⟩
abbrev S4x4096 : Shape := ⟨2, ![4, 4096]⟩
abbrev S8192x6144 : Shape := ⟨2, ![8192, 6144]⟩
abbrev S256x4096 : Shape := ⟨2, ![256, 4096]⟩
abbrev S8x4096 : Shape := ⟨2, ![8, 4096]⟩
abbrev S256x2048 : Shape := ⟨2, ![256, 2048]⟩
abbrev S256x6144 : Shape := ⟨2, ![256, 6144]⟩
abbrev S1x4096 : Shape := ⟨2, ![1, 4096]⟩
abbrev S248x4096 : Shape := ⟨2, ![248, 4096]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4x4096, .f32⟩
  | .hbm, ⟨3, _⟩ => ⟨S8192x6144, .bf16⟩
  | .local _ .vmem, ⟨0, _⟩ => ⟨S256x4096, .bf16⟩
  | .local _ .vmem, ⟨1, _⟩ => ⟨S256x4096, .bf16⟩
  | .local _ .vmem, ⟨2, _⟩ => ⟨S8x4096, .bf16⟩
  | .local _ .vmem, ⟨3, _⟩ => ⟨S8x4096, .bf16⟩
  | .local _ .vmem, ⟨4, _⟩ => ⟨S256x2048, .bf16⟩
  | .local _ .vmem, ⟨5, _⟩ => ⟨S256x2048, .bf16⟩
  | .local _ .vmem, ⟨6, _⟩ => ⟨S4x4096, .f32⟩
  | .local _ .vmem, ⟨7, _⟩ => ⟨S256x6144, .bf16⟩
  | .local _ .vmem, ⟨8, _⟩ => ⟨S256x6144, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GdnConvBwdRefIdeal.lean ====
abbrev S8192x4096 : Shape := ⟨2, ![8192, 4096]⟩
abbrev S8192x2048 : Shape := ⟨2, ![8192, 2048]⟩
abbrev S4x4096 : Shape := ⟨2, ![4, 4096]⟩
abbrev S_ : Shape := ⟨0, ![]⟩
abbrev S3x4096 : Shape := ⟨2, ![3, 4096]⟩
abbrev S8195x4096 : Shape := ⟨2, ![8195, 4096]⟩
abbrev S1x4096 : Shape := ⟨2, ![1, 4096]⟩
abbrev S4096 : Shape := ⟨1, ![4096]⟩
abbrev S8192x6144 : Shape := ⟨2, ![8192, 6144]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4x4096, .f32⟩
  | .hbm, ⟨3, _⟩ => ⟨S_, .f32⟩
  | .hbm, ⟨4, _⟩ => ⟨S8192x4096, .f32⟩
  | .hbm, ⟨5, _⟩ => ⟨S_, .f32⟩
  | .hbm, ⟨6, _⟩ => ⟨S3x4096, .f32⟩
  | .hbm, ⟨7, _⟩ => ⟨S8195x4096, .f32⟩
  | .hbm, ⟨8, _⟩ => ⟨S_, .f32⟩
  | .hbm, ⟨9, _⟩ => ⟨S3x4096, .f32⟩
  | .hbm, ⟨10, _⟩ => ⟨S8192x4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S4096, .f32⟩
  | .hbm, ⟨36, _⟩ => ⟨S1x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8195x4096, .f32⟩
  | .hbm, ⟨45, _⟩ => ⟨S8192x4096, .f32⟩
  | .hbm, ⟨46, _⟩ => ⟨S8192x4096, .f32⟩
  | .hbm, ⟨47, _⟩ => ⟨S_, .f32⟩
  | .hbm, ⟨48, _⟩ => ⟨S8195x4096, .f32⟩
  | .hbm, ⟨49, _⟩ => ⟨S8195x4096, .f32⟩
  | .hbm, ⟨50, _⟩ => ⟨S8192x4096, .f32⟩
  | .hbm, ⟨51, _⟩ => ⟨S8192x4096, .f32⟩
  | .hbm, ⟨52, _⟩ => ⟨S_, .f32⟩
  | .hbm, ⟨53, _⟩ => ⟨S8195x4096, .f32⟩
  | .hbm, ⟨54, _⟩ => ⟨S8195x4096, .f32⟩
  | .hbm, ⟨55, _⟩ => ⟨S8192x4096, .f32⟩
  | .hbm, ⟨56, _⟩ => ⟨S8192x4096, .f32⟩
  | .hbm, ⟨57, _⟩ => ⟨S_, .f32⟩
  | .hbm, ⟨58, _⟩ => ⟨S8195x4096, .f32⟩
  | .hbm, ⟨59, _⟩ => ⟨S8195x4096, .f32⟩
  | .hbm, ⟨60, _⟩ => ⟨S3x4096, .f32⟩
  | .hbm, ⟨61, _⟩ => ⟨S8192x4096, .f32⟩
  | .hbm, ⟨62, _⟩ => ⟨S8192x4096, .bf16⟩
  | .hbm, ⟨63, _⟩ => ⟨S8192x6144, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩

abbrev nD : Nat := 1
abbrev τ : Topo := Topo.v7x

variable {F : FTy → Type} [FloatOps F]
-- ==== Proof.DownDxVal.lean ====
/- The feed-forward layer's down product, backwards in its left factor: the kernel's sixteen blocks are the host product. -/
module

public import proofs.«01_k».proof.Proof.Gen.DownDxIdeal.Value
public import proofs.«01_k».proof.Proof.Gen.DownDxRefIdeal.Run
public import proofs.«01_k».proof.Defs
public import Idealize.ShloMosaic.Lib.Pointwise

@[expose] public section

set_option maxRecDepth 16384

noncomputable section

namespace Cert.DownDxIdeal.Hand

open Cert.DownDxIdeal Cert.DownDxIdeal.Gen Idealize.ShloMosaic Idealize.ShloMosaic.TcCoe Idealize.SL.Sem

variable (m : (ℓ : Loc nD τ sig) → Buf (Elt Ideal) ℓ)

/-- A row of the gradient times a row of the weights. -/
def prod (d : FVec Ideal S8192x1024 .f32) (w : FVec Ideal S2816x1024 .bf16) : FVec Ideal S8192x2816 .bf16 := fun i =>
  ∑ k : Fin 1024, (d (ix2 (i 0) k) : EReal) * w (ix2 (i 1) k)

/-- The whole product of the launch contents. -/
def G (c : Dev nD) : FVec Ideal S8192x2816 .bf16 :=
  prod (m (c.tc.loc main_arg0)) (m (c.tc.loc main_arg1))

theorem hz : (![0, 0] : Fin 2 → Nat) = fun _ => 0 := funext fun a => by fin_cases a <;> rfl

/-- One block's result at an index. -/
theorem out_apply (x0 : Vec Ideal S1024x1024 .f32) (x1 : Vec Ideal S1408x1024 .bf16) (y : S1024x1408.Idx) :
    (out0_2 x0 x1 y : EReal) = ∑ k : Fin 1024, (x0 (ix2 (y 0) k) : EReal) * x1 (ix2 (y 1) k) := by
  unfold out0_2
  rw [View.canon_unit_zero hz]
  rw [View.ld_unit_zero (S := S1024x1024) hz, View.ld_unit_zero (S := S1408x1024) hz]
  idx_vars y
  pointwise [k0_pay1]

/-- The block indices of the three windows at every point of the grid. -/
theorem index_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- What a point writes back is its block of the whole product. -/
theorem flushed_G (c : Dev nD) (t : Fin cfg0.N) :
    (dats m 0 c).flushed 2 t = ((cfg0.win 2).blk t).view.read (Elt Ideal) (G m c) := by
  obtain ⟨h0, h1, h2, h3⟩ := index_facts t
  rw [Value.flushed2]
  funext y
  rw [View.read_apply]
  show (out0_2 (iblk m c 0 t) (iblk m c 1 t) _ : EReal) = G m c _
  rw [out_apply]
  unfold G prod
  refine Finset.sum_congr rfl fun k _ => ?_
  congr 1
  · unfold iblk
    rw [View.read_apply]
    show V m c main_arg0 _ = m (c.tc.loc main_arg0) _
    unfold V
    congr 1
    funext a
    apply Fin.ext
    match a with
    | ⟨0, _⟩ => show win0_0.index t 0 * 1024 + 1 * _ = win0_2.index t 0 * 1024 + 1 * _; rw [h0]; rfl
    | ⟨1, _⟩ => show win0_0.index t 1 * 1024 + 1 * k.val = k.val; rw [h1]; omega
  · unfold iblk
    rw [View.read_apply]
    show V m c main_arg1 _ = m (c.tc.loc main_arg1) _
    unfold V
    congr 1
    funext a
    apply Fin.ext
    match a with
    | ⟨0, _⟩ => show win0_1.index t 0 * 1408 + 1 * _ = win0_2.index t 1 * 1408 + 1 * _; rw [h2]; rfl
    | ⟨1, _⟩ => show win0_1.index t 1 * 1024 + 1 * k.val = k.val; rw [h3]; omega

/-- Every block of the result is some point's. -/
theorem covered : ∀ (a : Fin 8) (b : Fin 2), ∃ t : Fin grid0.N, win0_2.flush t = true
    ∧ win0_2.index t (0 : Fin 2) = a.val ∧ win0_2.index t (1 : Fin 2) = b.val := by decide +kernel

/-- The result array after the run is the whole product. -/
theorem final (c : Dev nD) : (dats m 0 c).arrAt 2 cfg0.N = G m c :=
  (dats m 0 c).arrAt_eq_of_cover 2 (G m c) (fun t _ => flushed_G m c t) fun i => by
    have h0 : (i 0 : Nat) < 8192 := (i 0).isLt
    have h1 : (i 1 : Nat) < 2816 := (i 1).isLt
    obtain ⟨t, hf, ha, hb⟩ := covered ⟨(i 0 : Nat) / 1024, by omega⟩ ⟨(i 1 : Nat) / 1408, by omega⟩
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [ha]; dsimp only; omega
    | ⟨1, _⟩ => show win0_2.index t 1 * 1408 ≤ (i 1 : Nat) ∧ (i 1 : Nat) < win0_2.index t 1 * 1408 + 1408
                rw [hb]; dsimp only; omega

end Cert.DownDxIdeal.Hand

namespace Cert.Hand

open Idealize.ShloMosaic Idealize.SL.Sem

/-- The kernel's product and the host's are one array. -/
theorem algebraic_downDx : Cert.algebraic_DownDxIdeal_DownDxRefIdeal := by
  intro m g m' g' _ hargs
  refine ⟨fun c => Cert.DownDxIdeal.Hand.G m c, ?_, ?_⟩
  · refine (θ_run Cert.DownDxIdeal.defs _ _).mono (fun r h c => ?_) (Cert.DownDxIdeal.Value.run_blocks m g)
    exact ⟨(h c).1.trans (Cert.DownDxIdeal.Hand.final m c), (h c).2⟩
  · refine (θ_run Cert.DownDxRefIdeal.defs _ _).mono (fun r h c => ?_) (Cert.DownDxRefIdeal.Value.run m' g')
    refine ⟨(h c).1.trans ?_, (h c).2⟩
    rw [(hargs c).1, (hargs c).2]
    funext i
    unfold Cert.DownDxIdeal.Hand.G Cert.DownDxIdeal.Hand.prod
    idx_vars i
    pointwise

end Cert.Hand

end
-- ==== Proof.Norm.lean ====
/- A row normalised by the root of its mean square and scaled, as both sides of the product claims read it. -/
module

public import Idealize.ShloMosaic.Lib.Pointwise

@[expose] public section

noncomputable section

namespace Cert.Hand

open Idealize.ShloMosaic

/-- Entry `k` of a row `h` divided by the root of its mean square plus the small constant, times the gain `g`. -/
def normed (h g : Fin 1024 → EReal) (k : Fin 1024) : EReal :=
  h k * Ideal.rsqrt (Ideal.div (∑ j : Fin 1024, h j * h j) (Ideal.ofBits .f32 0x44800000#32)
    + Ideal.ofBits .f32 0x358637BD#32) * g k

/-- Rows that agree are normalised alike. -/
theorem normed_congr {h h' g g' : Fin 1024 → EReal} (hh : ∀ k, h k = h' k) (hg : ∀ k, g k = g' k) (k : Fin 1024) :
    normed h g k = normed h' g' k := by
  rw [show h = h' from funext hh, show g = g' from funext hg]

end Cert.Hand

end
-- ==== Proof.Up0Val.lean ====
/- The first layer's up product of the feed-forward layer, on the normalised rows: the kernel's blocks are the host product. -/
module

public import proofs.«01_k».proof.Proof.Gen.Up0Ideal.Value
public import proofs.«01_k».proof.Proof.Gen.Up0RefIdeal.Run
public import proofs.«01_k».proof.Proof.Norm
public import proofs.«01_k».proof.Defs

@[expose] public section

set_option maxRecDepth 16384

noncomputable section

namespace Cert.Up0Ideal.Hand

open Cert.Up0Ideal Cert.Up0Ideal.Gen Idealize.ShloMosaic Idealize.ShloMosaic.TcCoe Idealize.SL.Sem

variable (m : (ℓ : Loc nD τ sig) → Buf (Elt Ideal) ℓ)

/-- The product, entry by entry. -/
def prod (x0 : FVec Ideal S8192x1024 .f32) (x1 : FVec Ideal S1x1024 .f32) (x2 : FVec Ideal S4x2x1024x1408 .bf16) : FVec Ideal S8192x5632 .bf16 := fun i =>
  ∑ k : Fin 1024, Cert.Hand.normed (fun k => x0 (ix2 (i 0) k)) (fun k => x1 (ix2 (0 : Fin 1) k)) k * (x2 (ix4 (⟨(i 1 : Nat) / 1408, by have h : (i 1 : Nat) < 5632 := (i 1).isLt; omega⟩ : Fin 4) (0 : Fin 2) k (⟨(i 1 : Nat) % 1408, Nat.mod_lt _ (by decide)⟩ : Fin 1408)) : EReal)

/-- The whole product of the launch contents. -/
def G (c : Dev nD) : FVec Ideal S8192x5632 .bf16 :=
  prod (m (c.tc.loc main_arg0)) (m (c.tc.loc main_arg1)) (m (c.tc.loc main_arg2))

theorem hz : (![0, 0] : Fin 2 → Nat) = fun _ => 0 := funext fun a => by fin_cases a <;> rfl
theorem hz4 : (![0, 0, 0, 0] : Fin 4 → Nat) = fun _ => 0 := funext fun a => by fin_cases a <;> rfl

/-- One block's result at an index. -/
theorem out_apply (x0 : Vec Ideal S1024x1024 .f32) (x1 : Vec Ideal S1x1x1024x1408 .bf16) (x2 : Vec Ideal S1x1024 .f32) (y : S1024x1408.Idx) :
    (out0_3 x0 x1 x2 y : EReal) = ∑ k : Fin 1024, Cert.Hand.normed (fun k => x0 (ix2 (y 0) k)) (fun k => x2 (ix2 (0 : Fin 1) k)) k * (x1 (ix4 (0 : Fin 1) (0 : Fin 1) k (y 1)) : EReal) := by
  unfold out0_3
  rw [View.canon_unit_zero hz]
  rw [View.ld_unit_zero (S := S1024x1024) hz, View.ld_unit_zero (S := S1x1x1024x1408) hz4, View.ld_unit_zero (S := S1x1024) hz]
  idx_vars y
  unfold Cert.Hand.normed
  pointwise [k0_pay1]

/-- The block indices of the windows at every point of the grid. -/
theorem index_facts : ∀ t : Fin cfg0.N,
    win0_0.index t (0 : Fin 2) = win0_3.index t (0 : Fin 2)
    ∧ win0_0.index t (1 : Fin 2) = 0
    ∧ win0_1.index t (0 : Fin 4) = win0_3.index t (1 : Fin 2)
    ∧ win0_1.index t (1 : Fin 4) = 0
    ∧ win0_1.index t (2 : Fin 4) = 0
    ∧ win0_1.index t (3 : Fin 4) = 0
    ∧ win0_2.index t (0 : Fin 2) = 0
    ∧ win0_2.index t (1 : Fin 2) = 0 :=
  (by decide +kernel : ∀ t : Fin grid0.N, _)

/-- A block of the kernel's operand 0 holds the operand's entries of its place. -/
theorem blk0 (c : Dev nD) (t : Fin cfg0.N) (y : S1024x1408.Idx) (J : S8192x5632.Idx)
    (hJ0 : (J 0 : Nat) = win0_3.index t 0 * 1024 + 1 * (y 0 : Nat)) (hJ1 : (J 1 : Nat) = win0_3.index t 1 * 1408 + 1 * (y 1 : Nat))
    (k : Fin 1024) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 1024 + 1 * k.val = k.val; rw [h01]; omega

/-- A block of the kernel's operand 1 holds the operand's entries of its place. -/
theorem blk1 (c : Dev nD) (t : Fin cfg0.N) (y : S1024x1408.Idx) (J : S8192x5632.Idx)
    (hJ0 : (J 0 : Nat) = win0_3.index t 0 * 1024 + 1 * (y 0 : Nat)) (hJ1 : (J 1 : Nat) = win0_3.index t 1 * 1408 + 1 * (y 1 : Nat))
    (hJ : (J 1 : Nat) / 1408 < 4) (k : Fin 1024) : (iblk m c 1 t (ix4 (0 : Fin 1) (0 : Fin 1) k (y 1)) : EReal) = m (c.tc.loc main_arg2) (ix4 (⟨(J 1 : Nat) / 1408, hJ⟩ : Fin 4) (0 : Fin 2) k (⟨(J 1 : Nat) % 1408, Nat.mod_lt _ (by decide)⟩ : Fin 1408)) := by
  obtain ⟨-, -, h10, h11, h12, h13, -⟩ := index_facts t
  refine congrArg (m (c.tc.loc main_arg2)) (funext fun a => Fin.ext ?_)
  match a with
  | ⟨0, _⟩ => show win0_1.index t 0 * 1 + 1 * 0 = (J 1 : Nat) / 1408; rw [h10, hJ1]; have h : (y 1 : Nat) < 1408 := (y 1).isLt; omega
  | ⟨1, _⟩ => show win0_1.index t 1 * 1 + 1 * 0 = 0; rw [h11]
  | ⟨2, _⟩ => show win0_1.index t 2 * 1024 + 1 * k.val = k.val; rw [h12]; omega
  | ⟨3, _⟩ => show win0_1.index t 3 * 1408 + 1 * (y 1 : Nat) = (J 1 : Nat) % 1408; rw [h13, hJ1]; have h : (y 1 : Nat) < 1408 := (y 1).isLt; omega

/-- A block of the kernel's operand 2 holds the operand's entries of its place. -/
theorem blk2 (c : Dev nD) (t : Fin cfg0.N)
    (k : Fin 1024) : (iblk m c 2 t (ix2 (0 : Fin 1) k) : EReal) = m (c.tc.loc main_arg1) (ix2 (0 : Fin 1) k) := by
  obtain ⟨-, -, -, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- What a point writes back is its block of the whole product. -/
theorem flushed_G (c : Dev nD) (t : Fin cfg0.N) :
    (dats m 0 c).flushed 3 t = ((cfg0.win 3).blk t).view.read (Elt Ideal) (G m c) := by
  rw [Value.flushed3]
  funext y
  rw [View.read_apply]
  show (out0_3 (iblk m c 0 t) (iblk m c 1 t) (iblk m c 2 t) y : EReal) = G m c _
  rw [out_apply]
  unfold G prod
  refine Finset.sum_congr rfl fun k _ => ?_
  refine congrArg₂ (· * ·) (Cert.Hand.normed_congr (fun k => blk0 m c t y _ rfl rfl k) (fun k => blk2 m c t k) k) (blk1 m c t y _ rfl rfl _ k)

/-- Every block of the result is some point's. -/
theorem covered : ∀ (a : Fin 8) (b : Fin 4), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 5632 := (i 1).isLt
    obtain ⟨t, hf, ha, hb⟩ := covered ⟨(i 0 : Nat) / 1024, by omega⟩ ⟨(i 1 : Nat) / 1408, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 1408 ≤ (i 1 : Nat) ∧ (i 1 : Nat) < win0_3.index t 1 * 1408 + 1408
                rw [hb]; dsimp only; omega

end Cert.Up0Ideal.Hand

namespace Cert.Hand

open Idealize.ShloMosaic Idealize.SL.Sem

/-- The kernel's product and the host's are one array. -/
theorem algebraic_up0 : Cert.algebraic_Up0Ideal_Up0RefIdeal := by
  intro m g m' g' _ hargs
  refine ⟨fun c => Cert.Up0Ideal.Hand.G m c, ?_, ?_⟩
  · refine (θ_run Cert.Up0Ideal.defs _ _).mono (fun r h c => ?_) (Cert.Up0Ideal.Value.run_blocks m g)
    exact ⟨(h c).1.trans (Cert.Up0Ideal.Hand.final m c), (h c).2⟩
  · refine (θ_run Cert.Up0RefIdeal.defs _ _).mono (fun r h c => ?_) (Cert.Up0RefIdeal.Value.run m' g')
    refine ⟨(h c).1.trans ?_, (h c).2⟩
    rw [(hargs c).1, (hargs c).2.1, (hargs c).2.2]
    funext i
    unfold Cert.Up0Ideal.Hand.G Cert.Up0Ideal.Hand.prod
    idx_vars i
    unfold Cert.Hand.normed
    pointwise

end Cert.Hand

end
-- ==== Proof.Up1Val.lean ====
/- The second layer's up product of the feed-forward layer, on the normalised rows: the kernel's blocks are the host product. -/
module

public import proofs.«01_k».proof.Proof.Gen.Up1Ideal.Value
public import proofs.«01_k».proof.Proof.Gen.Up1RefIdeal.Run
public import proofs.«01_k».proof.Proof.Norm
public import proofs.«01_k».proof.Defs

@[expose] public section

set_option maxRecDepth 16384

noncomputable section

namespace Cert.Up1Ideal.Hand

open Cert.Up1Ideal Cert.Up1Ideal.Gen Idealize.ShloMosaic Idealize.ShloMosaic.TcCoe Idealize.SL.Sem

variable (m : (ℓ : Loc nD τ sig) → Buf (Elt Ideal) ℓ)

/-- The product, entry by entry. -/
def prod (x0 : FVec Ideal S8192x1024 .f32) (x1 : FVec Ideal S1x1024 .f32) (x2 : FVec Ideal S4x2x1024x1408 .bf16) : FVec Ideal S8192x5632 .bf16 := fun i =>
  ∑ k : Fin 1024, Cert.Hand.normed (fun k => x0 (ix2 (i 0) k)) (fun k => x1 (ix2 (0 : Fin 1) k)) k * (x2 (ix4 (⟨(i 1 : Nat) / 1408, by have h : (i 1 : Nat) < 5632 := (i 1).isLt; omega⟩ : Fin 4) (1 : Fin 2) k (⟨(i 1 : Nat) % 1408, Nat.mod_lt _ (by decide)⟩ : Fin 1408)) : EReal)

/-- The whole product of the launch contents. -/
def G (c : Dev nD) : FVec Ideal S8192x5632 .bf16 :=
  prod (m (c.tc.loc main_arg0)) (m (c.tc.loc main_arg1)) (m (c.tc.loc main_arg2))

theorem hz : (![0, 0] : Fin 2 → Nat) = fun _ => 0 := funext fun a => by fin_cases a <;> rfl
theorem hz4 : (![0, 0, 0, 0] : Fin 4 → Nat) = fun _ => 0 := funext fun a => by fin_cases a <;> rfl

/-- One block's result at an index. -/
theorem out_apply (x0 : Vec Ideal S1024x1024 .f32) (x1 : Vec Ideal S1x1x1024x1408 .bf16) (x2 : Vec Ideal S1x1024 .f32) (y : S1024x1408.Idx) :
    (out0_3 x0 x1 x2 y : EReal) = ∑ k : Fin 1024, Cert.Hand.normed (fun k => x0 (ix2 (y 0) k)) (fun k => x2 (ix2 (0 : Fin 1) k)) k * (x1 (ix4 (0 : Fin 1) (0 : Fin 1) k (y 1)) : EReal) := by
  unfold out0_3
  rw [View.canon_unit_zero hz]
  rw [View.ld_unit_zero (S := S1024x1024) hz, View.ld_unit_zero (S := S1x1x1024x1408) hz4, View.ld_unit_zero (S := S1x1024) hz]
  idx_vars y
  unfold Cert.Hand.normed
  pointwise [k0_pay1]

/-- The block indices of the windows at every point of the grid. -/
theorem index_facts : ∀ t : Fin cfg0.N,
    win0_0.index t (0 : Fin 2) = win0_3.index t (0 : Fin 2)
    ∧ win0_0.index t (1 : Fin 2) = 0
    ∧ win0_1.index t (0 : Fin 4) = win0_3.index t (1 : Fin 2)
    ∧ win0_1.index t (1 : Fin 4) = 1
    ∧ win0_1.index t (2 : Fin 4) = 0
    ∧ win0_1.index t (3 : Fin 4) = 0
    ∧ win0_2.index t (0 : Fin 2) = 0
    ∧ win0_2.index t (1 : Fin 2) = 0 :=
  (by decide +kernel : ∀ t : Fin grid0.N, _)

/-- A block of the kernel's operand 0 holds the operand's entries of its place. -/
theorem blk0 (c : Dev nD) (t : Fin cfg0.N) (y : S1024x1408.Idx) (J : S8192x5632.Idx)
    (hJ0 : (J 0 : Nat) = win0_3.index t 0 * 1024 + 1 * (y 0 : Nat)) (hJ1 : (J 1 : Nat) = win0_3.index t 1 * 1408 + 1 * (y 1 : Nat))
    (k : Fin 1024) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 1024 + 1 * k.val = k.val; rw [h01]; omega

/-- A block of the kernel's operand 1 holds the operand's entries of its place. -/
theorem blk1 (c : Dev nD) (t : Fin cfg0.N) (y : S1024x1408.Idx) (J : S8192x5632.Idx)
    (hJ0 : (J 0 : Nat) = win0_3.index t 0 * 1024 + 1 * (y 0 : Nat)) (hJ1 : (J 1 : Nat) = win0_3.index t 1 * 1408 + 1 * (y 1 : Nat))
    (hJ : (J 1 : Nat) / 1408 < 4) (k : Fin 1024) : (iblk m c 1 t (ix4 (0 : Fin 1) (0 : Fin 1) k (y 1)) : EReal) = m (c.tc.loc main_arg2) (ix4 (⟨(J 1 : Nat) / 1408, hJ⟩ : Fin 4) (1 : Fin 2) k (⟨(J 1 : Nat) % 1408, Nat.mod_lt _ (by decide)⟩ : Fin 1408)) := by
  obtain ⟨-, -, h10, h11, h12, h13, -⟩ := index_facts t
  refine congrArg (m (c.tc.loc main_arg2)) (funext fun a => Fin.ext ?_)
  match a with
  | ⟨0, _⟩ => show win0_1.index t 0 * 1 + 1 * 0 = (J 1 : Nat) / 1408; rw [h10, hJ1]; have h : (y 1 : Nat) < 1408 := (y 1).isLt; omega
  | ⟨1, _⟩ => show win0_1.index t 1 * 1 + 1 * 0 = 1; rw [h11]
  | ⟨2, _⟩ => show win0_1.index t 2 * 1024 + 1 * k.val = k.val; rw [h12]; omega
  | ⟨3, _⟩ => show win0_1.index t 3 * 1408 + 1 * (y 1 : Nat) = (J 1 : Nat) % 1408; rw [h13, hJ1]; have h : (y 1 : Nat) < 1408 := (y 1).isLt; omega

/-- A block of the kernel's operand 2 holds the operand's entries of its place. -/
theorem blk2 (c : Dev nD) (t : Fin cfg0.N)
    (k : Fin 1024) : (iblk m c 2 t (ix2 (0 : Fin 1) k) : EReal) = m (c.tc.loc main_arg1) (ix2 (0 : Fin 1) k) := by
  obtain ⟨-, -, -, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- What a point writes back is its block of the whole product. -/
theorem flushed_G (c : Dev nD) (t : Fin cfg0.N) :
    (dats m 0 c).flushed 3 t = ((cfg0.win 3).blk t).view.read (Elt Ideal) (G m c) := by
  rw [Value.flushed3]
  funext y
  rw [View.read_apply]
  show (out0_3 (iblk m c 0 t) (iblk m c 1 t) (iblk m c 2 t) y : EReal) = G m c _
  rw [out_apply]
  unfold G prod
  refine Finset.sum_congr rfl fun k _ => ?_
  refine congrArg₂ (· * ·) (Cert.Hand.normed_congr (fun k => blk0 m c t y _ rfl rfl k) (fun k => blk2 m c t k) k) (blk1 m c t y _ rfl rfl _ k)

/-- Every block of the result is some point's. -/
theorem covered : ∀ (a : Fin 8) (b : Fin 4), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 5632 := (i 1).isLt
    obtain ⟨t, hf, ha, hb⟩ := covered ⟨(i 0 : Nat) / 1024, by omega⟩ ⟨(i 1 : Nat) / 1408, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 1408 ≤ (i 1 : Nat) ∧ (i 1 : Nat) < win0_3.index t 1 * 1408 + 1408
                rw [hb]; dsimp only; omega

end Cert.Up1Ideal.Hand

namespace Cert.Hand

open Idealize.ShloMosaic Idealize.SL.Sem

/-- The kernel's product and the host's are one array. -/
theorem algebraic_up1 : Cert.algebraic_Up1Ideal_Up1RefIdeal := by
  intro m g m' g' _ hargs
  refine ⟨fun c => Cert.Up1Ideal.Hand.G m c, ?_, ?_⟩
  · refine (θ_run Cert.Up1Ideal.defs _ _).mono (fun r h c => ?_) (Cert.Up1Ideal.Value.run_blocks m g)
    exact ⟨(h c).1.trans (Cert.Up1Ideal.Hand.final m c), (h c).2⟩
  · refine (θ_run Cert.Up1RefIdeal.defs _ _).mono (fun r h c => ?_) (Cert.Up1RefIdeal.Value.run m' g')
    refine ⟨(h c).1.trans ?_, (h c).2⟩
    rw [(hargs c).1, (hargs c).2.1, (hargs c).2.2]
    funext i
    unfold Cert.Up1Ideal.Hand.G Cert.Up1Ideal.Hand.prod
    idx_vars i
    unfold Cert.Hand.normed
    pointwise

end Cert.Hand

end
-- ==== Proof.DownVal.lean ====
/- The down product of the feed-forward layer, added to the stream: the kernel's blocks are the host product. -/
module

public import proofs.«01_k».proof.Proof.Gen.DownIdeal.Value
public import proofs.«01_k».proof.Proof.Gen.DownRefIdeal.Run
public import proofs.«01_k».proof.Proof.Norm
public import proofs.«01_k».proof.Defs

@[expose] public section

set_option maxRecDepth 16384

noncomputable section

namespace Cert.DownIdeal.Hand

open Cert.DownIdeal Cert.DownIdeal.Gen Idealize.ShloMosaic Idealize.ShloMosaic.TcCoe Idealize.SL.Sem

variable (m : (ℓ : Loc nD τ sig) → Buf (Elt Ideal) ℓ)

/-- The product, entry by entry. -/
def prod (x0 : FVec Ideal S8192x2816 .bf16) (x1 : FVec Ideal S2816x1024 .bf16) (x2 : FVec Ideal S8192x1024 .f32) : FVec Ideal S8192x1024 .f32 := fun i =>
  (x2 i : EReal) + (∑ k : Fin 2816, (x0 (ix2 (i 0) k) : EReal) * (x1 (ix2 k (i 1)) : EReal))

/-- The whole product of the launch contents. -/
def G (c : Dev nD) : FVec Ideal S8192x1024 .f32 :=
  prod (m (c.tc.loc main_arg0)) (m (c.tc.loc main_arg1)) (m (c.tc.loc main_arg2))

theorem hz : (![0, 0] : Fin 2 → Nat) = fun _ => 0 := funext fun a => by fin_cases a <;> rfl

/-- One block's result at an index. -/
theorem out_apply (x0 : Vec Ideal S512x2816 .bf16) (x1 : Vec Ideal S2816x1024 .bf16) (x2 : Vec Ideal S512x1024 .f32) (y : S512x1024.Idx) :
    (out0_3 x0 x1 x2 y : EReal) = (∑ k : Fin 2816, (x0 (ix2 (y 0) k) : EReal) * (x1 (ix2 k (y 1)) : EReal)) + (x2 y : EReal) := by
  unfold out0_3
  rw [View.canon_unit_zero hz]
  rw [View.ld_unit_zero (S := S512x2816) hz, View.ld_unit_zero (S := S2816x1024) hz, View.ld_unit_zero (S := S512x1024) hz]
  idx_vars y
  skip
  pointwise [k0_pay1]

/-- The block indices of the windows at every point of the grid. -/
theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = win0_3.index t (0 : Fin 2)
    ∧ win0_2.index t (1 : Fin 2) = win0_3.index t (1 : Fin 2) :=
  (by decide +kernel : ∀ t : Fin grid0.N, _)

/-- A block of the kernel's operand 0 holds the operand's entries of its place. -/
theorem blk0 (c : Dev nD) (t : Fin cfg0.N) (y : S512x1024.Idx) (J : S8192x1024.Idx)
    (hJ0 : (J 0 : Nat) = win0_3.index t 0 * 512 + 1 * (y 0 : Nat)) (hJ1 : (J 1 : Nat) = win0_3.index t 1 * 1024 + 1 * (y 1 : Nat))
    (k : Fin 2816) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 512 + 1 * (y 0 : Nat) = (J 0 : Nat); rw [h00, hJ0]
  | ⟨1, _⟩ => show win0_0.index t 1 * 2816 + 1 * k.val = k.val; rw [h01]; omega

/-- A block of the kernel's operand 1 holds the operand's entries of its place. -/
theorem blk1 (c : Dev nD) (t : Fin cfg0.N) (y : S512x1024.Idx) (J : S8192x1024.Idx)
    (hJ0 : (J 0 : Nat) = win0_3.index t 0 * 512 + 1 * (y 0 : Nat)) (hJ1 : (J 1 : Nat) = win0_3.index t 1 * 1024 + 1 * (y 1 : Nat))
    (k : Fin 2816) : (iblk m c 1 t (ix2 k (y 1)) : EReal) = m (c.tc.loc main_arg1) (ix2 k (J 1)) := by
  obtain ⟨-, -, h10, h11, -⟩ := index_facts t
  refine congrArg (m (c.tc.loc main_arg1)) (funext fun a => Fin.ext ?_)
  match a with
  | ⟨0, _⟩ => show win0_1.index t 0 * 2816 + 1 * k.val = k.val; rw [h10]; omega
  | ⟨1, _⟩ => show win0_1.index t 1 * 1024 + 1 * (y 1 : Nat) = (J 1 : Nat); rw [h11, hJ1]

/-- A block of the kernel's operand 2 holds the operand's entries of its place. -/
theorem blk2 (c : Dev nD) (t : Fin cfg0.N) (y : S512x1024.Idx) (J : S8192x1024.Idx)
    (hJ0 : (J 0 : Nat) = win0_3.index t 0 * 512 + 1 * (y 0 : Nat)) (hJ1 : (J 1 : Nat) = win0_3.index t 1 * 1024 + 1 * (y 1 : Nat))
    : (iblk m c 2 t y : EReal) = m (c.tc.loc main_arg2) J := by
  obtain ⟨-, -, -, -, h20, h21⟩ := index_facts t
  refine congrArg (m (c.tc.loc main_arg2)) (funext fun a => Fin.ext ?_)
  match a with
  | ⟨0, _⟩ => show win0_2.index t 0 * 512 + 1 * (y 0 : Nat) = (J 0 : Nat); rw [h20, hJ0]
  | ⟨1, _⟩ => show win0_2.index t 1 * 1024 + 1 * (y 1 : Nat) = (J 1 : Nat); rw [h21, hJ1]

/-- What a point writes back is its block of the whole product. -/
theorem flushed_G (c : Dev nD) (t : Fin cfg0.N) :
    (dats m 0 c).flushed 3 t = ((cfg0.win 3).blk t).view.read (Elt Ideal) (G m c) := by
  rw [Value.flushed3]
  funext y
  rw [View.read_apply]
  show (out0_3 (iblk m c 0 t) (iblk m c 1 t) (iblk m c 2 t) y : EReal) = G m c _
  rw [out_apply]
  unfold G prod
  refine (add_comm (G := EReal) _ _).trans (congrArg₂ (· + ·) (blk2 m c t y _ rfl rfl) ?_)
  refine Finset.sum_congr rfl fun k _ => ?_
  exact congrArg₂ (· * ·) (blk0 m c t y _ rfl rfl k) (blk1 m c t y _ rfl rfl k)

/-- Every block of the result is some point's. -/
theorem covered : ∀ (a : Fin 16) (b : Fin 1), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 1024 := (i 1).isLt
    obtain ⟨t, hf, ha, hb⟩ := covered ⟨(i 0 : Nat) / 512, by omega⟩ ⟨(i 1 : Nat) / 1024, by omega⟩
    refine ⟨t, hf, ?_⟩
    show i ∈ ((View.whole main_v0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [ha]; dsimp only; omega
    | ⟨1, _⟩ => show win0_3.index t 1 * 1024 ≤ (i 1 : Nat) ∧ (i 1 : Nat) < win0_3.index t 1 * 1024 + 1024
                rw [hb]; dsimp only; omega

end Cert.DownIdeal.Hand

namespace Cert.Hand

open Idealize.ShloMosaic Idealize.SL.Sem

/-- The kernel's product and the host's are one array. -/
theorem algebraic_down : Cert.algebraic_DownIdeal_DownRefIdeal := by
  intro m g m' g' _ hargs
  refine ⟨fun c => Cert.DownIdeal.Hand.G m c, ?_, ?_⟩
  · refine (θ_run Cert.DownIdeal.defs _ _).mono (fun r h c => ?_) (Cert.DownIdeal.Value.run_blocks m g)
    exact ⟨(h c).1.trans (Cert.DownIdeal.Hand.final m c), (h c).2⟩
  · refine (θ_run Cert.DownRefIdeal.defs _ _).mono (fun r h c => ?_) (Cert.DownRefIdeal.Value.run m' g')
    refine ⟨(h c).1.trans ?_, (h c).2⟩
    rw [(hargs c).1, (hargs c).2.1, (hargs c).2.2]
    funext i
    unfold Cert.DownIdeal.Hand.G Cert.DownIdeal.Hand.prod
    idx_vars i
    skip
    pointwise

end Cert.Hand

end
-- ==== Proof.GdnInVal.lean ====
/- The gated delta layer's in-projection, on the normalised rows: the kernel's blocks are the host product. -/
module

public import proofs.«01_k».proof.Proof.Gen.GdnInIdeal.Value
public import proofs.«01_k».proof.Proof.Gen.GdnInRefIdeal.Run
public import proofs.«01_k».proof.Proof.Norm
public import proofs.«01_k».proof.Defs

@[expose] public section

set_option maxRecDepth 16384

noncomputable section

namespace Cert.GdnInIdeal.Hand

open Cert.GdnInIdeal Cert.GdnInIdeal.Gen Idealize.ShloMosaic Idealize.ShloMosaic.TcCoe Idealize.SL.Sem

variable (m : (ℓ : Loc nD τ sig) → Buf (Elt Ideal) ℓ)

/-- The product, entry by entry. -/
def prod (x0 : FVec Ideal S8192x1024 .f32) (x1 : FVec Ideal S1x1024 .f32) (x2 : FVec Ideal S1024x6144 .bf16) : FVec Ideal S8192x6144 .bf16 := fun i =>
  ∑ k : Fin 1024, Cert.Hand.normed (fun k => x0 (ix2 (i 0) k)) (fun k => x1 (ix2 (0 : Fin 1) k)) k * (x2 (ix2 k (i 1)) : EReal)

/-- The whole product of the launch contents. -/
def G (c : Dev nD) : FVec Ideal S8192x6144 .bf16 :=
  prod (m (c.tc.loc main_arg0)) (m (c.tc.loc main_arg1)) (m (c.tc.loc main_arg2))

theorem hz : (![0, 0] : Fin 2 → Nat) = fun _ => 0 := funext fun a => by fin_cases a <;> rfl

/-- One block's result at an index. -/
theorem out_apply (x0 : Vec Ideal S1024x1024 .f32) (x1 : Vec Ideal S1024x1024 .bf16) (x2 : Vec Ideal S1x1024 .f32) (y : S1024x1024.Idx) :
    (out0_3 x0 x1 x2 y : EReal) = ∑ k : Fin 1024, Cert.Hand.normed (fun k => x0 (ix2 (y 0) k)) (fun k => x2 (ix2 (0 : Fin 1) k)) k * (x1 (ix2 k (y 1)) : EReal) := by
  unfold out0_3
  rw [View.canon_unit_zero hz]
  rw [View.ld_unit_zero (S := S1024x1024) hz, View.ld_unit_zero (S := S1024x1024) hz, View.ld_unit_zero (S := S1x1024) hz]
  idx_vars y
  unfold Cert.Hand.normed
  pointwise [k0_pay1]

/-- The block indices of the windows at every point of the grid. -/
theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = 0 :=
  (by decide +kernel : ∀ t : Fin grid0.N, _)

/-- A block of the kernel's operand 0 holds the operand's entries of its place. -/
theorem blk0 (c : Dev nD) (t : Fin cfg0.N) (y : S1024x1024.Idx) (J : S8192x6144.Idx)
    (hJ0 : (J 0 : Nat) = win0_3.index t 0 * 1024 + 1 * (y 0 : Nat)) (hJ1 : (J 1 : Nat) = win0_3.index t 1 * 1024 + 1 * (y 1 : Nat))
    (k : Fin 1024) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 1024 + 1 * k.val = k.val; rw [h01]; omega

/-- A block of the kernel's operand 1 holds the operand's entries of its place. -/
theorem blk1 (c : Dev nD) (t : Fin cfg0.N) (y : S1024x1024.Idx) (J : S8192x6144.Idx)
    (hJ0 : (J 0 : Nat) = win0_3.index t 0 * 1024 + 1 * (y 0 : Nat)) (hJ1 : (J 1 : Nat) = win0_3.index t 1 * 1024 + 1 * (y 1 : Nat))
    (k : Fin 1024) : (iblk m c 1 t (ix2 k (y 1)) : EReal) = m (c.tc.loc main_arg2) (ix2 k (J 1)) := by
  obtain ⟨-, -, h10, h11, -⟩ := index_facts t
  refine congrArg (m (c.tc.loc main_arg2)) (funext fun a => Fin.ext ?_)
  match a with
  | ⟨0, _⟩ => show win0_1.index t 0 * 1024 + 1 * k.val = k.val; rw [h10]; omega
  | ⟨1, _⟩ => show win0_1.index t 1 * 1024 + 1 * (y 1 : Nat) = (J 1 : Nat); rw [h11, hJ1]

/-- A block of the kernel's operand 2 holds the operand's entries of its place. -/
theorem blk2 (c : Dev nD) (t : Fin cfg0.N)
    (k : Fin 1024) : (iblk m c 2 t (ix2 (0 : Fin 1) k) : EReal) = m (c.tc.loc main_arg1) (ix2 (0 : Fin 1) k) := by
  obtain ⟨-, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- What a point writes back is its block of the whole product. -/
theorem flushed_G (c : Dev nD) (t : Fin cfg0.N) :
    (dats m 0 c).flushed 3 t = ((cfg0.win 3).blk t).view.read (Elt Ideal) (G m c) := by
  rw [Value.flushed3]
  funext y
  rw [View.read_apply]
  show (out0_3 (iblk m c 0 t) (iblk m c 1 t) (iblk m c 2 t) y : EReal) = G m c _
  rw [out_apply]
  unfold G prod
  refine Finset.sum_congr rfl fun k _ => ?_
  refine congrArg₂ (· * ·) (Cert.Hand.normed_congr (fun k => blk0 m c t y _ rfl rfl k) (fun k => blk2 m c t k) k) (blk1 m c t y _ rfl rfl k)

/-- Every block of the result is some point's. -/
theorem covered : ∀ (a : Fin 8) (b : Fin 6), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 6144 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 1024 ≤ (i 1 : Nat) ∧ (i 1 : Nat) < win0_3.index t 1 * 1024 + 1024
                rw [hb]; dsimp only; omega

end Cert.GdnInIdeal.Hand

namespace Cert.Hand

open Idealize.ShloMosaic Idealize.SL.Sem

/-- The kernel's product and the host's are one array. -/
theorem algebraic_gdnIn : Cert.algebraic_GdnInIdeal_GdnInRefIdeal := by
  intro m g m' g' _ hargs
  refine ⟨fun c => Cert.GdnInIdeal.Hand.G m c, ?_, ?_⟩
  · refine (θ_run Cert.GdnInIdeal.defs _ _).mono (fun r h c => ?_) (Cert.GdnInIdeal.Value.run_blocks m g)
    exact ⟨(h c).1.trans (Cert.GdnInIdeal.Hand.final m c), (h c).2⟩
  · refine (θ_run Cert.GdnInRefIdeal.defs _ _).mono (fun r h c => ?_) (Cert.GdnInRefIdeal.Value.run m' g')
    refine ⟨(h c).1.trans ?_, (h c).2⟩
    rw [(hargs c).1, (hargs c).2.1, (hargs c).2.2]
    funext i
    unfold Cert.GdnInIdeal.Hand.G Cert.GdnInIdeal.Hand.prod
    idx_vars i
    unfold Cert.Hand.normed
    pointwise

end Cert.Hand

end
-- ==== Proof.GdnOutVal.lean ====
/- The gated delta layer's out-projection, added to the stream: the kernel's blocks are the host product. -/
module

public import proofs.«01_k».proof.Proof.Gen.GdnOutIdeal.Value
public import proofs.«01_k».proof.Proof.Gen.GdnOutRefIdeal.Run
public import proofs.«01_k».proof.Proof.Norm
public import proofs.«01_k».proof.Defs

@[expose] public section

set_option maxRecDepth 16384

noncomputable section

namespace Cert.GdnOutIdeal.Hand

open Cert.GdnOutIdeal Cert.GdnOutIdeal.Gen Idealize.ShloMosaic Idealize.ShloMosaic.TcCoe Idealize.SL.Sem

variable (m : (ℓ : Loc nD τ sig) → Buf (Elt Ideal) ℓ)

/-- The product, entry by entry. -/
def prod (x0 : FVec Ideal S8192x2048 .bf16) (x1 : FVec Ideal S2048x1024 .bf16) (x2 : FVec Ideal S8192x1024 .f32) : FVec Ideal S8192x1024 .f32 := fun i =>
  (x2 i : EReal) + (∑ k : Fin 2048, (x0 (ix2 (i 0) k) : EReal) * (x1 (ix2 k (i 1)) : EReal))

/-- The whole product of the launch contents. -/
def G (c : Dev nD) : FVec Ideal S8192x1024 .f32 :=
  prod (m (c.tc.loc main_arg0)) (m (c.tc.loc main_arg1)) (m (c.tc.loc main_arg2))

theorem hz : (![0, 0] : Fin 2 → Nat) = fun _ => 0 := funext fun a => by fin_cases a <;> rfl

/-- One block's result at an index. -/
theorem out_apply (x0 : Vec Ideal S1024x2048 .bf16) (x1 : Vec Ideal S2048x1024 .bf16) (x2 : Vec Ideal S1024x1024 .f32) (y : S1024x1024.Idx) :
    (out0_3 x0 x1 x2 y : EReal) = (∑ k : Fin 2048, (x0 (ix2 (y 0) k) : EReal) * (x1 (ix2 k (y 1)) : EReal)) + (x2 y : EReal) := by
  unfold out0_3
  rw [View.canon_unit_zero hz]
  rw [View.ld_unit_zero (S := S1024x2048) hz, View.ld_unit_zero (S := S2048x1024) hz, View.ld_unit_zero (S := S1024x1024) hz]
  idx_vars y
  skip
  pointwise [k0_pay1]

/-- The block indices of the windows at every point of the grid. -/
theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = win0_3.index t (0 : Fin 2)
    ∧ win0_2.index t (1 : Fin 2) = win0_3.index t (1 : Fin 2) :=
  (by decide +kernel : ∀ t : Fin grid0.N, _)

/-- A block of the kernel's operand 0 holds the operand's entries of its place. -/
theorem blk0 (c : Dev nD) (t : Fin cfg0.N) (y : S1024x1024.Idx) (J : S8192x1024.Idx)
    (hJ0 : (J 0 : Nat) = win0_3.index t 0 * 1024 + 1 * (y 0 : Nat)) (hJ1 : (J 1 : Nat) = win0_3.index t 1 * 1024 + 1 * (y 1 : Nat))
    (k : Fin 2048) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 2048 + 1 * k.val = k.val; rw [h01]; omega

/-- A block of the kernel's operand 1 holds the operand's entries of its place. -/
theorem blk1 (c : Dev nD) (t : Fin cfg0.N) (y : S1024x1024.Idx) (J : S8192x1024.Idx)
    (hJ0 : (J 0 : Nat) = win0_3.index t 0 * 1024 + 1 * (y 0 : Nat)) (hJ1 : (J 1 : Nat) = win0_3.index t 1 * 1024 + 1 * (y 1 : Nat))
    (k : Fin 2048) : (iblk m c 1 t (ix2 k (y 1)) : EReal) = m (c.tc.loc main_arg1) (ix2 k (J 1)) := by
  obtain ⟨-, -, h10, h11, -⟩ := index_facts t
  refine congrArg (m (c.tc.loc main_arg1)) (funext fun a => Fin.ext ?_)
  match a with
  | ⟨0, _⟩ => show win0_1.index t 0 * 2048 + 1 * k.val = k.val; rw [h10]; omega
  | ⟨1, _⟩ => show win0_1.index t 1 * 1024 + 1 * (y 1 : Nat) = (J 1 : Nat); rw [h11, hJ1]

/-- A block of the kernel's operand 2 holds the operand's entries of its place. -/
theorem blk2 (c : Dev nD) (t : Fin cfg0.N) (y : S1024x1024.Idx) (J : S8192x1024.Idx)
    (hJ0 : (J 0 : Nat) = win0_3.index t 0 * 1024 + 1 * (y 0 : Nat)) (hJ1 : (J 1 : Nat) = win0_3.index t 1 * 1024 + 1 * (y 1 : Nat))
    : (iblk m c 2 t y : EReal) = m (c.tc.loc main_arg2) J := by
  obtain ⟨-, -, -, -, h20, h21⟩ := index_facts t
  refine congrArg (m (c.tc.loc main_arg2)) (funext fun a => Fin.ext ?_)
  match a with
  | ⟨0, _⟩ => show win0_2.index t 0 * 1024 + 1 * (y 0 : Nat) = (J 0 : Nat); rw [h20, hJ0]
  | ⟨1, _⟩ => show win0_2.index t 1 * 1024 + 1 * (y 1 : Nat) = (J 1 : Nat); rw [h21, hJ1]

/-- What a point writes back is its block of the whole product. -/
theorem flushed_G (c : Dev nD) (t : Fin cfg0.N) :
    (dats m 0 c).flushed 3 t = ((cfg0.win 3).blk t).view.read (Elt Ideal) (G m c) := by
  rw [Value.flushed3]
  funext y
  rw [View.read_apply]
  show (out0_3 (iblk m c 0 t) (iblk m c 1 t) (iblk m c 2 t) y : EReal) = G m c _
  rw [out_apply]
  unfold G prod
  refine (add_comm (G := EReal) _ _).trans (congrArg₂ (· + ·) (blk2 m c t y _ rfl rfl) ?_)
  refine Finset.sum_congr rfl fun k _ => ?_
  exact congrArg₂ (· * ·) (blk0 m c t y _ rfl rfl k) (blk1 m c t y _ rfl rfl k)

/-- Every block of the result is some point's. -/
theorem covered : ∀ (a : Fin 8) (b : Fin 1), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 1024 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 1024 ≤ (i 1 : Nat) ∧ (i 1 : Nat) < win0_3.index t 1 * 1024 + 1024
                rw [hb]; dsimp only; omega

end Cert.GdnOutIdeal.Hand

namespace Cert.Hand

open Idealize.ShloMosaic Idealize.SL.Sem

/-- The kernel's product and the host's are one array. -/
theorem algebraic_gdnOut : Cert.algebraic_GdnOutIdeal_GdnOutRefIdeal := by
  intro m g m' g' _ hargs
  refine ⟨fun c => Cert.GdnOutIdeal.Hand.G m c, ?_, ?_⟩
  · refine (θ_run Cert.GdnOutIdeal.defs _ _).mono (fun r h c => ?_) (Cert.GdnOutIdeal.Value.run_blocks m g)
    exact ⟨(h c).1.trans (Cert.GdnOutIdeal.Hand.final m c), (h c).2⟩
  · refine (θ_run Cert.GdnOutRefIdeal.defs _ _).mono (fun r h c => ?_) (Cert.GdnOutRefIdeal.Value.run m' g')
    refine ⟨(h c).1.trans ?_, (h c).2⟩
    rw [(hargs c).1, (hargs c).2.1, (hargs c).2.2]
    funext i
    unfold Cert.GdnOutIdeal.Hand.G Cert.GdnOutIdeal.Hand.prod
    idx_vars i
    skip
    pointwise

end Cert.Hand

end
-- ==== Proof.GdnOutDxVal.lean ====
/- The gated delta layer's out-projection, backwards in its left factor: the kernel's blocks are the host product. -/
module

public import proofs.«01_k».proof.Proof.Gen.GdnOutDxIdeal.Value
public import proofs.«01_k».proof.Proof.Gen.GdnOutDxRefIdeal.Run
public import proofs.«01_k».proof.Proof.Norm
public import proofs.«01_k».proof.Defs

@[expose] public section

set_option maxRecDepth 16384

noncomputable section

namespace Cert.GdnOutDxIdeal.Hand

open Cert.GdnOutDxIdeal Cert.GdnOutDxIdeal.Gen Idealize.ShloMosaic Idealize.ShloMosaic.TcCoe Idealize.SL.Sem

variable (m : (ℓ : Loc nD τ sig) → Buf (Elt Ideal) ℓ)

/-- The product, entry by entry. -/
def prod (x0 : FVec Ideal S8192x1024 .f32) (x1 : FVec Ideal S2048x1024 .bf16) : FVec Ideal S8192x2048 .bf16 := fun i =>
  ∑ k : Fin 1024, (x0 (ix2 (i 0) k) : EReal) * (x1 (ix2 (i 1) k) : EReal)

/-- The whole product of the launch contents. -/
def G (c : Dev nD) : FVec Ideal S8192x2048 .bf16 :=
  prod (m (c.tc.loc main_arg0)) (m (c.tc.loc main_arg1))

theorem hz : (![0, 0] : Fin 2 → Nat) = fun _ => 0 := funext fun a => by fin_cases a <;> rfl

/-- One block's result at an index. -/
theorem out_apply (x0 : Vec Ideal S1024x1024 .f32) (x1 : Vec Ideal S1024x1024 .bf16) (y : S1024x1024.Idx) :
    (out0_2 x0 x1 y : EReal) = ∑ k : Fin 1024, (x0 (ix2 (y 0) k) : EReal) * (x1 (ix2 (y 1) k) : EReal) := by
  unfold out0_2
  rw [View.canon_unit_zero hz]
  rw [View.ld_unit_zero (S := S1024x1024) hz, View.ld_unit_zero (S := S1024x1024) hz]
  idx_vars y
  skip
  pointwise [k0_pay1]

/-- The block indices of the windows at every point of the grid. -/
theorem index_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0 :=
  (by decide +kernel : ∀ t : Fin grid0.N, _)

/-- A block of the kernel's operand 0 holds the operand's entries of its place. -/
theorem blk0 (c : Dev nD) (t : Fin cfg0.N) (y : S1024x1024.Idx) (J : S8192x2048.Idx)
    (hJ0 : (J 0 : Nat) = win0_2.index t 0 * 1024 + 1 * (y 0 : Nat)) (hJ1 : (J 1 : Nat) = win0_2.index t 1 * 1024 + 1 * (y 1 : Nat))
    (k : Fin 1024) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 1024 + 1 * k.val = k.val; rw [h01]; omega

/-- A block of the kernel's operand 1 holds the operand's entries of its place. -/
theorem blk1 (c : Dev nD) (t : Fin cfg0.N) (y : S1024x1024.Idx) (J : S8192x2048.Idx)
    (hJ0 : (J 0 : Nat) = win0_2.index t 0 * 1024 + 1 * (y 0 : Nat)) (hJ1 : (J 1 : Nat) = win0_2.index t 1 * 1024 + 1 * (y 1 : Nat))
    (k : Fin 1024) : (iblk m c 1 t (ix2 (y 1) k) : EReal) = m (c.tc.loc main_arg1) (ix2 (J 1) k) := by
  obtain ⟨-, -, h10, h11⟩ := index_facts t
  refine congrArg (m (c.tc.loc main_arg1)) (funext fun a => Fin.ext ?_)
  match a with
  | ⟨0, _⟩ => show win0_1.index t 0 * 1024 + 1 * (y 1 : Nat) = (J 1 : Nat); rw [h10, hJ1]
  | ⟨1, _⟩ => show win0_1.index t 1 * 1024 + 1 * k.val = k.val; rw [h11]; omega

/-- What a point writes back is its block of the whole product. -/
theorem flushed_G (c : Dev nD) (t : Fin cfg0.N) :
    (dats m 0 c).flushed 2 t = ((cfg0.win 2).blk t).view.read (Elt Ideal) (G m c) := by
  rw [Value.flushed2]
  funext y
  rw [View.read_apply]
  show (out0_2 (iblk m c 0 t) (iblk m c 1 t) y : EReal) = G m c _
  rw [out_apply]
  unfold G prod
  refine Finset.sum_congr rfl fun k _ => ?_
  exact congrArg₂ (· * ·) (blk0 m c t y _ rfl rfl k) (blk1 m c t y _ rfl rfl k)

/-- Every block of the result is some point's. -/
theorem covered : ∀ (a : Fin 8) (b : Fin 2), ∃ t : Fin grid0.N, win0_2.flush t = true
    ∧ win0_2.index t (0 : Fin 2) = a.val ∧ win0_2.index t (1 : Fin 2) = b.val := by decide +kernel

/-- The result array after the run is the whole product. -/
theorem final (c : Dev nD) : (dats m 0 c).arrAt 2 cfg0.N = G m c :=
  (dats m 0 c).arrAt_eq_of_cover 2 (G m c) (fun t _ => flushed_G m c t) fun i => by
    have h0 : (i 0 : Nat) < 8192 := (i 0).isLt
    have h1 : (i 1 : Nat) < 2048 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [ha]; dsimp only; omega
    | ⟨1, _⟩ => show win0_2.index t 1 * 1024 ≤ (i 1 : Nat) ∧ (i 1 : Nat) < win0_2.index t 1 * 1024 + 1024
                rw [hb]; dsimp only; omega

end Cert.GdnOutDxIdeal.Hand

namespace Cert.Hand

open Idealize.ShloMosaic Idealize.SL.Sem

/-- The kernel's product and the host's are one array. -/
theorem algebraic_gdnOutDx : Cert.algebraic_GdnOutDxIdeal_GdnOutDxRefIdeal := by
  intro m g m' g' _ hargs
  refine ⟨fun c => Cert.GdnOutDxIdeal.Hand.G m c, ?_, ?_⟩
  · refine (θ_run Cert.GdnOutDxIdeal.defs _ _).mono (fun r h c => ?_) (Cert.GdnOutDxIdeal.Value.run_blocks m g)
    exact ⟨(h c).1.trans (Cert.GdnOutDxIdeal.Hand.final m c), (h c).2⟩
  · refine (θ_run Cert.GdnOutDxRefIdeal.defs _ _).mono (fun r h c => ?_) (Cert.GdnOutDxRefIdeal.Value.run m' g')
    refine ⟨(h c).1.trans ?_, (h c).2⟩
    rw [(hargs c).1, (hargs c).2]
    funext i
    unfold Cert.GdnOutDxIdeal.Hand.G Cert.GdnOutDxIdeal.Hand.prod
    idx_vars i
    skip
    pointwise

end Cert.Hand

end
-- ==== Proof.QProjVal.lean ====
/- The attention's query projection, on the normalised rows: the kernel's blocks are the host product. -/
module

public import proofs.«01_k».proof.Proof.Gen.QProjIdeal.Value
public import proofs.«01_k».proof.Proof.Gen.QProjRefIdeal.Run
public import proofs.«01_k».proof.Proof.Norm
public import proofs.«01_k».proof.Defs

@[expose] public section

set_option maxRecDepth 16384

noncomputable section

namespace Cert.QProjIdeal.Hand

open Cert.QProjIdeal Cert.QProjIdeal.Gen Idealize.ShloMosaic Idealize.ShloMosaic.TcCoe Idealize.SL.Sem

variable (m : (ℓ : Loc nD τ sig) → Buf (Elt Ideal) ℓ)

/-- The product, entry by entry. -/
def prod (x0 : FVec Ideal S8192x1024 .f32) (x1 : FVec Ideal S1x1024 .f32) (x2 : FVec Ideal S1024x1024 .bf16) : FVec Ideal S8192x1024 .bf16 := fun i =>
  ∑ k : Fin 1024, Cert.Hand.normed (fun k => x0 (ix2 (i 0) k)) (fun k => x1 (ix2 (0 : Fin 1) k)) k * (x2 (ix2 k (i 1)) : EReal)

/-- The whole product of the launch contents. -/
def G (c : Dev nD) : FVec Ideal S8192x1024 .bf16 :=
  prod (m (c.tc.loc main_arg0)) (m (c.tc.loc main_arg1)) (m (c.tc.loc main_arg2))

theorem hz : (![0, 0] : Fin 2 → Nat) = fun _ => 0 := funext fun a => by fin_cases a <;> rfl

/-- One block's result at an index. -/
theorem out_apply (x0 : Vec Ideal S1024x1024 .f32) (x1 : Vec Ideal S1024x1024 .bf16) (x2 : Vec Ideal S1x1024 .f32) (y : S1024x1024.Idx) :
    (out0_3 x0 x1 x2 y : EReal) = ∑ k : Fin 1024, Cert.Hand.normed (fun k => x0 (ix2 (y 0) k)) (fun k => x2 (ix2 (0 : Fin 1) k)) k * (x1 (ix2 k (y 1)) : EReal) := by
  unfold out0_3
  rw [View.canon_unit_zero hz]
  rw [View.ld_unit_zero (S := S1024x1024) hz, View.ld_unit_zero (S := S1024x1024) hz, View.ld_unit_zero (S := S1x1024) hz]
  idx_vars y
  unfold Cert.Hand.normed
  pointwise [k0_pay1]

/-- The block indices of the windows at every point of the grid. -/
theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = 0 :=
  (by decide +kernel : ∀ t : Fin grid0.N, _)

/-- A block of the kernel's operand 0 holds the operand's entries of its place. -/
theorem blk0 (c : Dev nD) (t : Fin cfg0.N) (y : S1024x1024.Idx) (J : S8192x1024.Idx)
    (hJ0 : (J 0 : Nat) = win0_3.index t 0 * 1024 + 1 * (y 0 : Nat)) (hJ1 : (J 1 : Nat) = win0_3.index t 1 * 1024 + 1 * (y 1 : Nat))
    (k : Fin 1024) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 1024 + 1 * k.val = k.val; rw [h01]; omega

/-- A block of the kernel's operand 1 holds the operand's entries of its place. -/
theorem blk1 (c : Dev nD) (t : Fin cfg0.N) (y : S1024x1024.Idx) (J : S8192x1024.Idx)
    (hJ0 : (J 0 : Nat) = win0_3.index t 0 * 1024 + 1 * (y 0 : Nat)) (hJ1 : (J 1 : Nat) = win0_3.index t 1 * 1024 + 1 * (y 1 : Nat))
    (k : Fin 1024) : (iblk m c 1 t (ix2 k (y 1)) : EReal) = m (c.tc.loc main_arg2) (ix2 k (J 1)) := by
  obtain ⟨-, -, h10, h11, -⟩ := index_facts t
  refine congrArg (m (c.tc.loc main_arg2)) (funext fun a => Fin.ext ?_)
  match a with
  | ⟨0, _⟩ => show win0_1.index t 0 * 1024 + 1 * k.val = k.val; rw [h10]; omega
  | ⟨1, _⟩ => show win0_1.index t 1 * 1024 + 1 * (y 1 : Nat) = (J 1 : Nat); rw [h11, hJ1]

/-- A block of the kernel's operand 2 holds the operand's entries of its place. -/
theorem blk2 (c : Dev nD) (t : Fin cfg0.N)
    (k : Fin 1024) : (iblk m c 2 t (ix2 (0 : Fin 1) k) : EReal) = m (c.tc.loc main_arg1) (ix2 (0 : Fin 1) k) := by
  obtain ⟨-, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- What a point writes back is its block of the whole product. -/
theorem flushed_G (c : Dev nD) (t : Fin cfg0.N) :
    (dats m 0 c).flushed 3 t = ((cfg0.win 3).blk t).view.read (Elt Ideal) (G m c) := by
  rw [Value.flushed3]
  funext y
  rw [View.read_apply]
  show (out0_3 (iblk m c 0 t) (iblk m c 1 t) (iblk m c 2 t) y : EReal) = G m c _
  rw [out_apply]
  unfold G prod
  refine Finset.sum_congr rfl fun k _ => ?_
  refine congrArg₂ (· * ·) (Cert.Hand.normed_congr (fun k => blk0 m c t y _ rfl rfl k) (fun k => blk2 m c t k) k) (blk1 m c t y _ rfl rfl k)

/-- Every block of the result is some point's. -/
theorem covered : ∀ (a : Fin 8) (b : Fin 1), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 1024 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 1024 ≤ (i 1 : Nat) ∧ (i 1 : Nat) < win0_3.index t 1 * 1024 + 1024
                rw [hb]; dsimp only; omega

end Cert.QProjIdeal.Hand

namespace Cert.Hand

open Idealize.ShloMosaic Idealize.SL.Sem

/-- The kernel's product and the host's are one array. -/
theorem algebraic_qProj : Cert.algebraic_QProjIdeal_QProjRefIdeal := by
  intro m g m' g' _ hargs
  refine ⟨fun c => Cert.QProjIdeal.Hand.G m c, ?_, ?_⟩
  · refine (θ_run Cert.QProjIdeal.defs _ _).mono (fun r h c => ?_) (Cert.QProjIdeal.Value.run_blocks m g)
    exact ⟨(h c).1.trans (Cert.QProjIdeal.Hand.final m c), (h c).2⟩
  · refine (θ_run Cert.QProjRefIdeal.defs _ _).mono (fun r h c => ?_) (Cert.QProjRefIdeal.Value.run m' g')
    refine ⟨(h c).1.trans ?_, (h c).2⟩
    rw [(hargs c).1, (hargs c).2.1, (hargs c).2.2]
    funext i
    unfold Cert.QProjIdeal.Hand.G Cert.QProjIdeal.Hand.prod
    idx_vars i
    unfold Cert.Hand.normed
    pointwise

end Cert.Hand

end
-- ==== Proof.KvProjVal.lean ====
/- The shared key and value projection, on the normalised rows: the kernel's blocks are the host product. -/
module

public import proofs.«01_k».proof.Proof.Gen.KvProjIdeal.Value
public import proofs.«01_k».proof.Proof.Gen.KvProjRefIdeal.Run
public import proofs.«01_k».proof.Proof.Norm
public import proofs.«01_k».proof.Defs

@[expose] public section

set_option maxRecDepth 16384

noncomputable section

namespace Cert.KvProjIdeal.Hand

open Cert.KvProjIdeal Cert.KvProjIdeal.Gen Idealize.ShloMosaic Idealize.ShloMosaic.TcCoe Idealize.SL.Sem

variable (m : (ℓ : Loc nD τ sig) → Buf (Elt Ideal) ℓ)

/-- The product, entry by entry. -/
def prod (x0 : FVec Ideal S8192x1024 .f32) (x1 : FVec Ideal S1x1024 .f32) (x2 : FVec Ideal S1024x512 .bf16) : FVec Ideal S8192x512 .bf16 := fun i =>
  ∑ k : Fin 1024, Cert.Hand.normed (fun k => x0 (ix2 (i 0) k)) (fun k => x1 (ix2 (0 : Fin 1) k)) k * (x2 (ix2 k (i 1)) : EReal)

/-- The whole product of the launch contents. -/
def G (c : Dev nD) : FVec Ideal S8192x512 .bf16 :=
  prod (m (c.tc.loc main_arg0)) (m (c.tc.loc main_arg1)) (m (c.tc.loc main_arg2))

theorem hz : (![0, 0] : Fin 2 → Nat) = fun _ => 0 := funext fun a => by fin_cases a <;> rfl

/-- One block's result at an index. -/
theorem out_apply (x0 : Vec Ideal S1024x1024 .f32) (x1 : Vec Ideal S1024x512 .bf16) (x2 : Vec Ideal S1x1024 .f32) (y : S1024x512.Idx) :
    (out0_3 x0 x1 x2 y : EReal) = ∑ k : Fin 1024, Cert.Hand.normed (fun k => x0 (ix2 (y 0) k)) (fun k => x2 (ix2 (0 : Fin 1) k)) k * (x1 (ix2 k (y 1)) : EReal) := by
  unfold out0_3
  rw [View.canon_unit_zero hz]
  rw [View.ld_unit_zero (S := S1024x1024) hz, View.ld_unit_zero (S := S1024x512) hz, View.ld_unit_zero (S := S1x1024) hz]
  idx_vars y
  unfold Cert.Hand.normed
  pointwise [k0_pay1]

/-- The block indices of the windows at every point of the grid. -/
theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = 0 :=
  (by decide +kernel : ∀ t : Fin grid0.N, _)

/-- A block of the kernel's operand 0 holds the operand's entries of its place. -/
theorem blk0 (c : Dev nD) (t : Fin cfg0.N) (y : S1024x512.Idx) (J : S8192x512.Idx)
    (hJ0 : (J 0 : Nat) = win0_3.index t 0 * 1024 + 1 * (y 0 : Nat)) (hJ1 : (J 1 : Nat) = win0_3.index t 1 * 512 + 1 * (y 1 : Nat))
    (k : Fin 1024) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 1024 + 1 * k.val = k.val; rw [h01]; omega

/-- A block of the kernel's operand 1 holds the operand's entries of its place. -/
theorem blk1 (c : Dev nD) (t : Fin cfg0.N) (y : S1024x512.Idx) (J : S8192x512.Idx)
    (hJ0 : (J 0 : Nat) = win0_3.index t 0 * 1024 + 1 * (y 0 : Nat)) (hJ1 : (J 1 : Nat) = win0_3.index t 1 * 512 + 1 * (y 1 : Nat))
    (k : Fin 1024) : (iblk m c 1 t (ix2 k (y 1)) : EReal) = m (c.tc.loc main_arg2) (ix2 k (J 1)) := by
  obtain ⟨-, -, h10, h11, -⟩ := index_facts t
  refine congrArg (m (c.tc.loc main_arg2)) (funext fun a => Fin.ext ?_)
  match a with
  | ⟨0, _⟩ => show win0_1.index t 0 * 1024 + 1 * k.val = k.val; rw [h10]; omega
  | ⟨1, _⟩ => show win0_1.index t 1 * 512 + 1 * (y 1 : Nat) = (J 1 : Nat); rw [h11, hJ1]

/-- A block of the kernel's operand 2 holds the operand's entries of its place. -/
theorem blk2 (c : Dev nD) (t : Fin cfg0.N)
    (k : Fin 1024) : (iblk m c 2 t (ix2 (0 : Fin 1) k) : EReal) = m (c.tc.loc main_arg1) (ix2 (0 : Fin 1) k) := by
  obtain ⟨-, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- What a point writes back is its block of the whole product. -/
theorem flushed_G (c : Dev nD) (t : Fin cfg0.N) :
    (dats m 0 c).flushed 3 t = ((cfg0.win 3).blk t).view.read (Elt Ideal) (G m c) := by
  rw [Value.flushed3]
  funext y
  rw [View.read_apply]
  show (out0_3 (iblk m c 0 t) (iblk m c 1 t) (iblk m c 2 t) y : EReal) = G m c _
  rw [out_apply]
  unfold G prod
  refine Finset.sum_congr rfl fun k _ => ?_
  refine congrArg₂ (· * ·) (Cert.Hand.normed_congr (fun k => blk0 m c t y _ rfl rfl k) (fun k => blk2 m c t k) k) (blk1 m c t y _ rfl rfl k)

/-- Every block of the result is some point's. -/
theorem covered : ∀ (a : Fin 8) (b : Fin 1), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 512 := (i 1).isLt
    obtain ⟨t, hf, ha, hb⟩ := covered ⟨(i 0 : Nat) / 1024, by omega⟩ ⟨(i 1 : Nat) / 512, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 512 ≤ (i 1 : Nat) ∧ (i 1 : Nat) < win0_3.index t 1 * 512 + 512
                rw [hb]; dsimp only; omega

end Cert.KvProjIdeal.Hand

namespace Cert.Hand

open Idealize.ShloMosaic Idealize.SL.Sem

/-- The kernel's product and the host's are one array. -/
theorem algebraic_kvProj : Cert.algebraic_KvProjIdeal_KvProjRefIdeal := by
  intro m g m' g' _ hargs
  refine ⟨fun c => Cert.KvProjIdeal.Hand.G m c, ?_, ?_⟩
  · refine (θ_run Cert.KvProjIdeal.defs _ _).mono (fun r h c => ?_) (Cert.KvProjIdeal.Value.run_blocks m g)
    exact ⟨(h c).1.trans (Cert.KvProjIdeal.Hand.final m c), (h c).2⟩
  · refine (θ_run Cert.KvProjRefIdeal.defs _ _).mono (fun r h c => ?_) (Cert.KvProjRefIdeal.Value.run m' g')
    refine ⟨(h c).1.trans ?_, (h c).2⟩
    rw [(hargs c).1, (hargs c).2.1, (hargs c).2.2]
    funext i
    unfold Cert.KvProjIdeal.Hand.G Cert.KvProjIdeal.Hand.prod
    idx_vars i
    unfold Cert.Hand.normed
    pointwise

end Cert.Hand

end
-- ==== Proof.OProjVal.lean ====
/- The attention's out-projection, added to the stream: the kernel's blocks are the host product. -/
module

public import proofs.«01_k».proof.Proof.Gen.OProjIdeal.Value
public import proofs.«01_k».proof.Proof.Gen.OProjRefIdeal.Run
public import proofs.«01_k».proof.Proof.Norm
public import proofs.«01_k».proof.Defs

@[expose] public section

set_option maxRecDepth 16384

noncomputable section

namespace Cert.OProjIdeal.Hand

open Cert.OProjIdeal Cert.OProjIdeal.Gen Idealize.ShloMosaic Idealize.ShloMosaic.TcCoe Idealize.SL.Sem

variable (m : (ℓ : Loc nD τ sig) → Buf (Elt Ideal) ℓ)

/-- The product, entry by entry. -/
def prod (x0 : FVec Ideal S8192x1024 .bf16) (x1 : FVec Ideal S1024x1024 .bf16) (x2 : FVec Ideal S8192x1024 .f32) : FVec Ideal S8192x1024 .f32 := fun i =>
  (x2 i : EReal) + (∑ k : Fin 1024, (x0 (ix2 (i 0) k) : EReal) * (x1 (ix2 k (i 1)) : EReal))

/-- The whole product of the launch contents. -/
def G (c : Dev nD) : FVec Ideal S8192x1024 .f32 :=
  prod (m (c.tc.loc main_arg0)) (m (c.tc.loc main_arg1)) (m (c.tc.loc main_arg2))

theorem hz : (![0, 0] : Fin 2 → Nat) = fun _ => 0 := funext fun a => by fin_cases a <;> rfl

/-- One block's result at an index. -/
theorem out_apply (x0 : Vec Ideal S1024x1024 .bf16) (x1 : Vec Ideal S1024x1024 .bf16) (x2 : Vec Ideal S1024x1024 .f32) (y : S1024x1024.Idx) :
    (out0_3 x0 x1 x2 y : EReal) = (∑ k : Fin 1024, (x0 (ix2 (y 0) k) : EReal) * (x1 (ix2 k (y 1)) : EReal)) + (x2 y : EReal) := by
  unfold out0_3
  rw [View.canon_unit_zero hz]
  rw [View.ld_unit_zero (S := S1024x1024) hz, View.ld_unit_zero (S := S1024x1024) hz, View.ld_unit_zero (S := S1024x1024) hz]
  idx_vars y
  skip
  pointwise [k0_pay1]

/-- The block indices of the windows at every point of the grid. -/
theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = win0_3.index t (0 : Fin 2)
    ∧ win0_2.index t (1 : Fin 2) = win0_3.index t (1 : Fin 2) :=
  (by decide +kernel : ∀ t : Fin grid0.N, _)

/-- A block of the kernel's operand 0 holds the operand's entries of its place. -/
theorem blk0 (c : Dev nD) (t : Fin cfg0.N) (y : S1024x1024.Idx) (J : S8192x1024.Idx)
    (hJ0 : (J 0 : Nat) = win0_3.index t 0 * 1024 + 1 * (y 0 : Nat)) (hJ1 : (J 1 : Nat) = win0_3.index t 1 * 1024 + 1 * (y 1 : Nat))
    (k : Fin 1024) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 1024 + 1 * k.val = k.val; rw [h01]; omega

/-- A block of the kernel's operand 1 holds the operand's entries of its place. -/
theorem blk1 (c : Dev nD) (t : Fin cfg0.N) (y : S1024x1024.Idx) (J : S8192x1024.Idx)
    (hJ0 : (J 0 : Nat) = win0_3.index t 0 * 1024 + 1 * (y 0 : Nat)) (hJ1 : (J 1 : Nat) = win0_3.index t 1 * 1024 + 1 * (y 1 : Nat))
    (k : Fin 1024) : (iblk m c 1 t (ix2 k (y 1)) : EReal) = m (c.tc.loc main_arg1) (ix2 k (J 1)) := by
  obtain ⟨-, -, h10, h11, -⟩ := index_facts t
  refine congrArg (m (c.tc.loc main_arg1)) (funext fun a => Fin.ext ?_)
  match a with
  | ⟨0, _⟩ => show win0_1.index t 0 * 1024 + 1 * k.val = k.val; rw [h10]; omega
  | ⟨1, _⟩ => show win0_1.index t 1 * 1024 + 1 * (y 1 : Nat) = (J 1 : Nat); rw [h11, hJ1]

/-- A block of the kernel's operand 2 holds the operand's entries of its place. -/
theorem blk2 (c : Dev nD) (t : Fin cfg0.N) (y : S1024x1024.Idx) (J : S8192x1024.Idx)
    (hJ0 : (J 0 : Nat) = win0_3.index t 0 * 1024 + 1 * (y 0 : Nat)) (hJ1 : (J 1 : Nat) = win0_3.index t 1 * 1024 + 1 * (y 1 : Nat))
    : (iblk m c 2 t y : EReal) = m (c.tc.loc main_arg2) J := by
  obtain ⟨-, -, -, -, h20, h21⟩ := index_facts t
  refine congrArg (m (c.tc.loc main_arg2)) (funext fun a => Fin.ext ?_)
  match a with
  | ⟨0, _⟩ => show win0_2.index t 0 * 1024 + 1 * (y 0 : Nat) = (J 0 : Nat); rw [h20, hJ0]
  | ⟨1, _⟩ => show win0_2.index t 1 * 1024 + 1 * (y 1 : Nat) = (J 1 : Nat); rw [h21, hJ1]

/-- What a point writes back is its block of the whole product. -/
theorem flushed_G (c : Dev nD) (t : Fin cfg0.N) :
    (dats m 0 c).flushed 3 t = ((cfg0.win 3).blk t).view.read (Elt Ideal) (G m c) := by
  rw [Value.flushed3]
  funext y
  rw [View.read_apply]
  show (out0_3 (iblk m c 0 t) (iblk m c 1 t) (iblk m c 2 t) y : EReal) = G m c _
  rw [out_apply]
  unfold G prod
  refine (add_comm (G := EReal) _ _).trans (congrArg₂ (· + ·) (blk2 m c t y _ rfl rfl) ?_)
  refine Finset.sum_congr rfl fun k _ => ?_
  exact congrArg₂ (· * ·) (blk0 m c t y _ rfl rfl k) (blk1 m c t y _ rfl rfl k)

/-- Every block of the result is some point's. -/
theorem covered : ∀ (a : Fin 8) (b : Fin 1), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 1024 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 1024 ≤ (i 1 : Nat) ∧ (i 1 : Nat) < win0_3.index t 1 * 1024 + 1024
                rw [hb]; dsimp only; omega

end Cert.OProjIdeal.Hand

namespace Cert.Hand

open Idealize.ShloMosaic Idealize.SL.Sem

/-- The kernel's product and the host's are one array. -/
theorem algebraic_oProj : Cert.algebraic_OProjIdeal_OProjRefIdeal := by
  intro m g m' g' _ hargs
  refine ⟨fun c => Cert.OProjIdeal.Hand.G m c, ?_, ?_⟩
  · refine (θ_run Cert.OProjIdeal.defs _ _).mono (fun r h c => ?_) (Cert.OProjIdeal.Value.run_blocks m g)
    exact ⟨(h c).1.trans (Cert.OProjIdeal.Hand.final m c), (h c).2⟩
  · refine (θ_run Cert.OProjRefIdeal.defs _ _).mono (fun r h c => ?_) (Cert.OProjRefIdeal.Value.run m' g')
    refine ⟨(h c).1.trans ?_, (h c).2⟩
    rw [(hargs c).1, (hargs c).2.1, (hargs c).2.2]
    funext i
    unfold Cert.OProjIdeal.Hand.G Cert.OProjIdeal.Hand.prod
    idx_vars i
    skip
    pointwise

end Cert.Hand

end
-- ==== Proof.OProjDxVal.lean ====
/- The attention's out-projection, backwards in its left factor: the kernel's blocks are the host product. -/
module

public import proofs.«01_k».proof.Proof.Gen.OProjDxIdeal.Value
public import proofs.«01_k».proof.Proof.Gen.OProjDxRefIdeal.Run
public import proofs.«01_k».proof.Proof.Norm
public import proofs.«01_k».proof.Defs

@[expose] public section

set_option maxRecDepth 16384

noncomputable section

namespace Cert.OProjDxIdeal.Hand

open Cert.OProjDxIdeal Cert.OProjDxIdeal.Gen Idealize.ShloMosaic Idealize.ShloMosaic.TcCoe Idealize.SL.Sem

variable (m : (ℓ : Loc nD τ sig) → Buf (Elt Ideal) ℓ)

/-- The product, entry by entry. -/
def prod (x0 : FVec Ideal S8192x1024 .f32) (x1 : FVec Ideal S1024x1024 .bf16) : FVec Ideal S8192x1024 .bf16 := fun i =>
  ∑ k : Fin 1024, (x0 (ix2 (i 0) k) : EReal) * (x1 (ix2 (i 1) k) : EReal)

/-- The whole product of the launch contents. -/
def G (c : Dev nD) : FVec Ideal S8192x1024 .bf16 :=
  prod (m (c.tc.loc main_arg0)) (m (c.tc.loc main_arg1))

theorem hz : (![0, 0] : Fin 2 → Nat) = fun _ => 0 := funext fun a => by fin_cases a <;> rfl

/-- One block's result at an index. -/
theorem out_apply (x0 : Vec Ideal S1024x1024 .f32) (x1 : Vec Ideal S1024x1024 .bf16) (y : S1024x1024.Idx) :
    (out0_2 x0 x1 y : EReal) = ∑ k : Fin 1024, (x0 (ix2 (y 0) k) : EReal) * (x1 (ix2 (y 1) k) : EReal) := by
  unfold out0_2
  rw [View.canon_unit_zero hz]
  rw [View.ld_unit_zero (S := S1024x1024) hz, View.ld_unit_zero (S := S1024x1024) hz]
  idx_vars y
  skip
  pointwise [k0_pay1]

/-- The block indices of the windows at every point of the grid. -/
theorem index_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0 :=
  (by decide +kernel : ∀ t : Fin grid0.N, _)

/-- A block of the kernel's operand 0 holds the operand's entries of its place. -/
theorem blk0 (c : Dev nD) (t : Fin cfg0.N) (y : S1024x1024.Idx) (J : S8192x1024.Idx)
    (hJ0 : (J 0 : Nat) = win0_2.index t 0 * 1024 + 1 * (y 0 : Nat)) (hJ1 : (J 1 : Nat) = win0_2.index t 1 * 1024 + 1 * (y 1 : Nat))
    (k : Fin 1024) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 1024 + 1 * k.val = k.val; rw [h01]; omega

/-- A block of the kernel's operand 1 holds the operand's entries of its place. -/
theorem blk1 (c : Dev nD) (t : Fin cfg0.N) (y : S1024x1024.Idx) (J : S8192x1024.Idx)
    (hJ0 : (J 0 : Nat) = win0_2.index t 0 * 1024 + 1 * (y 0 : Nat)) (hJ1 : (J 1 : Nat) = win0_2.index t 1 * 1024 + 1 * (y 1 : Nat))
    (k : Fin 1024) : (iblk m c 1 t (ix2 (y 1) k) : EReal) = m (c.tc.loc main_arg1) (ix2 (J 1) k) := by
  obtain ⟨-, -, h10, h11⟩ := index_facts t
  refine congrArg (m (c.tc.loc main_arg1)) (funext fun a => Fin.ext ?_)
  match a with
  | ⟨0, _⟩ => show win0_1.index t 0 * 1024 + 1 * (y 1 : Nat) = (J 1 : Nat); rw [h10, hJ1]
  | ⟨1, _⟩ => show win0_1.index t 1 * 1024 + 1 * k.val = k.val; rw [h11]; omega

/-- What a point writes back is its block of the whole product. -/
theorem flushed_G (c : Dev nD) (t : Fin cfg0.N) :
    (dats m 0 c).flushed 2 t = ((cfg0.win 2).blk t).view.read (Elt Ideal) (G m c) := by
  rw [Value.flushed2]
  funext y
  rw [View.read_apply]
  show (out0_2 (iblk m c 0 t) (iblk m c 1 t) y : EReal) = G m c _
  rw [out_apply]
  unfold G prod
  refine Finset.sum_congr rfl fun k _ => ?_
  exact congrArg₂ (· * ·) (blk0 m c t y _ rfl rfl k) (blk1 m c t y _ rfl rfl k)

/-- Every block of the result is some point's. -/
theorem covered : ∀ (a : Fin 8) (b : Fin 1), ∃ t : Fin grid0.N, win0_2.flush t = true
    ∧ win0_2.index t (0 : Fin 2) = a.val ∧ win0_2.index t (1 : Fin 2) = b.val := by decide +kernel

/-- The result array after the run is the whole product. -/
theorem final (c : Dev nD) : (dats m 0 c).arrAt 2 cfg0.N = G m c :=
  (dats m 0 c).arrAt_eq_of_cover 2 (G m c) (fun t _ => flushed_G m c t) fun i => by
    have h0 : (i 0 : Nat) < 8192 := (i 0).isLt
    have h1 : (i 1 : Nat) < 1024 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [ha]; dsimp only; omega
    | ⟨1, _⟩ => show win0_2.index t 1 * 1024 ≤ (i 1 : Nat) ∧ (i 1 : Nat) < win0_2.index t 1 * 1024 + 1024
                rw [hb]; dsimp only; omega

end Cert.OProjDxIdeal.Hand

namespace Cert.Hand

open Idealize.ShloMosaic Idealize.SL.Sem

/-- The kernel's product and the host's are one array. -/
theorem algebraic_oProjDx : Cert.algebraic_OProjDxIdeal_OProjDxRefIdeal := by
  intro m g m' g' _ hargs
  refine ⟨fun c => Cert.OProjDxIdeal.Hand.G m c, ?_, ?_⟩
  · refine (θ_run Cert.OProjDxIdeal.defs _ _).mono (fun r h c => ?_) (Cert.OProjDxIdeal.Value.run_blocks m g)
    exact ⟨(h c).1.trans (Cert.OProjDxIdeal.Hand.final m c), (h c).2⟩
  · refine (θ_run Cert.OProjDxRefIdeal.defs _ _).mono (fun r h c => ?_) (Cert.OProjDxRefIdeal.Value.run m' g')
    refine ⟨(h c).1.trans ?_, (h c).2⟩
    rw [(hargs c).1, (hargs c).2]
    funext i
    unfold Cert.OProjDxIdeal.Hand.G Cert.OProjDxIdeal.Hand.prod
    idx_vars i
    skip
    pointwise

end Cert.Hand

end
-- ==== Proof.Sums.lean ====
/- A sum over 8192 rows taken in eight runs of 1024. -/
module

public import Idealize.ShloMosaic.Lib.Pointwise

@[expose] public section

noncomputable section

namespace Cert.Hand

/-- A function of the rows, at a plain number; zero past the last row. -/
def rowAt (f : Fin 8192 → EReal) (n : ℕ) : EReal := if h : n < 8192 then f ⟨n, h⟩ else 0

/-- The sum of the `s`-th run of 1024 rows. -/
def blockSum (f : Fin 8192 → EReal) (s : ℕ) : EReal := ∑ k : Fin 1024, rowAt f (1024 * s + k.val)

theorem rowAt_of_lt (f : Fin 8192 → EReal) (n : ℕ) (h : n < 8192) : rowAt f n = f ⟨n, h⟩ := dif_pos h

/-- Eight runs are all the rows. -/
theorem sum_blocks (f : Fin 8192 → EReal) : ∑ s ∈ Finset.range 8, blockSum f s = ∑ r : Fin 8192, f r := by
  rw [Finset.sum_range]
  unfold blockSum
  rw [← Fintype.sum_prod_type' (fun (s : Fin 8) (k : Fin 1024) => rowAt f (1024 * s.val + k.val))]
  refine Fintype.sum_equiv (finProdFinEquiv (m := 8) (n := 1024)) _ _ fun p => ?_
  have hp : 1024 * p.1.val + p.2.val < 8192 := by have := p.1.isLt; have := p.2.isLt; omega
  rw [rowAt_of_lt f _ hp]
  congr 1
  apply Fin.ext
  show 1024 * p.1.val + p.2.val = p.2.val + 1024 * p.1.val
  omega

end Cert.Hand

end
-- ==== Proof.QDwVal.lean ====
/- The query projection's weight gradient: the kernel's accumulated blocks are the host product. -/
module

public import proofs.«01_k».proof.Proof.Gen.QDwIdeal.Value
public import proofs.«01_k».proof.Proof.Gen.QDwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.QDwIdeal.Hand

open Cert.QDwIdeal Cert.QDwIdeal.Gen Idealize.ShloMosaic Idealize.ShloMosaic.TcCoe Idealize.SL.Sem

/-- One row's part of an entry of the product. -/
def term (x0 : FVec Ideal S8192x1024 .f32) (x1 : FVec Ideal S1x1024 .f32) (x2 : FVec Ideal S8192x1024 .bf16) (i : S1024x1024.Idx) (r : Fin 8192) : EReal :=
  Cert.Hand.normed (fun k => x0 (ix2 r k)) (fun k => x1 (ix2 (0 : Fin 1) k)) (i 0) * (x2 (ix2 r (i 1)) : EReal)

theorem hz : (![0, 0] : Fin 2 → Nat) = fun _ => 0 := funext fun a => by fin_cases a <;> rfl

/-- One point's product at an index. -/
theorem pay1_apply (x0 : Vec Ideal S1024x1024 .f32) (x1 : Vec Ideal S1024x1024 .bf16) (x2 : Vec Ideal S1x1024 .f32) (y : S1024x1024.Idx) :
    (k0_pay1 x0 x1 x2 y : EReal) = ∑ k : Fin 1024, Cert.Hand.normed (fun j => x0 (ix2 k j)) (fun j => x2 (ix2 (0 : Fin 1) j)) (y 0) * (x1 (ix2 k (y 1)) : EReal) := by
  idx_vars y
  unfold Cert.Hand.normed
  pointwise [k0_pay1]

/-- The first point's store is its product. -/
theorem pay2_eq (x0 : Vec Ideal S1024x1024 .f32) (x1 : Vec Ideal S1024x1024 .bf16) (x2 : Vec Ideal S1x1024 .f32) : k0_pay2 x0 x1 x2 = k0_pay1 x0 x1 x2 := by
  unfold k0_pay2
  exact shapeCast_self _ _

/-- A later point's store is the accumulator plus its product. -/
theorem pay3_apply (x0 : Vec Ideal S1024x1024 .f32) (x1 : Vec Ideal S1024x1024 .bf16) (x2 : Vec Ideal S1x1024 .f32) (xs : Vec Ideal S1024x1024 .f32) (y : S1024x1024.Idx) :
    (k0_pay3 x0 x1 x2 xs y : EReal) = (xs y : EReal) + k0_pay1 x0 x1 x2 y := by
  unfold k0_pay3
  rw [shapeCast_self]
  rfl

variable (c : Dev nD) (i : grid0.Coords) (a3 : Memref sig .tc .vmem S1024x1024 .f32) (q3 : a3.IsWhole) (a4 : Memref sig .tc .vmem S1024x1024 .bf16) (q4 : a4.IsWhole) (a5 : Memref sig .tc .vmem S1x1024 .f32) (q5 : a5.IsWhole) (a6 : Memref sig .tc .vmem S1024x1024 .f32) (q6 : a6.IsWhole) (a7 : Memref sig .tc .vmem S1024x1024 .f32) (q7 : a7.IsWhole)
  (x0 : Vec Ideal S1024x1024 .f32) (x1 : Vec Ideal S1024x1024 .bf16) (x2 : Vec Ideal S1x1024 .f32) (xs0 : Vec Ideal S1024x1024 .f32)

/-- What case A leaves in the accumulator. -/
theorem sout_A (hc0 : cond0_0 i) (hc1 : ¬cond0_1 i) (hc2 : ¬cond0_2 i) :
    sout0_A_0 c i a3 q3 a4 q4 a5 q5 a6 q6 a7 q7 hc0 hc1 hc2 x0 x1 x2 = k0_pay2 x0 x1 x2 := by
  unfold sout0_A_0
  rw [View.read_writes_eq_canon _ _ _ (fun y => scover0_A_0 (y := y) ..)]
  unfold kernelRun0_A
  dsimp only
  rw [View.canon_unit_zero (S := S1024x1024) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 a7 q7 hc0 hc1 hc2 x0 x1 x2 xs0 = k0_pay3 x0 x1 x2 xs0 := by
  unfold sout0_B_0
  rw [View.read_writes_eq_canon _ _ _ (fun y => scover0_B_0 (y := y) ..)]
  unfold kernelRun0_B
  dsimp only
  rw [View.canon_unit_zero (S := S1024x1024) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 a7 q7 hc0 hc1 hc2 x0 x1 x2 xs0 = k0_pay3 x0 x1 x2 xs0 := by
  unfold sout0_C_0
  rw [View.read_writes_eq_canon _ _ _ (fun y => scover0_C_0 (y := y) ..)]
  unfold kernelRun0_C
  dsimp only
  sl_unfold_words
  rw [View.canon_unit_zero (S := S1024x1024) hz]
  simp only [View.readAt_eq_ld, Memref.IsWhole.read_unread, View.ld_unit_zero (S := ⟨2, _⟩) hz]

/-- What case C leaves in the result's block: the accumulator. -/
theorem out_C (hc0 : ¬cond0_0 i) (hc1 : cond0_1 i) (hc2 : cond0_2 i) :
    out0_C_3 c i a3 q3 a4 q4 a5 q5 a6 q6 a7 q7 hc0 hc1 hc2 x0 x1 x2 xs0 = k0_pay3 x0 x1 x2 xs0 := by
  unfold out0_C_3
  rw [View.read_writes_eq_canon _ _ _ (fun y => cover0_C_3 (y := y) ..)]
  unfold kernelRun0_C
  dsimp only
  sl_unfold_words
  rw [View.canon_unit_zero (S := S1024x1024) hz]
  rw [View.readCov_unit_zero (S := S1024x1024) _ hz]
  simp only [View.readAt_eq_ld, Memref.IsWhole.read_unread, View.ld_unit_zero (S := ⟨2, _⟩) hz]

variable (m : (ℓ : Loc nD τ sig) → Buf (Elt Ideal) ℓ)

/-- The whole product of the launch contents. -/
def G (c : Dev nD) : FVec Ideal S1024x1024 .f32 := fun i =>
  ∑ r : Fin 8192, term (m (c.tc.loc main_arg0)) (m (c.tc.loc main_arg1)) (m (c.tc.loc main_arg2)) i r

/-- The block indices of the operands' windows at every point of the grid. -/
theorem index_facts : ∀ t : Fin cfg0.N,
    win0_0.index t (0 : Fin 2) = t.val % 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0 :=
  (by decide +kernel : ∀ t : Fin grid0.N, _)

/-- The result's block index at every point of the grid. -/
theorem out_facts : ∀ t : Fin cfg0.N, win0_3.index t (0 : Fin 2) = 0 ∧ win0_3.index t (1 : Fin 2) = 0 :=
  (by decide +kernel : ∀ t : Fin grid0.N, _)

/-- A block of the left operand holds its rows of the operand. -/
theorem blk0 (c : Dev nD) (t : Fin cfg0.N) (k : Fin 1024) (j : Fin 1024) (r : Fin 8192) (q : Fin 1024)
    (hr : r.val = 1024 * (t.val % 8) + k.val) (hq : q.val = 0 * 1024 + j.val) :
    (iblk m c 0 t (ix2 k j) : EReal) = m (c.tc.loc main_arg0) (ix2 r q) := by
  obtain ⟨h00, h01, -⟩ := index_facts t
  refine congrArg (m (c.tc.loc main_arg0)) (funext fun a => Fin.ext ?_)
  match a with
  | ⟨0, _⟩ => show win0_0.index t 0 * 1024 + 1 * k.val = r.val; rw [h00, hr]; omega
  | ⟨1, _⟩ => show win0_0.index t 1 * 1024 + 1 * j.val = q.val; rw [h01, hq]; omega

/-- A block of the right operand holds its rows of the operand. -/
theorem blk1 (c : Dev nD) (t : Fin cfg0.N) (k : Fin 1024) (j : Fin 1024) (r : Fin 8192) (q : Fin 1024)
    (hr : r.val = 1024 * (t.val % 8) + k.val) (hq : q.val = 0 * 1024 + j.val) :
    (iblk m c 1 t (ix2 k j) : EReal) = m (c.tc.loc main_arg2) (ix2 r q) := by
  obtain ⟨-, -, h10, h11, -⟩ := index_facts t
  refine congrArg (m (c.tc.loc main_arg2)) (funext fun a => Fin.ext ?_)
  match a with
  | ⟨0, _⟩ => show win0_1.index t 0 * 1024 + 1 * k.val = r.val; rw [h10, hr]; omega
  | ⟨1, _⟩ => show win0_1.index t 1 * 1024 + 1 * j.val = q.val; rw [h11, hq]; omega

/-- The gain row's only block is the row. -/
theorem blk2 (c : Dev nD) (t : Fin cfg0.N) (k : Fin 1024) :
    (iblk m c 2 t (ix2 (0 : Fin 1) k) : EReal) = m (c.tc.loc main_arg1) (ix2 (0 : Fin 1) k) := by
  obtain ⟨-, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- A point's product is its run of rows' part of the whole. -/
theorem point (c : Dev nD) (t : Fin cfg0.N) (y : S1024x1024.Idx) (J : S1024x1024.Idx)
    (hJ0 : (J 0).val = 0 * 1024 + (y 0).val) (hJ1 : (J 1).val = 0 * 1024 + (y 1).val) :
    (k0_pay1 (iblk m c 0 t) (iblk m c 1 t) (iblk m c 2 t) y : EReal)
      = Cert.Hand.blockSum (term (m (c.tc.loc main_arg0)) (m (c.tc.loc main_arg1)) (m (c.tc.loc main_arg2)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) ((Cert.Hand.normed_congr (fun j => blk0 m c t k j _ j rfl (by rw [Nat.zero_mul, Nat.zero_add])) (fun j => blk2 m c t j) (y 0)).trans
    (congrArg _ (Fin.ext (by rw [hJ0]; omega) : y 0 = J 0))) (blk1 m c t k (y 1) _ (J 1) rfl hJ1)

/-- What the accumulator holds after a point: the runs of rows so far. -/
theorem acc_eq (c : Dev nD) : ∀ (n : ℕ) (h : n < cfg0.N) (y : S1024x1024.Idx) (J : S1024x1024.Idx)
    (_ : (J 0).val = 0 * 1024 + (y 0).val) (_ : (J 1).val = 0 * 1024 + (y 1).val),
    ((outsAt0 m c n h).2 y : EReal)
      = ∑ s ∈ Finset.range (n % 8 + 1), Cert.Hand.blockSum (term (m (c.tc.loc main_arg0)) (m (c.tc.loc main_arg1)) (m (c.tc.loc main_arg2)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 8 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a writing point leaves in the result's block is the whole sum. -/
theorem block_eq (c : Dev nD) (t : Fin cfg0.N) (ht : t.val % 8 = 7) (y : S1024x1024.Idx) (J : S1024x1024.Idx)
    (h0 : (J 0).val = 0 * 1024 + (y 0).val) (h1 : (J 1).val = 0 * 1024 + (y 1).val) :
    ((outsAt0 m c t.val t.isLt).1 y : EReal) = G m c J := by
  have e := acc_eq m c t.val t.isLt y J h0 h1
  rw [ht, Cert.Hand.sum_blocks] at e
  have hA : ¬t.val % 8 = 0 := by omega
  have hN : cfg0.N = 8 := N_0
  have := t.isLt
  rw [outsAt0_C m c t hA (by omega) ht] at e ⊢
  dsimp only at e ⊢
  rw [sout_C] at e
  rw [out_C]
  exact e

/-- What a point writes back is its block of the whole product. -/
theorem flushed_G (c : Dev nD) (t : Fin cfg0.N) (hf : (cfg0.win 3).flush t = true) :
    (dats m 0 c).flushed 3 t = ((cfg0.win 3).blk t).view.read (Elt Ideal) (G m c) := by
  obtain ⟨h0, h1⟩ := out_facts t
  have ht : t.val % 8 = 7 := (by decide +kernel : ∀ t : Fin grid0.N, win0_3.flush t = true → t.val % 8 = 7) t hf
  rw [Value.flushed3]
  funext y
  rw [View.read_apply]
  refine block_eq m c t ht y _ ?_ ?_
  · show win0_3.index t 0 * 1024 + 1 * (y 0 : Nat) = _; rw [h0]; omega
  · show win0_3.index t 1 * 1024 + 1 * (y 1 : Nat) = _; rw [h1]; omega

/-- Every block of the result is some point's. -/
theorem covered : ∀ (a : Fin 1) (b : Fin 1), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t hf => flushed_G m c t hf) fun i => by
    have h0 : (i 0 : Nat) < 1024 := (i 0).isLt
    have h1 : (i 1 : Nat) < 1024 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 1024 ≤ (i 1 : Nat) ∧ (i 1 : Nat) < win0_3.index t 1 * 1024 + 1024
                rw [hb]; dsimp only; omega

end Cert.QDwIdeal.Hand

namespace Cert.Hand

open Idealize.ShloMosaic Idealize.SL.Sem

/-- The kernel's product and the host's are one array. -/
theorem algebraic_qDw : Cert.algebraic_QDwIdeal_QDwRefIdeal := by
  intro m g m' g' _ hargs
  refine ⟨fun c => Cert.QDwIdeal.Hand.G m c, ?_, ?_⟩
  · refine (θ_run Cert.QDwIdeal.defs _ _).mono (fun r h c => ?_) (Cert.QDwIdeal.Value.run_blocks m g)
    exact ⟨(h c).1.trans (Cert.QDwIdeal.Hand.final m c), (h c).2⟩
  · refine (θ_run Cert.QDwRefIdeal.defs _ _).mono (fun r h c => ?_) (Cert.QDwRefIdeal.Value.run m' g')
    refine ⟨(h c).1.trans ?_, (h c).2⟩
    rw [(hargs c).1, (hargs c).2.1, (hargs c).2.2]
    funext i
    show _ = Cert.QDwIdeal.Hand.G m c i
    unfold Cert.QDwIdeal.Hand.G
    unfold Cert.QDwIdeal.Hand.term
    idx_vars i
    unfold Cert.Hand.normed
    pointwise
    exact Finset.sum_congr rfl fun _ _ => mul_comm (G := EReal) _ _

end Cert.Hand

end
-- ==== Proof.KvDwVal.lean ====
/- The key and value projection's weight gradient: the kernel's accumulated blocks are the host product. -/
module

public import proofs.«01_k».proof.Proof.Gen.KvDwIdeal.Value
public import proofs.«01_k».proof.Proof.Gen.KvDwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.KvDwIdeal.Hand

open Cert.KvDwIdeal Cert.KvDwIdeal.Gen Idealize.ShloMosaic Idealize.ShloMosaic.TcCoe Idealize.SL.Sem

/-- One row's part of an entry of the product. -/
def term (x0 : FVec Ideal S8192x1024 .f32) (x1 : FVec Ideal S1x1024 .f32) (x2 : FVec Ideal S8192x512 .bf16) (i : S1024x512.Idx) (r : Fin 8192) : EReal :=
  Cert.Hand.normed (fun k => x0 (ix2 r k)) (fun k => x1 (ix2 (0 : Fin 1) k)) (i 0) * (x2 (ix2 r (i 1)) : EReal)

theorem hz : (![0, 0] : Fin 2 → Nat) = fun _ => 0 := funext fun a => by fin_cases a <;> rfl

/-- One point's product at an index. -/
theorem pay1_apply (x0 : Vec Ideal S1024x1024 .f32) (x1 : Vec Ideal S1024x512 .bf16) (x2 : Vec Ideal S1x1024 .f32) (y : S1024x512.Idx) :
    (k0_pay1 x0 x1 x2 y : EReal) = ∑ k : Fin 1024, Cert.Hand.normed (fun j => x0 (ix2 k j)) (fun j => x2 (ix2 (0 : Fin 1) j)) (y 0) * (x1 (ix2 k (y 1)) : EReal) := by
  idx_vars y
  unfold Cert.Hand.normed
  pointwise [k0_pay1]

/-- The first point's store is its product. -/
theorem pay2_eq (x0 : Vec Ideal S1024x1024 .f32) (x1 : Vec Ideal S1024x512 .bf16) (x2 : Vec Ideal S1x1024 .f32) : k0_pay2 x0 x1 x2 = k0_pay1 x0 x1 x2 := by
  unfold k0_pay2
  exact shapeCast_self _ _

/-- A later point's store is the accumulator plus its product. -/
theorem pay3_apply (x0 : Vec Ideal S1024x1024 .f32) (x1 : Vec Ideal S1024x512 .bf16) (x2 : Vec Ideal S1x1024 .f32) (xs : Vec Ideal S1024x512 .f32) (y : S1024x512.Idx) :
    (k0_pay3 x0 x1 x2 xs y : EReal) = (xs y : EReal) + k0_pay1 x0 x1 x2 y := by
  unfold k0_pay3
  rw [shapeCast_self]
  rfl

variable (c : Dev nD) (i : grid0.Coords) (a3 : Memref sig .tc .vmem S1024x1024 .f32) (q3 : a3.IsWhole) (a4 : Memref sig .tc .vmem S1024x512 .bf16) (q4 : a4.IsWhole) (a5 : Memref sig .tc .vmem S1x1024 .f32) (q5 : a5.IsWhole) (a6 : Memref sig .tc .vmem S1024x512 .f32) (q6 : a6.IsWhole) (a7 : Memref sig .tc .vmem S1024x512 .f32) (q7 : a7.IsWhole)
  (x0 : Vec Ideal S1024x1024 .f32) (x1 : Vec Ideal S1024x512 .bf16) (x2 : Vec Ideal S1x1024 .f32) (xs0 : Vec Ideal S1024x512 .f32)

/-- What case A leaves in the accumulator. -/
theorem sout_A (hc0 : cond0_0 i) (hc1 : ¬cond0_1 i) (hc2 : ¬cond0_2 i) :
    sout0_A_0 c i a3 q3 a4 q4 a5 q5 a6 q6 a7 q7 hc0 hc1 hc2 x0 x1 x2 = k0_pay2 x0 x1 x2 := by
  unfold sout0_A_0
  rw [View.read_writes_eq_canon _ _ _ (fun y => scover0_A_0 (y := y) ..)]
  unfold kernelRun0_A
  dsimp only
  rw [View.canon_unit_zero (S := S1024x512) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 a7 q7 hc0 hc1 hc2 x0 x1 x2 xs0 = k0_pay3 x0 x1 x2 xs0 := by
  unfold sout0_B_0
  rw [View.read_writes_eq_canon _ _ _ (fun y => scover0_B_0 (y := y) ..)]
  unfold kernelRun0_B
  dsimp only
  rw [View.canon_unit_zero (S := S1024x512) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 a7 q7 hc0 hc1 hc2 x0 x1 x2 xs0 = k0_pay3 x0 x1 x2 xs0 := by
  unfold sout0_C_0
  rw [View.read_writes_eq_canon _ _ _ (fun y => scover0_C_0 (y := y) ..)]
  unfold kernelRun0_C
  dsimp only
  sl_unfold_words
  rw [View.canon_unit_zero (S := S1024x512) hz]
  simp only [View.readAt_eq_ld, Memref.IsWhole.read_unread, View.ld_unit_zero (S := ⟨2, _⟩) hz]

/-- What case C leaves in the result's block: the accumulator. -/
theorem out_C (hc0 : ¬cond0_0 i) (hc1 : cond0_1 i) (hc2 : cond0_2 i) :
    out0_C_3 c i a3 q3 a4 q4 a5 q5 a6 q6 a7 q7 hc0 hc1 hc2 x0 x1 x2 xs0 = k0_pay3 x0 x1 x2 xs0 := by
  unfold out0_C_3
  rw [View.read_writes_eq_canon _ _ _ (fun y => cover0_C_3 (y := y) ..)]
  unfold kernelRun0_C
  dsimp only
  sl_unfold_words
  rw [View.canon_unit_zero (S := S1024x512) hz]
  rw [View.readCov_unit_zero (S := S1024x512) _ hz]
  simp only [View.readAt_eq_ld, Memref.IsWhole.read_unread, View.ld_unit_zero (S := ⟨2, _⟩) hz]

variable (m : (ℓ : Loc nD τ sig) → Buf (Elt Ideal) ℓ)

/-- The whole product of the launch contents. -/
def G (c : Dev nD) : FVec Ideal S1024x512 .f32 := fun i =>
  ∑ r : Fin 8192, term (m (c.tc.loc main_arg0)) (m (c.tc.loc main_arg1)) (m (c.tc.loc main_arg2)) i r

/-- The block indices of the operands' windows at every point of the grid. -/
theorem index_facts : ∀ t : Fin cfg0.N,
    win0_0.index t (0 : Fin 2) = t.val % 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0 :=
  (by decide +kernel : ∀ t : Fin grid0.N, _)

/-- The result's block index at every point of the grid. -/
theorem out_facts : ∀ t : Fin cfg0.N, win0_3.index t (0 : Fin 2) = 0 ∧ win0_3.index t (1 : Fin 2) = 0 :=
  (by decide +kernel : ∀ t : Fin grid0.N, _)

/-- A block of the left operand holds its rows of the operand. -/
theorem blk0 (c : Dev nD) (t : Fin cfg0.N) (k : Fin 1024) (j : Fin 1024) (r : Fin 8192) (q : Fin 1024)
    (hr : r.val = 1024 * (t.val % 8) + k.val) (hq : q.val = 0 * 1024 + j.val) :
    (iblk m c 0 t (ix2 k j) : EReal) = m (c.tc.loc main_arg0) (ix2 r q) := by
  obtain ⟨h00, h01, -⟩ := index_facts t
  refine congrArg (m (c.tc.loc main_arg0)) (funext fun a => Fin.ext ?_)
  match a with
  | ⟨0, _⟩ => show win0_0.index t 0 * 1024 + 1 * k.val = r.val; rw [h00, hr]; omega
  | ⟨1, _⟩ => show win0_0.index t 1 * 1024 + 1 * j.val = q.val; rw [h01, hq]; omega

/-- A block of the right operand holds its rows of the operand. -/
theorem blk1 (c : Dev nD) (t : Fin cfg0.N) (k : Fin 1024) (j : Fin 512) (r : Fin 8192) (q : Fin 512)
    (hr : r.val = 1024 * (t.val % 8) + k.val) (hq : q.val = 0 * 512 + j.val) :
    (iblk m c 1 t (ix2 k j) : EReal) = m (c.tc.loc main_arg2) (ix2 r q) := by
  obtain ⟨-, -, h10, h11, -⟩ := index_facts t
  refine congrArg (m (c.tc.loc main_arg2)) (funext fun a => Fin.ext ?_)
  match a with
  | ⟨0, _⟩ => show win0_1.index t 0 * 1024 + 1 * k.val = r.val; rw [h10, hr]; omega
  | ⟨1, _⟩ => show win0_1.index t 1 * 512 + 1 * j.val = q.val; rw [h11, hq]; omega

/-- The gain row's only block is the row. -/
theorem blk2 (c : Dev nD) (t : Fin cfg0.N) (k : Fin 1024) :
    (iblk m c 2 t (ix2 (0 : Fin 1) k) : EReal) = m (c.tc.loc main_arg1) (ix2 (0 : Fin 1) k) := by
  obtain ⟨-, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- A point's product is its run of rows' part of the whole. -/
theorem point (c : Dev nD) (t : Fin cfg0.N) (y : S1024x512.Idx) (J : S1024x512.Idx)
    (hJ0 : (J 0).val = 0 * 1024 + (y 0).val) (hJ1 : (J 1).val = 0 * 512 + (y 1).val) :
    (k0_pay1 (iblk m c 0 t) (iblk m c 1 t) (iblk m c 2 t) y : EReal)
      = Cert.Hand.blockSum (term (m (c.tc.loc main_arg0)) (m (c.tc.loc main_arg1)) (m (c.tc.loc main_arg2)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) ((Cert.Hand.normed_congr (fun j => blk0 m c t k j _ j rfl (by rw [Nat.zero_mul, Nat.zero_add])) (fun j => blk2 m c t j) (y 0)).trans
    (congrArg _ (Fin.ext (by rw [hJ0]; omega) : y 0 = J 0))) (blk1 m c t k (y 1) _ (J 1) rfl hJ1)

/-- What the accumulator holds after a point: the runs of rows so far. -/
theorem acc_eq (c : Dev nD) : ∀ (n : ℕ) (h : n < cfg0.N) (y : S1024x512.Idx) (J : S1024x512.Idx)
    (_ : (J 0).val = 0 * 1024 + (y 0).val) (_ : (J 1).val = 0 * 512 + (y 1).val),
    ((outsAt0 m c n h).2 y : EReal)
      = ∑ s ∈ Finset.range (n % 8 + 1), Cert.Hand.blockSum (term (m (c.tc.loc main_arg0)) (m (c.tc.loc main_arg1)) (m (c.tc.loc main_arg2)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 8 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a writing point leaves in the result's block is the whole sum. -/
theorem block_eq (c : Dev nD) (t : Fin cfg0.N) (ht : t.val % 8 = 7) (y : S1024x512.Idx) (J : S1024x512.Idx)
    (h0 : (J 0).val = 0 * 1024 + (y 0).val) (h1 : (J 1).val = 0 * 512 + (y 1).val) :
    ((outsAt0 m c t.val t.isLt).1 y : EReal) = G m c J := by
  have e := acc_eq m c t.val t.isLt y J h0 h1
  rw [ht, Cert.Hand.sum_blocks] at e
  have hA : ¬t.val % 8 = 0 := by omega
  have hN : cfg0.N = 8 := N_0
  have := t.isLt
  rw [outsAt0_C m c t hA (by omega) ht] at e ⊢
  dsimp only at e ⊢
  rw [sout_C] at e
  rw [out_C]
  exact e

/-- What a point writes back is its block of the whole product. -/
theorem flushed_G (c : Dev nD) (t : Fin cfg0.N) (hf : (cfg0.win 3).flush t = true) :
    (dats m 0 c).flushed 3 t = ((cfg0.win 3).blk t).view.read (Elt Ideal) (G m c) := by
  obtain ⟨h0, h1⟩ := out_facts t
  have ht : t.val % 8 = 7 := (by decide +kernel : ∀ t : Fin grid0.N, win0_3.flush t = true → t.val % 8 = 7) t hf
  rw [Value.flushed3]
  funext y
  rw [View.read_apply]
  refine block_eq m c t ht y _ ?_ ?_
  · show win0_3.index t 0 * 1024 + 1 * (y 0 : Nat) = _; rw [h0]; omega
  · show win0_3.index t 1 * 512 + 1 * (y 1 : Nat) = _; rw [h1]; omega

/-- Every block of the result is some point's. -/
theorem covered : ∀ (a : Fin 1) (b : Fin 1), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t hf => flushed_G m c t hf) fun i => by
    have h0 : (i 0 : Nat) < 1024 := (i 0).isLt
    have h1 : (i 1 : Nat) < 512 := (i 1).isLt
    obtain ⟨t, hf, ha, hb⟩ := covered ⟨(i 0 : Nat) / 1024, by omega⟩ ⟨(i 1 : Nat) / 512, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 512 ≤ (i 1 : Nat) ∧ (i 1 : Nat) < win0_3.index t 1 * 512 + 512
                rw [hb]; dsimp only; omega

end Cert.KvDwIdeal.Hand

namespace Cert.Hand

open Idealize.ShloMosaic Idealize.SL.Sem

/-- The kernel's product and the host's are one array. -/
theorem algebraic_kvDw : Cert.algebraic_KvDwIdeal_KvDwRefIdeal := by
  intro m g m' g' _ hargs
  refine ⟨fun c => Cert.KvDwIdeal.Hand.G m c, ?_, ?_⟩
  · refine (θ_run Cert.KvDwIdeal.defs _ _).mono (fun r h c => ?_) (Cert.KvDwIdeal.Value.run_blocks m g)
    exact ⟨(h c).1.trans (Cert.KvDwIdeal.Hand.final m c), (h c).2⟩
  · refine (θ_run Cert.KvDwRefIdeal.defs _ _).mono (fun r h c => ?_) (Cert.KvDwRefIdeal.Value.run m' g')
    refine ⟨(h c).1.trans ?_, (h c).2⟩
    rw [(hargs c).1, (hargs c).2.1, (hargs c).2.2]
    funext i
    show _ = Cert.KvDwIdeal.Hand.G m c i
    unfold Cert.KvDwIdeal.Hand.G
    unfold Cert.KvDwIdeal.Hand.term
    idx_vars i
    unfold Cert.Hand.normed
    pointwise
    exact Finset.sum_congr rfl fun _ _ => mul_comm (G := EReal) _ _

end Cert.Hand

end
-- ==== Proof.ODwVal.lean ====
/- The attention out-projection's weight gradient: the kernel's accumulated blocks are the host product. -/
module

public import proofs.«01_k».proof.Proof.Gen.ODwIdeal.Value
public import proofs.«01_k».proof.Proof.Gen.ODwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.ODwIdeal.Hand

open Cert.ODwIdeal Cert.ODwIdeal.Gen Idealize.ShloMosaic Idealize.ShloMosaic.TcCoe Idealize.SL.Sem

/-- One row's part of an entry of the product. -/
def term (x0 : FVec Ideal S8192x1024 .bf16) (x1 : FVec Ideal S8192x1024 .f32) (i : S1024x1024.Idx) (r : Fin 8192) : EReal :=
  (x0 (ix2 r (i 0)) : EReal) * (x1 (ix2 r (i 1)) : EReal)

theorem hz : (![0, 0] : Fin 2 → Nat) = fun _ => 0 := funext fun a => by fin_cases a <;> rfl

/-- One point's product at an index. -/
theorem pay1_apply (x0 : Vec Ideal S1024x1024 .bf16) (x1 : Vec Ideal S1024x1024 .f32) (y : S1024x1024.Idx) :
    (k0_pay1 x0 x1 y : EReal) = ∑ k : Fin 1024, (x0 (ix2 k (y 0)) : EReal) * (x1 (ix2 k (y 1)) : EReal) := by
  idx_vars y
  skip
  pointwise [k0_pay1]

/-- The first point's store is its product. -/
theorem pay2_eq (x0 : Vec Ideal S1024x1024 .bf16) (x1 : Vec Ideal S1024x1024 .f32) : k0_pay2 x0 x1 = k0_pay1 x0 x1 := by
  unfold k0_pay2
  exact shapeCast_self _ _

/-- A later point's store is the accumulator plus its product. -/
theorem pay3_apply (x0 : Vec Ideal S1024x1024 .bf16) (x1 : Vec Ideal S1024x1024 .f32) (xs : Vec Ideal S1024x1024 .f32) (y : S1024x1024.Idx) :
    (k0_pay3 x0 x1 xs y : EReal) = (xs y : EReal) + k0_pay1 x0 x1 y := by
  unfold k0_pay3
  rw [shapeCast_self]
  rfl

variable (c : Dev nD) (i : grid0.Coords) (a3 : Memref sig .tc .vmem S1024x1024 .bf16) (q3 : a3.IsWhole) (a4 : Memref sig .tc .vmem S1024x1024 .f32) (q4 : a4.IsWhole) (a5 : Memref sig .tc .vmem S1024x1024 .f32) (q5 : a5.IsWhole) (a6 : Memref sig .tc .vmem S1024x1024 .f32) (q6 : a6.IsWhole)
  (x0 : Vec Ideal S1024x1024 .bf16) (x1 : Vec Ideal S1024x1024 .f32) (xs0 : Vec Ideal S1024x1024 .f32)

/-- What case A leaves in the accumulator. -/
theorem sout_A (hc0 : cond0_0 i) (hc1 : ¬cond0_1 i) (hc2 : ¬cond0_2 i) :
    sout0_A_0 c i a3 q3 a4 q4 a5 q5 a6 q6 hc0 hc1 hc2 x0 x1 = k0_pay2 x0 x1 := by
  unfold sout0_A_0
  rw [View.read_writes_eq_canon _ _ _ (fun y => scover0_A_0 (y := y) ..)]
  unfold kernelRun0_A
  dsimp only
  rw [View.canon_unit_zero (S := S1024x1024) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 hc0 hc1 hc2 x0 x1 xs0 = k0_pay3 x0 x1 xs0 := by
  unfold sout0_B_0
  rw [View.read_writes_eq_canon _ _ _ (fun y => scover0_B_0 (y := y) ..)]
  unfold kernelRun0_B
  dsimp only
  rw [View.canon_unit_zero (S := S1024x1024) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 hc0 hc1 hc2 x0 x1 xs0 = k0_pay3 x0 x1 xs0 := by
  unfold sout0_C_0
  rw [View.read_writes_eq_canon _ _ _ (fun y => scover0_C_0 (y := y) ..)]
  unfold kernelRun0_C
  dsimp only
  sl_unfold_words
  rw [View.canon_unit_zero (S := S1024x1024) hz]
  simp only [View.readAt_eq_ld, Memref.IsWhole.read_unread, View.ld_unit_zero (S := ⟨2, _⟩) hz]

/-- What case C leaves in the result's block: the accumulator. -/
theorem out_C (hc0 : ¬cond0_0 i) (hc1 : cond0_1 i) (hc2 : cond0_2 i) :
    out0_C_2 c i a3 q3 a4 q4 a5 q5 a6 q6 hc0 hc1 hc2 x0 x1 xs0 = k0_pay3 x0 x1 xs0 := by
  unfold out0_C_2
  rw [View.read_writes_eq_canon _ _ _ (fun y => cover0_C_2 (y := y) ..)]
  unfold kernelRun0_C
  dsimp only
  sl_unfold_words
  rw [View.canon_unit_zero (S := S1024x1024) hz]
  rw [View.readCov_unit_zero (S := S1024x1024) _ hz]
  simp only [View.readAt_eq_ld, Memref.IsWhole.read_unread, View.ld_unit_zero (S := ⟨2, _⟩) hz]

variable (m : (ℓ : Loc nD τ sig) → Buf (Elt Ideal) ℓ)

/-- The whole product of the launch contents. -/
def G (c : Dev nD) : FVec Ideal S1024x1024 .f32 := fun i =>
  ∑ r : Fin 8192, term (m (c.tc.loc main_arg0)) (m (c.tc.loc main_arg1)) i r

/-- The block indices of the operands' windows at every point of the grid. -/
theorem index_facts : ∀ t : Fin cfg0.N,
    win0_0.index t (0 : Fin 2) = t.val % 8 ∧ win0_0.index t (1 : Fin 2) = 0
    ∧ win0_1.index t (0 : Fin 2) = t.val % 8 ∧ win0_1.index t (1 : Fin 2) = 0 :=
  (by decide +kernel : ∀ t : Fin grid0.N, _)

/-- The result's block index at every point of the grid. -/
theorem out_facts : ∀ t : Fin cfg0.N, win0_2.index t (0 : Fin 2) = 0 ∧ win0_2.index t (1 : Fin 2) = 0 :=
  (by decide +kernel : ∀ t : Fin grid0.N, _)

/-- A block of the left operand holds its rows of the operand. -/
theorem blk0 (c : Dev nD) (t : Fin cfg0.N) (k : Fin 1024) (j : Fin 1024) (r : Fin 8192) (q : Fin 1024)
    (hr : r.val = 1024 * (t.val % 8) + k.val) (hq : q.val = 0 * 1024 + j.val) :
    (iblk m c 0 t (ix2 k j) : EReal) = m (c.tc.loc main_arg0) (ix2 r q) := by
  obtain ⟨h00, h01, -⟩ := index_facts t
  refine congrArg (m (c.tc.loc main_arg0)) (funext fun a => Fin.ext ?_)
  match a with
  | ⟨0, _⟩ => show win0_0.index t 0 * 1024 + 1 * k.val = r.val; rw [h00, hr]; omega
  | ⟨1, _⟩ => show win0_0.index t 1 * 1024 + 1 * j.val = q.val; rw [h01, hq]; omega

/-- A block of the right operand holds its rows of the operand. -/
theorem blk1 (c : Dev nD) (t : Fin cfg0.N) (k : Fin 1024) (j : Fin 1024) (r : Fin 8192) (q : Fin 1024)
    (hr : r.val = 1024 * (t.val % 8) + k.val) (hq : q.val = 0 * 1024 + j.val) :
    (iblk m c 1 t (ix2 k j) : EReal) = m (c.tc.loc main_arg1) (ix2 r q) := by
  obtain ⟨-, -, h10, h11⟩ := index_facts t
  refine congrArg (m (c.tc.loc main_arg1)) (funext fun a => Fin.ext ?_)
  match a with
  | ⟨0, _⟩ => show win0_1.index t 0 * 1024 + 1 * k.val = r.val; rw [h10, hr]; omega
  | ⟨1, _⟩ => show win0_1.index t 1 * 1024 + 1 * j.val = q.val; rw [h11, hq]; omega

/-- A point's product is its run of rows' part of the whole. -/
theorem point (c : Dev nD) (t : Fin cfg0.N) (y : S1024x1024.Idx) (J : S1024x1024.Idx)
    (hJ0 : (J 0).val = 0 * 1024 + (y 0).val) (hJ1 : (J 1).val = 0 * 1024 + (y 1).val) :
    (k0_pay1 (iblk m c 0 t) (iblk m c 1 t) y : EReal)
      = Cert.Hand.blockSum (term (m (c.tc.loc main_arg0)) (m (c.tc.loc main_arg1)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) (blk0 m c t k (y 0) _ (J 0) rfl hJ0) (blk1 m c t k (y 1) _ (J 1) rfl hJ1)

/-- What the accumulator holds after a point: the runs of rows so far. -/
theorem acc_eq (c : Dev nD) : ∀ (n : ℕ) (h : n < cfg0.N) (y : S1024x1024.Idx) (J : S1024x1024.Idx)
    (_ : (J 0).val = 0 * 1024 + (y 0).val) (_ : (J 1).val = 0 * 1024 + (y 1).val),
    ((outsAt0 m c n h).2 y : EReal)
      = ∑ s ∈ Finset.range (n % 8 + 1), Cert.Hand.blockSum (term (m (c.tc.loc main_arg0)) (m (c.tc.loc main_arg1)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 8 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a writing point leaves in the result's block is the whole sum. -/
theorem block_eq (c : Dev nD) (t : Fin cfg0.N) (ht : t.val % 8 = 7) (y : S1024x1024.Idx) (J : S1024x1024.Idx)
    (h0 : (J 0).val = 0 * 1024 + (y 0).val) (h1 : (J 1).val = 0 * 1024 + (y 1).val) :
    ((outsAt0 m c t.val t.isLt).1 y : EReal) = G m c J := by
  have e := acc_eq m c t.val t.isLt y J h0 h1
  rw [ht, Cert.Hand.sum_blocks] at e
  have hA : ¬t.val % 8 = 0 := by omega
  have hN : cfg0.N = 8 := N_0
  have := t.isLt
  rw [outsAt0_C m c t hA (by omega) ht] at e ⊢
  dsimp only at e ⊢
  rw [sout_C] at e
  rw [out_C]
  exact e

/-- What a point writes back is its block of the whole product. -/
theorem flushed_G (c : Dev nD) (t : Fin cfg0.N) (hf : (cfg0.win 2).flush t = true) :
    (dats m 0 c).flushed 2 t = ((cfg0.win 2).blk t).view.read (Elt Ideal) (G m c) := by
  obtain ⟨h0, h1⟩ := out_facts t
  have ht : t.val % 8 = 7 := (by decide +kernel : ∀ t : Fin grid0.N, win0_2.flush t = true → t.val % 8 = 7) t hf
  rw [Value.flushed2]
  funext y
  rw [View.read_apply]
  refine block_eq m c t ht y _ ?_ ?_
  · show win0_2.index t 0 * 1024 + 1 * (y 0 : Nat) = _; rw [h0]; omega
  · show win0_2.index t 1 * 1024 + 1 * (y 1 : Nat) = _; rw [h1]; omega

/-- Every block of the result is some point's. -/
theorem covered : ∀ (a : Fin 1) (b : Fin 1), ∃ t : Fin grid0.N, win0_2.flush t = true
    ∧ win0_2.index t (0 : Fin 2) = a.val ∧ win0_2.index t (1 : Fin 2) = b.val := by decide +kernel

/-- The result array after the run is the whole product. -/
theorem final (c : Dev nD) : (dats m 0 c).arrAt 2 cfg0.N = G m c :=
  (dats m 0 c).arrAt_eq_of_cover 2 (G m c) (fun t hf => flushed_G m c t hf) fun i => by
    have h0 : (i 0 : Nat) < 1024 := (i 0).isLt
    have h1 : (i 1 : Nat) < 1024 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [ha]; dsimp only; omega
    | ⟨1, _⟩ => show win0_2.index t 1 * 1024 ≤ (i 1 : Nat) ∧ (i 1 : Nat) < win0_2.index t 1 * 1024 + 1024
                rw [hb]; dsimp only; omega

end Cert.ODwIdeal.Hand

namespace Cert.Hand

open Idealize.ShloMosaic Idealize.SL.Sem

/-- The kernel's product and the host's are one array. -/
theorem algebraic_oDw : Cert.algebraic_ODwIdeal_ODwRefIdeal := by
  intro m g m' g' _ hargs
  refine ⟨fun c => Cert.ODwIdeal.Hand.G m c, ?_, ?_⟩
  · refine (θ_run Cert.ODwIdeal.defs _ _).mono (fun r h c => ?_) (Cert.ODwIdeal.Value.run_blocks m g)
    exact ⟨(h c).1.trans (Cert.ODwIdeal.Hand.final m c), (h c).2⟩
  · refine (θ_run Cert.ODwRefIdeal.defs _ _).mono (fun r h c => ?_) (Cert.ODwRefIdeal.Value.run m' g')
    refine ⟨(h c).1.trans ?_, (h c).2⟩
    rw [(hargs c).1, (hargs c).2]
    funext i
    show _ = Cert.ODwIdeal.Hand.G m c i
    unfold Cert.ODwIdeal.Hand.G
    unfold Cert.ODwIdeal.Hand.term
    idx_vars i
    skip
    pointwise
    exact Finset.sum_congr rfl fun _ _ => mul_comm (G := EReal) _ _

end Cert.Hand

end
-- ==== Proof.GdnOutDwVal.lean ====
/- The gated delta layer's out-projection's weight gradient: the kernel's accumulated blocks are the host product. -/
module

public import proofs.«01_k».proof.Proof.Gen.GdnOutDwIdeal.Value
public import proofs.«01_k».proof.Proof.Gen.GdnOutDwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.GdnOutDwIdeal.Hand

open Cert.GdnOutDwIdeal Cert.GdnOutDwIdeal.Gen Idealize.ShloMosaic Idealize.ShloMosaic.TcCoe Idealize.SL.Sem

/-- One row's part of an entry of the product. -/
def term (x0 : FVec Ideal S8192x2048 .bf16) (x1 : FVec Ideal S8192x1024 .f32) (i : S2048x1024.Idx) (r : Fin 8192) : EReal :=
  (x0 (ix2 r (i 0)) : EReal) * (x1 (ix2 r (i 1)) : EReal)

theorem hz : (![0, 0] : Fin 2 → Nat) = fun _ => 0 := funext fun a => by fin_cases a <;> rfl

/-- One point's product at an index. -/
theorem pay1_apply (x0 : Vec Ideal S1024x1024 .bf16) (x1 : Vec Ideal S1024x1024 .f32) (y : S1024x1024.Idx) :
    (k0_pay1 x0 x1 y : EReal) = ∑ k : Fin 1024, (x0 (ix2 k (y 0)) : EReal) * (x1 (ix2 k (y 1)) : EReal) := by
  idx_vars y
  skip
  pointwise [k0_pay1]

/-- The first point's store is its product. -/
theorem pay2_eq (x0 : Vec Ideal S1024x1024 .bf16) (x1 : Vec Ideal S1024x1024 .f32) : k0_pay2 x0 x1 = k0_pay1 x0 x1 := by
  unfold k0_pay2
  exact shapeCast_self _ _

/-- A later point's store is the accumulator plus its product. -/
theorem pay3_apply (x0 : Vec Ideal S1024x1024 .bf16) (x1 : Vec Ideal S1024x1024 .f32) (xs : Vec Ideal S1024x1024 .f32) (y : S1024x1024.Idx) :
    (k0_pay3 x0 x1 xs y : EReal) = (xs y : EReal) + k0_pay1 x0 x1 y := by
  unfold k0_pay3
  rw [shapeCast_self]
  rfl

variable (c : Dev nD) (i : grid0.Coords) (a3 : Memref sig .tc .vmem S1024x1024 .bf16) (q3 : a3.IsWhole) (a4 : Memref sig .tc .vmem S1024x1024 .f32) (q4 : a4.IsWhole) (a5 : Memref sig .tc .vmem S1024x1024 .f32) (q5 : a5.IsWhole) (a6 : Memref sig .tc .vmem S1024x1024 .f32) (q6 : a6.IsWhole)
  (x0 : Vec Ideal S1024x1024 .bf16) (x1 : Vec Ideal S1024x1024 .f32) (xs0 : Vec Ideal S1024x1024 .f32)

/-- What case A leaves in the accumulator. -/
theorem sout_A (hc0 : cond0_0 i) (hc1 : ¬cond0_1 i) (hc2 : ¬cond0_2 i) :
    sout0_A_0 c i a3 q3 a4 q4 a5 q5 a6 q6 hc0 hc1 hc2 x0 x1 = k0_pay2 x0 x1 := by
  unfold sout0_A_0
  rw [View.read_writes_eq_canon _ _ _ (fun y => scover0_A_0 (y := y) ..)]
  unfold kernelRun0_A
  dsimp only
  rw [View.canon_unit_zero (S := S1024x1024) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 hc0 hc1 hc2 x0 x1 xs0 = k0_pay3 x0 x1 xs0 := by
  unfold sout0_B_0
  rw [View.read_writes_eq_canon _ _ _ (fun y => scover0_B_0 (y := y) ..)]
  unfold kernelRun0_B
  dsimp only
  rw [View.canon_unit_zero (S := S1024x1024) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 hc0 hc1 hc2 x0 x1 xs0 = k0_pay3 x0 x1 xs0 := by
  unfold sout0_C_0
  rw [View.read_writes_eq_canon _ _ _ (fun y => scover0_C_0 (y := y) ..)]
  unfold kernelRun0_C
  dsimp only
  sl_unfold_words
  rw [View.canon_unit_zero (S := S1024x1024) hz]
  simp only [View.readAt_eq_ld, Memref.IsWhole.read_unread, View.ld_unit_zero (S := ⟨2, _⟩) hz]

/-- What case C leaves in the result's block: the accumulator. -/
theorem out_C (hc0 : ¬cond0_0 i) (hc1 : cond0_1 i) (hc2 : cond0_2 i) :
    out0_C_2 c i a3 q3 a4 q4 a5 q5 a6 q6 hc0 hc1 hc2 x0 x1 xs0 = k0_pay3 x0 x1 xs0 := by
  unfold out0_C_2
  rw [View.read_writes_eq_canon _ _ _ (fun y => cover0_C_2 (y := y) ..)]
  unfold kernelRun0_C
  dsimp only
  sl_unfold_words
  rw [View.canon_unit_zero (S := S1024x1024) hz]
  rw [View.readCov_unit_zero (S := S1024x1024) _ hz]
  simp only [View.readAt_eq_ld, Memref.IsWhole.read_unread, View.ld_unit_zero (S := ⟨2, _⟩) hz]

variable (m : (ℓ : Loc nD τ sig) → Buf (Elt Ideal) ℓ)

/-- The whole product of the launch contents. -/
def G (c : Dev nD) : FVec Ideal S2048x1024 .f32 := fun i =>
  ∑ r : Fin 8192, term (m (c.tc.loc main_arg0)) (m (c.tc.loc main_arg1)) i r

/-- The block indices of the operands' windows at every point of the grid. -/
theorem index_facts : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = 0 :=
  (by decide +kernel : ∀ t : Fin grid0.N, _)

/-- The result's block index at every point of the grid. -/
theorem out_facts : ∀ t : Fin cfg0.N, win0_2.index t (0 : Fin 2) = t.val / 8 ∧ win0_2.index t (1 : Fin 2) = 0 :=
  (by decide +kernel : ∀ t : Fin grid0.N, _)

/-- A block of the left operand holds its rows of the operand. -/
theorem blk0 (c : Dev nD) (t : Fin cfg0.N) (k : Fin 1024) (j : Fin 1024) (r : Fin 8192) (q : Fin 2048)
    (hr : r.val = 1024 * (t.val % 8) + k.val) (hq : q.val = t.val / 8 * 1024 + j.val) :
    (iblk m c 0 t (ix2 k j) : EReal) = m (c.tc.loc main_arg0) (ix2 r q) := by
  obtain ⟨h00, h01, -⟩ := index_facts t
  refine congrArg (m (c.tc.loc main_arg0)) (funext fun a => Fin.ext ?_)
  match a with
  | ⟨0, _⟩ => show win0_0.index t 0 * 1024 + 1 * k.val = r.val; rw [h00, hr]; omega
  | ⟨1, _⟩ => show win0_0.index t 1 * 1024 + 1 * j.val = q.val; rw [h01, hq]; omega

/-- A block of the right operand holds its rows of the operand. -/
theorem blk1 (c : Dev nD) (t : Fin cfg0.N) (k : Fin 1024) (j : Fin 1024) (r : Fin 8192) (q : Fin 1024)
    (hr : r.val = 1024 * (t.val % 8) + k.val) (hq : q.val = 0 * 1024 + j.val) :
    (iblk m c 1 t (ix2 k j) : EReal) = m (c.tc.loc main_arg1) (ix2 r q) := by
  obtain ⟨-, -, h10, h11⟩ := index_facts t
  refine congrArg (m (c.tc.loc main_arg1)) (funext fun a => Fin.ext ?_)
  match a with
  | ⟨0, _⟩ => show win0_1.index t 0 * 1024 + 1 * k.val = r.val; rw [h10, hr]; omega
  | ⟨1, _⟩ => show win0_1.index t 1 * 1024 + 1 * j.val = q.val; rw [h11, hq]; omega

/-- A point's product is its run of rows' part of the whole. -/
theorem point (c : Dev nD) (t : Fin cfg0.N) (y : S1024x1024.Idx) (J : S2048x1024.Idx)
    (hJ0 : (J 0).val = t.val / 8 * 1024 + (y 0).val) (hJ1 : (J 1).val = 0 * 1024 + (y 1).val) :
    (k0_pay1 (iblk m c 0 t) (iblk m c 1 t) y : EReal)
      = Cert.Hand.blockSum (term (m (c.tc.loc main_arg0)) (m (c.tc.loc main_arg1)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) (blk0 m c t k (y 0) _ (J 0) rfl hJ0) (blk1 m c t k (y 1) _ (J 1) rfl hJ1)

/-- What the accumulator holds after a point: the runs of rows so far. -/
theorem acc_eq (c : Dev nD) : ∀ (n : ℕ) (h : n < cfg0.N) (y : S1024x1024.Idx) (J : S2048x1024.Idx)
    (_ : (J 0).val = n / 8 * 1024 + (y 0).val) (_ : (J 1).val = 0 * 1024 + (y 1).val),
    ((outsAt0 m c n h).2 y : EReal)
      = ∑ s ∈ Finset.range (n % 8 + 1), Cert.Hand.blockSum (term (m (c.tc.loc main_arg0)) (m (c.tc.loc main_arg1)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 16 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a writing point leaves in the result's block is the whole sum. -/
theorem block_eq (c : Dev nD) (t : Fin cfg0.N) (ht : t.val % 8 = 7) (y : S1024x1024.Idx) (J : S2048x1024.Idx)
    (h0 : (J 0).val = t.val / 8 * 1024 + (y 0).val) (h1 : (J 1).val = 0 * 1024 + (y 1).val) :
    ((outsAt0 m c t.val t.isLt).1 y : EReal) = G m c J := by
  have e := acc_eq m c t.val t.isLt y J h0 h1
  rw [ht, Cert.Hand.sum_blocks] at e
  have hA : ¬t.val % 8 = 0 := by omega
  have hN : cfg0.N = 16 := N_0
  have := t.isLt
  rw [outsAt0_C m c t hA (by omega) ht] at e ⊢
  dsimp only at e ⊢
  rw [sout_C] at e
  rw [out_C]
  exact e

/-- What a point writes back is its block of the whole product. -/
theorem flushed_G (c : Dev nD) (t : Fin cfg0.N) (hf : (cfg0.win 2).flush t = true) :
    (dats m 0 c).flushed 2 t = ((cfg0.win 2).blk t).view.read (Elt Ideal) (G m c) := by
  obtain ⟨h0, h1⟩ := out_facts t
  have ht : t.val % 8 = 7 := (by decide +kernel : ∀ t : Fin grid0.N, win0_2.flush t = true → t.val % 8 = 7) t hf
  rw [Value.flushed2]
  funext y
  rw [View.read_apply]
  refine block_eq m c t ht y _ ?_ ?_
  · show win0_2.index t 0 * 1024 + 1 * (y 0 : Nat) = _; rw [h0]; omega
  · show win0_2.index t 1 * 1024 + 1 * (y 1 : Nat) = _; rw [h1]; omega

/-- Every block of the result is some point's. -/
theorem covered : ∀ (a : Fin 2) (b : Fin 1), ∃ t : Fin grid0.N, win0_2.flush t = true
    ∧ win0_2.index t (0 : Fin 2) = a.val ∧ win0_2.index t (1 : Fin 2) = b.val := by decide +kernel

/-- The result array after the run is the whole product. -/
theorem final (c : Dev nD) : (dats m 0 c).arrAt 2 cfg0.N = G m c :=
  (dats m 0 c).arrAt_eq_of_cover 2 (G m c) (fun t hf => flushed_G m c t hf) fun i => by
    have h0 : (i 0 : Nat) < 2048 := (i 0).isLt
    have h1 : (i 1 : Nat) < 1024 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [ha]; dsimp only; omega
    | ⟨1, _⟩ => show win0_2.index t 1 * 1024 ≤ (i 1 : Nat) ∧ (i 1 : Nat) < win0_2.index t 1 * 1024 + 1024
                rw [hb]; dsimp only; omega

end Cert.GdnOutDwIdeal.Hand

namespace Cert.Hand

open Idealize.ShloMosaic Idealize.SL.Sem

/-- The kernel's product and the host's are one array. -/
theorem algebraic_gdnOutDw : Cert.algebraic_GdnOutDwIdeal_GdnOutDwRefIdeal := by
  intro m g m' g' _ hargs
  refine ⟨fun c => Cert.GdnOutDwIdeal.Hand.G m c, ?_, ?_⟩
  · refine (θ_run Cert.GdnOutDwIdeal.defs _ _).mono (fun r h c => ?_) (Cert.GdnOutDwIdeal.Value.run_blocks m g)
    exact ⟨(h c).1.trans (Cert.GdnOutDwIdeal.Hand.final m c), (h c).2⟩
  · refine (θ_run Cert.GdnOutDwRefIdeal.defs _ _).mono (fun r h c => ?_) (Cert.GdnOutDwRefIdeal.Value.run m' g')
    refine ⟨(h c).1.trans ?_, (h c).2⟩
    rw [(hargs c).1, (hargs c).2]
    funext i
    show _ = Cert.GdnOutDwIdeal.Hand.G m c i
    unfold Cert.GdnOutDwIdeal.Hand.G
    unfold Cert.GdnOutDwIdeal.Hand.term
    idx_vars i
    skip
    pointwise
    exact Finset.sum_congr rfl fun _ _ => mul_comm (G := EReal) _ _

end Cert.Hand

end
-- ==== Proof.GdnInDwVal.lean ====
/- The gated delta layer's in-projection's weight gradient: the kernel's accumulated blocks are the host product. -/
module

public import proofs.«01_k».proof.Proof.Gen.GdnInDwIdeal.Value
public import proofs.«01_k».proof.Proof.Gen.GdnInDwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.GdnInDwIdeal.Hand

open Cert.GdnInDwIdeal Cert.GdnInDwIdeal.Gen Idealize.ShloMosaic Idealize.ShloMosaic.TcCoe Idealize.SL.Sem

/-- One row's part of an entry of the product. -/
def term (x0 : FVec Ideal S8192x1024 .f32) (x1 : FVec Ideal S1x1024 .f32) (x2 : FVec Ideal S8192x6144 .bf16) (i : S1024x6144.Idx) (r : Fin 8192) : EReal :=
  Cert.Hand.normed (fun k => x0 (ix2 r k)) (fun k => x1 (ix2 (0 : Fin 1) k)) (i 0) * (x2 (ix2 r (i 1)) : EReal)

theorem hz : (![0, 0] : Fin 2 → Nat) = fun _ => 0 := funext fun a => by fin_cases a <;> rfl

/-- One point's product at an index. -/
theorem pay1_apply (x0 : Vec Ideal S1024x1024 .f32) (x1 : Vec Ideal S1024x1024 .bf16) (x2 : Vec Ideal S1x1024 .f32) (y : S1024x1024.Idx) :
    (k0_pay1 x0 x1 x2 y : EReal) = ∑ k : Fin 1024, Cert.Hand.normed (fun j => x0 (ix2 k j)) (fun j => x2 (ix2 (0 : Fin 1) j)) (y 0) * (x1 (ix2 k (y 1)) : EReal) := by
  idx_vars y
  unfold Cert.Hand.normed
  pointwise [k0_pay1]

/-- The first point's store is its product. -/
theorem pay2_eq (x0 : Vec Ideal S1024x1024 .f32) (x1 : Vec Ideal S1024x1024 .bf16) (x2 : Vec Ideal S1x1024 .f32) : k0_pay2 x0 x1 x2 = k0_pay1 x0 x1 x2 := by
  unfold k0_pay2
  exact shapeCast_self _ _

/-- A later point's store is the accumulator plus its product. -/
theorem pay3_apply (x0 : Vec Ideal S1024x1024 .f32) (x1 : Vec Ideal S1024x1024 .bf16) (x2 : Vec Ideal S1x1024 .f32) (xs : Vec Ideal S1024x1024 .f32) (y : S1024x1024.Idx) :
    (k0_pay3 x0 x1 x2 xs y : EReal) = (xs y : EReal) + k0_pay1 x0 x1 x2 y := by
  unfold k0_pay3
  rw [shapeCast_self]
  rfl

variable (c : Dev nD) (i : grid0.Coords) (a3 : Memref sig .tc .vmem S1024x1024 .f32) (q3 : a3.IsWhole) (a4 : Memref sig .tc .vmem S1024x1024 .bf16) (q4 : a4.IsWhole) (a5 : Memref sig .tc .vmem S1x1024 .f32) (q5 : a5.IsWhole) (a6 : Memref sig .tc .vmem S1024x1024 .f32) (q6 : a6.IsWhole) (a7 : Memref sig .tc .vmem S1024x1024 .f32) (q7 : a7.IsWhole)
  (x0 : Vec Ideal S1024x1024 .f32) (x1 : Vec Ideal S1024x1024 .bf16) (x2 : Vec Ideal S1x1024 .f32) (xs0 : Vec Ideal S1024x1024 .f32)

/-- What case A leaves in the accumulator. -/
theorem sout_A (hc0 : cond0_0 i) (hc1 : ¬cond0_1 i) (hc2 : ¬cond0_2 i) :
    sout0_A_0 c i a3 q3 a4 q4 a5 q5 a6 q6 a7 q7 hc0 hc1 hc2 x0 x1 x2 = k0_pay2 x0 x1 x2 := by
  unfold sout0_A_0
  rw [View.read_writes_eq_canon _ _ _ (fun y => scover0_A_0 (y := y) ..)]
  unfold kernelRun0_A
  dsimp only
  rw [View.canon_unit_zero (S := S1024x1024) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 a7 q7 hc0 hc1 hc2 x0 x1 x2 xs0 = k0_pay3 x0 x1 x2 xs0 := by
  unfold sout0_B_0
  rw [View.read_writes_eq_canon _ _ _ (fun y => scover0_B_0 (y := y) ..)]
  unfold kernelRun0_B
  dsimp only
  rw [View.canon_unit_zero (S := S1024x1024) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 a7 q7 hc0 hc1 hc2 x0 x1 x2 xs0 = k0_pay3 x0 x1 x2 xs0 := by
  unfold sout0_C_0
  rw [View.read_writes_eq_canon _ _ _ (fun y => scover0_C_0 (y := y) ..)]
  unfold kernelRun0_C
  dsimp only
  sl_unfold_words
  rw [View.canon_unit_zero (S := S1024x1024) hz]
  simp only [View.readAt_eq_ld, Memref.IsWhole.read_unread, View.ld_unit_zero (S := ⟨2, _⟩) hz]

/-- What case C leaves in the result's block: the accumulator. -/
theorem out_C (hc0 : ¬cond0_0 i) (hc1 : cond0_1 i) (hc2 : cond0_2 i) :
    out0_C_3 c i a3 q3 a4 q4 a5 q5 a6 q6 a7 q7 hc0 hc1 hc2 x0 x1 x2 xs0 = k0_pay3 x0 x1 x2 xs0 := by
  unfold out0_C_3
  rw [View.read_writes_eq_canon _ _ _ (fun y => cover0_C_3 (y := y) ..)]
  unfold kernelRun0_C
  dsimp only
  sl_unfold_words
  rw [View.canon_unit_zero (S := S1024x1024) hz]
  rw [View.readCov_unit_zero (S := S1024x1024) _ hz]
  simp only [View.readAt_eq_ld, Memref.IsWhole.read_unread, View.ld_unit_zero (S := ⟨2, _⟩) hz]

variable (m : (ℓ : Loc nD τ sig) → Buf (Elt Ideal) ℓ)

/-- The whole product of the launch contents. -/
def G (c : Dev nD) : FVec Ideal S1024x6144 .f32 := fun i =>
  ∑ r : Fin 8192, term (m (c.tc.loc main_arg0)) (m (c.tc.loc main_arg1)) (m (c.tc.loc main_arg2)) i r

/-- The block indices of the operands' windows at every point of the grid. -/
theorem index_facts : ∀ t : Fin cfg0.N,
    win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = 0 :=
  (by decide +kernel : ∀ t : Fin grid0.N, _)

/-- The result's block index at every point of the grid. -/
theorem out_facts : ∀ t : Fin cfg0.N, win0_3.index t (0 : Fin 2) = 0 ∧ win0_3.index t (1 : Fin 2) = t.val / 8 :=
  (by decide +kernel : ∀ t : Fin grid0.N, _)

/-- A block of the left operand holds its rows of the operand. -/
theorem blk0 (c : Dev nD) (t : Fin cfg0.N) (k : Fin 1024) (j : Fin 1024) (r : Fin 8192) (q : Fin 1024)
    (hr : r.val = 1024 * (t.val % 8) + k.val) (hq : q.val = 0 * 1024 + j.val) :
    (iblk m c 0 t (ix2 k j) : EReal) = m (c.tc.loc main_arg0) (ix2 r q) := by
  obtain ⟨h00, h01, -⟩ := index_facts t
  refine congrArg (m (c.tc.loc main_arg0)) (funext fun a => Fin.ext ?_)
  match a with
  | ⟨0, _⟩ => show win0_0.index t 0 * 1024 + 1 * k.val = r.val; rw [h00, hr]; omega
  | ⟨1, _⟩ => show win0_0.index t 1 * 1024 + 1 * j.val = q.val; rw [h01, hq]; omega

/-- A block of the right operand holds its rows of the operand. -/
theorem blk1 (c : Dev nD) (t : Fin cfg0.N) (k : Fin 1024) (j : Fin 1024) (r : Fin 8192) (q : Fin 6144)
    (hr : r.val = 1024 * (t.val % 8) + k.val) (hq : q.val = t.val / 8 * 1024 + j.val) :
    (iblk m c 1 t (ix2 k j) : EReal) = m (c.tc.loc main_arg2) (ix2 r q) := by
  obtain ⟨-, -, h10, h11, -⟩ := index_facts t
  refine congrArg (m (c.tc.loc main_arg2)) (funext fun a => Fin.ext ?_)
  match a with
  | ⟨0, _⟩ => show win0_1.index t 0 * 1024 + 1 * k.val = r.val; rw [h10, hr]; omega
  | ⟨1, _⟩ => show win0_1.index t 1 * 1024 + 1 * j.val = q.val; rw [h11, hq]; omega

/-- The gain row's only block is the row. -/
theorem blk2 (c : Dev nD) (t : Fin cfg0.N) (k : Fin 1024) :
    (iblk m c 2 t (ix2 (0 : Fin 1) k) : EReal) = m (c.tc.loc main_arg1) (ix2 (0 : Fin 1) k) := by
  obtain ⟨-, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- A point's product is its run of rows' part of the whole. -/
theorem point (c : Dev nD) (t : Fin cfg0.N) (y : S1024x1024.Idx) (J : S1024x6144.Idx)
    (hJ0 : (J 0).val = 0 * 1024 + (y 0).val) (hJ1 : (J 1).val = t.val / 8 * 1024 + (y 1).val) :
    (k0_pay1 (iblk m c 0 t) (iblk m c 1 t) (iblk m c 2 t) y : EReal)
      = Cert.Hand.blockSum (term (m (c.tc.loc main_arg0)) (m (c.tc.loc main_arg1)) (m (c.tc.loc main_arg2)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) ((Cert.Hand.normed_congr (fun j => blk0 m c t k j _ j rfl (by rw [Nat.zero_mul, Nat.zero_add])) (fun j => blk2 m c t j) (y 0)).trans
    (congrArg _ (Fin.ext (by rw [hJ0]; omega) : y 0 = J 0))) (blk1 m c t k (y 1) _ (J 1) rfl hJ1)

/-- What the accumulator holds after a point: the runs of rows so far. -/
theorem acc_eq (c : Dev nD) : ∀ (n : ℕ) (h : n < cfg0.N) (y : S1024x1024.Idx) (J : S1024x6144.Idx)
    (_ : (J 0).val = 0 * 1024 + (y 0).val) (_ : (J 1).val = n / 8 * 1024 + (y 1).val),
    ((outsAt0 m c n h).2 y : EReal)
      = ∑ s ∈ Finset.range (n % 8 + 1), Cert.Hand.blockSum (term (m (c.tc.loc main_arg0)) (m (c.tc.loc main_arg1)) (m (c.tc.loc main_arg2)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 48 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a writing point leaves in the result's block is the whole sum. -/
theorem block_eq (c : Dev nD) (t : Fin cfg0.N) (ht : t.val % 8 = 7) (y : S1024x1024.Idx) (J : S1024x6144.Idx)
    (h0 : (J 0).val = 0 * 1024 + (y 0).val) (h1 : (J 1).val = t.val / 8 * 1024 + (y 1).val) :
    ((outsAt0 m c t.val t.isLt).1 y : EReal) = G m c J := by
  have e := acc_eq m c t.val t.isLt y J h0 h1
  rw [ht, Cert.Hand.sum_blocks] at e
  have hA : ¬t.val % 8 = 0 := by omega
  have hN : cfg0.N = 48 := N_0
  have := t.isLt
  rw [outsAt0_C m c t hA (by omega) ht] at e ⊢
  dsimp only at e ⊢
  rw [sout_C] at e
  rw [out_C]
  exact e

/-- What a point writes back is its block of the whole product. -/
theorem flushed_G (c : Dev nD) (t : Fin cfg0.N) (hf : (cfg0.win 3).flush t = true) :
    (dats m 0 c).flushed 3 t = ((cfg0.win 3).blk t).view.read (Elt Ideal) (G m c) := by
  obtain ⟨h0, h1⟩ := out_facts t
  have ht : t.val % 8 = 7 := (by decide +kernel : ∀ t : Fin grid0.N, win0_3.flush t = true → t.val % 8 = 7) t hf
  rw [Value.flushed3]
  funext y
  rw [View.read_apply]
  refine block_eq m c t ht y _ ?_ ?_
  · show win0_3.index t 0 * 1024 + 1 * (y 0 : Nat) = _; rw [h0]; omega
  · show win0_3.index t 1 * 1024 + 1 * (y 1 : Nat) = _; rw [h1]; omega

/-- Every block of the result is some point's. -/
theorem covered : ∀ (a : Fin 1) (b : Fin 6), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t hf => flushed_G m c t hf) fun i => by
    have h0 : (i 0 : Nat) < 1024 := (i 0).isLt
    have h1 : (i 1 : Nat) < 6144 := (i 1).isLt
    obtain ⟨t, hf, ha, hb⟩ := covered ⟨(i 0 : Nat) / 1024, by omega⟩ ⟨(i 1 : Nat) / 1024, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 1024 ≤ (i 1 : Nat) ∧ (i 1 : Nat) < win0_3.index t 1 * 1024 + 1024
                rw [hb]; dsimp only; omega

end Cert.GdnInDwIdeal.Hand

namespace Cert.Hand

open Idealize.ShloMosaic Idealize.SL.Sem

/-- The kernel's product and the host's are one array. -/
theorem algebraic_gdnInDw : Cert.algebraic_GdnInDwIdeal_GdnInDwRefIdeal := by
  intro m g m' g' _ hargs
  refine ⟨fun c => Cert.GdnInDwIdeal.Hand.G m c, ?_, ?_⟩
  · refine (θ_run Cert.GdnInDwIdeal.defs _ _).mono (fun r h c => ?_) (Cert.GdnInDwIdeal.Value.run_blocks m g)
    exact ⟨(h c).1.trans (Cert.GdnInDwIdeal.Hand.final m c), (h c).2⟩
  · refine (θ_run Cert.GdnInDwRefIdeal.defs _ _).mono (fun r h c => ?_) (Cert.GdnInDwRefIdeal.Value.run m' g')
    refine ⟨(h c).1.trans ?_, (h c).2⟩
    rw [(hargs c).1, (hargs c).2.1, (hargs c).2.2]
    funext i
    show _ = Cert.GdnInDwIdeal.Hand.G m c i
    unfold Cert.GdnInDwIdeal.Hand.G
    unfold Cert.GdnInDwIdeal.Hand.term
    idx_vars i
    unfold Cert.Hand.normed
    pointwise
    exact Finset.sum_congr rfl fun _ _ => mul_comm (G := EReal) _ _

end Cert.Hand

end
-- ==== Proof.Up1DwVal.lean ====
/- The second feed-forward layer's up product's weight gradient: the kernel's accumulated blocks are the host product. -/
module

public import proofs.«01_k».proof.Proof.Gen.Up1DwIdeal.Frame
public import proofs.«01_k».proof.Proof.Gen.Up1DwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.Up1DwIdeal.Hand

open Cert.Up1DwIdeal Cert.Up1DwIdeal.Gen Idealize.ShloMosaic Idealize.ShloMosaic.TcCoe Idealize.SL.Sem

/-- The product's shape. -/
abbrev SP : Shape := ⟨2, ![1024, 5632]⟩

/-- One row's part of an entry of the product. -/
def term (x0 : FVec Ideal S8192x1024 .f32) (x1 : FVec Ideal S1x1024 .f32) (x2 : FVec Ideal S8192x5632 .bf16) (i : SP.Idx) (r : Fin 8192) : EReal :=
  Cert.Hand.normed (fun k => x0 (ix2 r k)) (fun k => x1 (ix2 (0 : Fin 1) k)) (i 0) * (x2 (ix2 r (i 1)) : EReal)

theorem hz : (![0, 0] : Fin 2 → Nat) = fun _ => 0 := funext fun a => by fin_cases a <;> rfl

/-- One point's product at an index. -/
theorem pay1_apply (x0 : Vec Ideal S1024x1024 .f32) (x1 : Vec Ideal S1024x1408 .bf16) (x2 : Vec Ideal S1x1024 .f32) (y : S1024x1408.Idx) :
    (k0_pay1 x0 x1 x2 y : EReal) = ∑ k : Fin 1024, Cert.Hand.normed (fun j => x0 (ix2 k j)) (fun j => x2 (ix2 (0 : Fin 1) j)) (y 0) * (x1 (ix2 k (y 1)) : EReal) := by
  idx_vars y
  unfold Cert.Hand.normed
  pointwise [k0_pay1]

/-- The first point's store is its product. -/
theorem pay2_eq (x0 : Vec Ideal S1024x1024 .f32) (x1 : Vec Ideal S1024x1408 .bf16) (x2 : Vec Ideal S1x1024 .f32) : k0_pay2 x0 x1 x2 = k0_pay1 x0 x1 x2 := by
  unfold k0_pay2
  exact shapeCast_self _ _

/-- A later point's store is the accumulator plus its product. -/
theorem pay3_apply (x0 : Vec Ideal S1024x1024 .f32) (x1 : Vec Ideal S1024x1408 .bf16) (x2 : Vec Ideal S1x1024 .f32) (xs : Vec Ideal S1024x1408 .f32) (y : S1024x1408.Idx) :
    (k0_pay3 x0 x1 x2 xs y : EReal) = (xs y : EReal) + k0_pay1 x0 x1 x2 y := by
  unfold k0_pay3
  rw [shapeCast_self]
  rfl

variable (c : Dev nD) (i : grid0.Coords) (a3 : Memref sig .tc .vmem S1024x1024 .f32) (q3 : a3.IsWhole) (a4 : Memref sig .tc .vmem S1024x1408 .bf16) (q4 : a4.IsWhole) (a5 : Memref sig .tc .vmem S1x1024 .f32) (q5 : a5.IsWhole) (a6 : Memref sig .tc .vmem S1x1x1024x1408 .f32) (q6 : a6.IsWhole) (a7 : Memref sig .tc .vmem S1024x1408 .f32) (q7 : a7.IsWhole)
  (x0 : Vec Ideal S1024x1024 .f32) (x1 : Vec Ideal S1024x1408 .bf16) (x2 : Vec Ideal S1x1024 .f32) (xs0 : Vec Ideal S1024x1408 .f32)

/-- What case A leaves in the accumulator. -/
theorem sout_A (hc0 : cond0_0 i) (hc1 : ¬cond0_1 i) (hc2 : ¬cond0_2 i) :
    sout0_A_0 c i a3 q3 a4 q4 a5 q5 a6 q6 a7 q7 hc0 hc1 hc2 x0 x1 x2 = k0_pay2 x0 x1 x2 := by
  unfold sout0_A_0
  rw [View.read_writes_eq_canon _ _ _ (fun y => scover0_A_0 (y := y) ..)]
  unfold kernelRun0_A
  dsimp only
  rw [View.canon_unit_zero (S := S1024x1408) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 a7 q7 hc0 hc1 hc2 x0 x1 x2 xs0 = k0_pay3 x0 x1 x2 xs0 := by
  unfold sout0_B_0
  rw [View.read_writes_eq_canon _ _ _ (fun y => scover0_B_0 (y := y) ..)]
  unfold kernelRun0_B
  dsimp only
  rw [View.canon_unit_zero (S := S1024x1408) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 a7 q7 hc0 hc1 hc2 x0 x1 x2 xs0 = k0_pay3 x0 x1 x2 xs0 := by
  unfold sout0_C_0
  rw [View.read_writes_eq_canon _ _ _ (fun y => scover0_C_0 (y := y) ..)]
  unfold kernelRun0_C
  dsimp only
  sl_unfold_words
  rw [View.canon_unit_zero (S := S1024x1408) hz]
  simp only [View.readAt_eq_ld, Memref.IsWhole.read_unread, View.ld_unit_zero (S := ⟨2, _⟩) hz]

theorem hz4 : (![0, 0, 0, 0] : Fin 4 → Nat) = fun _ => 0 := funext fun a => by fin_cases a <;> rfl

/-- The result's block is the accumulator in another shape. -/
theorem pay4_apply (xs : Vec Ideal S1024x1408 .f32) (y : S1x1x1024x1408.Idx) :
    (k0_pay4 xs y : EReal) = xs (ix2 (y 2) (y 3)) := by
  idx_vars y
  pointwise [k0_pay4]

/-- What case C leaves in the result's block: the accumulator. -/
theorem out_C (hc0 : ¬cond0_0 i) (hc1 : cond0_1 i) (hc2 : cond0_2 i) :
    out0_C_3 c i a3 q3 a4 q4 a5 q5 a6 q6 a7 q7 hc0 hc1 hc2 x0 x1 x2 xs0 = k0_pay4 (k0_pay3 x0 x1 x2 xs0) := by
  unfold out0_C_3
  rw [View.read_writes_eq_canon _ _ _ (fun y => cover0_C_3 (y := y) ..)]
  unfold kernelRun0_C
  dsimp only
  sl_unfold_words
  rw [View.canon_unit_zero (S := S1x1x1024x1408) hz4]
  rw [View.readCov_unit_zero (S := S1024x1408) _ hz]
  simp only [View.readAt_eq_ld, Memref.IsWhole.read_unread, View.ld_unit_zero (S := ⟨2, _⟩) hz]

variable (m : (ℓ : Loc nD τ sig) → Buf (Elt Ideal) ℓ)

/-- The product of the launch contents, at an index of the stacked array. -/
def G (c : Dev nD) : FVec Ideal S4x2x1024x1408 .f32 := fun i =>
  ∑ r : Fin 8192, term (m (c.tc.loc main_arg0)) (m (c.tc.loc main_arg1)) (m (c.tc.loc main_arg2)) (ix2 (i 2) (⟨(i 0 : Nat) * 1408 + (i 3 : Nat), by have h0 : (i 0 : Nat) < 4 := (i 0).isLt; have h3 : (i 3 : Nat) < 1408 := (i 3).isLt; omega⟩) : SP.Idx) r

/-- The block indices of the operands' windows at every point of the grid. -/
theorem index_facts : ∀ t : Fin cfg0.N,
    win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = 0 :=
  (by decide +kernel : ∀ t : Fin grid0.N, _)

/-- The result's block index at every point of the grid. -/
theorem out_facts : ∀ t : Fin cfg0.N, win0_3.index t (0 : Fin 4) = t.val / 8 ∧ win0_3.index t (1 : Fin 4) = 1 ∧ win0_3.index t (2 : Fin 4) = 0 ∧ win0_3.index t (3 : Fin 4) = 0 :=
  (by decide +kernel : ∀ t : Fin grid0.N, _)

/-- A block of the left operand holds its rows of the operand. -/
theorem blk0 (c : Dev nD) (t : Fin cfg0.N) (k : Fin 1024) (j : Fin 1024) (r : Fin 8192) (q : Fin 1024)
    (hr : r.val = 1024 * (t.val % 8) + k.val) (hq : q.val = 0 * 1024 + j.val) :
    (iblk m c 0 t (ix2 k j) : EReal) = m (c.tc.loc main_arg0) (ix2 r q) := by
  obtain ⟨h00, h01, -⟩ := index_facts t
  refine (congrFun (V_main_arg0 m c) _).trans (congrArg (m (c.tc.loc main_arg0)) (funext fun a => Fin.ext ?_))
  match a with
  | ⟨0, _⟩ => show win0_0.index t 0 * 1024 + 1 * k.val = r.val; rw [h00, hr]; omega
  | ⟨1, _⟩ => show win0_0.index t 1 * 1024 + 1 * j.val = q.val; rw [h01, hq]; omega

/-- A block of the right operand holds its rows of the operand. -/
theorem blk1 (c : Dev nD) (t : Fin cfg0.N) (k : Fin 1024) (j : Fin 1408) (r : Fin 8192) (q : Fin 5632)
    (hr : r.val = 1024 * (t.val % 8) + k.val) (hq : q.val = t.val / 8 * 1408 + j.val) :
    (iblk m c 1 t (ix2 k j) : EReal) = m (c.tc.loc main_arg2) (ix2 r q) := by
  obtain ⟨-, -, h10, h11, -⟩ := index_facts t
  refine (congrFun (V_main_arg2 m c) _).trans (congrArg (m (c.tc.loc main_arg2)) (funext fun a => Fin.ext ?_))
  match a with
  | ⟨0, _⟩ => show win0_1.index t 0 * 1024 + 1 * k.val = r.val; rw [h10, hr]; omega
  | ⟨1, _⟩ => show win0_1.index t 1 * 1408 + 1 * j.val = q.val; rw [h11, hq]; omega

/-- The gain row's only block is the row. -/
theorem blk2 (c : Dev nD) (t : Fin cfg0.N) (k : Fin 1024) :
    (iblk m c 2 t (ix2 (0 : Fin 1) k) : EReal) = m (c.tc.loc main_arg1) (ix2 (0 : Fin 1) k) := by
  obtain ⟨-, -, -, -, h20, h21⟩ := index_facts t
  refine (congrFun (V_main_arg1 m c) _).trans (congrArg (m (c.tc.loc main_arg1)) (funext fun a => Fin.ext ?_))
  match a with
  | ⟨0, _⟩ => show win0_2.index t 0 * 1 + 1 * 0 = 0; rw [h20]
  | ⟨1, _⟩ => show win0_2.index t 1 * 1024 + 1 * k.val = k.val; rw [h21]; omega

/-- A point's product is its run of rows' part of the whole. -/
theorem point (c : Dev nD) (t : Fin cfg0.N) (y : S1024x1408.Idx) (J : SP.Idx)
    (hJ0 : (J 0).val = 0 * 1024 + (y 0).val) (hJ1 : (J 1).val = t.val / 8 * 1408 + (y 1).val) :
    (k0_pay1 (iblk m c 0 t) (iblk m c 1 t) (iblk m c 2 t) y : EReal)
      = Cert.Hand.blockSum (term (m (c.tc.loc main_arg0)) (m (c.tc.loc main_arg1)) (m (c.tc.loc main_arg2)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) ((Cert.Hand.normed_congr (fun j => blk0 m c t k j _ j rfl (by rw [Nat.zero_mul, Nat.zero_add])) (fun j => blk2 m c t j) (y 0)).trans
    (congrArg _ (Fin.ext (by rw [hJ0]; omega) : y 0 = J 0))) (blk1 m c t k (y 1) _ (J 1) rfl hJ1)

/-- What the accumulator holds after a point: the runs of rows so far. -/
theorem acc_eq (c : Dev nD) : ∀ (n : ℕ) (h : n < cfg0.N) (y : S1024x1408.Idx) (J : SP.Idx)
    (_ : (J 0).val = 0 * 1024 + (y 0).val) (_ : (J 1).val = n / 8 * 1408 + (y 1).val),
    ((outsAt0 m c n h).2 y : EReal)
      = ∑ s ∈ Finset.range (n % 8 + 1), Cert.Hand.blockSum (term (m (c.tc.loc main_arg0)) (m (c.tc.loc main_arg1)) (m (c.tc.loc main_arg2)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 32 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a point writes back of the result. -/
theorem flushed_o (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- What a writing point leaves in the result's block is the whole sum. -/
theorem block_eq (c : Dev nD) (t : Fin cfg0.N) (ht : t.val % 8 = 7) (y : S1x1x1024x1408.Idx) (J : SP.Idx)
    (h0 : (J 0).val = 0 * 1024 + (y 2).val) (h1 : (J 1).val = t.val / 8 * 1408 + (y 3).val) :
    ((outsAt0 m c t.val t.isLt).1 y : EReal) = ∑ r : Fin 8192, term (m (c.tc.loc main_arg0)) (m (c.tc.loc main_arg1)) (m (c.tc.loc main_arg2)) J r := by
  have e := acc_eq m c t.val t.isLt (ix2 (y 2) (y 3)) J h0 h1
  rw [ht, Cert.Hand.sum_blocks] at e
  have hA : ¬t.val % 8 = 0 := by omega
  have hN : cfg0.N = 32 := N_0
  have := t.isLt
  rw [outsAt0_C m c t hA (by omega) ht] at e ⊢
  dsimp only at e ⊢
  rw [sout_C] at e
  rw [out_C, pay4_apply]
  exact e

/-- What a point writes back is its block of the product. -/
theorem flushed_G (c : Dev nD) (t : Fin cfg0.N) (hf : (cfg0.win 3).flush t = true) :
    (dats m 0 c).flushed 3 t = ((cfg0.win 3).blk t).view.read (Elt Ideal) (G m c) := by
  obtain ⟨h0, h1, h2, h3⟩ := out_facts t
  have ht : t.val % 8 = 7 := (by decide +kernel : ∀ t : Fin grid0.N, win0_3.flush t = true → t.val % 8 = 7) t hf
  rw [flushed_o]
  funext y
  rw [View.read_apply]
  have hy0 : (y 0 : Nat) < 1 := (y 0).isLt
  refine block_eq m c t ht y _ ?_ ?_
  · show (win0_3.index t 2 * 1024 + 1 * (y 2 : Nat)) = _; rw [h2]; omega
  · show (win0_3.index t 0 * 1 + 1 * (y 0 : Nat)) * 1408 + (win0_3.index t 3 * 1408 + 1 * (y 3 : Nat)) = _; rw [h0, h3]; omega

/-- Every block of the result's layer is some point's. -/
theorem covered : ∀ a : Fin 4, ∃ t : Fin grid0.N, win0_3.flush t = true ∧ t.val / 8 = a.val := by decide +kernel

/-- An index is in a point's block when its layer and its first number are the point's. -/
theorem mem_iff (t : Fin cfg0.N) (i : S4x2x1024x1408.Idx) :
    i ∈ ((cfg0.win 3).blk t).view.set ↔ (i 1).val = 1 ∧ (i 0).val = t.val / 8 := by
  obtain ⟨h0, h1, h2, h3⟩ := out_facts t
  have hi0 : (i 0 : Nat) < 4 := (i 0).isLt
  have hi1 : (i 1 : Nat) < 2 := (i 1).isLt
  have hi2 : (i 2 : Nat) < 1024 := (i 2).isLt
  have hi3 : (i 3 : Nat) < 1408 := (i 3).isLt
  show i ∈ ((View.whole main_v0).slice (win0_3.rect t)).set ↔ _
  rw [View.set_slice_whole, Rect.mem_set_unit]
  constructor
  · intro h
    have e0 : win0_3.index t 0 * 1 ≤ (i 0 : Nat) ∧ (i 0 : Nat) < win0_3.index t 0 * 1 + 1 := h 0
    have e1 : win0_3.index t 1 * 1 ≤ (i 1 : Nat) ∧ (i 1 : Nat) < win0_3.index t 1 * 1 + 1 := h 1
    rw [h0] at e0
    rw [h1] at e1
    omega
  · rintro ⟨hl, hq⟩ a
    match a with
    | ⟨0, _⟩ => show win0_3.index t 0 * 1 ≤ (i 0 : Nat) ∧ (i 0 : Nat) < win0_3.index t 0 * 1 + 1
                rw [h0]; omega
    | ⟨1, _⟩ => show win0_3.index t 1 * 1 ≤ (i 1 : Nat) ∧ (i 1 : Nat) < win0_3.index t 1 * 1 + 1
                rw [h1]; omega
    | ⟨2, _⟩ => show win0_3.index t 2 * 1024 ≤ (i 2 : Nat) ∧ (i 2 : Nat) < win0_3.index t 2 * 1024 + 1024
                rw [h2]; omega
    | ⟨3, _⟩ => show win0_3.index t 3 * 1408 ≤ (i 3 : Nat) ∧ (i 3 : Nat) < win0_3.index t 3 * 1408 + 1408
                rw [h3]; omega

/-- The result array in its layer after the run is the product. -/
theorem final (c : Dev nD) (i : S4x2x1024x1408.Idx) (hi : (i 1).val = 1) : (dats m 0 c).arrAt 3 cfg0.N i = G m c i := by
  obtain ⟨t, hf, hq⟩ := covered ⟨(i 0 : Nat), (i 0).isLt⟩
  exact (dats m 0 c).arrAt_apply_of_mem 3 (G m c) (flushed_G m c) cfg0.N t i t.isLt hf ((mem_iff t i).mpr ⟨hi, hq.symm⟩)

/-- The result's layer of an array. -/
def layer (x : FVec Ideal S4x2x1024x1408 .f32) : FVec Ideal S4x1024x1408 .f32 := fun i => x (ix4 (i 0) (1 : Fin 2) (i 1) (i 2))

/-- The lines after the region take the layer out. -/
theorem tail_eq (x : FVec Ideal S4x2x1024x1408 .f32) : (shapeCast S4x1024x1408 (extractStridedSlice S4x1x1024x1408 ![0, 1, 0, 0] x slices_S4x2x1024x1408_S4x1x1024x1408_0_1_0_0) shapeCasts_S4x1x1024x1408_S4x1024x1408 : FVec Ideal S4x1024x1408 .f32) = layer x := by
  funext i
  unfold layer
  idx_vars i
  pointwise

/-- The run with its result named. -/
theorem run_value (ρ : Dev nD → PrngReg) : θ_run defs (onTc (τ := τ) (main (F := Ideal))) ⟨m, fun _ => 0, ρ⟩ fun r => ∀ c : Dev nD,
    r.2.mem (c.tc.loc main_v2) = layer (G m c)
    ∧ r.2.mem (c.tc.loc main_arg0) = m (c.tc.loc main_arg0)
    ∧ r.2.mem (c.tc.loc main_arg1) = m (c.tc.loc main_arg1)
    ∧ r.2.mem (c.tc.loc main_arg2) = m (c.tc.loc main_arg2) := by
  refine (θ_run defs _ _).mono (fun r h c => ⟨?_, h.2 c⟩) (θ_run_and (run_main m ρ) (unchanged m ρ))
  refine ((h.1 c).2 main_v2 (Pipeline.mem_restRefs_of main_v2 (by decide) (by decide))).trans ?_
  have e : Pipeline.afterTail₀ cfgs (dats m) 0 (V0 m) [hostOps1] c main_v2 = (shapeCast S4x1024x1408 (extractStridedSlice S4x1x1024x1408 ![0, 1, 0, 0] (Pipeline.withArrays spec0 c (V0 m c) (fun w => (dats m 0 c).arrAt w cfg0.N) (Proc.devRef .tc (Pipeline.arrRef spec0 3))) slices_S4x2x1024x1408_S4x1x1024x1408_0_1_0_0) shapeCasts_S4x1x1024x1408_S4x1024x1408) := by
    unfold Pipeline.afterTail₀
    rw [show (List.flatten [hostOps1] : List (HloOp τ sig (Elt Ideal))) = hostOps1 from rfl]
    after_results
    rfl
  rw [e, tail_eq]
  funext i
  unfold layer
  rw [Pipeline.withArrays_arr spec0 (by decide) c (V0 m c) _ 3]
  exact final m c _ rfl

end Cert.Up1DwIdeal.Hand

namespace Cert.Hand

open Idealize.ShloMosaic Idealize.SL.Sem

/-- The kernel's product and the host's are one array. -/
theorem algebraic_up1Dw : Cert.algebraic_Up1DwIdeal_Up1DwRefIdeal := by
  intro m g m' g' _ hargs
  refine ⟨fun c => Cert.Up1DwIdeal.Hand.layer (Cert.Up1DwIdeal.Hand.G m c), ?_, ?_⟩
  · exact Cert.Up1DwIdeal.Hand.run_value m g
  · refine (θ_run Cert.Up1DwRefIdeal.defs _ _).mono (fun r h c => ?_) (Cert.Up1DwRefIdeal.Value.run m' g')
    refine ⟨(h c).1.trans ?_, (h c).2⟩
    rw [(hargs c).1, (hargs c).2.1, (hargs c).2.2]
    funext i
    show _ = Cert.Up1DwIdeal.Hand.layer (Cert.Up1DwIdeal.Hand.G m c) i
    unfold Cert.Up1DwIdeal.Hand.layer Cert.Up1DwIdeal.Hand.G Cert.Up1DwIdeal.Hand.term
    idx_vars i
    unfold Cert.Hand.normed
    pointwise
    exact Finset.sum_congr rfl fun r _ => (mul_comm (G := EReal) _ _).trans (by congr 4 <;> first | rfl | (apply Fin.ext; dsimp only; omega))

end Cert.Hand

end
-- ==== Proof.Up0DwVal.lean ====
/- The first feed-forward layer's up product's weight gradient, laid into the stacked array: the kernel's accumulated blocks are the host product. -/
module

public import proofs.«01_k».proof.Proof.Gen.Up0DwIdeal.Value
public import proofs.«01_k».proof.Proof.Gen.Up0DwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.Up0DwIdeal.Hand

open Cert.Up0DwIdeal Cert.Up0DwIdeal.Gen Idealize.ShloMosaic Idealize.ShloMosaic.TcCoe Idealize.SL.Sem

/-- The product's shape. -/
abbrev SP : Shape := ⟨2, ![1024, 5632]⟩

/-- One row's part of an entry of the product. -/
def term (x0 : FVec Ideal S8192x1024 .f32) (x1 : FVec Ideal S1x1024 .f32) (x2 : FVec Ideal S8192x5632 .bf16) (i : SP.Idx) (r : Fin 8192) : EReal :=
  Cert.Hand.normed (fun k => x0 (ix2 r k)) (fun k => x1 (ix2 (0 : Fin 1) k)) (i 0) * (x2 (ix2 r (i 1)) : EReal)

theorem hz : (![0, 0] : Fin 2 → Nat) = fun _ => 0 := funext fun a => by fin_cases a <;> rfl

/-- One point's product at an index. -/
theorem pay1_apply (x0 : Vec Ideal S1024x1024 .f32) (x1 : Vec Ideal S1024x1408 .bf16) (x2 : Vec Ideal S1x1024 .f32) (y : S1024x1408.Idx) :
    (k0_pay1 x0 x1 x2 y : EReal) = ∑ k : Fin 1024, Cert.Hand.normed (fun j => x0 (ix2 k j)) (fun j => x2 (ix2 (0 : Fin 1) j)) (y 0) * (x1 (ix2 k (y 1)) : EReal) := by
  idx_vars y
  unfold Cert.Hand.normed
  pointwise [k0_pay1]

/-- The first point's store is its product. -/
theorem pay2_eq (x0 : Vec Ideal S1024x1024 .f32) (x1 : Vec Ideal S1024x1408 .bf16) (x2 : Vec Ideal S1x1024 .f32) : k0_pay2 x0 x1 x2 = k0_pay1 x0 x1 x2 := by
  unfold k0_pay2
  exact shapeCast_self _ _

/-- A later point's store is the accumulator plus its product. -/
theorem pay3_apply (x0 : Vec Ideal S1024x1024 .f32) (x1 : Vec Ideal S1024x1408 .bf16) (x2 : Vec Ideal S1x1024 .f32) (xs : Vec Ideal S1024x1408 .f32) (y : S1024x1408.Idx) :
    (k0_pay3 x0 x1 x2 xs y : EReal) = (xs y : EReal) + k0_pay1 x0 x1 x2 y := by
  unfold k0_pay3
  rw [shapeCast_self]
  rfl

variable (c : Dev nD) (i : grid0.Coords) (a3 : Memref sig .tc .vmem S1024x1024 .f32) (q3 : a3.IsWhole) (a4 : Memref sig .tc .vmem S1024x1408 .bf16) (q4 : a4.IsWhole) (a5 : Memref sig .tc .vmem S1x1024 .f32) (q5 : a5.IsWhole) (a7 : Memref sig .tc .vmem S1x1x1024x1408 .f32) (q7 : a7.IsWhole) (a8 : Memref sig .tc .vmem S1024x1408 .f32) (q8 : a8.IsWhole)
  (x0 : Vec Ideal S1024x1024 .f32) (x1 : Vec Ideal S1024x1408 .bf16) (x2 : Vec Ideal S1x1024 .f32) (xs0 : Vec Ideal S1024x1408 .f32)

/-- What case A leaves in the accumulator. -/
theorem sout_A (hc0 : cond0_0 i) (hc1 : ¬cond0_1 i) (hc2 : ¬cond0_2 i) :
    sout0_A_0 c i a3 q3 a4 q4 a5 q5 a7 q7 a8 q8 hc0 hc1 hc2 x0 x1 x2 = k0_pay2 x0 x1 x2 := by
  unfold sout0_A_0
  rw [View.read_writes_eq_canon _ _ _ (fun y => scover0_A_0 (y := y) ..)]
  unfold kernelRun0_A
  dsimp only
  rw [View.canon_unit_zero (S := S1024x1408) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a7 q7 a8 q8 hc0 hc1 hc2 x0 x1 x2 xs0 = k0_pay3 x0 x1 x2 xs0 := by
  unfold sout0_B_0
  rw [View.read_writes_eq_canon _ _ _ (fun y => scover0_B_0 (y := y) ..)]
  unfold kernelRun0_B
  dsimp only
  rw [View.canon_unit_zero (S := S1024x1408) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a7 q7 a8 q8 hc0 hc1 hc2 x0 x1 x2 xs0 = k0_pay3 x0 x1 x2 xs0 := by
  unfold sout0_C_0
  rw [View.read_writes_eq_canon _ _ _ (fun y => scover0_C_0 (y := y) ..)]
  unfold kernelRun0_C
  dsimp only
  sl_unfold_words
  rw [View.canon_unit_zero (S := S1024x1408) hz]
  simp only [View.readAt_eq_ld, Memref.IsWhole.read_unread, View.ld_unit_zero (S := ⟨2, _⟩) hz]

theorem hz4 : (![0, 0, 0, 0] : Fin 4 → Nat) = fun _ => 0 := funext fun a => by fin_cases a <;> rfl

/-- The result's block is the accumulator in another shape. -/
theorem pay4_apply (xs : Vec Ideal S1024x1408 .f32) (y : S1x1x1024x1408.Idx) :
    (k0_pay4 xs y : EReal) = xs (ix2 (y 2) (y 3)) := by
  idx_vars y
  pointwise [k0_pay4]

/-- What case C leaves in the result's block: the accumulator. -/
theorem out_C (hc0 : ¬cond0_0 i) (hc1 : cond0_1 i) (hc2 : cond0_2 i) :
    out0_C_3 c i a3 q3 a4 q4 a5 q5 a7 q7 a8 q8 hc0 hc1 hc2 x0 x1 x2 xs0 = k0_pay4 (k0_pay3 x0 x1 x2 xs0) := by
  unfold out0_C_3
  rw [View.read_writes_eq_canon _ _ _ (fun y => cover0_C_3 (y := y) ..)]
  unfold kernelRun0_C
  dsimp only
  sl_unfold_words
  rw [View.canon_unit_zero (S := S1x1x1024x1408) hz4]
  rw [View.readCov_unit_zero (S := S1024x1408) _ hz]
  simp only [View.readAt_eq_ld, Memref.IsWhole.read_unread, View.ld_unit_zero (S := ⟨2, _⟩) hz]

variable (m : (ℓ : Loc nD τ sig) → Buf (Elt Ideal) ℓ)

/-- The product of the launch contents, at an index of the stacked array. -/
def G (c : Dev nD) : FVec Ideal S4x2x1024x1408 .f32 := fun i =>
  ∑ r : Fin 8192, term (m (c.tc.loc main_arg0)) (m (c.tc.loc main_arg1)) (m (c.tc.loc main_arg2)) (ix2 (i 2) (⟨(i 0 : Nat) * 1408 + (i 3 : Nat), by have h0 : (i 0 : Nat) < 4 := (i 0).isLt; have h3 : (i 3 : Nat) < 1408 := (i 3).isLt; omega⟩) : SP.Idx) r

/-- The whole result: the product in its layer, the array handed in elsewhere. -/
def W (c : Dev nD) : FVec Ideal S4x2x1024x1408 .f32 := fun i =>
  if (i 1).val = 0 then G m c i else m (c.tc.loc main_arg3) i

/-- The region finds the array handed in where the result goes. -/
theorem V_v0 (c : Dev nD) : V m c main_v0 = m (c.tc.loc main_arg3) := by
  unfold V hostOps0
  after_results
  rfl

/-- The block indices of the operands' windows at every point of the grid. -/
theorem index_facts : ∀ t : Fin cfg0.N,
    win0_0.index t (0 : Fin 2) = t.val % 8 ∧ win0_0.index t (1 : Fin 2) = 0
    ∧ win0_1.index t (0 : Fin 2) = t.val % 8 ∧ win0_1.index t (1 : Fin 2) = t.val / 8
    ∧ win0_2.index t (0 : Fin 2) = 0 ∧ win0_2.index t (1 : Fin 2) = 0 :=
  (by decide +kernel : ∀ t : Fin grid0.N, _)

/-- The result's block index at every point of the grid. -/
theorem out_facts : ∀ t : Fin cfg0.N, win0_3.index t (0 : Fin 4) = t.val / 8 ∧ win0_3.index t (1 : Fin 4) = 0 ∧ win0_3.index t (2 : Fin 4) = 0 ∧ win0_3.index t (3 : Fin 4) = 0 :=
  (by decide +kernel : ∀ t : Fin grid0.N, _)

/-- A block of the left operand holds its rows of the operand. -/
theorem blk0 (c : Dev nD) (t : Fin cfg0.N) (k : Fin 1024) (j : Fin 1024) (r : Fin 8192) (q : Fin 1024)
    (hr : r.val = 1024 * (t.val % 8) + k.val) (hq : q.val = 0 * 1024 + j.val) :
    (iblk m c 0 t (ix2 k j) : EReal) = m (c.tc.loc main_arg0) (ix2 r q) := by
  obtain ⟨h00, h01, -⟩ := index_facts t
  refine (congrFun (V_main_arg0 m c) _).trans (congrArg (m (c.tc.loc main_arg0)) (funext fun a => Fin.ext ?_))
  match a with
  | ⟨0, _⟩ => show win0_0.index t 0 * 1024 + 1 * k.val = r.val; rw [h00, hr]; omega
  | ⟨1, _⟩ => show win0_0.index t 1 * 1024 + 1 * j.val = q.val; rw [h01, hq]; omega

/-- A block of the right operand holds its rows of the operand. -/
theorem blk1 (c : Dev nD) (t : Fin cfg0.N) (k : Fin 1024) (j : Fin 1408) (r : Fin 8192) (q : Fin 5632)
    (hr : r.val = 1024 * (t.val % 8) + k.val) (hq : q.val = t.val / 8 * 1408 + j.val) :
    (iblk m c 1 t (ix2 k j) : EReal) = m (c.tc.loc main_arg2) (ix2 r q) := by
  obtain ⟨-, -, h10, h11, -⟩ := index_facts t
  refine (congrFun (V_main_arg2 m c) _).trans (congrArg (m (c.tc.loc main_arg2)) (funext fun a => Fin.ext ?_))
  match a with
  | ⟨0, _⟩ => show win0_1.index t 0 * 1024 + 1 * k.val = r.val; rw [h10, hr]; omega
  | ⟨1, _⟩ => show win0_1.index t 1 * 1408 + 1 * j.val = q.val; rw [h11, hq]; omega

/-- The gain row's only block is the row. -/
theorem blk2 (c : Dev nD) (t : Fin cfg0.N) (k : Fin 1024) :
    (iblk m c 2 t (ix2 (0 : Fin 1) k) : EReal) = m (c.tc.loc main_arg1) (ix2 (0 : Fin 1) k) := by
  obtain ⟨-, -, -, -, h20, h21⟩ := index_facts t
  refine (congrFun (V_main_arg1 m c) _).trans (congrArg (m (c.tc.loc main_arg1)) (funext fun a => Fin.ext ?_))
  match a with
  | ⟨0, _⟩ => show win0_2.index t 0 * 1 + 1 * 0 = 0; rw [h20]
  | ⟨1, _⟩ => show win0_2.index t 1 * 1024 + 1 * k.val = k.val; rw [h21]; omega

/-- A point's product is its run of rows' part of the whole. -/
theorem point (c : Dev nD) (t : Fin cfg0.N) (y : S1024x1408.Idx) (J : SP.Idx)
    (hJ0 : (J 0).val = 0 * 1024 + (y 0).val) (hJ1 : (J 1).val = t.val / 8 * 1408 + (y 1).val) :
    (k0_pay1 (iblk m c 0 t) (iblk m c 1 t) (iblk m c 2 t) y : EReal)
      = Cert.Hand.blockSum (term (m (c.tc.loc main_arg0)) (m (c.tc.loc main_arg1)) (m (c.tc.loc main_arg2)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) ((Cert.Hand.normed_congr (fun j => blk0 m c t k j _ j rfl (by rw [Nat.zero_mul, Nat.zero_add])) (fun j => blk2 m c t j) (y 0)).trans
    (congrArg _ (Fin.ext (by rw [hJ0]; omega) : y 0 = J 0))) (blk1 m c t k (y 1) _ (J 1) rfl hJ1)

/-- What the accumulator holds after a point: the runs of rows so far. -/
theorem acc_eq (c : Dev nD) : ∀ (n : ℕ) (h : n < cfg0.N) (y : S1024x1408.Idx) (J : SP.Idx)
    (_ : (J 0).val = 0 * 1024 + (y 0).val) (_ : (J 1).val = n / 8 * 1408 + (y 1).val),
    ((outsAt0 m c n h).2 y : EReal)
      = ∑ s ∈ Finset.range (n % 8 + 1), Cert.Hand.blockSum (term (m (c.tc.loc main_arg0)) (m (c.tc.loc main_arg1)) (m (c.tc.loc main_arg2)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 32 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a writing point leaves in the result's block is the whole sum. -/
theorem block_eq (c : Dev nD) (t : Fin cfg0.N) (ht : t.val % 8 = 7) (y : S1x1x1024x1408.Idx) (J : SP.Idx)
    (h0 : (J 0).val = 0 * 1024 + (y 2).val) (h1 : (J 1).val = t.val / 8 * 1408 + (y 3).val) :
    ((outsAt0 m c t.val t.isLt).1 y : EReal) = ∑ r : Fin 8192, term (m (c.tc.loc main_arg0)) (m (c.tc.loc main_arg1)) (m (c.tc.loc main_arg2)) J r := by
  have e := acc_eq m c t.val t.isLt (ix2 (y 2) (y 3)) J h0 h1
  rw [ht, Cert.Hand.sum_blocks] at e
  have hA : ¬t.val % 8 = 0 := by omega
  have hN : cfg0.N = 32 := N_0
  have := t.isLt
  rw [outsAt0_C m c t hA (by omega) ht] at e ⊢
  dsimp only at e ⊢
  rw [sout_C] at e
  rw [out_C, pay4_apply]
  exact e

/-- What a point writes back is its block of the product. -/
theorem flushed_G (c : Dev nD) (t : Fin cfg0.N) (hf : (cfg0.win 3).flush t = true) :
    (dats m 0 c).flushed 3 t = ((cfg0.win 3).blk t).view.read (Elt Ideal) (G m c) := by
  obtain ⟨h0, h1, h2, h3⟩ := out_facts t
  have ht : t.val % 8 = 7 := (by decide +kernel : ∀ t : Fin grid0.N, win0_3.flush t = true → t.val % 8 = 7) t hf
  rw [Value.flushed3]
  funext y
  rw [View.read_apply]
  have hy0 : (y 0 : Nat) < 1 := (y 0).isLt
  refine block_eq m c t ht y _ ?_ ?_
  · show (win0_3.index t 2 * 1024 + 1 * (y 2 : Nat)) = _; rw [h2]; omega
  · show (win0_3.index t 0 * 1 + 1 * (y 0 : Nat)) * 1408 + (win0_3.index t 3 * 1408 + 1 * (y 3 : Nat)) = _; rw [h0, h3]; omega

/-- Every block of the result's layer is some point's. -/
theorem covered : ∀ a : Fin 4, ∃ t : Fin grid0.N, win0_3.flush t = true ∧ t.val / 8 = a.val := by decide +kernel

/-- An index is in a point's block when its layer and its first number are the point's. -/
theorem mem_iff (t : Fin cfg0.N) (i : S4x2x1024x1408.Idx) :
    i ∈ ((cfg0.win 3).blk t).view.set ↔ (i 1).val = 0 ∧ (i 0).val = t.val / 8 := by
  obtain ⟨h0, h1, h2, h3⟩ := out_facts t
  have hi0 : (i 0 : Nat) < 4 := (i 0).isLt
  have hi1 : (i 1 : Nat) < 2 := (i 1).isLt
  have hi2 : (i 2 : Nat) < 1024 := (i 2).isLt
  have hi3 : (i 3 : Nat) < 1408 := (i 3).isLt
  show i ∈ ((View.whole main_v0).slice (win0_3.rect t)).set ↔ _
  rw [View.set_slice_whole, Rect.mem_set_unit]
  constructor
  · intro h
    have e0 : win0_3.index t 0 * 1 ≤ (i 0 : Nat) ∧ (i 0 : Nat) < win0_3.index t 0 * 1 + 1 := h 0
    have e1 : win0_3.index t 1 * 1 ≤ (i 1 : Nat) ∧ (i 1 : Nat) < win0_3.index t 1 * 1 + 1 := h 1
    rw [h0] at e0
    rw [h1] at e1
    omega
  · rintro ⟨hl, hq⟩ a
    match a with
    | ⟨0, _⟩ => show win0_3.index t 0 * 1 ≤ (i 0 : Nat) ∧ (i 0 : Nat) < win0_3.index t 0 * 1 + 1
                rw [h0]; omega
    | ⟨1, _⟩ => show win0_3.index t 1 * 1 ≤ (i 1 : Nat) ∧ (i 1 : Nat) < win0_3.index t 1 * 1 + 1
                rw [h1]; omega
    | ⟨2, _⟩ => show win0_3.index t 2 * 1024 ≤ (i 2 : Nat) ∧ (i 2 : Nat) < win0_3.index t 2 * 1024 + 1024
                rw [h2]; omega
    | ⟨3, _⟩ => show win0_3.index t 3 * 1408 ≤ (i 3 : Nat) ∧ (i 3 : Nat) < win0_3.index t 3 * 1408 + 1408
                rw [h3]; omega

/-- The result array in its layer after the run is the product. -/
theorem final (c : Dev nD) (i : S4x2x1024x1408.Idx) (hi : (i 1).val = 0) : (dats m 0 c).arrAt 3 cfg0.N i = G m c i := by
  obtain ⟨t, hf, hq⟩ := covered ⟨(i 0 : Nat), (i 0).isLt⟩
  exact (dats m 0 c).arrAt_apply_of_mem 3 (G m c) (flushed_G m c) cfg0.N t i t.isLt hf ((mem_iff t i).mpr ⟨hi, hq.symm⟩)

/-- The result array after the run. -/
theorem final_W (c : Dev nD) : (dats m 0 c).arrAt 3 cfg0.N = W m c := by
  funext i
  unfold W
  by_cases hi : (i 1).val = 0
  · rw [if_pos hi]
    exact final m c i hi
  · rw [if_neg hi, Value.entry3 m c i fun t _ hm => hi ((mem_iff t i).mp hm).1]
    exact congrFun (V_v0 m c) i

end Cert.Up0DwIdeal.Hand

namespace Cert.Hand

open Idealize.ShloMosaic Idealize.SL.Sem

/-- The kernel's product and the host's are one array. -/
theorem algebraic_up0Dw : Cert.algebraic_Up0DwIdeal_Up0DwRefIdeal := by
  intro m g m' g' _ hargs
  refine ⟨fun c => Cert.Up0DwIdeal.Hand.W m c, ?_, ?_⟩
  · refine (θ_run Cert.Up0DwIdeal.defs _ _).mono (fun r h c => ?_) (Cert.Up0DwIdeal.Value.run_blocks m g)
    exact ⟨(h c).1.trans (Cert.Up0DwIdeal.Hand.final_W m c), (h c).2⟩
  · refine (θ_run Cert.Up0DwRefIdeal.defs _ _).mono (fun r h c => ?_) (Cert.Up0DwRefIdeal.Value.run m' g')
    refine ⟨(h c).1.trans ?_, (h c).2⟩
    rw [(hargs c).1, (hargs c).2.1, (hargs c).2.2.1, (hargs c).2.2.2]
    funext i
    show _ = Cert.Up0DwIdeal.Hand.W m c i
    unfold Cert.Up0DwIdeal.Hand.W Cert.Up0DwIdeal.Hand.G Cert.Up0DwIdeal.Hand.term
    idx_vars i
    unfold Cert.Hand.normed
    pointwise
    by_cases h : i1.val = 0
    · rw [dif_pos (by omega), if_pos h]
      exact Finset.sum_congr rfl fun r _ => (mul_comm (G := EReal) _ _).trans (by congr 4 <;> first | rfl | (apply Fin.ext; dsimp only; omega))
    · rw [dif_neg (by omega), if_neg h]
      rw [show i1 = 1 from Fin.ext (by have := i1.isLt; omega)]

end Cert.Hand

end
-- ==== Proof.Down1DwVal.lean ====
/- The second feed-forward layer's down product's weight gradient: the kernel's accumulated blocks are the host product. -/
module

public import proofs.«01_k».proof.Proof.Gen.Down1DwIdeal.Frame
public import proofs.«01_k».proof.Proof.Gen.Down1DwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.Down1DwIdeal.Hand

open Cert.Down1DwIdeal Cert.Down1DwIdeal.Gen Idealize.ShloMosaic Idealize.ShloMosaic.TcCoe Idealize.SL.Sem

/-- The product's shape. -/
abbrev SP : Shape := ⟨2, ![2816, 1024]⟩

/-- One row's part of an entry of the product. -/
def term (x0 : FVec Ideal S8192x2816 .bf16) (x1 : FVec Ideal S8192x1024 .f32) (i : SP.Idx) (r : Fin 8192) : EReal :=
  (x0 (ix2 r (i 0)) : EReal) * (x1 (ix2 r (i 1)) : EReal)

theorem hz : (![0, 0] : Fin 2 → Nat) = fun _ => 0 := funext fun a => by fin_cases a <;> rfl

/-- One point's product at an index. -/
theorem pay1_apply (x0 : Vec Ideal S1024x1408 .bf16) (x1 : Vec Ideal S1024x1024 .f32) (y : S1408x1024.Idx) :
    (k0_pay1 x0 x1 y : EReal) = ∑ k : Fin 1024, (x0 (ix2 k (y 0)) : EReal) * (x1 (ix2 k (y 1)) : EReal) := by
  idx_vars y
  skip
  pointwise [k0_pay1]

/-- The first point's store is its product. -/
theorem pay2_eq (x0 : Vec Ideal S1024x1408 .bf16) (x1 : Vec Ideal S1024x1024 .f32) : k0_pay2 x0 x1 = k0_pay1 x0 x1 := by
  unfold k0_pay2
  exact shapeCast_self _ _

/-- A later point's store is the accumulator plus its product. -/
theorem pay3_apply (x0 : Vec Ideal S1024x1408 .bf16) (x1 : Vec Ideal S1024x1024 .f32) (xs : Vec Ideal S1408x1024 .f32) (y : S1408x1024.Idx) :
    (k0_pay3 x0 x1 xs y : EReal) = (xs y : EReal) + k0_pay1 x0 x1 y := by
  unfold k0_pay3
  rw [shapeCast_self]
  rfl

variable (c : Dev nD) (i : grid0.Coords) (a3 : Memref sig .tc .vmem S1024x1408 .bf16) (q3 : a3.IsWhole) (a4 : Memref sig .tc .vmem S1024x1024 .f32) (q4 : a4.IsWhole) (a5 : Memref sig .tc .vmem S1x2x1x704x1024 .f32) (q5 : a5.IsWhole) (a6 : Memref sig .tc .vmem S1408x1024 .f32) (q6 : a6.IsWhole)
  (x0 : Vec Ideal S1024x1408 .bf16) (x1 : Vec Ideal S1024x1024 .f32) (xs0 : Vec Ideal S1408x1024 .f32)

/-- What case A leaves in the accumulator. -/
theorem sout_A (hc0 : cond0_0 i) (hc1 : ¬cond0_1 i) (hc2 : ¬cond0_2 i) :
    sout0_A_0 c i a3 q3 a4 q4 a5 q5 a6 q6 hc0 hc1 hc2 x0 x1 = k0_pay2 x0 x1 := by
  unfold sout0_A_0
  rw [View.read_writes_eq_canon _ _ _ (fun y => scover0_A_0 (y := y) ..)]
  unfold kernelRun0_A
  dsimp only
  rw [View.canon_unit_zero (S := S1408x1024) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 hc0 hc1 hc2 x0 x1 xs0 = k0_pay3 x0 x1 xs0 := by
  unfold sout0_B_0
  rw [View.read_writes_eq_canon _ _ _ (fun y => scover0_B_0 (y := y) ..)]
  unfold kernelRun0_B
  dsimp only
  rw [View.canon_unit_zero (S := S1408x1024) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 hc0 hc1 hc2 x0 x1 xs0 = k0_pay3 x0 x1 xs0 := by
  unfold sout0_C_0
  rw [View.read_writes_eq_canon _ _ _ (fun y => scover0_C_0 (y := y) ..)]
  unfold kernelRun0_C
  dsimp only
  sl_unfold_words
  rw [View.canon_unit_zero (S := S1408x1024) hz]
  simp only [View.readAt_eq_ld, Memref.IsWhole.read_unread, View.ld_unit_zero (S := ⟨2, _⟩) hz]

theorem hz5 : (![0, 0, 0, 0, 0] : Fin 5 → Nat) = fun _ => 0 := funext fun a => by fin_cases a <;> rfl

/-- The result's block is the accumulator in another shape. -/
theorem pay4_apply (xs : Vec Ideal S1408x1024 .f32) (y : S1x2x1x704x1024.Idx) :
    (k0_pay4 xs y : EReal) = xs (ix2 ⟨(y 1 : Nat) * 704 + (y 3 : Nat), by have h1 : (y 1 : Nat) < 2 := (y 1).isLt; have h3 : (y 3 : Nat) < 704 := (y 3).isLt; omega⟩ (y 4)) := by
  idx_vars y
  pointwise [k0_pay4]

/-- What case C leaves in the result's block: the accumulator. -/
theorem out_C (hc0 : ¬cond0_0 i) (hc1 : cond0_1 i) (hc2 : cond0_2 i) :
    out0_C_2 c i a3 q3 a4 q4 a5 q5 a6 q6 hc0 hc1 hc2 x0 x1 xs0 = k0_pay4 (k0_pay3 x0 x1 xs0) := by
  unfold out0_C_2
  rw [View.read_writes_eq_canon _ _ _ (fun y => cover0_C_2 (y := y) ..)]
  unfold kernelRun0_C
  dsimp only
  sl_unfold_words
  rw [View.canon_unit_zero (S := S1x2x1x704x1024) hz5]
  rw [View.readCov_unit_zero (S := S1408x1024) _ hz]
  simp only [View.readAt_eq_ld, Memref.IsWhole.read_unread, View.ld_unit_zero (S := ⟨2, _⟩) hz]

variable (m : (ℓ : Loc nD τ sig) → Buf (Elt Ideal) ℓ)

/-- The product of the launch contents, at an index of the stacked array. -/
def G (c : Dev nD) : FVec Ideal S2x2x2x704x1024 .f32 := fun i =>
  ∑ r : Fin 8192, term (m (c.tc.loc main_arg0)) (m (c.tc.loc main_arg1)) (ix2 (⟨(i 0 : Nat) * 1408 + (i 1 : Nat) * 704 + (i 3 : Nat), by have h0 : (i 0 : Nat) < 2 := (i 0).isLt; have h1 : (i 1 : Nat) < 2 := (i 1).isLt; have h3 : (i 3 : Nat) < 704 := (i 3).isLt; omega⟩) (i 4) : SP.Idx) r

/-- The block indices of the operands' windows at every point of the grid. -/
theorem index_facts : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = 0 :=
  (by decide +kernel : ∀ t : Fin grid0.N, _)

/-- The result's block index at every point of the grid. -/
theorem out_facts : ∀ t : Fin cfg0.N, win0_2.index t (0 : Fin 5) = t.val / 8 ∧ win0_2.index t (1 : Fin 5) = 0 ∧ win0_2.index t (2 : Fin 5) = 1 ∧ win0_2.index t (3 : Fin 5) = 0 ∧ win0_2.index t (4 : Fin 5) = 0 :=
  (by decide +kernel : ∀ t : Fin grid0.N, _)

/-- A block of the left operand holds its rows of the operand. -/
theorem blk0 (c : Dev nD) (t : Fin cfg0.N) (k : Fin 1024) (j : Fin 1408) (r : Fin 8192) (q : Fin 2816)
    (hr : r.val = 1024 * (t.val % 8) + k.val) (hq : q.val = t.val / 8 * 1408 + j.val) :
    (iblk m c 0 t (ix2 k j) : EReal) = m (c.tc.loc main_arg0) (ix2 r q) := by
  obtain ⟨h00, h01, -⟩ := index_facts t
  refine (congrFun (V_main_arg0 m c) _).trans (congrArg (m (c.tc.loc main_arg0)) (funext fun a => Fin.ext ?_))
  match a with
  | ⟨0, _⟩ => show win0_0.index t 0 * 1024 + 1 * k.val = r.val; rw [h00, hr]; omega
  | ⟨1, _⟩ => show win0_0.index t 1 * 1408 + 1 * j.val = q.val; rw [h01, hq]; omega

/-- A block of the right operand holds its rows of the operand. -/
theorem blk1 (c : Dev nD) (t : Fin cfg0.N) (k : Fin 1024) (j : Fin 1024) (r : Fin 8192) (q : Fin 1024)
    (hr : r.val = 1024 * (t.val % 8) + k.val) (hq : q.val = 0 * 1024 + j.val) :
    (iblk m c 1 t (ix2 k j) : EReal) = m (c.tc.loc main_arg1) (ix2 r q) := by
  obtain ⟨-, -, h10, h11⟩ := index_facts t
  refine (congrFun (V_main_arg1 m c) _).trans (congrArg (m (c.tc.loc main_arg1)) (funext fun a => Fin.ext ?_))
  match a with
  | ⟨0, _⟩ => show win0_1.index t 0 * 1024 + 1 * k.val = r.val; rw [h10, hr]; omega
  | ⟨1, _⟩ => show win0_1.index t 1 * 1024 + 1 * j.val = q.val; rw [h11, hq]; omega

/-- A point's product is its run of rows' part of the whole. -/
theorem point (c : Dev nD) (t : Fin cfg0.N) (y : S1408x1024.Idx) (J : SP.Idx)
    (hJ0 : (J 0).val = t.val / 8 * 1408 + (y 0).val) (hJ1 : (J 1).val = 0 * 1024 + (y 1).val) :
    (k0_pay1 (iblk m c 0 t) (iblk m c 1 t) y : EReal)
      = Cert.Hand.blockSum (term (m (c.tc.loc main_arg0)) (m (c.tc.loc main_arg1)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) (blk0 m c t k (y 0) _ (J 0) rfl hJ0) (blk1 m c t k (y 1) _ (J 1) rfl hJ1)

/-- What the accumulator holds after a point: the runs of rows so far. -/
theorem acc_eq (c : Dev nD) : ∀ (n : ℕ) (h : n < cfg0.N) (y : S1408x1024.Idx) (J : SP.Idx)
    (_ : (J 0).val = n / 8 * 1408 + (y 0).val) (_ : (J 1).val = 0 * 1024 + (y 1).val),
    ((outsAt0 m c n h).2 y : EReal)
      = ∑ s ∈ Finset.range (n % 8 + 1), Cert.Hand.blockSum (term (m (c.tc.loc main_arg0)) (m (c.tc.loc main_arg1)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 16 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a point writes back of the result. -/
theorem flushed_o (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- What a writing point leaves in the result's block is the whole sum. -/
theorem block_eq (c : Dev nD) (t : Fin cfg0.N) (ht : t.val % 8 = 7) (y : S1x2x1x704x1024.Idx) (J : SP.Idx)
    (h0 : (J 0).val = t.val / 8 * 1408 + ((y 1).val * 704 + (y 3).val)) (h1 : (J 1).val = 0 * 1024 + (y 4).val) :
    ((outsAt0 m c t.val t.isLt).1 y : EReal) = ∑ r : Fin 8192, term (m (c.tc.loc main_arg0)) (m (c.tc.loc main_arg1)) J r := by
  have e := acc_eq m c t.val t.isLt (ix2 ⟨(y 1 : Nat) * 704 + (y 3 : Nat), by have h1 : (y 1 : Nat) < 2 := (y 1).isLt; have h3 : (y 3 : Nat) < 704 := (y 3).isLt; omega⟩ (y 4)) J h0 h1
  rw [ht, Cert.Hand.sum_blocks] at e
  have hA : ¬t.val % 8 = 0 := by omega
  have hN : cfg0.N = 16 := N_0
  have := t.isLt
  rw [outsAt0_C m c t hA (by omega) ht] at e ⊢
  dsimp only at e ⊢
  rw [sout_C] at e
  rw [out_C, pay4_apply]
  exact e

/-- What a point writes back is its block of the product. -/
theorem flushed_G (c : Dev nD) (t : Fin cfg0.N) (hf : (cfg0.win 2).flush t = true) :
    (dats m 0 c).flushed 2 t = ((cfg0.win 2).blk t).view.read (Elt Ideal) (G m c) := by
  obtain ⟨h0, h1, h2, h3, h4⟩ := out_facts t
  have ht : t.val % 8 = 7 := (by decide +kernel : ∀ t : Fin grid0.N, win0_2.flush t = true → t.val % 8 = 7) t hf
  rw [flushed_o]
  funext y
  rw [View.read_apply]
  have hy0 : (y 0 : Nat) < 1 := (y 0).isLt
  refine block_eq m c t ht y _ ?_ ?_
  · show (win0_2.index t 0 * 1 + 1 * (y 0 : Nat)) * 1408 + (win0_2.index t 1 * 2 + 1 * (y 1 : Nat)) * 704 + (win0_2.index t 3 * 704 + 1 * (y 3 : Nat)) = _; rw [h0, h1, h3]; omega
  · show (win0_2.index t 4 * 1024 + 1 * (y 4 : Nat)) = _; rw [h4]; omega

/-- Every block of the result's layer is some point's. -/
theorem covered : ∀ a : Fin 2, ∃ t : Fin grid0.N, win0_2.flush t = true ∧ t.val / 8 = a.val := by decide +kernel

/-- An index is in a point's block when its layer and its first number are the point's. -/
theorem mem_iff (t : Fin cfg0.N) (i : S2x2x2x704x1024.Idx) :
    i ∈ ((cfg0.win 2).blk t).view.set ↔ (i 2).val = 1 ∧ (i 0).val = t.val / 8 := by
  obtain ⟨h0, h1, h2, h3, h4⟩ := out_facts t
  have hi0 : (i 0 : Nat) < 2 := (i 0).isLt
  have hi1 : (i 1 : Nat) < 2 := (i 1).isLt
  have hi2 : (i 2 : Nat) < 2 := (i 2).isLt
  have hi3 : (i 3 : Nat) < 704 := (i 3).isLt
  have hi4 : (i 4 : Nat) < 1024 := (i 4).isLt
  show i ∈ ((View.whole main_v0).slice (win0_2.rect t)).set ↔ _
  rw [View.set_slice_whole, Rect.mem_set_unit]
  constructor
  · intro h
    have e0 : win0_2.index t 0 * 1 ≤ (i 0 : Nat) ∧ (i 0 : Nat) < win0_2.index t 0 * 1 + 1 := h 0
    have e1 : win0_2.index t 2 * 1 ≤ (i 2 : Nat) ∧ (i 2 : Nat) < win0_2.index t 2 * 1 + 1 := h 2
    rw [h0] at e0
    rw [h2] at e1
    omega
  · rintro ⟨hl, hq⟩ a
    match a with
    | ⟨0, _⟩ => show win0_2.index t 0 * 1 ≤ (i 0 : Nat) ∧ (i 0 : Nat) < win0_2.index t 0 * 1 + 1
                rw [h0]; omega
    | ⟨1, _⟩ => show win0_2.index t 1 * 2 ≤ (i 1 : Nat) ∧ (i 1 : Nat) < win0_2.index t 1 * 2 + 2
                rw [h1]; omega
    | ⟨2, _⟩ => show win0_2.index t 2 * 1 ≤ (i 2 : Nat) ∧ (i 2 : Nat) < win0_2.index t 2 * 1 + 1
                rw [h2]; omega
    | ⟨3, _⟩ => show win0_2.index t 3 * 704 ≤ (i 3 : Nat) ∧ (i 3 : Nat) < win0_2.index t 3 * 704 + 704
                rw [h3]; omega
    | ⟨4, _⟩ => show win0_2.index t 4 * 1024 ≤ (i 4 : Nat) ∧ (i 4 : Nat) < win0_2.index t 4 * 1024 + 1024
                rw [h4]; omega

/-- The result array in its layer after the run is the product. -/
theorem final (c : Dev nD) (i : S2x2x2x704x1024.Idx) (hi : (i 2).val = 1) : (dats m 0 c).arrAt 2 cfg0.N i = G m c i := by
  obtain ⟨t, hf, hq⟩ := covered ⟨(i 0 : Nat), (i 0).isLt⟩
  exact (dats m 0 c).arrAt_apply_of_mem 2 (G m c) (flushed_G m c) cfg0.N t i t.isLt hf ((mem_iff t i).mpr ⟨hi, hq.symm⟩)

/-- The result's layer of an array. -/
def layer (x : FVec Ideal S2x2x2x704x1024 .f32) : FVec Ideal S2x2x704x1024 .f32 := fun i => x (ix5 (i 0) (i 1) (1 : Fin 2) (i 2) (i 3))

/-- The lines after the region take the layer out. -/
theorem tail_eq (x : FVec Ideal S2x2x2x704x1024 .f32) : (shapeCast S2x2x704x1024 (extractStridedSlice S2x2x1x704x1024 ![0, 0, 1, 0, 0] x slices_S2x2x2x704x1024_S2x2x1x704x1024_0_0_1_0_0) shapeCasts_S2x2x1x704x1024_S2x2x704x1024 : FVec Ideal S2x2x704x1024 .f32) = layer x := by
  funext i
  unfold layer
  idx_vars i
  pointwise

/-- The run with its result named. -/
theorem run_value (ρ : Dev nD → PrngReg) : θ_run defs (onTc (τ := τ) (main (F := Ideal))) ⟨m, fun _ => 0, ρ⟩ fun r => ∀ c : Dev nD,
    r.2.mem (c.tc.loc main_v2) = layer (G m c)
    ∧ r.2.mem (c.tc.loc main_arg0) = m (c.tc.loc main_arg0)
    ∧ r.2.mem (c.tc.loc main_arg1) = m (c.tc.loc main_arg1) := by
  refine (θ_run defs _ _).mono (fun r h c => ⟨?_, h.2 c⟩) (θ_run_and (run_main m ρ) (unchanged m ρ))
  refine ((h.1 c).2 main_v2 (Pipeline.mem_restRefs_of main_v2 (by decide) (by decide))).trans ?_
  have e : Pipeline.afterTail₀ cfgs (dats m) 0 (V0 m) [hostOps1] c main_v2 = (shapeCast S2x2x704x1024 (extractStridedSlice S2x2x1x704x1024 ![0, 0, 1, 0, 0] (Pipeline.withArrays spec0 c (V0 m c) (fun w => (dats m 0 c).arrAt w cfg0.N) (Proc.devRef .tc (Pipeline.arrRef spec0 2))) slices_S2x2x2x704x1024_S2x2x1x704x1024_0_0_1_0_0) shapeCasts_S2x2x1x704x1024_S2x2x704x1024) := by
    unfold Pipeline.afterTail₀
    rw [show (List.flatten [hostOps1] : List (HloOp τ sig (Elt Ideal))) = hostOps1 from rfl]
    after_results
    rfl
  rw [e, tail_eq]
  funext i
  unfold layer
  rw [Pipeline.withArrays_arr spec0 (by decide) c (V0 m c) _ 2]
  exact final m c _ rfl

end Cert.Down1DwIdeal.Hand

namespace Cert.Hand

open Idealize.ShloMosaic Idealize.SL.Sem

/-- The kernel's product and the host's are one array. -/
theorem algebraic_down1Dw : Cert.algebraic_Down1DwIdeal_Down1DwRefIdeal := by
  intro m g m' g' _ hargs
  refine ⟨fun c => Cert.Down1DwIdeal.Hand.layer (Cert.Down1DwIdeal.Hand.G m c), ?_, ?_⟩
  · exact Cert.Down1DwIdeal.Hand.run_value m g
  · refine (θ_run Cert.Down1DwRefIdeal.defs _ _).mono (fun r h c => ?_) (Cert.Down1DwRefIdeal.Value.run m' g')
    refine ⟨(h c).1.trans ?_, (h c).2⟩
    rw [(hargs c).1, (hargs c).2]
    funext i
    show _ = Cert.Down1DwIdeal.Hand.layer (Cert.Down1DwIdeal.Hand.G m c) i
    unfold Cert.Down1DwIdeal.Hand.layer Cert.Down1DwIdeal.Hand.G Cert.Down1DwIdeal.Hand.term
    idx_vars i
    pointwise
    exact Finset.sum_congr rfl fun r _ => (mul_comm (G := EReal) _ _).trans (by congr 4 <;> first | rfl | (apply Fin.ext; dsimp only; omega))

end Cert.Hand

end
-- ==== Proof.Down0DwVal.lean ====
/- The first feed-forward layer's down product's weight gradient, laid into the stacked array: the kernel's accumulated blocks are the host product. -/
module

public import proofs.«01_k».proof.Proof.Gen.Down0DwIdeal.Value
public import proofs.«01_k».proof.Proof.Gen.Down0DwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.Down0DwIdeal.Hand

open Cert.Down0DwIdeal Cert.Down0DwIdeal.Gen Idealize.ShloMosaic Idealize.ShloMosaic.TcCoe Idealize.SL.Sem

/-- The product's shape. -/
abbrev SP : Shape := ⟨2, ![2816, 1024]⟩

/-- One row's part of an entry of the product. -/
def term (x0 : FVec Ideal S8192x2816 .bf16) (x1 : FVec Ideal S8192x1024 .f32) (i : SP.Idx) (r : Fin 8192) : EReal :=
  (x0 (ix2 r (i 0)) : EReal) * (x1 (ix2 r (i 1)) : EReal)

theorem hz : (![0, 0] : Fin 2 → Nat) = fun _ => 0 := funext fun a => by fin_cases a <;> rfl

/-- One point's product at an index. -/
theorem pay1_apply (x0 : Vec Ideal S1024x1408 .bf16) (x1 : Vec Ideal S1024x1024 .f32) (y : S1408x1024.Idx) :
    (k0_pay1 x0 x1 y : EReal) = ∑ k : Fin 1024, (x0 (ix2 k (y 0)) : EReal) * (x1 (ix2 k (y 1)) : EReal) := by
  idx_vars y
  skip
  pointwise [k0_pay1]

/-- The first point's store is its product. -/
theorem pay2_eq (x0 : Vec Ideal S1024x1408 .bf16) (x1 : Vec Ideal S1024x1024 .f32) : k0_pay2 x0 x1 = k0_pay1 x0 x1 := by
  unfold k0_pay2
  exact shapeCast_self _ _

/-- A later point's store is the accumulator plus its product. -/
theorem pay3_apply (x0 : Vec Ideal S1024x1408 .bf16) (x1 : Vec Ideal S1024x1024 .f32) (xs : Vec Ideal S1408x1024 .f32) (y : S1408x1024.Idx) :
    (k0_pay3 x0 x1 xs y : EReal) = (xs y : EReal) + k0_pay1 x0 x1 y := by
  unfold k0_pay3
  rw [shapeCast_self]
  rfl

variable (c : Dev nD) (i : grid0.Coords) (a3 : Memref sig .tc .vmem S1024x1408 .bf16) (q3 : a3.IsWhole) (a4 : Memref sig .tc .vmem S1024x1024 .f32) (q4 : a4.IsWhole) (a6 : Memref sig .tc .vmem S1x2x1x704x1024 .f32) (q6 : a6.IsWhole) (a7 : Memref sig .tc .vmem S1408x1024 .f32) (q7 : a7.IsWhole)
  (x0 : Vec Ideal S1024x1408 .bf16) (x1 : Vec Ideal S1024x1024 .f32) (xs0 : Vec Ideal S1408x1024 .f32)

/-- What case A leaves in the accumulator. -/
theorem sout_A (hc0 : cond0_0 i) (hc1 : ¬cond0_1 i) (hc2 : ¬cond0_2 i) :
    sout0_A_0 c i a3 q3 a4 q4 a6 q6 a7 q7 hc0 hc1 hc2 x0 x1 = k0_pay2 x0 x1 := by
  unfold sout0_A_0
  rw [View.read_writes_eq_canon _ _ _ (fun y => scover0_A_0 (y := y) ..)]
  unfold kernelRun0_A
  dsimp only
  rw [View.canon_unit_zero (S := S1408x1024) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a6 q6 a7 q7 hc0 hc1 hc2 x0 x1 xs0 = k0_pay3 x0 x1 xs0 := by
  unfold sout0_B_0
  rw [View.read_writes_eq_canon _ _ _ (fun y => scover0_B_0 (y := y) ..)]
  unfold kernelRun0_B
  dsimp only
  rw [View.canon_unit_zero (S := S1408x1024) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a6 q6 a7 q7 hc0 hc1 hc2 x0 x1 xs0 = k0_pay3 x0 x1 xs0 := by
  unfold sout0_C_0
  rw [View.read_writes_eq_canon _ _ _ (fun y => scover0_C_0 (y := y) ..)]
  unfold kernelRun0_C
  dsimp only
  sl_unfold_words
  rw [View.canon_unit_zero (S := S1408x1024) hz]
  simp only [View.readAt_eq_ld, Memref.IsWhole.read_unread, View.ld_unit_zero (S := ⟨2, _⟩) hz]

theorem hz5 : (![0, 0, 0, 0, 0] : Fin 5 → Nat) = fun _ => 0 := funext fun a => by fin_cases a <;> rfl

/-- The result's block is the accumulator in another shape. -/
theorem pay4_apply (xs : Vec Ideal S1408x1024 .f32) (y : S1x2x1x704x1024.Idx) :
    (k0_pay4 xs y : EReal) = xs (ix2 ⟨(y 1 : Nat) * 704 + (y 3 : Nat), by have h1 : (y 1 : Nat) < 2 := (y 1).isLt; have h3 : (y 3 : Nat) < 704 := (y 3).isLt; omega⟩ (y 4)) := by
  idx_vars y
  pointwise [k0_pay4]

/-- What case C leaves in the result's block: the accumulator. -/
theorem out_C (hc0 : ¬cond0_0 i) (hc1 : cond0_1 i) (hc2 : cond0_2 i) :
    out0_C_2 c i a3 q3 a4 q4 a6 q6 a7 q7 hc0 hc1 hc2 x0 x1 xs0 = k0_pay4 (k0_pay3 x0 x1 xs0) := by
  unfold out0_C_2
  rw [View.read_writes_eq_canon _ _ _ (fun y => cover0_C_2 (y := y) ..)]
  unfold kernelRun0_C
  dsimp only
  sl_unfold_words
  rw [View.canon_unit_zero (S := S1x2x1x704x1024) hz5]
  rw [View.readCov_unit_zero (S := S1408x1024) _ hz]
  simp only [View.readAt_eq_ld, Memref.IsWhole.read_unread, View.ld_unit_zero (S := ⟨2, _⟩) hz]

variable (m : (ℓ : Loc nD τ sig) → Buf (Elt Ideal) ℓ)

/-- The product of the launch contents, at an index of the stacked array. -/
def G (c : Dev nD) : FVec Ideal S2x2x2x704x1024 .f32 := fun i =>
  ∑ r : Fin 8192, term (m (c.tc.loc main_arg0)) (m (c.tc.loc main_arg1)) (ix2 (⟨(i 0 : Nat) * 1408 + (i 1 : Nat) * 704 + (i 3 : Nat), by have h0 : (i 0 : Nat) < 2 := (i 0).isLt; have h1 : (i 1 : Nat) < 2 := (i 1).isLt; have h3 : (i 3 : Nat) < 704 := (i 3).isLt; omega⟩) (i 4) : SP.Idx) r

/-- The whole result: the product in its layer, the array handed in elsewhere. -/
def W (c : Dev nD) : FVec Ideal S2x2x2x704x1024 .f32 := fun i =>
  if (i 2).val = 0 then G m c i else m (c.tc.loc main_arg2) i

/-- The region finds the array handed in where the result goes. -/
theorem V_v0 (c : Dev nD) : V m c main_v0 = m (c.tc.loc main_arg2) := by
  unfold V hostOps0
  after_results
  rfl

/-- The block indices of the operands' windows at every point of the grid. -/
theorem index_facts : ∀ t : Fin cfg0.N,
    win0_0.index t (0 : Fin 2) = t.val % 8 ∧ win0_0.index t (1 : Fin 2) = t.val / 8
    ∧ win0_1.index t (0 : Fin 2) = t.val % 8 ∧ win0_1.index t (1 : Fin 2) = 0 :=
  (by decide +kernel : ∀ t : Fin grid0.N, _)

/-- The result's block index at every point of the grid. -/
theorem out_facts : ∀ t : Fin cfg0.N, win0_2.index t (0 : Fin 5) = t.val / 8 ∧ win0_2.index t (1 : Fin 5) = 0 ∧ win0_2.index t (2 : Fin 5) = 0 ∧ win0_2.index t (3 : Fin 5) = 0 ∧ win0_2.index t (4 : Fin 5) = 0 :=
  (by decide +kernel : ∀ t : Fin grid0.N, _)

/-- A block of the left operand holds its rows of the operand. -/
theorem blk0 (c : Dev nD) (t : Fin cfg0.N) (k : Fin 1024) (j : Fin 1408) (r : Fin 8192) (q : Fin 2816)
    (hr : r.val = 1024 * (t.val % 8) + k.val) (hq : q.val = t.val / 8 * 1408 + j.val) :
    (iblk m c 0 t (ix2 k j) : EReal) = m (c.tc.loc main_arg0) (ix2 r q) := by
  obtain ⟨h00, h01, -⟩ := index_facts t
  refine (congrFun (V_main_arg0 m c) _).trans (congrArg (m (c.tc.loc main_arg0)) (funext fun a => Fin.ext ?_))
  match a with
  | ⟨0, _⟩ => show win0_0.index t 0 * 1024 + 1 * k.val = r.val; rw [h00, hr]; omega
  | ⟨1, _⟩ => show win0_0.index t 1 * 1408 + 1 * j.val = q.val; rw [h01, hq]; omega

/-- A block of the right operand holds its rows of the operand. -/
theorem blk1 (c : Dev nD) (t : Fin cfg0.N) (k : Fin 1024) (j : Fin 1024) (r : Fin 8192) (q : Fin 1024)
    (hr : r.val = 1024 * (t.val % 8) + k.val) (hq : q.val = 0 * 1024 + j.val) :
    (iblk m c 1 t (ix2 k j) : EReal) = m (c.tc.loc main_arg1) (ix2 r q) := by
  obtain ⟨-, -, h10, h11⟩ := index_facts t
  refine (congrFun (V_main_arg1 m c) _).trans (congrArg (m (c.tc.loc main_arg1)) (funext fun a => Fin.ext ?_))
  match a with
  | ⟨0, _⟩ => show win0_1.index t 0 * 1024 + 1 * k.val = r.val; rw [h10, hr]; omega
  | ⟨1, _⟩ => show win0_1.index t 1 * 1024 + 1 * j.val = q.val; rw [h11, hq]; omega

/-- A point's product is its run of rows' part of the whole. -/
theorem point (c : Dev nD) (t : Fin cfg0.N) (y : S1408x1024.Idx) (J : SP.Idx)
    (hJ0 : (J 0).val = t.val / 8 * 1408 + (y 0).val) (hJ1 : (J 1).val = 0 * 1024 + (y 1).val) :
    (k0_pay1 (iblk m c 0 t) (iblk m c 1 t) y : EReal)
      = Cert.Hand.blockSum (term (m (c.tc.loc main_arg0)) (m (c.tc.loc main_arg1)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) (blk0 m c t k (y 0) _ (J 0) rfl hJ0) (blk1 m c t k (y 1) _ (J 1) rfl hJ1)

/-- What the accumulator holds after a point: the runs of rows so far. -/
theorem acc_eq (c : Dev nD) : ∀ (n : ℕ) (h : n < cfg0.N) (y : S1408x1024.Idx) (J : SP.Idx)
    (_ : (J 0).val = n / 8 * 1408 + (y 0).val) (_ : (J 1).val = 0 * 1024 + (y 1).val),
    ((outsAt0 m c n h).2 y : EReal)
      = ∑ s ∈ Finset.range (n % 8 + 1), Cert.Hand.blockSum (term (m (c.tc.loc main_arg0)) (m (c.tc.loc main_arg1)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 16 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a writing point leaves in the result's block is the whole sum. -/
theorem block_eq (c : Dev nD) (t : Fin cfg0.N) (ht : t.val % 8 = 7) (y : S1x2x1x704x1024.Idx) (J : SP.Idx)
    (h0 : (J 0).val = t.val / 8 * 1408 + ((y 1).val * 704 + (y 3).val)) (h1 : (J 1).val = 0 * 1024 + (y 4).val) :
    ((outsAt0 m c t.val t.isLt).1 y : EReal) = ∑ r : Fin 8192, term (m (c.tc.loc main_arg0)) (m (c.tc.loc main_arg1)) J r := by
  have e := acc_eq m c t.val t.isLt (ix2 ⟨(y 1 : Nat) * 704 + (y 3 : Nat), by have h1 : (y 1 : Nat) < 2 := (y 1).isLt; have h3 : (y 3 : Nat) < 704 := (y 3).isLt; omega⟩ (y 4)) J h0 h1
  rw [ht, Cert.Hand.sum_blocks] at e
  have hA : ¬t.val % 8 = 0 := by omega
  have hN : cfg0.N = 16 := N_0
  have := t.isLt
  rw [outsAt0_C m c t hA (by omega) ht] at e ⊢
  dsimp only at e ⊢
  rw [sout_C] at e
  rw [out_C, pay4_apply]
  exact e

/-- What a point writes back is its block of the product. -/
theorem flushed_G (c : Dev nD) (t : Fin cfg0.N) (hf : (cfg0.win 2).flush t = true) :
    (dats m 0 c).flushed 2 t = ((cfg0.win 2).blk t).view.read (Elt Ideal) (G m c) := by
  obtain ⟨h0, h1, h2, h3, h4⟩ := out_facts t
  have ht : t.val % 8 = 7 := (by decide +kernel : ∀ t : Fin grid0.N, win0_2.flush t = true → t.val % 8 = 7) t hf
  rw [Value.flushed2]
  funext y
  rw [View.read_apply]
  have hy0 : (y 0 : Nat) < 1 := (y 0).isLt
  refine block_eq m c t ht y _ ?_ ?_
  · show (win0_2.index t 0 * 1 + 1 * (y 0 : Nat)) * 1408 + (win0_2.index t 1 * 2 + 1 * (y 1 : Nat)) * 704 + (win0_2.index t 3 * 704 + 1 * (y 3 : Nat)) = _; rw [h0, h1, h3]; omega
  · show (win0_2.index t 4 * 1024 + 1 * (y 4 : Nat)) = _; rw [h4]; omega

/-- Every block of the result's layer is some point's. -/
theorem covered : ∀ a : Fin 2, ∃ t : Fin grid0.N, win0_2.flush t = true ∧ t.val / 8 = a.val := by decide +kernel

/-- An index is in a point's block when its layer and its first number are the point's. -/
theorem mem_iff (t : Fin cfg0.N) (i : S2x2x2x704x1024.Idx) :
    i ∈ ((cfg0.win 2).blk t).view.set ↔ (i 2).val = 0 ∧ (i 0).val = t.val / 8 := by
  obtain ⟨h0, h1, h2, h3, h4⟩ := out_facts t
  have hi0 : (i 0 : Nat) < 2 := (i 0).isLt
  have hi1 : (i 1 : Nat) < 2 := (i 1).isLt
  have hi2 : (i 2 : Nat) < 2 := (i 2).isLt
  have hi3 : (i 3 : Nat) < 704 := (i 3).isLt
  have hi4 : (i 4 : Nat) < 1024 := (i 4).isLt
  show i ∈ ((View.whole main_v0).slice (win0_2.rect t)).set ↔ _
  rw [View.set_slice_whole, Rect.mem_set_unit]
  constructor
  · intro h
    have e0 : win0_2.index t 0 * 1 ≤ (i 0 : Nat) ∧ (i 0 : Nat) < win0_2.index t 0 * 1 + 1 := h 0
    have e1 : win0_2.index t 2 * 1 ≤ (i 2 : Nat) ∧ (i 2 : Nat) < win0_2.index t 2 * 1 + 1 := h 2
    rw [h0] at e0
    rw [h2] at e1
    omega
  · rintro ⟨hl, hq⟩ a
    match a with
    | ⟨0, _⟩ => show win0_2.index t 0 * 1 ≤ (i 0 : Nat) ∧ (i 0 : Nat) < win0_2.index t 0 * 1 + 1
                rw [h0]; omega
    | ⟨1, _⟩ => show win0_2.index t 1 * 2 ≤ (i 1 : Nat) ∧ (i 1 : Nat) < win0_2.index t 1 * 2 + 2
                rw [h1]; omega
    | ⟨2, _⟩ => show win0_2.index t 2 * 1 ≤ (i 2 : Nat) ∧ (i 2 : Nat) < win0_2.index t 2 * 1 + 1
                rw [h2]; omega
    | ⟨3, _⟩ => show win0_2.index t 3 * 704 ≤ (i 3 : Nat) ∧ (i 3 : Nat) < win0_2.index t 3 * 704 + 704
                rw [h3]; omega
    | ⟨4, _⟩ => show win0_2.index t 4 * 1024 ≤ (i 4 : Nat) ∧ (i 4 : Nat) < win0_2.index t 4 * 1024 + 1024
                rw [h4]; omega

/-- The result array in its layer after the run is the product. -/
theorem final (c : Dev nD) (i : S2x2x2x704x1024.Idx) (hi : (i 2).val = 0) : (dats m 0 c).arrAt 2 cfg0.N i = G m c i := by
  obtain ⟨t, hf, hq⟩ := covered ⟨(i 0 : Nat), (i 0).isLt⟩
  exact (dats m 0 c).arrAt_apply_of_mem 2 (G m c) (flushed_G m c) cfg0.N t i t.isLt hf ((mem_iff t i).mpr ⟨hi, hq.symm⟩)

/-- The result array after the run. -/
theorem final_W (c : Dev nD) : (dats m 0 c).arrAt 2 cfg0.N = W m c := by
  funext i
  unfold W
  by_cases hi : (i 2).val = 0
  · rw [if_pos hi]
    exact final m c i hi
  · rw [if_neg hi, Value.entry2 m c i fun t _ hm => hi ((mem_iff t i).mp hm).1]
    exact congrFun (V_v0 m c) i

end Cert.Down0DwIdeal.Hand

namespace Cert.Hand

open Idealize.ShloMosaic Idealize.SL.Sem

/-- The kernel's product and the host's are one array. -/
theorem algebraic_down0Dw : Cert.algebraic_Down0DwIdeal_Down0DwRefIdeal := by
  intro m g m' g' _ hargs
  refine ⟨fun c => Cert.Down0DwIdeal.Hand.W m c, ?_, ?_⟩
  · refine (θ_run Cert.Down0DwIdeal.defs _ _).mono (fun r h c => ?_) (Cert.Down0DwIdeal.Value.run_blocks m g)
    exact ⟨(h c).1.trans (Cert.Down0DwIdeal.Hand.final_W m c), (h c).2⟩
  · refine (θ_run Cert.Down0DwRefIdeal.defs _ _).mono (fun r h c => ?_) (Cert.Down0DwRefIdeal.Value.run m' g')
    refine ⟨(h c).1.trans ?_, (h c).2⟩
    rw [(hargs c).1, (hargs c).2.1, (hargs c).2.2]
    funext i
    show _ = Cert.Down0DwIdeal.Hand.W m c i
    unfold Cert.Down0DwIdeal.Hand.W Cert.Down0DwIdeal.Hand.G Cert.Down0DwIdeal.Hand.term
    idx_vars i
    pointwise
    by_cases h : i2.val = 0
    · rw [dif_pos (by omega), if_pos h]
      exact Finset.sum_congr rfl fun r _ => (mul_comm (G := EReal) _ _).trans (by congr 4 <;> first | rfl | (apply Fin.ext; dsimp only; omega))
    · rw [dif_neg (by omega), if_neg h]
      rw [show i2 = 1 from Fin.ext (by have := i2.isLt; omega)]

end Cert.Hand

end
-- ==== Proof.NormBack.lean ====
/- The gradients of a normalised row, as both sides of the backward claims read them. -/
module

public import Idealize.ShloMosaic.Lib.Pointwise

@[expose] public section

noncomputable section

namespace Cert.Hand

open Idealize.ShloMosaic

/-- The mean of a row's squares plus the small constant. -/
def meanSq (h : Fin 1024 → EReal) : EReal :=
  Ideal.div (∑ j : Fin 1024, h j * h j) (Ideal.ofBits .f32 0x44800000#32) + Ideal.ofBits .f32 0x358637BD#32

/-- The cotangent that reaches each square of the row: through the inverse root, and the mean's division. -/
def slope (h g d : Fin 1024 → EReal) : EReal :=
  Ideal.div ((∑ j : Fin 1024, h j * (d j * g j)) * (Ideal.ofBits .f32 0xBF000000#32 * Ideal.div (Ideal.rsqrt (meanSq h)) (meanSq h)))
    (Ideal.ofBits .f32 0x44800000#32)

/-- Entry `k` of the row's gradient under the cotangent `d` of the normalised row: the direct part, and the square's two factors. -/
def normBack (h g d : Fin 1024 → EReal) (k : Fin 1024) : EReal :=
  d k * g k * Ideal.rsqrt (meanSq h) + h k * slope h g d + slope h g d * h k

/-- Entry `k` of one row's part of the gain's gradient. -/
def gainBack (h d : Fin 1024 → EReal) (k : Fin 1024) : EReal :=
  h k * Ideal.rsqrt (meanSq h) * d k

/-- Rows that agree have one gradient. -/
theorem normBack_congr {h h' g g' d d' : Fin 1024 → EReal} (hh : ∀ k, h k = h' k) (hg : ∀ k, g k = g' k) (hd : ∀ k, d k = d' k)
    (k : Fin 1024) : normBack h g d k = normBack h' g' d' k := by
  rw [show h = h' from funext hh, show g = g' from funext hg, show d = d' from funext hd]

/-- Rows that agree have one part of the gain's gradient. -/
theorem gainBack_congr {h h' d d' : Fin 1024 → EReal} (hh : ∀ k, h k = h' k) (hd : ∀ k, d k = d' k)
    (k : Fin 1024) : gainBack h d k = gainBack h' d' k := by
  rw [show h = h' from funext hh, show d = d' from funext hd]

end Cert.Hand

end
-- ==== Proof.Runs.lean ====
/- A sum over a finite range taken in equal runs. -/
module

public import Idealize.ShloMosaic.Lib.Pointwise

@[expose] public section

noncomputable section

namespace Cert.Hand

/-- A function of a finite range, at a plain number; zero past the end. -/
def atNat {N : ℕ} (f : Fin N → EReal) (n : ℕ) : EReal := if h : n < N then f ⟨n, h⟩ else 0

theorem atNat_of_lt {N : ℕ} (f : Fin N → EReal) (n : ℕ) (h : n < N) : atNat f n = f ⟨n, h⟩ := dif_pos h

/-- The sum of the `s`-th run of `b` terms. -/
def runSum {N : ℕ} (b : ℕ) (f : Fin N → EReal) (s : ℕ) : EReal := ∑ k : Fin b, atNat f (b * s + k.val)

/-- All the runs together are the whole sum. -/
theorem sum_runs {N : ℕ} (a b : ℕ) (hab : a * b = N) (f : Fin N → EReal) :
    ∑ s ∈ Finset.range a, runSum b f s = ∑ r : Fin N, f r := by
  subst hab
  rw [Finset.sum_range]
  unfold runSum
  rw [← Fintype.sum_prod_type' (fun (s : Fin a) (k : Fin b) => atNat f (b * s.val + k.val))]
  refine Fintype.sum_equiv (finProdFinEquiv (m := a) (n := b)) _ _ fun p => ?_
  have e : b * p.1.val + p.2.val = (finProdFinEquiv p).val := by
    show _ = p.2.val + b * p.1.val
    omega
  rw [atNat_of_lt f _ (e ▸ (finProdFinEquiv p).isLt)]
  exact congrArg f (Fin.ext e)

end Cert.Hand

end
-- ==== Proof.Up1DxVal.lean ====
/- The backward pass of the second feed-forward layer's up product's input: its rows' gradient and its gain's. -/
module

public import proofs.«01_k».proof.Proof.Gen.Up1DxIdeal.Value
public import proofs.«01_k».proof.Proof.Gen.Up1DxRefIdeal.Run
public import proofs.«01_k».proof.Proof.NormBack
public import proofs.«01_k».proof.Proof.Runs
public import proofs.«01_k».proof.Defs
public import Idealize.ShloMosaic.Lib.Tactic

@[expose] public section

set_option maxRecDepth 16384

noncomputable section

namespace Cert.Up1DxIdeal.Hand

open Cert.Up1DxIdeal Cert.Up1DxIdeal.Gen Idealize.ShloMosaic Idealize.ShloMosaic.TcCoe Idealize.SL.Sem

/-- One column's part of the cotangent of a normalised row. -/
def dnCol (x0 : FVec Ideal S8192x5632 .bf16) (x1 : FVec Ideal S4x2x1024x1408 .bf16) (r : Fin 8192) (k : Fin 1024) (j : Fin 5632) : EReal :=
  (x0 (ix2 r j) : EReal) * x1 (ix4 (⟨j.val / 1408, by have h := j.isLt; omega⟩ : Fin 4) (1 : Fin 2) k (⟨j.val % 1408, Nat.mod_lt _ (by decide)⟩ : Fin 1408))

/-- The cotangent of a normalised row: the product with the weight's rows. -/
def dn (x0 : FVec Ideal S8192x5632 .bf16) (x1 : FVec Ideal S4x2x1024x1408 .bf16) (r : Fin 8192) (k : Fin 1024) : EReal :=
  ∑ j : Fin 5632, dnCol x0 x1 r k j

/-- The rows' gradient, entry by entry. -/
def dh (x0 : FVec Ideal S8192x5632 .bf16) (x1 : FVec Ideal S4x2x1024x1408 .bf16) (x2 : FVec Ideal S8192x1024 .f32) (x3 : FVec Ideal S1x1024 .f32) (x4 : FVec Ideal S8192x1024 .f32) : FVec Ideal S8192x1024 .f32 := fun i =>
  Cert.Hand.normBack (fun k => x2 (ix2 (i 0) k)) (fun k => x3 (ix2 (0 : Fin 1) k)) (dn x0 x1 (i 0)) (i 1) + x4 (ix2 (i 0) (i 1))

/-- One row's part of the gain's gradient. -/
def dgRow (x0 : FVec Ideal S8192x5632 .bf16) (x1 : FVec Ideal S4x2x1024x1408 .bf16) (x2 : FVec Ideal S8192x1024 .f32) (i : S1x1024.Idx) (r : Fin 8192) : EReal :=
  Cert.Hand.gainBack (fun k => x2 (ix2 r k)) (dn x0 x1 r) (i 1)

/-- The gain's gradient, entry by entry. -/
def dg (x0 : FVec Ideal S8192x5632 .bf16) (x1 : FVec Ideal S4x2x1024x1408 .bf16) (x2 : FVec Ideal S8192x1024 .f32) : FVec Ideal S1x1024 .f32 := fun i => ∑ r : Fin 8192, dgRow x0 x1 x2 i r

theorem hz : (![0, 0] : Fin 2 → Nat) = fun _ => 0 := funext fun a => by fin_cases a <;> rfl

theorem hz4 : (![0, 0, 0, 0] : Fin 4 → Nat) = fun _ => 0 := funext fun a => by fin_cases a <;> rfl

/-- One point's product at an index. -/
theorem pay1_apply (x0 : Vec Ideal S512x1408 .bf16) (x1 : Vec Ideal S1x1x1024x1408 .bf16) (y : S512x1024.Idx) :
    (k0_pay1 x0 x1 y : EReal) = ∑ j : Fin 1408, (x0 (ix2 (y 0) j) : EReal) * x1 (ix4 (0 : Fin 1) (0 : Fin 1) (y 1) j) := by
  idx_vars y
  pointwise [k0_pay1]

/-- The first point's store is its product. -/
theorem pay2_eq (x0 : Vec Ideal S512x1408 .bf16) (x1 : Vec Ideal S1x1x1024x1408 .bf16) : k0_pay2 x0 x1 = k0_pay1 x0 x1 := by
  unfold k0_pay2
  exact shapeCast_self _ _

/-- A later point's store is the accumulator plus its product. -/
theorem pay3_apply (x0 : Vec Ideal S512x1408 .bf16) (x1 : Vec Ideal S1x1x1024x1408 .bf16) (xs : Vec Ideal S512x1024 .f32) (y : S512x1024.Idx) :
    (k0_pay3 x0 x1 xs y : EReal) = (xs y : EReal) + k0_pay1 x0 x1 y := by
  unfold k0_pay3
  rw [shapeCast_self]
  rfl

/-- One block of the rows' gradient at an index, from the block of cotangents `v`. -/
theorem pay8_apply (v : Vec Ideal S512x1024 .f32) (x2 : Vec Ideal S512x1024 .f32) (x3 : Vec Ideal S1x1024 .f32) (x4 : Vec Ideal S512x1024 .f32) (y : S512x1024.Idx) :
    (k0_pay8 v x2 x3 x4 y : EReal) = Cert.Hand.normBack (fun k => x2 (ix2 (y 0) k)) (fun k => x3 (ix2 (0 : Fin 1) k)) (fun k => v (ix2 (y 0) k)) (y 1) + x4 (ix2 (y 0) (y 1)) := by
  idx_vars y
  unfold Cert.Hand.normBack Cert.Hand.slope Cert.Hand.meanSq
  pointwise [k0_pay8, k0_pay6, k0_pay5]
  simp only [Finset.univ_unique, Finset.sum_singleton]

/-- One block's part of the gain's gradient at an index. -/
theorem pay7_apply (v : Vec Ideal S512x1024 .f32) (x2 : Vec Ideal S512x1024 .f32) (y : S1x1024.Idx) :
    (k0_pay7 v x2 y : EReal) = ∑ r : Fin 512, Cert.Hand.gainBack (fun k => x2 (ix2 r k)) (fun k => v (ix2 r k)) (y 1) := by
  idx_vars y
  unfold Cert.Hand.gainBack Cert.Hand.meanSq
  pointwise [k0_pay7, k0_pay6, k0_pay5]

/-- A later row block's store is what the gain's row held plus its part. -/
theorem pay4_apply (v : FVec Ideal S1x1024 .f32) (xo : Vec Ideal S1x1024 .f32) (y : S1x1024.Idx) :
    (k0_pay4 v xo y : EReal) = (xo y : EReal) + v y := by
  unfold k0_pay4
  rw [shapeCast_self]
  rfl

variable (c : Dev nD) (i : grid0.Coords) (a3 : Memref sig .tc .vmem S512x1408 .bf16) (q3 : a3.IsWhole) (a4 : Memref sig .tc .vmem S1x1x1024x1408 .bf16) (q4 : a4.IsWhole) (a5 : Memref sig .tc .vmem S512x1024 .f32) (q5 : a5.IsWhole) (a6 : Memref sig .tc .vmem S1x1024 .f32) (q6 : a6.IsWhole) (a7 : Memref sig .tc .vmem S512x1024 .f32) (q7 : a7.IsWhole) (a8 : Memref sig .tc .vmem S512x1024 .f32) (q8 : a8.IsWhole) (a9 : Memref sig .tc .vmem S1x1024 .f32) (q9 : a9.IsWhole) (a10 : Memref sig .tc .vmem S512x1024 .f32) (q10 : a10.IsWhole)
  (x0 : Vec Ideal S512x1408 .bf16) (x1 : Vec Ideal S1x1x1024x1408 .bf16) (x2 : Vec Ideal S512x1024 .f32) (x3 : Vec Ideal S1x1024 .f32) (x4 : Vec Ideal S512x1024 .f32) (xo6 : Vec Ideal S1x1024 .f32) (xs0 : Vec Ideal S512x1024 .f32)

/-- What case A leaves in the accumulator. -/
theorem sout_A_0 (hc0 : cond0_0 i) (hc1 : ¬cond0_1 i) (hc2 : ¬cond0_2 i) :
    sout0_A_0 c i a3 q3 a4 q4 a5 q5 a6 q6 a7 q7 a8 q8 a9 q9 a10 q10 hc0 hc1 hc2 x0 x1 x2 x3 x4 = k0_pay2 x0 x1 := by
  unfold sout0_A_0
  rw [View.read_writes_eq_canon _ _ _ (fun y => scover0_A_0 (y := y) ..)]
  unfold kernelRun0_A
  dsimp only
  sl_unfold_words
  rw [View.canon_unit_zero (S := S512x1024) hz]
  simp only [View.readAt_eq_ld, Memref.IsWhole.read_unread, View.ld_unit_zero (S := ⟨2, _⟩) hz, View.ld_unit_zero (S := ⟨4, _⟩) hz4]

/-- What case B leaves in the accumulator. -/
theorem sout_B_0 (hc0 : ¬cond0_0 i) (hc1 : cond0_1 i) (hc2 : ¬cond0_2 i) :
    sout0_B_0 c i a3 q3 a4 q4 a5 q5 a6 q6 a7 q7 a8 q8 a9 q9 a10 q10 hc0 hc1 hc2 x0 x1 x2 x3 x4 xs0 = k0_pay3 x0 x1 xs0 := by
  unfold sout0_B_0
  rw [View.read_writes_eq_canon _ _ _ (fun y => scover0_B_0 (y := y) ..)]
  unfold kernelRun0_B
  dsimp only
  sl_unfold_words
  rw [View.canon_unit_zero (S := S512x1024) hz]
  simp only [View.readAt_eq_ld, Memref.IsWhole.read_unread, View.ld_unit_zero (S := ⟨2, _⟩) hz, View.ld_unit_zero (S := ⟨4, _⟩) hz4]

/-- What case C leaves in the accumulator. -/
theorem sout_C_0 (hc0 : ¬cond0_0 i) (hc1 : cond0_1 i) (hc2 : cond0_2 i) (hc3 : cond0_3 i) (hc4 : ¬cond0_4 i) :
    sout0_C_0 c i a3 q3 a4 q4 a5 q5 a6 q6 a7 q7 a8 q8 a9 q9 a10 q10 hc0 hc1 hc2 hc3 hc4 x0 x1 x2 x3 x4 xs0 = k0_pay3 x0 x1 xs0 := by
  unfold sout0_C_0
  rw [View.read_writes_eq_canon _ _ _ (fun y => scover0_C_0 (y := y) ..)]
  unfold kernelRun0_C
  dsimp only
  sl_unfold_words
  rw [View.canon_unit_zero (S := S512x1024) hz]
  simp only [View.readAt_eq_ld, Memref.IsWhole.read_unread, View.ld_unit_zero (S := ⟨2, _⟩) hz, View.ld_unit_zero (S := ⟨4, _⟩) hz4]

/-- What case D leaves in the accumulator. -/
theorem sout_D_0 (hc0 : ¬cond0_0 i) (hc1 : cond0_1 i) (hc2 : cond0_2 i) (hc3 : ¬cond0_3 i) (hc4 : cond0_4 i) :
    sout0_D_0 c i a3 q3 a4 q4 a5 q5 a6 q6 a7 q7 a8 q8 a9 q9 a10 q10 hc0 hc1 hc2 hc3 hc4 x0 x1 x2 x3 x4 xo6 xs0 = k0_pay3 x0 x1 xs0 := by
  unfold sout0_D_0
  rw [View.read_writes_eq_canon _ _ _ (fun y => scover0_D_0 (y := y) ..)]
  unfold kernelRun0_D
  dsimp only
  sl_unfold_words
  rw [View.canon_unit_zero (S := S512x1024) hz]
  simp only [View.readAt_eq_ld, Memref.IsWhole.read_unread, View.ld_unit_zero (S := ⟨2, _⟩) hz, View.ld_unit_zero (S := ⟨4, _⟩) hz4]

/-- What case C leaves in the rows' gradient's block. -/
theorem out_C_5 (hc0 : ¬cond0_0 i) (hc1 : cond0_1 i) (hc2 : cond0_2 i) (hc3 : cond0_3 i) (hc4 : ¬cond0_4 i) :
    out0_C_5 c i a3 q3 a4 q4 a5 q5 a6 q6 a7 q7 a8 q8 a9 q9 a10 q10 hc0 hc1 hc2 hc3 hc4 x0 x1 x2 x3 x4 xs0 = k0_pay8 (k0_pay3 x0 x1 xs0) x2 x3 x4 := by
  unfold out0_C_5
  rw [View.read_writes_eq_canon _ _ _ (fun y => cover0_C_5 (y := y) ..)]
  unfold kernelRun0_C
  dsimp only
  sl_unfold_words
  rw [View.canon_unit_zero (S := S512x1024) hz]
  rw [View.readCov_unit_zero (S := S512x1024) _ hz]
  simp only [View.readAt_eq_ld, Memref.IsWhole.read_unread, View.ld_unit_zero (S := ⟨2, _⟩) hz, View.ld_unit_zero (S := ⟨4, _⟩) hz4]

/-- What case D leaves in the rows' gradient's block. -/
theorem out_D_5 (hc0 : ¬cond0_0 i) (hc1 : cond0_1 i) (hc2 : cond0_2 i) (hc3 : ¬cond0_3 i) (hc4 : cond0_4 i) :
    out0_D_5 c i a3 q3 a4 q4 a5 q5 a6 q6 a7 q7 a8 q8 a9 q9 a10 q10 hc0 hc1 hc2 hc3 hc4 x0 x1 x2 x3 x4 xo6 xs0 = k0_pay8 (k0_pay3 x0 x1 xs0) x2 x3 x4 := by
  unfold out0_D_5
  rw [View.read_writes_eq_canon _ _ _ (fun y => cover0_D_5 (y := y) ..)]
  unfold kernelRun0_D
  dsimp only
  sl_unfold_words
  rw [View.canon_unit_zero (S := S512x1024) hz]
  rw [View.readCov_unit_zero (S := S512x1024) _ hz]
  simp only [View.readAt_eq_ld, Memref.IsWhole.read_unread, View.ld_unit_zero (S := ⟨2, _⟩) hz, View.ld_unit_zero (S := ⟨4, _⟩) hz4]

/-- What case C leaves in the gain's gradient's block. -/
theorem out_C_6 (hc0 : ¬cond0_0 i) (hc1 : cond0_1 i) (hc2 : cond0_2 i) (hc3 : cond0_3 i) (hc4 : ¬cond0_4 i) :
    out0_C_6 c i a3 q3 a4 q4 a5 q5 a6 q6 a7 q7 a8 q8 a9 q9 a10 q10 hc0 hc1 hc2 hc3 hc4 x0 x1 x2 x3 x4 xs0 = k0_pay7 (k0_pay3 x0 x1 xs0) x2 := by
  unfold out0_C_6
  rw [View.read_writes_eq_canon _ _ _ (fun y => cover0_C_6 (y := y) ..)]
  unfold kernelRun0_C
  dsimp only
  sl_unfold_words
  rw [View.canon_unit_zero (S := S1x1024) hz]
  rw [View.readCov_unit_zero (S := S512x1024) _ hz]
  simp only [View.readAt_eq_ld, Memref.IsWhole.read_unread, View.ld_unit_zero (S := ⟨2, _⟩) hz, View.ld_unit_zero (S := ⟨4, _⟩) hz4]

/-- What case D leaves in the gain's gradient's block. -/
theorem out_D_6 (hc0 : ¬cond0_0 i) (hc1 : cond0_1 i) (hc2 : cond0_2 i) (hc3 : ¬cond0_3 i) (hc4 : cond0_4 i) :
    out0_D_6 c i a3 q3 a4 q4 a5 q5 a6 q6 a7 q7 a8 q8 a9 q9 a10 q10 hc0 hc1 hc2 hc3 hc4 x0 x1 x2 x3 x4 xo6 xs0 = k0_pay4 (k0_pay7 (k0_pay3 x0 x1 xs0) x2) xo6 := by
  unfold out0_D_6
  rw [View.read_writes_eq_canon _ _ _ (fun y => cover0_D_6 (y := y) ..)]
  unfold kernelRun0_D
  dsimp only
  sl_unfold_words
  rw [View.canon_unit_zero (S := S1x1024) hz]
  rw [View.readCov_unit_zero (S := S512x1024) _ hz]
  simp only [View.readAt_eq_ld, Memref.IsWhole.read_unread, View.ld_unit_zero (S := ⟨2, _⟩) hz, View.ld_unit_zero (S := ⟨4, _⟩) hz4]

variable (m : (ℓ : Loc nD τ sig) → Buf (Elt Ideal) ℓ)

/-- The rows' gradient of the launch contents. -/
def G5 (c : Dev nD) : FVec Ideal S8192x1024 .f32 := dh (m (c.tc.loc main_arg0)) (m (c.tc.loc main_arg1)) (m (c.tc.loc main_arg2)) (m (c.tc.loc main_arg3)) (m (c.tc.loc main_arg4))

/-- The gain's gradient of the launch contents. -/
def G6 (c : Dev nD) : FVec Ideal S1x1024 .f32 := dg (m (c.tc.loc main_arg0)) (m (c.tc.loc main_arg1)) (m (c.tc.loc main_arg2))

/-- The block indices of the windows at every point of the grid. -/
theorem index_facts : ∀ t : Fin cfg0.N,
    win0_0.index t (0 : Fin 2) = t.val / 4 ∧ win0_0.index t (1 : Fin 2) = t.val % 4
    ∧ win0_1.index t (0 : Fin 4) = t.val % 4 ∧ win0_1.index t (1 : Fin 4) = 1 ∧ win0_1.index t (2 : Fin 4) = 0 ∧ win0_1.index t (3 : Fin 4) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0
    ∧ win0_6.index t (0 : Fin 2) = 0 ∧ win0_6.index t (1 : Fin 2) = 0 :=
  (by decide +kernel : ∀ t : Fin grid0.N, _)

/-- A block of the cotangent operand holds its rows and columns. -/
theorem blk0 (c : Dev nD) (t : Fin cfg0.N) (k : Fin 512) (j : Fin 1408) (r : Fin 8192) (hr : r.val = 512 * (t.val / 4) + k.val)
    (q : Fin 5632) (hq : q.val = 1408 * (t.val % 4) + j.val) :
    (iblk m c 0 t (ix2 k j) : EReal) = m (c.tc.loc main_arg0) (ix2 r q) := by
  obtain ⟨h0a, h0b, -⟩ := index_facts t
  refine congrArg (m (c.tc.loc main_arg0)) (funext fun a => Fin.ext ?_)
  match a with
  | ⟨0, _⟩ => show win0_0.index t 0 * 512 + 1 * k.val = r.val; rw [h0a, hr]; omega
  | ⟨1, _⟩ => show win0_0.index t 1 * 1408 + 1 * j.val = q.val; rw [h0b, hq]; omega

/-- A block of the stacked weights holds its run of the layer's columns. -/
theorem blk1 (c : Dev nD) (t : Fin cfg0.N) (k : Fin 1024) (j : Fin 1408) (a : Fin 4) (ha : a.val = t.val % 4) (q : Fin 1408) (hq : q.val = j.val) :
    (iblk m c 1 t (ix4 (0 : Fin 1) (0 : Fin 1) k j) : EReal) = m (c.tc.loc main_arg1) (ix4 a (1 : Fin 2) k q) := by
  obtain ⟨-, -, h1a, h1b, h1c, h1d, -⟩ := index_facts t
  refine congrArg (m (c.tc.loc main_arg1)) (funext fun b => Fin.ext ?_)
  match b with
  | ⟨0, _⟩ => show win0_1.index t 0 * 1 + 1 * 0 = a.val; rw [h1a, ha]; omega
  | ⟨1, _⟩ => show win0_1.index t 1 * 1 + 1 * 0 = 1; rw [h1b]
  | ⟨2, _⟩ => show win0_1.index t 2 * 1024 + 1 * k.val = k.val; rw [h1c]; omega
  | ⟨3, _⟩ => show win0_1.index t 3 * 1408 + 1 * j.val = q.val; rw [h1d, hq]; omega

/-- A block of operand 2 holds the operand's entries of its place. -/
theorem blk2 (c : Dev nD) (t : Fin cfg0.N) (k : Fin 512) (j : Fin 1024) (r : Fin 8192) (hr : r.val = 512 * (t.val / 4) + k.val) :
    (iblk m c 2 t (ix2 k j) : EReal) = m (c.tc.loc main_arg2) (ix2 r j) := by
  obtain ⟨-, -, -, -, -, -, h2a, h2b, -⟩ := index_facts t
  refine congrArg (m (c.tc.loc main_arg2)) (funext fun a => Fin.ext ?_)
  match a with
  | ⟨0, _⟩ => show win0_2.index t 0 * 512 + 1 * k.val = r.val; rw [h2a, hr]; omega
  | ⟨1, _⟩ => show win0_2.index t 1 * 1024 + 1 * j.val = j.val; rw [h2b]; omega

/-- A block of operand 3 holds the operand's entries of its place. -/
theorem blk3 (c : Dev nD) (t : Fin cfg0.N)  (j : Fin 1024) :
    (iblk m c 3 t (ix2 (0 : Fin 1) j) : EReal) = m (c.tc.loc main_arg3) (ix2 (0 : Fin 1) j) := by
  obtain ⟨-, -, -, -, -, -, -, -, h3a, h3b, -⟩ := index_facts t
  refine congrArg (m (c.tc.loc main_arg3)) (funext fun a => Fin.ext ?_)
  match a with
  | ⟨0, _⟩ => show win0_3.index t 0 * 1 + 1 * 0 = 0; rw [h3a]
  | ⟨1, _⟩ => show win0_3.index t 1 * 1024 + 1 * j.val = j.val; rw [h3b]; omega

/-- A block of operand 4 holds the operand's entries of its place. -/
theorem blk4 (c : Dev nD) (t : Fin cfg0.N) (k : Fin 512) (j : Fin 1024) (r : Fin 8192) (hr : r.val = 512 * (t.val / 4) + k.val) :
    (iblk m c 4 t (ix2 k j) : EReal) = m (c.tc.loc main_arg4) (ix2 r j) := by
  obtain ⟨-, -, -, -, -, -, -, -, -, -, h4a, h4b, -⟩ := index_facts t
  refine congrArg (m (c.tc.loc main_arg4)) (funext fun a => Fin.ext ?_)
  match a with
  | ⟨0, _⟩ => show win0_4.index t 0 * 512 + 1 * k.val = r.val; rw [h4a, hr]; omega
  | ⟨1, _⟩ => show win0_4.index t 1 * 1024 + 1 * j.val = j.val; rw [h4b]; omega

/-- A point's product is its run of columns' part of the whole. -/
theorem point (c : Dev nD) (t : Fin cfg0.N) (y : S512x1024.Idx) (r : Fin 8192) (hr : r.val = 512 * (t.val / 4) + (y 0 : Nat)) :
    (k0_pay1 (iblk m c 0 t) (iblk m c 1 t) y : EReal) = Cert.Hand.runSum 1408 (dnCol (m (c.tc.loc main_arg0)) (m (c.tc.loc main_arg1)) r (y 1)) (t.val % 4) := by
  rw [pay1_apply]
  unfold Cert.Hand.runSum
  refine Finset.sum_congr rfl fun j _ => ?_
  have hj := j.isLt
  have h : 1408 * (t.val % 4) + j.val < 5632 := by omega
  rw [Cert.Hand.atNat_of_lt _ _ h]
  unfold dnCol
  exact congrArg₂ (· * ·) (blk0 m c t (y 0) j r hr _ rfl) (blk1 m c t (y 1) j _ (by dsimp only; omega) _ (by dsimp only; omega))

/-- What the accumulator holds after a point: the runs of columns so far. -/
theorem acc_eq (c : Dev nD) : ∀ (n : ℕ) (h : n < cfg0.N) (y : S512x1024.Idx) (r : Fin 8192) (_ : r.val = 512 * (n / 4) + (y 0 : Nat)),
    ((outsAt0 m c n h).2.2 y : EReal) = ∑ s ∈ Finset.range (n % 4 + 1), Cert.Hand.runSum 1408 (dnCol (m (c.tc.loc main_arg0)) (m (c.tc.loc main_arg1)) r (y 1)) s := by
  intro n
  induction n with
  | zero =>
    intro h y r hr
    rw [outsAt0_A m c ⟨0, h⟩ rfl (by dsimp only; omega) (by dsimp only; omega)]
    dsimp only
    rw [sout_A_0, pay2_eq, point m c ⟨0, h⟩ y r hr]
    simp
  | succ n ih =>
    intro h y r hr
    have hN : cfg0.N = 64 := N_0
    by_cases hA : (n + 1) % 4 = 0
    · rw [outsAt0_A m c ⟨n + 1, h⟩ hA (by dsimp only; omega) (by dsimp only; omega)]
      dsimp only
      rw [sout_A_0, pay2_eq, point m c ⟨n + 1, h⟩ y r hr]
      rw [hA, show Finset.range (0 + 1) = {0} from rfl, Finset.sum_singleton]
    · have hd : (n + 1) / 4 = n / 4 := by omega
      have hm : (n + 1) % 4 = n % 4 + 1 := by omega
      rw [Finset.sum_range_succ, hm, ← ih (Nat.lt_of_succ_lt h) y r (by simpa only [hd] using hr)]
      by_cases hC : (n + 1) % 4 = 3
      · by_cases hF : n + 1 < 4
        · rw [outsAt0_C m c ⟨n + 1, h⟩ hA (by dsimp only; omega) hC hF (by dsimp only; omega)]
          dsimp only
          rw [sout_C_0, pay3_apply, point m c ⟨n + 1, h⟩ y r hr]
          simp only [hm, Nat.add_sub_cancel]
        · rw [outsAt0_D m c ⟨n + 1, h⟩ hA (by dsimp only; omega) hC hF (by dsimp only; omega)]
          dsimp only
          rw [sout_D_0, pay3_apply, point m c ⟨n + 1, h⟩ y r hr]
          simp only [hm, Nat.add_sub_cancel]
      · rw [outsAt0_B m c ⟨n + 1, h⟩ hA (by dsimp only; omega) hC]
        dsimp only
        rw [sout_B_0, pay3_apply, point m c ⟨n + 1, h⟩ y r hr]
        simp only [hm, Nat.add_sub_cancel]

/-- After a row block's last point the accumulator holds the cotangents of its normalised rows. -/
theorem acc_last (c : Dev nD) (t : Fin cfg0.N) (ht : t.val % 4 = 3) (y : S512x1024.Idx) (r : Fin 8192) (hr : r.val = 512 * (t.val / 4) + (y 0 : Nat)) :
    ((outsAt0 m c t.val t.isLt).2.2 y : EReal) = dn (m (c.tc.loc main_arg0)) (m (c.tc.loc main_arg1)) r (y 1) := by
  refine (acc_eq m c t.val t.isLt y r hr).trans ?_
  rw [ht, Cert.Hand.sum_runs 4 1408 rfl]
  rfl

/-- What a row block's last point leaves in the rows' gradient's block, from what it leaves in the accumulator. -/
theorem last5 (c : Dev nD) (t : Fin cfg0.N) (ht : t.val % 4 = 3) :
    (outsAt0 m c t.val t.isLt).1 = k0_pay8 (outsAt0 m c t.val t.isLt).2.2 (iblk m c 2 t) (iblk m c 3 t) (iblk m c 4 t) := by
  have hN : cfg0.N = 64 := N_0
  have := t.isLt
  by_cases hF : t.val < 4
  · rw [outsAt0_C m c t (by omega) (by omega) ht hF (by omega)]
    dsimp only
    rw [out_C_5, sout_C_0]
  · rw [outsAt0_D m c t (by omega) (by omega) ht hF (by omega)]
    dsimp only
    rw [out_D_5, sout_D_0]

/-- A row block's part of the gain's gradient is its run of rows' part of the whole. -/
theorem point6 (c : Dev nD) (t : Fin cfg0.N) (ht : t.val % 4 = 3) (y J : S1x1024.Idx) (hJ : (J 1).val = (y 1).val) :
    (k0_pay7 (outsAt0 m c t.val t.isLt).2.2 (iblk m c 2 t) y : EReal) = Cert.Hand.runSum 512 (dgRow (m (c.tc.loc main_arg0)) (m (c.tc.loc main_arg1)) (m (c.tc.loc main_arg2)) J) (t.val / 4) := by
  rw [pay7_apply]
  unfold Cert.Hand.runSum
  refine Finset.sum_congr rfl fun k _ => ?_
  have hk := k.isLt
  have h64 : t.val < 64 := N_0 ▸ t.isLt
  have hr : 512 * (t.val / 4) + k.val < 8192 := by omega
  rw [Cert.Hand.atNat_of_lt _ _ hr]
  unfold dgRow
  rw [show J 1 = y 1 from Fin.ext hJ]
  exact Cert.Hand.gainBack_congr (fun j => blk2 m c t k j _ rfl) (fun q => acc_last m c t ht (ix2 k q) _ rfl) (y 1)

/-- What the gain's gradient's block holds once a row block is done: the runs of rows so far. -/
theorem acc6 (c : Dev nD) : ∀ (n : ℕ) (h : n < cfg0.N) (_ : 3 ≤ n) (y J : S1x1024.Idx) (_ : (J 1).val = (y 1).val),
    ((outsAt0 m c n h).2.1 y : EReal) = ∑ s ∈ Finset.range ((n + 1) / 4), Cert.Hand.runSum 512 (dgRow (m (c.tc.loc main_arg0)) (m (c.tc.loc main_arg1)) (m (c.tc.loc main_arg2)) J) s := by
  intro n
  induction n with
  | zero => intro h h3; omega
  | succ n ih =>
    intro h h3 y J h1
    have hN : cfg0.N = 64 := N_0
    by_cases hC : (n + 1) % 4 = 3
    · have e := point6 m c ⟨n + 1, h⟩ hC y J h1
      by_cases hF : n + 1 < 4
      · have hn : n = 2 := by omega
        subst hn
        rw [outsAt0_C m c ⟨2 + 1, h⟩ (by dsimp only; omega) (by dsimp only; omega) hC hF (by dsimp only; omega)] at e ⊢
        dsimp only at e ⊢
        rw [sout_C_0] at e
        rw [out_C_6, e]
        exact (Finset.sum_range_one _).symm
      · have hq : (n + 1 + 1) / 4 = (n + 1) / 4 + 1 := by omega
        rw [hq, Finset.sum_range_succ, ← ih (Nat.lt_of_succ_lt h) (by omega) y J h1]
        rw [outsAt0_D m c ⟨n + 1, h⟩ (by dsimp only; omega) (by dsimp only; omega) hC hF (by dsimp only; omega)] at e ⊢
        dsimp only at e ⊢
        rw [sout_D_0] at e
        rw [out_D_6, pay4_apply, e]
        simp only [Nat.add_sub_cancel]
    · have hq : (n + 1 + 1) / 4 = (n + 1) / 4 := by omega
      rw [hq, ← ih (Nat.lt_of_succ_lt h) (by omega) y J h1]
      by_cases hA : (n + 1) % 4 = 0
      · rw [outsAt0_A m c ⟨n + 1, h⟩ hA (by dsimp only; omega) (by dsimp only; omega)]
        rfl
      · rw [outsAt0_B m c ⟨n + 1, h⟩ hA (by dsimp only; omega) hC]
        rfl

/-- What a point writes back is its block of the rows' gradient. -/
theorem flushed_G5 (c : Dev nD) (t : Fin cfg0.N) (hf : (cfg0.win 5).flush t = true) :
    (dats m 0 c).flushed 5 t = ((cfg0.win 5).blk t).view.read (Elt Ideal) (G5 m c) := by
  obtain ⟨-, -, -, -, -, -, -, -, -, -, -, -, h5a, h5b, -⟩ := index_facts t
  have ht3 : t.val % 4 = 3 := (by decide +kernel : ∀ t : Fin grid0.N, win0_5.flush t = true → t.val % 4 = 3) t hf
  rw [Value.flushed5]
  funext y
  rw [View.read_apply]
  show ((outsAt0 m c t.val t.isLt).1 y : EReal) = _
  rw [last5 m c t ht3, pay8_apply]
  have ht : t.val < 64 := N_0 ▸ t.isLt
  have hk : (y 0 : Nat) < 512 := (y 0).isLt
  have e : (((cfg0.win 5).blk t).view.emb y : S8192x1024.Idx) = ix2 (⟨512 * (t.val / 4) + (y 0 : Nat), by omega⟩ : Fin 8192) (y 1) := by
    funext a
    apply Fin.ext
    match a with
    | ⟨0, _⟩ => show win0_5.index t 0 * 512 + 1 * (y 0 : Nat) = 512 * (t.val / 4) + (y 0 : Nat); rw [h5a]; omega
    | ⟨1, _⟩ => show win0_5.index t 1 * 1024 + 1 * (y 1 : Nat) = (y 1 : Nat); rw [h5b]; omega
  rw [e]
  unfold G5 dh
  exact congrArg₂ (· + ·) (Cert.Hand.normBack_congr (fun k => blk2 m c t (y 0) k _ rfl) (fun k => blk3 m c t k) (fun q => acc_last m c t ht3 (ix2 (y 0) q) _ rfl) (y 1))
    (blk4 m c t (y 0) (y 1) _ rfl)

/-- What the last point leaves in the gain's gradient's block. -/
theorem block6 (c : Dev nD) (t : Fin cfg0.N) (ht : t.val = 63) (y J : S1x1024.Idx) (h1 : (J 1).val = (y 1).val) :
    ((outsAt0 m c t.val t.isLt).2.1 y : EReal) = G6 m c J := by
  refine (acc6 m c t.val t.isLt (by omega) y J h1).trans ?_
  rw [ht, Cert.Hand.sum_runs 16 512 rfl]
  rfl

/-- What the last point writes back is the gain's gradient. -/
theorem flushed_G6 (c : Dev nD) (t : Fin cfg0.N) (hf : (cfg0.win 6).flush t = true) :
    (dats m 0 c).flushed 6 t = ((cfg0.win 6).blk t).view.read (Elt Ideal) (G6 m c) := by
  obtain ⟨-, -, -, -, -, -, -, -, -, -, -, -, -, -, -, h6b⟩ := index_facts t
  have ht : t.val = 63 := (by decide +kernel : ∀ t : Fin grid0.N, win0_6.flush t = true → t.val = 63) t hf
  rw [Value.flushed6]
  funext y
  rw [View.read_apply]
  refine block6 m c t ht y _ ?_
  show win0_6.index t 1 * 1024 + 1 * (y 1 : Nat) = (y 1 : Nat); rw [h6b]; omega

/-- Every block of the rows' gradient is some point's. -/
theorem covered5 : ∀ a : Fin 16, ∃ t : Fin grid0.N, (cfg0.win 5).flush t = true
    ∧ win0_5.index t (0 : Fin 2) = a.val ∧ win0_5.index t (1 : Fin 2) = 0 := by decide +kernel

/-- Some point writes the gain's gradient. -/
theorem covered6 : ∃ t : Fin grid0.N, (cfg0.win 6).flush t = true
    ∧ win0_6.index t (0 : Fin 2) = 0 ∧ win0_6.index t (1 : Fin 2) = 0 := by decide +kernel

/-- The rows' gradient's array after the run. -/
theorem final5 (c : Dev nD) : (dats m 0 c).arrAt 5 cfg0.N = G5 m c :=
  (dats m 0 c).arrAt_eq_of_cover 5 (G5 m c) (fun t hf => flushed_G5 m c t hf) fun i => by
    have h0 : (i 0 : Nat) < 8192 := (i 0).isLt
    have h1 : (i 1 : Nat) < 1024 := (i 1).isLt
    obtain ⟨t, hf, ha, hb⟩ := covered5 ⟨(i 0 : Nat) / 512, by omega⟩
    refine ⟨t, hf, ?_⟩
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [ha]; dsimp only; omega
    | ⟨1, _⟩ => show win0_5.index t 1 * 1024 ≤ (i 1 : Nat) ∧ (i 1 : Nat) < win0_5.index t 1 * 1024 + 1024
                rw [hb]; omega

/-- The gain's gradient's array after the run. -/
theorem final6 (c : Dev nD) : (dats m 0 c).arrAt 6 cfg0.N = G6 m c :=
  (dats m 0 c).arrAt_eq_of_cover 6 (G6 m c) (fun t hf => flushed_G6 m c t hf) fun i => by
    have h0 : (i 0 : Nat) < 1 := (i 0).isLt
    have h1 : (i 1 : Nat) < 1024 := (i 1).isLt
    obtain ⟨t, hf, ha, hb⟩ := covered6
    refine ⟨t, hf, ?_⟩
    show i ∈ ((View.whole main_v0_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [ha]; omega
    | ⟨1, _⟩ => show win0_6.index t 1 * 1024 ≤ (i 1 : Nat) ∧ (i 1 : Nat) < win0_6.index t 1 * 1024 + 1024
                rw [hb]; omega

end Cert.Up1DxIdeal.Hand

namespace Cert.Hand

open Idealize.ShloMosaic Idealize.SL.Sem

set_option maxHeartbeats 1000000 in
/-- The kernel's gradients and the host's are the same arrays. -/
theorem algebraic_up1Dx : Cert.algebraic_Up1DxIdeal_Up1DxRefIdeal := by
  intro m g m' g' _ hargs
  refine ⟨fun c => Cert.Up1DxIdeal.Hand.G5 m c, fun c => Cert.Up1DxIdeal.Hand.G6 m c, ?_, ?_⟩
  · refine (θ_run Cert.Up1DxIdeal.defs _ _).mono (fun r h c => ?_) (Cert.Up1DxIdeal.Value.run_blocks m g)
    exact ⟨(h c).1.trans (Cert.Up1DxIdeal.Hand.final5 m c), (h c).2.1.trans (Cert.Up1DxIdeal.Hand.final6 m c), (h c).2.2⟩
  · refine (θ_run Cert.Up1DxRefIdeal.defs _ _).mono (fun r h c => ?_) (Cert.Up1DxRefIdeal.Value.run m' g')
    refine ⟨(h c).1.trans ?_, (h c).2.1.trans ?_, (h c).2.2⟩
    · unfold Cert.Up1DxRefIdeal.Value.res_main_v45
      rw [(hargs c).1, (hargs c).2.1, (hargs c).2.2.1, (hargs c).2.2.2.1, (hargs c).2.2.2.2]
      funext i
      show _ = Cert.Up1DxIdeal.Hand.dh _ _ _ _ _ i
      unfold Cert.Up1DxIdeal.Hand.dh
      idx_vars i
      unfold Cert.Hand.normBack Cert.Hand.slope Cert.Hand.meanSq Cert.Up1DxIdeal.Hand.dn Cert.Up1DxIdeal.Hand.dnCol
      pointwise
      simp only [Finset.univ_unique, Finset.sum_singleton]
      ac_rfl
    · rw [(hargs c).1, (hargs c).2.1, (hargs c).2.2.1]
      funext i
      show _ = Cert.Up1DxIdeal.Hand.dg _ _ _ i
      unfold Cert.Up1DxIdeal.Hand.dg Cert.Up1DxIdeal.Hand.dgRow
      idx_vars i
      unfold Cert.Hand.gainBack Cert.Hand.meanSq Cert.Up1DxIdeal.Hand.dn Cert.Up1DxIdeal.Hand.dnCol
      pointwise
      simp only [Finset.univ_unique, Finset.sum_singleton]

end Cert.Hand

end
-- ==== Proof.Up0DxVal.lean ====
/- The backward pass of the first feed-forward layer's up product's input: its rows' gradient and its gain's. -/
module

public import proofs.«01_k».proof.Proof.Gen.Up0DxIdeal.Value
public import proofs.«01_k».proof.Proof.Gen.Up0DxRefIdeal.Run
public import proofs.«01_k».proof.Proof.NormBack
public import proofs.«01_k».proof.Proof.Runs
public import proofs.«01_k».proof.Defs
public import Idealize.ShloMosaic.Lib.Tactic

@[expose] public section

set_option maxRecDepth 16384

noncomputable section

namespace Cert.Up0DxIdeal.Hand

open Cert.Up0DxIdeal Cert.Up0DxIdeal.Gen Idealize.ShloMosaic Idealize.ShloMosaic.TcCoe Idealize.SL.Sem

/-- One column's part of the cotangent of a normalised row. -/
def dnCol (x0 : FVec Ideal S8192x5632 .bf16) (x1 : FVec Ideal S4x2x1024x1408 .bf16) (r : Fin 8192) (k : Fin 1024) (j : Fin 5632) : EReal :=
  (x0 (ix2 r j) : EReal) * x1 (ix4 (⟨j.val / 1408, by have h := j.isLt; omega⟩ : Fin 4) (0 : Fin 2) k (⟨j.val % 1408, Nat.mod_lt _ (by decide)⟩ : Fin 1408))

/-- The cotangent of a normalised row: the product with the weight's rows. -/
def dn (x0 : FVec Ideal S8192x5632 .bf16) (x1 : FVec Ideal S4x2x1024x1408 .bf16) (r : Fin 8192) (k : Fin 1024) : EReal :=
  ∑ j : Fin 5632, dnCol x0 x1 r k j

/-- The rows' gradient, entry by entry. -/
def dh (x0 : FVec Ideal S8192x5632 .bf16) (x1 : FVec Ideal S4x2x1024x1408 .bf16) (x2 : FVec Ideal S8192x1024 .f32) (x3 : FVec Ideal S1x1024 .f32) (x4 : FVec Ideal S8192x1024 .f32) : FVec Ideal S8192x1024 .f32 := fun i =>
  Cert.Hand.normBack (fun k => x2 (ix2 (i 0) k)) (fun k => x3 (ix2 (0 : Fin 1) k)) (dn x0 x1 (i 0)) (i 1) + x4 (ix2 (i 0) (i 1))

/-- One row's part of the gain's gradient. -/
def dgRow (x0 : FVec Ideal S8192x5632 .bf16) (x1 : FVec Ideal S4x2x1024x1408 .bf16) (x2 : FVec Ideal S8192x1024 .f32) (i : S1x1024.Idx) (r : Fin 8192) : EReal :=
  Cert.Hand.gainBack (fun k => x2 (ix2 r k)) (dn x0 x1 r) (i 1)

/-- The gain's gradient, entry by entry. -/
def dg (x0 : FVec Ideal S8192x5632 .bf16) (x1 : FVec Ideal S4x2x1024x1408 .bf16) (x2 : FVec Ideal S8192x1024 .f32) : FVec Ideal S1x1024 .f32 := fun i => ∑ r : Fin 8192, dgRow x0 x1 x2 i r

theorem hz : (![0, 0] : Fin 2 → Nat) = fun _ => 0 := funext fun a => by fin_cases a <;> rfl

theorem hz4 : (![0, 0, 0, 0] : Fin 4 → Nat) = fun _ => 0 := funext fun a => by fin_cases a <;> rfl

/-- One point's product at an index. -/
theorem pay1_apply (x0 : Vec Ideal S512x1408 .bf16) (x1 : Vec Ideal S1x1x1024x1408 .bf16) (y : S512x1024.Idx) :
    (k0_pay1 x0 x1 y : EReal) = ∑ j : Fin 1408, (x0 (ix2 (y 0) j) : EReal) * x1 (ix4 (0 : Fin 1) (0 : Fin 1) (y 1) j) := by
  idx_vars y
  pointwise [k0_pay1]

/-- The first point's store is its product. -/
theorem pay2_eq (x0 : Vec Ideal S512x1408 .bf16) (x1 : Vec Ideal S1x1x1024x1408 .bf16) : k0_pay2 x0 x1 = k0_pay1 x0 x1 := by
  unfold k0_pay2
  exact shapeCast_self _ _

/-- A later point's store is the accumulator plus its product. -/
theorem pay3_apply (x0 : Vec Ideal S512x1408 .bf16) (x1 : Vec Ideal S1x1x1024x1408 .bf16) (xs : Vec Ideal S512x1024 .f32) (y : S512x1024.Idx) :
    (k0_pay3 x0 x1 xs y : EReal) = (xs y : EReal) + k0_pay1 x0 x1 y := by
  unfold k0_pay3
  rw [shapeCast_self]
  rfl

/-- One block of the rows' gradient at an index, from the block of cotangents `v`. -/
theorem pay8_apply (v : Vec Ideal S512x1024 .f32) (x2 : Vec Ideal S512x1024 .f32) (x3 : Vec Ideal S1x1024 .f32) (x4 : Vec Ideal S512x1024 .f32) (y : S512x1024.Idx) :
    (k0_pay8 v x2 x3 x4 y : EReal) = Cert.Hand.normBack (fun k => x2 (ix2 (y 0) k)) (fun k => x3 (ix2 (0 : Fin 1) k)) (fun k => v (ix2 (y 0) k)) (y 1) + x4 (ix2 (y 0) (y 1)) := by
  idx_vars y
  unfold Cert.Hand.normBack Cert.Hand.slope Cert.Hand.meanSq
  pointwise [k0_pay8, k0_pay6, k0_pay5]
  simp only [Finset.univ_unique, Finset.sum_singleton]

/-- One block's part of the gain's gradient at an index. -/
theorem pay7_apply (v : Vec Ideal S512x1024 .f32) (x2 : Vec Ideal S512x1024 .f32) (y : S1x1024.Idx) :
    (k0_pay7 v x2 y : EReal) = ∑ r : Fin 512, Cert.Hand.gainBack (fun k => x2 (ix2 r k)) (fun k => v (ix2 r k)) (y 1) := by
  idx_vars y
  unfold Cert.Hand.gainBack Cert.Hand.meanSq
  pointwise [k0_pay7, k0_pay6, k0_pay5]

/-- A later row block's store is what the gain's row held plus its part. -/
theorem pay4_apply (v : FVec Ideal S1x1024 .f32) (xo : Vec Ideal S1x1024 .f32) (y : S1x1024.Idx) :
    (k0_pay4 v xo y : EReal) = (xo y : EReal) + v y := by
  unfold k0_pay4
  rw [shapeCast_self]
  rfl

variable (c : Dev nD) (i : grid0.Coords) (a3 : Memref sig .tc .vmem S512x1408 .bf16) (q3 : a3.IsWhole) (a4 : Memref sig .tc .vmem S1x1x1024x1408 .bf16) (q4 : a4.IsWhole) (a5 : Memref sig .tc .vmem S512x1024 .f32) (q5 : a5.IsWhole) (a6 : Memref sig .tc .vmem S1x1024 .f32) (q6 : a6.IsWhole) (a7 : Memref sig .tc .vmem S512x1024 .f32) (q7 : a7.IsWhole) (a8 : Memref sig .tc .vmem S512x1024 .f32) (q8 : a8.IsWhole) (a9 : Memref sig .tc .vmem S1x1024 .f32) (q9 : a9.IsWhole) (a10 : Memref sig .tc .vmem S512x1024 .f32) (q10 : a10.IsWhole)
  (x0 : Vec Ideal S512x1408 .bf16) (x1 : Vec Ideal S1x1x1024x1408 .bf16) (x2 : Vec Ideal S512x1024 .f32) (x3 : Vec Ideal S1x1024 .f32) (x4 : Vec Ideal S512x1024 .f32) (xo6 : Vec Ideal S1x1024 .f32) (xs0 : Vec Ideal S512x1024 .f32)

/-- What case A leaves in the accumulator. -/
theorem sout_A_0 (hc0 : cond0_0 i) (hc1 : ¬cond0_1 i) (hc2 : ¬cond0_2 i) :
    sout0_A_0 c i a3 q3 a4 q4 a5 q5 a6 q6 a7 q7 a8 q8 a9 q9 a10 q10 hc0 hc1 hc2 x0 x1 x2 x3 x4 = k0_pay2 x0 x1 := by
  unfold sout0_A_0
  rw [View.read_writes_eq_canon _ _ _ (fun y => scover0_A_0 (y := y) ..)]
  unfold kernelRun0_A
  dsimp only
  sl_unfold_words
  rw [View.canon_unit_zero (S := S512x1024) hz]
  simp only [View.readAt_eq_ld, Memref.IsWhole.read_unread, View.ld_unit_zero (S := ⟨2, _⟩) hz, View.ld_unit_zero (S := ⟨4, _⟩) hz4]

/-- What case B leaves in the accumulator. -/
theorem sout_B_0 (hc0 : ¬cond0_0 i) (hc1 : cond0_1 i) (hc2 : ¬cond0_2 i) :
    sout0_B_0 c i a3 q3 a4 q4 a5 q5 a6 q6 a7 q7 a8 q8 a9 q9 a10 q10 hc0 hc1 hc2 x0 x1 x2 x3 x4 xs0 = k0_pay3 x0 x1 xs0 := by
  unfold sout0_B_0
  rw [View.read_writes_eq_canon _ _ _ (fun y => scover0_B_0 (y := y) ..)]
  unfold kernelRun0_B
  dsimp only
  sl_unfold_words
  rw [View.canon_unit_zero (S := S512x1024) hz]
  simp only [View.readAt_eq_ld, Memref.IsWhole.read_unread, View.ld_unit_zero (S := ⟨2, _⟩) hz, View.ld_unit_zero (S := ⟨4, _⟩) hz4]

/-- What case C leaves in the accumulator. -/
theorem sout_C_0 (hc0 : ¬cond0_0 i) (hc1 : cond0_1 i) (hc2 : cond0_2 i) (hc3 : cond0_3 i) (hc4 : ¬cond0_4 i) :
    sout0_C_0 c i a3 q3 a4 q4 a5 q5 a6 q6 a7 q7 a8 q8 a9 q9 a10 q10 hc0 hc1 hc2 hc3 hc4 x0 x1 x2 x3 x4 xs0 = k0_pay3 x0 x1 xs0 := by
  unfold sout0_C_0
  rw [View.read_writes_eq_canon _ _ _ (fun y => scover0_C_0 (y := y) ..)]
  unfold kernelRun0_C
  dsimp only
  sl_unfold_words
  rw [View.canon_unit_zero (S := S512x1024) hz]
  simp only [View.readAt_eq_ld, Memref.IsWhole.read_unread, View.ld_unit_zero (S := ⟨2, _⟩) hz, View.ld_unit_zero (S := ⟨4, _⟩) hz4]

/-- What case D leaves in the accumulator. -/
theorem sout_D_0 (hc0 : ¬cond0_0 i) (hc1 : cond0_1 i) (hc2 : cond0_2 i) (hc3 : ¬cond0_3 i) (hc4 : cond0_4 i) :
    sout0_D_0 c i a3 q3 a4 q4 a5 q5 a6 q6 a7 q7 a8 q8 a9 q9 a10 q10 hc0 hc1 hc2 hc3 hc4 x0 x1 x2 x3 x4 xo6 xs0 = k0_pay3 x0 x1 xs0 := by
  unfold sout0_D_0
  rw [View.read_writes_eq_canon _ _ _ (fun y => scover0_D_0 (y := y) ..)]
  unfold kernelRun0_D
  dsimp only
  sl_unfold_words
  rw [View.canon_unit_zero (S := S512x1024) hz]
  simp only [View.readAt_eq_ld, Memref.IsWhole.read_unread, View.ld_unit_zero (S := ⟨2, _⟩) hz, View.ld_unit_zero (S := ⟨4, _⟩) hz4]

/-- What case C leaves in the rows' gradient's block. -/
theorem out_C_5 (hc0 : ¬cond0_0 i) (hc1 : cond0_1 i) (hc2 : cond0_2 i) (hc3 : cond0_3 i) (hc4 : ¬cond0_4 i) :
    out0_C_5 c i a3 q3 a4 q4 a5 q5 a6 q6 a7 q7 a8 q8 a9 q9 a10 q10 hc0 hc1 hc2 hc3 hc4 x0 x1 x2 x3 x4 xs0 = k0_pay8 (k0_pay3 x0 x1 xs0) x2 x3 x4 := by
  unfold out0_C_5
  rw [View.read_writes_eq_canon _ _ _ (fun y => cover0_C_5 (y := y) ..)]
  unfold kernelRun0_C
  dsimp only
  sl_unfold_words
  rw [View.canon_unit_zero (S := S512x1024) hz]
  rw [View.readCov_unit_zero (S := S512x1024) _ hz]
  simp only [View.readAt_eq_ld, Memref.IsWhole.read_unread, View.ld_unit_zero (S := ⟨2, _⟩) hz, View.ld_unit_zero (S := ⟨4, _⟩) hz4]

/-- What case D leaves in the rows' gradient's block. -/
theorem out_D_5 (hc0 : ¬cond0_0 i) (hc1 : cond0_1 i) (hc2 : cond0_2 i) (hc3 : ¬cond0_3 i) (hc4 : cond0_4 i) :
    out0_D_5 c i a3 q3 a4 q4 a5 q5 a6 q6 a7 q7 a8 q8 a9 q9 a10 q10 hc0 hc1 hc2 hc3 hc4 x0 x1 x2 x3 x4 xo6 xs0 = k0_pay8 (k0_pay3 x0 x1 xs0) x2 x3 x4 := by
  unfold out0_D_5
  rw [View.read_writes_eq_canon _ _ _ (fun y => cover0_D_5 (y := y) ..)]
  unfold kernelRun0_D
  dsimp only
  sl_unfold_words
  rw [View.canon_unit_zero (S := S512x1024) hz]
  rw [View.readCov_unit_zero (S := S512x1024) _ hz]
  simp only [View.readAt_eq_ld, Memref.IsWhole.read_unread, View.ld_unit_zero (S := ⟨2, _⟩) hz, View.ld_unit_zero (S := ⟨4, _⟩) hz4]

/-- What case C leaves in the gain's gradient's block. -/
theorem out_C_6 (hc0 : ¬cond0_0 i) (hc1 : cond0_1 i) (hc2 : cond0_2 i) (hc3 : cond0_3 i) (hc4 : ¬cond0_4 i) :
    out0_C_6 c i a3 q3 a4 q4 a5 q5 a6 q6 a7 q7 a8 q8 a9 q9 a10 q10 hc0 hc1 hc2 hc3 hc4 x0 x1 x2 x3 x4 xs0 = k0_pay7 (k0_pay3 x0 x1 xs0) x2 := by
  unfold out0_C_6
  rw [View.read_writes_eq_canon _ _ _ (fun y => cover0_C_6 (y := y) ..)]
  unfold kernelRun0_C
  dsimp only
  sl_unfold_words
  rw [View.canon_unit_zero (S := S1x1024) hz]
  rw [View.readCov_unit_zero (S := S512x1024) _ hz]
  simp only [View.readAt_eq_ld, Memref.IsWhole.read_unread, View.ld_unit_zero (S := ⟨2, _⟩) hz, View.ld_unit_zero (S := ⟨4, _⟩) hz4]

/-- What case D leaves in the gain's gradient's block. -/
theorem out_D_6 (hc0 : ¬cond0_0 i) (hc1 : cond0_1 i) (hc2 : cond0_2 i) (hc3 : ¬cond0_3 i) (hc4 : cond0_4 i) :
    out0_D_6 c i a3 q3 a4 q4 a5 q5 a6 q6 a7 q7 a8 q8 a9 q9 a10 q10 hc0 hc1 hc2 hc3 hc4 x0 x1 x2 x3 x4 xo6 xs0 = k0_pay4 (k0_pay7 (k0_pay3 x0 x1 xs0) x2) xo6 := by
  unfold out0_D_6
  rw [View.read_writes_eq_canon _ _ _ (fun y => cover0_D_6 (y := y) ..)]
  unfold kernelRun0_D
  dsimp only
  sl_unfold_words
  rw [View.canon_unit_zero (S := S1x1024) hz]
  rw [View.readCov_unit_zero (S := S512x1024) _ hz]
  simp only [View.readAt_eq_ld, Memref.IsWhole.read_unread, View.ld_unit_zero (S := ⟨2, _⟩) hz, View.ld_unit_zero (S := ⟨4, _⟩) hz4]

variable (m : (ℓ : Loc nD τ sig) → Buf (Elt Ideal) ℓ)

/-- The rows' gradient of the launch contents. -/
def G5 (c : Dev nD) : FVec Ideal S8192x1024 .f32 := dh (m (c.tc.loc main_arg0)) (m (c.tc.loc main_arg1)) (m (c.tc.loc main_arg2)) (m (c.tc.loc main_arg3)) (m (c.tc.loc main_arg4))

/-- The gain's gradient of the launch contents. -/
def G6 (c : Dev nD) : FVec Ideal S1x1024 .f32 := dg (m (c.tc.loc main_arg0)) (m (c.tc.loc main_arg1)) (m (c.tc.loc main_arg2))

/-- The block indices of the windows at every point of the grid. -/
theorem index_facts : ∀ t : Fin cfg0.N,
    win0_0.index t (0 : Fin 2) = t.val / 4 ∧ win0_0.index t (1 : Fin 2) = t.val % 4
    ∧ win0_1.index t (0 : Fin 4) = t.val % 4 ∧ win0_1.index t (1 : Fin 4) = 0 ∧ win0_1.index t (2 : Fin 4) = 0 ∧ win0_1.index t (3 : Fin 4) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0
    ∧ win0_6.index t (0 : Fin 2) = 0 ∧ win0_6.index t (1 : Fin 2) = 0 :=
  (by decide +kernel : ∀ t : Fin grid0.N, _)

/-- A block of the cotangent operand holds its rows and columns. -/
theorem blk0 (c : Dev nD) (t : Fin cfg0.N) (k : Fin 512) (j : Fin 1408) (r : Fin 8192) (hr : r.val = 512 * (t.val / 4) + k.val)
    (q : Fin 5632) (hq : q.val = 1408 * (t.val % 4) + j.val) :
    (iblk m c 0 t (ix2 k j) : EReal) = m (c.tc.loc main_arg0) (ix2 r q) := by
  obtain ⟨h0a, h0b, -⟩ := index_facts t
  refine congrArg (m (c.tc.loc main_arg0)) (funext fun a => Fin.ext ?_)
  match a with
  | ⟨0, _⟩ => show win0_0.index t 0 * 512 + 1 * k.val = r.val; rw [h0a, hr]; omega
  | ⟨1, _⟩ => show win0_0.index t 1 * 1408 + 1 * j.val = q.val; rw [h0b, hq]; omega

/-- A block of the stacked weights holds its run of the layer's columns. -/
theorem blk1 (c : Dev nD) (t : Fin cfg0.N) (k : Fin 1024) (j : Fin 1408) (a : Fin 4) (ha : a.val = t.val % 4) (q : Fin 1408) (hq : q.val = j.val) :
    (iblk m c 1 t (ix4 (0 : Fin 1) (0 : Fin 1) k j) : EReal) = m (c.tc.loc main_arg1) (ix4 a (0 : Fin 2) k q) := by
  obtain ⟨-, -, h1a, h1b, h1c, h1d, -⟩ := index_facts t
  refine congrArg (m (c.tc.loc main_arg1)) (funext fun b => Fin.ext ?_)
  match b with
  | ⟨0, _⟩ => show win0_1.index t 0 * 1 + 1 * 0 = a.val; rw [h1a, ha]; omega
  | ⟨1, _⟩ => show win0_1.index t 1 * 1 + 1 * 0 = 0; rw [h1b]
  | ⟨2, _⟩ => show win0_1.index t 2 * 1024 + 1 * k.val = k.val; rw [h1c]; omega
  | ⟨3, _⟩ => show win0_1.index t 3 * 1408 + 1 * j.val = q.val; rw [h1d, hq]; omega

/-- A block of operand 2 holds the operand's entries of its place. -/
theorem blk2 (c : Dev nD) (t : Fin cfg0.N) (k : Fin 512) (j : Fin 1024) (r : Fin 8192) (hr : r.val = 512 * (t.val / 4) + k.val) :
    (iblk m c 2 t (ix2 k j) : EReal) = m (c.tc.loc main_arg2) (ix2 r j) := by
  obtain ⟨-, -, -, -, -, -, h2a, h2b, -⟩ := index_facts t
  refine congrArg (m (c.tc.loc main_arg2)) (funext fun a => Fin.ext ?_)
  match a with
  | ⟨0, _⟩ => show win0_2.index t 0 * 512 + 1 * k.val = r.val; rw [h2a, hr]; omega
  | ⟨1, _⟩ => show win0_2.index t 1 * 1024 + 1 * j.val = j.val; rw [h2b]; omega

/-- A block of operand 3 holds the operand's entries of its place. -/
theorem blk3 (c : Dev nD) (t : Fin cfg0.N)  (j : Fin 1024) :
    (iblk m c 3 t (ix2 (0 : Fin 1) j) : EReal) = m (c.tc.loc main_arg3) (ix2 (0 : Fin 1) j) := by
  obtain ⟨-, -, -, -, -, -, -, -, h3a, h3b, -⟩ := index_facts t
  refine congrArg (m (c.tc.loc main_arg3)) (funext fun a => Fin.ext ?_)
  match a with
  | ⟨0, _⟩ => show win0_3.index t 0 * 1 + 1 * 0 = 0; rw [h3a]
  | ⟨1, _⟩ => show win0_3.index t 1 * 1024 + 1 * j.val = j.val; rw [h3b]; omega

/-- A block of operand 4 holds the operand's entries of its place. -/
theorem blk4 (c : Dev nD) (t : Fin cfg0.N) (k : Fin 512) (j : Fin 1024) (r : Fin 8192) (hr : r.val = 512 * (t.val / 4) + k.val) :
    (iblk m c 4 t (ix2 k j) : EReal) = m (c.tc.loc main_arg4) (ix2 r j) := by
  obtain ⟨-, -, -, -, -, -, -, -, -, -, h4a, h4b, -⟩ := index_facts t
  refine congrArg (m (c.tc.loc main_arg4)) (funext fun a => Fin.ext ?_)
  match a with
  | ⟨0, _⟩ => show win0_4.index t 0 * 512 + 1 * k.val = r.val; rw [h4a, hr]; omega
  | ⟨1, _⟩ => show win0_4.index t 1 * 1024 + 1 * j.val = j.val; rw [h4b]; omega

/-- A point's product is its run of columns' part of the whole. -/
theorem point (c : Dev nD) (t : Fin cfg0.N) (y : S512x1024.Idx) (r : Fin 8192) (hr : r.val = 512 * (t.val / 4) + (y 0 : Nat)) :
    (k0_pay1 (iblk m c 0 t) (iblk m c 1 t) y : EReal) = Cert.Hand.runSum 1408 (dnCol (m (c.tc.loc main_arg0)) (m (c.tc.loc main_arg1)) r (y 1)) (t.val % 4) := by
  rw [pay1_apply]
  unfold Cert.Hand.runSum
  refine Finset.sum_congr rfl fun j _ => ?_
  have hj := j.isLt
  have h : 1408 * (t.val % 4) + j.val < 5632 := by omega
  rw [Cert.Hand.atNat_of_lt _ _ h]
  unfold dnCol
  exact congrArg₂ (· * ·) (blk0 m c t (y 0) j r hr _ rfl) (blk1 m c t (y 1) j _ (by dsimp only; omega) _ (by dsimp only; omega))

/-- What the accumulator holds after a point: the runs of columns so far. -/
theorem acc_eq (c : Dev nD) : ∀ (n : ℕ) (h : n < cfg0.N) (y : S512x1024.Idx) (r : Fin 8192) (_ : r.val = 512 * (n / 4) + (y 0 : Nat)),
    ((outsAt0 m c n h).2.2 y : EReal) = ∑ s ∈ Finset.range (n % 4 + 1), Cert.Hand.runSum 1408 (dnCol (m (c.tc.loc main_arg0)) (m (c.tc.loc main_arg1)) r (y 1)) s := by
  intro n
  induction n with
  | zero =>
    intro h y r hr
    rw [outsAt0_A m c ⟨0, h⟩ rfl (by dsimp only; omega) (by dsimp only; omega)]
    dsimp only
    rw [sout_A_0, pay2_eq, point m c ⟨0, h⟩ y r hr]
    simp
  | succ n ih =>
    intro h y r hr
    have hN : cfg0.N = 64 := N_0
    by_cases hA : (n + 1) % 4 = 0
    · rw [outsAt0_A m c ⟨n + 1, h⟩ hA (by dsimp only; omega) (by dsimp only; omega)]
      dsimp only
      rw [sout_A_0, pay2_eq, point m c ⟨n + 1, h⟩ y r hr]
      rw [hA, show Finset.range (0 + 1) = {0} from rfl, Finset.sum_singleton]
    · have hd : (n + 1) / 4 = n / 4 := by omega
      have hm : (n + 1) % 4 = n % 4 + 1 := by omega
      rw [Finset.sum_range_succ, hm, ← ih (Nat.lt_of_succ_lt h) y r (by simpa only [hd] using hr)]
      by_cases hC : (n + 1) % 4 = 3
      · by_cases hF : n + 1 < 4
        · rw [outsAt0_C m c ⟨n + 1, h⟩ hA (by dsimp only; omega) hC hF (by dsimp only; omega)]
          dsimp only
          rw [sout_C_0, pay3_apply, point m c ⟨n + 1, h⟩ y r hr]
          simp only [hm, Nat.add_sub_cancel]
        · rw [outsAt0_D m c ⟨n + 1, h⟩ hA (by dsimp only; omega) hC hF (by dsimp only; omega)]
          dsimp only
          rw [sout_D_0, pay3_apply, point m c ⟨n + 1, h⟩ y r hr]
          simp only [hm, Nat.add_sub_cancel]
      · rw [outsAt0_B m c ⟨n + 1, h⟩ hA (by dsimp only; omega) hC]
        dsimp only
        rw [sout_B_0, pay3_apply, point m c ⟨n + 1, h⟩ y r hr]
        simp only [hm, Nat.add_sub_cancel]

/-- After a row block's last point the accumulator holds the cotangents of its normalised rows. -/
theorem acc_last (c : Dev nD) (t : Fin cfg0.N) (ht : t.val % 4 = 3) (y : S512x1024.Idx) (r : Fin 8192) (hr : r.val = 512 * (t.val / 4) + (y 0 : Nat)) :
    ((outsAt0 m c t.val t.isLt).2.2 y : EReal) = dn (m (c.tc.loc main_arg0)) (m (c.tc.loc main_arg1)) r (y 1) := by
  refine (acc_eq m c t.val t.isLt y r hr).trans ?_
  rw [ht, Cert.Hand.sum_runs 4 1408 rfl]
  rfl

/-- What a row block's last point leaves in the rows' gradient's block, from what it leaves in the accumulator. -/
theorem last5 (c : Dev nD) (t : Fin cfg0.N) (ht : t.val % 4 = 3) :
    (outsAt0 m c t.val t.isLt).1 = k0_pay8 (outsAt0 m c t.val t.isLt).2.2 (iblk m c 2 t) (iblk m c 3 t) (iblk m c 4 t) := by
  have hN : cfg0.N = 64 := N_0
  have := t.isLt
  by_cases hF : t.val < 4
  · rw [outsAt0_C m c t (by omega) (by omega) ht hF (by omega)]
    dsimp only
    rw [out_C_5, sout_C_0]
  · rw [outsAt0_D m c t (by omega) (by omega) ht hF (by omega)]
    dsimp only
    rw [out_D_5, sout_D_0]

/-- A row block's part of the gain's gradient is its run of rows' part of the whole. -/
theorem point6 (c : Dev nD) (t : Fin cfg0.N) (ht : t.val % 4 = 3) (y J : S1x1024.Idx) (hJ : (J 1).val = (y 1).val) :
    (k0_pay7 (outsAt0 m c t.val t.isLt).2.2 (iblk m c 2 t) y : EReal) = Cert.Hand.runSum 512 (dgRow (m (c.tc.loc main_arg0)) (m (c.tc.loc main_arg1)) (m (c.tc.loc main_arg2)) J) (t.val / 4) := by
  rw [pay7_apply]
  unfold Cert.Hand.runSum
  refine Finset.sum_congr rfl fun k _ => ?_
  have hk := k.isLt
  have h64 : t.val < 64 := N_0 ▸ t.isLt
  have hr : 512 * (t.val / 4) + k.val < 8192 := by omega
  rw [Cert.Hand.atNat_of_lt _ _ hr]
  unfold dgRow
  rw [show J 1 = y 1 from Fin.ext hJ]
  exact Cert.Hand.gainBack_congr (fun j => blk2 m c t k j _ rfl) (fun q => acc_last m c t ht (ix2 k q) _ rfl) (y 1)

/-- What the gain's gradient's block holds once a row block is done: the runs of rows so far. -/
theorem acc6 (c : Dev nD) : ∀ (n : ℕ) (h : n < cfg0.N) (_ : 3 ≤ n) (y J : S1x1024.Idx) (_ : (J 1).val = (y 1).val),
    ((outsAt0 m c n h).2.1 y : EReal) = ∑ s ∈ Finset.range ((n + 1) / 4), Cert.Hand.runSum 512 (dgRow (m (c.tc.loc main_arg0)) (m (c.tc.loc main_arg1)) (m (c.tc.loc main_arg2)) J) s := by
  intro n
  induction n with
  | zero => intro h h3; omega
  | succ n ih =>
    intro h h3 y J h1
    have hN : cfg0.N = 64 := N_0
    by_cases hC : (n + 1) % 4 = 3
    · have e := point6 m c ⟨n + 1, h⟩ hC y J h1
      by_cases hF : n + 1 < 4
      · have hn : n = 2 := by omega
        subst hn
        rw [outsAt0_C m c ⟨2 + 1, h⟩ (by dsimp only; omega) (by dsimp only; omega) hC hF (by dsimp only; omega)] at e ⊢
        dsimp only at e ⊢
        rw [sout_C_0] at e
        rw [out_C_6, e]
        exact (Finset.sum_range_one _).symm
      · have hq : (n + 1 + 1) / 4 = (n + 1) / 4 + 1 := by omega
        rw [hq, Finset.sum_range_succ, ← ih (Nat.lt_of_succ_lt h) (by omega) y J h1]
        rw [outsAt0_D m c ⟨n + 1, h⟩ (by dsimp only; omega) (by dsimp only; omega) hC hF (by dsimp only; omega)] at e ⊢
        dsimp only at e ⊢
        rw [sout_D_0] at e
        rw [out_D_6, pay4_apply, e]
        simp only [Nat.add_sub_cancel]
    · have hq : (n + 1 + 1) / 4 = (n + 1) / 4 := by omega
      rw [hq, ← ih (Nat.lt_of_succ_lt h) (by omega) y J h1]
      by_cases hA : (n + 1) % 4 = 0
      · rw [outsAt0_A m c ⟨n + 1, h⟩ hA (by dsimp only; omega) (by dsimp only; omega)]
        rfl
      · rw [outsAt0_B m c ⟨n + 1, h⟩ hA (by dsimp only; omega) hC]
        rfl

/-- What a point writes back is its block of the rows' gradient. -/
theorem flushed_G5 (c : Dev nD) (t : Fin cfg0.N) (hf : (cfg0.win 5).flush t = true) :
    (dats m 0 c).flushed 5 t = ((cfg0.win 5).blk t).view.read (Elt Ideal) (G5 m c) := by
  obtain ⟨-, -, -, -, -, -, -, -, -, -, -, -, h5a, h5b, -⟩ := index_facts t
  have ht3 : t.val % 4 = 3 := (by decide +kernel : ∀ t : Fin grid0.N, win0_5.flush t = true → t.val % 4 = 3) t hf
  rw [Value.flushed5]
  funext y
  rw [View.read_apply]
  show ((outsAt0 m c t.val t.isLt).1 y : EReal) = _
  rw [last5 m c t ht3, pay8_apply]
  have ht : t.val < 64 := N_0 ▸ t.isLt
  have hk : (y 0 : Nat) < 512 := (y 0).isLt
  have e : (((cfg0.win 5).blk t).view.emb y : S8192x1024.Idx) = ix2 (⟨512 * (t.val / 4) + (y 0 : Nat), by omega⟩ : Fin 8192) (y 1) := by
    funext a
    apply Fin.ext
    match a with
    | ⟨0, _⟩ => show win0_5.index t 0 * 512 + 1 * (y 0 : Nat) = 512 * (t.val / 4) + (y 0 : Nat); rw [h5a]; omega
    | ⟨1, _⟩ => show win0_5.index t 1 * 1024 + 1 * (y 1 : Nat) = (y 1 : Nat); rw [h5b]; omega
  rw [e]
  unfold G5 dh
  exact congrArg₂ (· + ·) (Cert.Hand.normBack_congr (fun k => blk2 m c t (y 0) k _ rfl) (fun k => blk3 m c t k) (fun q => acc_last m c t ht3 (ix2 (y 0) q) _ rfl) (y 1))
    (blk4 m c t (y 0) (y 1) _ rfl)

/-- What the last point leaves in the gain's gradient's block. -/
theorem block6 (c : Dev nD) (t : Fin cfg0.N) (ht : t.val = 63) (y J : S1x1024.Idx) (h1 : (J 1).val = (y 1).val) :
    ((outsAt0 m c t.val t.isLt).2.1 y : EReal) = G6 m c J := by
  refine (acc6 m c t.val t.isLt (by omega) y J h1).trans ?_
  rw [ht, Cert.Hand.sum_runs 16 512 rfl]
  rfl

/-- What the last point writes back is the gain's gradient. -/
theorem flushed_G6 (c : Dev nD) (t : Fin cfg0.N) (hf : (cfg0.win 6).flush t = true) :
    (dats m 0 c).flushed 6 t = ((cfg0.win 6).blk t).view.read (Elt Ideal) (G6 m c) := by
  obtain ⟨-, -, -, -, -, -, -, -, -, -, -, -, -, -, -, h6b⟩ := index_facts t
  have ht : t.val = 63 := (by decide +kernel : ∀ t : Fin grid0.N, win0_6.flush t = true → t.val = 63) t hf
  rw [Value.flushed6]
  funext y
  rw [View.read_apply]
  refine block6 m c t ht y _ ?_
  show win0_6.index t 1 * 1024 + 1 * (y 1 : Nat) = (y 1 : Nat); rw [h6b]; omega

/-- Every block of the rows' gradient is some point's. -/
theorem covered5 : ∀ a : Fin 16, ∃ t : Fin grid0.N, (cfg0.win 5).flush t = true
    ∧ win0_5.index t (0 : Fin 2) = a.val ∧ win0_5.index t (1 : Fin 2) = 0 := by decide +kernel

/-- Some point writes the gain's gradient. -/
theorem covered6 : ∃ t : Fin grid0.N, (cfg0.win 6).flush t = true
    ∧ win0_6.index t (0 : Fin 2) = 0 ∧ win0_6.index t (1 : Fin 2) = 0 := by decide +kernel

/-- The rows' gradient's array after the run. -/
theorem final5 (c : Dev nD) : (dats m 0 c).arrAt 5 cfg0.N = G5 m c :=
  (dats m 0 c).arrAt_eq_of_cover 5 (G5 m c) (fun t hf => flushed_G5 m c t hf) fun i => by
    have h0 : (i 0 : Nat) < 8192 := (i 0).isLt
    have h1 : (i 1 : Nat) < 1024 := (i 1).isLt
    obtain ⟨t, hf, ha, hb⟩ := covered5 ⟨(i 0 : Nat) / 512, by omega⟩
    refine ⟨t, hf, ?_⟩
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [ha]; dsimp only; omega
    | ⟨1, _⟩ => show win0_5.index t 1 * 1024 ≤ (i 1 : Nat) ∧ (i 1 : Nat) < win0_5.index t 1 * 1024 + 1024
                rw [hb]; omega

/-- The gain's gradient's array after the run. -/
theorem final6 (c : Dev nD) : (dats m 0 c).arrAt 6 cfg0.N = G6 m c :=
  (dats m 0 c).arrAt_eq_of_cover 6 (G6 m c) (fun t hf => flushed_G6 m c t hf) fun i => by
    have h0 : (i 0 : Nat) < 1 := (i 0).isLt
    have h1 : (i 1 : Nat) < 1024 := (i 1).isLt
    obtain ⟨t, hf, ha, hb⟩ := covered6
    refine ⟨t, hf, ?_⟩
    show i ∈ ((View.whole main_v0_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [ha]; omega
    | ⟨1, _⟩ => show win0_6.index t 1 * 1024 ≤ (i 1 : Nat) ∧ (i 1 : Nat) < win0_6.index t 1 * 1024 + 1024
                rw [hb]; omega

end Cert.Up0DxIdeal.Hand

namespace Cert.Hand

open Idealize.ShloMosaic Idealize.SL.Sem

set_option maxHeartbeats 1000000 in
/-- The kernel's gradients and the host's are the same arrays. -/
theorem algebraic_up0Dx : Cert.algebraic_Up0DxIdeal_Up0DxRefIdeal := by
  intro m g m' g' _ hargs
  refine ⟨fun c => Cert.Up0DxIdeal.Hand.G5 m c, fun c => Cert.Up0DxIdeal.Hand.G6 m c, ?_, ?_⟩
  · refine (θ_run Cert.Up0DxIdeal.defs _ _).mono (fun r h c => ?_) (Cert.Up0DxIdeal.Value.run_blocks m g)
    exact ⟨(h c).1.trans (Cert.Up0DxIdeal.Hand.final5 m c), (h c).2.1.trans (Cert.Up0DxIdeal.Hand.final6 m c), (h c).2.2⟩
  · refine (θ_run Cert.Up0DxRefIdeal.defs _ _).mono (fun r h c => ?_) (Cert.Up0DxRefIdeal.Value.run m' g')
    refine ⟨(h c).1.trans ?_, (h c).2.1.trans ?_, (h c).2.2⟩
    · unfold Cert.Up0DxRefIdeal.Value.res_main_v45
      rw [(hargs c).1, (hargs c).2.1, (hargs c).2.2.1, (hargs c).2.2.2.1, (hargs c).2.2.2.2]
      funext i
      show _ = Cert.Up0DxIdeal.Hand.dh _ _ _ _ _ i
      unfold Cert.Up0DxIdeal.Hand.dh
      idx_vars i
      unfold Cert.Hand.normBack Cert.Hand.slope Cert.Hand.meanSq Cert.Up0DxIdeal.Hand.dn Cert.Up0DxIdeal.Hand.dnCol
      pointwise
      simp only [Finset.univ_unique, Finset.sum_singleton]
      ac_rfl
    · rw [(hargs c).1, (hargs c).2.1, (hargs c).2.2.1]
      funext i
      show _ = Cert.Up0DxIdeal.Hand.dg _ _ _ i
      unfold Cert.Up0DxIdeal.Hand.dg Cert.Up0DxIdeal.Hand.dgRow
      idx_vars i
      unfold Cert.Hand.gainBack Cert.Hand.meanSq Cert.Up0DxIdeal.Hand.dn Cert.Up0DxIdeal.Hand.dnCol
      pointwise
      simp only [Finset.univ_unique, Finset.sum_singleton]

end Cert.Hand

end
-- ==== Proof.QProjDxVal.lean ====
/- The backward pass of the query projection's input: its rows' gradient and its gain's. -/
module

public import proofs.«01_k».proof.Proof.Gen.QProjDxIdeal.Value
public import proofs.«01_k».proof.Proof.Gen.QProjDxRefIdeal.Run
public import proofs.«01_k».proof.Proof.NormBack
public import proofs.«01_k».proof.Proof.Runs
public import proofs.«01_k».proof.Defs
public import Idealize.ShloMosaic.Lib.Tactic

@[expose] public section

set_option maxRecDepth 16384

noncomputable section

namespace Cert.QProjDxIdeal.Hand

open Cert.QProjDxIdeal Cert.QProjDxIdeal.Gen Idealize.ShloMosaic Idealize.ShloMosaic.TcCoe Idealize.SL.Sem

/-- The cotangent of a normalised row: the product with the weight's rows. -/
def dn (x0 : FVec Ideal S8192x1024 .bf16) (x1 : FVec Ideal S1024x1024 .bf16) (r : Fin 8192) (k : Fin 1024) : EReal :=
  (∑ j : Fin 1024, (x0 (ix2 r j) : EReal) * x1 (ix2 k j))

/-- The rows' gradient, entry by entry. -/
def dh (x0 : FVec Ideal S8192x1024 .bf16) (x1 : FVec Ideal S1024x1024 .bf16) (x2 : FVec Ideal S8192x1024 .f32) (x3 : FVec Ideal S1x1024 .f32) (x4 : FVec Ideal S8192x1024 .f32) : FVec Ideal S8192x1024 .f32 := fun i =>
  Cert.Hand.normBack (fun k => x2 (ix2 (i 0) k)) (fun k => x3 (ix2 (0 : Fin 1) k)) (dn x0 x1 (i 0)) (i 1) + x4 (ix2 (i 0) (i 1))

/-- One row's part of the gain's gradient. -/
def dgRow (x0 : FVec Ideal S8192x1024 .bf16) (x1 : FVec Ideal S1024x1024 .bf16) (x2 : FVec Ideal S8192x1024 .f32) (i : S1x1024.Idx) (r : Fin 8192) : EReal :=
  Cert.Hand.gainBack (fun k => x2 (ix2 r k)) (dn x0 x1 r) (i 1)

/-- The gain's gradient, entry by entry. -/
def dg (x0 : FVec Ideal S8192x1024 .bf16) (x1 : FVec Ideal S1024x1024 .bf16) (x2 : FVec Ideal S8192x1024 .f32) : FVec Ideal S1x1024 .f32 := fun i => ∑ r : Fin 8192, dgRow x0 x1 x2 i r

theorem hz : (![0, 0] : Fin 2 → Nat) = fun _ => 0 := funext fun a => by fin_cases a <;> rfl

/-- One block's cotangent of its normalised rows. -/
def bdn (x0 : Vec Ideal S512x1024 .bf16) (x1 : Vec Ideal S1024x1024 .bf16) (r : Fin 512) (k : Fin 1024) : EReal :=
  (∑ j : Fin 1024, (x0 (ix2 r j) : EReal) * x1 (ix2 k j))

/-- One block of the rows' gradient at an index. -/
theorem pay5_apply (x0 : Vec Ideal S512x1024 .bf16) (x1 : Vec Ideal S1024x1024 .bf16) (x2 : Vec Ideal S512x1024 .f32) (x3 : Vec Ideal S1x1024 .f32) (x4 : Vec Ideal S512x1024 .f32) (y : S512x1024.Idx) :
    (k0_pay1 (k0_pay7 x0 x1 x2 x3) x4 y : EReal) = Cert.Hand.normBack (fun k => x2 (ix2 (y 0) k)) (fun k => x3 (ix2 (0 : Fin 1) k)) (bdn x0 x1 (y 0)) (y 1) + x4 (ix2 (y 0) (y 1)) := by
  idx_vars y
  unfold Cert.Hand.normBack Cert.Hand.slope Cert.Hand.meanSq bdn
  pointwise [k0_pay1, k0_pay7, k0_pay5, k0_pay4, k0_pay3]
  simp only [Finset.univ_unique, Finset.sum_singleton]

/-- One block's part of the gain's gradient at an index. -/
theorem pay6_apply (x0 : Vec Ideal S512x1024 .bf16) (x1 : Vec Ideal S1024x1024 .bf16) (x2 : Vec Ideal S512x1024 .f32) (y : S1x1024.Idx) :
    (k0_pay6 x0 x1 x2 y : EReal) = ∑ r : Fin 512, Cert.Hand.gainBack (fun k => x2 (ix2 r k)) (bdn x0 x1 r) (y 1) := by
  idx_vars y
  unfold Cert.Hand.gainBack Cert.Hand.meanSq bdn
  pointwise [k0_pay6, k0_pay5, k0_pay4, k0_pay3]

/-- A later point's store is what the gain's row held plus its part. -/
theorem pay2_apply (v : FVec Ideal S1x1024 .f32) (xo : Vec Ideal S1x1024 .f32) (y : S1x1024.Idx) :
    (k0_pay2 v xo y : EReal) = (xo y : EReal) + v y := by
  unfold k0_pay2
  rw [shapeCast_self]
  rfl

variable (c : Dev nD) (i : grid0.Coords) (a3 : Memref sig .tc .vmem S512x1024 .bf16) (q3 : a3.IsWhole) (a4 : Memref sig .tc .vmem S1024x1024 .bf16) (q4 : a4.IsWhole) (a5 : Memref sig .tc .vmem S512x1024 .f32) (q5 : a5.IsWhole) (a6 : Memref sig .tc .vmem S1x1024 .f32) (q6 : a6.IsWhole) (a7 : Memref sig .tc .vmem S512x1024 .f32) (q7 : a7.IsWhole) (a8 : Memref sig .tc .vmem S512x1024 .f32) (q8 : a8.IsWhole) (a9 : Memref sig .tc .vmem S1x1024 .f32) (q9 : a9.IsWhole)
  (x0 : Vec Ideal S512x1024 .bf16) (x1 : Vec Ideal S1024x1024 .bf16) (x2 : Vec Ideal S512x1024 .f32) (x3 : Vec Ideal S1x1024 .f32) (x4 : Vec Ideal S512x1024 .f32) (xo6 : Vec Ideal S1x1024 .f32)

/-- What case A leaves in the rows' gradient's block. -/
theorem out_A_5 (hc0 : cond0_0 i) (hc1 : ¬cond0_1 i) :
    out0_A_5 c i a3 q3 a4 q4 a5 q5 a6 q6 a7 q7 a8 q8 a9 q9 hc0 hc1 x0 x1 x2 x3 x4 = k0_pay1 (k0_pay7 x0 x1 x2 x3) x4 := by
  unfold out0_A_5
  rw [View.read_writes_eq_canon _ _ _ (fun y => cover0_A_5 (y := y) ..)]
  unfold kernelRun0_A
  dsimp only
  sl_unfold_words
  rw [View.canon_unit_zero (S := S512x1024) hz]
  simp only [View.readAt_eq_ld, Memref.IsWhole.read_unread, View.ld_unit_zero (S := ⟨2, _⟩) hz]

/-- What case A leaves in the gain's gradient's block. -/
theorem out_A_6 (hc0 : cond0_0 i) (hc1 : ¬cond0_1 i) :
    out0_A_6 c i a3 q3 a4 q4 a5 q5 a6 q6 a7 q7 a8 q8 a9 q9 hc0 hc1 x0 x1 x2 x3 x4 = k0_pay6 x0 x1 x2 := by
  unfold out0_A_6
  rw [View.read_writes_eq_canon _ _ _ (fun y => cover0_A_6 (y := y) ..)]
  unfold kernelRun0_A
  dsimp only
  sl_unfold_words
  rw [View.canon_unit_zero (S := S1x1024) hz]
  simp only [View.readAt_eq_ld, Memref.IsWhole.read_unread, View.ld_unit_zero (S := ⟨2, _⟩) hz]

/-- What case B leaves in the rows' gradient's block. -/
theorem out_B_5 (hc0 : ¬cond0_0 i) (hc1 : cond0_1 i) :
    out0_B_5 c i a3 q3 a4 q4 a5 q5 a6 q6 a7 q7 a8 q8 a9 q9 hc0 hc1 x0 x1 x2 x3 x4 xo6 = k0_pay1 (k0_pay7 x0 x1 x2 x3) x4 := by
  unfold out0_B_5
  rw [View.read_writes_eq_canon _ _ _ (fun y => cover0_B_5 (y := y) ..)]
  unfold kernelRun0_B
  dsimp only
  sl_unfold_words
  rw [View.canon_unit_zero (S := S512x1024) hz]
  simp only [View.readAt_eq_ld, Memref.IsWhole.read_unread, View.ld_unit_zero (S := ⟨2, _⟩) hz]

/-- What case B leaves in the gain's gradient's block. -/
theorem out_B_6 (hc0 : ¬cond0_0 i) (hc1 : cond0_1 i) :
    out0_B_6 c i a3 q3 a4 q4 a5 q5 a6 q6 a7 q7 a8 q8 a9 q9 hc0 hc1 x0 x1 x2 x3 x4 xo6 = k0_pay2 (k0_pay6 x0 x1 x2) xo6 := by
  unfold out0_B_6
  rw [View.read_writes_eq_canon _ _ _ (fun y => cover0_B_6 (y := y) ..)]
  unfold kernelRun0_B
  dsimp only
  sl_unfold_words
  rw [View.canon_unit_zero (S := S1x1024) hz]
  simp only [View.readAt_eq_ld, Memref.IsWhole.read_unread, View.ld_unit_zero (S := ⟨2, _⟩) hz]

variable (m : (ℓ : Loc nD τ sig) → Buf (Elt Ideal) ℓ)

/-- The rows' gradient of the launch contents. -/
def G5 (c : Dev nD) : FVec Ideal S8192x1024 .f32 := dh (m (c.tc.loc main_arg0)) (m (c.tc.loc main_arg1)) (m (c.tc.loc main_arg2)) (m (c.tc.loc main_arg3)) (m (c.tc.loc main_arg4))

/-- The gain's gradient of the launch contents. -/
def G6 (c : Dev nD) : FVec Ideal S1x1024 .f32 := dg (m (c.tc.loc main_arg0)) (m (c.tc.loc main_arg1)) (m (c.tc.loc main_arg2))

/-- The block indices of the windows at every point of the grid. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- A block of operand 0 holds the operand's entries of its place. -/
theorem blk0 (c : Dev nD) (t : Fin cfg0.N) (k : Fin 512) (j : Fin 1024) (r : Fin 8192) (hr : r.val = 512 * t.val + k.val) :
    (iblk m c 0 t (ix2 k j) : EReal) = m (c.tc.loc main_arg0) (ix2 r j) := by
  obtain ⟨h0a, h0b, -⟩ := index_facts t
  refine congrArg (m (c.tc.loc main_arg0)) (funext fun a => Fin.ext ?_)
  match a with
  | ⟨0, _⟩ => show win0_0.index t 0 * 512 + 1 * k.val = r.val; rw [h0a, hr]; omega
  | ⟨1, _⟩ => show win0_0.index t 1 * 1024 + 1 * j.val = j.val; rw [h0b]; omega

/-- A block of operand 1 holds the operand's entries of its place. -/
theorem blk1 (c : Dev nD) (t : Fin cfg0.N) (k : Fin 1024) (j : Fin 1024) :
    (iblk m c 1 t (ix2 k j) : EReal) = m (c.tc.loc main_arg1) (ix2 k j) := by
  obtain ⟨-, -, h1a, h1b, -⟩ := index_facts t
  refine congrArg (m (c.tc.loc main_arg1)) (funext fun a => Fin.ext ?_)
  match a with
  | ⟨0, _⟩ => show win0_1.index t 0 * 1024 + 1 * k.val = k.val; rw [h1a]; omega
  | ⟨1, _⟩ => show win0_1.index t 1 * 1024 + 1 * j.val = j.val; rw [h1b]; omega

/-- A block of operand 2 holds the operand's entries of its place. -/
theorem blk2 (c : Dev nD) (t : Fin cfg0.N) (k : Fin 512) (j : Fin 1024) (r : Fin 8192) (hr : r.val = 512 * t.val + k.val) :
    (iblk m c 2 t (ix2 k j) : EReal) = m (c.tc.loc main_arg2) (ix2 r j) := by
  obtain ⟨-, -, -, -, h2a, h2b, -⟩ := index_facts t
  refine congrArg (m (c.tc.loc main_arg2)) (funext fun a => Fin.ext ?_)
  match a with
  | ⟨0, _⟩ => show win0_2.index t 0 * 512 + 1 * k.val = r.val; rw [h2a, hr]; omega
  | ⟨1, _⟩ => show win0_2.index t 1 * 1024 + 1 * j.val = j.val; rw [h2b]; omega

/-- A block of operand 3 holds the operand's entries of its place. -/
theorem blk3 (c : Dev nD) (t : Fin cfg0.N)  (j : Fin 1024) :
    (iblk m c 3 t (ix2 (0 : Fin 1) j) : EReal) = m (c.tc.loc main_arg3) (ix2 (0 : Fin 1) j) := by
  obtain ⟨-, -, -, -, -, -, h3a, h3b, -⟩ := index_facts t
  refine congrArg (m (c.tc.loc main_arg3)) (funext fun a => Fin.ext ?_)
  match a with
  | ⟨0, _⟩ => show win0_3.index t 0 * 1 + 1 * 0 = 0; rw [h3a]
  | ⟨1, _⟩ => show win0_3.index t 1 * 1024 + 1 * j.val = j.val; rw [h3b]; omega

/-- A block of operand 4 holds the operand's entries of its place. -/
theorem blk4 (c : Dev nD) (t : Fin cfg0.N) (k : Fin 512) (j : Fin 1024) (r : Fin 8192) (hr : r.val = 512 * t.val + k.val) :
    (iblk m c 4 t (ix2 k j) : EReal) = m (c.tc.loc main_arg4) (ix2 r j) := by
  obtain ⟨-, -, -, -, -, -, -, -, h4a, h4b, -⟩ := index_facts t
  refine congrArg (m (c.tc.loc main_arg4)) (funext fun a => Fin.ext ?_)
  match a with
  | ⟨0, _⟩ => show win0_4.index t 0 * 512 + 1 * k.val = r.val; rw [h4a, hr]; omega
  | ⟨1, _⟩ => show win0_4.index t 1 * 1024 + 1 * j.val = j.val; rw [h4b]; omega

/-- A block's cotangents are its rows' cotangents. -/
theorem bdn_eq (c : Dev nD) (t : Fin cfg0.N) (k : Fin 512) (r : Fin 8192) (hr : r.val = 512 * t.val + k.val) (q : Fin 1024) :
    bdn (iblk m c 0 t) (iblk m c 1 t) k q = dn (m (c.tc.loc main_arg0)) (m (c.tc.loc main_arg1)) r q := by
  unfold bdn dn
  exact Finset.sum_congr rfl fun j _ => congrArg₂ (· * ·) (blk0 m c t k j r hr) (blk1 m c t q j)

/-- A point's part of the gain's gradient is its run of rows' part of the whole. -/
theorem point6 (c : Dev nD) (t : Fin cfg0.N) (y J : S1x1024.Idx) (hJ : (J 1).val = (y 1).val) :
    (k0_pay6 (iblk m c 0 t) (iblk m c 1 t) (iblk m c 2 t) y : EReal)
      = Cert.Hand.runSum 512 (dgRow (m (c.tc.loc main_arg0)) (m (c.tc.loc main_arg1)) (m (c.tc.loc main_arg2)) J) t.val := by
  rw [pay6_apply]
  unfold Cert.Hand.runSum
  refine Finset.sum_congr rfl fun k _ => ?_
  have hk := k.isLt
  have ht : t.val < 16 := N_0 ▸ t.isLt
  have hr : 512 * t.val + k.val < 8192 := by omega
  rw [Cert.Hand.atNat_of_lt _ _ hr]
  unfold dgRow
  rw [show J 1 = y 1 from Fin.ext hJ]
  exact Cert.Hand.gainBack_congr (fun j => blk2 m c t k j _ rfl) (fun q => bdn_eq m c t k _ rfl q) (y 1)

/-- What the gain's gradient's block holds after a point: the runs of rows so far. -/
theorem acc_eq (c : Dev nD) : ∀ (n : ℕ) (h : n < cfg0.N) (y J : S1x1024.Idx) (_ : (J 1).val = (y 1).val),
    ((outsAt0 m c n h).2 y : EReal)
      = ∑ s ∈ Finset.range (n + 1), Cert.Hand.runSum 512 (dgRow (m (c.tc.loc main_arg0)) (m (c.tc.loc main_arg1)) (m (c.tc.loc main_arg2)) J) s := by
  intro n
  induction n with
  | zero =>
    intro h y J h1
    rw [outsAt0_A m c ⟨0, h⟩ rfl (by dsimp only; omega)]
    dsimp only
    rw [out_A_6, point6 m c ⟨0, h⟩ y J h1]
    simp
  | succ n ih =>
    intro h y J h1
    have hN : cfg0.N = 16 := N_0
    rw [Finset.sum_range_succ, ← ih (Nat.lt_of_succ_lt h) y J h1]
    rw [outsAt0_B m c ⟨n + 1, h⟩ (by dsimp only; omega) (by dsimp only; omega)]
    dsimp only
    rw [out_B_6, pay2_apply, point6 m c ⟨n + 1, h⟩ y J h1]
    simp only [Nat.add_sub_cancel]

/-- What a point leaves in the rows' gradient's block. -/
theorem block5 (c : Dev nD) (t : Fin cfg0.N) :
    (outsAt0 m c t.val t.isLt).1 = k0_pay1 (k0_pay7 (iblk m c 0 t) (iblk m c 1 t) (iblk m c 2 t) (iblk m c 3 t)) (iblk m c 4 t) := by
  have hN : cfg0.N = 16 := N_0
  have := t.isLt
  by_cases h : t.val % 16 = 0
  · rw [outsAt0_A m c t h (by omega)]
    dsimp only
    rw [out_A_5]
  · rw [outsAt0_B m c t h (by omega)]
    dsimp only
    rw [out_B_5]

/-- What a point writes back is its block of the rows' gradient. -/
theorem flushed_G5 (c : Dev nD) (t : Fin cfg0.N) (hf : (cfg0.win 5).flush t = true) :
    (dats m 0 c).flushed 5 t = ((cfg0.win 5).blk t).view.read (Elt Ideal) (G5 m c) := by
  obtain ⟨-, -, -, -, -, -, -, -, -, -, h5a, h5b, -⟩ := index_facts t
  rw [Value.flushed5]
  funext y
  rw [View.read_apply]
  show ((outsAt0 m c t.val t.isLt).1 y : EReal) = _
  rw [block5, pay5_apply]
  have ht : t.val < 16 := N_0 ▸ t.isLt
  have hk : (y 0 : Nat) < 512 := (y 0).isLt
  have e : (((cfg0.win 5).blk t).view.emb y : S8192x1024.Idx) = ix2 (⟨512 * t.val + (y 0 : Nat), by omega⟩ : Fin 8192) (y 1) := by
    funext a
    apply Fin.ext
    match a with
    | ⟨0, _⟩ => show win0_5.index t 0 * 512 + 1 * (y 0 : Nat) = 512 * t.val + (y 0 : Nat); rw [h5a]; omega
    | ⟨1, _⟩ => show win0_5.index t 1 * 1024 + 1 * (y 1 : Nat) = (y 1 : Nat); rw [h5b]; omega
  rw [e]
  unfold G5 dh
  exact congrArg₂ (· + ·) (Cert.Hand.normBack_congr (fun k => blk2 m c t (y 0) k _ rfl) (fun k => blk3 m c t k) (fun q => bdn_eq m c t (y 0) _ rfl q) (y 1))
    (blk4 m c t (y 0) (y 1) _ rfl)

/-- What the last point leaves in the gain's gradient's block. -/
theorem block6 (c : Dev nD) (t : Fin cfg0.N) (ht : t.val = 15) (y J : S1x1024.Idx) (h1 : (J 1).val = (y 1).val) :
    ((outsAt0 m c t.val t.isLt).2 y : EReal) = G6 m c J := by
  refine (acc_eq m c t.val t.isLt y J h1).trans ?_
  rw [ht, Cert.Hand.sum_runs 16 512 rfl]
  rfl

/-- What the last point writes back is the gain's gradient. -/
theorem flushed_G6 (c : Dev nD) (t : Fin cfg0.N) (hf : (cfg0.win 6).flush t = true) :
    (dats m 0 c).flushed 6 t = ((cfg0.win 6).blk t).view.read (Elt Ideal) (G6 m c) := by
  obtain ⟨-, -, -, -, -, -, -, -, -, -, -, -, -, h6b⟩ := index_facts t
  have ht : t.val = 15 := (by decide +kernel : ∀ t : Fin grid0.N, win0_6.flush t = true → t.val = 15) t hf
  rw [Value.flushed6]
  funext y
  rw [View.read_apply]
  refine block6 m c t ht y _ ?_
  show win0_6.index t 1 * 1024 + 1 * (y 1 : Nat) = (y 1 : Nat); rw [h6b]; omega

/-- Every block of the rows' gradient is some point's. -/
theorem covered5 : ∀ a : Fin 16, ∃ t : Fin grid0.N, (cfg0.win 5).flush t = true
    ∧ win0_5.index t (0 : Fin 2) = a.val ∧ win0_5.index t (1 : Fin 2) = 0 := by decide +kernel

/-- Some point writes the gain's gradient. -/
theorem covered6 : ∃ t : Fin grid0.N, (cfg0.win 6).flush t = true
    ∧ win0_6.index t (0 : Fin 2) = 0 ∧ win0_6.index t (1 : Fin 2) = 0 := by decide +kernel

/-- The rows' gradient's array after the run. -/
theorem final5 (c : Dev nD) : (dats m 0 c).arrAt 5 cfg0.N = G5 m c :=
  (dats m 0 c).arrAt_eq_of_cover 5 (G5 m c) (fun t hf => flushed_G5 m c t hf) fun i => by
    have h0 : (i 0 : Nat) < 8192 := (i 0).isLt
    have h1 : (i 1 : Nat) < 1024 := (i 1).isLt
    obtain ⟨t, hf, ha, hb⟩ := covered5 ⟨(i 0 : Nat) / 512, by omega⟩
    refine ⟨t, hf, ?_⟩
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [ha]; dsimp only; omega
    | ⟨1, _⟩ => show win0_5.index t 1 * 1024 ≤ (i 1 : Nat) ∧ (i 1 : Nat) < win0_5.index t 1 * 1024 + 1024
                rw [hb]; omega

/-- The gain's gradient's array after the run. -/
theorem final6 (c : Dev nD) : (dats m 0 c).arrAt 6 cfg0.N = G6 m c :=
  (dats m 0 c).arrAt_eq_of_cover 6 (G6 m c) (fun t hf => flushed_G6 m c t hf) fun i => by
    have h0 : (i 0 : Nat) < 1 := (i 0).isLt
    have h1 : (i 1 : Nat) < 1024 := (i 1).isLt
    obtain ⟨t, hf, ha, hb⟩ := covered6
    refine ⟨t, hf, ?_⟩
    show i ∈ ((View.whole main_v0_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [ha]; omega
    | ⟨1, _⟩ => show win0_6.index t 1 * 1024 ≤ (i 1 : Nat) ∧ (i 1 : Nat) < win0_6.index t 1 * 1024 + 1024
                rw [hb]; omega

end Cert.QProjDxIdeal.Hand

namespace Cert.Hand

open Idealize.ShloMosaic Idealize.SL.Sem

set_option maxHeartbeats 1000000 in
/-- The kernel's gradients and the host's are the same arrays. -/
theorem algebraic_qProjDx : Cert.algebraic_QProjDxIdeal_QProjDxRefIdeal := by
  intro m g m' g' _ hargs
  refine ⟨fun c => Cert.QProjDxIdeal.Hand.G5 m c, fun c => Cert.QProjDxIdeal.Hand.G6 m c, ?_, ?_⟩
  · refine (θ_run Cert.QProjDxIdeal.defs _ _).mono (fun r h c => ?_) (Cert.QProjDxIdeal.Value.run_blocks m g)
    exact ⟨(h c).1.trans (Cert.QProjDxIdeal.Hand.final5 m c), (h c).2.1.trans (Cert.QProjDxIdeal.Hand.final6 m c), (h c).2.2⟩
  · refine (θ_run Cert.QProjDxRefIdeal.defs _ _).mono (fun r h c => ?_) (Cert.QProjDxRefIdeal.Value.run m' g')
    refine ⟨(h c).1.trans ?_, (h c).2.1.trans ?_, (h c).2.2⟩
    · unfold Cert.QProjDxRefIdeal.Value.res_main_v41
      rw [(hargs c).1, (hargs c).2.1, (hargs c).2.2.1, (hargs c).2.2.2.1, (hargs c).2.2.2.2]
      funext i
      show _ = Cert.QProjDxIdeal.Hand.dh _ _ _ _ _ i
      unfold Cert.QProjDxIdeal.Hand.dh
      idx_vars i
      unfold Cert.Hand.normBack Cert.Hand.slope Cert.Hand.meanSq Cert.QProjDxIdeal.Hand.dn
      pointwise
      simp only [Finset.univ_unique, Finset.sum_singleton]
      ac_rfl
    · rw [(hargs c).1, (hargs c).2.1, (hargs c).2.2.1]
      funext i
      show _ = Cert.QProjDxIdeal.Hand.dg _ _ _ i
      unfold Cert.QProjDxIdeal.Hand.dg Cert.QProjDxIdeal.Hand.dgRow
      idx_vars i
      unfold Cert.Hand.gainBack Cert.Hand.meanSq Cert.QProjDxIdeal.Hand.dn
      pointwise
      simp only [Finset.univ_unique, Finset.sum_singleton]

end Cert.Hand

end
-- ==== Proof.KvProjDxVal.lean ====
/- The backward pass of the key and value projection's input: its rows' gradient and its gain's. -/
module

public import proofs.«01_k».proof.Proof.Gen.KvProjDxIdeal.Value
public import proofs.«01_k».proof.Proof.Gen.KvProjDxRefIdeal.Run
public import proofs.«01_k».proof.Proof.NormBack
public import proofs.«01_k».proof.Proof.Runs
public import proofs.«01_k».proof.Defs
public import Idealize.ShloMosaic.Lib.Tactic

@[expose] public section

set_option maxRecDepth 16384

noncomputable section

namespace Cert.KvProjDxIdeal.Hand

open Cert.KvProjDxIdeal Cert.KvProjDxIdeal.Gen Idealize.ShloMosaic Idealize.ShloMosaic.TcCoe Idealize.SL.Sem

/-- The cotangent of a normalised row: the product with the weight's rows. -/
def dn (x0 : FVec Ideal S8192x512 .bf16) (x1 : FVec Ideal S1024x512 .bf16) (r : Fin 8192) (k : Fin 1024) : EReal :=
  (∑ j : Fin 512, (x0 (ix2 r j) : EReal) * x1 (ix2 k j))

/-- The rows' gradient, entry by entry. -/
def dh (x0 : FVec Ideal S8192x512 .bf16) (x1 : FVec Ideal S1024x512 .bf16) (x2 : FVec Ideal S8192x1024 .f32) (x3 : FVec Ideal S1x1024 .f32) (x4 : FVec Ideal S8192x1024 .f32) : FVec Ideal S8192x1024 .f32 := fun i =>
  Cert.Hand.normBack (fun k => x2 (ix2 (i 0) k)) (fun k => x3 (ix2 (0 : Fin 1) k)) (dn x0 x1 (i 0)) (i 1) + x4 (ix2 (i 0) (i 1))

/-- One row's part of the gain's gradient. -/
def dgRow (x0 : FVec Ideal S8192x512 .bf16) (x1 : FVec Ideal S1024x512 .bf16) (x2 : FVec Ideal S8192x1024 .f32) (i : S1x1024.Idx) (r : Fin 8192) : EReal :=
  Cert.Hand.gainBack (fun k => x2 (ix2 r k)) (dn x0 x1 r) (i 1)

/-- The gain's gradient, entry by entry. -/
def dg (x0 : FVec Ideal S8192x512 .bf16) (x1 : FVec Ideal S1024x512 .bf16) (x2 : FVec Ideal S8192x1024 .f32) : FVec Ideal S1x1024 .f32 := fun i => ∑ r : Fin 8192, dgRow x0 x1 x2 i r

theorem hz : (![0, 0] : Fin 2 → Nat) = fun _ => 0 := funext fun a => by fin_cases a <;> rfl

/-- One block's cotangent of its normalised rows. -/
def bdn (x0 : Vec Ideal S512x512 .bf16) (x1 : Vec Ideal S1024x512 .bf16) (r : Fin 512) (k : Fin 1024) : EReal :=
  (∑ j : Fin 512, (x0 (ix2 r j) : EReal) * x1 (ix2 k j))

/-- One block of the rows' gradient at an index. -/
theorem pay5_apply (x0 : Vec Ideal S512x512 .bf16) (x1 : Vec Ideal S1024x512 .bf16) (x2 : Vec Ideal S512x1024 .f32) (x3 : Vec Ideal S1x1024 .f32) (x4 : Vec Ideal S512x1024 .f32) (y : S512x1024.Idx) :
    (k0_pay1 (k0_pay7 x0 x1 x2 x3) x4 y : EReal) = Cert.Hand.normBack (fun k => x2 (ix2 (y 0) k)) (fun k => x3 (ix2 (0 : Fin 1) k)) (bdn x0 x1 (y 0)) (y 1) + x4 (ix2 (y 0) (y 1)) := by
  idx_vars y
  unfold Cert.Hand.normBack Cert.Hand.slope Cert.Hand.meanSq bdn
  pointwise [k0_pay1, k0_pay7, k0_pay5, k0_pay4, k0_pay3]
  simp only [Finset.univ_unique, Finset.sum_singleton]

/-- One block's part of the gain's gradient at an index. -/
theorem pay6_apply (x0 : Vec Ideal S512x512 .bf16) (x1 : Vec Ideal S1024x512 .bf16) (x2 : Vec Ideal S512x1024 .f32) (y : S1x1024.Idx) :
    (k0_pay6 x0 x1 x2 y : EReal) = ∑ r : Fin 512, Cert.Hand.gainBack (fun k => x2 (ix2 r k)) (bdn x0 x1 r) (y 1) := by
  idx_vars y
  unfold Cert.Hand.gainBack Cert.Hand.meanSq bdn
  pointwise [k0_pay6, k0_pay5, k0_pay4, k0_pay3]

/-- A later point's store is what the gain's row held plus its part. -/
theorem pay2_apply (v : FVec Ideal S1x1024 .f32) (xo : Vec Ideal S1x1024 .f32) (y : S1x1024.Idx) :
    (k0_pay2 v xo y : EReal) = (xo y : EReal) + v y := by
  unfold k0_pay2
  rw [shapeCast_self]
  rfl

variable (c : Dev nD) (i : grid0.Coords) (a3 : Memref sig .tc .vmem S512x512 .bf16) (q3 : a3.IsWhole) (a4 : Memref sig .tc .vmem S1024x512 .bf16) (q4 : a4.IsWhole) (a5 : Memref sig .tc .vmem S512x1024 .f32) (q5 : a5.IsWhole) (a6 : Memref sig .tc .vmem S1x1024 .f32) (q6 : a6.IsWhole) (a7 : Memref sig .tc .vmem S512x1024 .f32) (q7 : a7.IsWhole) (a8 : Memref sig .tc .vmem S512x1024 .f32) (q8 : a8.IsWhole) (a9 : Memref sig .tc .vmem S1x1024 .f32) (q9 : a9.IsWhole)
  (x0 : Vec Ideal S512x512 .bf16) (x1 : Vec Ideal S1024x512 .bf16) (x2 : Vec Ideal S512x1024 .f32) (x3 : Vec Ideal S1x1024 .f32) (x4 : Vec Ideal S512x1024 .f32) (xo6 : Vec Ideal S1x1024 .f32)

/-- What case A leaves in the rows' gradient's block. -/
theorem out_A_5 (hc0 : cond0_0 i) (hc1 : ¬cond0_1 i) :
    out0_A_5 c i a3 q3 a4 q4 a5 q5 a6 q6 a7 q7 a8 q8 a9 q9 hc0 hc1 x0 x1 x2 x3 x4 = k0_pay1 (k0_pay7 x0 x1 x2 x3) x4 := by
  unfold out0_A_5
  rw [View.read_writes_eq_canon _ _ _ (fun y => cover0_A_5 (y := y) ..)]
  unfold kernelRun0_A
  dsimp only
  sl_unfold_words
  rw [View.canon_unit_zero (S := S512x1024) hz]
  simp only [View.readAt_eq_ld, Memref.IsWhole.read_unread, View.ld_unit_zero (S := ⟨2, _⟩) hz]

/-- What case A leaves in the gain's gradient's block. -/
theorem out_A_6 (hc0 : cond0_0 i) (hc1 : ¬cond0_1 i) :
    out0_A_6 c i a3 q3 a4 q4 a5 q5 a6 q6 a7 q7 a8 q8 a9 q9 hc0 hc1 x0 x1 x2 x3 x4 = k0_pay6 x0 x1 x2 := by
  unfold out0_A_6
  rw [View.read_writes_eq_canon _ _ _ (fun y => cover0_A_6 (y := y) ..)]
  unfold kernelRun0_A
  dsimp only
  sl_unfold_words
  rw [View.canon_unit_zero (S := S1x1024) hz]
  simp only [View.readAt_eq_ld, Memref.IsWhole.read_unread, View.ld_unit_zero (S := ⟨2, _⟩) hz]

/-- What case B leaves in the rows' gradient's block. -/
theorem out_B_5 (hc0 : ¬cond0_0 i) (hc1 : cond0_1 i) :
    out0_B_5 c i a3 q3 a4 q4 a5 q5 a6 q6 a7 q7 a8 q8 a9 q9 hc0 hc1 x0 x1 x2 x3 x4 xo6 = k0_pay1 (k0_pay7 x0 x1 x2 x3) x4 := by
  unfold out0_B_5
  rw [View.read_writes_eq_canon _ _ _ (fun y => cover0_B_5 (y := y) ..)]
  unfold kernelRun0_B
  dsimp only
  sl_unfold_words
  rw [View.canon_unit_zero (S := S512x1024) hz]
  simp only [View.readAt_eq_ld, Memref.IsWhole.read_unread, View.ld_unit_zero (S := ⟨2, _⟩) hz]

/-- What case B leaves in the gain's gradient's block. -/
theorem out_B_6 (hc0 : ¬cond0_0 i) (hc1 : cond0_1 i) :
    out0_B_6 c i a3 q3 a4 q4 a5 q5 a6 q6 a7 q7 a8 q8 a9 q9 hc0 hc1 x0 x1 x2 x3 x4 xo6 = k0_pay2 (k0_pay6 x0 x1 x2) xo6 := by
  unfold out0_B_6
  rw [View.read_writes_eq_canon _ _ _ (fun y => cover0_B_6 (y := y) ..)]
  unfold kernelRun0_B
  dsimp only
  sl_unfold_words
  rw [View.canon_unit_zero (S := S1x1024) hz]
  simp only [View.readAt_eq_ld, Memref.IsWhole.read_unread, View.ld_unit_zero (S := ⟨2, _⟩) hz]

variable (m : (ℓ : Loc nD τ sig) → Buf (Elt Ideal) ℓ)

/-- The rows' gradient of the launch contents. -/
def G5 (c : Dev nD) : FVec Ideal S8192x1024 .f32 := dh (m (c.tc.loc main_arg0)) (m (c.tc.loc main_arg1)) (m (c.tc.loc main_arg2)) (m (c.tc.loc main_arg3)) (m (c.tc.loc main_arg4))

/-- The gain's gradient of the launch contents. -/
def G6 (c : Dev nD) : FVec Ideal S1x1024 .f32 := dg (m (c.tc.loc main_arg0)) (m (c.tc.loc main_arg1)) (m (c.tc.loc main_arg2))

/-- The block indices of the windows at every point of the grid. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- A block of operand 0 holds the operand's entries of its place. -/
theorem blk0 (c : Dev nD) (t : Fin cfg0.N) (k : Fin 512) (j : Fin 512) (r : Fin 8192) (hr : r.val = 512 * t.val + k.val) :
    (iblk m c 0 t (ix2 k j) : EReal) = m (c.tc.loc main_arg0) (ix2 r j) := by
  obtain ⟨h0a, h0b, -⟩ := index_facts t
  refine congrArg (m (c.tc.loc main_arg0)) (funext fun a => Fin.ext ?_)
  match a with
  | ⟨0, _⟩ => show win0_0.index t 0 * 512 + 1 * k.val = r.val; rw [h0a, hr]; omega
  | ⟨1, _⟩ => show win0_0.index t 1 * 512 + 1 * j.val = j.val; rw [h0b]; omega

/-- A block of operand 1 holds the operand's entries of its place. -/
theorem blk1 (c : Dev nD) (t : Fin cfg0.N) (k : Fin 1024) (j : Fin 512) :
    (iblk m c 1 t (ix2 k j) : EReal) = m (c.tc.loc main_arg1) (ix2 k j) := by
  obtain ⟨-, -, h1a, h1b, -⟩ := index_facts t
  refine congrArg (m (c.tc.loc main_arg1)) (funext fun a => Fin.ext ?_)
  match a with
  | ⟨0, _⟩ => show win0_1.index t 0 * 1024 + 1 * k.val = k.val; rw [h1a]; omega
  | ⟨1, _⟩ => show win0_1.index t 1 * 512 + 1 * j.val = j.val; rw [h1b]; omega

/-- A block of operand 2 holds the operand's entries of its place. -/
theorem blk2 (c : Dev nD) (t : Fin cfg0.N) (k : Fin 512) (j : Fin 1024) (r : Fin 8192) (hr : r.val = 512 * t.val + k.val) :
    (iblk m c 2 t (ix2 k j) : EReal) = m (c.tc.loc main_arg2) (ix2 r j) := by
  obtain ⟨-, -, -, -, h2a, h2b, -⟩ := index_facts t
  refine congrArg (m (c.tc.loc main_arg2)) (funext fun a => Fin.ext ?_)
  match a with
  | ⟨0, _⟩ => show win0_2.index t 0 * 512 + 1 * k.val = r.val; rw [h2a, hr]; omega
  | ⟨1, _⟩ => show win0_2.index t 1 * 1024 + 1 * j.val = j.val; rw [h2b]; omega

/-- A block of operand 3 holds the operand's entries of its place. -/
theorem blk3 (c : Dev nD) (t : Fin cfg0.N)  (j : Fin 1024) :
    (iblk m c 3 t (ix2 (0 : Fin 1) j) : EReal) = m (c.tc.loc main_arg3) (ix2 (0 : Fin 1) j) := by
  obtain ⟨-, -, -, -, -, -, h3a, h3b, -⟩ := index_facts t
  refine congrArg (m (c.tc.loc main_arg3)) (funext fun a => Fin.ext ?_)
  match a with
  | ⟨0, _⟩ => show win0_3.index t 0 * 1 + 1 * 0 = 0; rw [h3a]
  | ⟨1, _⟩ => show win0_3.index t 1 * 1024 + 1 * j.val = j.val; rw [h3b]; omega

/-- A block of operand 4 holds the operand's entries of its place. -/
theorem blk4 (c : Dev nD) (t : Fin cfg0.N) (k : Fin 512) (j : Fin 1024) (r : Fin 8192) (hr : r.val = 512 * t.val + k.val) :
    (iblk m c 4 t (ix2 k j) : EReal) = m (c.tc.loc main_arg4) (ix2 r j) := by
  obtain ⟨-, -, -, -, -, -, -, -, h4a, h4b, -⟩ := index_facts t
  refine congrArg (m (c.tc.loc main_arg4)) (funext fun a => Fin.ext ?_)
  match a with
  | ⟨0, _⟩ => show win0_4.index t 0 * 512 + 1 * k.val = r.val; rw [h4a, hr]; omega
  | ⟨1, _⟩ => show win0_4.index t 1 * 1024 + 1 * j.val = j.val; rw [h4b]; omega

/-- A block's cotangents are its rows' cotangents. -/
theorem bdn_eq (c : Dev nD) (t : Fin cfg0.N) (k : Fin 512) (r : Fin 8192) (hr : r.val = 512 * t.val + k.val) (q : Fin 1024) :
    bdn (iblk m c 0 t) (iblk m c 1 t) k q = dn (m (c.tc.loc main_arg0)) (m (c.tc.loc main_arg1)) r q := by
  unfold bdn dn
  exact Finset.sum_congr rfl fun j _ => congrArg₂ (· * ·) (blk0 m c t k j r hr) (blk1 m c t q j)

/-- A point's part of the gain's gradient is its run of rows' part of the whole. -/
theorem point6 (c : Dev nD) (t : Fin cfg0.N) (y J : S1x1024.Idx) (hJ : (J 1).val = (y 1).val) :
    (k0_pay6 (iblk m c 0 t) (iblk m c 1 t) (iblk m c 2 t) y : EReal)
      = Cert.Hand.runSum 512 (dgRow (m (c.tc.loc main_arg0)) (m (c.tc.loc main_arg1)) (m (c.tc.loc main_arg2)) J) t.val := by
  rw [pay6_apply]
  unfold Cert.Hand.runSum
  refine Finset.sum_congr rfl fun k _ => ?_
  have hk := k.isLt
  have ht : t.val < 16 := N_0 ▸ t.isLt
  have hr : 512 * t.val + k.val < 8192 := by omega
  rw [Cert.Hand.atNat_of_lt _ _ hr]
  unfold dgRow
  rw [show J 1 = y 1 from Fin.ext hJ]
  exact Cert.Hand.gainBack_congr (fun j => blk2 m c t k j _ rfl) (fun q => bdn_eq m c t k _ rfl q) (y 1)

/-- What the gain's gradient's block holds after a point: the runs of rows so far. -/
theorem acc_eq (c : Dev nD) : ∀ (n : ℕ) (h : n < cfg0.N) (y J : S1x1024.Idx) (_ : (J 1).val = (y 1).val),
    ((outsAt0 m c n h).2 y : EReal)
      = ∑ s ∈ Finset.range (n + 1), Cert.Hand.runSum 512 (dgRow (m (c.tc.loc main_arg0)) (m (c.tc.loc main_arg1)) (m (c.tc.loc main_arg2)) J) s := by
  intro n
  induction n with
  | zero =>
    intro h y J h1
    rw [outsAt0_A m c ⟨0, h⟩ rfl (by dsimp only; omega)]
    dsimp only
    rw [out_A_6, point6 m c ⟨0, h⟩ y J h1]
    simp
  | succ n ih =>
    intro h y J h1
    have hN : cfg0.N = 16 := N_0
    rw [Finset.sum_range_succ, ← ih (Nat.lt_of_succ_lt h) y J h1]
    rw [outsAt0_B m c ⟨n + 1, h⟩ (by dsimp only; omega) (by dsimp only; omega)]
    dsimp only
    rw [out_B_6, pay2_apply, point6 m c ⟨n + 1, h⟩ y J h1]
    simp only [Nat.add_sub_cancel]

/-- What a point leaves in the rows' gradient's block. -/
theorem block5 (c : Dev nD) (t : Fin cfg0.N) :
    (outsAt0 m c t.val t.isLt).1 = k0_pay1 (k0_pay7 (iblk m c 0 t) (iblk m c 1 t) (iblk m c 2 t) (iblk m c 3 t)) (iblk m c 4 t) := by
  have hN : cfg0.N = 16 := N_0
  have := t.isLt
  by_cases h : t.val % 16 = 0
  · rw [outsAt0_A m c t h (by omega)]
    dsimp only
    rw [out_A_5]
  · rw [outsAt0_B m c t h (by omega)]
    dsimp only
    rw [out_B_5]

/-- What a point writes back is its block of the rows' gradient. -/
theorem flushed_G5 (c : Dev nD) (t : Fin cfg0.N) (hf : (cfg0.win 5).flush t = true) :
    (dats m 0 c).flushed 5 t = ((cfg0.win 5).blk t).view.read (Elt Ideal) (G5 m c) := by
  obtain ⟨-, -, -, -, -, -, -, -, -, -, h5a, h5b, -⟩ := index_facts t
  rw [Value.flushed5]
  funext y
  rw [View.read_apply]
  show ((outsAt0 m c t.val t.isLt).1 y : EReal) = _
  rw [block5, pay5_apply]
  have ht : t.val < 16 := N_0 ▸ t.isLt
  have hk : (y 0 : Nat) < 512 := (y 0).isLt
  have e : (((cfg0.win 5).blk t).view.emb y : S8192x1024.Idx) = ix2 (⟨512 * t.val + (y 0 : Nat), by omega⟩ : Fin 8192) (y 1) := by
    funext a
    apply Fin.ext
    match a with
    | ⟨0, _⟩ => show win0_5.index t 0 * 512 + 1 * (y 0 : Nat) = 512 * t.val + (y 0 : Nat); rw [h5a]; omega
    | ⟨1, _⟩ => show win0_5.index t 1 * 1024 + 1 * (y 1 : Nat) = (y 1 : Nat); rw [h5b]; omega
  rw [e]
  unfold G5 dh
  exact congrArg₂ (· + ·) (Cert.Hand.normBack_congr (fun k => blk2 m c t (y 0) k _ rfl) (fun k => blk3 m c t k) (fun q => bdn_eq m c t (y 0) _ rfl q) (y 1))
    (blk4 m c t (y 0) (y 1) _ rfl)

/-- What the last point leaves in the gain's gradient's block. -/
theorem block6 (c : Dev nD) (t : Fin cfg0.N) (ht : t.val = 15) (y J : S1x1024.Idx) (h1 : (J 1).val = (y 1).val) :
    ((outsAt0 m c t.val t.isLt).2 y : EReal) = G6 m c J := by
  refine (acc_eq m c t.val t.isLt y J h1).trans ?_
  rw [ht, Cert.Hand.sum_runs 16 512 rfl]
  rfl

/-- What the last point writes back is the gain's gradient. -/
theorem flushed_G6 (c : Dev nD) (t : Fin cfg0.N) (hf : (cfg0.win 6).flush t = true) :
    (dats m 0 c).flushed 6 t = ((cfg0.win 6).blk t).view.read (Elt Ideal) (G6 m c) := by
  obtain ⟨-, -, -, -, -, -, -, -, -, -, -, -, -, h6b⟩ := index_facts t
  have ht : t.val = 15 := (by decide +kernel : ∀ t : Fin grid0.N, win0_6.flush t = true → t.val = 15) t hf
  rw [Value.flushed6]
  funext y
  rw [View.read_apply]
  refine block6 m c t ht y _ ?_
  show win0_6.index t 1 * 1024 + 1 * (y 1 : Nat) = (y 1 : Nat); rw [h6b]; omega

/-- Every block of the rows' gradient is some point's. -/
theorem covered5 : ∀ a : Fin 16, ∃ t : Fin grid0.N, (cfg0.win 5).flush t = true
    ∧ win0_5.index t (0 : Fin 2) = a.val ∧ win0_5.index t (1 : Fin 2) = 0 := by decide +kernel

/-- Some point writes the gain's gradient. -/
theorem covered6 : ∃ t : Fin grid0.N, (cfg0.win 6).flush t = true
    ∧ win0_6.index t (0 : Fin 2) = 0 ∧ win0_6.index t (1 : Fin 2) = 0 := by decide +kernel

/-- The rows' gradient's array after the run. -/
theorem final5 (c : Dev nD) : (dats m 0 c).arrAt 5 cfg0.N = G5 m c :=
  (dats m 0 c).arrAt_eq_of_cover 5 (G5 m c) (fun t hf => flushed_G5 m c t hf) fun i => by
    have h0 : (i 0 : Nat) < 8192 := (i 0).isLt
    have h1 : (i 1 : Nat) < 1024 := (i 1).isLt
    obtain ⟨t, hf, ha, hb⟩ := covered5 ⟨(i 0 : Nat) / 512, by omega⟩
    refine ⟨t, hf, ?_⟩
    show i ∈ ((View.whole main_v0_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [ha]; dsimp only; omega
    | ⟨1, _⟩ => show win0_5.index t 1 * 1024 ≤ (i 1 : Nat) ∧ (i 1 : Nat) < win0_5.index t 1 * 1024 + 1024
                rw [hb]; omega

/-- The gain's gradient's array after the run. -/
theorem final6 (c : Dev nD) : (dats m 0 c).arrAt 6 cfg0.N = G6 m c :=
  (dats m 0 c).arrAt_eq_of_cover 6 (G6 m c) (fun t hf => flushed_G6 m c t hf) fun i => by
    have h0 : (i 0 : Nat) < 1 := (i 0).isLt
    have h1 : (i 1 : Nat) < 1024 := (i 1).isLt
    obtain ⟨t, hf, ha, hb⟩ := covered6
    refine ⟨t, hf, ?_⟩
    show i ∈ ((View.whole main_v0_1).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [ha]; omega
    | ⟨1, _⟩ => show win0_6.index t 1 * 1024 ≤ (i 1 : Nat) ∧ (i 1 : Nat) < win0_6.index t 1 * 1024 + 1024
                rw [hb]; omega

end Cert.KvProjDxIdeal.Hand

namespace Cert.Hand

open Idealize.ShloMosaic Idealize.SL.Sem

set_option maxHeartbeats 1000000 in
/-- The kernel's gradients and the host's are the same arrays. -/
theorem algebraic_kvProjDx : Cert.algebraic_KvProjDxIdeal_KvProjDxRefIdeal := by
  intro m g m' g' _ hargs
  refine ⟨fun c => Cert.KvProjDxIdeal.Hand.G5 m c, fun c => Cert.KvProjDxIdeal.Hand.G6 m c, ?_, ?_⟩
  · refine (θ_run Cert.KvProjDxIdeal.defs _ _).mono (fun r h c => ?_) (Cert.KvProjDxIdeal.Value.run_blocks m g)
    exact ⟨(h c).1.trans (Cert.KvProjDxIdeal.Hand.final5 m c), (h c).2.1.trans (Cert.KvProjDxIdeal.Hand.final6 m c), (h c).2.2⟩
  · refine (θ_run Cert.KvProjDxRefIdeal.defs _ _).mono (fun r h c => ?_) (Cert.KvProjDxRefIdeal.Value.run m' g')
    refine ⟨(h c).1.trans ?_, (h c).2.1.trans ?_, (h c).2.2⟩
    · unfold Cert.KvProjDxRefIdeal.Value.res_main_v41
      rw [(hargs c).1, (hargs c).2.1, (hargs c).2.2.1, (hargs c).2.2.2.1, (hargs c).2.2.2.2]
      funext i
      show _ = Cert.KvProjDxIdeal.Hand.dh _ _ _ _ _ i
      unfold Cert.KvProjDxIdeal.Hand.dh
      idx_vars i
      unfold Cert.Hand.normBack Cert.Hand.slope Cert.Hand.meanSq Cert.KvProjDxIdeal.Hand.dn
      pointwise
      simp only [Finset.univ_unique, Finset.sum_singleton]
      ac_rfl
    · rw [(hargs c).1, (hargs c).2.1, (hargs c).2.2.1]
      funext i
      show _ = Cert.KvProjDxIdeal.Hand.dg _ _ _ i
      unfold Cert.KvProjDxIdeal.Hand.dg Cert.KvProjDxIdeal.Hand.dgRow
      idx_vars i
      unfold Cert.Hand.gainBack Cert.Hand.meanSq Cert.KvProjDxIdeal.Hand.dn
      pointwise
      simp only [Finset.univ_unique, Finset.sum_singleton]

end Cert.Hand

end
-- ==== Proof.GdnInBaDxVal.lean ====
/- The backward pass of the recurrent layer's gate projection's input: its rows' gradient and its gain's. -/
module

public import proofs.«01_k».proof.Proof.Gen.GdnInBaDxIdeal.Value
public import proofs.«01_k».proof.Proof.Gen.GdnInBaDxRefIdeal.Run
public import proofs.«01_k».proof.Proof.NormBack
public import proofs.«01_k».proof.Proof.Runs
public import proofs.«01_k».proof.Defs
public import Idealize.ShloMosaic.Lib.Tactic

@[expose] public section

set_option maxRecDepth 16384

noncomputable section

namespace Cert.GdnInBaDxIdeal.Hand

open Cert.GdnInBaDxIdeal Cert.GdnInBaDxIdeal.Gen Idealize.ShloMosaic Idealize.ShloMosaic.TcCoe Idealize.SL.Sem

/-- The cotangent of a normalised row: the product with the weight's rows, plus the cotangent that arrives beside it. -/
def dn (x0 : FVec Ideal S8192x256 .f32) (x1 : FVec Ideal S1024x256 .bf16) (x2 : FVec Ideal S8192x1024 .f32) (r : Fin 8192) (k : Fin 1024) : EReal :=
  (∑ j : Fin 256, (x0 (ix2 r j) : EReal) * x1 (ix2 k j)) + x2 (ix2 r k)

/-- The rows' gradient, entry by entry. -/
def dh (x0 : FVec Ideal S8192x256 .f32) (x1 : FVec Ideal S1024x256 .bf16) (x2 : FVec Ideal S8192x1024 .f32) (x3 : FVec Ideal S8192x1024 .f32) (x4 : FVec Ideal S1x1024 .f32) (x5 : FVec Ideal S8192x1024 .f32) : FVec Ideal S8192x1024 .f32 := fun i =>
  Cert.Hand.normBack (fun k => x3 (ix2 (i 0) k)) (fun k => x4 (ix2 (0 : Fin 1) k)) (dn x0 x1 x2 (i 0)) (i 1) + x5 (ix2 (i 0) (i 1))

/-- One row's part of the gain's gradient. -/
def dgRow (x0 : FVec Ideal S8192x256 .f32) (x1 : FVec Ideal S1024x256 .bf16) (x2 : FVec Ideal S8192x1024 .f32) (x3 : FVec Ideal S8192x1024 .f32) (i : S1x1024.Idx) (r : Fin 8192) : EReal :=
  Cert.Hand.gainBack (fun k => x3 (ix2 r k)) (dn x0 x1 x2 r) (i 1)

/-- The gain's gradient, entry by entry. -/
def dg (x0 : FVec Ideal S8192x256 .f32) (x1 : FVec Ideal S1024x256 .bf16) (x2 : FVec Ideal S8192x1024 .f32) (x3 : FVec Ideal S8192x1024 .f32) : FVec Ideal S1x1024 .f32 := fun i => ∑ r : Fin 8192, dgRow x0 x1 x2 x3 i r

theorem hz : (![0, 0] : Fin 2 → Nat) = fun _ => 0 := funext fun a => by fin_cases a <;> rfl

/-- One block's cotangent of its normalised rows. -/
def bdn (x0 : Vec Ideal S512x256 .f32) (x1 : Vec Ideal S1024x256 .bf16) (x2 : Vec Ideal S512x1024 .f32) (r : Fin 512) (k : Fin 1024) : EReal :=
  (∑ j : Fin 256, (x0 (ix2 r j) : EReal) * x1 (ix2 k j)) + x2 (ix2 r k)

/-- One block of the rows' gradient at an index. -/
theorem pay5_apply (x0 : Vec Ideal S512x256 .f32) (x1 : Vec Ideal S1024x256 .bf16) (x2 : Vec Ideal S512x1024 .f32) (x3 : Vec Ideal S512x1024 .f32) (x4 : Vec Ideal S1x1024 .f32) (x5 : Vec Ideal S512x1024 .f32) (y : S512x1024.Idx) :
    (k0_pay1 x3 (k0_pay8 x0 x1 x2 x3 x4) (k0_pay9 x0 x1 x2 x3 x4) x5 y : EReal) = Cert.Hand.normBack (fun k => x3 (ix2 (y 0) k)) (fun k => x4 (ix2 (0 : Fin 1) k)) (bdn x0 x1 x2 (y 0)) (y 1) + x5 (ix2 (y 0) (y 1)) := by
  idx_vars y
  unfold Cert.Hand.normBack Cert.Hand.slope Cert.Hand.meanSq bdn
  pointwise [k0_pay1, k0_pay8, k0_pay9, k0_pay7, k0_pay5, k0_pay4, k0_pay3]
  simp only [Finset.univ_unique, Finset.sum_singleton]

/-- One block's part of the gain's gradient at an index. -/
theorem pay6_apply (x0 : Vec Ideal S512x256 .f32) (x1 : Vec Ideal S1024x256 .bf16) (x2 : Vec Ideal S512x1024 .f32) (x3 : Vec Ideal S512x1024 .f32) (y : S1x1024.Idx) :
    (k0_pay6 x0 x1 x2 x3 y : EReal) = ∑ r : Fin 512, Cert.Hand.gainBack (fun k => x3 (ix2 r k)) (bdn x0 x1 x2 r) (y 1) := by
  idx_vars y
  unfold Cert.Hand.gainBack Cert.Hand.meanSq bdn
  pointwise [k0_pay6, k0_pay5, k0_pay4, k0_pay3]

/-- A later point's store is what the gain's row held plus its part. -/
theorem pay2_apply (v : FVec Ideal S1x1024 .f32) (xo : Vec Ideal S1x1024 .f32) (y : S1x1024.Idx) :
    (k0_pay2 v xo y : EReal) = (xo y : EReal) + v y := by
  unfold k0_pay2
  rw [shapeCast_self]
  rfl

variable (c : Dev nD) (i : grid0.Coords) (a3 : Memref sig .tc .vmem S512x256 .f32) (q3 : a3.IsWhole) (a4 : Memref sig .tc .vmem S1024x256 .bf16) (q4 : a4.IsWhole) (a5 : Memref sig .tc .vmem S512x1024 .f32) (q5 : a5.IsWhole) (a6 : Memref sig .tc .vmem S512x1024 .f32) (q6 : a6.IsWhole) (a7 : Memref sig .tc .vmem S1x1024 .f32) (q7 : a7.IsWhole) (a8 : Memref sig .tc .vmem S512x1024 .f32) (q8 : a8.IsWhole) (a9 : Memref sig .tc .vmem S512x1024 .f32) (q9 : a9.IsWhole) (a10 : Memref sig .tc .vmem S1x1024 .f32) (q10 : a10.IsWhole)
  (x0 : Vec Ideal S512x256 .f32) (x1 : Vec Ideal S1024x256 .bf16) (x2 : Vec Ideal S512x1024 .f32) (x3 : Vec Ideal S512x1024 .f32) (x4 : Vec Ideal S1x1024 .f32) (x5 : Vec Ideal S512x1024 .f32) (xo7 : Vec Ideal S1x1024 .f32)

/-- What case A leaves in the rows' gradient's block. -/
theorem out_A_6 (hc0 : cond0_0 i) (hc1 : ¬cond0_1 i) :
    out0_A_6 c i a3 q3 a4 q4 a5 q5 a6 q6 a7 q7 a8 q8 a9 q9 a10 q10 hc0 hc1 x0 x1 x2 x3 x4 x5 = k0_pay1 x3 (k0_pay8 x0 x1 x2 x3 x4) (k0_pay9 x0 x1 x2 x3 x4) x5 := by
  unfold out0_A_6
  rw [View.read_writes_eq_canon _ _ _ (fun y => cover0_A_6 (y := y) ..)]
  unfold kernelRun0_A
  dsimp only
  sl_unfold_words
  rw [View.canon_unit_zero (S := S512x1024) hz]
  simp only [View.readAt_eq_ld, Memref.IsWhole.read_unread, View.ld_unit_zero (S := ⟨2, _⟩) hz]

/-- What case A leaves in the gain's gradient's block. -/
theorem out_A_7 (hc0 : cond0_0 i) (hc1 : ¬cond0_1 i) :
    out0_A_7 c i a3 q3 a4 q4 a5 q5 a6 q6 a7 q7 a8 q8 a9 q9 a10 q10 hc0 hc1 x0 x1 x2 x3 x4 x5 = k0_pay6 x0 x1 x2 x3 := by
  unfold out0_A_7
  rw [View.read_writes_eq_canon _ _ _ (fun y => cover0_A_7 (y := y) ..)]
  unfold kernelRun0_A
  dsimp only
  sl_unfold_words
  rw [View.canon_unit_zero (S := S1x1024) hz]
  simp only [View.readAt_eq_ld, Memref.IsWhole.read_unread, View.ld_unit_zero (S := ⟨2, _⟩) hz]

/-- What case B leaves in the rows' gradient's block. -/
theorem out_B_6 (hc0 : ¬cond0_0 i) (hc1 : cond0_1 i) :
    out0_B_6 c i a3 q3 a4 q4 a5 q5 a6 q6 a7 q7 a8 q8 a9 q9 a10 q10 hc0 hc1 x0 x1 x2 x3 x4 x5 xo7 = k0_pay1 x3 (k0_pay8 x0 x1 x2 x3 x4) (k0_pay9 x0 x1 x2 x3 x4) x5 := by
  unfold out0_B_6
  rw [View.read_writes_eq_canon _ _ _ (fun y => cover0_B_6 (y := y) ..)]
  unfold kernelRun0_B
  dsimp only
  sl_unfold_words
  rw [View.canon_unit_zero (S := S512x1024) hz]
  simp only [View.readAt_eq_ld, Memref.IsWhole.read_unread, View.ld_unit_zero (S := ⟨2, _⟩) hz]

/-- What case B leaves in the gain's gradient's block. -/
theorem out_B_7 (hc0 : ¬cond0_0 i) (hc1 : cond0_1 i) :
    out0_B_7 c i a3 q3 a4 q4 a5 q5 a6 q6 a7 q7 a8 q8 a9 q9 a10 q10 hc0 hc1 x0 x1 x2 x3 x4 x5 xo7 = k0_pay2 (k0_pay6 x0 x1 x2 x3) xo7 := by
  unfold out0_B_7
  rw [View.read_writes_eq_canon _ _ _ (fun y => cover0_B_7 (y := y) ..)]
  unfold kernelRun0_B
  dsimp only
  sl_unfold_words
  rw [View.canon_unit_zero (S := S1x1024) hz]
  simp only [View.readAt_eq_ld, Memref.IsWhole.read_unread, View.ld_unit_zero (S := ⟨2, _⟩) hz]

variable (m : (ℓ : Loc nD τ sig) → Buf (Elt Ideal) ℓ)

/-- The rows' gradient of the launch contents. -/
def G6 (c : Dev nD) : FVec Ideal S8192x1024 .f32 := dh (m (c.tc.loc main_arg0)) (m (c.tc.loc main_arg1)) (m (c.tc.loc main_arg2)) (m (c.tc.loc main_arg3)) (m (c.tc.loc main_arg4)) (m (c.tc.loc main_arg5))

/-- The gain's gradient of the launch contents. -/
def G7 (c : Dev nD) : FVec Ideal S1x1024 .f32 := dg (m (c.tc.loc main_arg0)) (m (c.tc.loc main_arg1)) (m (c.tc.loc main_arg2)) (m (c.tc.loc main_arg3))

/-- The block indices of the windows at every point of the grid. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0 :=
  (by decide +kernel : ∀ t : Fin grid0.N, _)

/-- A block of operand 0 holds the operand's entries of its place. -/
theorem blk0 (c : Dev nD) (t : Fin cfg0.N) (k : Fin 512) (j : Fin 256) (r : Fin 8192) (hr : r.val = 512 * t.val + k.val) :
    (iblk m c 0 t (ix2 k j) : EReal) = m (c.tc.loc main_arg0) (ix2 r j) := by
  obtain ⟨h0a, h0b, -⟩ := index_facts t
  refine congrArg (m (c.tc.loc main_arg0)) (funext fun a => Fin.ext ?_)
  match a with
  | ⟨0, _⟩ => show win0_0.index t 0 * 512 + 1 * k.val = r.val; rw [h0a, hr]; omega
  | ⟨1, _⟩ => show win0_0.index t 1 * 256 + 1 * j.val = j.val; rw [h0b]; omega

/-- A block of operand 1 holds the operand's entries of its place. -/
theorem blk1 (c : Dev nD) (t : Fin cfg0.N) (k : Fin 1024) (j : Fin 256) :
    (iblk m c 1 t (ix2 k j) : EReal) = m (c.tc.loc main_arg1) (ix2 k j) := by
  obtain ⟨-, -, h1a, h1b, -⟩ := index_facts t
  refine congrArg (m (c.tc.loc main_arg1)) (funext fun a => Fin.ext ?_)
  match a with
  | ⟨0, _⟩ => show win0_1.index t 0 * 1024 + 1 * k.val = k.val; rw [h1a]; omega
  | ⟨1, _⟩ => show win0_1.index t 1 * 256 + 1 * j.val = j.val; rw [h1b]; omega

/-- A block of operand 2 holds the operand's entries of its place. -/
theorem blk2 (c : Dev nD) (t : Fin cfg0.N) (k : Fin 512) (j : Fin 1024) (r : Fin 8192) (hr : r.val = 512 * t.val + k.val) :
    (iblk m c 2 t (ix2 k j) : EReal) = m (c.tc.loc main_arg2) (ix2 r j) := by
  obtain ⟨-, -, -, -, h2a, h2b, -⟩ := index_facts t
  refine congrArg (m (c.tc.loc main_arg2)) (funext fun a => Fin.ext ?_)
  match a with
  | ⟨0, _⟩ => show win0_2.index t 0 * 512 + 1 * k.val = r.val; rw [h2a, hr]; omega
  | ⟨1, _⟩ => show win0_2.index t 1 * 1024 + 1 * j.val = j.val; rw [h2b]; omega

/-- A block of operand 3 holds the operand's entries of its place. -/
theorem blk3 (c : Dev nD) (t : Fin cfg0.N) (k : Fin 512) (j : Fin 1024) (r : Fin 8192) (hr : r.val = 512 * t.val + k.val) :
    (iblk m c 3 t (ix2 k j) : EReal) = m (c.tc.loc main_arg3) (ix2 r j) := by
  obtain ⟨-, -, -, -, -, -, h3a, h3b, -⟩ := index_facts t
  refine congrArg (m (c.tc.loc main_arg3)) (funext fun a => Fin.ext ?_)
  match a with
  | ⟨0, _⟩ => show win0_3.index t 0 * 512 + 1 * k.val = r.val; rw [h3a, hr]; omega
  | ⟨1, _⟩ => show win0_3.index t 1 * 1024 + 1 * j.val = j.val; rw [h3b]; omega

/-- A block of operand 4 holds the operand's entries of its place. -/
theorem blk4 (c : Dev nD) (t : Fin cfg0.N)  (j : Fin 1024) :
    (iblk m c 4 t (ix2 (0 : Fin 1) j) : EReal) = m (c.tc.loc main_arg4) (ix2 (0 : Fin 1) j) := by
  obtain ⟨-, -, -, -, -, -, -, -, h4a, h4b, -⟩ := index_facts t
  refine congrArg (m (c.tc.loc main_arg4)) (funext fun a => Fin.ext ?_)
  match a with
  | ⟨0, _⟩ => show win0_4.index t 0 * 1 + 1 * 0 = 0; rw [h4a]
  | ⟨1, _⟩ => show win0_4.index t 1 * 1024 + 1 * j.val = j.val; rw [h4b]; omega

/-- A block of operand 5 holds the operand's entries of its place. -/
theorem blk5 (c : Dev nD) (t : Fin cfg0.N) (k : Fin 512) (j : Fin 1024) (r : Fin 8192) (hr : r.val = 512 * t.val + k.val) :
    (iblk m c 5 t (ix2 k j) : EReal) = m (c.tc.loc main_arg5) (ix2 r j) := by
  obtain ⟨-, -, -, -, -, -, -, -, -, -, h5a, h5b, -⟩ := index_facts t
  refine congrArg (m (c.tc.loc main_arg5)) (funext fun a => Fin.ext ?_)
  match a with
  | ⟨0, _⟩ => show win0_5.index t 0 * 512 + 1 * k.val = r.val; rw [h5a, hr]; omega
  | ⟨1, _⟩ => show win0_5.index t 1 * 1024 + 1 * j.val = j.val; rw [h5b]; omega

/-- A block's cotangents are its rows' cotangents. -/
theorem bdn_eq (c : Dev nD) (t : Fin cfg0.N) (k : Fin 512) (r : Fin 8192) (hr : r.val = 512 * t.val + k.val) (q : Fin 1024) :
    bdn (iblk m c 0 t) (iblk m c 1 t) (iblk m c 2 t) k q = dn (m (c.tc.loc main_arg0)) (m (c.tc.loc main_arg1)) (m (c.tc.loc main_arg2)) r q := by
  unfold bdn dn
  exact congrArg₂ (· + ·) (Finset.sum_congr rfl fun j _ => congrArg₂ (· * ·) (blk0 m c t k j r hr) (blk1 m c t q j)) (blk2 m c t k q r hr)

/-- A point's part of the gain's gradient is its run of rows' part of the whole. -/
theorem point6 (c : Dev nD) (t : Fin cfg0.N) (y J : S1x1024.Idx) (hJ : (J 1).val = (y 1).val) :
    (k0_pay6 (iblk m c 0 t) (iblk m c 1 t) (iblk m c 2 t) (iblk m c 3 t) y : EReal)
      = Cert.Hand.runSum 512 (dgRow (m (c.tc.loc main_arg0)) (m (c.tc.loc main_arg1)) (m (c.tc.loc main_arg2)) (m (c.tc.loc main_arg3)) J) t.val := by
  rw [pay6_apply]
  unfold Cert.Hand.runSum
  refine Finset.sum_congr rfl fun k _ => ?_
  have hk := k.isLt
  have ht : t.val < 16 := N_0 ▸ t.isLt
  have hr : 512 * t.val + k.val < 8192 := by omega
  rw [Cert.Hand.atNat_of_lt _ _ hr]
  unfold dgRow
  rw [show J 1 = y 1 from Fin.ext hJ]
  exact Cert.Hand.gainBack_congr (fun j => blk3 m c t k j _ rfl) (fun q => bdn_eq m c t k _ rfl q) (y 1)

/-- What the gain's gradient's block holds after a point: the runs of rows so far. -/
theorem acc_eq (c : Dev nD) : ∀ (n : ℕ) (h : n < cfg0.N) (y J : S1x1024.Idx) (_ : (J 1).val = (y 1).val),
    ((outsAt0 m c n h).2 y : EReal)
      = ∑ s ∈ Finset.range (n + 1), Cert.Hand.runSum 512 (dgRow (m (c.tc.loc main_arg0)) (m (c.tc.loc main_arg1)) (m (c.tc.loc main_arg2)) (m (c.tc.loc main_arg3)) J) s := by
  intro n
  induction n with
  | zero =>
    intro h y J h1
    rw [outsAt0_A m c ⟨0, h⟩ rfl (by dsimp only; omega)]
    dsimp only
    rw [out_A_7, point6 m c ⟨0, h⟩ y J h1]
    simp
  | succ n ih =>
    intro h y J h1
    have hN : cfg0.N = 16 := N_0
    rw [Finset.sum_range_succ, ← ih (Nat.lt_of_succ_lt h) y J h1]
    rw [outsAt0_B m c ⟨n + 1, h⟩ (by dsimp only; omega) (by dsimp only; omega)]
    dsimp only
    rw [out_B_7, pay2_apply, point6 m c ⟨n + 1, h⟩ y J h1]
    simp only [Nat.add_sub_cancel]

/-- What a point leaves in the rows' gradient's block. -/
theorem block6 (c : Dev nD) (t : Fin cfg0.N) :
    (outsAt0 m c t.val t.isLt).1 = k0_pay1 (iblk m c 3 t) (k0_pay8 (iblk m c 0 t) (iblk m c 1 t) (iblk m c 2 t) (iblk m c 3 t) (iblk m c 4 t)) (k0_pay9 (iblk m c 0 t) (iblk m c 1 t) (iblk m c 2 t) (iblk m c 3 t) (iblk m c 4 t)) (iblk m c 5 t) := by
  have hN : cfg0.N = 16 := N_0
  have := t.isLt
  by_cases h : t.val % 16 = 0
  · rw [outsAt0_A m c t h (by omega)]
    dsimp only
    rw [out_A_6]
  · rw [outsAt0_B m c t h (by omega)]
    dsimp only
    rw [out_B_6]

/-- What a point writes back is its block of the rows' gradient. -/
theorem flushed_G6 (c : Dev nD) (t : Fin cfg0.N) (hf : (cfg0.win 6).flush t = true) :
    (dats m 0 c).flushed 6 t = ((cfg0.win 6).blk t).view.read (Elt Ideal) (G6 m c) := by
  obtain ⟨-, -, -, -, -, -, -, -, -, -, -, -, h6a, h6b, -⟩ := index_facts t
  rw [Value.flushed6]
  funext y
  rw [View.read_apply]
  show ((outsAt0 m c t.val t.isLt).1 y : EReal) = _
  rw [block6, pay5_apply]
  have ht : t.val < 16 := N_0 ▸ t.isLt
  have hk : (y 0 : Nat) < 512 := (y 0).isLt
  have e : (((cfg0.win 6).blk t).view.emb y : S8192x1024.Idx) = ix2 (⟨512 * t.val + (y 0 : Nat), by omega⟩ : Fin 8192) (y 1) := by
    funext a
    apply Fin.ext
    match a with
    | ⟨0, _⟩ => show win0_6.index t 0 * 512 + 1 * (y 0 : Nat) = 512 * t.val + (y 0 : Nat); rw [h6a]; omega
    | ⟨1, _⟩ => show win0_6.index t 1 * 1024 + 1 * (y 1 : Nat) = (y 1 : Nat); rw [h6b]; omega
  rw [e]
  unfold G6 dh
  exact congrArg₂ (· + ·) (Cert.Hand.normBack_congr (fun k => blk3 m c t (y 0) k _ rfl) (fun k => blk4 m c t k) (fun q => bdn_eq m c t (y 0) _ rfl q) (y 1))
    (blk5 m c t (y 0) (y 1) _ rfl)

/-- What the last point leaves in the gain's gradient's block. -/
theorem block7 (c : Dev nD) (t : Fin cfg0.N) (ht : t.val = 15) (y J : S1x1024.Idx) (h1 : (J 1).val = (y 1).val) :
    ((outsAt0 m c t.val t.isLt).2 y : EReal) = G7 m c J := by
  refine (acc_eq m c t.val t.isLt y J h1).trans ?_
  rw [ht, Cert.Hand.sum_runs 16 512 rfl]
  rfl

/-- What the last point writes back is the gain's gradient. -/
theorem flushed_G7 (c : Dev nD) (t : Fin cfg0.N) (hf : (cfg0.win 7).flush t = true) :
    (dats m 0 c).flushed 7 t = ((cfg0.win 7).blk t).view.read (Elt Ideal) (G7 m c) := by
  obtain ⟨-, -, -, -, -, -, -, -, -, -, -, -, -, -, -, h7b⟩ := index_facts t
  have ht : t.val = 15 := (by decide +kernel : ∀ t : Fin grid0.N, win0_7.flush t = true → t.val = 15) t hf
  rw [Value.flushed7]
  funext y
  rw [View.read_apply]
  refine block7 m c t ht y _ ?_
  show win0_7.index t 1 * 1024 + 1 * (y 1 : Nat) = (y 1 : Nat); rw [h7b]; omega

/-- Every block of the rows' gradient is some point's. -/
theorem covered6 : ∀ a : Fin 16, ∃ t : Fin grid0.N, (cfg0.win 6).flush t = true
    ∧ win0_6.index t (0 : Fin 2) = a.val ∧ win0_6.index t (1 : Fin 2) = 0 := by decide +kernel

/-- Some point writes the gain's gradient. -/
theorem covered7 : ∃ t : Fin grid0.N, (cfg0.win 7).flush t = true
    ∧ win0_7.index t (0 : Fin 2) = 0 ∧ win0_7.index t (1 : Fin 2) = 0 := by decide +kernel

/-- The rows' gradient's array after the run. -/
theorem final6 (c : Dev nD) : (dats m 0 c).arrAt 6 cfg0.N = G6 m c :=
  (dats m 0 c).arrAt_eq_of_cover 6 (G6 m c) (fun t hf => flushed_G6 m c t hf) fun i => by
    have h0 : (i 0 : Nat) < 8192 := (i 0).isLt
    have h1 : (i 1 : Nat) < 1024 := (i 1).isLt
    obtain ⟨t, hf, ha, hb⟩ := covered6 ⟨(i 0 : Nat) / 512, by omega⟩
    refine ⟨t, hf, ?_⟩
    show i ∈ ((View.whole main_v0_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [ha]; dsimp only; omega
    | ⟨1, _⟩ => show win0_6.index t 1 * 1024 ≤ (i 1 : Nat) ∧ (i 1 : Nat) < win0_6.index t 1 * 1024 + 1024
                rw [hb]; omega

/-- The gain's gradient's array after the run. -/
theorem final7 (c : Dev nD) : (dats m 0 c).arrAt 7 cfg0.N = G7 m c :=
  (dats m 0 c).arrAt_eq_of_cover 7 (G7 m c) (fun t hf => flushed_G7 m c t hf) fun i => by
    have h0 : (i 0 : Nat) < 1 := (i 0).isLt
    have h1 : (i 1 : Nat) < 1024 := (i 1).isLt
    obtain ⟨t, hf, ha, hb⟩ := covered7
    refine ⟨t, hf, ?_⟩
    show i ∈ ((View.whole main_v0_1).slice (win0_7.rect t)).set
    rw [View.set_slice_whole, Rect.mem_set_unit]
    intro a
    match a with
    | ⟨0, _⟩ => show win0_7.index t 0 * 1 ≤ (i 0 : Nat) ∧ (i 0 : Nat) < win0_7.index t 0 * 1 + 1
                rw [ha]; omega
    | ⟨1, _⟩ => show win0_7.index t 1 * 1024 ≤ (i 1 : Nat) ∧ (i 1 : Nat) < win0_7.index t 1 * 1024 + 1024
                rw [hb]; omega

end Cert.GdnInBaDxIdeal.Hand

namespace Cert.Hand

open Idealize.ShloMosaic Idealize.SL.Sem

set_option maxHeartbeats 1000000 in
/-- The kernel's gradients and the host's are the same arrays. -/
theorem algebraic_gdnInBaDx : Cert.algebraic_GdnInBaDxIdeal_GdnInBaDxRefIdeal := by
  intro m g m' g' _ hargs
  refine ⟨fun c => Cert.GdnInBaDxIdeal.Hand.G6 m c, fun c => Cert.GdnInBaDxIdeal.Hand.G7 m c, ?_, ?_⟩
  · refine (θ_run Cert.GdnInBaDxIdeal.defs _ _).mono (fun r h c => ?_) (Cert.GdnInBaDxIdeal.Value.run_blocks m g)
    exact ⟨(h c).1.trans (Cert.GdnInBaDxIdeal.Hand.final6 m c), (h c).2.1.trans (Cert.GdnInBaDxIdeal.Hand.final7 m c), (h c).2.2⟩
  · refine (θ_run Cert.GdnInBaDxRefIdeal.defs _ _).mono (fun r h c => ?_) (Cert.GdnInBaDxRefIdeal.Value.run m' g')
    refine ⟨(h c).1.trans ?_, (h c).2.1.trans ?_, (h c).2.2⟩
    · unfold Cert.GdnInBaDxRefIdeal.Value.res_main_v41
      rw [(hargs c).1, (hargs c).2.1, (hargs c).2.2.1, (hargs c).2.2.2.1, (hargs c).2.2.2.2.1, (hargs c).2.2.2.2.2]
      funext i
      show _ = Cert.GdnInBaDxIdeal.Hand.dh _ _ _ _ _ _ i
      unfold Cert.GdnInBaDxIdeal.Hand.dh
      idx_vars i
      unfold Cert.Hand.normBack Cert.Hand.slope Cert.Hand.meanSq Cert.GdnInBaDxIdeal.Hand.dn
      pointwise
      simp only [Finset.univ_unique, Finset.sum_singleton]
      ac_rfl
    · rw [(hargs c).1, (hargs c).2.1, (hargs c).2.2.1, (hargs c).2.2.2.1]
      funext i
      show _ = Cert.GdnInBaDxIdeal.Hand.dg _ _ _ _ i
      unfold Cert.GdnInBaDxIdeal.Hand.dg Cert.GdnInBaDxIdeal.Hand.dgRow
      idx_vars i
      unfold Cert.Hand.gainBack Cert.Hand.meanSq Cert.GdnInBaDxIdeal.Hand.dn
      pointwise
      simp only [Finset.univ_unique, Finset.sum_singleton]
      exact Finset.sum_congr rfl fun _ _ => congrArg _ (add_comm (G := EReal) _ _)

end Cert.Hand

end
-- ==== Proof.Adam.lean ====
/- The optimiser's step on one entry, on extended reals. -/
module

public import Idealize.ShloMosaic.Lib.Pointwise

@[expose] public section

noncomputable section

namespace Cert.Hand

open Idealize.ShloMosaic

/-- The new first moment: the old one `p` and the gradient `g`, weighed. -/
def newMean (g p : EReal) : EReal := Ideal.ofBits .f32 0x3F666666#32 * p + Ideal.ofBits .f32 0x3DCCCCCD#32 * g

/-- The new second moment: the old one `v` and the gradient's square, weighed. -/
def newSquare (g v : EReal) : EReal := Ideal.ofBits .f32 0x3F7FBE77#32 * v + Ideal.ofBits .f32 0x3A83126F#32 * (g * g)

/-- The change of the weight `w` from the new first moment `a` and the new second moment `b`. -/
def change (w a b : EReal) : EReal :=
  Ideal.ofBits .f32 0xBA83126F#32 * (Ideal.div (Ideal.div a (Ideal.ofBits .f32 0x3F26BD02#32))
    (Ideal.sqrt (Ideal.div b (Ideal.ofBits .f32 0x3C231ACC#32)) + Ideal.ofBits .f32 0x322BCC77#32)
    + Ideal.ofBits .f32 0x3C23D70A#32 * w)

end Cert.Hand

end
-- ==== Proof.AdamAWInVal.lean ====
/- The optimiser's step on the recurrent layer's input weight: the kernel's three arrays are the host's. -/
module

public import proofs.«01_k».proof.Proof.Gen.AdamAWInIdeal.Value
public import proofs.«01_k».proof.Proof.Gen.AdamAWInRefIdeal.Run
public import proofs.«01_k».proof.Proof.Adam
public import proofs.«01_k».proof.Defs

@[expose] public section

set_option maxRecDepth 16384

noncomputable section

namespace Cert.AdamAWInRefIdeal.Hand

open Cert.AdamAWInRefIdeal Cert.AdamAWInRefIdeal.Gen Idealize.ShloMosaic

/-- The host's new first moment at an index. -/
theorem mean_apply (g p : FVec Ideal S1024x1544 .f32) (i : S1024x1544.Idx) :
    (addf (mulf (broadcastInDim S1024x1544 ![] bcast_S_S1024x1544 (constant S_ .f32 0x3F666666#32)) p) (mulf (broadcastInDim S1024x1544 ![] bcast_S_S1024x1544 (constant S_ .f32 0x3DCCCCCD#32)) g) i : EReal)
      = Cert.Hand.newMean (g i) (p i) := by
  idx_vars i
  pointwise [Cert.Hand.newMean]

/-- The host's new second moment at an index. -/
theorem square_apply (g v : FVec Ideal S1024x1544 .f32) (i : S1024x1544.Idx) :
    (addf (mulf (broadcastInDim S1024x1544 ![] bcast_S_S1024x1544 (constant S_ .f32 0x3F7FBE77#32)) v) (mulf (broadcastInDim S1024x1544 ![] bcast_S_S1024x1544 (constant S_ .f32 0x3A83126F#32)) (mulf g g)) i : EReal)
      = Cert.Hand.newSquare (g i) (v i) := by
  idx_vars i
  pointwise [Cert.Hand.newSquare]

/-- The host's change of the weight at an index, from the two new moments. -/
theorem delta_apply (w a b : FVec Ideal S1024x1544 .f32) (i : S1024x1544.Idx) :
    (mulf (broadcastInDim S1024x1544 ![] bcast_S_S1024x1544 (constant S_ .f32 0xBA83126F#32)) (addf (Host.divf (Host.divf a (broadcastInDim S1024x1544 ![] bcast_S_S1024x1544 (constant S_ .f32 0x3F26BD02#32))) (addf (Host.sqrt (Host.divf b (broadcastInDim S1024x1544 ![] bcast_S_S1024x1544 (constant S_ .f32 0x3C231ACC#32)))) (broadcastInDim S1024x1544 ![] bcast_S_S1024x1544 (constant S_ .f32 0x322BCC77#32)))) (mulf (broadcastInDim S1024x1544 ![] bcast_S_S1024x1544 (constant S_ .f32 0x3C23D70A#32)) w)) i : EReal)
      = Cert.Hand.change (w i) (a i) (b i) := by
  idx_vars i
  pointwise [Cert.Hand.change]

end Cert.AdamAWInRefIdeal.Hand

namespace Cert.Hand

open Idealize.ShloMosaic Idealize.SL.Sem

/-- The kernel's change, first moment and second moment of the recurrent layer's input weight are the host's. -/
theorem algebraic_adamAWIn : Cert.algebraic_AdamAWInIdeal_AdamAWInRefIdeal := by
  intro m g m' g' _ hargs
  refine ⟨_, _, _, Cert.AdamAWInIdeal.Value.run m g, ?_⟩
  refine (θ_run Cert.AdamAWInRefIdeal.defs _ _).mono (fun r h c => ?_) (Cert.AdamAWInRefIdeal.Value.run m' g')
  refine ⟨(h c).1.trans ?_, (h c).2.1.trans ?_, (h c).2.2.1.trans ?_, (h c).2.2.2⟩
  · rw [(hargs c).1, (hargs c).2.1, (hargs c).2.2.1, (hargs c).2.2.2]
    funext i
    refine (Cert.AdamAWInRefIdeal.Hand.delta_apply _ _ _ i).trans ?_
    rw [Cert.AdamAWInRefIdeal.Hand.mean_apply, Cert.AdamAWInRefIdeal.Hand.square_apply]
    rfl
  · rw [(hargs c).2.1, (hargs c).2.2.1]
    funext i
    exact Cert.AdamAWInRefIdeal.Hand.mean_apply _ _ i
  · rw [(hargs c).2.1, (hargs c).2.2.2]
    funext i
    exact Cert.AdamAWInRefIdeal.Hand.square_apply _ _ i

end Cert.Hand

end
-- ==== Proof.AdamAWOutVal.lean ====
/- The optimiser's step on the recurrent layer's output weight: the kernel's three arrays are the host's. -/
module

public import proofs.«01_k».proof.Proof.Gen.AdamAWOutIdeal.Value
public import proofs.«01_k».proof.Proof.Gen.AdamAWOutRefIdeal.Run
public import proofs.«01_k».proof.Proof.Adam
public import proofs.«01_k».proof.Defs

@[expose] public section

set_option maxRecDepth 16384

noncomputable section

namespace Cert.AdamAWOutRefIdeal.Hand

open Cert.AdamAWOutRefIdeal Cert.AdamAWOutRefIdeal.Gen Idealize.ShloMosaic

/-- The host's new first moment at an index. -/
theorem mean_apply (g p : FVec Ideal S512x1024 .f32) (i : S512x1024.Idx) :
    (addf (mulf (broadcastInDim S512x1024 ![] bcast_S_S512x1024 (constant S_ .f32 0x3F666666#32)) p) (mulf (broadcastInDim S512x1024 ![] bcast_S_S512x1024 (constant S_ .f32 0x3DCCCCCD#32)) g) i : EReal)
      = Cert.Hand.newMean (g i) (p i) := by
  idx_vars i
  pointwise [Cert.Hand.newMean]

/-- The host's new second moment at an index. -/
theorem square_apply (g v : FVec Ideal S512x1024 .f32) (i : S512x1024.Idx) :
    (addf (mulf (broadcastInDim S512x1024 ![] bcast_S_S512x1024 (constant S_ .f32 0x3F7FBE77#32)) v) (mulf (broadcastInDim S512x1024 ![] bcast_S_S512x1024 (constant S_ .f32 0x3A83126F#32)) (mulf g g)) i : EReal)
      = Cert.Hand.newSquare (g i) (v i) := by
  idx_vars i
  pointwise [Cert.Hand.newSquare]

/-- The host's change of the weight at an index, from the two new moments. -/
theorem delta_apply (w a b : FVec Ideal S512x1024 .f32) (i : S512x1024.Idx) :
    (mulf (broadcastInDim S512x1024 ![] bcast_S_S512x1024 (constant S_ .f32 0xBA83126F#32)) (addf (Host.divf (Host.divf a (broadcastInDim S512x1024 ![] bcast_S_S512x1024 (constant S_ .f32 0x3F26BD02#32))) (addf (Host.sqrt (Host.divf b (broadcastInDim S512x1024 ![] bcast_S_S512x1024 (constant S_ .f32 0x3C231ACC#32)))) (broadcastInDim S512x1024 ![] bcast_S_S512x1024 (constant S_ .f32 0x322BCC77#32)))) (mulf (broadcastInDim S512x1024 ![] bcast_S_S512x1024 (constant S_ .f32 0x3C23D70A#32)) w)) i : EReal)
      = Cert.Hand.change (w i) (a i) (b i) := by
  idx_vars i
  pointwise [Cert.Hand.change]

end Cert.AdamAWOutRefIdeal.Hand

namespace Cert.Hand

open Idealize.ShloMosaic Idealize.SL.Sem

/-- The kernel's change, first moment and second moment of the recurrent layer's output weight are the host's. -/
theorem algebraic_adamAWOut : Cert.algebraic_AdamAWOutIdeal_AdamAWOutRefIdeal := by
  intro m g m' g' _ hargs
  refine ⟨_, _, _, Cert.AdamAWOutIdeal.Value.run m g, ?_⟩
  refine (θ_run Cert.AdamAWOutRefIdeal.defs _ _).mono (fun r h c => ?_) (Cert.AdamAWOutRefIdeal.Value.run m' g')
  refine ⟨(h c).1.trans ?_, (h c).2.1.trans ?_, (h c).2.2.1.trans ?_, (h c).2.2.2⟩
  · rw [(hargs c).1, (hargs c).2.1, (hargs c).2.2.1, (hargs c).2.2.2]
    funext i
    refine (Cert.AdamAWOutRefIdeal.Hand.delta_apply _ _ _ i).trans ?_
    rw [Cert.AdamAWOutRefIdeal.Hand.mean_apply, Cert.AdamAWOutRefIdeal.Hand.square_apply]
    rfl
  · rw [(hargs c).2.1, (hargs c).2.2.1]
    funext i
    exact Cert.AdamAWOutRefIdeal.Hand.mean_apply _ _ i
  · rw [(hargs c).2.1, (hargs c).2.2.2]
    funext i
    exact Cert.AdamAWOutRefIdeal.Hand.square_apply _ _ i

end Cert.Hand

end
-- ==== Proof.AdamWKvVal.lean ====
/- The optimiser's step on the key and value weight: the kernel's three arrays are the host's. -/
module

public import proofs.«01_k».proof.Proof.Gen.AdamWKvIdeal.Value
public import proofs.«01_k».proof.Proof.Gen.AdamWKvRefIdeal.Run
public import proofs.«01_k».proof.Proof.Adam
public import proofs.«01_k».proof.Defs

@[expose] public section

set_option maxRecDepth 16384

noncomputable section

namespace Cert.AdamWKvRefIdeal.Hand

open Cert.AdamWKvRefIdeal Cert.AdamWKvRefIdeal.Gen Idealize.ShloMosaic

/-- The host's new first moment at an index. -/
theorem mean_apply (g p : FVec Ideal S256x512 .f32) (i : S256x512.Idx) :
    (addf (mulf (broadcastInDim S256x512 ![] bcast_S_S256x512 (constant S_ .f32 0x3F666666#32)) p) (mulf (broadcastInDim S256x512 ![] bcast_S_S256x512 (constant S_ .f32 0x3DCCCCCD#32)) g) i : EReal)
      = Cert.Hand.newMean (g i) (p i) := by
  idx_vars i
  pointwise [Cert.Hand.newMean]

/-- The host's new second moment at an index. -/
theorem square_apply (g v : FVec Ideal S256x512 .f32) (i : S256x512.Idx) :
    (addf (mulf (broadcastInDim S256x512 ![] bcast_S_S256x512 (constant S_ .f32 0x3F7FBE77#32)) v) (mulf (broadcastInDim S256x512 ![] bcast_S_S256x512 (constant S_ .f32 0x3A83126F#32)) (mulf g g)) i : EReal)
      = Cert.Hand.newSquare (g i) (v i) := by
  idx_vars i
  pointwise [Cert.Hand.newSquare]

/-- The host's change of the weight at an index, from the two new moments. -/
theorem delta_apply (w a b : FVec Ideal S256x512 .f32) (i : S256x512.Idx) :
    (mulf (broadcastInDim S256x512 ![] bcast_S_S256x512 (constant S_ .f32 0xBA83126F#32)) (addf (Host.divf (Host.divf a (broadcastInDim S256x512 ![] bcast_S_S256x512 (constant S_ .f32 0x3F26BD02#32))) (addf (Host.sqrt (Host.divf b (broadcastInDim S256x512 ![] bcast_S_S256x512 (constant S_ .f32 0x3C231ACC#32)))) (broadcastInDim S256x512 ![] bcast_S_S256x512 (constant S_ .f32 0x322BCC77#32)))) (mulf (broadcastInDim S256x512 ![] bcast_S_S256x512 (constant S_ .f32 0x3C23D70A#32)) w)) i : EReal)
      = Cert.Hand.change (w i) (a i) (b i) := by
  idx_vars i
  pointwise [Cert.Hand.change]

end Cert.AdamWKvRefIdeal.Hand

namespace Cert.Hand

open Idealize.ShloMosaic Idealize.SL.Sem

/-- The kernel's change, first moment and second moment of the key and value weight are the host's. -/
theorem algebraic_adamWKv : Cert.algebraic_AdamWKvIdeal_AdamWKvRefIdeal := by
  intro m g m' g' _ hargs
  refine ⟨_, _, _, Cert.AdamWKvIdeal.Value.run m g, ?_⟩
  refine (θ_run Cert.AdamWKvRefIdeal.defs _ _).mono (fun r h c => ?_) (Cert.AdamWKvRefIdeal.Value.run m' g')
  refine ⟨(h c).1.trans ?_, (h c).2.1.trans ?_, (h c).2.2.1.trans ?_, (h c).2.2.2⟩
  · rw [(hargs c).1, (hargs c).2.1, (hargs c).2.2.1, (hargs c).2.2.2]
    funext i
    refine (Cert.AdamWKvRefIdeal.Hand.delta_apply _ _ _ i).trans ?_
    rw [Cert.AdamWKvRefIdeal.Hand.mean_apply, Cert.AdamWKvRefIdeal.Hand.square_apply]
    rfl
  · rw [(hargs c).2.1, (hargs c).2.2.1]
    funext i
    exact Cert.AdamWKvRefIdeal.Hand.mean_apply _ _ i
  · rw [(hargs c).2.1, (hargs c).2.2.2]
    funext i
    exact Cert.AdamWKvRefIdeal.Hand.square_apply _ _ i

end Cert.Hand

end
-- ==== Proof.AdamBWQVal.lean ====
/- The optimiser's step on the query weight: the kernel's three arrays are the host's. -/
module

public import proofs.«01_k».proof.Proof.Gen.AdamBWQIdeal.Value
public import proofs.«01_k».proof.Proof.Gen.AdamBWQRefIdeal.Run
public import proofs.«01_k».proof.Proof.Adam
public import proofs.«01_k».proof.Defs

@[expose] public section

set_option maxRecDepth 16384

noncomputable section

namespace Cert.AdamBWQRefIdeal.Hand

open Cert.AdamBWQRefIdeal Cert.AdamBWQRefIdeal.Gen Idealize.ShloMosaic

/-- The host's new first moment at an index. -/
theorem mean_apply (g p : FVec Ideal S256x1024 .f32) (i : S256x1024.Idx) :
    (addf (mulf (broadcastInDim S256x1024 ![] bcast_S_S256x1024 (constant S_ .f32 0x3F666666#32)) p) (mulf (broadcastInDim S256x1024 ![] bcast_S_S256x1024 (constant S_ .f32 0x3DCCCCCD#32)) g) i : EReal)
      = Cert.Hand.newMean (g i) (p i) := by
  idx_vars i
  pointwise [Cert.Hand.newMean]

/-- The host's new second moment at an index. -/
theorem square_apply (g v : FVec Ideal S256x1024 .f32) (i : S256x1024.Idx) :
    (addf (mulf (broadcastInDim S256x1024 ![] bcast_S_S256x1024 (constant S_ .f32 0x3F7FBE77#32)) v) (mulf (broadcastInDim S256x1024 ![] bcast_S_S256x1024 (constant S_ .f32 0x3A83126F#32)) (mulf g g)) i : EReal)
      = Cert.Hand.newSquare (g i) (v i) := by
  idx_vars i
  pointwise [Cert.Hand.newSquare]

/-- The host's change of the weight at an index, from the two new moments. -/
theorem delta_apply (w a b : FVec Ideal S256x1024 .f32) (i : S256x1024.Idx) :
    (mulf (broadcastInDim S256x1024 ![] bcast_S_S256x1024 (constant S_ .f32 0xBA83126F#32)) (addf (Host.divf (Host.divf a (broadcastInDim S256x1024 ![] bcast_S_S256x1024 (constant S_ .f32 0x3F26BD02#32))) (addf (Host.sqrt (Host.divf b (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) w)) i : EReal)
      = Cert.Hand.change (w i) (a i) (b i) := by
  idx_vars i
  pointwise [Cert.Hand.change]

end Cert.AdamBWQRefIdeal.Hand

namespace Cert.Hand

open Idealize.ShloMosaic Idealize.SL.Sem

/-- The kernel's change, first moment and second moment of the query weight are the host's. -/
theorem algebraic_adamBWQ : Cert.algebraic_AdamBWQIdeal_AdamBWQRefIdeal := by
  intro m g m' g' _ hargs
  refine ⟨_, _, _, Cert.AdamBWQIdeal.Value.run m g, ?_⟩
  refine (θ_run Cert.AdamBWQRefIdeal.defs _ _).mono (fun r h c => ?_) (Cert.AdamBWQRefIdeal.Value.run m' g')
  refine ⟨(h c).1.trans ?_, (h c).2.1.trans ?_, (h c).2.2.1.trans ?_, (h c).2.2.2⟩
  · rw [(hargs c).1, (hargs c).2.1, (hargs c).2.2.1, (hargs c).2.2.2]
    funext i
    refine (Cert.AdamBWQRefIdeal.Hand.delta_apply _ _ _ i).trans ?_
    rw [Cert.AdamBWQRefIdeal.Hand.mean_apply, Cert.AdamBWQRefIdeal.Hand.square_apply]
    rfl
  · rw [(hargs c).2.1, (hargs c).2.2.1]
    funext i
    exact Cert.AdamBWQRefIdeal.Hand.mean_apply _ _ i
  · rw [(hargs c).2.1, (hargs c).2.2.2]
    funext i
    exact Cert.AdamBWQRefIdeal.Hand.square_apply _ _ i

end Cert.Hand

end
-- ==== Proof.AdamBWOVal.lean ====
/- The optimiser's step on the attention's output weight: the kernel's three arrays are the host's. -/
module

public import proofs.«01_k».proof.Proof.Gen.AdamBWOIdeal.Value
public import proofs.«01_k».proof.Proof.Gen.AdamBWORefIdeal.Run
public import proofs.«01_k».proof.Proof.Adam
public import proofs.«01_k».proof.Defs

@[expose] public section

set_option maxRecDepth 16384

noncomputable section

namespace Cert.AdamBWORefIdeal.Hand

open Cert.AdamBWORefIdeal Cert.AdamBWORefIdeal.Gen Idealize.ShloMosaic

/-- The host's new first moment at an index. -/
theorem mean_apply (g p : FVec Ideal S256x1024 .f32) (i : S256x1024.Idx) :
    (addf (mulf (broadcastInDim S256x1024 ![] bcast_S_S256x1024 (constant S_ .f32 0x3F666666#32)) p) (mulf (broadcastInDim S256x1024 ![] bcast_S_S256x1024 (constant S_ .f32 0x3DCCCCCD#32)) g) i : EReal)
      = Cert.Hand.newMean (g i) (p i) := by
  idx_vars i
  pointwise [Cert.Hand.newMean]

/-- The host's new second moment at an index. -/
theorem square_apply (g v : FVec Ideal S256x1024 .f32) (i : S256x1024.Idx) :
    (addf (mulf (broadcastInDim S256x1024 ![] bcast_S_S256x1024 (constant S_ .f32 0x3F7FBE77#32)) v) (mulf (broadcastInDim S256x1024 ![] bcast_S_S256x1024 (constant S_ .f32 0x3A83126F#32)) (mulf g g)) i : EReal)
      = Cert.Hand.newSquare (g i) (v i) := by
  idx_vars i
  pointwise [Cert.Hand.newSquare]

/-- The host's change of the weight at an index, from the two new moments. -/
theorem delta_apply (w a b : FVec Ideal S256x1024 .f32) (i : S256x1024.Idx) :
    (mulf (broadcastInDim S256x1024 ![] bcast_S_S256x1024 (constant S_ .f32 0xBA83126F#32)) (addf (Host.divf (Host.divf a (broadcastInDim S256x1024 ![] bcast_S_S256x1024 (constant S_ .f32 0x3F26BD02#32))) (addf (Host.sqrt (Host.divf b (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) w)) i : EReal)
      = Cert.Hand.change (w i) (a i) (b i) := by
  idx_vars i
  pointwise [Cert.Hand.change]

end Cert.AdamBWORefIdeal.Hand

namespace Cert.Hand

open Idealize.ShloMosaic Idealize.SL.Sem

/-- The kernel's change, first moment and second moment of the attention's output weight are the host's. -/
theorem algebraic_adamBWO : Cert.algebraic_AdamBWOIdeal_AdamBWORefIdeal := by
  intro m g m' g' _ hargs
  refine ⟨_, _, _, Cert.AdamBWOIdeal.Value.run m g, ?_⟩
  refine (θ_run Cert.AdamBWORefIdeal.defs _ _).mono (fun r h c => ?_) (Cert.AdamBWORefIdeal.Value.run m' g')
  refine ⟨(h c).1.trans ?_, (h c).2.1.trans ?_, (h c).2.2.1.trans ?_, (h c).2.2.2⟩
  · rw [(hargs c).1, (hargs c).2.1, (hargs c).2.2.1, (hargs c).2.2.2]
    funext i
    refine (Cert.AdamBWORefIdeal.Hand.delta_apply _ _ _ i).trans ?_
    rw [Cert.AdamBWORefIdeal.Hand.mean_apply, Cert.AdamBWORefIdeal.Hand.square_apply]
    rfl
  · rw [(hargs c).2.1, (hargs c).2.2.1]
    funext i
    exact Cert.AdamBWORefIdeal.Hand.mean_apply _ _ i
  · rw [(hargs c).2.1, (hargs c).2.2.2]
    funext i
    exact Cert.AdamBWORefIdeal.Hand.square_apply _ _ i

end Cert.Hand

end
-- ==== Proof.AdamUpVal.lean ====
/- The optimiser's step on the feed-forward layers' up weight: the kernel's three arrays are the host's. -/
module

public import proofs.«01_k».proof.Proof.Gen.AdamUpIdeal.Value
public import proofs.«01_k».proof.Proof.Gen.AdamUpRefIdeal.Run
public import proofs.«01_k».proof.Proof.Adam
public import proofs.«01_k».proof.Defs

@[expose] public section

set_option maxRecDepth 16384

noncomputable section

namespace Cert.AdamUpRefIdeal.Hand

open Cert.AdamUpRefIdeal Cert.AdamUpRefIdeal.Gen Idealize.ShloMosaic

/-- The host's new first moment at an index. -/
theorem mean_apply (g p : FVec Ideal S2048x1408 .f32) (i : S2048x1408.Idx) :
    (addf (mulf (broadcastInDim S2048x1408 ![] bcast_S_S2048x1408 (constant S_ .f32 0x3F666666#32)) p) (mulf (broadcastInDim S2048x1408 ![] bcast_S_S2048x1408 (constant S_ .f32 0x3DCCCCCD#32)) g) i : EReal)
      = Cert.Hand.newMean (g i) (p i) := by
  idx_vars i
  pointwise [Cert.Hand.newMean]

/-- The host's new second moment at an index. -/
theorem square_apply (g v : FVec Ideal S2048x1408 .f32) (i : S2048x1408.Idx) :
    (addf (mulf (broadcastInDim S2048x1408 ![] bcast_S_S2048x1408 (constant S_ .f32 0x3F7FBE77#32)) v) (mulf (broadcastInDim S2048x1408 ![] bcast_S_S2048x1408 (constant S_ .f32 0x3A83126F#32)) (mulf g g)) i : EReal)
      = Cert.Hand.newSquare (g i) (v i) := by
  idx_vars i
  pointwise [Cert.Hand.newSquare]

/-- The host's change of the weight at an index, from the two new moments. -/
theorem delta_apply (w a b : FVec Ideal S2048x1408 .f32) (i : S2048x1408.Idx) :
    (mulf (broadcastInDim S2048x1408 ![] bcast_S_S2048x1408 (constant S_ .f32 0xBA83126F#32)) (addf (Host.divf (Host.divf a (broadcastInDim S2048x1408 ![] bcast_S_S2048x1408 (constant S_ .f32 0x3F26BD02#32))) (addf (Host.sqrt (Host.divf b (broadcastInDim S2048x1408 ![] bcast_S_S2048x1408 (constant S_ .f32 0x3C231ACC#32)))) (broadcastInDim S2048x1408 ![] bcast_S_S2048x1408 (constant S_ .f32 0x322BCC77#32)))) (mulf (broadcastInDim S2048x1408 ![] bcast_S_S2048x1408 (constant S_ .f32 0x3C23D70A#32)) w)) i : EReal)
      = Cert.Hand.change (w i) (a i) (b i) := by
  idx_vars i
  pointwise [Cert.Hand.change]

end Cert.AdamUpRefIdeal.Hand

namespace Cert.Hand

open Idealize.ShloMosaic Idealize.SL.Sem

/-- The kernel's change, first moment and second moment of the feed-forward layers' up weight are the host's. -/
theorem algebraic_adamUp : Cert.algebraic_AdamUpIdeal_AdamUpRefIdeal := by
  intro m g m' g' _ hargs
  refine ⟨_, _, _, Cert.AdamUpIdeal.Value.run m g, ?_⟩
  refine (θ_run Cert.AdamUpRefIdeal.defs _ _).mono (fun r h c => ?_) (Cert.AdamUpRefIdeal.Value.run m' g')
  refine ⟨(h c).1.trans ?_, (h c).2.1.trans ?_, (h c).2.2.1.trans ?_, (h c).2.2.2⟩
  · rw [(hargs c).1, (hargs c).2.1, (hargs c).2.2.1, (hargs c).2.2.2]
    funext i
    refine (Cert.AdamUpRefIdeal.Hand.delta_apply _ _ _ i).trans ?_
    rw [Cert.AdamUpRefIdeal.Hand.mean_apply, Cert.AdamUpRefIdeal.Hand.square_apply]
    rfl
  · rw [(hargs c).2.1, (hargs c).2.2.1]
    funext i
    exact Cert.AdamUpRefIdeal.Hand.mean_apply _ _ i
  · rw [(hargs c).2.1, (hargs c).2.2.2]
    funext i
    exact Cert.AdamUpRefIdeal.Hand.square_apply _ _ i

end Cert.Hand

end
-- ==== Proof.AdamDownVal.lean ====
/- The optimiser's step on the feed-forward layers' down weight: the kernel's three arrays are the host's. -/
module

public import proofs.«01_k».proof.Proof.Gen.AdamDownIdeal.Value
public import proofs.«01_k».proof.Proof.Gen.AdamDownRefIdeal.Run
public import proofs.«01_k».proof.Proof.Adam
public import proofs.«01_k».proof.Defs

@[expose] public section

set_option maxRecDepth 16384

noncomputable section

namespace Cert.AdamDownRefIdeal.Hand

open Cert.AdamDownRefIdeal Cert.AdamDownRefIdeal.Gen Idealize.ShloMosaic

/-- The host's new first moment at an index. -/
theorem mean_apply (g p : FVec Ideal S1408x1024 .f32) (i : S1408x1024.Idx) :
    (addf (mulf (broadcastInDim S1408x1024 ![] bcast_S_S1408x1024 (constant S_ .f32 0x3F666666#32)) p) (mulf (broadcastInDim S1408x1024 ![] bcast_S_S1408x1024 (constant S_ .f32 0x3DCCCCCD#32)) g) i : EReal)
      = Cert.Hand.newMean (g i) (p i) := by
  idx_vars i
  pointwise [Cert.Hand.newMean]

/-- The host's new second moment at an index. -/
theorem square_apply (g v : FVec Ideal S1408x1024 .f32) (i : S1408x1024.Idx) :
    (addf (mulf (broadcastInDim S1408x1024 ![] bcast_S_S1408x1024 (constant S_ .f32 0x3F7FBE77#32)) v) (mulf (broadcastInDim S1408x1024 ![] bcast_S_S1408x1024 (constant S_ .f32 0x3A83126F#32)) (mulf g g)) i : EReal)
      = Cert.Hand.newSquare (g i) (v i) := by
  idx_vars i
  pointwise [Cert.Hand.newSquare]

/-- The host's change of the weight at an index, from the two new moments. -/
theorem delta_apply (w a b : FVec Ideal S1408x1024 .f32) (i : S1408x1024.Idx) :
    (mulf (broadcastInDim S1408x1024 ![] bcast_S_S1408x1024 (constant S_ .f32 0xBA83126F#32)) (addf (Host.divf (Host.divf a (broadcastInDim S1408x1024 ![] bcast_S_S1408x1024 (constant S_ .f32 0x3F26BD02#32))) (addf (Host.sqrt (Host.divf b (broadcastInDim S1408x1024 ![] bcast_S_S1408x1024 (constant S_ .f32 0x3C231ACC#32)))) (broadcastInDim S1408x1024 ![] bcast_S_S1408x1024 (constant S_ .f32 0x322BCC77#32)))) (mulf (broadcastInDim S1408x1024 ![] bcast_S_S1408x1024 (constant S_ .f32 0x3C23D70A#32)) w)) i : EReal)
      = Cert.Hand.change (w i) (a i) (b i) := by
  idx_vars i
  pointwise [Cert.Hand.change]

end Cert.AdamDownRefIdeal.Hand

namespace Cert.Hand

open Idealize.ShloMosaic Idealize.SL.Sem

/-- The kernel's change, first moment and second moment of the feed-forward layers' down weight are the host's. -/
theorem algebraic_adamDown : Cert.algebraic_AdamDownIdeal_AdamDownRefIdeal := by
  intro m g m' g' _ hargs
  refine ⟨_, _, _, Cert.AdamDownIdeal.Value.run m g, ?_⟩
  refine (θ_run Cert.AdamDownRefIdeal.defs _ _).mono (fun r h c => ?_) (Cert.AdamDownRefIdeal.Value.run m' g')
  refine ⟨(h c).1.trans ?_, (h c).2.1.trans ?_, (h c).2.2.1.trans ?_, (h c).2.2.2⟩
  · rw [(hargs c).1, (hargs c).2.1, (hargs c).2.2.1, (hargs c).2.2.2]
    funext i
    refine (Cert.AdamDownRefIdeal.Hand.delta_apply _ _ _ i).trans ?_
    rw [Cert.AdamDownRefIdeal.Hand.mean_apply, Cert.AdamDownRefIdeal.Hand.square_apply]
    rfl
  · rw [(hargs c).2.1, (hargs c).2.2.1]
    funext i
    exact Cert.AdamDownRefIdeal.Hand.mean_apply _ _ i
  · rw [(hargs c).2.1, (hargs c).2.2.2]
    funext i
    exact Cert.AdamDownRefIdeal.Hand.square_apply _ _ i

end Cert.Hand

end
-- ==== Proof.AdamSmallVal.lean ====
/- The optimiser's step on the small weights packed in one array: the kernel's three arrays are the host's. -/
module

public import proofs.«01_k».proof.Proof.Gen.AdamSmallIdeal.Value
public import proofs.«01_k».proof.Proof.Gen.AdamSmallRefIdeal.Run
public import proofs.«01_k».proof.Proof.Adam
public import proofs.«01_k».proof.Defs

@[expose] public section

set_option maxRecDepth 16384

noncomputable section

namespace Cert.AdamSmallRefIdeal.Hand

open Cert.AdamSmallRefIdeal Cert.AdamSmallRefIdeal.Gen Idealize.ShloMosaic

/-- The host's new first moment at an index. -/
theorem mean_apply (g p : FVec Ideal S240x128 .f32) (i : S240x128.Idx) :
    (addf (mulf (broadcastInDim S240x128 ![] bcast_S_S240x128 (constant S_ .f32 0x3F666666#32)) p) (mulf (broadcastInDim S240x128 ![] bcast_S_S240x128 (constant S_ .f32 0x3DCCCCCD#32)) g) i : EReal)
      = Cert.Hand.newMean (g i) (p i) := by
  idx_vars i
  pointwise [Cert.Hand.newMean]

/-- The host's new second moment at an index. -/
theorem square_apply (g v : FVec Ideal S240x128 .f32) (i : S240x128.Idx) :
    (addf (mulf (broadcastInDim S240x128 ![] bcast_S_S240x128 (constant S_ .f32 0x3F7FBE77#32)) v) (mulf (broadcastInDim S240x128 ![] bcast_S_S240x128 (constant S_ .f32 0x3A83126F#32)) (mulf g g)) i : EReal)
      = Cert.Hand.newSquare (g i) (v i) := by
  idx_vars i
  pointwise [Cert.Hand.newSquare]

/-- The host's change of the weight at an index, from the two new moments. -/
theorem delta_apply (w a b : FVec Ideal S240x128 .f32) (i : S240x128.Idx) :
    (mulf (broadcastInDim S240x128 ![] bcast_S_S240x128 (constant S_ .f32 0xBA83126F#32)) (addf (Host.divf (Host.divf a (broadcastInDim S240x128 ![] bcast_S_S240x128 (constant S_ .f32 0x3F26BD02#32))) (addf (Host.sqrt (Host.divf b (broadcastInDim S240x128 ![] bcast_S_S240x128 (constant S_ .f32 0x3C231ACC#32)))) (broadcastInDim S240x128 ![] bcast_S_S240x128 (constant S_ .f32 0x322BCC77#32)))) (mulf (broadcastInDim S240x128 ![] bcast_S_S240x128 (constant S_ .f32 0x3C23D70A#32)) w)) i : EReal)
      = Cert.Hand.change (w i) (a i) (b i) := by
  idx_vars i
  pointwise [Cert.Hand.change]

end Cert.AdamSmallRefIdeal.Hand

namespace Cert.Hand

open Idealize.ShloMosaic Idealize.SL.Sem

/-- The kernel's change, first moment and second moment of the small weights packed in one array are the host's. -/
theorem algebraic_adamSmall : Cert.algebraic_AdamSmallIdeal_AdamSmallRefIdeal := by
  intro m g m' g' _ hargs
  refine ⟨_, _, _, Cert.AdamSmallIdeal.Value.run m g, ?_⟩
  refine (θ_run Cert.AdamSmallRefIdeal.defs _ _).mono (fun r h c => ?_) (Cert.AdamSmallRefIdeal.Value.run m' g')
  refine ⟨(h c).1.trans ?_, (h c).2.1.trans ?_, (h c).2.2.1.trans ?_, (h c).2.2.2⟩
  · rw [(hargs c).1, (hargs c).2.1, (hargs c).2.2.1, (hargs c).2.2.2]
    funext i
    refine (Cert.AdamSmallRefIdeal.Hand.delta_apply _ _ _ i).trans ?_
    rw [Cert.AdamSmallRefIdeal.Hand.mean_apply, Cert.AdamSmallRefIdeal.Hand.square_apply]
    rfl
  · rw [(hargs c).2.1, (hargs c).2.2.1]
    funext i
    exact Cert.AdamSmallRefIdeal.Hand.mean_apply _ _ i
  · rw [(hargs c).2.1, (hargs c).2.2.2]
    funext i
    exact Cert.AdamSmallRefIdeal.Hand.square_apply _ _ i

end Cert.Hand

end
-- ==== Proof.GdnInBaDwVal.lean ====
/- The gated delta layer's gate projection's weight gradient: the kernel's accumulated blocks are the host product. -/
module

public import proofs.«01_k».proof.Proof.Gen.GdnInBaDwIdeal.Value
public import proofs.«01_k».proof.Proof.Gen.GdnInBaDwRefIdeal.Run
public import proofs.«01_k».proof.Proof.Norm
public import proofs.«01_k».proof.Proof.Sums
public import proofs.«01_k».proof.Defs
public import Idealize.ShloMosaic.Lib.Tactic

@[expose] public section

set_option maxRecDepth 16384

noncomputable section

namespace Cert.GdnInBaDwIdeal.Hand

open Cert.GdnInBaDwIdeal Cert.GdnInBaDwIdeal.Gen Idealize.ShloMosaic Idealize.ShloMosaic.TcCoe Idealize.SL.Sem

/-- One row's part of an entry of the product. -/
def term (x0 : FVec Ideal S8192x1024 .f32) (x1 : FVec Ideal S1x1024 .f32) (x2 : FVec Ideal S8192x256 .f32) (i : S1024x256.Idx) (r : Fin 8192) : EReal :=
  Cert.Hand.normed (fun k => x0 (ix2 r k)) (fun k => x1 (ix2 (0 : Fin 1) k)) (i 0) * (x2 (ix2 r (i 1)) : EReal)

theorem hz : (![0, 0] : Fin 2 → Nat) = fun _ => 0 := funext fun a => by fin_cases a <;> rfl

/-- One point's product at an index. -/
theorem pay1_apply (x0 : Vec Ideal S1024x1024 .f32) (x1 : Vec Ideal S1024x256 .f32) (x2 : Vec Ideal S1x1024 .f32) (y : S1024x256.Idx) :
    (k0_pay1 x0 x1 x2 y : EReal) = ∑ k : Fin 1024, Cert.Hand.normed (fun j => x0 (ix2 k j)) (fun j => x2 (ix2 (0 : Fin 1) j)) (y 0) * (x1 (ix2 k (y 1)) : EReal) := by
  idx_vars y
  unfold Cert.Hand.normed
  pointwise [k0_pay1]

/-- The first point's store is its product. -/
theorem pay2_eq (x0 : Vec Ideal S1024x1024 .f32) (x1 : Vec Ideal S1024x256 .f32) (x2 : Vec Ideal S1x1024 .f32) : k0_pay2 x0 x1 x2 = k0_pay1 x0 x1 x2 := by
  unfold k0_pay2
  exact shapeCast_self _ _

/-- A later point's store is the accumulator plus its product. -/
theorem pay3_apply (x0 : Vec Ideal S1024x1024 .f32) (x1 : Vec Ideal S1024x256 .f32) (x2 : Vec Ideal S1x1024 .f32) (xs : Vec Ideal S1024x256 .f32) (y : S1024x256.Idx) :
    (k0_pay3 x0 x1 x2 xs y : EReal) = (xs y : EReal) + k0_pay1 x0 x1 x2 y := by
  unfold k0_pay3
  rw [shapeCast_self]
  rfl

variable (c : Dev nD) (i : grid0.Coords) (a3 : Memref sig .tc .vmem S1024x1024 .f32) (q3 : a3.IsWhole) (a4 : Memref sig .tc .vmem S1024x256 .f32) (q4 : a4.IsWhole) (a5 : Memref sig .tc .vmem S1x1024 .f32) (q5 : a5.IsWhole) (a6 : Memref sig .tc .vmem S1024x256 .f32) (q6 : a6.IsWhole) (a7 : Memref sig .tc .vmem S1024x256 .f32) (q7 : a7.IsWhole)
  (x0 : Vec Ideal S1024x1024 .f32) (x1 : Vec Ideal S1024x256 .f32) (x2 : Vec Ideal S1x1024 .f32) (xs0 : Vec Ideal S1024x256 .f32)

/-- What case A leaves in the accumulator. -/
theorem sout_A (hc0 : cond0_0 i) (hc1 : ¬cond0_1 i) (hc2 : ¬cond0_2 i) :
    sout0_A_0 c i a3 q3 a4 q4 a5 q5 a6 q6 a7 q7 hc0 hc1 hc2 x0 x1 x2 = k0_pay2 x0 x1 x2 := by
  unfold sout0_A_0
  rw [View.read_writes_eq_canon _ _ _ (fun y => scover0_A_0 (y := y) ..)]
  unfold kernelRun0_A
  dsimp only
  rw [View.canon_unit_zero (S := S1024x256) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 a7 q7 hc0 hc1 hc2 x0 x1 x2 xs0 = k0_pay3 x0 x1 x2 xs0 := by
  unfold sout0_B_0
  rw [View.read_writes_eq_canon _ _ _ (fun y => scover0_B_0 (y := y) ..)]
  unfold kernelRun0_B
  dsimp only
  rw [View.canon_unit_zero (S := S1024x256) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 a7 q7 hc0 hc1 hc2 x0 x1 x2 xs0 = k0_pay3 x0 x1 x2 xs0 := by
  unfold sout0_C_0
  rw [View.read_writes_eq_canon _ _ _ (fun y => scover0_C_0 (y := y) ..)]
  unfold kernelRun0_C
  dsimp only
  sl_unfold_words
  rw [View.canon_unit_zero (S := S1024x256) hz]
  simp only [View.readAt_eq_ld, Memref.IsWhole.read_unread, View.ld_unit_zero (S := ⟨2, _⟩) hz]

/-- What case C leaves in the result's block: the accumulator. -/
theorem out_C (hc0 : ¬cond0_0 i) (hc1 : cond0_1 i) (hc2 : cond0_2 i) :
    out0_C_3 c i a3 q3 a4 q4 a5 q5 a6 q6 a7 q7 hc0 hc1 hc2 x0 x1 x2 xs0 = k0_pay3 x0 x1 x2 xs0 := by
  unfold out0_C_3
  rw [View.read_writes_eq_canon _ _ _ (fun y => cover0_C_3 (y := y) ..)]
  unfold kernelRun0_C
  dsimp only
  sl_unfold_words
  rw [View.canon_unit_zero (S := S1024x256) hz]
  rw [View.readCov_unit_zero (S := S1024x256) _ hz]
  simp only [View.readAt_eq_ld, Memref.IsWhole.read_unread, View.ld_unit_zero (S := ⟨2, _⟩) hz]

variable (m : (ℓ : Loc nD τ sig) → Buf (Elt Ideal) ℓ)

/-- The whole product of the launch contents. -/
def G (c : Dev nD) : FVec Ideal S1024x256 .f32 := fun i =>
  ∑ r : Fin 8192, term (m (c.tc.loc main_arg0)) (m (c.tc.loc main_arg1)) (m (c.tc.loc main_arg2)) i r

/-- The block indices of the operands' windows at every point of the grid. -/
theorem index_facts : ∀ t : Fin cfg0.N,
    win0_0.index t (0 : Fin 2) = t.val % 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = 0 :=
  (by decide +kernel : ∀ t : Fin grid0.N, _)

/-- The result's block index at every point of the grid. -/
theorem out_facts : ∀ t : Fin cfg0.N, win0_3.index t (0 : Fin 2) = 0 ∧ win0_3.index t (1 : Fin 2) = 0 :=
  (by decide +kernel : ∀ t : Fin grid0.N, _)

/-- A block of the left operand holds its rows of the operand. -/
theorem blk0 (c : Dev nD) (t : Fin cfg0.N) (k : Fin 1024) (j : Fin 1024) (r : Fin 8192) (q : Fin 1024)
    (hr : r.val = 1024 * (t.val % 8) + k.val) (hq : q.val = 0 * 1024 + j.val) :
    (iblk m c 0 t (ix2 k j) : EReal) = m (c.tc.loc main_arg0) (ix2 r q) := by
  obtain ⟨h00, h01, -⟩ := index_facts t
  refine congrArg (m (c.tc.loc main_arg0)) (funext fun a => Fin.ext ?_)
  match a with
  | ⟨0, _⟩ => show win0_0.index t 0 * 1024 + 1 * k.val = r.val; rw [h00, hr]; omega
  | ⟨1, _⟩ => show win0_0.index t 1 * 1024 + 1 * j.val = q.val; rw [h01, hq]; omega

/-- A block of the right operand holds its rows of the operand. -/
theorem blk1 (c : Dev nD) (t : Fin cfg0.N) (k : Fin 1024) (j : Fin 256) (r : Fin 8192) (q : Fin 256)
    (hr : r.val = 1024 * (t.val % 8) + k.val) (hq : q.val = 0 * 256 + j.val) :
    (iblk m c 1 t (ix2 k j) : EReal) = m (c.tc.loc main_arg2) (ix2 r q) := by
  obtain ⟨-, -, h10, h11, -⟩ := index_facts t
  refine congrArg (m (c.tc.loc main_arg2)) (funext fun a => Fin.ext ?_)
  match a with
  | ⟨0, _⟩ => show win0_1.index t 0 * 1024 + 1 * k.val = r.val; rw [h10, hr]; omega
  | ⟨1, _⟩ => show win0_1.index t 1 * 256 + 1 * j.val = q.val; rw [h11, hq]; omega

/-- The gain row's only block is the row. -/
theorem blk2 (c : Dev nD) (t : Fin cfg0.N) (k : Fin 1024) :
    (iblk m c 2 t (ix2 (0 : Fin 1) k) : EReal) = m (c.tc.loc main_arg1) (ix2 (0 : Fin 1) k) := by
  obtain ⟨-, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- A point's product is its run of rows' part of the whole. -/
theorem point (c : Dev nD) (t : Fin cfg0.N) (y : S1024x256.Idx) (J : S1024x256.Idx)
    (hJ0 : (J 0).val = 0 * 1024 + (y 0).val) (hJ1 : (J 1).val = 0 * 256 + (y 1).val) :
    (k0_pay1 (iblk m c 0 t) (iblk m c 1 t) (iblk m c 2 t) y : EReal)
      = Cert.Hand.blockSum (term (m (c.tc.loc main_arg0)) (m (c.tc.loc main_arg1)) (m (c.tc.loc main_arg2)) J) (t.val % 8) := by
  rw [pay1_apply]
  unfold Cert.Hand.blockSum
  refine Finset.sum_congr rfl fun k _ => ?_
  have hk := k.isLt
  have hr : 1024 * (t.val % 8) + k.val < 8192 := by omega
  rw [Cert.Hand.rowAt_of_lt _ _ hr]
  unfold term
  exact congrArg₂ (· * ·) ((Cert.Hand.normed_congr (fun j => blk0 m c t k j _ j rfl (by rw [Nat.zero_mul, Nat.zero_add])) (fun j => blk2 m c t j) (y 0)).trans
    (congrArg _ (Fin.ext (by rw [hJ0]; omega) : y 0 = J 0))) (blk1 m c t k (y 1) _ (J 1) rfl hJ1)

/-- What the accumulator holds after a point: the runs of rows so far. -/
theorem acc_eq (c : Dev nD) : ∀ (n : ℕ) (h : n < cfg0.N) (y : S1024x256.Idx) (J : S1024x256.Idx)
    (_ : (J 0).val = 0 * 1024 + (y 0).val) (_ : (J 1).val = 0 * 256 + (y 1).val),
    ((outsAt0 m c n h).2 y : EReal)
      = ∑ s ∈ Finset.range (n % 8 + 1), Cert.Hand.blockSum (term (m (c.tc.loc main_arg0)) (m (c.tc.loc main_arg1)) (m (c.tc.loc main_arg2)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    have hN : cfg0.N = 8 := N_0
    by_cases hA : (n + 1) % 8 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 8 = n / 8 := by omega
      have hm : (n + 1) % 8 = n % 8 + 1 := by omega
      rw [Finset.sum_range_succ, hm, ← ih (Nat.lt_of_succ_lt h) y J (by simpa only [hd] using h0) (by simpa only [hd] using h1)]
      by_cases hC : (n + 1) % 8 = 7
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a writing point leaves in the result's block is the whole sum. -/
theorem block_eq (c : Dev nD) (t : Fin cfg0.N) (ht : t.val % 8 = 7) (y : S1024x256.Idx) (J : S1024x256.Idx)
    (h0 : (J 0).val = 0 * 1024 + (y 0).val) (h1 : (J 1).val = 0 * 256 + (y 1).val) :
    ((outsAt0 m c t.val t.isLt).1 y : EReal) = G m c J := by
  have e := acc_eq m c t.val t.isLt y J h0 h1
  rw [ht, Cert.Hand.sum_blocks] at e
  have hA : ¬t.val % 8 = 0 := by omega
  have hN : cfg0.N = 8 := N_0
  have := t.isLt
  rw [outsAt0_C m c t hA (by omega) ht] at e ⊢
  dsimp only at e ⊢
  rw [sout_C] at e
  rw [out_C]
  exact e

/-- What a point writes back is its block of the whole product. -/
theorem flushed_G (c : Dev nD) (t : Fin cfg0.N) (hf : (cfg0.win 3).flush t = true) :
    (dats m 0 c).flushed 3 t = ((cfg0.win 3).blk t).view.read (Elt Ideal) (G m c) := by
  obtain ⟨h0, h1⟩ := out_facts t
  have ht : t.val % 8 = 7 := (by decide +kernel : ∀ t : Fin grid0.N, win0_3.flush t = true → t.val % 8 = 7) t hf
  rw [Value.flushed3]
  funext y
  rw [View.read_apply]
  refine block_eq m c t ht y _ ?_ ?_
  · show win0_3.index t 0 * 1024 + 1 * (y 0 : Nat) = _; rw [h0]; omega
  · show win0_3.index t 1 * 256 + 1 * (y 1 : Nat) = _; rw [h1]; omega

/-- Every block of the result is some point's. -/
theorem covered : ∀ (a : Fin 1) (b : Fin 1), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t hf => flushed_G m c t hf) fun i => by
    have h0 : (i 0 : Nat) < 1024 := (i 0).isLt
    have h1 : (i 1 : Nat) < 256 := (i 1).isLt
    obtain ⟨t, hf, ha, hb⟩ := covered ⟨(i 0 : Nat) / 1024, by omega⟩ ⟨(i 1 : Nat) / 256, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 256 ≤ (i 1 : Nat) ∧ (i 1 : Nat) < win0_3.index t 1 * 256 + 256
                rw [hb]; dsimp only; omega

end Cert.GdnInBaDwIdeal.Hand

namespace Cert.Hand

open Idealize.ShloMosaic Idealize.SL.Sem

/-- The kernel's product and the host's are one array. -/
theorem algebraic_gdnInBaDw : Cert.algebraic_GdnInBaDwIdeal_GdnInBaDwRefIdeal := by
  intro m g m' g' _ hargs
  refine ⟨fun c => Cert.GdnInBaDwIdeal.Hand.G m c, ?_, ?_⟩
  · refine (θ_run Cert.GdnInBaDwIdeal.defs _ _).mono (fun r h c => ?_) (Cert.GdnInBaDwIdeal.Value.run_blocks m g)
    exact ⟨(h c).1.trans (Cert.GdnInBaDwIdeal.Hand.final m c), (h c).2⟩
  · refine (θ_run Cert.GdnInBaDwRefIdeal.defs _ _).mono (fun r h c => ?_) (Cert.GdnInBaDwRefIdeal.Value.run m' g')
    refine ⟨(h c).1.trans ?_, (h c).2⟩
    rw [(hargs c).1, (hargs c).2.1, (hargs c).2.2]
    funext i
    show _ = Cert.GdnInBaDwIdeal.Hand.G m c i
    unfold Cert.GdnInBaDwIdeal.Hand.G
    unfold Cert.GdnInBaDwIdeal.Hand.term
    idx_vars i
    unfold Cert.Hand.normed
    pointwise
    exact Finset.sum_congr rfl fun _ _ => mul_comm (G := EReal) _ _

end Cert.Hand

end
-- ==== Proof.Bucket.lean ====
/- The bucket of a relative distance: the integer that the table's gradient is added at is never negative. -/
module

public import Idealize.ShloMosaic.Lib.Pointwise

@[expose] public section

noncomputable section

namespace Cert.Hand.Bucket

open Idealize.ShloMosaic

/-- How far key `k` lies behind query `q`, as a word, zero for a later key. -/
def dist (q k : ℕ) : BitVec 32 := IntOp.maxsi (IntOp.subi (IntOp.addi (BitVec.ofNat 32 q) 128#32) (BitVec.ofNat 32 k)) 0#32

/-- The logarithmic bucket of a distance. -/
def far (d : BitVec 32) : BitVec 32 :=
  FloatOps.fptosi (F := Ideal) (φ := .f32) 32 (Ideal.div (Ideal.log (Ideal.div (FloatOps.sitofp (F := Ideal) .f32 (IntOp.maxsi d 1#32)) (Ideal.ofBits .f32 0x41800000#32)))
    (Ideal.ofBits .f32 0x40051592#32) * Ideal.ofBits .f32 0x41800000#32)

/-- The bucket of the distance of a query and a key. -/
def bucket (q k : ℕ) : BitVec 32 :=
  Scalar.select (IntOp.cmpi .slt (dist q k) 16#32) (dist q k) (IntOp.minsi (IntOp.addi 16#32 (far (dist q k))) 31#32)

theorem sixteen_eq : Ideal.ofBits .f32 0x41800000#32 = ((16 : ℝ) : EReal) := by
  simp [Ideal.ofBits, Ideal.ieee, -EReal.coe_mul]; norm_num

/-- The logarithm the buckets are scaled by, as the float it is rounded to. -/
theorem scale_eq : Ideal.ofBits .f32 0x40051592#32 = ((8721810 / 4194304 : ℝ) : EReal) := by
  simp [Ideal.ofBits, Ideal.ieee, -EReal.coe_mul]; norm_num

/-- The word of a small number, read with a sign, is the number. -/
theorem toInt_small (n : ℕ) (h : n < 65536) : (BitVec.ofNat 32 n).toInt = n := by
  rw [BitVec.toInt_eq_toNat_cond, BitVec.toNat_ofNat, Nat.mod_eq_of_lt (by omega), if_pos (by omega)]

theorem lit0 : (0#32).toInt = 0 := by decide
theorem lit1 : (1#32).toInt = 1 := by decide
theorem lit16 : (16#32).toInt = 16 := by decide
theorem lit31 : (31#32).toInt = 31 := by decide

/-- The distance is the word of the difference, cut at zero. -/
theorem dist_eq (q k : ℕ) (hq : q < 128) (hk : k < 256) : dist q k = BitVec.ofNat 32 (q + 128 - k) := by
  unfold dist IntOp.maxsi IntOp.subi IntOp.addi
  by_cases h : k ≤ q + 128
  · have e : BitVec.ofNat 32 q + 128#32 - BitVec.ofNat 32 k = BitVec.ofNat 32 (q + 128 - k) := by
      apply BitVec.eq_of_toNat_eq
      simp only [BitVec.toNat_sub, BitVec.toNat_add, BitVec.toNat_ofNat]
      omega
    rw [e]
    split
    · rfl
    · rename_i hs
      rw [BitVec.slt_iff_toInt_lt, toInt_small (q + 128 - k) (by omega)] at hs
      have : q + 128 - k = 0 := by rw [lit0] at hs; omega
      rw [this]
  · have e : (BitVec.ofNat 32 q + 128#32 - BitVec.ofNat 32 k).toInt < 0 := by
      rw [BitVec.toInt_eq_toNat_cond]
      simp only [BitVec.toNat_sub, BitVec.toNat_add, BitVec.toNat_ofNat]
      omega
    rw [if_neg (by rw [BitVec.slt_iff_toInt_lt, lit0]; omega), show q + 128 - k = 0 by omega]

/-- The logarithmic bucket of a distance past the exact ones is a small number. -/
theorem far_eq (n : ℕ) (h16 : 16 ≤ n) (hn : n < 256) : ∃ z : ℕ, z < 1000 ∧ far (BitVec.ofNat 32 n) = BitVec.ofNat 32 z := by
  have e1 : IntOp.maxsi (BitVec.ofNat 32 n) 1#32 = BitVec.ofNat 32 n := by
    unfold IntOp.maxsi
    rw [if_pos]
    rw [BitVec.slt_iff_toInt_lt, toInt_small n (by omega), lit1]
    omega
  have e2 : FloatOps.sitofp (F := Ideal) .f32 (BitVec.ofNat 32 n) = (((n : ℝ)) : EReal) := by
    show ((((BitVec.ofNat 32 n).toInt : ℤ) : ℝ) : EReal) = _
    rw [toInt_small _ (by omega)]
    norm_cast
  have hx : (1 : ℝ) ≤ (n : ℝ) * (1 / 16) := by
    have : (16 : ℝ) ≤ (n : ℝ) := by exact_mod_cast h16
    linarith
  have hx' : (n : ℝ) * (1 / 16) ≤ 16 := by
    have : (n : ℝ) ≤ 256 := by exact_mod_cast hn.le
    linarith
  have hl : 0 ≤ Real.log ((n : ℝ) * (1 / 16)) := Real.log_nonneg hx
  have hl' : Real.log ((n : ℝ) * (1 / 16)) ≤ 15 := (Real.log_le_sub_one_of_pos (by linarith)).trans (by linarith)
  unfold far
  rw [e1, e2, sixteen_eq, scale_eq, Ideal.div_coe (y := 16) (by norm_num), ← EReal.coe_mul, Ideal.log_coe, if_neg (by linarith),
    Ideal.div_coe (by norm_num), ← EReal.coe_mul, ← EReal.coe_mul]
  generalize hr : Real.log ((n : ℝ) * (1 / 16)) * (1 / (8721810 / 4194304)) * 16 = r
  have hr0 : 0 ≤ r := by rw [← hr]; positivity
  have hr1 : r < 900 := by
    rw [← hr]
    have : Real.log ((n : ℝ) * (1 / 16)) * (1 / (8721810 / 4194304)) * 16 ≤ 15 * (1 / (8721810 / 4194304)) * 16 := by gcongr
    refine this.trans_lt (by norm_num)
  refine ⟨⌊r⌋.toNat, ?_, ?_⟩
  · have : ⌊r⌋ < 900 := Int.floor_lt.mpr (by exact_mod_cast hr1)
    omega
  · have h0 : 0 ≤ ⌊r⌋ := Int.floor_nonneg.mpr hr0
    have h1 : ⌊r⌋ < 900 := Int.floor_lt.mpr (by exact_mod_cast hr1)
    show Ideal.fptosi 32 _ = _
    unfold Ideal.fptosi
    rw [Ideal.toIntClamped_coe, if_pos hr0, min_eq_right (by norm_num; omega), max_eq_right (by norm_num; omega)]
    apply BitVec.eq_of_toInt_eq
    rw [toInt_small _ (by omega), BitVec.toInt_ofInt, Int.bmod_def]
    have : (⌊r⌋ % ((2 ^ 32 : ℕ) : ℤ)) = ⌊r⌋ := Int.emod_eq_of_lt h0 (by norm_num; omega)
    rw [this, if_pos (by norm_num; omega)]
    omega

/-- A bucket is the word of a small number. -/
theorem bucket_eq (q k : ℕ) (hq : q < 128) (hk : k < 256) : ∃ z : ℕ, z < 32 ∧ bucket q k = BitVec.ofNat 32 z := by
  unfold bucket
  rw [dist_eq q k hq hk]
  by_cases h : q + 128 - k < 16
  · refine ⟨q + 128 - k, by omega, ?_⟩
    have e : IntOp.cmpi .slt (BitVec.ofNat 32 (q + 128 - k)) 16#32 = 1 := by
      unfold IntOp.cmpi
      dsimp only
      rw [show (BitVec.ofNat 32 (q + 128 - k)).slt 16#32 = true from by
        rw [BitVec.slt_iff_toInt_lt, toInt_small _ (by omega), lit16]; omega]
      rfl
    rw [Scalar.select, if_pos e]
  · obtain ⟨z, hz, e2⟩ := far_eq (q + 128 - k) (by omega) (by omega)
    have e : ¬IntOp.cmpi .slt (BitVec.ofNat 32 (q + 128 - k)) 16#32 = 1 := by
      unfold IntOp.cmpi
      dsimp only
      rw [show (BitVec.ofNat 32 (q + 128 - k)).slt 16#32 = false from by
        rw [Bool.eq_false_iff, ne_eq, BitVec.slt_iff_toInt_lt, toInt_small _ (by omega), lit16]; omega]
      decide
    rw [Scalar.select, if_neg e, e2]
    have e3 : IntOp.addi 16#32 (BitVec.ofNat 32 z) = BitVec.ofNat 32 (16 + z) := by
      unfold IntOp.addi
      apply BitVec.eq_of_toNat_eq
      simp only [BitVec.toNat_add, BitVec.toNat_ofNat]
      omega
    rw [e3]
    unfold IntOp.minsi
    split
    · rename_i hs
      rw [BitVec.slt_iff_toInt_lt, toInt_small _ (by omega)] at hs
      exact ⟨16 + z, by rw [lit31] at hs; omega, rfl⟩
    · exact ⟨31, by omega, rfl⟩

/-- Wrapping a negative bucket round the table changes nothing: none is. -/
theorem wrap_eq (q k : ℕ) (hq : q < 128) (hk : k < 256) :
    Scalar.select (IntOp.cmpi .slt (bucket q k) 0#32) (IntOp.addi (bucket q k) 32#32) (bucket q k) = bucket q k := by
  obtain ⟨z, hz, e⟩ := bucket_eq q k hq hk
  rw [e, Scalar.select, if_neg]
  unfold IntOp.cmpi
  dsimp only
  rw [show (BitVec.ofNat 32 z).slt 0#32 = false from by
    rw [Bool.eq_false_iff, ne_eq, BitVec.slt_iff_toInt_lt, toInt_small _ (by omega), lit0]; omega]
  decide

/-- The one-hot entry of a row and a bucket: one where the bucket is the row. -/
theorem hot_eq (q k : ℕ) (hq : q < 128) (hk : k < 256) (r : Fin 32) :
    FloatOps.uitofp (F := Ideal) .f32 (IntOp.cmpi .eq (bucket q k) (BitVec.ofNat 32 r.val)) = if (bucket q k).toInt = r.val then (1 : EReal) else 0 := by
  obtain ⟨z, hz, e⟩ := bucket_eq q k hq hk
  rw [e, toInt_small _ (by omega)]
  unfold IntOp.cmpi
  dsimp only
  by_cases h : z = r.val
  · rw [h, if_pos rfl, beq_self_eq_true]
    show (((1 : ℕ) : ℝ) : EReal) = 1
    simp
  · have hne : (BitVec.ofNat 32 z == BitVec.ofNat 32 r.val) = false := by
      rw [beq_eq_false_iff_ne]
      intro hh
      have := congrArg BitVec.toNat hh
      simp only [BitVec.toNat_ofNat] at this
      have := r.isLt
      omega
    rw [hne, if_neg (by exact_mod_cast h)]
    show (((0 : ℕ) : ℝ) : EReal) = 0
    simp

end Cert.Hand.Bucket

end
-- ==== Proof.RelBiasDwVal.lean ====
/- The relative bias table's gradient: the kernel's one-hot products, accumulated, are the host's scatter of the scores' gradient. -/
module

public import proofs.«01_k».proof.Proof.Gen.RelBiasDwIdeal.Value
public import proofs.«01_k».proof.Proof.Gen.RelBiasDwRefIdeal.Run
public import proofs.«01_k».proof.Proof.Bucket
public import proofs.«01_k».proof.Defs
public import Idealize.ShloMosaic.Lib.Tactic

@[expose] public section

set_option maxRecDepth 16384

noncomputable section

namespace Cert.RelBiasDwIdeal.Hand

open Cert.RelBiasDwIdeal Cert.RelBiasDwIdeal.Gen Idealize.ShloMosaic Idealize.ShloMosaic.TcCoe Idealize.SL.Sem
open Cert.Hand.Bucket

/-- One query and key's part of an entry: the score's gradient where their bucket is the entry's row. -/
def part (x : FVec Ideal S16x128x256 .f32) (i : S32x16.Idx) (q : Fin 128) (k : Fin 256) : EReal :=
  if (bucket q.val k.val).toInt = ((i 0 : Fin 32).val : ℤ) then x (ix3 (i 1) q k) else 0

/-- The part of a pair of a query and a key given as one number; zero past the last pair. -/
def partAt (x : FVec Ideal S16x128x256 .f32) (i : S32x16.Idx) (n : ℕ) : EReal :=
  if h : n < 32768 then part x i ⟨n / 256, by omega⟩ ⟨n % 256, Nat.mod_lt _ (by omega)⟩ else 0

/-- The sum of the `s`-th run of 1024 pairs. -/
def run (x : FVec Ideal S16x128x256 .f32) (i : S32x16.Idx) (s : ℕ) : EReal := ∑ k : Fin 1024, partAt x i (1024 * s + k.val)

/-- Thirty-two runs are all the pairs. -/
theorem sum_runs (x : FVec Ideal S16x128x256 .f32) (i : S32x16.Idx) :
    ∑ s ∈ Finset.range 32, run x i s = ∑ q : Fin 128, ∑ k : Fin 256, part x i q k := by
  rw [Finset.sum_range]
  unfold run
  rw [← Fintype.sum_prod_type' (fun (s : Fin 32) (k : Fin 1024) => partAt x i (1024 * s.val + k.val)),
    ← Fintype.sum_prod_type' (fun (q : Fin 128) (k : Fin 256) => part x i q k)]
  refine (Fintype.sum_equiv (finProdFinEquiv (m := 32) (n := 1024)) _ (fun n : Fin 32768 => partAt x i n.val) fun p => ?_).trans
    (Fintype.sum_equiv (finProdFinEquiv (m := 128) (n := 256)) _ (fun n : Fin 32768 => partAt x i n.val) fun p => ?_).symm
  · congr 1
    show 1024 * p.1.val + p.2.val = p.2.val + 1024 * p.1.val
    omega
  · have h1 := p.1.isLt
    have h2 := p.2.isLt
    have e : ((finProdFinEquiv (m := 128) (n := 256)) p).val = p.2.val + 256 * p.1.val := rfl
    show part x i p.1 p.2 = partAt x i _
    rw [e]
    unfold partAt
    rw [dif_pos (by omega)]
    congr 1
    · apply Fin.ext; dsimp only; omega
    · apply Fin.ext; dsimp only; omega

theorem hz : (![0, 0] : Fin 2 → Nat) = fun _ => 0 := funext fun a => by fin_cases a <;> rfl

/-- One point's product at an index. -/
theorem pay1_apply (x0 : Vec Ideal S32x1024 .f32) (x1 : Vec Ideal S16x1024 .f32) (y : S32x16.Idx) :
    (k0_pay1 x0 x1 y : EReal) = ∑ k : Fin 1024, (x0 (ix2 (y 0) k) : EReal) * (x1 (ix2 (y 1) k) : EReal) := by
  idx_vars y
  pointwise [k0_pay1]

/-- The first point's store is its product. -/
theorem pay2_eq (x0 : Vec Ideal S32x1024 .f32) (x1 : Vec Ideal S16x1024 .f32) : k0_pay2 x0 x1 = k0_pay1 x0 x1 := by
  unfold k0_pay2
  exact shapeCast_self _ _

/-- A later point's store is the accumulator plus its product. -/
theorem pay3_apply (x0 : Vec Ideal S32x1024 .f32) (x1 : Vec Ideal S16x1024 .f32) (xs : Vec Ideal S32x16 .f32) (y : S32x16.Idx) :
    (k0_pay3 x0 x1 xs y : EReal) = (xs y : EReal) + k0_pay1 x0 x1 y := by
  unfold k0_pay3
  rw [shapeCast_self]
  rfl

section
variable (c : Dev nD) (i : grid0.Coords) (a3 : Memref sig .tc .vmem S32x1024 .f32) (q3 : a3.IsWhole) (a4 : Memref sig .tc .vmem S16x1024 .f32) (q4 : a4.IsWhole) (a5 : Memref sig .tc .vmem S32x16 .f32) (q5 : a5.IsWhole) (a6 : Memref sig .tc .vmem S32x16 .f32) (q6 : a6.IsWhole)
  (x0 : Vec Ideal S32x1024 .f32) (x1 : Vec Ideal S16x1024 .f32) (xs0 : Vec Ideal S32x16 .f32)

/-- What case A leaves in the accumulator. -/
theorem sout_A (hc0 : cond0_0 i) (hc1 : ¬cond0_1 i) (hc2 : ¬cond0_2 i) :
    sout0_A_0 c i a3 q3 a4 q4 a5 q5 a6 q6 hc0 hc1 hc2 x0 x1 = k0_pay2 x0 x1 := by
  unfold sout0_A_0
  rw [View.read_writes_eq_canon _ _ _ (fun y => scover0_A_0 (y := y) ..)]
  unfold kernelRun0_A
  dsimp only
  rw [View.canon_unit_zero (S := S32x16) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 hc0 hc1 hc2 x0 x1 xs0 = k0_pay3 x0 x1 xs0 := by
  unfold sout0_B_0
  rw [View.read_writes_eq_canon _ _ _ (fun y => scover0_B_0 (y := y) ..)]
  unfold kernelRun0_B
  dsimp only
  rw [View.canon_unit_zero (S := S32x16) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 hc0 hc1 hc2 x0 x1 xs0 = k0_pay3 x0 x1 xs0 := by
  unfold sout0_C_0
  rw [View.read_writes_eq_canon _ _ _ (fun y => scover0_C_0 (y := y) ..)]
  unfold kernelRun0_C
  dsimp only
  sl_unfold_words
  rw [View.canon_unit_zero (S := S32x16) hz]
  simp only [View.readAt_eq_ld, Memref.IsWhole.read_unread, View.ld_unit_zero (S := ⟨2, _⟩) hz]

/-- What case C leaves in the result's block: the accumulator. -/
theorem out_C (hc0 : ¬cond0_0 i) (hc1 : cond0_1 i) (hc2 : cond0_2 i) :
    out0_C_2 c i a3 q3 a4 q4 a5 q5 a6 q6 hc0 hc1 hc2 x0 x1 xs0 = k0_pay3 x0 x1 xs0 := by
  unfold out0_C_2
  rw [View.read_writes_eq_canon _ _ _ (fun y => cover0_C_2 (y := y) ..)]
  unfold kernelRun0_C
  dsimp only
  sl_unfold_words
  rw [View.canon_unit_zero (S := S32x16) hz]
  rw [View.readCov_unit_zero (S := S32x16) _ hz]
  simp only [View.readAt_eq_ld, Memref.IsWhole.read_unread, View.ld_unit_zero (S := ⟨2, _⟩) hz]

end

variable (m : (ℓ : Loc nD τ sig) → Buf (Elt Ideal) ℓ)

/-- The table's gradient of the launch contents: every entry the sum over the pairs of its bucket. -/
def G (c : Dev nD) : FVec Ideal S32x16 .f32 := fun i => ∑ q : Fin 128, ∑ k : Fin 256, part (m (c.tc.loc main_arg0)) i q k

/-- The one-hot matrix the call is given: one where a pair's bucket is the row. -/
theorem hot (c : Dev nD) (r : Fin 32) (j : Fin 32768) :
    ((V m c main_v36 : FVec Ideal S32x32768 .f32) (ix2 r j) : EReal) = if (bucket (j.val / 256) (j.val % 256)).toInt = (r.val : ℤ) then (1 : EReal) else 0 := by
  rw [← hot_eq (j.val / 256) (j.val % 256) (by have := j.isLt; omega) (Nat.mod_lt _ (by omega)) r]
  unfold V bucket far Cert.Hand.Bucket.dist
  simp only [hostOps0, hostOps0_1, hostOps0_2, List.flatten_cons, List.flatten_nil, List.append_nil, List.cons_append,
    List.nil_append, StableHlo.TRef.ternary, StableHlo.TRef.toBuf, StableHlo.TRef.ofBuf, cast_eq]
  after_results_simp
  pointwise

/-- The flattened scores' gradient the call is given. -/
theorem flat (c : Dev nD) (a : Fin 16) (j : Fin 32768) :
    ((V m c main_v37 : FVec Ideal S16x32768 .f32) (ix2 a j) : EReal)
      = (m (c.tc.loc main_arg0) : FVec Ideal S16x128x256 .f32) (ix3 a ⟨j.val / 256, by have := j.isLt; omega⟩ ⟨j.val % 256, Nat.mod_lt _ (by omega)⟩) := by
  unfold V
  simp only [hostOps0, hostOps0_1, hostOps0_2, List.flatten_cons, List.flatten_nil, List.append_nil, List.cons_append,
    List.nil_append, StableHlo.TRef.ternary, StableHlo.TRef.toBuf, StableHlo.TRef.ofBuf, cast_eq]
  after_results_simp
  pointwise

/-- The block indices of the operands' windows at every point of the grid. -/
theorem index_facts : ∀ t : Fin cfg0.N,
    win0_0.index t (0 : Fin 2) = 0 ∧ win0_0.index t (1 : Fin 2) = t.val % 32
    ∧ win0_1.index t (0 : Fin 2) = 0 ∧ win0_1.index t (1 : Fin 2) = t.val % 32 :=
  (by decide +kernel : ∀ t : Fin grid0.N, _)

/-- The result's block index at every point of the grid. -/
theorem out_facts : ∀ t : Fin cfg0.N, win0_2.index t (0 : Fin 2) = 0 ∧ win0_2.index t (1 : Fin 2) = 0 :=
  (by decide +kernel : ∀ t : Fin grid0.N, _)

/-- A block of the one-hot matrix holds its columns of it. -/
theorem blk0 (c : Dev nD) (t : Fin cfg0.N) (r : Fin 32) (k : Fin 1024) (j : Fin 32768) (hj : j.val = 1024 * (t.val % 32) + k.val) :
    (iblk m c 0 t (ix2 r k) : EReal) = (V m c main_v36 : FVec Ideal S32x32768 .f32) (ix2 r j) := by
  obtain ⟨h00, h01, -⟩ := index_facts t
  unfold iblk
  rw [View.read_apply]
  show V m c main_v36 _ = V m c main_v36 _
  congr 1
  funext a
  apply Fin.ext
  match a with
  | ⟨0, _⟩ => show win0_0.index t 0 * 32 + 1 * r.val = r.val; rw [h00]; omega
  | ⟨1, _⟩ => show win0_0.index t 1 * 1024 + 1 * k.val = j.val; rw [h01, hj]; omega

/-- A block of the scores' gradient holds its columns of it. -/
theorem blk1 (c : Dev nD) (t : Fin cfg0.N) (r : Fin 16) (k : Fin 1024) (j : Fin 32768) (hj : j.val = 1024 * (t.val % 32) + k.val) :
    (iblk m c 1 t (ix2 r k) : EReal) = (V m c main_v37 : FVec Ideal S16x32768 .f32) (ix2 r j) := by
  obtain ⟨-, -, h10, h11⟩ := index_facts t
  unfold iblk
  rw [View.read_apply]
  show V m c main_v37 _ = V m c main_v37 _
  congr 1
  funext a
  apply Fin.ext
  match a with
  | ⟨0, _⟩ => show win0_1.index t 0 * 16 + 1 * r.val = r.val; rw [h10]; omega
  | ⟨1, _⟩ => show win0_1.index t 1 * 1024 + 1 * k.val = j.val; rw [h11, hj]; omega

/-- A point's product is its run of pairs' part of the whole. -/
theorem point (c : Dev nD) (t : Fin cfg0.N) (y : S32x16.Idx) :
    (k0_pay1 (iblk m c 0 t) (iblk m c 1 t) y : EReal) = run (m (c.tc.loc main_arg0)) y (t.val % 32) := by
  rw [pay1_apply]
  unfold run
  refine Finset.sum_congr rfl fun k _ => ?_
  have hk := k.isLt
  have hr : 1024 * (t.val % 32) + k.val < 32768 := by omega
  rw [blk0 m c t (y 0) k ⟨_, hr⟩ rfl, blk1 m c t (y 1) k ⟨_, hr⟩ rfl]
  erw [hot, flat]
  unfold partAt part
  rw [dif_pos hr]
  dsimp only
  split
  · rw [one_mul]
  · rw [zero_mul]

/-- What the accumulator holds after a point: the runs so far. -/
theorem acc_eq (c : Dev nD) : ∀ (n : ℕ) (h : n < cfg0.N) (y : S32x16.Idx),
    ((outsAt0 m c n h).2 y : EReal) = ∑ s ∈ Finset.range (n % 32 + 1), run (m (c.tc.loc main_arg0)) y s := by
  intro n
  induction n with
  | zero =>
    intro h y
    rw [outsAt0_A m c ⟨0, h⟩ rfl (by dsimp only; omega) (by dsimp only; omega)]
    dsimp only
    rw [sout_A, pay2_eq, point m c ⟨0, h⟩ y]
    simp
  | succ n ih =>
    intro h y
    have hN : cfg0.N = 32 := N_0
    have hA : ¬(n + 1) % 32 = 0 := by omega
    have hm : (n + 1) % 32 = n % 32 + 1 := by omega
    rw [Finset.sum_range_succ, hm, ← ih (Nat.lt_of_succ_lt h) y]
    by_cases hC : (n + 1) % 32 = 31
    · rw [outsAt0_C m c ⟨n + 1, h⟩ hA (by dsimp only; omega) hC]
      dsimp only
      rw [sout_C, pay3_apply, point m c ⟨n + 1, h⟩ y]
      simp only [hm, Nat.add_sub_cancel]
    · rw [outsAt0_B m c ⟨n + 1, h⟩ hA (by dsimp only; omega) hC]
      dsimp only
      rw [sout_B, pay3_apply, point m c ⟨n + 1, h⟩ y]
      simp only [hm, Nat.add_sub_cancel]

/-- What the last point leaves in the result's block is the whole sum. -/
theorem block_eq (c : Dev nD) (t : Fin cfg0.N) (ht : t.val % 32 = 31) (y : S32x16.Idx) : ((outsAt0 m c t.val t.isLt).1 y : EReal) = G m c y := by
  have e := acc_eq m c t.val t.isLt y
  rw [ht, sum_runs] at e
  have hA : ¬t.val % 32 = 0 := by omega
  rw [outsAt0_C m c t hA (by omega) ht] at e ⊢
  dsimp only at e ⊢
  rw [sout_C] at e
  rw [out_C]
  exact e

/-- What a point writes back is the whole table. -/
theorem flushed_G (c : Dev nD) (t : Fin cfg0.N) (hf : (cfg0.win 2).flush t = true) :
    (dats m 0 c).flushed 2 t = ((cfg0.win 2).blk t).view.read (Elt Ideal) (G m c) := by
  obtain ⟨h0, h1⟩ := out_facts t
  have ht : t.val % 32 = 31 := (by decide +kernel : ∀ t : Fin grid0.N, win0_2.flush t = true → t.val % 32 = 31) t hf
  rw [Value.flushed2]
  funext y
  rw [View.read_apply]
  refine (block_eq m c t ht y).trans (congrArg (G m c) ?_)
  funext a
  apply Fin.ext
  match a with
  | ⟨0, _⟩ => show (y 0 : Nat) = win0_2.index t 0 * 32 + 1 * (y 0 : Nat); rw [h0]; omega
  | ⟨1, _⟩ => show (y 1 : Nat) = win0_2.index t 1 * 16 + 1 * (y 1 : Nat); rw [h1]; omega

/-- Some point writes back. -/
theorem covered : ∃ t : Fin cfg0.N, (cfg0.win 2).flush t = true := (by decide +kernel : ∃ t : Fin grid0.N, win0_2.flush t = true)

/-- The result array after the run is the whole table. -/
theorem final (c : Dev nD) : (dats m 0 c).arrAt 2 cfg0.N = G m c :=
  (dats m 0 c).arrAt_eq_of_cover 2 (G m c) (fun t hf => flushed_G m c t hf) fun i => by
    have h0 : (i 0 : Nat) < 32 := (i 0).isLt
    have h1 : (i 1 : Nat) < 16 := (i 1).isLt
    obtain ⟨t, hf⟩ := covered
    obtain ⟨ha, hb⟩ := out_facts t
    refine ⟨t, hf, ?_⟩
    show i ∈ ((View.whole main_v38).slice (win0_2.rect t)).set
    rw [View.set_slice_whole, Rect.mem_set_unit]
    intro a
    match a with
    | ⟨0, _⟩ => show win0_2.index t 0 * 32 ≤ (i 0 : Nat) ∧ (i 0 : Nat) < win0_2.index t 0 * 32 + 32
                rw [ha]; omega
    | ⟨1, _⟩ => show win0_2.index t 1 * 16 ≤ (i 1 : Nat) ∧ (i 1 : Nat) < win0_2.index t 1 * 16 + 16
                rw [hb]; omega

end Cert.RelBiasDwIdeal.Hand

namespace Cert.RelBiasDwRefIdeal.Hand

open Cert.RelBiasDwRefIdeal Cert.RelBiasDwRefIdeal.Gen Idealize.ShloMosaic Idealize.ShloMosaic.TcCoe

/-- The scatter's start on the table's rows: the index word of the pair. -/
theorem start0 (q : Fin 128) (k : Fin 256) (a : Fin 16) (idx : IVec S128x256x1 32) :
    scatter_S32x16_S128x256x1_S128x256x16_2_0_0_2.start (ix3 q k a) idx 0 = (idx (ix3 q k (0 : Fin 1))).toInt := by
  show (idx _).toInt = _
  congr 2
  funext b
  apply Fin.ext
  match b with
  | ⟨0, _⟩ => rfl
  | ⟨1, _⟩ => rfl
  | ⟨2, _⟩ => rfl

/-- Where an update lands: in its pair's row and its head's column. -/
theorem lands (q : Fin 128) (k : Fin 256) (a : Fin 16) (idx : IVec S128x256x1 32) (r : Fin 32) (h : Fin 16) :
    scatter_S32x16_S128x256x1_S128x256x16_2_0_0_2.resultIdx? (ix3 q k a) idx = some (ix2 r h)
      ↔ (idx (ix3 q k (0 : Fin 1))).toInt = (r.val : ℤ) ∧ a = h := by
  have s0 := start0 q k a idx
  have s1 : scatter_S32x16_S128x256x1_S128x256x16_2_0_0_2.start (ix3 q k a) idx 1 = 0 := rfl
  have w0 : scatter_S32x16_S128x256x1_S128x256x16_2_0_0_2.window (ix3 q k a) 0 = 0 := rfl
  have w1 : scatter_S32x16_S128x256x1_S128x256x16_2_0_0_2.window (ix3 q k a) 1 = a.val := rfl
  have hr := r.isLt
  have ha := a.isLt
  unfold ScatterDims.resultIdx?
  constructor
  · intro e
    split at e
    · next hh =>
      have e' := Option.some.inj e
      have e0 : (scatter_S32x16_S128x256x1_S128x256x16_2_0_0_2.start (ix3 q k a) idx 0 + (scatter_S32x16_S128x256x1_S128x256x16_2_0_0_2.window (ix3 q k a) 0 : Int)).toNat = r.val := congrArg Fin.val (congrFun e' 0)
      have e1 : (scatter_S32x16_S128x256x1_S128x256x16_2_0_0_2.start (ix3 q k a) idx 1 + (scatter_S32x16_S128x256x1_S128x256x16_2_0_0_2.window (ix3 q k a) 1 : Int)).toNat = h.val := congrArg Fin.val (congrFun e' 1)
      have h0 := (hh 0).1
      rw [s0, w0] at e0 h0
      rw [s1, w1] at e1
      exact ⟨by omega, Fin.ext (by omega)⟩
    · exact absurd e (by simp)
  · rintro ⟨e, rfl⟩
    rw [dif_pos]
    · congr 1
      funext b
      apply Fin.ext
      match b with
      | ⟨0, _⟩ => show (scatter_S32x16_S128x256x1_S128x256x16_2_0_0_2.start (ix3 q k a) idx 0 + (scatter_S32x16_S128x256x1_S128x256x16_2_0_0_2.window (ix3 q k a) 0 : Int)).toNat = r.val; rw [s0, w0]; omega
      | ⟨1, _⟩ => show (scatter_S32x16_S128x256x1_S128x256x16_2_0_0_2.start (ix3 q k a) idx 1 + (scatter_S32x16_S128x256x1_S128x256x16_2_0_0_2.window (ix3 q k a) 1 : Int)).toNat = a.val; rw [s1, w1]; omega
    · intro b
      match b with
      | ⟨0, _⟩ => erw [s0, w0]; show _ ∧ _ < (32 : ℤ); omega
      | ⟨1, _⟩ => erw [s1, w1]; show _ ∧ _ < (16 : ℤ); omega

/-- A sum in which one head's term is kept, or none. -/
theorem pick (p : Prop) [Decidable p] (f : Fin 16 → EReal) (h : Fin 16) :
    ∑ a : Fin 16, (if p ∧ a = h then f a else 0) = if p then f h else 0 := by
  by_cases hp : p
  · simp [hp]
  · simp [hp]

/-- The scatter of the transposed gradient at an index: the sum over the pairs of its bucket. -/
theorem scatter_apply (z : FVec Ideal S32x16 .f32) (hz : ∀ i, z i = (0 : EReal)) (idx : IVec S128x256x1 32)
    (hidx : ∀ (q : Fin 128) (k : Fin 256), idx (ix3 q k (0 : Fin 1)) = Cert.Hand.Bucket.bucket q.val k.val)
    (u : FVec Ideal S128x256x16 .f32) (x : FVec Ideal S16x128x256 .f32) (hu : ∀ q k a, u (ix3 q k a) = x (ix3 a q k)) (r : Fin 32) (h : Fin 16) :
    (Host.scatterAdd (F := Ideal) scatter_S32x16_S128x256x1_S128x256x16_2_0_0_2 z idx u (ix2 r h) : EReal)
      = ∑ q : Fin 128, ∑ k : Fin 256, Cert.RelBiasDwIdeal.Hand.part x (ix2 r h) q k := by
  show Ideal.hostScatterAdd _ z idx u (ix2 r h) = _
  unfold Ideal.hostScatterAdd
  rw [hz, zero_add, Finset.sum_filter, sum_idx3]
  refine Finset.sum_congr rfl fun q _ => Finset.sum_congr rfl fun k _ => ?_
  refine (Finset.sum_congr rfl fun a _ => ?_).trans (pick ((Cert.Hand.Bucket.bucket q.val k.val).toInt = (r.val : ℤ)) (fun a => x (ix3 a q k)) h)
  refine if_congr ?_ (hu q k a) rfl
  rw [lands, hidx]

end Cert.RelBiasDwRefIdeal.Hand

namespace Cert.Hand

open Idealize.ShloMosaic Idealize.SL.Sem

/-- The kernel's table and the host's are one array. -/
theorem algebraic_relBiasDw : Cert.algebraic_RelBiasDwIdeal_RelBiasDwRefIdeal := by
  intro m g m' g' _ hargs
  refine ⟨fun c => Cert.RelBiasDwIdeal.Hand.G m c, ?_, ?_⟩
  · refine (θ_run Cert.RelBiasDwIdeal.defs _ _).mono (fun r h c => ?_) (Cert.RelBiasDwIdeal.Value.run_blocks m g)
    exact ⟨(h c).1.trans (Cert.RelBiasDwIdeal.Hand.final m c), (h c).2⟩
  · refine (θ_run Cert.RelBiasDwRefIdeal.defs _ _).mono (fun r h c => ?_) (Cert.RelBiasDwRefIdeal.Value.run m' g')
    refine ⟨(h c).1.trans ?_, (h c).2⟩
    unfold Cert.RelBiasDwRefIdeal.Value.res_main_v40
    rw [hargs c]
    funext i
    unfold Cert.RelBiasDwIdeal.Hand.G
    idx_vars i
    refine Cert.RelBiasDwRefIdeal.Hand.scatter_apply _ (fun i => ?_) _ (fun q k => ?_) _ _ (fun q k a => ?_) _ _
    · idx_vars i
      pointwise
    · rw [← Bucket.wrap_eq q.val k.val q.isLt k.isLt]
      unfold Bucket.bucket Bucket.far Bucket.dist
      pointwise
    · pointwise

end Cert.Hand

end
-- ==== Proof.FinalVal.lean ====
/- The loss, and the gradients of the last layer's rows and of its gain. -/
module

public import proofs.«01_k».proof.Proof.Gen.FinalIdeal.Value
public import proofs.«01_k».proof.Proof.Gen.FinalRefIdeal.Run
public import proofs.«01_k».proof.Proof.NormBack
public import proofs.«01_k».proof.Proof.Runs
public import proofs.«01_k».proof.Defs
public import Idealize.ShloMosaic.Lib.Tactic

@[expose] public section

set_option maxRecDepth 16384

noncomputable section

namespace Cert.Hand.Loss

open Idealize.ShloMosaic

/-- The word of one half. -/
theorem half_eq : Ideal.ofBits .f32 0x3F000000#32 = ((1 / 2 : ℝ) : EReal) := by
  simp [Ideal.ofBits, Ideal.ieee, -EReal.coe_mul]; norm_num

/-- The word of two. -/
theorem two_eq : Ideal.ofBits .f32 0x40000000#32 = ((2 : ℝ) : EReal) := by
  simp [Ideal.ofBits, Ideal.ieee, -EReal.coe_mul]; norm_num

/-- The word of a row's length. -/
theorem len_eq : Ideal.ofBits .f32 0x44800000#32 = ((1024 : ℝ) : EReal) := by
  simp [Ideal.ofBits, Ideal.ieee, -EReal.coe_mul]; norm_num

/-- The word of the inverse of a row's length. -/
theorem inv_eq : Ideal.ofBits .f32 0x3A800000#32 = ((1 / 1024 : ℝ) : EReal) := by
  simp [Ideal.ofBits, Ideal.ieee, -EReal.coe_mul]; norm_num

/-- Division by a row's length is the product with its inverse. -/
theorem div_len (x : EReal) : Ideal.div x (Ideal.ofBits .f32 0x44800000#32) = x * Ideal.ofBits .f32 0x3A800000#32 := by
  have h : ((1024 : ℝ) : EReal) ≠ 0 := by
    rw [← EReal.coe_zero]; exact fun e => by have := EReal.coe_injective e; norm_num at this
  rw [len_eq, inv_eq, Ideal.div, if_neg h, ← EReal.coe_inv]
  norm_num

/-- The cotangent of the normalised rows: the square's slope, over twice the row's length. -/
theorem cot_eq (e : EReal) : Ideal.div (Ideal.ofBits .f32 0x3F000000#32) (Ideal.ofBits .f32 0x44800000#32)
      * (Ideal.ofBits .f32 0x40000000#32 * e) = e * Ideal.ofBits .f32 0x3A800000#32 := by
  rw [div_len, half_eq, two_eq, inv_eq, ← mul_assoc, ← EReal.coe_mul, ← EReal.coe_mul, mul_comm]
  norm_num

/-- One half of a sum is the sum of the halves. -/
theorem half_sum {ι : Type} (s : Finset ι) (f : ι → EReal) :
    Ideal.ofBits .f32 0x3F000000#32 * ∑ i ∈ s, f i = ∑ i ∈ s, Ideal.ofBits .f32 0x3F000000#32 * f i := by
  classical
  have h0 : (0 : EReal) ≤ Ideal.ofBits .f32 0x3F000000#32 := by
    rw [half_eq]; exact EReal.coe_nonneg.mpr (by norm_num)
  have ht : Ideal.ofBits .f32 0x3F000000#32 ≠ ⊤ := by
    rw [half_eq]; exact EReal.coe_ne_top _
  induction s using Finset.induction_on with
  | empty => simp
  | insert a s ha ih => rw [Finset.sum_insert ha, Finset.sum_insert ha, EReal.left_distrib_of_nonneg_of_ne_top h0 ht, ih]

end Cert.Hand.Loss

namespace Cert.FinalIdeal.Hand

open Cert.FinalIdeal Cert.FinalIdeal.Gen Idealize.ShloMosaic Idealize.ShloMosaic.TcCoe Idealize.SL.Sem

/-- Entry `k` of a row's error: the normalised row times its gain, less the target. -/
def err (h g t : Fin 1024 → EReal) (k : Fin 1024) : EReal :=
  h k * Ideal.rsqrt (Cert.Hand.meanSq h) * g k - t k

/-- The cotangent of the normalised row's entry. -/
def cot (h g t : Fin 1024 → EReal) (k : Fin 1024) : EReal := err h g t k * Ideal.ofBits .f32 0x3A800000#32

/-- One row's part of the loss: half its mean square error. -/
def rowLoss (h g t : Fin 1024 → EReal) : EReal :=
  Ideal.ofBits .f32 0x3F000000#32 * ((∑ k : Fin 1024, err h g t k * err h g t k) * Ideal.ofBits .f32 0x3A800000#32)

/-- One row's part of the loss, of the whole arrays. -/
def lossRow (x0 : FVec Ideal S8192x1024 .f32) (x1 : FVec Ideal S1x1024 .f32) (x2 : FVec Ideal S8192x1024 .f32) (r : Fin 8192) : EReal :=
  rowLoss (fun k => x0 (ix2 r k)) (fun k => x1 (ix2 (0 : Fin 1) k)) (fun k => x2 (ix2 r k))

/-- The loss, at every entry of its small array. -/
def loss (x0 : FVec Ideal S8192x1024 .f32) (x1 : FVec Ideal S1x1024 .f32) (x2 : FVec Ideal S8192x1024 .f32) : FVec Ideal S8x128 .f32 := fun _ => ∑ r : Fin 8192, lossRow x0 x1 x2 r

/-- The rows' gradient, entry by entry. -/
def dh (x0 : FVec Ideal S8192x1024 .f32) (x1 : FVec Ideal S1x1024 .f32) (x2 : FVec Ideal S8192x1024 .f32) : FVec Ideal S8192x1024 .f32 := fun i =>
  Cert.Hand.normBack (fun k => x0 (ix2 (i 0) k)) (fun k => x1 (ix2 (0 : Fin 1) k))
    (cot (fun k => x0 (ix2 (i 0) k)) (fun k => x1 (ix2 (0 : Fin 1) k)) (fun k => x2 (ix2 (i 0) k))) (i 1)

/-- One row's part of the gain's gradient. -/
def dgRow (x0 : FVec Ideal S8192x1024 .f32) (x1 : FVec Ideal S1x1024 .f32) (x2 : FVec Ideal S8192x1024 .f32) (i : S1x1024.Idx) (r : Fin 8192) : EReal :=
  Cert.Hand.gainBack (fun k => x0 (ix2 r k))
    (cot (fun k => x0 (ix2 r k)) (fun k => x1 (ix2 (0 : Fin 1) k)) (fun k => x2 (ix2 r k))) (i 1)

/-- The gain's gradient, entry by entry. -/
def dg (x0 : FVec Ideal S8192x1024 .f32) (x1 : FVec Ideal S1x1024 .f32) (x2 : FVec Ideal S8192x1024 .f32) : FVec Ideal S1x1024 .f32 := fun i => ∑ r : Fin 8192, dgRow x0 x1 x2 i r

theorem hz : (![0, 0] : Fin 2 → Nat) = fun _ => 0 := funext fun a => by fin_cases a <;> rfl

/-- One block's part of the loss at an index. -/
theorem pay1_apply (x0 : Vec Ideal S512x1024 .f32) (x1 : Vec Ideal S1x1024 .f32) (x2 : Vec Ideal S512x1024 .f32) (y : S8x128.Idx) :
    (k0_pay1 (k0_pay11 x0 x1 x2) y : EReal) = ∑ r : Fin 512, rowLoss (fun k => x0 (ix2 r k)) (fun k => x1 (ix2 (0 : Fin 1) k)) (fun k => x2 (ix2 r k)) := by
  unfold rowLoss
  rw [← Cert.Hand.Loss.half_sum]
  idx_vars y
  unfold err Cert.Hand.meanSq
  pointwise [k0_pay1, k0_pay11, k0_pay7, k0_pay6, k0_pay5, k0_pay4]

/-- One block of the rows' gradient at an index. -/
theorem pay10_apply (x0 : Vec Ideal S512x1024 .f32) (x1 : Vec Ideal S1x1024 .f32) (x2 : Vec Ideal S512x1024 .f32) (y : S512x1024.Idx) :
    (k0_pay10 x0 x1 x2 y : EReal) = Cert.Hand.normBack (fun k => x0 (ix2 (y 0) k)) (fun k => x1 (ix2 (0 : Fin 1) k))
      (cot (fun k => x0 (ix2 (y 0) k)) (fun k => x1 (ix2 (0 : Fin 1) k)) (fun k => x2 (ix2 (y 0) k))) (y 1) := by
  idx_vars y
  unfold Cert.Hand.normBack Cert.Hand.slope cot err Cert.Hand.meanSq
  pointwise [k0_pay10, k0_pay8, k0_pay7, k0_pay6, k0_pay5, k0_pay4]
  simp only [Finset.univ_unique, Finset.sum_singleton]

/-- One block's part of the gain's gradient at an index. -/
theorem pay9_apply (x0 : Vec Ideal S512x1024 .f32) (x1 : Vec Ideal S1x1024 .f32) (x2 : Vec Ideal S512x1024 .f32) (y : S1x1024.Idx) :
    (k0_pay9 x0 x1 x2 y : EReal) = ∑ r : Fin 512, Cert.Hand.gainBack (fun k => x0 (ix2 r k))
      (cot (fun k => x0 (ix2 r k)) (fun k => x1 (ix2 (0 : Fin 1) k)) (fun k => x2 (ix2 r k))) (y 1) := by
  idx_vars y
  unfold Cert.Hand.gainBack cot err Cert.Hand.meanSq
  pointwise [k0_pay9, k0_pay8, k0_pay7, k0_pay6, k0_pay5, k0_pay4]

/-- A later point's store is what the loss's block held plus its part. -/
theorem pay2_apply (v : FVec Ideal S512 .f32) (xo : Vec Ideal S8x128 .f32) (y : S8x128.Idx) :
    (k0_pay2 v xo y : EReal) = (xo y : EReal) + k0_pay1 v y := by
  unfold k0_pay2
  rw [shapeCast_self]
  rfl

/-- A later point's store is what the gain's row held plus its part. -/
theorem pay3_apply (v : FVec Ideal S1x1024 .f32) (xo : Vec Ideal S1x1024 .f32) (y : S1x1024.Idx) :
    (k0_pay3 v xo y : EReal) = (xo y : EReal) + v y := by
  unfold k0_pay3
  rw [shapeCast_self]
  rfl

variable (c : Dev nD) (i : grid0.Coords) (a1 : Memref sig .tc .vmem S512x1024 .f32) (q1 : a1.IsWhole) (a2 : Memref sig .tc .vmem S1x1024 .f32) (q2 : a2.IsWhole) (a3 : Memref sig .tc .vmem S512x1024 .f32) (q3 : a3.IsWhole) (a4 : Memref sig .tc .vmem S8x128 .f32) (q4 : a4.IsWhole) (a5 : Memref sig .tc .vmem S512x1024 .f32) (q5 : a5.IsWhole) (a6 : Memref sig .tc .vmem S1x1024 .f32) (q6 : a6.IsWhole)
  (x0 : Vec Ideal S512x1024 .f32) (x1 : Vec Ideal S1x1024 .f32) (x2 : Vec Ideal S512x1024 .f32) (xo3 : Vec Ideal S8x128 .f32) (xo5 : Vec Ideal S1x1024 .f32)

/-- What case A leaves in the loss's block. -/
theorem out_A_3 (hc0 : cond0_0 i) (hc1 : ¬cond0_1 i) (hc2 : cond0_2 i) (hc3 : ¬cond0_3 i) :
    out0_A_3 c i a1 q1 a2 q2 a3 q3 a4 q4 a5 q5 a6 q6 hc0 hc1 hc2 hc3 x0 x1 x2 = k0_pay1 (k0_pay11 x0 x1 x2) := by
  unfold out0_A_3
  rw [View.read_writes_eq_canon _ _ _ (fun y => cover0_A_3 (y := y) ..)]
  unfold kernelRun0_A
  dsimp only
  sl_unfold_words
  rw [View.canon_unit_zero (S := S8x128) hz]
  simp only [View.readAt_eq_ld, Memref.IsWhole.read_unread, View.ld_unit_zero (S := ⟨2, _⟩) hz]

/-- What case A leaves in the rows' gradient's block. -/
theorem out_A_4 (hc0 : cond0_0 i) (hc1 : ¬cond0_1 i) (hc2 : cond0_2 i) (hc3 : ¬cond0_3 i) :
    out0_A_4 c i a1 q1 a2 q2 a3 q3 a4 q4 a5 q5 a6 q6 hc0 hc1 hc2 hc3 x0 x1 x2 = k0_pay10 x0 x1 x2 := by
  unfold out0_A_4
  rw [View.read_writes_eq_canon _ _ _ (fun y => cover0_A_4 (y := y) ..)]
  unfold kernelRun0_A
  dsimp only
  sl_unfold_words
  rw [View.canon_unit_zero (S := S512x1024) hz]
  simp only [View.readAt_eq_ld, Memref.IsWhole.read_unread, View.ld_unit_zero (S := ⟨2, _⟩) hz]

/-- What case A leaves in the gain's gradient's block. -/
theorem out_A_5 (hc0 : cond0_0 i) (hc1 : ¬cond0_1 i) (hc2 : cond0_2 i) (hc3 : ¬cond0_3 i) :
    out0_A_5 c i a1 q1 a2 q2 a3 q3 a4 q4 a5 q5 a6 q6 hc0 hc1 hc2 hc3 x0 x1 x2 = k0_pay9 x0 x1 x2 := by
  unfold out0_A_5
  rw [View.read_writes_eq_canon _ _ _ (fun y => cover0_A_5 (y := y) ..)]
  unfold kernelRun0_A
  dsimp only
  sl_unfold_words
  rw [View.canon_unit_zero (S := S1x1024) hz]
  simp only [View.readAt_eq_ld, Memref.IsWhole.read_unread, View.ld_unit_zero (S := ⟨2, _⟩) hz]

/-- What case B leaves in the loss's block. -/
theorem out_B_3 (hc0 : ¬cond0_0 i) (hc1 : cond0_1 i) (hc2 : ¬cond0_2 i) (hc3 : cond0_3 i) :
    out0_B_3 c i a1 q1 a2 q2 a3 q3 a4 q4 a5 q5 a6 q6 hc0 hc1 hc2 hc3 x0 x1 x2 xo3 xo5 = k0_pay2 (k0_pay11 x0 x1 x2) xo3 := by
  unfold out0_B_3
  rw [View.read_writes_eq_canon _ _ _ (fun y => cover0_B_3 (y := y) ..)]
  unfold kernelRun0_B
  dsimp only
  sl_unfold_words
  rw [View.canon_unit_zero (S := S8x128) hz]
  simp only [View.readAt_eq_ld, Memref.IsWhole.read_unread, View.ld_unit_zero (S := ⟨2, _⟩) hz]

/-- What case B leaves in the rows' gradient's block. -/
theorem out_B_4 (hc0 : ¬cond0_0 i) (hc1 : cond0_1 i) (hc2 : ¬cond0_2 i) (hc3 : cond0_3 i) :
    out0_B_4 c i a1 q1 a2 q2 a3 q3 a4 q4 a5 q5 a6 q6 hc0 hc1 hc2 hc3 x0 x1 x2 xo3 xo5 = k0_pay10 x0 x1 x2 := by
  unfold out0_B_4
  rw [View.read_writes_eq_canon _ _ _ (fun y => cover0_B_4 (y := y) ..)]
  unfold kernelRun0_B
  dsimp only
  sl_unfold_words
  rw [View.canon_unit_zero (S := S512x1024) hz]
  simp only [View.readAt_eq_ld, Memref.IsWhole.read_unread, View.ld_unit_zero (S := ⟨2, _⟩) hz]

/-- What case B leaves in the gain's gradient's block. -/
theorem out_B_5 (hc0 : ¬cond0_0 i) (hc1 : cond0_1 i) (hc2 : ¬cond0_2 i) (hc3 : cond0_3 i) :
    out0_B_5 c i a1 q1 a2 q2 a3 q3 a4 q4 a5 q5 a6 q6 hc0 hc1 hc2 hc3 x0 x1 x2 xo3 xo5 = k0_pay3 (k0_pay9 x0 x1 x2) xo5 := by
  unfold out0_B_5
  rw [View.read_writes_eq_canon _ _ _ (fun y => cover0_B_5 (y := y) ..)]
  unfold kernelRun0_B
  dsimp only
  sl_unfold_words
  rw [View.canon_unit_zero (S := S1x1024) hz]
  simp only [View.readAt_eq_ld, Memref.IsWhole.read_unread, View.ld_unit_zero (S := ⟨2, _⟩) hz]

variable (m : (ℓ : Loc nD τ sig) → Buf (Elt Ideal) ℓ)

/-- The loss of the launch contents. -/
def G3 (c : Dev nD) : FVec Ideal S8x128 .f32 := loss (m (c.tc.loc main_arg0)) (m (c.tc.loc main_arg1)) (m (c.tc.loc main_arg2))

/-- The rows' gradient of the launch contents. -/
def G4 (c : Dev nD) : FVec Ideal S8192x1024 .f32 := dh (m (c.tc.loc main_arg0)) (m (c.tc.loc main_arg1)) (m (c.tc.loc main_arg2))

/-- The gain's gradient of the launch contents. -/
def G5 (c : Dev nD) : FVec Ideal S1x1024 .f32 := dg (m (c.tc.loc main_arg0)) (m (c.tc.loc main_arg1)) (m (c.tc.loc main_arg2))

/-- The block indices of the windows at every point of the grid. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- A block of operand 0 holds the operand's entries of its place. -/
theorem blk0 (c : Dev nD) (t : Fin cfg0.N) (k : Fin 512) (j : Fin 1024) (r : Fin 8192) (hr : r.val = 512 * t.val + k.val) :
    (iblk m c 0 t (ix2 k j) : EReal) = m (c.tc.loc main_arg0) (ix2 r j) := by
  obtain ⟨h0a, h0b, -⟩ := index_facts t
  refine congrArg (m (c.tc.loc main_arg0)) (funext fun a => Fin.ext ?_)
  match a with
  | ⟨0, _⟩ => show win0_0.index t 0 * 512 + 1 * k.val = r.val; rw [h0a, hr]; omega
  | ⟨1, _⟩ => show win0_0.index t 1 * 1024 + 1 * j.val = j.val; rw [h0b]; omega

/-- A block of operand 2 holds the operand's entries of its place. -/
theorem blk2 (c : Dev nD) (t : Fin cfg0.N) (k : Fin 512) (j : Fin 1024) (r : Fin 8192) (hr : r.val = 512 * t.val + k.val) :
    (iblk m c 2 t (ix2 k j) : EReal) = m (c.tc.loc main_arg2) (ix2 r j) := by
  obtain ⟨-, -, -, -, h2a, h2b, -⟩ := index_facts t
  refine congrArg (m (c.tc.loc main_arg2)) (funext fun a => Fin.ext ?_)
  match a with
  | ⟨0, _⟩ => show win0_2.index t 0 * 512 + 1 * k.val = r.val; rw [h2a, hr]; omega
  | ⟨1, _⟩ => show win0_2.index t 1 * 1024 + 1 * j.val = j.val; rw [h2b]; omega

/-- A block of operand 1 holds the operand's entries of its place. -/
theorem blk1 (c : Dev nD) (t : Fin cfg0.N) (j : Fin 1024) :
    (iblk m c 1 t (ix2 (0 : Fin 1) j) : EReal) = m (c.tc.loc main_arg1) (ix2 (0 : Fin 1) j) := by
  obtain ⟨-, -, h1a, h1b, -⟩ := index_facts t
  refine congrArg (m (c.tc.loc main_arg1)) (funext fun a => Fin.ext ?_)
  match a with
  | ⟨0, _⟩ => show win0_1.index t 0 * 1 + 1 * 0 = 0; rw [h1a]
  | ⟨1, _⟩ => show win0_1.index t 1 * 1024 + 1 * j.val = j.val; rw [h1b]; omega

/-- A point's part of the loss is its run of rows' part of the whole. -/
theorem point3 (c : Dev nD) (t : Fin cfg0.N) (y : S8x128.Idx) :
    (k0_pay1 (k0_pay11 (iblk m c 0 t) (iblk m c 1 t) (iblk m c 2 t)) y : EReal)
      = Cert.Hand.runSum 512 (lossRow (m (c.tc.loc main_arg0)) (m (c.tc.loc main_arg1)) (m (c.tc.loc main_arg2))) t.val := by
  rw [pay1_apply]
  unfold Cert.Hand.runSum
  refine Finset.sum_congr rfl fun k _ => ?_
  have hk := k.isLt
  have ht : t.val < 16 := N_0 ▸ t.isLt
  have hr : 512 * t.val + k.val < 8192 := by omega
  rw [Cert.Hand.atNat_of_lt _ _ hr]
  unfold lossRow
  rw [funext fun j => blk0 m c t k j ⟨_, hr⟩ rfl, funext fun j => blk1 m c t j, funext fun j => blk2 m c t k j ⟨_, hr⟩ rfl]

/-- A point's part of the gain's gradient is its run of rows' part of the whole. -/
theorem point5 (c : Dev nD) (t : Fin cfg0.N) (y J : S1x1024.Idx) (hJ : (J 1).val = (y 1).val) :
    (k0_pay9 (iblk m c 0 t) (iblk m c 1 t) (iblk m c 2 t) y : EReal)
      = Cert.Hand.runSum 512 (dgRow (m (c.tc.loc main_arg0)) (m (c.tc.loc main_arg1)) (m (c.tc.loc main_arg2)) J) t.val := by
  rw [pay9_apply]
  unfold Cert.Hand.runSum
  refine Finset.sum_congr rfl fun k _ => ?_
  have hk := k.isLt
  have ht : t.val < 16 := N_0 ▸ t.isLt
  have hr : 512 * t.val + k.val < 8192 := by omega
  rw [Cert.Hand.atNat_of_lt _ _ hr]
  unfold dgRow
  rw [show J 1 = y 1 from Fin.ext hJ]
  rw [funext fun j => blk0 m c t k j ⟨_, hr⟩ rfl, funext fun j => blk1 m c t j, funext fun j => blk2 m c t k j ⟨_, hr⟩ rfl]

/-- What the loss's block holds after a point: the runs of rows so far. -/
theorem acc3_eq (c : Dev nD) : ∀ (n : ℕ) (h : n < cfg0.N) (y : S8x128.Idx),
    ((outsAt0 m c n h).1 y : EReal) = ∑ s ∈ Finset.range (n + 1), Cert.Hand.runSum 512 (lossRow (m (c.tc.loc main_arg0)) (m (c.tc.loc main_arg1)) (m (c.tc.loc main_arg2))) s := by
  intro n
  induction n with
  | zero =>
    intro h y
    rw [outsAt0_A m c ⟨0, h⟩ rfl (by dsimp only; omega) rfl (by dsimp only; omega)]
    dsimp only
    rw [out_A_3, point3 m c ⟨0, h⟩ y]
    simp
  | succ n ih =>
    intro h y
    have hN : cfg0.N = 16 := N_0
    rw [Finset.sum_range_succ, ← ih (Nat.lt_of_succ_lt h) y]
    rw [outsAt0_B m c ⟨n + 1, h⟩ (by dsimp only; omega) (by dsimp only; omega) (by dsimp only; omega) (by dsimp only; omega)]
    dsimp only
    rw [out_B_3, pay2_apply, point3 m c ⟨n + 1, h⟩ y]
    simp only [Nat.add_sub_cancel]

/-- What the gain's gradient's block holds after a point: the runs of rows so far. -/
theorem acc5_eq (c : Dev nD) : ∀ (n : ℕ) (h : n < cfg0.N) (y J : S1x1024.Idx) (_ : (J 1).val = (y 1).val),
    ((outsAt0 m c n h).2.2 y : EReal) = ∑ s ∈ Finset.range (n + 1), Cert.Hand.runSum 512 (dgRow (m (c.tc.loc main_arg0)) (m (c.tc.loc main_arg1)) (m (c.tc.loc main_arg2)) J) s := by
  intro n
  induction n with
  | zero =>
    intro h y J h1
    rw [outsAt0_A m c ⟨0, h⟩ rfl (by dsimp only; omega) rfl (by dsimp only; omega)]
    dsimp only
    rw [out_A_5, point5 m c ⟨0, h⟩ y J h1]
    simp
  | succ n ih =>
    intro h y J h1
    have hN : cfg0.N = 16 := N_0
    rw [Finset.sum_range_succ, ← ih (Nat.lt_of_succ_lt h) y J h1]
    rw [outsAt0_B m c ⟨n + 1, h⟩ (by dsimp only; omega) (by dsimp only; omega) (by dsimp only; omega) (by dsimp only; omega)]
    dsimp only
    rw [out_B_5, pay3_apply, point5 m c ⟨n + 1, h⟩ y J h1]
    simp only [Nat.add_sub_cancel]

/-- What a point leaves in the rows' gradient's block. -/
theorem block4 (c : Dev nD) (t : Fin cfg0.N) :
    (outsAt0 m c t.val t.isLt).2.1 = k0_pay10 (iblk m c 0 t) (iblk m c 1 t) (iblk m c 2 t) := by
  have hN : cfg0.N = 16 := N_0
  have := t.isLt
  by_cases h : t.val % 16 = 0
  · rw [outsAt0_A m c t h (by omega) h (by omega)]
    dsimp only
    rw [out_A_4]
  · rw [outsAt0_B m c t h (by omega) h (by omega)]
    dsimp only
    rw [out_B_4]

/-- What a point writes back is its block of the rows' gradient. -/
theorem flushed_G4 (c : Dev nD) (t : Fin cfg0.N) (hf : (cfg0.win 4).flush t = true) :
    (dats m 0 c).flushed 4 t = ((cfg0.win 4).blk t).view.read (Elt Ideal) (G4 m c) := by
  obtain ⟨-, -, -, -, -, -, -, -, h4a, h4b, -⟩ := index_facts t
  rw [Value.flushed4]
  funext y
  rw [View.read_apply]
  show ((outsAt0 m c t.val t.isLt).2.1 y : EReal) = _
  rw [block4, pay10_apply]
  have ht : t.val < 16 := N_0 ▸ t.isLt
  have hk : (y 0 : Nat) < 512 := (y 0).isLt
  have e : (((cfg0.win 4).blk t).view.emb y : S8192x1024.Idx) = ix2 (⟨512 * t.val + (y 0 : Nat), by omega⟩ : Fin 8192) (y 1) := by
    funext a
    apply Fin.ext
    match a with
    | ⟨0, _⟩ => show win0_4.index t 0 * 512 + 1 * (y 0 : Nat) = 512 * t.val + (y 0 : Nat); rw [h4a]; omega
    | ⟨1, _⟩ => show win0_4.index t 1 * 1024 + 1 * (y 1 : Nat) = (y 1 : Nat); rw [h4b]; omega
  rw [e]
  unfold G4 dh
  rw [funext fun j => blk0 m c t (y 0) j ⟨512 * t.val + (y 0 : Nat), by omega⟩ rfl, funext fun j => blk1 m c t j, funext fun j => blk2 m c t (y 0) j ⟨512 * t.val + (y 0 : Nat), by omega⟩ rfl]
  rfl

/-- What the last point leaves in the loss's block. -/
theorem block3 (c : Dev nD) (t : Fin cfg0.N) (ht : t.val = 15) (y J : S8x128.Idx) :
    ((outsAt0 m c t.val t.isLt).1 y : EReal) = G3 m c J := by
  refine (acc3_eq m c t.val t.isLt y).trans ?_
  rw [ht, Cert.Hand.sum_runs 16 512 rfl]
  rfl

/-- What the last point leaves in the gain's gradient's block. -/
theorem block5 (c : Dev nD) (t : Fin cfg0.N) (ht : t.val = 15) (y J : S1x1024.Idx) (h1 : (J 1).val = (y 1).val) :
    ((outsAt0 m c t.val t.isLt).2.2 y : EReal) = G5 m c J := by
  refine (acc5_eq m c t.val t.isLt y J h1).trans ?_
  rw [ht, Cert.Hand.sum_runs 16 512 rfl]
  rfl

/-- What the last point writes back is the loss. -/
theorem flushed_G3 (c : Dev nD) (t : Fin cfg0.N) (hf : (cfg0.win 3).flush t = true) :
    (dats m 0 c).flushed 3 t = ((cfg0.win 3).blk t).view.read (Elt Ideal) (G3 m c) := by
  have ht : t.val = 15 := (by decide +kernel : ∀ t : Fin grid0.N, win0_3.flush t = true → t.val = 15) t hf
  rw [Value.flushed3]
  funext y
  rw [View.read_apply]
  exact block3 m c t ht y _

/-- What the last point writes back is the gain's gradient. -/
theorem flushed_G5 (c : Dev nD) (t : Fin cfg0.N) (hf : (cfg0.win 5).flush t = true) :
    (dats m 0 c).flushed 5 t = ((cfg0.win 5).blk t).view.read (Elt Ideal) (G5 m c) := by
  obtain ⟨-, -, -, -, -, -, -, -, -, -, -, h5b⟩ := index_facts t
  have ht : t.val = 15 := (by decide +kernel : ∀ t : Fin grid0.N, win0_5.flush t = true → t.val = 15) t hf
  rw [Value.flushed5]
  funext y
  rw [View.read_apply]
  refine block5 m c t ht y _ ?_
  show win0_5.index t 1 * 1024 + 1 * (y 1 : Nat) = (y 1 : Nat); rw [h5b]; omega

/-- Every block of the rows' gradient is some point's. -/
theorem covered4 : ∀ a : Fin 16, ∃ t : Fin grid0.N, (cfg0.win 4).flush t = true
    ∧ win0_4.index t (0 : Fin 2) = a.val ∧ win0_4.index t (1 : Fin 2) = 0 := by decide +kernel

/-- Some point writes the loss. -/
theorem covered3 : ∃ t : Fin grid0.N, (cfg0.win 3).flush t = true
    ∧ win0_3.index t (0 : Fin 2) = 0 ∧ win0_3.index t (1 : Fin 2) = 0 := by decide +kernel

/-- Some point writes the gain's gradient. -/
theorem covered5 : ∃ t : Fin grid0.N, (cfg0.win 5).flush t = true
    ∧ win0_5.index t (0 : Fin 2) = 0 ∧ win0_5.index t (1 : Fin 2) = 0 := by decide +kernel

/-- The loss's array after the run. -/
theorem final3 (c : Dev nD) : (dats m 0 c).arrAt 3 cfg0.N = G3 m c :=
  (dats m 0 c).arrAt_eq_of_cover 3 (G3 m c) (fun t hf => flushed_G3 m c t hf) fun i => by
    have h0 : (i 0 : Nat) < 8 := (i 0).isLt
    have h1 : (i 1 : Nat) < 128 := (i 1).isLt
    obtain ⟨t, hf, ha, hb⟩ := covered3
    refine ⟨t, hf, ?_⟩
    show i ∈ ((View.whole main_v0_0).slice (win0_3.rect t)).set
    rw [View.set_slice_whole, Rect.mem_set_unit]
    intro a
    match a with
    | ⟨0, _⟩ => show win0_3.index t 0 * 8 ≤ (i 0 : Nat) ∧ (i 0 : Nat) < win0_3.index t 0 * 8 + 8
                rw [ha]; omega
    | ⟨1, _⟩ => show win0_3.index t 1 * 128 ≤ (i 1 : Nat) ∧ (i 1 : Nat) < win0_3.index t 1 * 128 + 128
                rw [hb]; omega

/-- The rows' gradient's array after the run. -/
theorem final4 (c : Dev nD) : (dats m 0 c).arrAt 4 cfg0.N = G4 m c :=
  (dats m 0 c).arrAt_eq_of_cover 4 (G4 m c) (fun t hf => flushed_G4 m c t hf) fun i => by
    have h0 : (i 0 : Nat) < 8192 := (i 0).isLt
    have h1 : (i 1 : Nat) < 1024 := (i 1).isLt
    obtain ⟨t, hf, ha, hb⟩ := covered4 ⟨(i 0 : Nat) / 512, by omega⟩
    refine ⟨t, hf, ?_⟩
    show i ∈ ((View.whole main_v0_1).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [ha]; dsimp only; omega
    | ⟨1, _⟩ => show win0_4.index t 1 * 1024 ≤ (i 1 : Nat) ∧ (i 1 : Nat) < win0_4.index t 1 * 1024 + 1024
                rw [hb]; omega

/-- The gain's gradient's array after the run. -/
theorem final5 (c : Dev nD) : (dats m 0 c).arrAt 5 cfg0.N = G5 m c :=
  (dats m 0 c).arrAt_eq_of_cover 5 (G5 m c) (fun t hf => flushed_G5 m c t hf) fun i => by
    have h0 : (i 0 : Nat) < 1 := (i 0).isLt
    have h1 : (i 1 : Nat) < 1024 := (i 1).isLt
    obtain ⟨t, hf, ha, hb⟩ := covered5
    refine ⟨t, hf, ?_⟩
    show i ∈ ((View.whole main_v0_2).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [ha]; omega
    | ⟨1, _⟩ => show win0_5.index t 1 * 1024 ≤ (i 1 : Nat) ∧ (i 1 : Nat) < win0_5.index t 1 * 1024 + 1024
                rw [hb]; omega

end Cert.FinalIdeal.Hand

namespace Cert.Hand

open Idealize.ShloMosaic Idealize.SL.Sem

set_option maxHeartbeats 1000000 in
/-- The kernel's loss and gradients and the host's are the same arrays. -/
theorem algebraic_final : Cert.algebraic_FinalIdeal_FinalRefIdeal := by
  intro m g m' g' _ hargs
  refine ⟨fun c => Cert.FinalIdeal.Hand.G3 m c, fun c => Cert.FinalIdeal.Hand.G4 m c, fun c => Cert.FinalIdeal.Hand.G5 m c, ?_, ?_⟩
  · refine (θ_run Cert.FinalIdeal.defs _ _).mono (fun r h c => ?_) (Cert.FinalIdeal.Value.run_blocks m g)
    exact ⟨(h c).1.trans (Cert.FinalIdeal.Hand.final3 m c), (h c).2.1.trans (Cert.FinalIdeal.Hand.final4 m c), (h c).2.2.1.trans (Cert.FinalIdeal.Hand.final5 m c), (h c).2.2.2⟩
  · refine (θ_run Cert.FinalRefIdeal.defs _ _).mono (fun r h c => ?_) (Cert.FinalRefIdeal.Value.run m' g')
    refine ⟨(h c).1.trans ?_, (h c).2.1.trans ?_, (h c).2.2.1.trans ?_, (h c).2.2.2⟩
    · rw [(hargs c).1, (hargs c).2.1, (hargs c).2.2]
      funext i
      show _ = Cert.FinalIdeal.Hand.loss _ _ _ i
      unfold Cert.FinalIdeal.Hand.loss Cert.FinalIdeal.Hand.lossRow Cert.FinalIdeal.Hand.rowLoss
      rw [← Cert.Hand.Loss.half_sum]
      idx_vars i
      unfold Cert.FinalIdeal.Hand.err Cert.Hand.meanSq
      simp only [← Cert.Hand.Loss.div_len]
      pointwise
    · unfold Cert.FinalRefIdeal.Value.res_main_v51
      rw [(hargs c).1, (hargs c).2.1, (hargs c).2.2]
      funext i
      show _ = Cert.FinalIdeal.Hand.dh _ _ _ i
      unfold Cert.FinalIdeal.Hand.dh
      idx_vars i
      unfold Cert.Hand.normBack Cert.Hand.slope Cert.FinalIdeal.Hand.cot Cert.FinalIdeal.Hand.err Cert.Hand.meanSq
      pointwise
      simp only [Finset.univ_unique, Finset.sum_singleton, Cert.Hand.Loss.cot_eq]
    · rw [(hargs c).1, (hargs c).2.1, (hargs c).2.2]
      funext i
      show _ = Cert.FinalIdeal.Hand.dg _ _ _ i
      unfold Cert.FinalIdeal.Hand.dg Cert.FinalIdeal.Hand.dgRow
      idx_vars i
      unfold Cert.Hand.gainBack Cert.FinalIdeal.Hand.cot Cert.FinalIdeal.Hand.err Cert.Hand.meanSq
      pointwise
      simp only [Finset.univ_unique, Finset.sum_singleton, Cert.Hand.Loss.cot_eq]

end Cert.Hand

end
-- ==== Proof.GnormTile.lean ====
/- What a point of the gated norm's backward pass leaves in its blocks: the same tile of work for each head. -/
module

public import proofs.«01_k».proof.Proof.Gen.GnormBwdIdeal.Value
public import Idealize.ShloMosaic.Lib.Pointwise
public import Idealize.ShloMosaic.Lib.Tactic

@[expose] public section

set_option maxRecDepth 65536

noncomputable section

namespace Cert.GnormBwdIdeal.Hand

open Cert.GnormBwdIdeal Cert.GnormBwdIdeal.Gen Idealize.ShloMosaic Idealize.ShloMosaic.TcCoe Idealize.SL.Sem

/-- One head's tile of the recurrence output's gradient. -/
def doT (o z : FVec Ideal S128x128 .f32) (g : Vec Ideal S1x128 .f32) (d : FVec Ideal S128x128 .f32) : FVec Ideal S128x128 .f32 :=
  k0_pay277 g o (k0_pay37 o) (k0_pay38 o) (k0_pay54 z) d

/-- One head's tile of the gate's gradient. -/
def dzT (o z : FVec Ideal S128x128 .f32) (g : Vec Ideal S1x128 .f32) (d : FVec Ideal S128x128 .f32) : FVec Ideal S128x128 .f32 :=
  k0_pay276 z (k0_pay40 g o) (k0_pay52 z) (k0_pay53 z) d

/-- One head's part of the gain's gradient. -/
def dwT (o z d : FVec Ideal S128x128 .f32) : FVec Ideal S1x128 .f32 :=
  shapeCast S1x128 (multiReduction .add [0] S128 (mulf (k0_pay39 o) (k0_pay275 (k0_pay54 z) d)) 0x00000000#32 reduces_S128x128_S128_2 (.inl rfl) rfl) shapeCasts_S128_S1x128

/-- The heads' tiles of the recurrence output. -/
def oH (x0 : Vec Ideal S16x128x128 .bf16) : Fin 16 → FVec Ideal S128x128 .f32 :=
  ![(k0_pay3 x0), (k0_pay4 x0), (k0_pay5 x0), (k0_pay6 x0), (k0_pay7 x0), (k0_pay8 x0), (k0_pay9 x0), (k0_pay10 x0), (k0_pay11 x0), (k0_pay12 x0), (k0_pay13 x0), (k0_pay14 x0), (k0_pay15 x0), (k0_pay16 x0), (k0_pay18 (k0_pay17 x0)), (k0_pay19 x0)]

/-- The heads' tiles of the gate. -/
def zH (x1 : Vec Ideal S128x2048 .bf16) : Fin 16 → FVec Ideal S128x128 .f32 :=
  ![(k0_pay20 (k0_pay1 x1)), (k0_pay21 (k0_pay1 x1)), (k0_pay22 (k0_pay1 x1)), (k0_pay23 (k0_pay1 x1)), (k0_pay24 (k0_pay1 x1)), (k0_pay25 (k0_pay1 x1)), (k0_pay26 (k0_pay1 x1)), (k0_pay27 (k0_pay1 x1)), (k0_pay28 (k0_pay1 x1)), (k0_pay29 (k0_pay1 x1)), (k0_pay30 (k0_pay1 x1)), (k0_pay31 (k0_pay1 x1)), (k0_pay32 (k0_pay1 x1)), (k0_pay33 (k0_pay1 x1)), (k0_pay34 (k0_pay1 x1)), (k0_pay35 (k0_pay1 x1))]

/-- The heads' tiles of the gated output's cotangent. -/
def dH (x3 : Vec Ideal S128x2048 .bf16) : Fin 16 → FVec Ideal S128x128 .f32 :=
  ![(k0_pay188 (k0_pay2 x3)), (k0_pay189 (k0_pay2 x3)), (k0_pay190 (k0_pay2 x3)), (k0_pay191 (k0_pay2 x3)), (k0_pay192 (k0_pay2 x3)), (k0_pay193 (k0_pay2 x3)), (k0_pay194 (k0_pay2 x3)), (k0_pay195 (k0_pay2 x3)), (k0_pay196 (k0_pay2 x3)), (k0_pay197 (k0_pay2 x3)), (k0_pay198 (k0_pay2 x3)), (k0_pay199 (k0_pay2 x3)), (k0_pay200 (k0_pay2 x3)), (k0_pay201 (k0_pay2 x3)), (k0_pay202 (k0_pay2 x3)), (k0_pay203 (k0_pay2 x3))]

/-- The heads' tiles of the recurrence output's gradient, stacked. -/
def doB (x0 : Vec Ideal S16x128x128 .bf16) (x1 : Vec Ideal S128x2048 .bf16) (x2 : Vec Ideal S1x128 .f32) (x3 : Vec Ideal S128x2048 .bf16) : FVec Ideal S16x128x128 .bf16 :=
  truncf .bf16 (concatenate S16x128x128 0 (List.ofFn fun a : Fin 16 => ⟨S1x128x128, shapeCast S1x128x128 (doT (oH x0 a) (zH x1 a) x2 (dH x3 a)) shapeCasts_S128x128_S1x128x128⟩)
    concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0) bitsLt_bf16_f32

/-- The heads' tiles of the gate's gradient, side by side. -/
def dzB (x0 : Vec Ideal S16x128x128 .bf16) (x1 : Vec Ideal S128x2048 .bf16) (x2 : Vec Ideal S1x128 .f32) (x3 : Vec Ideal S128x2048 .bf16) : FVec Ideal S128x2048 .bf16 :=
  truncf .bf16 (concatenate S128x2048 1 (List.ofFn fun a : Fin 16 => ⟨S128x128, dzT (oH x0 a) (zH x1 a) x2 (dH x3 a)⟩)
    concatenates_S128x128_S128x128_S128x128_S128x128_S128x128_S128x128_S128x128_S128x128_S128x128_S128x128_S128x128_S128x128_S128x128_S128x128_S128x128_S128x128_S128x2048_d1) bitsLt_bf16_f32

/-- The heads' parts of the gain's gradient. -/
def dwH (x0 : Vec Ideal S16x128x128 .bf16) (x1 : Vec Ideal S128x2048 .bf16) (x3 : Vec Ideal S128x2048 .bf16) (a : Fin 16) : FVec Ideal S1x128 .f32 :=
  dwT (oH x0 a) (zH x1 a) (dH x3 a)

/-- The heads' parts of the gain's gradient, added from the last head on. -/
def dwB (x0 : Vec Ideal S16x128x128 .bf16) (x1 : Vec Ideal S128x2048 .bf16) (x3 : Vec Ideal S128x2048 .bf16) : FVec Ideal S1x128 .f32 :=
  addf (addf (addf (addf (addf (addf (addf (addf (addf (addf (addf (addf (addf (addf (addf (dwH x0 x1 x3 15) (dwH x0 x1 x3 14)) (dwH x0 x1 x3 13)) (dwH x0 x1 x3 12)) (dwH x0 x1 x3 11)) (dwH x0 x1 x3 10)) (dwH x0 x1 x3 9)) (dwH x0 x1 x3 8)) (dwH x0 x1 x3 7)) (dwH x0 x1 x3 6)) (dwH x0 x1 x3 5)) (dwH x0 x1 x3 4)) (dwH x0 x1 x3 3)) (dwH x0 x1 x3 2)) (dwH x0 x1 x3 1)) (dwH x0 x1 x3 0)

theorem hz : (![0, 0] : Fin 2 → Nat) = fun _ => 0 := funext fun a => by fin_cases a <;> rfl

theorem hz3 : (![0, 0, 0] : Fin 3 → Nat) = fun _ => 0 := funext fun a => by fin_cases a <;> rfl

variable (c : Dev nD) (i : grid0.Coords) (a1 : Memref sig .tc .vmem S16x128x128 .bf16) (q1 : a1.IsWhole) (a2 : Memref sig .tc .vmem S128x2048 .bf16) (q2 : a2.IsWhole) (a3 : Memref sig .tc .vmem S1x128 .f32) (q3 : a3.IsWhole) (a4 : Memref sig .tc .vmem S128x2048 .bf16) (q4 : a4.IsWhole) (a5 : Memref sig .tc .vmem S16x128x128 .bf16) (q5 : a5.IsWhole) (a6 : Memref sig .tc .vmem S128x2048 .bf16) (q6 : a6.IsWhole) (a7 : Memref sig .tc .vmem S1x128 .f32) (q7 : a7.IsWhole)
  (x0 : Vec Ideal S16x128x128 .bf16) (x1 : Vec Ideal S128x2048 .bf16) (x2 : Vec Ideal S1x128 .f32) (x3 : Vec Ideal S128x2048 .bf16) (xo6 : Vec Ideal S1x128 .f32)

/-- What case A leaves in the recurrence output's gradient's block. -/
theorem out_A_4 (hc0 : cond0_0 i) (hc1 : ¬cond0_1 i) :
    out0_A_4 c i a1 q1 a2 q2 a3 q3 a4 q4 a5 q5 a6 q6 a7 q7 hc0 hc1 x0 x1 x2 x3 = doB x0 x1 x2 x3 := by
  unfold out0_A_4
  rw [View.read_writes_eq_canon _ _ _ (fun y => cover0_A_4 (y := y) ..)]
  unfold kernelRun0_A
  dsimp only
  sl_unfold_words
  rw [View.canon_unit_zero (S := S16x128x128) hz3]
  simp only [View.readAt_eq_ld, Memref.IsWhole.read_unread, View.ld_unit_zero (S := ⟨3, _⟩) hz3, View.ld_unit_zero (S := ⟨2, _⟩) hz]
  rfl

/-- What case A leaves in the gate's gradient's block. -/
theorem out_A_5 (hc0 : cond0_0 i) (hc1 : ¬cond0_1 i) :
    out0_A_5 c i a1 q1 a2 q2 a3 q3 a4 q4 a5 q5 a6 q6 a7 q7 hc0 hc1 x0 x1 x2 x3 = dzB x0 x1 x2 x3 := by
  unfold out0_A_5
  rw [View.read_writes_eq_canon _ _ _ (fun y => cover0_A_5 (y := y) ..)]
  unfold kernelRun0_A
  dsimp only
  sl_unfold_words
  rw [View.canon_unit_zero (S := S128x2048) hz]
  simp only [View.readAt_eq_ld, Memref.IsWhole.read_unread, View.ld_unit_zero (S := ⟨3, _⟩) hz3, View.ld_unit_zero (S := ⟨2, _⟩) hz]
  rfl

/-- What case A leaves in the gain's gradient's block. -/
theorem out_A_6 (hc0 : cond0_0 i) (hc1 : ¬cond0_1 i) :
    out0_A_6 c i a1 q1 a2 q2 a3 q3 a4 q4 a5 q5 a6 q6 a7 q7 hc0 hc1 x0 x1 x2 x3 = dwB x0 x1 x3 := by
  unfold out0_A_6
  rw [View.read_writes_eq_canon _ _ _ (fun y => cover0_A_6 (y := y) ..)]
  unfold kernelRun0_A
  dsimp only
  sl_unfold_words
  rw [View.canon_unit_zero (S := S1x128) hz]
  simp only [View.readAt_eq_ld, Memref.IsWhole.read_unread, View.ld_unit_zero (S := ⟨3, _⟩) hz3, View.ld_unit_zero (S := ⟨2, _⟩) hz]
  rfl

/-- What case B leaves in the recurrence output's gradient's block. -/
theorem out_B_4 (hc0 : ¬cond0_0 i) (hc1 : cond0_1 i) :
    out0_B_4 c i a1 q1 a2 q2 a3 q3 a4 q4 a5 q5 a6 q6 a7 q7 hc0 hc1 x0 x1 x2 x3 xo6 = doB x0 x1 x2 x3 := by
  unfold out0_B_4
  rw [View.read_writes_eq_canon _ _ _ (fun y => cover0_B_4 (y := y) ..)]
  unfold kernelRun0_B
  dsimp only
  sl_unfold_words
  rw [View.canon_unit_zero (S := S16x128x128) hz3]
  simp only [View.readAt_eq_ld, Memref.IsWhole.read_unread, View.ld_unit_zero (S := ⟨3, _⟩) hz3, View.ld_unit_zero (S := ⟨2, _⟩) hz]
  rfl

/-- What case B leaves in the gate's gradient's block. -/
theorem out_B_5 (hc0 : ¬cond0_0 i) (hc1 : cond0_1 i) :
    out0_B_5 c i a1 q1 a2 q2 a3 q3 a4 q4 a5 q5 a6 q6 a7 q7 hc0 hc1 x0 x1 x2 x3 xo6 = dzB x0 x1 x2 x3 := by
  unfold out0_B_5
  rw [View.read_writes_eq_canon _ _ _ (fun y => cover0_B_5 (y := y) ..)]
  unfold kernelRun0_B
  dsimp only
  sl_unfold_words
  rw [View.canon_unit_zero (S := S128x2048) hz]
  simp only [View.readAt_eq_ld, Memref.IsWhole.read_unread, View.ld_unit_zero (S := ⟨3, _⟩) hz3, View.ld_unit_zero (S := ⟨2, _⟩) hz]
  rfl

/-- What case B leaves in the gain's gradient's block. -/
theorem out_B_6 (hc0 : ¬cond0_0 i) (hc1 : cond0_1 i) :
    out0_B_6 c i a1 q1 a2 q2 a3 q3 a4 q4 a5 q5 a6 q6 a7 q7 hc0 hc1 x0 x1 x2 x3 xo6 = k0_pay284 (dwB x0 x1 x3) xo6 := by
  unfold out0_B_6
  rw [View.read_writes_eq_canon _ _ _ (fun y => cover0_B_6 (y := y) ..)]
  unfold kernelRun0_B
  dsimp only
  sl_unfold_words
  rw [View.canon_unit_zero (S := S1x128) hz]
  simp only [View.readAt_eq_ld, Memref.IsWhole.read_unread, View.ld_unit_zero (S := ⟨3, _⟩) hz3, View.ld_unit_zero (S := ⟨2, _⟩) hz]
  rfl

end Cert.GnormBwdIdeal.Hand

end
-- ==== Proof.Gate.lean ====
/- The sigmoid gate, in the form the kernels take it and in the host's. -/
module

public import Idealize.ShloMosaic.Lib.Pointwise

@[expose] public section

noncomputable section

namespace Cert.Hand.Gate

open Idealize.ShloMosaic

/-- The word of one half. -/
theorem half_eq : Ideal.ofBits .f32 0x3F000000#32 = ((1 / 2 : ℝ) : EReal) := by
  simp [Ideal.ofBits, Ideal.ieee, -EReal.coe_mul]; norm_num

/-- The sigmoid, as the host computes it. -/
def sg (z : EReal) : EReal := Ideal.div 1 (1 + Ideal.exp (-z))

theorem sg_bot : sg ⊥ = ((0 : ℝ) : EReal) := Ideal.logistic_bot
theorem sg_top : sg ⊤ = ((1 : ℝ) : EReal) := Ideal.logistic_top
theorem sg_coe (r : ℝ) : sg r = (((1 + Real.exp (-r))⁻¹ : ℝ) : EReal) := Ideal.logistic_coe r

/-- One half of a number of infinite size. -/
theorem half_bot : Ideal.ofBits .f32 0x3F000000#32 * (⊥ : EReal) = ⊥ := by
  rw [half_eq]; exact EReal.coe_mul_bot_of_pos (by norm_num)

theorem half_top : Ideal.ofBits .f32 0x3F000000#32 * (⊤ : EReal) = ⊤ := by
  rw [half_eq]; exact EReal.coe_mul_top_of_pos (by norm_num)

/-- The hyperbolic tangent of half a real number, by its sigmoid. -/
theorem tanh_half (r : ℝ) : Real.tanh (1 / 2 * r) = 2 * (1 + Real.exp (-r))⁻¹ - 1 := by
  rw [Real.tanh_eq_sinh_div_cosh, Real.sinh_eq, Real.cosh_eq]
  have e : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  have p1 := Real.exp_pos (1 / 2 * r)
  have p2 := Real.exp_pos (-(1 / 2 * r))
  rw [e]
  generalize Real.exp (1 / 2 * r) = a at *
  generalize Real.exp (-(1 / 2 * r)) = b at *
  have hq : (1 : ℝ) + b * b ≠ 0 := by positivity
  have hs : a + b ≠ 0 := by positivity
  field_simp
  linear_combination 2 * b * h1

/-- The kernels' gate, half the hyperbolic tangent of half the input plus a half, is the sigmoid. -/
theorem gate_eq (z : EReal) : Ideal.ofBits .f32 0x3F000000#32 * Ideal.tanh (Ideal.ofBits .f32 0x3F000000#32 * z) + Ideal.ofBits .f32 0x3F000000#32 = sg z := by
  induction z using EReal.rec with
  | bot => rw [half_bot, Ideal.tanh_bot, half_eq, sg_bot, ← EReal.coe_one, ← EReal.coe_neg, ← EReal.coe_mul, ← EReal.coe_add]; norm_num
  | top => rw [half_top, Ideal.tanh_top, half_eq, sg_top, ← EReal.coe_one, ← EReal.coe_mul, ← EReal.coe_add]; norm_num
  | coe r =>
    rw [half_eq, ← EReal.coe_mul, Ideal.tanh_coe, tanh_half, sg_coe, ← EReal.coe_mul, ← EReal.coe_add]
    congr 1; ring

/-- The slope of the kernels' gate is the sigmoid's. -/
theorem slope_eq (z : EReal) : Ideal.ofBits .f32 0x3F000000#32 * (Ideal.ofBits .f32 0x3F000000#32
      * ((1 + Ideal.tanh (Ideal.ofBits .f32 0x3F000000#32 * z)) * (1 - Ideal.tanh (Ideal.ofBits .f32 0x3F000000#32 * z))))
    = sg z * (1 - sg z) := by
  induction z using EReal.rec with
  | bot => rw [half_bot, Ideal.tanh_bot, half_eq, sg_bot, ← EReal.coe_one, ← EReal.coe_neg, ← EReal.coe_add, ← EReal.coe_sub, ← EReal.coe_sub, ← EReal.coe_mul, ← EReal.coe_mul, ← EReal.coe_mul, ← EReal.coe_mul]; norm_num
  | top => rw [half_top, Ideal.tanh_top, half_eq, sg_top, ← EReal.coe_one, ← EReal.coe_add, ← EReal.coe_sub, ← EReal.coe_mul, ← EReal.coe_mul, ← EReal.coe_mul, ← EReal.coe_mul]; norm_num
  | coe r =>
    rw [half_eq, ← EReal.coe_mul, Ideal.tanh_coe, tanh_half, sg_coe, ← EReal.coe_one, ← EReal.coe_add, ← EReal.coe_sub, ← EReal.coe_sub, ← EReal.coe_mul, ← EReal.coe_mul, ← EReal.coe_mul, ← EReal.coe_mul]
    congr 1; ring

end Cert.Hand.Gate

end
-- ==== Proof.GnormBlk.lean ====
/- A block of the gated norm's backward pass, entry by entry. -/
module

public import proofs.«01_k».proof.Proof.GnormTile
public import proofs.«01_k».proof.Proof.Gate

@[expose] public section

set_option maxRecDepth 65536

noncomputable section

namespace Cert.Hand.Gnorm

open Idealize.ShloMosaic Cert.Hand.Gate

/-- The mean of a head's squares plus the small constant. -/
def meanSq (h : Fin 128 → EReal) : EReal :=
  Ideal.div (∑ j : Fin 128, h j * h j) (Ideal.ofBits .f32 0x43000000#32) + Ideal.ofBits .f32 0x358637BD#32

/-- The cotangent that reaches each square of the head: through the inverse root, and the mean's division. -/
def slope (h g d : Fin 128 → EReal) : EReal :=
  Ideal.div ((∑ j : Fin 128, h j * (d j * g j)) * (Ideal.ofBits .f32 0xBF000000#32 * Ideal.div (Ideal.rsqrt (meanSq h)) (meanSq h)))
    (Ideal.ofBits .f32 0x43000000#32)

/-- Entry `k` of the head's gradient under the cotangent `d` of the normalised head. -/
def normBack (h g d : Fin 128 → EReal) (k : Fin 128) : EReal :=
  d k * g k * Ideal.rsqrt (meanSq h) + h k * slope h g d + slope h g d * h k

/-- The normalised head's cotangent: the gated output's, times the gate `z · sigmoid z`. -/
def cot (z d : Fin 128 → EReal) (k : Fin 128) : EReal := d k * (z k * sg (z k))

/-- Entry `k` of the gate's cotangent: the normalised head times the gated output's. -/
def gcot (h g d : Fin 128 → EReal) (k : Fin 128) : EReal := h k * Ideal.rsqrt (meanSq h) * g k * d k

/-- Entry `k` of the gate's gradient: through both factors of `z · sigmoid z`. -/
def gateBack (h z g d : Fin 128 → EReal) (k : Fin 128) : EReal :=
  gcot h g d k * sg (z k) + z k * gcot h g d k * (sg (z k) * (Ideal.ofBits .f32 0x3F800000#32 - sg (z k)))

/-- Entry `k` of a head's part of the gain's gradient. -/
def gainBack (h z d : Fin 128 → EReal) (k : Fin 128) : EReal :=
  h k * Ideal.rsqrt (meanSq h) * cot z d k

/-- The place of a head's lane in the row. -/
def lane (a : Fin 16) (k : Fin 128) : Fin 2048 := ⟨128 * a.val + k.val, by omega⟩

end Cert.Hand.Gnorm

namespace Cert.GnormBwdIdeal.Hand

open Cert.GnormBwdIdeal Cert.GnormBwdIdeal.Gen Idealize.ShloMosaic Idealize.ShloMosaic.TcCoe Idealize.SL.Sem
open Cert.Hand.Gnorm (lane)

/-- A head's tile of the recurrence output's gradient at an index. -/
theorem doT_apply (o z : FVec Ideal S128x128 .f32) (g : Vec Ideal S1x128 .f32) (d : FVec Ideal S128x128 .f32) (r k : Fin 128) :
    (doT o z g d (ix2 r k) : EReal) = Cert.Hand.Gnorm.normBack (fun j => o (ix2 r j)) (fun j => g (ix2 (0 : Fin 1) j))
      (Cert.Hand.Gnorm.cot (fun j => z (ix2 r j)) (fun j => d (ix2 r j))) k := by
  unfold Cert.Hand.Gnorm.normBack Cert.Hand.Gnorm.slope Cert.Hand.Gnorm.cot Cert.Hand.Gnorm.meanSq
  pointwise [doT, k0_pay277, k0_pay275, k0_pay36, k0_pay37, k0_pay38, k0_pay54, k0_pay53, k0_pay51]
  simp only [Finset.univ_unique, Finset.sum_singleton, Cert.Hand.Gate.gate_eq]

/-- A head's tile of the gate's gradient at an index. -/
theorem dzT_apply (o z : FVec Ideal S128x128 .f32) (g : Vec Ideal S1x128 .f32) (d : FVec Ideal S128x128 .f32) (r k : Fin 128) :
    (dzT o z g d (ix2 r k) : EReal) = Cert.Hand.Gnorm.gateBack (fun j => o (ix2 r j)) (fun j => z (ix2 r j)) (fun j => g (ix2 (0 : Fin 1) j))
      (fun j => d (ix2 r j)) k := by
  unfold Cert.Hand.Gnorm.gateBack Cert.Hand.Gnorm.gcot Cert.Hand.Gnorm.meanSq
  pointwise [dzT, k0_pay276, k0_pay40, k0_pay39, k0_pay36, k0_pay37, k0_pay52, k0_pay53, k0_pay51]
  simp only [Finset.univ_unique, Finset.sum_singleton, Cert.Hand.Gate.gate_eq]
  rw [← Cert.Hand.Gate.slope_eq]
  ac_rfl

/-- A head's part of the gain's gradient at an index. -/
theorem dwT_apply (o z : FVec Ideal S128x128 .f32) (d : FVec Ideal S128x128 .f32) (k : Fin 128) :
    (dwT o z d (ix2 (0 : Fin 1) k) : EReal) = ∑ r : Fin 128, Cert.Hand.Gnorm.gainBack (fun j => o (ix2 r j)) (fun j => z (ix2 r j))
      (fun j => d (ix2 r j)) k := by
  unfold Cert.Hand.Gnorm.gainBack Cert.Hand.Gnorm.cot Cert.Hand.Gnorm.meanSq
  pointwise [dwT, k0_pay39, k0_pay36, k0_pay37, k0_pay275, k0_pay54, k0_pay53, k0_pay51]
  simp only [Finset.univ_unique, Finset.sum_singleton, Cert.Hand.Gate.gate_eq]

/-- A head's tile of the recurrence output. -/
theorem oH_apply (x0 : Vec Ideal S16x128x128 .bf16) (a : Fin 16) (r k : Fin 128) : (oH x0 a (ix2 r k) : EReal) = x0 (ix3 a r k) := by
  fin_cases a <;> simp only [oH] <;> pointwise [k0_pay3, k0_pay4, k0_pay5, k0_pay6, k0_pay7, k0_pay8, k0_pay9, k0_pay10, k0_pay11, k0_pay12, k0_pay13, k0_pay14, k0_pay15, k0_pay16, k0_pay18, k0_pay17, k0_pay19]

/-- A head's tile of the gate. -/
theorem zH_apply (x1 : Vec Ideal S128x2048 .bf16) (a : Fin 16) (r k : Fin 128) : (zH x1 a (ix2 r k) : EReal) = x1 (ix2 r (lane a k)) := by
  unfold lane
  fin_cases a <;> simp only [zH] <;> pointwise [k0_pay1, k0_pay20, k0_pay21, k0_pay22, k0_pay23, k0_pay24, k0_pay25, k0_pay26, k0_pay27, k0_pay28, k0_pay29, k0_pay30, k0_pay31, k0_pay32, k0_pay33, k0_pay34, k0_pay35]

/-- A head's tile of the gated output's cotangent. -/
theorem dH_apply (x3 : Vec Ideal S128x2048 .bf16) (a : Fin 16) (r k : Fin 128) : (dH x3 a (ix2 r k) : EReal) = x3 (ix2 r (lane a k)) := by
  unfold lane
  fin_cases a <;> simp only [dH] <;> pointwise [k0_pay2, k0_pay188, k0_pay189, k0_pay190, k0_pay191, k0_pay192, k0_pay193, k0_pay194, k0_pay195, k0_pay196, k0_pay197, k0_pay198, k0_pay199, k0_pay200, k0_pay201, k0_pay202, k0_pay203]

/-- The stacked tiles of the recurrence output's gradient, at a head's row and lane. -/
theorem doB_apply (x0 : Vec Ideal S16x128x128 .bf16) (x1 : Vec Ideal S128x2048 .bf16) (x2 : Vec Ideal S1x128 .f32) (x3 : Vec Ideal S128x2048 .bf16) (a : Fin 16) (r k : Fin 128) :
    (doB x0 x1 x2 x3 (ix3 a r k) : EReal) = Cert.Hand.Gnorm.normBack (fun j => x0 (ix3 a r j)) (fun j => x2 (ix2 (0 : Fin 1) j))
      (Cert.Hand.Gnorm.cot (fun j => x1 (ix2 r (lane a j))) (fun j => x3 (ix2 r (lane a j)))) k := by
  have e : (doB x0 x1 x2 x3 (ix3 a r k) : EReal) = doT (oH x0 a) (zH x1 a) x2 (dH x3 a) (ix2 r k) := by
    pointwise [doB]
  rw [e, doT_apply]
  simp only [oH_apply, zH_apply, dH_apply]

/-- The tiles of the gate's gradient side by side, at a head's lane of a row. -/
theorem dzB_apply (x0 : Vec Ideal S16x128x128 .bf16) (x1 : Vec Ideal S128x2048 .bf16) (x2 : Vec Ideal S1x128 .f32) (x3 : Vec Ideal S128x2048 .bf16) (a : Fin 16) (r k : Fin 128) :
    (dzB x0 x1 x2 x3 (ix2 r (lane a k)) : EReal) = Cert.Hand.Gnorm.gateBack (fun j => x0 (ix3 a r j)) (fun j => x1 (ix2 r (lane a j)))
      (fun j => x2 (ix2 (0 : Fin 1) j)) (fun j => x3 (ix2 r (lane a j))) k := by
  have hk := k.isLt
  have e : (dzB x0 x1 x2 x3 (ix2 r (lane a k)) : EReal) = dzT (oH x0 a) (zH x1 a) x2 (dH x3 a) (ix2 r k) := by
    refine concatenate_ofFn_apply (t := S128x2048) (s₁ := S128x128) (1 : Fin 2) (fun a : Fin 16 => dzT (oH x0 a) (zH x1 a) x2 (dH x3 a)) concatenates_S128x128_S128x128_S128x128_S128x128_S128x128_S128x128_S128x128_S128x128_S128x128_S128x128_S128x128_S128x128_S128x128_S128x128_S128x128_S128x128_S128x2048_d1 rfl 128 rfl (ix2 r (lane a k)) a ?_ (ix2 r k) ?_ ?_
    · show (128 * a.val + k.val) / 128 = a.val; omega
    · show k.val = (128 * a.val + k.val) % 128; omega
    · intro b hb
      match b with
      | ⟨0, _⟩ => rfl
      | ⟨1, _⟩ => exact absurd rfl hb
  rw [e, dzT_apply]
  simp only [oH_apply, zH_apply, dH_apply]

/-- A sum over the heads, taken from the last one on. -/
theorem sum16 (f : Fin 16 → EReal) : f 15 + f 14 + f 13 + f 12 + f 11 + f 10 + f 9 + f 8 + f 7 + f 6 + f 5 + f 4 + f 3 + f 2 + f 1 + f 0 = ∑ a : Fin 16, f a := by
  simp only [Fin.sum_univ_succ, Fin.sum_univ_zero]
  change _ = f 0 + (f 1 + (f 2 + (f 3 + (f 4 + (f 5 + (f 6 + (f 7 + (f 8 + (f 9 + (f 10 + (f 11 + (f 12 + (f 13 + (f 14 + (f 15 + 0)))))))))))))))
  rw [add_zero]
  ac_rfl

/-- The heads' parts of the gain's gradient together are the sum over the heads and the block's rows. -/
theorem dwB_apply (x0 : Vec Ideal S16x128x128 .bf16) (x1 : Vec Ideal S128x2048 .bf16) (x3 : Vec Ideal S128x2048 .bf16) (k : Fin 128) :
    (dwB x0 x1 x3 (ix2 (0 : Fin 1) k) : EReal) = ∑ r : Fin 128, ∑ a : Fin 16, Cert.Hand.Gnorm.gainBack (fun j => x0 (ix3 a r j))
      (fun j => x1 (ix2 r (lane a j))) (fun j => x3 (ix2 r (lane a j))) k := by
  rw [Finset.sum_comm]
  refine Eq.trans ?_ (sum16 _)
  have e : ∀ a : Fin 16, ∑ r : Fin 128, Cert.Hand.Gnorm.gainBack (fun j => x0 (ix3 a r j))
      (fun j => x1 (ix2 r (lane a j))) (fun j => x3 (ix2 r (lane a j))) k = (dwH x0 x1 x3 a (ix2 (0 : Fin 1) k) : EReal) := by
    intro a
    rw [dwH, dwT_apply]
    simp only [oH_apply, zH_apply, dH_apply]
  simp only [e]
  rfl

end Cert.GnormBwdIdeal.Hand

end
-- ==== Proof.GnormBwdVal.lean ====
/- The gated norm's backward pass: the gradients of the recurrence output, of the gate and of the gain. -/
module

public import proofs.«01_k».proof.Proof.GnormBlk
public import proofs.«01_k».proof.Proof.Gen.GnormBwdRefIdeal.Run
public import proofs.«01_k».proof.Proof.Runs
public import proofs.«01_k».proof.Defs

@[expose] public section

set_option maxRecDepth 16384

noncomputable section

namespace Cert.Hand.Gnorm

open Idealize.ShloMosaic

/-- The place of a head's lane of the gate in the projected row: behind the rows of queries, keys and values. -/
def glane (a : Fin 16) (k : Fin 128) : Fin 6144 := ⟨4096 + (128 * a.val + k.val), by omega⟩

/-- The head that a place of the row is of. -/
def headOf (j : Fin 2048) : Fin 16 := ⟨j.val / 128, by omega⟩

/-- The lane that a place of the row has in its head. -/
def laneOf (j : Fin 2048) : Fin 128 := ⟨j.val % 128, by omega⟩

/-- A place of the row is its lane of its head. -/
theorem lane_of (j : Fin 2048) : lane (headOf j) (laneOf j) = j := by
  apply Fin.ext
  show 128 * (j.val / 128) + j.val % 128 = j.val
  omega

/-- The host's sum over the two leading axes of a rank-three array, at an index of the last axis. -/
theorem sum_leading {n0 n1 n2 : Nat} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ k0 : Fin n0, ∑ k1 : Fin n1, v (ix3 k0 k1 j) := by
  refine congrArg (init + ·) ((Finset.sum_filter_eq_sum_of_fiber _ (fun k : Fin n0 × Fin n1 => ix3 k.1 k.2 j)
    (fun _ _ e => Prod.ext (congrFun e 0) (congrFun e 1)) (fun i => ?_) v).trans ?_)
  · constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

end Cert.Hand.Gnorm

namespace Cert.GnormBwdIdeal.Hand

open Cert.GnormBwdIdeal Cert.GnormBwdIdeal.Gen Idealize.ShloMosaic Idealize.ShloMosaic.TcCoe Idealize.SL.Sem
open Cert.Hand.Gnorm (lane glane headOf laneOf)

/-- The recurrence output's gradient, entry by entry. -/
def doA (x0 : FVec Ideal S16x8192x128 .bf16) (x1 : FVec Ideal S8192x6144 .bf16) (x2 : FVec Ideal S1x128 .f32) (x3 : FVec Ideal S8192x2048 .bf16) : FVec Ideal S16x8192x128 .bf16 := fun i =>
  Cert.Hand.Gnorm.normBack (fun k => x0 (ix3 (i 0) (i 1) k)) (fun k => x2 (ix2 (0 : Fin 1) k))
    (Cert.Hand.Gnorm.cot (fun k => x1 (ix2 (i 1) (glane (i 0) k))) (fun k => x3 (ix2 (i 1) (lane (i 0) k)))) (i 2)

/-- The gate's gradient, entry by entry. -/
def dzA (x0 : FVec Ideal S16x8192x128 .bf16) (x1 : FVec Ideal S8192x6144 .bf16) (x2 : FVec Ideal S1x128 .f32) (x3 : FVec Ideal S8192x2048 .bf16) : FVec Ideal S8192x2048 .bf16 := fun i =>
  Cert.Hand.Gnorm.gateBack (fun k => x0 (ix3 (headOf (i 1)) (i 0) k)) (fun k => x1 (ix2 (i 0) (glane (headOf (i 1)) k)))
    (fun k => x2 (ix2 (0 : Fin 1) k)) (fun k => x3 (ix2 (i 0) (lane (headOf (i 1)) k))) (laneOf (i 1))

/-- One row's part of the gain's gradient: over its heads. -/
def dwRow (x0 : FVec Ideal S16x8192x128 .bf16) (x1 : FVec Ideal S8192x6144 .bf16) (x3 : FVec Ideal S8192x2048 .bf16) (k : Fin 128) (r : Fin 8192) : EReal :=
  ∑ a : Fin 16, Cert.Hand.Gnorm.gainBack (fun j => x0 (ix3 a r j)) (fun j => x1 (ix2 r (glane a j))) (fun j => x3 (ix2 r (lane a j))) k

/-- The gain's gradient, entry by entry. -/
def dwA (x0 : FVec Ideal S16x8192x128 .bf16) (x1 : FVec Ideal S8192x6144 .bf16) (x3 : FVec Ideal S8192x2048 .bf16) : FVec Ideal S1x128 .f32 :=
  fun i => ∑ r : Fin 8192, dwRow x0 x1 x3 (i 1) r

/-- A later point's store is what the gain's row held plus its part. -/
theorem pay284_apply (v : FVec Ideal S1x128 .f32) (xo : Vec Ideal S1x128 .f32) (y : S1x128.Idx) :
    (k0_pay284 v xo y : EReal) = (xo y : EReal) + v y := by
  unfold k0_pay284
  rw [shapeCast_self]
  rfl

/-- The recurrence output's gradient's block at an index. -/
theorem doB_at (x0 : Vec Ideal S16x128x128 .bf16) (x1 : Vec Ideal S128x2048 .bf16) (x2 : Vec Ideal S1x128 .f32) (x3 : Vec Ideal S128x2048 .bf16) (y : S16x128x128.Idx) :
    (doB x0 x1 x2 x3 y : EReal) = Cert.Hand.Gnorm.normBack (fun j => x0 (ix3 (y 0) (y 1) j)) (fun j => x2 (ix2 (0 : Fin 1) j))
      (Cert.Hand.Gnorm.cot (fun j => x1 (ix2 (y 1) (lane (y 0) j))) (fun j => x3 (ix2 (y 1) (lane (y 0) j)))) (y 2) := by
  idx_vars y
  exact doB_apply ..

/-- The gate's gradient's block at an index. -/
theorem dzB_at (x0 : Vec Ideal S16x128x128 .bf16) (x1 : Vec Ideal S128x2048 .bf16) (x2 : Vec Ideal S1x128 .f32) (x3 : Vec Ideal S128x2048 .bf16) (y : S128x2048.Idx) :
    (dzB x0 x1 x2 x3 y : EReal) = Cert.Hand.Gnorm.gateBack (fun j => x0 (ix3 (headOf (y 1)) (y 0) j)) (fun j => x1 (ix2 (y 0) (lane (headOf (y 1)) j)))
      (fun j => x2 (ix2 (0 : Fin 1) j)) (fun j => x3 (ix2 (y 0) (lane (headOf (y 1)) j))) (laneOf (y 1)) := by
  idx_vars y
  refine Eq.trans ?_ (dzB_apply x0 x1 x2 x3 _ _ _)
  rw [Cert.Hand.Gnorm.lane_of]

/-- A block's part of the gain's gradient at an index. -/
theorem dwB_at (x0 : Vec Ideal S16x128x128 .bf16) (x1 : Vec Ideal S128x2048 .bf16) (x3 : Vec Ideal S128x2048 .bf16) (y : S1x128.Idx) :
    (dwB x0 x1 x3 y : EReal) = ∑ r : Fin 128, ∑ a : Fin 16, Cert.Hand.Gnorm.gainBack (fun j => x0 (ix3 a r j))
      (fun j => x1 (ix2 r (lane a j))) (fun j => x3 (ix2 r (lane a j))) (y 1) := by
  have ey : y = ix2 (0 : Fin 1) (y 1) := by
    funext b
    match b with
    | ⟨0, _⟩ => exact Subsingleton.elim (α := Fin 1) _ _
    | ⟨1, _⟩ => rfl
  exact (congrArg (dwB x0 x1 x3) ey).trans (dwB_apply x0 x1 x3 (y 1))

variable (m : (ℓ : Loc nD τ sig) → Buf (Elt Ideal) ℓ)

/-- The recurrence output's gradient of the launch contents. -/
def G4 (c : Dev nD) : FVec Ideal S16x8192x128 .bf16 := doA (m (c.tc.loc main_arg0)) (m (c.tc.loc main_arg1)) (m (c.tc.loc main_arg2)) (m (c.tc.loc main_arg3))

/-- The gate's gradient of the launch contents. -/
def G5 (c : Dev nD) : FVec Ideal S8192x2048 .bf16 := dzA (m (c.tc.loc main_arg0)) (m (c.tc.loc main_arg1)) (m (c.tc.loc main_arg2)) (m (c.tc.loc main_arg3))

/-- The gain's gradient of the launch contents. -/
def G6 (c : Dev nD) : FVec Ideal S1x128 .f32 := dwA (m (c.tc.loc main_arg0)) (m (c.tc.loc main_arg1)) (m (c.tc.loc main_arg3))

/-- The block indices of the windows at every point of the grid. -/
theorem index_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 2
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = 0 ∧ win0_4.index t (1 : Fin 3) = t.val ∧ win0_4.index t (2 : Fin 3) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

/-- A block of operand 0 holds the operand's entries of its place. -/
theorem blk0 (c : Dev nD) (t : Fin cfg0.N) (a : Fin 16) (k : Fin 128) (j : Fin 128) (r : Fin 8192) (hr : r.val = 128 * t.val + k.val) :
    (iblk m c 0 t (ix3 a k j) : EReal) = m (c.tc.loc main_arg0) (ix3 a r j) := by
  obtain ⟨h0a, h0b, h0c, -⟩ := index_facts t
  refine congrArg (m (c.tc.loc main_arg0)) (funext fun b => Fin.ext ?_)
  match b with
  | ⟨0, _⟩ => show win0_0.index t 0 * 16 + 1 * a.val = a.val; rw [h0a]; omega
  | ⟨1, _⟩ => show win0_0.index t 1 * 128 + 1 * k.val = r.val; rw [h0b, hr]; omega
  | ⟨2, _⟩ => show win0_0.index t 2 * 128 + 1 * j.val = j.val; rw [h0c]; omega

/-- A block of operand 1 holds the operand's entries of its place. -/
theorem blk1 (c : Dev nD) (t : Fin cfg0.N) (a : Fin 16) (k : Fin 128) (j : Fin 128) (r : Fin 8192) (hr : r.val = 128 * t.val + k.val) :
    (iblk m c 1 t (ix2 k (lane a j)) : EReal) = m (c.tc.loc main_arg1) (ix2 r (glane a j)) := by
  obtain ⟨-, -, -, h1a, h1b, -⟩ := index_facts t
  refine congrArg (m (c.tc.loc main_arg1)) (funext fun b => Fin.ext ?_)
  match b with
  | ⟨0, _⟩ => show win0_1.index t 0 * 128 + 1 * k.val = r.val; rw [h1a, hr]; omega
  | ⟨1, _⟩ => show win0_1.index t 1 * 2048 + 1 * (128 * a.val + j.val) = 4096 + (128 * a.val + j.val); rw [h1b]; omega

/-- A block of operand 2 holds the operand's entries of its place. -/
theorem blk2 (c : Dev nD) (t : Fin cfg0.N) (j : Fin 128) :
    (iblk m c 2 t (ix2 (0 : Fin 1) j) : EReal) = m (c.tc.loc main_arg2) (ix2 (0 : Fin 1) j) := by
  obtain ⟨-, -, -, -, -, h2a, h2b, -⟩ := index_facts t
  refine congrArg (m (c.tc.loc main_arg2)) (funext fun b => Fin.ext ?_)
  match b with
  | ⟨0, _⟩ => show win0_2.index t 0 * 1 + 1 * 0 = 0; rw [h2a]
  | ⟨1, _⟩ => show win0_2.index t 1 * 128 + 1 * j.val = j.val; rw [h2b]; omega

/-- A block of operand 3 holds the operand's entries of its place. -/
theorem blk3 (c : Dev nD) (t : Fin cfg0.N) (a : Fin 16) (k : Fin 128) (j : Fin 128) (r : Fin 8192) (hr : r.val = 128 * t.val + k.val) :
    (iblk m c 3 t (ix2 k (lane a j)) : EReal) = m (c.tc.loc main_arg3) (ix2 r (lane a j)) := by
  obtain ⟨-, -, -, -, -, -, -, h3a, h3b, -⟩ := index_facts t
  refine congrArg (m (c.tc.loc main_arg3)) (funext fun b => Fin.ext ?_)
  match b with
  | ⟨0, _⟩ => show win0_3.index t 0 * 128 + 1 * k.val = r.val; rw [h3a, hr]; omega
  | ⟨1, _⟩ => show win0_3.index t 1 * 2048 + 1 * (128 * a.val + j.val) = 128 * a.val + j.val; rw [h3b]; omega

/-- A point's part of the gain's gradient is its run of rows' part of the whole. -/
theorem point6 (c : Dev nD) (t : Fin cfg0.N) (y J : S1x128.Idx) (hJ : (J 1).val = (y 1).val) :
    (dwB (iblk m c 0 t) (iblk m c 1 t) (iblk m c 3 t) y : EReal)
      = Cert.Hand.runSum 128 (dwRow (m (c.tc.loc main_arg0)) (m (c.tc.loc main_arg1)) (m (c.tc.loc main_arg3)) (J 1)) t.val := by
  rw [show J 1 = y 1 from Fin.ext hJ]
  rw [dwB_at]
  unfold Cert.Hand.runSum
  refine Finset.sum_congr rfl fun k _ => ?_
  have hk := k.isLt
  have ht : t.val < 64 := N_0 ▸ t.isLt
  have hr : 128 * t.val + k.val < 8192 := by omega
  rw [Cert.Hand.atNat_of_lt _ _ hr]
  unfold dwRow
  refine Finset.sum_congr rfl fun a _ => ?_
  rw [funext fun j => blk0 m c t a k j ⟨_, hr⟩ rfl, funext fun j => blk1 m c t a k j ⟨_, hr⟩ rfl, funext fun j => blk3 m c t a k j ⟨_, hr⟩ rfl]

/-- What the gain's gradient's block holds after a point: the runs of rows so far. -/
theorem acc6_eq (c : Dev nD) : ∀ (n : ℕ) (h : n < cfg0.N) (y J : S1x128.Idx) (_ : (J 1).val = (y 1).val),
    ((outsAt0 m c n h).2.2 y : EReal) = ∑ s ∈ Finset.range (n + 1), Cert.Hand.runSum 128 (dwRow (m (c.tc.loc main_arg0)) (m (c.tc.loc main_arg1)) (m (c.tc.loc main_arg3)) (J 1)) s := by
  intro n
  induction n with
  | zero =>
    intro h y J h1
    rw [outsAt0_A m c ⟨0, h⟩ rfl (by dsimp only; omega)]
    dsimp only
    rw [out_A_6, point6 m c ⟨0, h⟩ y J h1]
    simp
  | succ n ih =>
    intro h y J h1
    have hN : cfg0.N = 64 := N_0
    rw [Finset.sum_range_succ, ← ih (Nat.lt_of_succ_lt h) y J h1]
    rw [outsAt0_B m c ⟨n + 1, h⟩ (by dsimp only; omega) (by dsimp only; omega)]
    dsimp only
    rw [out_B_6, pay284_apply, point6 m c ⟨n + 1, h⟩ y J h1]
    simp only [Nat.add_sub_cancel]

/-- What a point leaves in the recurrence output's gradient's block. -/
theorem block4 (c : Dev nD) (t : Fin cfg0.N) :
    (outsAt0 m c t.val t.isLt).1 = doB (iblk m c 0 t) (iblk m c 1 t) (iblk m c 2 t) (iblk m c 3 t) := by
  have hN : cfg0.N = 64 := N_0
  have := t.isLt
  by_cases h : t.val % 64 = 0
  · rw [outsAt0_A m c t h (by omega)]
    dsimp only
    rw [out_A_4]
  · rw [outsAt0_B m c t h (by omega)]
    dsimp only
    rw [out_B_4]

/-- What a point leaves in the gate's gradient's block. -/
theorem block5 (c : Dev nD) (t : Fin cfg0.N) :
    (outsAt0 m c t.val t.isLt).2.1 = dzB (iblk m c 0 t) (iblk m c 1 t) (iblk m c 2 t) (iblk m c 3 t) := by
  have hN : cfg0.N = 64 := N_0
  have := t.isLt
  by_cases h : t.val % 64 = 0
  · rw [outsAt0_A m c t h (by omega)]
    dsimp only
    rw [out_A_5]
  · rw [outsAt0_B m c t h (by omega)]
    dsimp only
    rw [out_B_5]

/-- What a point writes back is its block of the recurrence output's gradient. -/
theorem flushed_G4 (c : Dev nD) (t : Fin cfg0.N) (hf : (cfg0.win 4).flush t = true) :
    (dats m 0 c).flushed 4 t = ((cfg0.win 4).blk t).view.read (Elt Ideal) (G4 m c) := by
  obtain ⟨-, -, -, -, -, -, -, -, -, h4a, h4b, h4c, -⟩ := index_facts t
  rw [Value.flushed4]
  funext y
  rw [View.read_apply]
  show ((outsAt0 m c t.val t.isLt).1 y : EReal) = _
  rw [block4, doB_at]
  have ht : t.val < 64 := N_0 ▸ t.isLt
  have hk : (y 1 : Nat) < 128 := (y 1).isLt
  have e : (((cfg0.win 4).blk t).view.emb y : S16x8192x128.Idx) = ix3 (y 0) (⟨128 * t.val + (y 1 : Nat), by omega⟩ : Fin 8192) (y 2) := by
    funext b
    apply Fin.ext
    match b with
    | ⟨0, _⟩ => show win0_4.index t 0 * 16 + 1 * (y 0 : Nat) = (y 0 : Nat); rw [h4a]; omega
    | ⟨1, _⟩ => show win0_4.index t 1 * 128 + 1 * (y 1 : Nat) = 128 * t.val + (y 1 : Nat); rw [h4b]; omega
    | ⟨2, _⟩ => show win0_4.index t 2 * 128 + 1 * (y 2 : Nat) = (y 2 : Nat); rw [h4c]; omega
  rw [e]
  unfold G4 doA
  rw [funext fun j => blk0 m c t (y 0) (y 1) j ⟨128 * t.val + (y 1 : Nat), by omega⟩ rfl, funext fun j => blk1 m c t (y 0) (y 1) j ⟨128 * t.val + (y 1 : Nat), by omega⟩ rfl, funext fun j => blk3 m c t (y 0) (y 1) j ⟨128 * t.val + (y 1 : Nat), by omega⟩ rfl, funext fun j => blk2 m c t j]
  rfl

/-- What a point writes back is its block of the gate's gradient. -/
theorem flushed_G5 (c : Dev nD) (t : Fin cfg0.N) (hf : (cfg0.win 5).flush t = true) :
    (dats m 0 c).flushed 5 t = ((cfg0.win 5).blk t).view.read (Elt Ideal) (G5 m c) := by
  obtain ⟨-, -, -, -, -, -, -, -, -, -, -, -, h5a, h5b, -⟩ := index_facts t
  rw [Value.flushed5]
  funext y
  rw [View.read_apply]
  show ((outsAt0 m c t.val t.isLt).2.1 y : EReal) = _
  rw [block5, dzB_at]
  have ht : t.val < 64 := N_0 ▸ t.isLt
  have hk : (y 0 : Nat) < 128 := (y 0).isLt
  have e : (((cfg0.win 5).blk t).view.emb y : S8192x2048.Idx) = ix2 (⟨128 * t.val + (y 0 : Nat), by omega⟩ : Fin 8192) (y 1) := by
    funext b
    apply Fin.ext
    match b with
    | ⟨0, _⟩ => show win0_5.index t 0 * 128 + 1 * (y 0 : Nat) = 128 * t.val + (y 0 : Nat); rw [h5a]; omega
    | ⟨1, _⟩ => show win0_5.index t 1 * 2048 + 1 * (y 1 : Nat) = (y 1 : Nat); rw [h5b]; omega
  rw [e]
  unfold G5 dzA
  rw [funext fun j => blk0 m c t (headOf (y 1)) (y 0) j ⟨128 * t.val + (y 0 : Nat), by omega⟩ rfl, funext fun j => blk1 m c t (headOf (y 1)) (y 0) j ⟨128 * t.val + (y 0 : Nat), by omega⟩ rfl, funext fun j => blk3 m c t (headOf (y 1)) (y 0) j ⟨128 * t.val + (y 0 : Nat), by omega⟩ rfl, funext fun j => blk2 m c t j]
  rfl

/-- What the last point leaves in the gain's gradient's block. -/
theorem block6 (c : Dev nD) (t : Fin cfg0.N) (ht : t.val = 63) (y J : S1x128.Idx) (h1 : (J 1).val = (y 1).val) :
    ((outsAt0 m c t.val t.isLt).2.2 y : EReal) = G6 m c J := by
  refine (acc6_eq m c t.val t.isLt y J h1).trans ?_
  rw [ht, Cert.Hand.sum_runs 64 128 rfl]
  rfl

/-- What the last point writes back is the gain's gradient. -/
theorem flushed_G6 (c : Dev nD) (t : Fin cfg0.N) (hf : (cfg0.win 6).flush t = true) :
    (dats m 0 c).flushed 6 t = ((cfg0.win 6).blk t).view.read (Elt Ideal) (G6 m c) := by
  obtain ⟨-, -, -, -, -, -, -, -, -, -, -, -, -, -, -, h6b⟩ := index_facts t
  have ht : t.val = 63 := (by decide +kernel : ∀ t : Fin grid0.N, win0_6.flush t = true → t.val = 63) t hf
  rw [Value.flushed6]
  funext y
  rw [View.read_apply]
  refine block6 m c t ht y _ ?_
  show win0_6.index t 1 * 128 + 1 * (y 1 : Nat) = (y 1 : Nat); rw [h6b]; omega

/-- Every block of the recurrence output's and of the gate's gradient is some point's. -/
theorem covered : ∀ a : Fin 64, ∃ t : Fin grid0.N, (cfg0.win 4).flush t = true ∧ (cfg0.win 5).flush t = true ∧ t.val = a.val := by decide +kernel

/-- Some point writes the gain's gradient. -/
theorem covered6 : ∃ t : Fin grid0.N, (cfg0.win 6).flush t = true := by decide +kernel

/-- The recurrence output's gradient's array after the run. -/
theorem final4 (c : Dev nD) : (dats m 0 c).arrAt 4 cfg0.N = G4 m c :=
  (dats m 0 c).arrAt_eq_of_cover 4 (G4 m c) (fun t hf => flushed_G4 m c t hf) fun i => by
    have h0 : (i 0 : Nat) < 16 := (i 0).isLt
    have h1 : (i 1 : Nat) < 8192 := (i 1).isLt
    have h2 : (i 2 : Nat) < 128 := (i 2).isLt
    obtain ⟨t, hf, _, ha⟩ := covered ⟨(i 1 : Nat) / 128, by omega⟩
    obtain ⟨-, -, -, -, -, -, -, -, -, h4a, h4b, h4c, -⟩ := index_facts t
    refine ⟨t, hf, ?_⟩
    show i ∈ ((View.whole main_v0_0).slice (win0_4.rect t)).set
    rw [View.set_slice_whole, Rect.mem_set_unit]
    intro b
    match b with
    | ⟨0, _⟩ => show win0_4.index t 0 * 16 ≤ (i 0 : Nat) ∧ (i 0 : Nat) < win0_4.index t 0 * 16 + 16
                rw [h4a]; omega
    | ⟨1, _⟩ => show win0_4.index t 1 * 128 ≤ (i 1 : Nat) ∧ (i 1 : Nat) < win0_4.index t 1 * 128 + 128
                rw [h4b, ha]; dsimp only; omega
    | ⟨2, _⟩ => show win0_4.index t 2 * 128 ≤ (i 2 : Nat) ∧ (i 2 : Nat) < win0_4.index t 2 * 128 + 128
                rw [h4c]; omega

/-- The gate's gradient's array after the run. -/
theorem final5 (c : Dev nD) : (dats m 0 c).arrAt 5 cfg0.N = G5 m c :=
  (dats m 0 c).arrAt_eq_of_cover 5 (G5 m c) (fun t hf => flushed_G5 m c t hf) fun i => by
    have h0 : (i 0 : Nat) < 8192 := (i 0).isLt
    have h1 : (i 1 : Nat) < 2048 := (i 1).isLt
    obtain ⟨t, _, hf, ha⟩ := covered ⟨(i 0 : Nat) / 128, by omega⟩
    obtain ⟨-, -, -, -, -, -, -, -, -, -, -, -, h5a, h5b, -⟩ := index_facts t
    refine ⟨t, hf, ?_⟩
    show i ∈ ((View.whole main_v0_1).slice (win0_5.rect t)).set
    rw [View.set_slice_whole, Rect.mem_set_unit]
    intro b
    match b with
    | ⟨0, _⟩ => show win0_5.index t 0 * 128 ≤ (i 0 : Nat) ∧ (i 0 : Nat) < win0_5.index t 0 * 128 + 128
                rw [h5a, ha]; dsimp only; omega
    | ⟨1, _⟩ => show win0_5.index t 1 * 2048 ≤ (i 1 : Nat) ∧ (i 1 : Nat) < win0_5.index t 1 * 2048 + 2048
                rw [h5b]; omega

/-- The gain's gradient's array after the run. -/
theorem final6 (c : Dev nD) : (dats m 0 c).arrAt 6 cfg0.N = G6 m c :=
  (dats m 0 c).arrAt_eq_of_cover 6 (G6 m c) (fun t hf => flushed_G6 m c t hf) fun i => by
    have h0 : (i 0 : Nat) < 1 := (i 0).isLt
    have h1 : (i 1 : Nat) < 128 := (i 1).isLt
    obtain ⟨t, hf⟩ := covered6
    obtain ⟨-, -, -, -, -, -, -, -, -, -, -, -, -, -, h6a, h6b⟩ := index_facts t
    refine ⟨t, hf, ?_⟩
    show i ∈ ((View.whole main_v0_2).slice (win0_6.rect t)).set
    rw [View.set_slice_whole, Rect.mem_set_unit]
    intro b
    match b with
    | ⟨0, _⟩ => show win0_6.index t 0 * 1 ≤ (i 0 : Nat) ∧ (i 0 : Nat) < win0_6.index t 0 * 1 + 1
                rw [h6a]; omega
    | ⟨1, _⟩ => show win0_6.index t 1 * 128 ≤ (i 1 : Nat) ∧ (i 1 : Nat) < win0_6.index t 1 * 128 + 128
                rw [h6b]; omega

end Cert.GnormBwdIdeal.Hand

namespace Cert.Hand

open Idealize.ShloMosaic Idealize.SL.Sem

/-- The kernel's three gradients and the host's are the same arrays. -/
theorem algebraic_gnormBwd : Cert.algebraic_GnormBwdIdeal_GnormBwdRefIdeal := by
  intro m g m' g' _ hargs
  refine ⟨fun c => Cert.GnormBwdIdeal.Hand.G4 m c, fun c => Cert.GnormBwdIdeal.Hand.G5 m c, fun c => Cert.GnormBwdIdeal.Hand.G6 m c, ?_, ?_⟩
  · refine (θ_run Cert.GnormBwdIdeal.defs _ _).mono (fun r h c => ?_) (Cert.GnormBwdIdeal.Value.run_blocks m g)
    exact ⟨(h c).1.trans (Cert.GnormBwdIdeal.Hand.final4 m c), (h c).2.1.trans (Cert.GnormBwdIdeal.Hand.final5 m c), (h c).2.2.1.trans (Cert.GnormBwdIdeal.Hand.final6 m c), (h c).2.2.2⟩
  · refine (θ_run Cert.GnormBwdRefIdeal.defs _ _).mono (fun r h c => ?_) (Cert.GnormBwdRefIdeal.Value.run m' g')
    refine ⟨(h c).1.trans ?_, (h c).2.1.trans ?_, (h c).2.2.1.trans ?_, (h c).2.2.2⟩
    · unfold Cert.GnormBwdRefIdeal.Value.res_main_v51
      rw [(hargs c).1, (hargs c).2.1, (hargs c).2.2.1, (hargs c).2.2.2]
      funext i
      unfold Cert.GnormBwdIdeal.Hand.G4 Cert.GnormBwdIdeal.Hand.doA
      idx_vars i
      unfold Gnorm.normBack Gnorm.slope Gnorm.cot Gnorm.meanSq Gate.sg Gnorm.lane Gnorm.glane
      pointwise
      simp only [fun a : ℕ => Nat.mul_comm a 128, Finset.univ_unique, Finset.sum_singleton]
    · unfold Cert.GnormBwdRefIdeal.Value.res_main_v53
      rw [(hargs c).1, (hargs c).2.1, (hargs c).2.2.1, (hargs c).2.2.2]
      funext i
      unfold Cert.GnormBwdIdeal.Hand.G5 Cert.GnormBwdIdeal.Hand.dzA
      idx_vars i
      unfold Gnorm.gateBack Gnorm.gcot Gnorm.meanSq Gate.sg Gnorm.lane Gnorm.glane Gnorm.headOf Gnorm.laneOf
      pointwise
      simp only [show 128 * (i1.val / 128) + i1.val % 128 = i1.val from by omega]
    · rw [(hargs c).1, (hargs c).2.1, (hargs c).2.2.2]
      funext i
      unfold Cert.GnormBwdIdeal.Hand.G6 Cert.GnormBwdIdeal.Hand.dwA Cert.GnormBwdIdeal.Hand.dwRow
      idx_vars i
      unfold Gnorm.gainBack Gnorm.cot Gnorm.meanSq Gate.sg Gnorm.lane Gnorm.glane
      pointwise
      erw [Gnorm.sum_leading]
      pointwise
      simp only [Finset.univ_unique, Finset.sum_singleton]
      erw [Gnorm.sum_leading]
      pointwise
      simp only [fun a : ℕ => Nat.mul_comm a 128]

end Cert.Hand

end
-- ==== Proof.FfnActBlk.lean ====
/- A block of the feed-forward activation's backward pass, entry by entry. -/
module

public import proofs.«01_k».proof.Proof.Gen.FfnActBwdIdeal.Value
public import proofs.«01_k».proof.Proof.Gate
public import Idealize.ShloMosaic.Lib.Tactic

@[expose] public section

set_option maxRecDepth 65536

noncomputable section

namespace Cert.Hand.FfnAct

open Idealize.ShloMosaic Cert.Hand.Gate

/-- The gradient of the gate half: the cotangent times the value half times the derivative of the sigmoid linear unit. -/
def gateBack (d v g : EReal) : EReal := d * v * sg g * (1 + g * (1 - sg g))

/-- The gradient of the value half. -/
def valBack (d g : EReal) : EReal := d * g * sg g

/-- The gradient at a place of the row: the gate half first, then the value half. -/
def actBack (d : Fin 2816 → EReal) (u : Fin 5632 → EReal) (n : Fin 5632) : EReal :=
  if h : n.val < 2816 then gateBack (d ⟨n.val, h⟩) (u ⟨2816 + n.val, by omega⟩) (u n)
  else valBack (d ⟨n.val - 2816, by omega⟩) (u ⟨n.val - 2816, by omega⟩)

end Cert.Hand.FfnAct

namespace Cert.FfnActBwdIdeal.Hand

open Cert.FfnActBwdIdeal Cert.FfnActBwdIdeal.Gen Idealize.ShloMosaic Idealize.ShloMosaic.TcCoe Idealize.SL.Sem
open Cert.Hand.FfnAct (gateBack valBack actBack)

/-- A block's rows one row down, the rows before it above them, or zero at the sequence's start. -/
def down (d : ℕ) (hd : d ≤ 8) (i : grid0.Coords) (x0 : Vec Ideal S256x5632 .bf16) (x1 : Vec Ideal S8x5632 .bf16) (k : Fin 256) (n : Fin 5632) : EReal :=
  if h : k.val < d then (if (i 0).val = 0 then 0 else x1 (ix2 (⟨k.val + 8 - d, by omega⟩ : Fin 8) n)) else x0 (ix2 (⟨k.val - d, by omega⟩ : Fin 256) n)

/-- The rows two down. -/
theorem pay5_apply (i : grid0.Coords) (x0 : Vec Ideal S256x5632 .bf16) (x1 : Vec Ideal S8x5632 .bf16) (k : Fin 256) (n : Fin 5632) :
    (k0_pay5 i x0 x1 (ix2 k n) : EReal) = down 2 (by decide) i x0 x1 k n := by
  have hi : (i 0).val < 32 := (i 0).isLt
  unfold down
  pointwise [k0_pay5, k0_pay3, k0_pay4]
  by_cases h8 : k.val < 8
  · rw [dif_pos h8]
    by_cases h : k.val < 2
    · rw [dif_pos h, (by decide : ∀ a : Fin 2, IntOp.cmpi .slt (BitVec.ofNat 32 a.val) 2#32 = 1#1) ⟨k.val, h⟩]
      by_cases h0 : (i 0).val = 0
      · rw [if_pos h0, h0]
        rfl
      · rw [if_neg h0, (by decide : ∀ a : Fin 32, a.val ≠ 0 → Scalar.cmpi .eq (BitVec.ofNat 32 a.val) 0#32 = 0#1) ⟨(i 0).val, hi⟩ h0]
        simp only [show (k.val + 8 - 2) % 8 = k.val + 8 - 2 from Nat.mod_eq_of_lt (by omega)]
        rfl
    · rw [dif_neg h, (by decide : ∀ a : Fin 8, ¬a.val < 2 → IntOp.cmpi .slt (BitVec.ofNat 32 a.val) 2#32 = 0#1) ⟨k.val, h8⟩ h]
      simp only [show (k.val + 256 - 2) % 256 = k.val - 2 from by omega]
      rfl
  · rw [dif_neg h8, dif_neg (by omega)]
    simp only [show (8 + (k.val - 8) + 256 - 2) % 256 = k.val - 2 from by omega]

/-- The rows one down. -/
theorem pay6_apply (i : grid0.Coords) (x0 : Vec Ideal S256x5632 .bf16) (x1 : Vec Ideal S8x5632 .bf16) (k : Fin 256) (n : Fin 5632) :
    (k0_pay6 i x0 x1 (ix2 k n) : EReal) = down 1 (by decide) i x0 x1 k n := by
  have hi : (i 0).val < 32 := (i 0).isLt
  unfold down
  pointwise [k0_pay6, k0_pay3, k0_pay4]
  by_cases h8 : k.val < 8
  · rw [dif_pos h8]
    by_cases h : k.val < 1
    · rw [dif_pos h, (by decide : ∀ a : Fin 1, IntOp.cmpi .slt (BitVec.ofNat 32 a.val) 1#32 = 1#1) ⟨k.val, h⟩]
      by_cases h0 : (i 0).val = 0
      · rw [if_pos h0, h0]
        rfl
      · rw [if_neg h0, (by decide : ∀ a : Fin 32, a.val ≠ 0 → Scalar.cmpi .eq (BitVec.ofNat 32 a.val) 0#32 = 0#1) ⟨(i 0).val, hi⟩ h0]
        simp only [show (k.val + 8 - 1) % 8 = k.val + 8 - 1 from Nat.mod_eq_of_lt (by omega)]
        rfl
    · rw [dif_neg h, (by decide : ∀ a : Fin 8, ¬a.val < 1 → IntOp.cmpi .slt (BitVec.ofNat 32 a.val) 1#32 = 0#1) ⟨k.val, h8⟩ h]
      simp only [show (k.val + 256 - 1) % 256 = k.val - 1 from by omega]
      rfl
  · rw [dif_neg h8, dif_neg (by omega)]
    simp only [show (8 + (k.val - 8) + 256 - 1) % 256 = k.val - 1 from by omega]

/-- The convolution of a block's rows. -/
def uB (i : grid0.Coords) (x0 : Vec Ideal S256x5632 .bf16) (x1 : Vec Ideal S8x5632 .bf16) (x2 : Vec Ideal S3x5632 .f32) (x3 : Vec Ideal S1x5632 .f32) (k : Fin 256) (n : Fin 5632) : EReal :=
  x2 (ix2 (0 : Fin 3) n) * down 2 (by decide) i x0 x1 k n + x2 (ix2 (1 : Fin 3) n) * down 1 (by decide) i x0 x1 k n + x2 (ix2 (2 : Fin 3) n) * x0 (ix2 k n) + x3 (ix2 (0 : Fin 1) n)

/-- A block's gradient of the convolution's result. -/
def duB (i : grid0.Coords) (x0 : Vec Ideal S256x5632 .bf16) (x1 : Vec Ideal S8x5632 .bf16) (x2 : Vec Ideal S3x5632 .f32) (x3 : Vec Ideal S1x5632 .f32) (x4 : Vec Ideal S256x2816 .bf16) : FVec Ideal S256x5632 .f32 :=
  k0_pay9 x2 x3 (k0_pay3 x0) (k0_pay7 x4) (k0_pay8 i x0 x1 x2)

/-- It, entry by entry. -/
theorem duB_apply (i : grid0.Coords) (x0 : Vec Ideal S256x5632 .bf16) (x1 : Vec Ideal S8x5632 .bf16) (x2 : Vec Ideal S3x5632 .f32) (x3 : Vec Ideal S1x5632 .f32) (x4 : Vec Ideal S256x2816 .bf16) (k : Fin 256) (n : Fin 5632) :
    (duB i x0 x1 x2 x3 x4 (ix2 k n) : EReal) = actBack (fun j => x4 (ix2 k j)) (fun j => uB i x0 x1 x2 x3 k j) n := by
  unfold duB actBack
  split
  · unfold gateBack uB
    simp only [← pay5_apply, ← pay6_apply, ← Cert.Hand.Gate.gate_eq]
    pointwise [k0_pay9, k0_pay8, k0_pay7, k0_pay3]
    rw [dif_pos ‹_›]
  · unfold valBack uB
    simp only [← pay5_apply, ← pay6_apply, ← Cert.Hand.Gate.gate_eq]
    pointwise [k0_pay9, k0_pay8, k0_pay7, k0_pay3]
    rw [dif_neg ‹_›]

/-- A block's part of the taps' gradient. -/
def tapB (i : grid0.Coords) (x0 : Vec Ideal S256x5632 .bf16) (x1 : Vec Ideal S8x5632 .bf16) (x2 : Vec Ideal S3x5632 .f32) (x3 : Vec Ideal S1x5632 .f32) (x4 : Vec Ideal S256x2816 .bf16) : FVec Ideal S8x5632 .f32 :=
  k0_pay10 x2 x3 (k0_pay3 x0) (k0_pay5 i x0 x1) (k0_pay6 i x0 x1) (k0_pay7 x4) (k0_pay8 i x0 x1 x2)

/-- The row of the taps' gradient: a row of the block by its tap, zero past the third. -/
def tapOf (i : grid0.Coords) (x0 : Vec Ideal S256x5632 .bf16) (x1 : Vec Ideal S8x5632 .bf16) (a : Fin 8) (k : Fin 256) (n : Fin 5632) : EReal :=
  if a.val = 0 then down 2 (by decide) i x0 x1 k n else if a.val = 1 then down 1 (by decide) i x0 x1 k n else if a.val = 2 then x0 (ix2 k n) else 0

/-- It, entry by entry. -/
theorem tapB_apply (i : grid0.Coords) (x0 : Vec Ideal S256x5632 .bf16) (x1 : Vec Ideal S8x5632 .bf16) (x2 : Vec Ideal S3x5632 .f32) (x3 : Vec Ideal S1x5632 .f32) (x4 : Vec Ideal S256x2816 .bf16) (a : Fin 8) (n : Fin 5632) :
    (tapB i x0 x1 x2 x3 x4 (ix2 a n) : EReal) = ∑ k : Fin 256, duB i x0 x1 x2 x3 x4 (ix2 k n) * tapOf i x0 x1 a k n := by
  unfold tapB tapOf
  simp only [← pay5_apply, ← pay6_apply]
  by_cases h0 : a.val = 0
  · obtain rfl : a = 0 := Fin.ext h0
    pointwise [k0_pay10, k0_pay3]
    rfl
  by_cases h1 : a.val = 1
  · obtain rfl : a = 1 := Fin.ext h1
    pointwise [k0_pay10, k0_pay3]
    rfl
  by_cases h2 : a.val = 2
  · obtain rfl : a = 2 := Fin.ext h2
    pointwise [k0_pay10, k0_pay3]
    rfl
  simp only [if_neg h0, if_neg h1, if_neg h2, mul_zero, Finset.sum_const_zero]
  pointwise [k0_pay10, k0_pay3]
  rw [dif_neg (by omega), dif_neg (by omega), dif_neg (by omega)]

/-- A block's part of the bias's gradient. -/
def colB (i : grid0.Coords) (x0 : Vec Ideal S256x5632 .bf16) (x1 : Vec Ideal S8x5632 .bf16) (x2 : Vec Ideal S3x5632 .f32) (x3 : Vec Ideal S1x5632 .f32) (x4 : Vec Ideal S256x2816 .bf16) : FVec Ideal S1x5632 .f32 :=
  k0_pay11 x2 x3 (k0_pay3 x0) (k0_pay7 x4) (k0_pay8 i x0 x1 x2)

/-- It, entry by entry. -/
theorem colB_apply (i : grid0.Coords) (x0 : Vec Ideal S256x5632 .bf16) (x1 : Vec Ideal S8x5632 .bf16) (x2 : Vec Ideal S3x5632 .f32) (x3 : Vec Ideal S1x5632 .f32) (x4 : Vec Ideal S256x2816 .bf16) (n : Fin 5632) :
    (colB i x0 x1 x2 x3 x4 (ix2 (0 : Fin 1) n) : EReal) = ∑ k : Fin 256, duB i x0 x1 x2 x3 x4 (ix2 k n) := by
  unfold colB
  pointwise [k0_pay11]
  rfl

theorem hz : (![0, 0] : Fin 2 → Nat) = fun _ => 0 := funext fun a => by fin_cases a <;> rfl

variable (c : Dev nD) (i : grid0.Coords) (a1 : Memref sig .tc .vmem S256x5632 .bf16) (q1 : a1.IsWhole) (a2 : Memref sig .tc .vmem S8x5632 .bf16) (q2 : a2.IsWhole) (a3 : Memref sig .tc .vmem S3x5632 .f32) (q3 : a3.IsWhole) (a4 : Memref sig .tc .vmem S1x5632 .f32) (q4 : a4.IsWhole) (a5 : Memref sig .tc .vmem S256x2816 .bf16) (q5 : a5.IsWhole) (a6 : Memref sig .tc .vmem S256x5632 .bf16) (q6 : a6.IsWhole) (a7 : Memref sig .tc .vmem S8x5632 .f32) (q7 : a7.IsWhole) (a8 : Memref sig .tc .vmem S1x5632 .f32) (q8 : a8.IsWhole)
  (x0 : Vec Ideal S256x5632 .bf16) (x1 : Vec Ideal S8x5632 .bf16) (x2 : Vec Ideal S3x5632 .f32) (x3 : Vec Ideal S1x5632 .f32) (x4 : Vec Ideal S256x2816 .bf16) (xo6 : Vec Ideal S8x5632 .f32) (xo7 : Vec Ideal S1x5632 .f32)

/-- What case A leaves in the convolution's gradient's block. -/
theorem out_A_5 (hc0 : cond0_0 i) (hc1 : ¬cond0_1 i) (hc2 : cond0_2 i) (hc3 : ¬cond0_3 i) :
    out0_A_5 c i a1 q1 a2 q2 a3 q3 a4 q4 a5 q5 a6 q6 a7 q7 a8 q8 hc0 hc1 hc2 hc3 x0 x1 x2 x3 x4 = truncf .bf16 (duB i x0 x1 x2 x3 x4) bitsLt_bf16_f32 := by
  unfold out0_A_5
  rw [View.read_writes_eq_canon _ _ _ (fun y => cover0_A_5 (y := y) ..)]
  unfold kernelRun0_A
  dsimp only
  sl_unfold_words
  rw [View.canon_unit_zero (S := S256x5632) hz]
  simp only [View.readAt_eq_ld, Memref.IsWhole.read_unread, View.ld_unit_zero (S := ⟨2, _⟩) hz]
  rfl

/-- What case A leaves in the taps' gradient's block. -/
theorem out_A_6 (hc0 : cond0_0 i) (hc1 : ¬cond0_1 i) (hc2 : cond0_2 i) (hc3 : ¬cond0_3 i) :
    out0_A_6 c i a1 q1 a2 q2 a3 q3 a4 q4 a5 q5 a6 q6 a7 q7 a8 q8 hc0 hc1 hc2 hc3 x0 x1 x2 x3 x4 = tapB i x0 x1 x2 x3 x4 := by
  unfold out0_A_6
  rw [View.read_writes_eq_canon _ _ _ (fun y => cover0_A_6 (y := y) ..)]
  unfold kernelRun0_A
  dsimp only
  sl_unfold_words
  rw [View.canon_unit_zero (S := S8x5632) hz]
  simp only [View.readAt_eq_ld, Memref.IsWhole.read_unread, View.ld_unit_zero (S := ⟨2, _⟩) hz]
  rfl

/-- What case A leaves in the bias's gradient's block. -/
theorem out_A_7 (hc0 : cond0_0 i) (hc1 : ¬cond0_1 i) (hc2 : cond0_2 i) (hc3 : ¬cond0_3 i) :
    out0_A_7 c i a1 q1 a2 q2 a3 q3 a4 q4 a5 q5 a6 q6 a7 q7 a8 q8 hc0 hc1 hc2 hc3 x0 x1 x2 x3 x4 = colB i x0 x1 x2 x3 x4 := by
  unfold out0_A_7
  rw [View.read_writes_eq_canon _ _ _ (fun y => cover0_A_7 (y := y) ..)]
  unfold kernelRun0_A
  dsimp only
  sl_unfold_words
  rw [View.canon_unit_zero (S := S1x5632) hz]
  simp only [View.readAt_eq_ld, Memref.IsWhole.read_unread, View.ld_unit_zero (S := ⟨2, _⟩) hz]
  rfl

/-- What case B leaves in the convolution's gradient's block. -/
theorem out_B_5 (hc0 : ¬cond0_0 i) (hc1 : cond0_1 i) (hc2 : ¬cond0_2 i) (hc3 : cond0_3 i) :
    out0_B_5 c i a1 q1 a2 q2 a3 q3 a4 q4 a5 q5 a6 q6 a7 q7 a8 q8 hc0 hc1 hc2 hc3 x0 x1 x2 x3 x4 xo6 xo7 = truncf .bf16 (duB i x0 x1 x2 x3 x4) bitsLt_bf16_f32 := by
  unfold out0_B_5
  rw [View.read_writes_eq_canon _ _ _ (fun y => cover0_B_5 (y := y) ..)]
  unfold kernelRun0_B
  dsimp only
  sl_unfold_words
  rw [View.canon_unit_zero (S := S256x5632) hz]
  simp only [View.readAt_eq_ld, Memref.IsWhole.read_unread, View.ld_unit_zero (S := ⟨2, _⟩) hz]
  rfl

/-- What case B leaves in the taps' gradient's block. -/
theorem out_B_6 (hc0 : ¬cond0_0 i) (hc1 : cond0_1 i) (hc2 : ¬cond0_2 i) (hc3 : cond0_3 i) :
    out0_B_6 c i a1 q1 a2 q2 a3 q3 a4 q4 a5 q5 a6 q6 a7 q7 a8 q8 hc0 hc1 hc2 hc3 x0 x1 x2 x3 x4 xo6 xo7 = k0_pay1 (tapB i x0 x1 x2 x3 x4) xo6 := by
  unfold out0_B_6
  rw [View.read_writes_eq_canon _ _ _ (fun y => cover0_B_6 (y := y) ..)]
  unfold kernelRun0_B
  dsimp only
  sl_unfold_words
  rw [View.canon_unit_zero (S := S8x5632) hz]
  simp only [View.readAt_eq_ld, Memref.IsWhole.read_unread, View.ld_unit_zero (S := ⟨2, _⟩) hz]
  rfl

/-- What case B leaves in the bias's gradient's block. -/
theorem out_B_7 (hc0 : ¬cond0_0 i) (hc1 : cond0_1 i) (hc2 : ¬cond0_2 i) (hc3 : cond0_3 i) :
    out0_B_7 c i a1 q1 a2 q2 a3 q3 a4 q4 a5 q5 a6 q6 a7 q7 a8 q8 hc0 hc1 hc2 hc3 x0 x1 x2 x3 x4 xo6 xo7 = k0_pay2 (colB i x0 x1 x2 x3 x4) xo7 := by
  unfold out0_B_7
  rw [View.read_writes_eq_canon _ _ _ (fun y => cover0_B_7 (y := y) ..)]
  unfold kernelRun0_B
  dsimp only
  sl_unfold_words
  rw [View.canon_unit_zero (S := S1x5632) hz]
  simp only [View.readAt_eq_ld, Memref.IsWhole.read_unread, View.ld_unit_zero (S := ⟨2, _⟩) hz]
  rfl

end Cert.FfnActBwdIdeal.Hand

end
-- ==== Proof.FfnActRef.lean ====
/- The host's activation backward pass, entry by entry. -/
module

public import proofs.«01_k».proof.Proof.Gen.FfnActBwdRefIdeal.Run
public import proofs.«01_k».proof.Proof.Gate

@[expose] public section

set_option maxRecDepth 16384

noncomputable section

namespace Cert.FfnActBwdRefIdeal.Hand

open Cert.FfnActBwdRefIdeal Cert.FfnActBwdRefIdeal.Gen Idealize.ShloMosaic Idealize.ShloMosaic.TcCoe Idealize.SL.Sem Idealize.ShloMosaic.StableHlo

/-- The row `d` places before a row, zero before the sequence's start. -/
def shift (d : ℕ) (x0 : FVec Ideal S8192x5632 .bf16) (r : Fin 8192) (n : Fin 5632) : EReal :=
  if r.val < d then 0 else x0 (ix2 (⟨r.val - d, by omega⟩ : Fin 8192) n)

/-- The sequence behind two rows of zeros. -/
def padH (x0 : FVec Ideal S8192x5632 .bf16) : FVec Ideal S8194x5632 .f32 :=
  pad S8194x5632 ![2, 0] ![0, 0] ![0, 0] (extf .f32 x0 bitsLt_bf16_f32) (sitofp .f32 (constantI S_ 32 0#32)) pads_S8192x5632_S8194x5632_200_000 h_S_

/-- It, entry by entry. -/
theorem padH_apply (x0 : FVec Ideal S8192x5632 .bf16) (q : Fin 8194) (n : Fin 5632) :
    (padH x0 (ix2 q n) : EReal) = if h : q.val < 2 then 0 else x0 (ix2 (⟨q.val - 2, by omega⟩ : Fin 8192) n) := by
  have hq := q.isLt
  have hn := n.isLt
  unfold padH
  pointwise
  by_cases h : q.val < 2
  · rw [dif_neg (by omega), dif_pos h]
    show (((0#32 : BitVec 32).toInt : ℝ) : EReal) = 0
    simp
  · rw [dif_pos (by omega), dif_neg h]

/-- The taps, one behind the other. -/
def tapsH (x0 : FVec Ideal S8192x5632 .bf16) : FVec Ideal S3x8192x5632 .f32 :=
  (concatenate S3x8192x5632 0 [⟨S1x8192x5632, ((broadcastInDim S1x8192x5632 ![1, 2] bcast_S8192x5632_S1x8192x5632_1_2 (extractStridedSlice S8192x5632 ![0, 0] (padH x0) slices_S8194x5632_S8192x5632_0_0)) : (⟨S1x8192x5632, .f32⟩ : BufTy).Contents (Elt Ideal))⟩, ⟨S1x8192x5632, ((broadcastInDim S1x8192x5632 ![1, 2] bcast_S8192x5632_S1x8192x5632_1_2 (extractStridedSlice S8192x5632 ![1, 0] (padH x0) slices_S8194x5632_S8192x5632_1_0)) : (⟨S1x8192x5632, .f32⟩ : BufTy).Contents (Elt Ideal))⟩, ⟨S1x8192x5632, ((broadcastInDim S1x8192x5632 ![1, 2] bcast_S8192x5632_S1x8192x5632_1_2 (extractStridedSlice S8192x5632 ![2, 0] (padH x0) slices_S8194x5632_S8192x5632_2_0)) : (⟨S1x8192x5632, .f32⟩ : BufTy).Contents (Elt Ideal))⟩] concatenates_S1x8192x5632_S1x8192x5632_S1x8192x5632_S3x8192x5632_d0 : (⟨S3x8192x5632, .f32⟩ : BufTy).Contents (Elt Ideal))

/-- The first tap is the rows two down. -/
theorem tapsH_0 (x0 : FVec Ideal S8192x5632 .bf16) (r : Fin 8192) (n : Fin 5632) : (tapsH x0 (ix3 (0 : Fin 3) r n) : EReal) = shift 2 x0 r n := by
  unfold tapsH shift
  pointwise
  rw [padH_apply]
  rfl

/-- The second tap is the rows one down. -/
theorem tapsH_1 (x0 : FVec Ideal S8192x5632 .bf16) (r : Fin 8192) (n : Fin 5632) : (tapsH x0 (ix3 (1 : Fin 3) r n) : EReal) = shift 1 x0 r n := by
  unfold tapsH shift
  pointwise
  rw [padH_apply]
  by_cases h : r.val < 1
  · rw [dif_pos (by dsimp only; omega), if_pos h]
  · rw [dif_neg (by dsimp only; omega), if_neg h]
    simp only [show 1 + r.val - 2 = r.val - 1 from by omega]

/-- The third tap is the rows themselves. -/
theorem tapsH_2 (x0 : FVec Ideal S8192x5632 .bf16) (r : Fin 8192) (n : Fin 5632) : (tapsH x0 (ix3 (2 : Fin 3) r n) : EReal) = x0 (ix2 r n) := by
  unfold tapsH
  pointwise
  rw [padH_apply, dif_neg (by dsimp only; omega)]
  simp only [Nat.add_sub_cancel_left]

/-- The convolution. -/
def convH (x0 : FVec Ideal S8192x5632 .bf16) (x1 : FVec Ideal S3x5632 .f32) (x2 : FVec Ideal S1x5632 .f32) : FVec Ideal S8192x5632 .f32 :=
  addf (Host.reduceAdd (mulf (tapsH x0) (broadcastInDim S3x8192x5632 ![0, 1, 2] bcast_S3x1x5632_S3x8192x5632_0_1_2 (broadcastInDim S3x1x5632 ![0, 2] bcast_S3x5632_S3x1x5632_0_2 x1))) (constant S_ .f32 0x00000000#32) reducesTo_S3x8192x5632_S8192x5632_d0 h_S_) (broadcastInDim S8192x5632 ![0, 1] bcast_S1x5632_S8192x5632_0_1 x2)

/-- It, entry by entry. -/
theorem convH_apply (x0 : FVec Ideal S8192x5632 .bf16) (x1 : FVec Ideal S3x5632 .f32) (x2 : FVec Ideal S1x5632 .f32) (r : Fin 8192) (n : Fin 5632) :
    (convH x0 x1 x2 (ix2 r n) : EReal) = x1 (ix2 (0 : Fin 3) n) * shift 2 x0 r n + x1 (ix2 (1 : Fin 3) n) * shift 1 x0 r n + x1 (ix2 (2 : Fin 3) n) * x0 (ix2 r n) + x2 (ix2 (0 : Fin 1) n) := by
  unfold convH
  rw [← tapsH_0, ← tapsH_1, ← tapsH_2 x0 r n]
  pointwise
  simp only [Fin.sum_univ_three, mul_comm (tapsH x0 _)]

/-- The convolution's two halves and the gate's sigmoid. -/
def gateH (u : FVec Ideal S8192x5632 .f32) : FVec Ideal S8192x2816 .f32 := extractStridedSlice S8192x2816 ![0, 0] u slices_S8192x5632_S8192x2816_0_0

def valH (u : FVec Ideal S8192x5632 .f32) : FVec Ideal S8192x2816 .f32 := extractStridedSlice S8192x2816 ![0, 2816] u slices_S8192x5632_S8192x2816_0_2816

def sigH (u : FVec Ideal S8192x5632 .f32) : FVec Ideal S8192x2816 .f32 := Host.divf (broadcastInDim S8192x2816 ![] bcast_S_S8192x2816 (constant S_ .f32 0x3F800000#32)) (addf (broadcastInDim S8192x2816 ![] bcast_S_S8192x2816 (constant S_ .f32 0x3F800000#32)) (Host.exp (Host.negf (gateH u))))

/-- The gradient of the convolution's result. -/
def duH (u : FVec Ideal S8192x5632 .f32) (x3 : FVec Ideal S8192x2816 .bf16) : FVec Ideal S8192x5632 .f32 :=
  concatenate S8192x5632 1 [⟨S8192x2816, (addf (mulf (mulf (extf .f32 x3 bitsLt_bf16_f32) (valH u)) (sigH u)) (mulf (mulf (gateH u) (mulf (extf .f32 x3 bitsLt_bf16_f32) (valH u))) (mulf (sigH u) (subf (broadcastInDim S8192x2816 ![] bcast_S_S8192x2816 (constant S_ .f32 0x3F800000#32)) (sigH u)))))⟩, ⟨S8192x2816, (mulf (mulf (gateH u) (sigH u)) (extf .f32 x3 bitsLt_bf16_f32))⟩] concatenates_S8192x2816_S8192x2816_S8192x5632_d1

/-- It, entry by entry: the gate half first, then the value half. -/
theorem duH_apply (u : FVec Ideal S8192x5632 .f32) (x3 : FVec Ideal S8192x2816 .bf16) (r : Fin 8192) (n : Fin 5632) :
    (duH u x3 (ix2 r n) : EReal) = if h : n.val < 2816 then
        x3 (ix2 r (⟨n.val, h⟩ : Fin 2816)) * u (ix2 r (⟨2816 + n.val, by omega⟩ : Fin 5632)) * Cert.Hand.Gate.sg (u (ix2 r n))
          + u (ix2 r n) * (x3 (ix2 r (⟨n.val, h⟩ : Fin 2816)) * u (ix2 r (⟨2816 + n.val, by omega⟩ : Fin 5632))) * (Cert.Hand.Gate.sg (u (ix2 r n)) * (1 - Cert.Hand.Gate.sg (u (ix2 r n))))
      else u (ix2 r (⟨n.val - 2816, by omega⟩ : Fin 5632)) * Cert.Hand.Gate.sg (u (ix2 r (⟨n.val - 2816, by omega⟩ : Fin 5632))) * x3 (ix2 r (⟨n.val - 2816, by omega⟩ : Fin 2816)) := by
  unfold duH sigH gateH valH Cert.Hand.Gate.sg
  pointwise

variable (m : (ℓ : Loc nD τ sig) → Buf (Elt Ideal) ℓ) (c : Dev nD)

/-- The host's gradient of the convolution's result. -/
theorem res_31 : Value.res_main_v31 m c = truncf .bf16 (duH (convH (m ((c.tc : Thread nD τ).loc main_arg0)) (m ((c.tc : Thread nD τ).loc main_arg1)) (m ((c.tc : Thread nD τ).loc main_arg2))) (m ((c.tc : Thread nD τ).loc main_arg3))) bitsLt_bf16_f32 := rfl

/-- The host's gradient of the taps. -/
theorem res_32 : Value.res_main_v32 m c = pad S8x5632 ![0, 0] ![5, 0] ![0, 0] (Host.reduceAdd (shapeCast _ (Host.reduceAdd (mulf (tapsH (m ((c.tc : Thread nD τ).loc main_arg0))) (broadcastInDim S3x8192x5632 ![1, 2] bcast_S8192x5632_S3x8192x5632_1_2 (duH (convH (m ((c.tc : Thread nD τ).loc main_arg0)) (m ((c.tc : Thread nD τ).loc main_arg1)) (m ((c.tc : Thread nD τ).loc main_arg2))) (m ((c.tc : Thread nD τ).loc main_arg3))))) (constant S_ .f32 0x00000000#32) reducesTo_S3x8192x5632_S3x5632_d1 h_S_) shapeCasts_S3x5632_S3x1x5632) (constant S_ .f32 0x00000000#32) reducesTo_S3x1x5632_S3x5632_d1 h_S_) (sitofp .f32 (constantI S_ 32 0#32)) pads_S3x5632_S8x5632_050_000 h_S_ := rfl

/-- The host's gradient of the bias. -/
theorem res_25 : Value.res_main_v25 m c = shapeCast _ (Host.reduceAdd (duH (convH (m ((c.tc : Thread nD τ).loc main_arg0)) (m ((c.tc : Thread nD τ).loc main_arg1)) (m ((c.tc : Thread nD τ).loc main_arg2))) (m ((c.tc : Thread nD τ).loc main_arg3))) (constant S_ .f32 0x00000000#32) reducesTo_S8192x5632_S5632_d0 h_S_) shapeCasts_S5632_S1x5632 := rfl

end Cert.FfnActBwdRefIdeal.Hand

end
-- ==== Proof.FfnActBwdVal.lean ====
/- The feed-forward activation's backward pass: the gradients of the convolution's result, of its taps and of its bias. -/
module

public import proofs.«01_k».proof.Proof.FfnActBlk
public import proofs.«01_k».proof.Proof.FfnActRef
public import proofs.«01_k».proof.Proof.Gen.Pre_finite
public import proofs.«01_k».proof.Proof.Runs
public import proofs.«01_k».proof.Defs

@[expose] public section

set_option maxRecDepth 16384

noncomputable section

namespace Cert.FfnActBwdIdeal.Hand

open Cert.FfnActBwdIdeal Cert.FfnActBwdIdeal.Gen Idealize.ShloMosaic Idealize.ShloMosaic.TcCoe Idealize.SL.Sem
open Cert.Hand.FfnAct (gateBack valBack actBack)
open Cert.FfnActBwdRefIdeal.Hand (shift)

/-- The convolution. -/
def uA (x0 : FVec Ideal S8192x5632 .bf16) (x1 : FVec Ideal S3x5632 .f32) (x2 : FVec Ideal S1x5632 .f32) (r : Fin 8192) (n : Fin 5632) : EReal :=
  x1 (ix2 (0 : Fin 3) n) * shift 2 x0 r n + x1 (ix2 (1 : Fin 3) n) * shift 1 x0 r n + x1 (ix2 (2 : Fin 3) n) * x0 (ix2 r n) + x2 (ix2 (0 : Fin 1) n)

/-- The gradient of the convolution's result. -/
def du (x0 : FVec Ideal S8192x5632 .bf16) (x1 : FVec Ideal S3x5632 .f32) (x2 : FVec Ideal S1x5632 .f32) (x3 : FVec Ideal S8192x2816 .bf16) (r : Fin 8192) (n : Fin 5632) : EReal :=
  actBack (fun j => x3 (ix2 r j)) (fun j => uA x0 x1 x2 r j) n

/-- The row a row of the taps' gradient is taken against; zero past the third. -/
def tap (x0 : FVec Ideal S8192x5632 .bf16) (a : Fin 8) (r : Fin 8192) (n : Fin 5632) : EReal :=
  if a.val = 0 then shift 2 x0 r n else if a.val = 1 then shift 1 x0 r n else if a.val = 2 then x0 (ix2 r n) else 0

/-- A row's part of the taps' gradient. -/
def tapRow (x0 : FVec Ideal S8192x5632 .bf16) (x1 : FVec Ideal S3x5632 .f32) (x2 : FVec Ideal S1x5632 .f32) (x3 : FVec Ideal S8192x2816 .bf16) (a : Fin 8) (n : Fin 5632) (r : Fin 8192) : EReal := du x0 x1 x2 x3 r n * tap x0 a r n

/-- A row's part of the bias's gradient. -/
def colRow (x0 : FVec Ideal S8192x5632 .bf16) (x1 : FVec Ideal S3x5632 .f32) (x2 : FVec Ideal S1x5632 .f32) (x3 : FVec Ideal S8192x2816 .bf16) (n : Fin 5632) (r : Fin 8192) : EReal := du x0 x1 x2 x3 r n

/-- A later point's store is what the taps' rows held plus its part. -/
theorem pay1_apply (v : FVec Ideal S8x5632 .f32) (xo : Vec Ideal S8x5632 .f32) (y : S8x5632.Idx) :
    (k0_pay1 v xo y : EReal) = (xo y : EReal) + v y := by
  unfold k0_pay1
  rw [shapeCast_self]
  rfl

/-- A later point's store is what the bias's row held plus its part. -/
theorem pay2_apply (v : FVec Ideal S1x5632 .f32) (xo : Vec Ideal S1x5632 .f32) (y : S1x5632.Idx) :
    (k0_pay2 v xo y : EReal) = (xo y : EReal) + v y := by
  unfold k0_pay2
  rw [shapeCast_self]
  rfl

variable (m : (ℓ : Loc nD τ sig) → Buf (Elt Ideal) ℓ)

/-- The gradient of the convolution's result, of the launch contents. -/
def G5 (c : Dev nD) : FVec Ideal S8192x5632 .bf16 := fun i => du (m (c.tc.loc main_arg0)) (m (c.tc.loc main_arg1)) (m (c.tc.loc main_arg2)) (m (c.tc.loc main_arg3)) (i 0) (i 1)

/-- The taps' gradient of the launch contents. -/
def G6 (c : Dev nD) : FVec Ideal S8x5632 .f32 := fun i => ∑ r : Fin 8192, tapRow (m (c.tc.loc main_arg0)) (m (c.tc.loc main_arg1)) (m (c.tc.loc main_arg2)) (m (c.tc.loc main_arg3)) (i 0) (i 1) r

/-- The bias's gradient of the launch contents. -/
def G7 (c : Dev nD) : FVec Ideal S1x5632 .f32 := fun i => ∑ r : Fin 8192, colRow (m (c.tc.loc main_arg0)) (m (c.tc.loc main_arg1)) (m (c.tc.loc main_arg2)) (m (c.tc.loc main_arg3)) (i 1) r

/-- The block indices of the windows at every point of the grid, and the point's coordinate. -/
theorem index_facts : ∀ t : Fin cfg0.N,
    win0_0.index t (0 : Fin 2) = t.val ∧ win0_0.index t (1 : Fin 2) = 0
    ∧ win0_1.index t (0 : Fin 2) = 32 * t.val - 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ (grid0.coords t 0).val = t.val :=
  (by decide +kernel : ∀ t : Fin grid0.N, _)

/-- A block of window 0 holds the operand's entries of its place. -/
theorem blk0 (c : Dev nD) (t : Fin cfg0.N) (k : Fin 256) (n : Fin 5632) (r : Fin 8192) (hr : r.val = 256 * t.val + k.val) :
    (iblk m c 0 t (ix2 k n) : EReal) = m (c.tc.loc main_arg0) (ix2 r n) := by
  obtain ⟨h0a, h0b, -⟩ := index_facts t
  refine congrArg (m (c.tc.loc main_arg0)) (funext fun b => Fin.ext ?_)
  match b with
  | ⟨0, _⟩ => show win0_0.index t 0 * 256 + 1 * k.val = r.val; rw [h0a, hr]; omega
  | ⟨1, _⟩ => show win0_0.index t 1 * 5632 + 1 * n.val = n.val; rw [h0b]; omega

/-- A block of window 1 holds the operand's entries of its place. -/
theorem blk1 (c : Dev nD) (t : Fin cfg0.N) (k : Fin 8) (n : Fin 5632) (r : Fin 8192) (hr : r.val + 8 = 256 * t.val + k.val) :
    (iblk m c 1 t (ix2 k n) : EReal) = m (c.tc.loc main_arg0) (ix2 r n) := by
  obtain ⟨-, -, h1a, h1b, -⟩ := index_facts t
  refine congrArg (m (c.tc.loc main_arg0)) (funext fun b => Fin.ext ?_)
  match b with
  | ⟨0, _⟩ => show win0_1.index t 0 * 8 + 1 * k.val = r.val; rw [h1a]; omega
  | ⟨1, _⟩ => show win0_1.index t 1 * 5632 + 1 * n.val = n.val; rw [h1b]; omega

/-- A block of window 2 holds the operand's entries of its place. -/
theorem blk2 (c : Dev nD) (t : Fin cfg0.N) (k : Fin 3) (n : Fin 5632) :
    (iblk m c 2 t (ix2 k n) : EReal) = m (c.tc.loc main_arg1) (ix2 k n) := by
  obtain ⟨-, -, -, -, h2a, h2b, -⟩ := index_facts t
  refine congrArg (m (c.tc.loc main_arg1)) (funext fun b => Fin.ext ?_)
  match b with
  | ⟨0, _⟩ => show win0_2.index t 0 * 3 + 1 * k.val = k.val; rw [h2a]; omega
  | ⟨1, _⟩ => show win0_2.index t 1 * 5632 + 1 * n.val = n.val; rw [h2b]; omega

/-- A block of window 3 holds the operand's entries of its place. -/
theorem blk3 (c : Dev nD) (t : Fin cfg0.N) (k : Fin 1) (n : Fin 5632) :
    (iblk m c 3 t (ix2 k n) : EReal) = m (c.tc.loc main_arg2) (ix2 k n) := by
  obtain ⟨-, -, -, -, -, -, h3a, h3b, -⟩ := index_facts t
  refine congrArg (m (c.tc.loc main_arg2)) (funext fun b => Fin.ext ?_)
  match b with
  | ⟨0, _⟩ => show win0_3.index t 0 * 1 + 1 * k.val = k.val; rw [h3a]; omega
  | ⟨1, _⟩ => show win0_3.index t 1 * 5632 + 1 * n.val = n.val; rw [h3b]; omega

/-- A block of window 4 holds the operand's entries of its place. -/
theorem blk4 (c : Dev nD) (t : Fin cfg0.N) (k : Fin 256) (n : Fin 2816) (r : Fin 8192) (hr : r.val = 256 * t.val + k.val) :
    (iblk m c 4 t (ix2 k n) : EReal) = m (c.tc.loc main_arg3) (ix2 r n) := by
  obtain ⟨-, -, -, -, -, -, -, -, h4a, h4b, -⟩ := index_facts t
  refine congrArg (m (c.tc.loc main_arg3)) (funext fun b => Fin.ext ?_)
  match b with
  | ⟨0, _⟩ => show win0_4.index t 0 * 256 + 1 * k.val = r.val; rw [h4a, hr]; omega
  | ⟨1, _⟩ => show win0_4.index t 1 * 2816 + 1 * n.val = n.val; rw [h4b]; omega

/-- A block's rows some rows down are the sequence's. -/
theorem down_eq (c : Dev nD) (t : Fin cfg0.N) (d : ℕ) (hd : d ≤ 8) (k : Fin 256) (n : Fin 5632) (r : Fin 8192) (hr : r.val = 256 * t.val + k.val) :
    down d hd (grid0.coords t) (iblk m c 0 t) (iblk m c 1 t) k n = shift d (m (c.tc.loc main_arg0)) r n := by
  obtain ⟨-, -, -, -, -, -, -, -, -, -, -, -, -, -, -, -, ht⟩ := index_facts t
  unfold down shift
  rw [ht]
  by_cases h : k.val < d
  · rw [dif_pos h]
    by_cases h0 : t.val = 0
    · rw [if_pos h0, if_pos (by omega)]
    · rw [if_neg h0, if_neg (by omega)]
      exact blk1 m c t _ n _ (by dsimp only; omega)
  · rw [dif_neg h, if_neg (by omega)]
    exact blk0 m c t _ n _ (by dsimp only; omega)

/-- A block's gradient is the whole's. -/
theorem duB_eq (c : Dev nD) (t : Fin cfg0.N) (k : Fin 256) (n : Fin 5632) (r : Fin 8192) (hr : r.val = 256 * t.val + k.val) :
    (duB (grid0.coords t) (iblk m c 0 t) (iblk m c 1 t) (iblk m c 2 t) (iblk m c 3 t) (iblk m c 4 t) (ix2 k n) : EReal) = du (m (c.tc.loc main_arg0)) (m (c.tc.loc main_arg1)) (m (c.tc.loc main_arg2)) (m (c.tc.loc main_arg3)) r n := by
  rw [duB_apply]
  unfold du uB uA
  rw [funext fun j => blk4 m c t k j r hr]
  congr 1
  funext j
  rw [down_eq m c t 2 _ k j r hr, down_eq m c t 1 _ k j r hr, blk0 m c t k j r hr, blk2, blk2, blk2, blk3]

/-- A block's tap rows are the whole's. -/
theorem tap_eq (c : Dev nD) (t : Fin cfg0.N) (a : Fin 8) (k : Fin 256) (n : Fin 5632) (r : Fin 8192) (hr : r.val = 256 * t.val + k.val) :
    tapOf (grid0.coords t) (iblk m c 0 t) (iblk m c 1 t) a k n = tap (m (c.tc.loc main_arg0)) a r n := by
  unfold tapOf tap
  rw [down_eq m c t 2 _ k n r hr, down_eq m c t 1 _ k n r hr, blk0 m c t k n r hr]

/-- What a point leaves in the gradient of the convolution's result's block. -/
theorem block5 (c : Dev nD) (t : Fin cfg0.N) :
    (outsAt0 m c t.val t.isLt).1 = truncf .bf16 (duB (grid0.coords t) (iblk m c 0 t) (iblk m c 1 t) (iblk m c 2 t) (iblk m c 3 t) (iblk m c 4 t)) bitsLt_bf16_f32 := by
  have hN : cfg0.N = 32 := N_0
  have := t.isLt
  by_cases h : t.val % 32 = 0
  · rw [outsAt0_A m c t h (by omega) h (by omega)]
    dsimp only
    rw [out_A_5]
  · rw [outsAt0_B m c t h (by omega) h (by omega)]
    dsimp only
    rw [out_B_5]

/-- What a point writes back is its block of that gradient. -/
theorem flushed_G5 (c : Dev nD) (t : Fin cfg0.N) (hf : (cfg0.win 5).flush t = true) :
    (dats m 0 c).flushed 5 t = ((cfg0.win 5).blk t).view.read (Elt Ideal) (G5 m c) := by
  obtain ⟨-, -, -, -, -, -, -, -, -, -, h5a, h5b, -⟩ := index_facts t
  rw [Value.flushed5]
  funext y
  rw [View.read_apply]
  show ((outsAt0 m c t.val t.isLt).1 y : EReal) = _
  rw [block5]
  have hN : t.val < 32 := N_0 ▸ t.isLt
  have hk : (y 0 : Nat) < 256 := (y 0).isLt
  have e : (((cfg0.win 5).blk t).view.emb y : S8192x5632.Idx) = ix2 (⟨256 * t.val + (y 0 : Nat), by omega⟩ : Fin 8192) (y 1) := by
    funext b
    apply Fin.ext
    match b with
    | ⟨0, _⟩ => show win0_5.index t 0 * 256 + 1 * (y 0 : Nat) = 256 * t.val + (y 0 : Nat); rw [h5a]; omega
    | ⟨1, _⟩ => show win0_5.index t 1 * 5632 + 1 * (y 1 : Nat) = (y 1 : Nat); rw [h5b]; omega
  rw [e]
  have ey : y = ix2 (y 0) (y 1) := by
    funext b
    match b with
    | ⟨0, _⟩ => rfl
    | ⟨1, _⟩ => rfl
  refine (congrArg (duB (grid0.coords t) (iblk m c 0 t) (iblk m c 1 t) (iblk m c 2 t) (iblk m c 3 t) (iblk m c 4 t)) ey).trans ?_
  exact duB_eq m c t (y 0) (y 1) _ rfl

/-- Its array after the run. -/
theorem final5 (c : Dev nD) : (dats m 0 c).arrAt 5 cfg0.N = G5 m c :=
  (dats m 0 c).arrAt_eq_of_cover 5 (G5 m c) (fun t hf => flushed_G5 m c t hf) fun i => by
    have h0 : (i 0 : Nat) < 8192 := (i 0).isLt
    have h1 : (i 1 : Nat) < 5632 := (i 1).isLt
    obtain ⟨t, hf, ha⟩ := (by decide +kernel : ∀ a : Fin 32, ∃ t : Fin grid0.N, (cfg0.win 5).flush t = true ∧ t.val = a.val) ⟨(i 0 : Nat) / 256, by omega⟩
    obtain ⟨-, -, -, -, -, -, -, -, -, -, h5a, h5b, -⟩ := index_facts t
    refine ⟨t, hf, ?_⟩
    show i ∈ ((View.whole main_v0_0).slice (win0_5.rect t)).set
    rw [View.set_slice_whole, Rect.mem_set_unit]
    intro b
    match b with
    | ⟨0, _⟩ => show win0_5.index t 0 * 256 ≤ (i 0 : Nat) ∧ (i 0 : Nat) < win0_5.index t 0 * 256 + 256
                rw [h5a, ha]; dsimp only; omega
    | ⟨1, _⟩ => show win0_5.index t 1 * 5632 ≤ (i 1 : Nat) ∧ (i 1 : Nat) < win0_5.index t 1 * 5632 + 5632
                rw [h5b]; omega

/-- A point's part of the taps' gradient is its run of rows' part of the whole. -/
theorem point6 (c : Dev nD) (t : Fin cfg0.N) (J : S8x5632.Idx) :
    (tapB (grid0.coords t) (iblk m c 0 t) (iblk m c 1 t) (iblk m c 2 t) (iblk m c 3 t) (iblk m c 4 t) J : EReal) = Cert.Hand.runSum 256 (tapRow (m (c.tc.loc main_arg0)) (m (c.tc.loc main_arg1)) (m (c.tc.loc main_arg2)) (m (c.tc.loc main_arg3)) (J 0) (J 1)) t.val := by
  idx_vars J
  skip
  rw [tapB_apply]
  unfold Cert.Hand.runSum
  refine Finset.sum_congr rfl fun k _ => ?_
  have hk := k.isLt
  have ht : t.val < 32 := N_0 ▸ t.isLt
  have hr : 256 * t.val + k.val < 8192 := by omega
  rw [Cert.Hand.atNat_of_lt _ _ hr, duB_eq m c t k _ ⟨_, hr⟩ rfl, tap_eq m c t _ k _ ⟨_, hr⟩ rfl]
  rfl

/-- What its block holds after a point: the runs of rows so far. -/
theorem acc6 (c : Dev nD) (J : S8x5632.Idx) : ∀ (n : ℕ) (h : n < cfg0.N),
    ((outsAt0 m c n h).2.1 J : EReal) = ∑ s ∈ Finset.range (n + 1), Cert.Hand.runSum 256 (tapRow (m (c.tc.loc main_arg0)) (m (c.tc.loc main_arg1)) (m (c.tc.loc main_arg2)) (m (c.tc.loc main_arg3)) (J 0) (J 1)) s := by
  intro n
  induction n with
  | zero =>
    intro h
    rw [outsAt0_A m c ⟨0, h⟩ rfl (by dsimp only; omega) rfl (by dsimp only; omega)]
    dsimp only
    rw [out_A_6, point6 m c ⟨0, h⟩]
    simp
  | succ n ih =>
    intro h
    have hN : cfg0.N = 32 := N_0
    rw [Finset.sum_range_succ, ← ih (Nat.lt_of_succ_lt h)]
    rw [outsAt0_B m c ⟨n + 1, h⟩ (by dsimp only; omega) (by dsimp only; omega) (by dsimp only; omega) (by dsimp only; omega)]
    dsimp only
    rw [out_B_6, pay1_apply, point6 m c ⟨n + 1, h⟩]
    simp only [Nat.add_sub_cancel]

/-- What the last point writes back is the taps' gradient. -/
theorem flushed_G6 (c : Dev nD) (t : Fin cfg0.N) (hf : (cfg0.win 6).flush t = true) :
    (dats m 0 c).flushed 6 t = ((cfg0.win 6).blk t).view.read (Elt Ideal) (G6 m c) := by
  obtain ⟨-, -, -, -, -, -, -, -, -, -, -, -, h6a, h6b, -⟩ := index_facts t
  have e31 : t.val = 31 := (by decide +kernel : ∀ t : Fin grid0.N, win0_6.flush t = true → t.val = 31) t hf
  rw [Value.flushed6]
  funext y
  rw [View.read_apply]
  have e : (((cfg0.win 6).blk t).view.emb y : S8x5632.Idx) = y := by
    funext b
    apply Fin.ext
    match b with
    | ⟨0, _⟩ => show win0_6.index t 0 * 8 + 1 * (y 0 : Nat) = (y 0 : Nat); rw [h6a]; omega
    | ⟨1, _⟩ => show win0_6.index t 1 * 5632 + 1 * (y 1 : Nat) = (y 1 : Nat); rw [h6b]; omega
  rw [e]
  show ((outsAt0 m c t.val t.isLt).2.1 y : EReal) = G6 m c y
  rw [acc6 m c y t.val t.isLt]
  rw [e31]
  exact Cert.Hand.sum_runs 32 256 rfl _

/-- Its array after the run. -/
theorem final6 (c : Dev nD) : (dats m 0 c).arrAt 6 cfg0.N = G6 m c :=
  (dats m 0 c).arrAt_eq_of_cover 6 (G6 m c) (fun t hf => flushed_G6 m c t hf) fun i => by
    have h0 : (i 0 : Nat) < 8 := (i 0).isLt
    have h1 : (i 1 : Nat) < 5632 := (i 1).isLt
    obtain ⟨t, hf⟩ := (by decide +kernel : ∃ t : Fin grid0.N, (cfg0.win 6).flush t = true)
    obtain ⟨-, -, -, -, -, -, -, -, -, -, -, -, h6a, h6b, -⟩ := index_facts t
    refine ⟨t, hf, ?_⟩
    show i ∈ ((View.whole main_v0_1).slice (win0_6.rect t)).set
    rw [View.set_slice_whole, Rect.mem_set_unit]
    intro b
    match b with
    | ⟨0, _⟩ => show win0_6.index t 0 * 8 ≤ (i 0 : Nat) ∧ (i 0 : Nat) < win0_6.index t 0 * 8 + 8
                rw [h6a]; omega
    | ⟨1, _⟩ => show win0_6.index t 1 * 5632 ≤ (i 1 : Nat) ∧ (i 1 : Nat) < win0_6.index t 1 * 5632 + 5632
                rw [h6b]; omega

/-- A point's part of the bias's gradient is its run of rows' part of the whole. -/
theorem point7 (c : Dev nD) (t : Fin cfg0.N) (J : S1x5632.Idx) :
    (colB (grid0.coords t) (iblk m c 0 t) (iblk m c 1 t) (iblk m c 2 t) (iblk m c 3 t) (iblk m c 4 t) J : EReal) = Cert.Hand.runSum 256 (colRow (m (c.tc.loc main_arg0)) (m (c.tc.loc main_arg1)) (m (c.tc.loc main_arg2)) (m (c.tc.loc main_arg3)) (J 1)) t.val := by
  idx_vars J
  obtain rfl := Subsingleton.elim J0 (0 : Fin 1)
  rw [colB_apply]
  unfold Cert.Hand.runSum
  refine Finset.sum_congr rfl fun k _ => ?_
  have hk := k.isLt
  have ht : t.val < 32 := N_0 ▸ t.isLt
  have hr : 256 * t.val + k.val < 8192 := by omega
  rw [Cert.Hand.atNat_of_lt _ _ hr, duB_eq m c t k _ ⟨_, hr⟩ rfl]
  rfl

/-- What its block holds after a point: the runs of rows so far. -/
theorem acc7 (c : Dev nD) (J : S1x5632.Idx) : ∀ (n : ℕ) (h : n < cfg0.N),
    ((outsAt0 m c n h).2.2 J : EReal) = ∑ s ∈ Finset.range (n + 1), Cert.Hand.runSum 256 (colRow (m (c.tc.loc main_arg0)) (m (c.tc.loc main_arg1)) (m (c.tc.loc main_arg2)) (m (c.tc.loc main_arg3)) (J 1)) s := by
  intro n
  induction n with
  | zero =>
    intro h
    rw [outsAt0_A m c ⟨0, h⟩ rfl (by dsimp only; omega) rfl (by dsimp only; omega)]
    dsimp only
    rw [out_A_7, point7 m c ⟨0, h⟩]
    simp
  | succ n ih =>
    intro h
    have hN : cfg0.N = 32 := N_0
    rw [Finset.sum_range_succ, ← ih (Nat.lt_of_succ_lt h)]
    rw [outsAt0_B m c ⟨n + 1, h⟩ (by dsimp only; omega) (by dsimp only; omega) (by dsimp only; omega) (by dsimp only; omega)]
    dsimp only
    rw [out_B_7, pay2_apply, point7 m c ⟨n + 1, h⟩]
    simp only [Nat.add_sub_cancel]

/-- What the last point writes back is the bias's gradient. -/
theorem flushed_G7 (c : Dev nD) (t : Fin cfg0.N) (hf : (cfg0.win 7).flush t = true) :
    (dats m 0 c).flushed 7 t = ((cfg0.win 7).blk t).view.read (Elt Ideal) (G7 m c) := by
  obtain ⟨-, -, -, -, -, -, -, -, -, -, -, -, -, -, h7a, h7b, -⟩ := index_facts t
  have e31 : t.val = 31 := (by decide +kernel : ∀ t : Fin grid0.N, win0_7.flush t = true → t.val = 31) t hf
  rw [Value.flushed7]
  funext y
  rw [View.read_apply]
  have e : (((cfg0.win 7).blk t).view.emb y : S1x5632.Idx) = y := by
    funext b
    apply Fin.ext
    match b with
    | ⟨0, _⟩ => show win0_7.index t 0 * 1 + 1 * (y 0 : Nat) = (y 0 : Nat); rw [h7a]; omega
    | ⟨1, _⟩ => show win0_7.index t 1 * 5632 + 1 * (y 1 : Nat) = (y 1 : Nat); rw [h7b]; omega
  rw [e]
  show ((outsAt0 m c t.val t.isLt).2.2 y : EReal) = G7 m c y
  rw [acc7 m c y t.val t.isLt]
  rw [e31]
  exact Cert.Hand.sum_runs 32 256 rfl _

/-- Its array after the run. -/
theorem final7 (c : Dev nD) : (dats m 0 c).arrAt 7 cfg0.N = G7 m c :=
  (dats m 0 c).arrAt_eq_of_cover 7 (G7 m c) (fun t hf => flushed_G7 m c t hf) fun i => by
    have h0 : (i 0 : Nat) < 1 := (i 0).isLt
    have h1 : (i 1 : Nat) < 5632 := (i 1).isLt
    obtain ⟨t, hf⟩ := (by decide +kernel : ∃ t : Fin grid0.N, (cfg0.win 7).flush t = true)
    obtain ⟨-, -, -, -, -, -, -, -, -, -, -, -, -, -, h7a, h7b, -⟩ := index_facts t
    refine ⟨t, hf, ?_⟩
    show i ∈ ((View.whole main_v0_2).slice (win0_7.rect t)).set
    rw [View.set_slice_whole, Rect.mem_set_unit]
    intro b
    match b with
    | ⟨0, _⟩ => show win0_7.index t 0 * 1 ≤ (i 0 : Nat) ∧ (i 0 : Nat) < win0_7.index t 0 * 1 + 1
                rw [h7a]; omega
    | ⟨1, _⟩ => show win0_7.index t 1 * 5632 ≤ (i 1 : Nat) ∧ (i 1 : Nat) < win0_7.index t 1 * 5632 + 5632
                rw [h7b]; omega

end Cert.FfnActBwdIdeal.Hand

namespace Cert.Hand.FfnAct

open Idealize.ShloMosaic Idealize.SL.Sem Cert.FfnActBwdRefIdeal.Hand

/-- A finite entry. -/
def IsReal (x : EReal) : Prop := ∃ r : ℝ, x = r

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

/-- An entry whose absolute value is below infinity is finite. -/
theorem isReal_of (x : EReal) (h : BitVec.ofBool (decide (max x (-x) < Ideal.ofBits .f32 0x7F800000#32)) = 1#1) : IsReal x := by
  have e : Ideal.ofBits .f32 0x7F800000#32 = ⊤ := by simp [Ideal.ofBits, Ideal.ieee]
  rw [e] at h
  induction x with
  | bot => simp at h
  | top => simp at h
  | coe r => exact ⟨r, rfl⟩

/-- Two flags are both one when their conjunction is. -/
theorem both : ∀ a b : BitVec 1, IntOp.andi a b = 1#1 → a = 1#1 ∧ b = 1#1 := by decide

variable (x0 : FVec Ideal Cert.FfnActBwdRefIdeal.S8192x5632 .bf16) (x1 : FVec Ideal Cert.FfnActBwdRefIdeal.S3x5632 .f32) (x2 : FVec Ideal Cert.FfnActBwdRefIdeal.S1x5632 .f32)
    (x3 : FVec Ideal Cert.FfnActBwdRefIdeal.S8192x2816 .bf16)

/-- Every operand's entry of a place is finite. -/
theorem finite_at (h : Cert.Pre_finite.fn (F := Ideal) x0 x1 x2 x3 = fun _ => 1#1) (r : Fin 8192) (n : Fin 5632) :
    IsReal (x0 (ix2 r n)) ∧ IsReal (x1 (ix2 (0 : Fin 3) n)) ∧ IsReal (x1 (ix2 (1 : Fin 3) n)) ∧ IsReal (x1 (ix2 (2 : Fin 3) n)) ∧ IsReal (x2 (ix2 (0 : Fin 1) n))
      ∧ ∀ l : n.val < 2816, IsReal (x3 (ix2 r (⟨n.val, l⟩ : Fin 2816))) := by
  have h' := congrFun h (ix2 r n)
  unfold Cert.Pre_finite.fn Cert.Pre_finite.fn_part1 at h'
  pointwise at h'
  obtain ⟨h', h3⟩ := both _ _ h'
  obtain ⟨h', h2⟩ := both _ _ h'
  obtain ⟨h', h12⟩ := both _ _ h'
  obtain ⟨h', h11⟩ := both _ _ h'
  obtain ⟨h0, h10⟩ := both _ _ h'
  refine ⟨isReal_of _ h0, isReal_of _ h10, isReal_of _ h11, isReal_of _ h12, isReal_of _ h2, fun l => ?_⟩
  rw [dif_pos l] at h3
  exact isReal_of _ h3

/-- The convolution of finite operands is finite. -/
theorem conv_real (h : Cert.Pre_finite.fn (F := Ideal) x0 x1 x2 x3 = fun _ => 1#1) (r : Fin 8192) (n : Fin 5632) :
    IsReal (Cert.FfnActBwdIdeal.Hand.uA x0 x1 x2 r n) := by
  have hs : ∀ d, IsReal (shift d x0 r n) := fun d => by
    unfold shift
    split
    · exact ⟨0, rfl⟩
    · exact (finite_at x0 x1 x2 x3 h _ n).1
  obtain ⟨h0, h10, h11, h12, h2, _⟩ := finite_at x0 x1 x2 x3 h r n
  exact (((h10.mul (hs 2)).add (h11.mul (hs 1))).add (h12.mul h0)).add h2

/-- The derivative of the sigmoid linear unit the two ways it is written, against a finite cotangent. -/
theorem slope (c g : EReal) (hc : IsReal c) :
    c * Gate.sg g + g * c * (Gate.sg g * (1 - Gate.sg g)) = c * Gate.sg g * (1 + g * (1 - Gate.sg g)) := by
  obtain ⟨c, rfl⟩ := hc
  induction g with
  | bot => rw [Gate.sg_bot]; simp
  | top =>
    rw [Gate.sg_top]
    simp only [← EReal.coe_one, ← EReal.coe_sub, sub_self, EReal.coe_zero, mul_zero, add_zero]
    simp only [EReal.coe_one, mul_one]
  | coe x =>
    rw [Gate.sg_coe]
    simp only [← EReal.coe_one, ← EReal.coe_sub, ← EReal.coe_mul, ← EReal.coe_add]
    congr 1
    ring

/-- The host's gradient of the convolution's result is the kernel's. -/
theorem du_eq (h : Cert.Pre_finite.fn (F := Ideal) x0 x1 x2 x3 = fun _ => 1#1) (r : Fin 8192) (n : Fin 5632) :
    (duH (convH x0 x1 x2) x3 (ix2 r n) : EReal) = Cert.FfnActBwdIdeal.Hand.du x0 x1 x2 x3 r n := by
  have hu : ∀ j, (convH x0 x1 x2 (ix2 r j) : EReal) = Cert.FfnActBwdIdeal.Hand.uA x0 x1 x2 r j := fun j => convH_apply x0 x1 x2 r j
  rw [duH_apply]
  simp only [hu]
  unfold Cert.FfnActBwdIdeal.Hand.du actBack
  by_cases l : n.val < 2816
  · rw [dif_pos l, dif_pos l]
    unfold gateBack
    exact slope _ _ (((finite_at x0 x1 x2 x3 h r n).2.2.2.2.2 l).mul (conv_real x0 x1 x2 x3 h r _))
  · rw [dif_neg l, dif_neg l]
    unfold valBack
    rw [mul_comm, mul_assoc]

end Cert.Hand.FfnAct

namespace Cert.Hand

open Idealize.ShloMosaic Idealize.SL.Sem

/-- The kernel's three gradients and the host's are the same arrays, when every operand is finite. -/
theorem algebraic_ffnActBwd : Cert.algebraic_FfnActBwdIdeal_FfnActBwdRefIdeal_pre_finite := by
  intro m g m' g' hfin hargs
  refine ⟨fun c => Cert.FfnActBwdIdeal.Hand.G5 m c, fun c => Cert.FfnActBwdIdeal.Hand.G6 m c, fun c => Cert.FfnActBwdIdeal.Hand.G7 m c, ?_, ?_⟩
  · refine (θ_run Cert.FfnActBwdIdeal.defs _ _).mono (fun r h c => ?_) (Cert.FfnActBwdIdeal.Value.run_blocks m g)
    exact ⟨(h c).1.trans (Cert.FfnActBwdIdeal.Hand.final5 m c), (h c).2.1.trans (Cert.FfnActBwdIdeal.Hand.final6 m c), (h c).2.2.1.trans (Cert.FfnActBwdIdeal.Hand.final7 m c), (h c).2.2.2⟩
  · refine (θ_run Cert.FfnActBwdRefIdeal.defs _ _).mono (fun r h c => ?_) (Cert.FfnActBwdRefIdeal.Value.run m' g')
    have hd := FfnAct.du_eq _ _ _ _ (hfin c)
    refine ⟨(h c).1.trans ?_, (h c).2.1.trans ?_, (h c).2.2.1.trans ?_, (h c).2.2.2⟩
    · rw [Cert.FfnActBwdRefIdeal.Hand.res_31, (hargs c).1, (hargs c).2.1, (hargs c).2.2.1, (hargs c).2.2.2]
      funext i
      idx_vars i
      exact hd i0 i1
    · rw [Cert.FfnActBwdRefIdeal.Hand.res_32, (hargs c).1, (hargs c).2.1, (hargs c).2.2.1, (hargs c).2.2.2]
      funext i
      unfold Cert.FfnActBwdIdeal.Hand.G6 Cert.FfnActBwdIdeal.Hand.tapRow
      simp only [← hd]
      idx_vars i
      unfold Cert.FfnActBwdIdeal.Hand.tap
      pointwise
      split
      · next l =>
        simp only [Finset.univ_unique, Finset.sum_singleton]
        refine Finset.sum_congr rfl fun r _ => ?_
        rw [hd, mul_comm]
        congr 1
        obtain ⟨k, hk⟩ := i0
        have hk3 : k = 0 ∨ k = 1 ∨ k = 2 := by
          have : k < 3 := l
          omega
        rcases hk3 with rfl | rfl | rfl
        · exact Cert.FfnActBwdRefIdeal.Hand.tapsH_0 _ r i1
        · exact Cert.FfnActBwdRefIdeal.Hand.tapsH_1 _ r i1
        · exact Cert.FfnActBwdRefIdeal.Hand.tapsH_2 _ r i1
      · next l =>
        have e : ∀ (a b d : Ideal .f32), (if i0.val = 0 then a else if i0.val = 1 then b else if i0.val = 2 then d else 0) = 0 := fun a b d => by
          rw [if_neg (by omega), if_neg (by omega), if_neg (by omega)]
        simp only [e, mul_zero, Finset.sum_const_zero]
        show (((0#32 : BitVec 32).toInt : ℝ) : EReal) = 0
        simp
    · rw [Cert.FfnActBwdRefIdeal.Hand.res_25, (hargs c).1, (hargs c).2.1, (hargs c).2.2.1, (hargs c).2.2.2]
      funext i
      unfold Cert.FfnActBwdIdeal.Hand.G7 Cert.FfnActBwdIdeal.Hand.colRow
      simp only [← hd]
      idx_vars i
      pointwise
      exact Finset.sum_congr rfl fun r _ => hd r i1

end Cert.Hand

end
-- ==== Proof.GdnPreBwdVal.lean ====
/- The gated delta rule's preparation's backward pass: the gradients of the decay's rate and of its bias. -/
module

public import proofs.«01_k».proof.Proof.Gen.GdnPreBwdIdeal.Value
public import proofs.«01_k».proof.Proof.Gen.GdnPreBwdRefIdeal.Run
public import proofs.«01_k».proof.Proof.Gen.Pre_regular_decay
public import proofs.«01_k».proof.Proof.FfnActBwdVal
public import proofs.«01_k».proof.Proof.Runs
public import proofs.«01_k».proof.Defs
public import Idealize.ShloMosaic.Lib.Tactic

@[expose] public section

set_option maxRecDepth 65536

noncomputable section

namespace Cert.GdnPreBwdIdeal.Hand

open Cert.GdnPreBwdIdeal Cert.GdnPreBwdIdeal.Gen Idealize.ShloMosaic Idealize.ShloMosaic.TcCoe Idealize.SL.Sem

/-- The soft plus. -/
def sp (x : ℝ) : ℝ := max x 0 + Real.log (1 + Real.exp (-|x|))

/-- One more than an exponential is positive. -/
theorem one_add_exp_pos (x : ℝ) : 0 < 1 + Real.exp x := by positivity

/-- The larger of two reals is the real larger one. -/
theorem larger (a b : ℝ) : max (a : EReal) (b : EReal) = ((max a b : ℝ) : EReal) := (EReal.coe_strictMono.monotone.map_max).symm

/-- The exponential of minus the absolute value, on a real. -/
theorem expAbs (x : ℝ) : Ideal.exp (0 - FloatOps.absf (F := Ideal) (φ := .f32) (x : EReal)) = (Real.exp (-|x|) : ℝ) := by
  show Ideal.exp (0 - max (x : EReal) (-(x : EReal))) = _
  rw [← EReal.coe_neg, larger, zero_sub, ← EReal.coe_neg]
  rfl

/-- One more than a real is a real. -/
theorem onePlus (y : ℝ) : (1 : EReal) + (y : EReal) = ((1 + y : ℝ) : EReal) := by
  rw [EReal.coe_add, EReal.coe_one]

/-- The sum of the larger of a number and zero with the logarithm is the soft plus. -/
theorem logOne (x : ℝ) : max (x : EReal) 0 + Ideal.log (1 + (Real.exp (-|x|) : ℝ)) = (sp x : ℝ) := by
  rw [onePlus, Ideal.log_coe, if_neg (not_le.mpr (one_add_exp_pos _)), ← EReal.coe_zero, larger, ← EReal.coe_add]
  rfl

/-- The reference's soft plus, on a real. -/
theorem softRef (x : ℝ) : (if (x : EReal) ≠ x then (x : EReal) else max (x : EReal) 0 + Ideal.log1p (Ideal.exp (-FloatOps.absf (F := Ideal) (φ := .f32) (x : EReal)))) = (sp x : ℝ) := by
  rw [if_neg (not_not.mpr rfl), ← zero_sub (FloatOps.absf (F := Ideal) (φ := .f32) (x : EReal)), expAbs]
  exact logOne x

/-- A real divided by one more than an exponential is a real. -/
theorem quot (y x : ℝ) : Ideal.div (y : EReal) ((1 + Real.exp x : ℝ) : EReal) = ((y / (1 + Real.exp x) : ℝ) : EReal) := by
  unfold Ideal.div
  rw [if_neg (fun h => (one_add_exp_pos x).ne' (EReal.coe_eq_zero.mp h)), ← EReal.coe_inv, ← EReal.coe_mul]
  rfl

/-- The derivative of the soft plus, from its value. -/
theorem slope (x : ℝ) : Real.exp (x - sp x) = Real.exp (x - max x 0) / (1 + Real.exp (-|x|)) := by
  unfold sp
  rw [← sub_sub, Real.exp_sub, Real.exp_log (one_add_exp_pos _)]

/-- A row's part of the bias's gradient. -/
def biasB (x2 : Vec Ideal S128x256 .f32) (x4 x5 : Vec Ideal S1x128 .f32) (x10 : Vec Ideal S128x128 .f32) : FVec Ideal S128x128 .f32 :=
  k0_pay198 x10 (k0_pay163 x4) (k0_pay166 x5 (k0_pay29 x2)) (k0_pay169 (k0_pay164 x5 (k0_pay29 x2)) k0_pay168) (k0_pay170 (k0_pay167 x5 (k0_pay29 x2))) (k0_pay171 (k0_pay167 x5 (k0_pay29 x2)))

/-- A row's part of the bias's gradient is the cotangent times minus the rate times the soft plus's slope. -/
theorem biasB_apply (x2 : Vec Ideal S128x256 .f32) (x4 x5 : Vec Ideal S1x128 .f32) (x10 : Vec Ideal S128x128 .f32) (k n : Fin 128) (p a b g : ℝ)
    (h2 : (x2 (ix2 k (⟨128 + n.val, by omega⟩ : Fin 256)) : EReal) = p) (h4 : (x4 (ix2 0 n) : EReal) = a) (h5 : (x5 (ix2 0 n) : EReal) = b) (h10 : (x10 (ix2 k n) : EReal) = g) (hr : p + b ≠ 0 ∨ g = 0) :
    (biasB x2 x4 x5 x10 (ix2 k n) : EReal) = (-Real.exp a * g * Real.exp (p + b - sp (p + b)) : ℝ) := by
  unfold biasB
  pointwise [k0_pay198, k0_pay163, k0_pay162, k0_pay166, k0_pay164, k0_pay29, k0_pay169, k0_pay168, k0_pay170, k0_pay167, k0_pay171]
  rw [h2, h4, h5, h10, ← EReal.coe_add]
  generalize p + b = x at hr
  have e : 0 - Ideal.exp (a : EReal) = ((-Real.exp a : ℝ) : EReal) := by rw [Ideal.exp_coe, zero_sub, EReal.coe_neg]
  rw [e, ← EReal.coe_mul, expAbs, onePlus, quot, ← EReal.coe_mul]
  have hp := (one_add_exp_pos (-|x|)).ne'
  rcases lt_trichotomy x 0 with h | h | h
  · rw [if_neg (fun q => not_le.mpr h (EReal.coe_nonneg.mp q)), if_neg (fun q => not_le.mpr h (EReal.coe_nonneg.mp q)), if_neg (fun q => not_lt.mpr h.le (EReal.coe_pos.mp q)), if_neg (fun q => h.ne (EReal.coe_eq_zero.mp q)), slope, mul_zero, add_zero, zero_add, zero_sub, zero_sub, neg_neg, max_eq_right h.le]
    rw [abs_of_neg h, neg_neg] at hp ⊢
    rw [sub_zero]
    congr 1
    field_simp
  · have hg : g = 0 := hr.resolve_left (not_not.mpr h)
    subst hg
    subst h
    simp
  · rw [if_pos (EReal.coe_nonneg.mpr h.le), if_pos (EReal.coe_nonneg.mpr h.le), if_pos (EReal.coe_pos.mpr h), slope, mul_one, sub_zero, add_zero, zero_sub, ← EReal.coe_neg, ← EReal.coe_add, max_eq_left h.le, sub_self, Real.exp_zero]
    congr 1
    field_simp
    ring

/-- The kernel's soft plus, on reals. -/
theorem sp_apply (x2 : Vec Ideal S128x256 .f32) (x5 : Vec Ideal S1x128 .f32) (k n : Fin 128) (p b : ℝ)
    (h2 : (x2 (ix2 k (⟨128 + n.val, by omega⟩ : Fin 256)) : EReal) = p) (h5 : (x5 (ix2 0 n) : EReal) = b) :
    (k0_pay172 (k0_pay165 x5 (k0_pay29 x2)) (k0_pay167 x5 (k0_pay29 x2)) (ix2 k n) : EReal) = (sp (p + b) : ℝ) := by
  pointwise [k0_pay172, k0_pay165, k0_pay164, k0_pay29, k0_pay167, k0_pay171, k0_pay170]
  rw [h2, h5, ← EReal.coe_add, expAbs, logOne]

/-- A block's part of the rate's gradient. -/
def rateS (x2 : Vec Ideal S128x256 .f32) (x4 x5 : Vec Ideal S1x128 .f32) (x10 : Vec Ideal S128x128 .f32) : FVec Ideal S1x128 .f32 := k0_pay200 x10 (k0_pay162 x4) (k0_pay172 (k0_pay165 x5 (k0_pay29 x2)) (k0_pay167 x5 (k0_pay29 x2)))

/-- A block's part of the bias's gradient. -/
def biasS (x2 : Vec Ideal S128x256 .f32) (x4 x5 : Vec Ideal S1x128 .f32) (x10 : Vec Ideal S128x128 .f32) : FVec Ideal S1x128 .f32 :=
  k0_pay199 x10 (k0_pay163 x4) (k0_pay166 x5 (k0_pay29 x2)) (k0_pay169 (k0_pay164 x5 (k0_pay29 x2)) k0_pay168) (k0_pay170 (k0_pay167 x5 (k0_pay29 x2))) (k0_pay171 (k0_pay167 x5 (k0_pay29 x2)))

/-- A block's part of the rate's gradient is minus the sum down the rows, times the rate. -/
theorem pay200_apply (v10 : Vec Ideal S128x128 .f32) (v457 : FVec Ideal S1x128 .f32) (v482 : FVec Ideal S128x128 .f32) (n : Fin 128) :
    (k0_pay200 v10 v457 v482 (ix2 0 n) : EReal) = (0 - ∑ k : Fin 128, (v10 (ix2 k n) : EReal) * v482 (ix2 k n)) * v457 (ix2 0 n) := by
  pointwise [k0_pay200]

/-- A sum of reals is the real sum. -/
theorem real_sum {N : ℕ} (f : Fin N → ℝ) : ∑ k : Fin N, (f k : EReal) = ((∑ k : Fin N, f k : ℝ) : EReal) :=
  (map_sum (⟨⟨(↑), EReal.coe_zero⟩, EReal.coe_add⟩ : ℝ →+ EReal) f Finset.univ).symm

/-- A block's part of the rate's gradient, on reals. -/
theorem rateS_apply (x2 : Vec Ideal S128x256 .f32) (x4 x5 : Vec Ideal S1x128 .f32) (x10 : Vec Ideal S128x128 .f32) (n : Fin 128) (p g : Fin 128 → ℝ) (a b : ℝ)
    (h2 : ∀ k : Fin 128, (x2 (ix2 k (⟨128 + n.val, by omega⟩ : Fin 256)) : EReal) = p k) (h4 : (x4 (ix2 0 n) : EReal) = a) (h5 : (x5 (ix2 0 n) : EReal) = b) (h10 : ∀ k : Fin 128, (x10 (ix2 k n) : EReal) = g k) :
    (rateS x2 x4 x5 x10 (ix2 0 n) : EReal) = ((∑ k : Fin 128, -(g k * sp (p k + b)) * Real.exp a : ℝ) : EReal) := by
  unfold rateS
  rw [pay200_apply]
  simp only [fun k => sp_apply x2 x5 k n _ _ (h2 k) h5, h10, ← EReal.coe_mul, real_sum]
  have e4 : (k0_pay162 x4 (ix2 0 n) : EReal) = (Real.exp a : ℝ) := by
    show Ideal.exp (x4 (ix2 0 n)) = _
    rw [h4]
    rfl
  rw [e4, zero_sub, ← EReal.coe_neg, ← EReal.coe_mul, ← Finset.sum_neg_distrib, Finset.sum_mul]

/-- A block's part of the bias's gradient is the sum of its rows' parts. -/
theorem biasS_apply (x2 : Vec Ideal S128x256 .f32) (x4 x5 : Vec Ideal S1x128 .f32) (x10 : Vec Ideal S128x128 .f32) (n : Fin 128) :
    (biasS x2 x4 x5 x10 (ix2 0 n) : EReal) = ∑ k : Fin 128, (biasB x2 x4 x5 x10 (ix2 k n) : EReal) := by
  unfold biasS biasB
  pointwise [k0_pay199]

/-- A later point's store is what the rate's row held plus its part. -/
theorem pay242_apply (v : FVec Ideal S1x128 .f32) (xo : Vec Ideal S1x128 .f32) (y : S1x128.Idx) :
    (k0_pay242 v xo y : EReal) = (xo y : EReal) + v y := by
  unfold k0_pay242
  rw [shapeCast_self]
  rfl

/-- A later point's store is what the bias's row held plus its part. -/
theorem pay1_apply (v : FVec Ideal S1x128 .f32) (xo : Vec Ideal S1x128 .f32) (y : S1x128.Idx) :
    (k0_pay1 v xo y : EReal) = (xo y : EReal) + v y := by
  unfold k0_pay1
  rw [shapeCast_self]
  rfl

section
/-- The block starts at the buffer's corner. -/
theorem hz : (![0, 0] : Fin 2 → Nat) = fun _ => 0 := funext fun a => by fin_cases a <;> rfl

variable (c : Dev nD) (i : grid0.Coords) (a1 : Memref sig .tc .vmem S128x4096 .bf16) (q1 : a1.IsWhole) (a2 : Memref sig .tc .vmem S8x4096 .bf16) (q2 : a2.IsWhole) (a3 : Memref sig .tc .vmem S128x256 .f32) (q3 : a3.IsWhole) (a4 : Memref sig .tc .vmem S4x4096 .f32) (q4 : a4.IsWhole) (a5 : Memref sig .tc .vmem S1x128 .f32) (q5 : a5.IsWhole) (a6 : Memref sig .tc .vmem S1x128 .f32) (q6 : a6.IsWhole) (a7 : Memref sig .tc .vmem S8x128x128 .f32) (q7 : a7.IsWhole) (a8 : Memref sig .tc .vmem S8x128x128 .f32) (q8 : a8.IsWhole) (a9 : Memref sig .tc .vmem S16x128x128 .f32) (q9 : a9.IsWhole) (a10 : Memref sig .tc .vmem S128x128 .f32) (q10 : a10.IsWhole) (a11 : Memref sig .tc .vmem S128x128 .f32) (q11 : a11.IsWhole) (a12 : Memref sig .tc .vmem S128x4096 .bf16) (q12 : a12.IsWhole) (a13 : Memref sig .tc .vmem S128x256 .f32) (q13 : a13.IsWhole) (a14 : Memref sig .tc .vmem S8x4096 .f32) (q14 : a14.IsWhole) (a15 : Memref sig .tc .vmem S1x128 .f32) (q15 : a15.IsWhole) (a16 : Memref sig .tc .vmem S1x128 .f32) (q16 : a16.IsWhole)
  (x0 : Vec Ideal S128x4096 .bf16) (x1 : Vec Ideal S8x4096 .bf16) (x2 : Vec Ideal S128x256 .f32) (x3 : Vec Ideal S4x4096 .f32) (x4 : Vec Ideal S1x128 .f32) (x5 : Vec Ideal S1x128 .f32) (x6 : Vec Ideal S8x128x128 .f32) (x7 : Vec Ideal S8x128x128 .f32) (x8 : Vec Ideal S16x128x128 .f32) (x9 : Vec Ideal S128x128 .f32) (x10 : Vec Ideal S128x128 .f32) (xo13 : Vec Ideal S8x4096 .f32) (xo14 : Vec Ideal S1x128 .f32) (xo15 : Vec Ideal S1x128 .f32)

/-- What the first point leaves in the rate's gradient's block. -/
theorem out_A_14 (hc0 : cond0_0 i) (hc1 : ¬cond0_1 i) (hc2 : cond0_2 i) (hc3 : ¬cond0_3 i) (hc4 : cond0_4 i) (hc5 : ¬cond0_5 i) :
    out0_A_14 c i a1 q1 a2 q2 a3 q3 a4 q4 a5 q5 a6 q6 a7 q7 a8 q8 a9 q9 a10 q10 a11 q11 a12 q12 a13 q13 a14 q14 a15 q15 a16 q16 hc0 hc1 hc2 hc3 hc4 hc5 x0 x1 x2 x3 x4 x5 x6 x7 x8 x9 x10 = rateS x2 x4 x5 x10 := by
  unfold out0_A_14
  rw [View.read_writes_eq_canon _ _ _ (fun y => cover0_A_14 (y := y) ..)]
  unfold kernelRun0_A
  dsimp only
  sl_unfold_words
  rw [View.canon_unit_zero (S := S1x128) hz]
  simp only [View.readAt_eq_ld, Memref.IsWhole.read_unread, View.ld_unit_zero (S := ⟨2, _⟩) hz]
  rfl

/-- What the first point leaves in the bias's gradient's block. -/
theorem out_A_15 (hc0 : cond0_0 i) (hc1 : ¬cond0_1 i) (hc2 : cond0_2 i) (hc3 : ¬cond0_3 i) (hc4 : cond0_4 i) (hc5 : ¬cond0_5 i) :
    out0_A_15 c i a1 q1 a2 q2 a3 q3 a4 q4 a5 q5 a6 q6 a7 q7 a8 q8 a9 q9 a10 q10 a11 q11 a12 q12 a13 q13 a14 q14 a15 q15 a16 q16 hc0 hc1 hc2 hc3 hc4 hc5 x0 x1 x2 x3 x4 x5 x6 x7 x8 x9 x10 = biasS x2 x4 x5 x10 := by
  unfold out0_A_15
  rw [View.read_writes_eq_canon _ _ _ (fun y => cover0_A_15 (y := y) ..)]
  unfold kernelRun0_A
  dsimp only
  sl_unfold_words
  rw [View.canon_unit_zero (S := S1x128) hz]
  simp only [View.readAt_eq_ld, Memref.IsWhole.read_unread, View.ld_unit_zero (S := ⟨2, _⟩) hz]
  rfl

/-- What a later point leaves in the rate's gradient's block. -/
theorem out_B_14 (hc0 : ¬cond0_0 i) (hc1 : cond0_1 i) (hc2 : ¬cond0_2 i) (hc3 : cond0_3 i) (hc4 : ¬cond0_4 i) (hc5 : cond0_5 i) :
    out0_B_14 c i a1 q1 a2 q2 a3 q3 a4 q4 a5 q5 a6 q6 a7 q7 a8 q8 a9 q9 a10 q10 a11 q11 a12 q12 a13 q13 a14 q14 a15 q15 a16 q16 hc0 hc1 hc2 hc3 hc4 hc5 x0 x1 x2 x3 x4 x5 x6 x7 x8 x9 x10 xo13 xo14 xo15 = k0_pay242 (rateS x2 x4 x5 x10) xo14 := by
  unfold out0_B_14
  rw [View.read_writes_eq_canon _ _ _ (fun y => cover0_B_14 (y := y) ..)]
  unfold kernelRun0_B
  dsimp only
  sl_unfold_words
  rw [View.canon_unit_zero (S := S1x128) hz]
  simp only [View.readAt_eq_ld, Memref.IsWhole.read_unread, View.ld_unit_zero (S := ⟨2, _⟩) hz]
  rfl

/-- What a later point leaves in the bias's gradient's block. -/
theorem out_B_15 (hc0 : ¬cond0_0 i) (hc1 : cond0_1 i) (hc2 : ¬cond0_2 i) (hc3 : cond0_3 i) (hc4 : ¬cond0_4 i) (hc5 : cond0_5 i) :
    out0_B_15 c i a1 q1 a2 q2 a3 q3 a4 q4 a5 q5 a6 q6 a7 q7 a8 q8 a9 q9 a10 q10 a11 q11 a12 q12 a13 q13 a14 q14 a15 q15 a16 q16 hc0 hc1 hc2 hc3 hc4 hc5 x0 x1 x2 x3 x4 x5 x6 x7 x8 x9 x10 xo13 xo14 xo15 = k0_pay1 (biasS x2 x4 x5 x10) xo15 := by
  unfold out0_B_15
  rw [View.read_writes_eq_canon _ _ _ (fun y => cover0_B_15 (y := y) ..)]
  unfold kernelRun0_B
  dsimp only
  sl_unfold_words
  rw [View.canon_unit_zero (S := S1x128) hz]
  simp only [View.readAt_eq_ld, Memref.IsWhole.read_unread, View.ld_unit_zero (S := ⟨2, _⟩) hz]
  rfl

end

variable (m : (ℓ : Loc nD τ sig) → Buf (Elt Ideal) ℓ)

/-- The decay's projection. -/
def pa (c : Dev nD) (r : Fin 8192) (n : Fin 128) : ℝ := (m (c.tc.loc main_arg1) (ix2 r (⟨128 + n.val, by omega⟩ : Fin 256)) : EReal).toReal

/-- The rate's logarithm. -/
def al (c : Dev nD) (n : Fin 128) : ℝ := (m (c.tc.loc main_arg3) (ix2 (0 : Fin 1) n) : EReal).toReal

/-- The bias. -/
def bi (c : Dev nD) (n : Fin 128) : ℝ := (m (c.tc.loc main_arg4) (ix2 (0 : Fin 1) n) : EReal).toReal

/-- The decay's cotangent. -/
def dg (c : Dev nD) (r : Fin 8192) (n : Fin 128) : ℝ := (m (c.tc.loc main_arg9) (ix2 r n) : EReal).toReal

/-- A row's part of the rate's gradient. -/
def rateRow (c : Dev nD) (n : Fin 128) (r : Fin 8192) : EReal := (-(dg m c r n * sp (pa m c r n + bi m c n)) * Real.exp (al m c n) : ℝ)

/-- A row's part of the bias's gradient. -/
def biasRow (c : Dev nD) (n : Fin 128) (r : Fin 8192) : EReal := (-Real.exp (al m c n) * dg m c r n * Real.exp (pa m c r n + bi m c n - sp (pa m c r n + bi m c n)) : ℝ)

/-- The rate's gradient of the launch contents. -/
def G14 (c : Dev nD) : FVec Ideal S1x128 .f32 := fun i => ∑ r : Fin 8192, rateRow m c (i 1) r

/-- The bias's gradient of the launch contents. -/
def G15 (c : Dev nD) : FVec Ideal S1x128 .f32 := fun i => ∑ r : Fin 8192, biasRow m c (i 1) r

/-- The operands the two gradients read are finite, and the soft plus is smooth where its slope counts. -/
def Reg (c : Dev nD) : Prop := ∀ (r : Fin 8192) (n : Fin 128),
  (m (c.tc.loc main_arg1) (ix2 r (⟨128 + n.val, by omega⟩ : Fin 256)) : EReal) = ((pa m c r n : ℝ) : EReal)
  ∧ (m (c.tc.loc main_arg3) (ix2 (0 : Fin 1) n) : EReal) = ((al m c n : ℝ) : EReal)
  ∧ (m (c.tc.loc main_arg4) (ix2 (0 : Fin 1) n) : EReal) = ((bi m c n : ℝ) : EReal)
  ∧ (m (c.tc.loc main_arg9) (ix2 r n) : EReal) = ((dg m c r n : ℝ) : EReal)
  ∧ (pa m c r n + bi m c n ≠ 0 ∨ dg m c r n = 0)

/-- The block indices of the windows at every point of the grid. -/
theorem index_facts : ∀ t : Fin cfg0.N,
    win0_2.index t (0 : Fin 2) = t.val ∧ win0_2.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_10.index t (0 : Fin 2) = t.val ∧ win0_10.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-- A block of window 2 holds the operand's entries of its place. -/
theorem blk2 (c : Dev nD) (t : Fin cfg0.N) (k : Fin 128) (n : Fin 256) (r : Fin 8192) (hr : r.val = 128 * t.val + k.val) :
    (iblk m c 2 t (ix2 k n) : EReal) = m (c.tc.loc main_arg1) (ix2 r n) := by
  obtain ⟨h2a, h2b, -⟩ := index_facts t
  refine congrArg (m (c.tc.loc main_arg1)) (funext fun b => Fin.ext ?_)
  match b with
  | ⟨0, _⟩ => show win0_2.index t 0 * 128 + 1 * k.val = r.val; rw [h2a, hr]; omega
  | ⟨1, _⟩ => show win0_2.index t 1 * 256 + 1 * n.val = n.val; rw [h2b]; omega

/-- A block of window 4 holds the operand's entries of its place. -/
theorem blk4 (c : Dev nD) (t : Fin cfg0.N) (k : Fin 1) (n : Fin 128) :
    (iblk m c 4 t (ix2 k n) : EReal) = m (c.tc.loc main_arg3) (ix2 k n) := by
  obtain ⟨-, -, h4a, h4b, -⟩ := index_facts t
  refine congrArg (m (c.tc.loc main_arg3)) (funext fun b => Fin.ext ?_)
  match b with
  | ⟨0, _⟩ => show win0_4.index t 0 * 1 + 1 * k.val = k.val; rw [h4a]; omega
  | ⟨1, _⟩ => show win0_4.index t 1 * 128 + 1 * n.val = n.val; rw [h4b]; omega

/-- A block of window 5 holds the operand's entries of its place. -/
theorem blk5 (c : Dev nD) (t : Fin cfg0.N) (k : Fin 1) (n : Fin 128) :
    (iblk m c 5 t (ix2 k n) : EReal) = m (c.tc.loc main_arg4) (ix2 k n) := by
  obtain ⟨-, -, -, -, h5a, h5b, -⟩ := index_facts t
  refine congrArg (m (c.tc.loc main_arg4)) (funext fun b => Fin.ext ?_)
  match b with
  | ⟨0, _⟩ => show win0_5.index t 0 * 1 + 1 * k.val = k.val; rw [h5a]; omega
  | ⟨1, _⟩ => show win0_5.index t 1 * 128 + 1 * n.val = n.val; rw [h5b]; omega

/-- A block of window 10 holds the operand's entries of its place. -/
theorem blk10 (c : Dev nD) (t : Fin cfg0.N) (k : Fin 128) (n : Fin 128) (r : Fin 8192) (hr : r.val = 128 * t.val + k.val) :
    (iblk m c 10 t (ix2 k n) : EReal) = m (c.tc.loc main_arg9) (ix2 r n) := by
  obtain ⟨-, -, -, -, -, -, h10a, h10b, -⟩ := index_facts t
  refine congrArg (m (c.tc.loc main_arg9)) (funext fun b => Fin.ext ?_)
  match b with
  | ⟨0, _⟩ => show win0_10.index t 0 * 128 + 1 * k.val = r.val; rw [h10a, hr]; omega
  | ⟨1, _⟩ => show win0_10.index t 1 * 128 + 1 * n.val = n.val; rw [h10b]; omega

/-- A point's part of the rate's gradient is its run of rows' part of the whole. -/
theorem point14 (c : Dev nD) (h : Reg m c) (t : Fin cfg0.N) (J : S1x128.Idx) :
    (rateS (iblk m c 2 t) (iblk m c 4 t) (iblk m c 5 t) (iblk m c 10 t) J : EReal) = Cert.Hand.runSum 128 (rateRow m c (J 1)) t.val := by
  idx_vars J
  obtain rfl := Subsingleton.elim J0 (0 : Fin 1)
  have ht : t.val < 64 := N_0 ▸ t.isLt
  have hrow : ∀ k : Fin 128, ∃ r : Fin 8192, r.val = 128 * t.val + k.val := fun k => ⟨⟨128 * t.val + k.val, by omega⟩, rfl⟩
  choose ro hro using hrow
  rw [rateS_apply (iblk m c 2 t) (iblk m c 4 t) (iblk m c 5 t) (iblk m c 10 t) J1 (fun k => pa m c (ro k) J1) (fun k => dg m c (ro k) J1) _ _ (fun k => (blk2 m c t k _ (ro k) (hro k)).trans (h (ro k) J1).1) ((blk4 m c t 0 J1).trans (h 0 J1).2.1) ((blk5 m c t 0 J1).trans (h 0 J1).2.2.1) (fun k => (blk10 m c t k J1 (ro k) (hro k)).trans (h (ro k) J1).2.2.2.1)]
  rw [← real_sum]
  unfold Cert.Hand.runSum
  refine Finset.sum_congr rfl fun k _ => ?_
  rw [Cert.Hand.atNat_of_lt _ _ (by omega), ← Fin.ext (a := ro k) (b := ⟨128 * t.val + k.val, by omega⟩) (hro k)]
  rfl

/-- What its block holds after a point: the runs of rows so far. -/
theorem acc14 (c : Dev nD) (hR : Reg m c) (J : S1x128.Idx) : ∀ (n : ℕ) (h : n < cfg0.N),
    ((outsAt0 m c n h).2.2.2.1 J : EReal) = ∑ s ∈ Finset.range (n + 1), Cert.Hand.runSum 128 (rateRow m c (J 1)) s := by
  intro n
  induction n with
  | zero =>
    intro h
    rw [outsAt0_A m c ⟨0, h⟩ rfl (by dsimp only; omega) rfl (by dsimp only; omega) rfl (by dsimp only; omega)]
    dsimp only
    rw [out_A_14, point14 m c hR ⟨0, h⟩]
    simp
  | succ n ih =>
    intro h
    have hN : cfg0.N = 64 := N_0
    rw [Finset.sum_range_succ, ← ih (Nat.lt_of_succ_lt h)]
    rw [outsAt0_B m c ⟨n + 1, h⟩ (by dsimp only; omega) (by dsimp only; omega) (by dsimp only; omega) (by dsimp only; omega) (by dsimp only; omega) (by dsimp only; omega)]
    dsimp only
    rw [out_B_14, pay242_apply, point14 m c hR ⟨n + 1, h⟩]
    simp only [Nat.add_sub_cancel]

/-- Its array after the run. -/
theorem final14 (c : Dev nD) (hR : Reg m c) : (dats m 0 c).arrAt 14 cfg0.N = G14 m c :=
  (dats m 0 c).arrAt_eq_of_cover 14 (G14 m c) (fun t hf => by
    obtain ⟨-, -, -, -, -, -, -, -, h14a, h14b, h15a, h15b⟩ := index_facts t
    have e63 : t.val = 63 := (by decide +kernel : ∀ t : Fin grid0.N, win0_14.flush t = true → t.val = 63) t hf
    rw [Value.flushed14]
    funext y
    rw [View.read_apply]
    have e : (((cfg0.win 14).blk t).view.emb y : S1x128.Idx) = y := by
      funext b
      apply Fin.ext
      match b with
      | ⟨0, _⟩ => show win0_14.index t 0 * 1 + 1 * (y 0 : Nat) = (y 0 : Nat); rw [h14a]; omega
      | ⟨1, _⟩ => show win0_14.index t 1 * 128 + 1 * (y 1 : Nat) = (y 1 : Nat); rw [h14b]; omega
    rw [e]
    show ((outsAt0 m c t.val t.isLt).2.2.2.1 y : EReal) = G14 m c y
    rw [acc14 m c hR y t.val t.isLt]
    rw [e63]
    exact Cert.Hand.sum_runs 64 128 rfl _) fun i => by
    have h0 : (i 0 : Nat) < 1 := (i 0).isLt
    have h1 : (i 1 : Nat) < 128 := (i 1).isLt
    obtain ⟨t, hf⟩ := (by decide +kernel : ∃ t : Fin grid0.N, (cfg0.win 14).flush t = true)
    obtain ⟨-, -, -, -, -, -, -, -, h14a, h14b, h15a, h15b⟩ := index_facts t
    refine ⟨t, hf, ?_⟩
    show i ∈ ((View.whole main_v0_3).slice (win0_14.rect t)).set
    rw [View.set_slice_whole, Rect.mem_set_unit]
    intro b
    match b with
    | ⟨0, _⟩ => show win0_14.index t 0 * 1 ≤ (i 0 : Nat) ∧ (i 0 : Nat) < win0_14.index t 0 * 1 + 1
                rw [h14a]; omega
    | ⟨1, _⟩ => show win0_14.index t 1 * 128 ≤ (i 1 : Nat) ∧ (i 1 : Nat) < win0_14.index t 1 * 128 + 128
                rw [h14b]; omega

/-- A point's part of the bias's gradient is its run of rows' part of the whole. -/
theorem point15 (c : Dev nD) (h : Reg m c) (t : Fin cfg0.N) (J : S1x128.Idx) :
    (biasS (iblk m c 2 t) (iblk m c 4 t) (iblk m c 5 t) (iblk m c 10 t) J : EReal) = Cert.Hand.runSum 128 (biasRow m c (J 1)) t.val := by
  idx_vars J
  obtain rfl := Subsingleton.elim J0 (0 : Fin 1)
  have ht : t.val < 64 := N_0 ▸ t.isLt
  rw [biasS_apply]
  unfold Cert.Hand.runSum
  refine Finset.sum_congr rfl fun k _ => ?_
  have hr : 128 * t.val + k.val < 8192 := by omega
  obtain ⟨q1, q3, q4, q9, q⟩ := h ⟨_, hr⟩ J1
  rw [Cert.Hand.atNat_of_lt _ _ hr]
  exact biasB_apply _ _ _ _ k J1 _ _ _ _ ((blk2 m c t k _ ⟨_, hr⟩ rfl).trans q1) ((blk4 m c t 0 J1).trans q3) ((blk5 m c t 0 J1).trans q4) ((blk10 m c t k J1 ⟨_, hr⟩ rfl).trans q9) q

/-- What its block holds after a point: the runs of rows so far. -/
theorem acc15 (c : Dev nD) (hR : Reg m c) (J : S1x128.Idx) : ∀ (n : ℕ) (h : n < cfg0.N),
    ((outsAt0 m c n h).2.2.2.2 J : EReal) = ∑ s ∈ Finset.range (n + 1), Cert.Hand.runSum 128 (biasRow m c (J 1)) s := by
  intro n
  induction n with
  | zero =>
    intro h
    rw [outsAt0_A m c ⟨0, h⟩ rfl (by dsimp only; omega) rfl (by dsimp only; omega) rfl (by dsimp only; omega)]
    dsimp only
    rw [out_A_15, point15 m c hR ⟨0, h⟩]
    simp
  | succ n ih =>
    intro h
    have hN : cfg0.N = 64 := N_0
    rw [Finset.sum_range_succ, ← ih (Nat.lt_of_succ_lt h)]
    rw [outsAt0_B m c ⟨n + 1, h⟩ (by dsimp only; omega) (by dsimp only; omega) (by dsimp only; omega) (by dsimp only; omega) (by dsimp only; omega) (by dsimp only; omega)]
    dsimp only
    rw [out_B_15, pay1_apply, point15 m c hR ⟨n + 1, h⟩]
    simp only [Nat.add_sub_cancel]

/-- Its array after the run. -/
theorem final15 (c : Dev nD) (hR : Reg m c) : (dats m 0 c).arrAt 15 cfg0.N = G15 m c :=
  (dats m 0 c).arrAt_eq_of_cover 15 (G15 m c) (fun t hf => by
    obtain ⟨-, -, -, -, -, -, -, -, h14a, h14b, h15a, h15b⟩ := index_facts t
    have e63 : t.val = 63 := (by decide +kernel : ∀ t : Fin grid0.N, win0_15.flush t = true → t.val = 63) t hf
    rw [Value.flushed15]
    funext y
    rw [View.read_apply]
    have e : (((cfg0.win 15).blk t).view.emb y : S1x128.Idx) = y := by
      funext b
      apply Fin.ext
      match b with
      | ⟨0, _⟩ => show win0_15.index t 0 * 1 + 1 * (y 0 : Nat) = (y 0 : Nat); rw [h15a]; omega
      | ⟨1, _⟩ => show win0_15.index t 1 * 128 + 1 * (y 1 : Nat) = (y 1 : Nat); rw [h15b]; omega
    rw [e]
    show ((outsAt0 m c t.val t.isLt).2.2.2.2 y : EReal) = G15 m c y
    rw [acc15 m c hR y t.val t.isLt]
    rw [e63]
    exact Cert.Hand.sum_runs 64 128 rfl _) fun i => by
    have h0 : (i 0 : Nat) < 1 := (i 0).isLt
    have h1 : (i 1 : Nat) < 128 := (i 1).isLt
    obtain ⟨t, hf⟩ := (by decide +kernel : ∃ t : Fin grid0.N, (cfg0.win 15).flush t = true)
    obtain ⟨-, -, -, -, -, -, -, -, h14a, h14b, h15a, h15b⟩ := index_facts t
    refine ⟨t, hf, ?_⟩
    show i ∈ ((View.whole main_v0_4).slice (win0_15.rect t)).set
    rw [View.set_slice_whole, Rect.mem_set_unit]
    intro b
    match b with
    | ⟨0, _⟩ => show win0_15.index t 0 * 1 ≤ (i 0 : Nat) ∧ (i 0 : Nat) < win0_15.index t 0 * 1 + 1
                rw [h15a]; omega
    | ⟨1, _⟩ => show win0_15.index t 1 * 128 ≤ (i 1 : Nat) ∧ (i 1 : Nat) < win0_15.index t 1 * 128 + 128
                rw [h15b]; omega

end Cert.GdnPreBwdIdeal.Hand

namespace Cert.Hand

open Idealize.ShloMosaic Idealize.ShloMosaic.TcCoe Idealize.SL.Sem Cert.Hand.FfnAct Cert.GdnPreBwdIdeal.Hand

/-- A sum is not zero or a factor is, as the two flags say. -/
theorem off (x y z : EReal) (p b g : ℝ) (hx : x = p) (hy : y = b) (hz : z = g) (h : IntOp.ori (BitVec.ofBool (decide (x + y ≠ 0))) (BitVec.ofBool (decide (z = 0))) = 1#1) : p + b ≠ 0 ∨ g = 0 := by
  by_contra hc
  rw [not_or, not_not] at hc
  obtain ⟨h1, h2⟩ := hc
  subst_vars
  rw [← EReal.coe_add, h1] at h
  simp [h2] at h
  exact absurd h (by decide)

/-- The precondition makes the entries read finite and keeps the soft plus off its corner. -/
theorem regular (m : (ℓ : Loc Cert.GdnPreBwdIdeal.nD Cert.GdnPreBwdIdeal.τ Cert.GdnPreBwdIdeal.sig) → Buf (Elt Ideal) ℓ) (hfin : Cert.Pre_GdnPreBwdIdeal_regular_decay m) (c : Dev Cert.GdnPreBwdIdeal.nD) : Reg m c := by
  intro r n
  have h := congrFun (hfin c) (ix2 r n)
  unfold Cert.Pre_regular_decay.fn Cert.Pre_regular_decay.fn_part1 at h
  pointwise at h
  obtain ⟨h, hr⟩ := both _ _ h
  obtain ⟨h, h9⟩ := both _ _ h
  obtain ⟨h, h4⟩ := both _ _ h
  obtain ⟨h1, h3⟩ := both _ _ h
  have q : ∀ x : EReal, IsReal x → x = ((x.toReal : ℝ) : EReal) := fun x ⟨y, hy⟩ => by rw [hy, EReal.toReal_coe]
  have q1 := q _ (isReal_of _ h1)
  have q4 := q _ (isReal_of _ h4)
  have q9 := q _ (isReal_of _ h9)
  refine ⟨q1, q _ (isReal_of _ h3), q4, q9, ?_⟩
  exact off _ _ _ _ _ _ q1 q4 q9 hr

/-- The kernel's gradients of the decay's rate and bias are the reference's. -/
theorem algebraic_gdnPreBwd : Cert.algebraic_GdnPreBwdIdeal_GdnPreBwdRefIdeal_pre_regular_decay := by
  intro m g m' g' hfin hargs
  refine ⟨fun c => G14 m c, fun c => G15 m c, ?_, ?_⟩
  · refine (θ_run Cert.GdnPreBwdIdeal.defs _ _).mono (fun r h c => ?_) (Cert.GdnPreBwdIdeal.Value.run_blocks m g)
    exact ⟨(h c).2.2.2.1.trans (final14 m c (regular m hfin c)), (h c).2.2.2.2.1.trans (final15 m c (regular m hfin c)), (h c).2.2.2.2.2⟩
  · refine (θ_run Cert.GdnPreBwdRefIdeal.defs _ _).mono (fun r h c => ?_) (Cert.GdnPreBwdRefIdeal.Value.run m' g')
    have hR := regular m hfin c
    obtain ⟨-, e1, -, e3, e4, -, -, -, -, e9⟩ := hargs c
    refine ⟨(h c).1.trans ?_, (h c).2.1.trans ?_, (h c).2.2⟩
    · rw [e1, e3, e4, e9]
      funext i
      idx_vars i
      obtain rfl := Subsingleton.elim i0 (0 : Fin 1)
      pointwise
      unfold G14 rateRow
      rw [real_sum, (hR 0 i1).2.1]
      simp only [fun r => (hR r i1).1, (hR 0 i1).2.2.1, fun r => (hR r i1).2.2.2.1, ← EReal.coe_add, softRef, ← EReal.coe_mul, real_sum, Ideal.exp_coe, ← EReal.coe_neg]
      rw [← Finset.sum_neg_distrib, Finset.sum_mul]
      rfl
    · unfold Cert.GdnPreBwdRefIdeal.Value.res_main_v15
      rw [e1, e3, e4, e9]
      funext i
      idx_vars i
      obtain rfl := Subsingleton.elim i0 (0 : Fin 1)
      pointwise
      unfold G15 biasRow
      have ht : Ideal.ofBits .f32 0x7F800000#32 = ⊤ := by simp [Ideal.ofBits, Ideal.ieee]
      rw [(hR 0 i1).2.1]
      simp only [fun r => (hR r i1).1, (hR 0 i1).2.2.1, fun r => (hR r i1).2.2.2.1, ← EReal.coe_add, softRef, ht, EReal.coe_ne_top, if_false, ← EReal.coe_sub, Ideal.exp_coe, ← EReal.coe_neg, ← EReal.coe_mul]
      rfl

end Cert.Hand

end
-- ==== Proof.GdnInBaVal.lean ====
/- The gates' projection, on the normalised rows: the kernel's blocks are the host product. -/
module

public import proofs.«01_k».proof.Proof.Gen.GdnInBaIdeal.Value
public import proofs.«01_k».proof.Proof.Gen.GdnInBaRefIdeal.Run
public import proofs.«01_k».proof.Proof.Norm
public import proofs.«01_k».proof.Defs

@[expose] public section

set_option maxRecDepth 16384

noncomputable section

namespace Cert.GdnInBaIdeal.Hand

open Cert.GdnInBaIdeal Cert.GdnInBaIdeal.Gen Idealize.ShloMosaic Idealize.ShloMosaic.TcCoe Idealize.SL.Sem

variable (m : (ℓ : Loc nD τ sig) → Buf (Elt Ideal) ℓ)

/-- The product, entry by entry. -/
def prod (x0 : FVec Ideal S8192x1024 .f32) (x1 : FVec Ideal S1x1024 .f32) (x2 : FVec Ideal S1024x256 .bf16) : FVec Ideal S8192x256 .f32 := fun i =>
  ∑ k : Fin 1024, Cert.Hand.normed (fun k => x0 (ix2 (i 0) k)) (fun k => x1 (ix2 (0 : Fin 1) k)) k * (x2 (ix2 k (i 1)) : EReal)

/-- The whole product of the launch contents. -/
def G (c : Dev nD) : FVec Ideal S8192x256 .f32 :=
  prod (m (c.tc.loc main_arg0)) (m (c.tc.loc main_arg1)) (m (c.tc.loc main_arg2))

theorem hz : (![0, 0] : Fin 2 → Nat) = fun _ => 0 := funext fun a => by fin_cases a <;> rfl

/-- One block's result at an index. -/
theorem out_apply (x0 : Vec Ideal S1024x1024 .f32) (x1 : Vec Ideal S1024x256 .bf16) (x2 : Vec Ideal S1x1024 .f32) (y : S1024x256.Idx) :
    (out0_3 x0 x1 x2 y : EReal) = ∑ k : Fin 1024, Cert.Hand.normed (fun k => x0 (ix2 (y 0) k)) (fun k => x2 (ix2 (0 : Fin 1) k)) k * (x1 (ix2 k (y 1)) : EReal) := by
  unfold out0_3
  rw [View.canon_unit_zero hz]
  rw [View.ld_unit_zero (S := S1024x1024) hz, View.ld_unit_zero (S := S1024x256) hz, View.ld_unit_zero (S := S1x1024) hz]
  idx_vars y
  unfold Cert.Hand.normed
  pointwise [k0_pay1]

/-- The block indices of the windows at every point of the grid. -/
theorem index_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = 0 :=
  (by decide +kernel : ∀ t : Fin grid0.N, _)

/-- A block of the kernel's operand 0 holds the operand's entries of its place. -/
theorem blk0 (c : Dev nD) (t : Fin cfg0.N) (y : S1024x256.Idx) (J : S8192x256.Idx)
    (hJ0 : (J 0 : Nat) = win0_3.index t 0 * 1024 + 1 * (y 0 : Nat)) (hJ1 : (J 1 : Nat) = win0_3.index t 1 * 256 + 1 * (y 1 : Nat))
    (k : Fin 1024) : (iblk m c 0 t (ix2 (y 0) k) : EReal) = m (c.tc.loc main_arg0) (ix2 (J 0) k) := by
  obtain ⟨h00, h01, -⟩ := index_facts t
  refine congrArg (m (c.tc.loc main_arg0)) (funext fun a => Fin.ext ?_)
  match a with
  | ⟨0, _⟩ => show win0_0.index t 0 * 1024 + 1 * (y 0 : Nat) = (J 0 : Nat); rw [h00, hJ0]
  | ⟨1, _⟩ => show win0_0.index t 1 * 1024 + 1 * k.val = k.val; rw [h01]; omega

/-- A block of the kernel's operand 1 holds the operand's entries of its place. -/
theorem blk1 (c : Dev nD) (t : Fin cfg0.N) (y : S1024x256.Idx) (J : S8192x256.Idx)
    (hJ0 : (J 0 : Nat) = win0_3.index t 0 * 1024 + 1 * (y 0 : Nat)) (hJ1 : (J 1 : Nat) = win0_3.index t 1 * 256 + 1 * (y 1 : Nat))
    (k : Fin 1024) : (iblk m c 1 t (ix2 k (y 1)) : EReal) = m (c.tc.loc main_arg2) (ix2 k (J 1)) := by
  obtain ⟨-, -, h10, h11, -⟩ := index_facts t
  refine congrArg (m (c.tc.loc main_arg2)) (funext fun a => Fin.ext ?_)
  match a with
  | ⟨0, _⟩ => show win0_1.index t 0 * 1024 + 1 * k.val = k.val; rw [h10]; omega
  | ⟨1, _⟩ => show win0_1.index t 1 * 256 + 1 * (y 1 : Nat) = (J 1 : Nat); rw [h11, hJ1]

/-- A block of the kernel's operand 2 holds the operand's entries of its place. -/
theorem blk2 (c : Dev nD) (t : Fin cfg0.N)
    (k : Fin 1024) : (iblk m c 2 t (ix2 (0 : Fin 1) k) : EReal) = m (c.tc.loc main_arg1) (ix2 (0 : Fin 1) k) := by
  obtain ⟨-, -, -, -, h20, h21⟩ := index_facts t
  refine congrArg (m (c.tc.loc main_arg1)) (funext fun a => Fin.ext ?_)
  match a with
  | ⟨0, _⟩ => show win0_2.index t 0 * 1 + 1 * 0 = 0; rw [h20]
  | ⟨1, _⟩ => show win0_2.index t 1 * 1024 + 1 * k.val = k.val; rw [h21]; omega

/-- What a point writes back is its block of the whole product. -/
theorem flushed_G (c : Dev nD) (t : Fin cfg0.N) :
    (dats m 0 c).flushed 3 t = ((cfg0.win 3).blk t).view.read (Elt Ideal) (G m c) := by
  rw [Value.flushed3]
  funext y
  rw [View.read_apply]
  show (out0_3 (iblk m c 0 t) (iblk m c 1 t) (iblk m c 2 t) y : EReal) = G m c _
  rw [out_apply]
  unfold G prod
  refine Finset.sum_congr rfl fun k _ => ?_
  refine congrArg₂ (· * ·) (Cert.Hand.normed_congr (fun k => blk0 m c t y _ rfl rfl k) (fun k => blk2 m c t k) k) (blk1 m c t y _ rfl rfl k)

/-- Every block of the result is some point's. -/
theorem covered : ∀ (a : Fin 8) (b : Fin 1), ∃ t : Fin grid0.N, win0_3.flush t = true
    ∧ win0_3.index t (0 : Fin 2) = a.val ∧ win0_3.index t (1 : Fin 2) = b.val := by decide +kernel

/-- The result array after the run is the whole product. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 256 := (i 1).isLt
    obtain ⟨t, hf, ha, hb⟩ := covered ⟨(i 0 : Nat) / 1024, by omega⟩ ⟨(i 1 : Nat) / 256, by omega⟩
    refine ⟨t, hf, ?_⟩
    show i ∈ ((View.whole main_v0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024
                rw [ha]; dsimp only; omega
    | ⟨1, _⟩ => show win0_3.index t 1 * 256 ≤ (i 1 : Nat) ∧ (i 1 : Nat) < win0_3.index t 1 * 256 + 256
                rw [hb]; dsimp only; omega

end Cert.GdnInBaIdeal.Hand

namespace Cert.Hand

open Idealize.ShloMosaic Idealize.SL.Sem

/-- The kernel's product and the host's are one array. -/
theorem algebraic_gdnInBa : Cert.algebraic_GdnInBaIdeal_GdnInBaRefIdeal := by
  intro m g m' g' _ hargs
  refine ⟨fun c => Cert.GdnInBaIdeal.Hand.G m c, ?_, ?_⟩
  · refine (θ_run Cert.GdnInBaIdeal.defs _ _).mono (fun r h c => ?_) (Cert.GdnInBaIdeal.Value.run_blocks m g)
    exact ⟨(h c).1.trans (Cert.GdnInBaIdeal.Hand.final m c), (h c).2⟩
  · refine (θ_run Cert.GdnInBaRefIdeal.defs _ _).mono (fun r h c => ?_) (Cert.GdnInBaRefIdeal.Value.run m' g')
    refine ⟨(h c).1.trans ?_, (h c).2⟩
    rw [(hargs c).1, (hargs c).2.1, (hargs c).2.2]
    funext i
    unfold Cert.GdnInBaIdeal.Hand.G Cert.GdnInBaIdeal.Hand.prod
    idx_vars i
    unfold Cert.Hand.normed
    pointwise

end Cert.Hand

end
-- ==== Proof.FfnActVal.lean ====
/- The feed-forward activation: the convolution along the sequence, then the gate half through the sigmoid linear unit, times the value half. -/
module

public import proofs.«01_k».proof.Proof.FfnActBlk
public import proofs.«01_k».proof.Proof.FfnActRef
public import proofs.«01_k».proof.Proof.Gen.FfnActIdeal.Value
public import proofs.«01_k».proof.Proof.Gen.FfnActRefIdeal.Run
public import proofs.«01_k».proof.Defs

@[expose] public section

set_option maxRecDepth 65536

noncomputable section

namespace Cert.FfnActIdeal.Hand

open Cert.FfnActIdeal Cert.FfnActIdeal.Gen Idealize.ShloMosaic Idealize.ShloMosaic.TcCoe Idealize.SL.Sem
open Cert.FfnActBwdRefIdeal.Hand (shift convH convH_apply gateH valH sigH)
open Cert.FfnActBwdIdeal.Hand (down pay5_apply pay6_apply uB)
open Cert.Hand.Gate (sg gate_eq)

variable (m : (ℓ : Loc nD τ sig) → Buf (Elt Ideal) ℓ)

/-- The gated unit of a row: the gate half through the sigmoid linear unit, times the value half. -/
def act (u : Fin 5632 → EReal) (n : Fin 2816) : EReal :=
  u ⟨n.val, by omega⟩ * sg (u ⟨n.val, by omega⟩) * u ⟨2816 + n.val, by omega⟩

/-- The whole result of the launch contents. -/
def G (c : Dev nD) : FVec Ideal S8192x2816 .bf16 := fun i =>
  act (fun n => convH (m (c.tc.loc main_arg0)) (m (c.tc.loc main_arg1)) (m (c.tc.loc main_arg2)) (ix2 (i 0) n)) (i 1)

theorem hz : (![0, 0] : Fin 2 → Nat) = fun _ => 0 := funext fun a => by fin_cases a <;> rfl

/-- The convolution of a block's rows, before its bias. -/
theorem pay2_eq (i : grid0.Coords) (x0 : Vec Ideal S256x5632 .bf16) (x1 : Vec Ideal S8x5632 .bf16) (x2 : Vec Ideal S3x5632 .f32) :
    k0_pay2 i x0 x1 x2 = addf (Cert.FfnActBwdIdeal.Gen.k0_pay8 i x0 x1 x2) (mulf (broadcastTo S256x5632 (extractStridedSlice S1x5632 ![2, 0] x2 slices_S3x5632_o2_0_S1x5632) broadcasts_S1x5632_S256x5632) (extf .f32 x0 bitsLt_bf16_f32)) := rfl

/-- With its bias, entry by entry. -/
theorem conv_apply (i : grid0.Coords) (x0 : Vec Ideal S256x5632 .bf16) (x1 : Vec Ideal S8x5632 .bf16) (x2 : Vec Ideal S3x5632 .f32) (x3 : Vec Ideal S1x5632 .f32) (k : Fin 256) (n : Fin 5632) :
    (k0_pay2 i x0 x1 x2 (ix2 k n) + x3 (ix2 (0 : Fin 1) n) : EReal) = uB i x0 x1 x2 x3 k n := by
  rw [pay2_eq]
  unfold uB
  rw [← pay5_apply, ← pay6_apply]
  pointwise [Cert.FfnActBwdIdeal.Gen.k0_pay8]

/-- One block's result at an index. -/
theorem out_apply (i : grid0.Coords) (x0 : Vec Ideal S256x5632 .bf16) (x1 : Vec Ideal S8x5632 .bf16) (x2 : Vec Ideal S3x5632 .f32) (x3 : Vec Ideal S1x5632 .f32) (k : Fin 256) (n : Fin 2816) :
    (out0_4 i x0 x1 x2 x3 (ix2 k n) : EReal) = act (uB i x0 x1 x2 x3 k) n := by
  unfold out0_4
  rw [View.canon_unit_zero hz]
  rw [View.ld_unit_zero (S := S256x5632) hz, View.ld_unit_zero (S := S8x5632) hz, View.ld_unit_zero (S := S3x5632) hz, View.ld_unit_zero (S := S1x5632) hz]
  unfold act
  simp only [← conv_apply, ← gate_eq]
  pointwise [k0_pay1]

/-- The block indices of the windows at every point of the grid. -/
theorem index_facts : ∀ t : Fin cfg0.N,
    win0_0.index t (0 : Fin 2) = t.val ∧ win0_0.index t (1 : Fin 2) = 0
    ∧ win0_1.index t (0 : Fin 2) = 32 * t.val - 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

/-- A block of the rows. -/
theorem blk0 (c : Dev nD) (t : Fin cfg0.N) (k : Fin 256) (n : Fin 5632) (r : Fin 8192) (hr : r.val = 256 * t.val + k.val) :
    (iblk m c 0 t (ix2 k n) : EReal) = m (c.tc.loc main_arg0) (ix2 r n) := by
  obtain ⟨h0a, h0b, -⟩ := index_facts t
  refine congrArg (m (c.tc.loc main_arg0)) (funext fun b => Fin.ext ?_)
  match b with
  | ⟨0, _⟩ => show win0_0.index t 0 * 256 + 1 * k.val = r.val; rw [h0a, hr]; omega
  | ⟨1, _⟩ => show win0_0.index t 1 * 5632 + 1 * n.val = n.val; rw [h0b]; omega

/-- The rows before a block. -/
theorem blk1 (c : Dev nD) (t : Fin cfg0.N) (k : Fin 8) (n : Fin 5632) (r : Fin 8192) (hr : r.val + 8 = 256 * t.val + k.val) :
    (iblk m c 1 t (ix2 k n) : EReal) = m (c.tc.loc main_arg0) (ix2 r n) := by
  obtain ⟨-, -, h1a, h1b, -⟩ := index_facts t
  refine congrArg (m (c.tc.loc main_arg0)) (funext fun b => Fin.ext ?_)
  match b with
  | ⟨0, _⟩ => show win0_1.index t 0 * 8 + 1 * k.val = r.val; rw [h1a]; omega
  | ⟨1, _⟩ => show win0_1.index t 1 * 5632 + 1 * n.val = n.val; rw [h1b]; omega

/-- The taps are whole at every point. -/
theorem blk2 (c : Dev nD) (t : Fin cfg0.N) (k : Fin 3) (n : Fin 5632) :
    (iblk m c 2 t (ix2 k n) : EReal) = m (c.tc.loc main_arg1) (ix2 k n) := by
  obtain ⟨-, -, -, -, h2a, h2b, -⟩ := index_facts t
  refine congrArg (m (c.tc.loc main_arg1)) (funext fun b => Fin.ext ?_)
  match b with
  | ⟨0, _⟩ => show win0_2.index t 0 * 3 + 1 * k.val = k.val; rw [h2a]; omega
  | ⟨1, _⟩ => show win0_2.index t 1 * 5632 + 1 * n.val = n.val; rw [h2b]; omega

/-- So is the bias. -/
theorem blk3 (c : Dev nD) (t : Fin cfg0.N) (k : Fin 1) (n : Fin 5632) :
    (iblk m c 3 t (ix2 k n) : EReal) = m (c.tc.loc main_arg2) (ix2 k n) := by
  obtain ⟨-, -, -, -, -, -, h3a, h3b, -⟩ := index_facts t
  refine congrArg (m (c.tc.loc main_arg2)) (funext fun b => Fin.ext ?_)
  match b with
  | ⟨0, _⟩ => show win0_3.index t 0 * 1 + 1 * k.val = k.val; rw [h3a]; omega
  | ⟨1, _⟩ => show win0_3.index t 1 * 5632 + 1 * n.val = n.val; rw [h3b]; omega

/-- A block's rows some rows down are the sequence's. -/
theorem down_eq (c : Dev nD) (t : Fin cfg0.N) (d : ℕ) (hd : d ≤ 8) (k : Fin 256) (n : Fin 5632) (r : Fin 8192) (hr : r.val = 256 * t.val + k.val) :
    down d hd (grid0.coords t) (iblk m c 0 t) (iblk m c 1 t) k n = shift d (m (c.tc.loc main_arg0)) r n := by
  obtain ⟨-, -, -, -, -, -, -, -, -, -, ht⟩ := index_facts t
  unfold down shift
  by_cases h : k.val < d
  · rw [dif_pos h]
    by_cases h0 : t.val = 0
    · rw [if_pos (ht.trans h0), if_pos (by omega)]
    · rw [if_neg (fun e => h0 (ht.symm.trans e)), if_neg (by omega)]
      exact blk1 m c t _ n _ (by dsimp only; omega)
  · rw [dif_neg h, if_neg (by omega)]
    exact blk0 m c t _ n _ (by dsimp only; omega)

/-- What a point writes back is its block of the whole result. -/
theorem flushed_G (c : Dev nD) (t : Fin cfg0.N) :
    (dats m 0 c).flushed 4 t = ((cfg0.win 4).blk t).view.read (Elt Ideal) (G m c) := by
  obtain ⟨-, -, -, -, -, -, -, -, h4a, h4b, -⟩ := index_facts t
  rw [Value.flushed4]
  funext y
  rw [View.read_apply]
  show (out0_4 (grid0.coords t) (iblk m c 0 t) (iblk m c 1 t) (iblk m c 2 t) (iblk m c 3 t) y : EReal) = G m c (((cfg0.win 4).blk t).view.emb y)
  have hN : t.val < 32 := N_0 ▸ t.isLt
  have hk : (y 0 : Nat) < 256 := (y 0).isLt
  have e : (((cfg0.win 4).blk t).view.emb y : S8192x2816.Idx) = ix2 (⟨256 * t.val + (y 0 : Nat), by omega⟩ : Fin 8192) (y 1) := by
    funext b
    apply Fin.ext
    match b with
    | ⟨0, _⟩ => show win0_4.index t 0 * 256 + 1 * (y 0 : Nat) = 256 * t.val + (y 0 : Nat); rw [h4a]; omega
    | ⟨1, _⟩ => show win0_4.index t 1 * 2816 + 1 * (y 1 : Nat) = (y 1 : Nat); rw [h4b]; omega
  rw [e]
  have ey : y = ix2 (y 0) (y 1) := by
    funext b
    match b with
    | ⟨0, _⟩ => rfl
    | ⟨1, _⟩ => rfl
  refine (congrArg (out0_4 (grid0.coords t) (iblk m c 0 t) (iblk m c 1 t) (iblk m c 2 t) (iblk m c 3 t)) ey).trans ?_
  refine (out_apply _ _ _ _ _ _ _).trans (congrArg (fun u => act u (y 1)) (funext fun n => ?_))
  refine Eq.trans ?_ (convH_apply _ _ _ _ _).symm
  unfold uB
  rw [down_eq m c t 2 _ (y 0) n ⟨256 * t.val + (y 0 : Nat), by omega⟩ rfl, down_eq m c t 1 _ (y 0) n ⟨256 * t.val + (y 0 : Nat), by omega⟩ rfl, blk0 m c t (y 0) n ⟨256 * t.val + (y 0 : Nat), by omega⟩ rfl, blk2, blk2, blk2, blk3]
  rfl

/-- The result array after the run is the whole result. -/
theorem final (c : Dev nD) : (dats m 0 c).arrAt 4 cfg0.N = G m c :=
  (dats m 0 c).arrAt_eq_of_cover 4 (G m c) (fun t _ => flushed_G m c t) fun i => by
    have h0 : (i 0 : Nat) < 8192 := (i 0).isLt
    have h1 : (i 1 : Nat) < 2816 := (i 1).isLt
    obtain ⟨t, hf, ha⟩ := (by decide +kernel : ∀ a : Fin 32, ∃ t : Fin grid0.N, (cfg0.win 4).flush t = true ∧ t.val = a.val) ⟨(i 0 : Nat) / 256, by omega⟩
    obtain ⟨-, -, -, -, -, -, -, -, h4a, h4b, -⟩ := index_facts t
    refine ⟨t, hf, ?_⟩
    show i ∈ ((View.whole main_v0).slice (win0_4.rect t)).set
    rw [View.set_slice_whole, Rect.mem_set_unit]
    intro b
    match b with
    | ⟨0, _⟩ => show win0_4.index t 0 * 256 ≤ (i 0 : Nat) ∧ (i 0 : Nat) < win0_4.index t 0 * 256 + 256
                rw [h4a, ha]; dsimp only; omega
    | ⟨1, _⟩ => show win0_4.index t 1 * 2816 ≤ (i 1 : Nat) ∧ (i 1 : Nat) < win0_4.index t 1 * 2816 + 2816
                rw [h4b]; omega

/-- The host's gated unit at an index. -/
theorem ref_apply (u : FVec Ideal S8192x5632 .f32) (i : S8192x2816.Idx) :
    (mulf (mulf (gateH u) (sigH u)) (valH u) i : EReal) = act (fun n => u (ix2 (i 0) n)) (i 1) := by
  idx_vars i
  unfold act gateH sigH valH gateH sg
  pointwise

end Cert.FfnActIdeal.Hand

namespace Cert.Hand

open Idealize.ShloMosaic Idealize.SL.Sem

/-- The host's result is the gated unit of its convolution. -/
theorem ffnAct_ref (m : (ℓ : Loc Cert.FfnActRefIdeal.nD Cert.FfnActRefIdeal.τ Cert.FfnActRefIdeal.sig) → Buf (Elt Ideal) ℓ) (c : Dev Cert.FfnActRefIdeal.nD)
    (u : FVec Ideal Cert.FfnActIdeal.S8192x5632 .f32)
    (hu : u = Cert.FfnActBwdRefIdeal.Hand.convH (m (c.tc.loc Cert.FfnActRefIdeal.main_arg0)) (m (c.tc.loc Cert.FfnActRefIdeal.main_arg1)) (m (c.tc.loc Cert.FfnActRefIdeal.main_arg2))) :
    Cert.FfnActRefIdeal.Value.res_main_v19 m c = truncf .bf16 (mulf (mulf (Cert.FfnActBwdRefIdeal.Hand.gateH u) (Cert.FfnActBwdRefIdeal.Hand.sigH u)) (Cert.FfnActBwdRefIdeal.Hand.valH u)) Cert.FfnActIdeal.Gen.bitsLt_bf16_f32 := by
  subst hu
  rfl

/-- The kernel's activation and the host's are one array. -/
theorem algebraic_ffnAct : Cert.algebraic_FfnActIdeal_FfnActRefIdeal := by
  intro m g m' g' _ hargs
  refine ⟨fun c => Cert.FfnActIdeal.Hand.G m c, ?_, ?_⟩
  · refine (θ_run Cert.FfnActIdeal.defs _ _).mono (fun r h c => ?_) (Cert.FfnActIdeal.Value.run_blocks m g)
    exact ⟨(h c).1.trans (Cert.FfnActIdeal.Hand.final m c), (h c).2⟩
  · refine (θ_run Cert.FfnActRefIdeal.defs _ _).mono (fun r h c => ?_) (Cert.FfnActRefIdeal.Value.run m' g')
    refine ⟨(h c).1.trans ?_, (h c).2⟩
    rw [ffnAct_ref m' c _ rfl, (hargs c).1, (hargs c).2.1, (hargs c).2.2]
    funext i
    exact Cert.FfnActIdeal.Hand.ref_apply _ i

end Cert.Hand

end
-- ==== Proof.GnormVal.lean ====
/- The gated norm of the heads forwards: each head over the root of its mean square, times the gain, times the gate through the sigmoid linear unit. -/
module

public import proofs.«01_k».proof.Proof.GnormBwdVal
public import proofs.«01_k».proof.Proof.Gen.GnormIdeal.Value
public import proofs.«01_k».proof.Proof.Gen.GnormRefIdeal.Run
public import proofs.«01_k».proof.Defs

@[expose] public section

set_option maxRecDepth 65536

noncomputable section

namespace Cert.Hand.Gnorm

open Idealize.ShloMosaic

/-- Entry `k` of the gated normalised head. -/
def gated (h z g : Fin 128 → EReal) (k : Fin 128) : EReal :=
  h k * Ideal.rsqrt (meanSq h) * g k * (z k * Gate.sg (z k))

end Cert.Hand.Gnorm

namespace Cert.GnormIdeal.Hand

open Cert.GnormIdeal Cert.GnormIdeal.Gen Idealize.ShloMosaic Idealize.ShloMosaic.TcCoe Idealize.SL.Sem
open Cert.Hand.Gnorm (lane glane headOf laneOf gated)

/-- The heads' tiles of the recurrence output. -/
def oH (x0 : Vec Ideal S16x256x128 .bf16) : Fin 16 → FVec Ideal S256x128 .f32 :=
  ![k0_pay4 x0, k0_pay5 x0, k0_pay6 x0, k0_pay7 x0, k0_pay8 x0, k0_pay9 x0, k0_pay10 x0, k0_pay11 x0, k0_pay12 x0, k0_pay13 x0, k0_pay14 x0, k0_pay15 x0, k0_pay16 x0, k0_pay17 x0, k0_pay18 x0, k0_pay19 x0]

/-- The heads' tiles of the gate. -/
def zH (x1 : Vec Ideal S256x2048 .bf16) : Fin 16 → FVec Ideal S256x128 .f32 :=
  ![extractStridedSlice S256x128 ![0, 0] (k0_pay3 x1) slices_S256x2048_o0_0_S256x128, k0_pay20 (k0_pay3 x1), k0_pay21 (k0_pay3 x1), k0_pay22 (k0_pay3 x1), k0_pay23 (k0_pay3 x1), k0_pay24 (k0_pay3 x1), k0_pay25 (k0_pay3 x1), k0_pay26 (k0_pay3 x1), k0_pay27 (k0_pay3 x1), k0_pay28 (k0_pay3 x1), k0_pay29 (k0_pay3 x1), k0_pay30 (k0_pay3 x1), k0_pay31 (k0_pay3 x1), k0_pay32 (k0_pay3 x1), k0_pay33 (k0_pay3 x1), k0_pay34 (k0_pay3 x1)]

/-- The heads' gated tiles, side by side. -/
def outB (x0 : Vec Ideal S16x256x128 .bf16) (x1 : Vec Ideal S256x2048 .bf16) (x2 : Vec Ideal S1x128 .f32) : FVec Ideal S256x2048 .bf16 :=
  truncf .bf16 (concatenate S256x2048 1 (List.ofFn fun a : Fin 16 => ⟨S256x128, k0_pay39 x2 (oH x0 a) (zH x1 a)⟩)
    concatenates_S256x128_S256x128_S256x128_S256x128_S256x128_S256x128_S256x128_S256x128_S256x128_S256x128_S256x128_S256x128_S256x128_S256x128_S256x128_S256x128_S256x2048_d1) bitsLt_bf16_f32

theorem hz : (![0, 0] : Fin 2 → Nat) = fun _ => 0 := funext fun a => by fin_cases a <;> rfl

theorem hz3 : (![0, 0, 0] : Fin 3 → Nat) = fun _ => 0 := funext fun a => by fin_cases a <;> rfl

/-- What a point leaves in its block: the same tile of work for each head. -/
theorem out_eq (x0 : Vec Ideal S16x256x128 .bf16) (x1 : Vec Ideal S256x2048 .bf16) (x2 : Vec Ideal S1x128 .f32) :
    out0_3 x0 x1 x2 = outB x0 x1 x2 := by
  unfold_out out0_3
  rw [View.canon_unit_zero hz]
  rw [View.ld_unit_zero (S := S16x256x128) hz3, View.ld_unit_zero (S := S256x2048) hz, View.ld_unit_zero (S := S1x128) hz]
  rfl

/-- A head's tile at an index. -/
theorem tile_apply (o z : FVec Ideal S256x128 .f32) (g : Vec Ideal S1x128 .f32) (r : Fin 256) (k : Fin 128) :
    (k0_pay39 g o z (ix2 r k) : EReal) = gated (fun j => o (ix2 r j)) (fun j => z (ix2 r j)) (fun j => g (ix2 (0 : Fin 1) j)) k := by
  unfold gated Cert.Hand.Gnorm.meanSq
  pointwise [k0_pay39]
  simp only [Cert.Hand.Gate.gate_eq]

/-- A head's tile of the recurrence output. -/
theorem oH_apply (x0 : Vec Ideal S16x256x128 .bf16) (a : Fin 16) (r : Fin 256) (k : Fin 128) : (oH x0 a (ix2 r k) : EReal) = x0 (ix3 a r k) := by
  fin_cases a <;> simp only [oH] <;> pointwise [k0_pay4, k0_pay5, k0_pay6, k0_pay7, k0_pay8, k0_pay9, k0_pay10, k0_pay11, k0_pay12, k0_pay13, k0_pay14, k0_pay15, k0_pay16, k0_pay17, k0_pay18, k0_pay19]

/-- A head's tile of the gate. -/
theorem zH_apply (x1 : Vec Ideal S256x2048 .bf16) (a : Fin 16) (r : Fin 256) (k : Fin 128) : (zH x1 a (ix2 r k) : EReal) = x1 (ix2 r (lane a k)) := by
  unfold lane
  fin_cases a <;> simp only [zH] <;> pointwise [k0_pay3, k0_pay20, k0_pay21, k0_pay22, k0_pay23, k0_pay24, k0_pay25, k0_pay26, k0_pay27, k0_pay28, k0_pay29, k0_pay30, k0_pay31, k0_pay32, k0_pay33, k0_pay34]

/-- The block at a head's lane of a row. -/
theorem outB_apply (x0 : Vec Ideal S16x256x128 .bf16) (x1 : Vec Ideal S256x2048 .bf16) (x2 : Vec Ideal S1x128 .f32) (a : Fin 16) (r : Fin 256) (k : Fin 128) :
    (outB x0 x1 x2 (ix2 r (lane a k)) : EReal) = gated (fun j => x0 (ix3 a r j)) (fun j => x1 (ix2 r (lane a j))) (fun j => x2 (ix2 (0 : Fin 1) j)) k := by
  have hk := k.isLt
  have e : (outB x0 x1 x2 (ix2 r (lane a k)) : EReal) = k0_pay39 x2 (oH x0 a) (zH x1 a) (ix2 r k) := by
    refine concatenate_ofFn_apply (t := S256x2048) (s₁ := S256x128) (1 : Fin 2) (fun a : Fin 16 => k0_pay39 x2 (oH x0 a) (zH x1 a)) concatenates_S256x128_S256x128_S256x128_S256x128_S256x128_S256x128_S256x128_S256x128_S256x128_S256x128_S256x128_S256x128_S256x128_S256x128_S256x128_S256x128_S256x2048_d1 rfl 128 rfl (ix2 r (lane a k)) a ?_ (ix2 r k) ?_ ?_
    · show (128 * a.val + k.val) / 128 = a.val; omega
    · show k.val = (128 * a.val + k.val) % 128; omega
    · intro b hb
      match b with
      | ⟨0, _⟩ => rfl
      | ⟨1, _⟩ => exact absurd rfl hb
  rw [e, tile_apply]
  simp only [oH_apply, zH_apply]

/-- The block at an index. -/
theorem out_at (x0 : Vec Ideal S16x256x128 .bf16) (x1 : Vec Ideal S256x2048 .bf16) (x2 : Vec Ideal S1x128 .f32) (y : S256x2048.Idx) :
    (out0_3 x0 x1 x2 y : EReal) = gated (fun j => x0 (ix3 (headOf (y 1)) (y 0) j)) (fun j => x1 (ix2 (y 0) (lane (headOf (y 1)) j)))
      (fun j => x2 (ix2 (0 : Fin 1) j)) (laneOf (y 1)) := by
  rw [out_eq]
  idx_vars y
  refine Eq.trans ?_ (outB_apply x0 x1 x2 _ _ _)
  rw [Cert.Hand.Gnorm.lane_of]

variable (m : (ℓ : Loc nD τ sig) → Buf (Elt Ideal) ℓ)

/-- The whole result of the launch contents. -/
def G (c : Dev nD) : FVec Ideal S8192x2048 .bf16 := fun i =>
  gated (fun k => m (c.tc.loc main_arg0) (ix3 (headOf (i 1)) (i 0) k)) (fun k => m (c.tc.loc main_arg1) (ix2 (i 0) (glane (headOf (i 1)) k)))
    (fun k => m (c.tc.loc main_arg2) (ix2 (0 : Fin 1) k)) (laneOf (i 1))

/-- The block indices of the windows at every point of the grid. -/
theorem index_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 2
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block of the heads holds their rows. -/
theorem blk0 (c : Dev nD) (t : Fin cfg0.N) (a : Fin 16) (k : Fin 256) (j : Fin 128) (r : Fin 8192) (hr : r.val = 256 * t.val + k.val) :
    (iblk m c 0 t (ix3 a k j) : EReal) = m (c.tc.loc main_arg0) (ix3 a r j) := by
  obtain ⟨h0a, h0b, h0c, -⟩ := index_facts t
  refine congrArg (m (c.tc.loc main_arg0)) (funext fun b => Fin.ext ?_)
  match b with
  | ⟨0, _⟩ => show win0_0.index t 0 * 16 + 1 * a.val = a.val; rw [h0a]; omega
  | ⟨1, _⟩ => show win0_0.index t 1 * 256 + 1 * k.val = r.val; rw [h0b, hr]; omega
  | ⟨2, _⟩ => show win0_0.index t 2 * 128 + 1 * j.val = j.val; rw [h0c]; omega

/-- A block of the gate holds its rows, behind the queries, keys and values. -/
theorem blk1 (c : Dev nD) (t : Fin cfg0.N) (a : Fin 16) (k : Fin 256) (j : Fin 128) (r : Fin 8192) (hr : r.val = 256 * t.val + k.val) :
    (iblk m c 1 t (ix2 k (lane a j)) : EReal) = m (c.tc.loc main_arg1) (ix2 r (glane a j)) := by
  obtain ⟨-, -, -, h1a, h1b, -⟩ := index_facts t
  refine congrArg (m (c.tc.loc main_arg1)) (funext fun b => Fin.ext ?_)
  match b with
  | ⟨0, _⟩ => show win0_1.index t 0 * 256 + 1 * k.val = r.val; rw [h1a, hr]; omega
  | ⟨1, _⟩ => show win0_1.index t 1 * 2048 + 1 * (128 * a.val + j.val) = 4096 + (128 * a.val + j.val); rw [h1b]; omega

/-- The gain is whole at every point. -/
theorem blk2 (c : Dev nD) (t : Fin cfg0.N) (j : Fin 128) :
    (iblk m c 2 t (ix2 (0 : Fin 1) j) : EReal) = m (c.tc.loc main_arg2) (ix2 (0 : Fin 1) j) := by
  obtain ⟨-, -, -, -, -, h2a, h2b, -⟩ := index_facts t
  refine congrArg (m (c.tc.loc main_arg2)) (funext fun b => Fin.ext ?_)
  match b with
  | ⟨0, _⟩ => show win0_2.index t 0 * 1 + 1 * 0 = 0; rw [h2a]
  | ⟨1, _⟩ => show win0_2.index t 1 * 128 + 1 * j.val = j.val; rw [h2b]; omega

/-- What a point writes back is its block of the whole result. -/
theorem flushed_G (c : Dev nD) (t : Fin cfg0.N) :
    (dats m 0 c).flushed 3 t = ((cfg0.win 3).blk t).view.read (Elt Ideal) (G m c) := by
  obtain ⟨-, -, -, -, -, -, -, h3a, h3b⟩ := index_facts t
  rw [Value.flushed3]
  funext y
  rw [View.read_apply]
  show (out0_3 (iblk m c 0 t) (iblk m c 1 t) (iblk m c 2 t) y : EReal) = G m c (((cfg0.win 3).blk t).view.emb y)
  have ht : t.val < 32 := N_0 ▸ t.isLt
  have hk : (y 0 : Nat) < 256 := (y 0).isLt
  have e : (((cfg0.win 3).blk t).view.emb y : S8192x2048.Idx) = ix2 (⟨256 * t.val + (y 0 : Nat), by omega⟩ : Fin 8192) (y 1) := by
    funext b
    apply Fin.ext
    match b with
    | ⟨0, _⟩ => show win0_3.index t 0 * 256 + 1 * (y 0 : Nat) = 256 * t.val + (y 0 : Nat); rw [h3a]; omega
    | ⟨1, _⟩ => show win0_3.index t 1 * 2048 + 1 * (y 1 : Nat) = (y 1 : Nat); rw [h3b]; omega
  refine Eq.trans ?_ (congrArg (G m c) e).symm
  rw [out_at]
  unfold G
  rw [funext fun j => blk0 m c t (headOf (y 1)) (y 0) j ⟨256 * t.val + (y 0 : Nat), by omega⟩ rfl, funext fun j => blk1 m c t (headOf (y 1)) (y 0) j ⟨256 * t.val + (y 0 : Nat), by omega⟩ rfl, funext fun j => blk2 m c t j]
  rfl

/-- The result array after the run is the whole result. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 2048 := (i 1).isLt
    obtain ⟨t, hf, ha⟩ := (by decide +kernel : ∀ a : Fin 32, ∃ t : Fin grid0.N, (cfg0.win 3).flush t = true ∧ t.val = a.val) ⟨(i 0 : Nat) / 256, by omega⟩
    obtain ⟨-, -, -, -, -, -, -, h3a, h3b⟩ := index_facts t
    refine ⟨t, hf, ?_⟩
    show i ∈ ((View.whole main_v0).slice (win0_3.rect t)).set
    rw [View.set_slice_whole, Rect.mem_set_unit]
    intro b
    match b with
    | ⟨0, _⟩ => show win0_3.index t 0 * 256 ≤ (i 0 : Nat) ∧ (i 0 : Nat) < win0_3.index t 0 * 256 + 256
                rw [h3a, ha]; dsimp only; omega
    | ⟨1, _⟩ => show win0_3.index t 1 * 2048 ≤ (i 1 : Nat) ∧ (i 1 : Nat) < win0_3.index t 1 * 2048 + 2048
                rw [h3b]; omega

end Cert.GnormIdeal.Hand

namespace Cert.Hand

open Idealize.ShloMosaic Idealize.SL.Sem

/-- The kernel's gated norm and the host's are one array. -/
theorem algebraic_gnorm : Cert.algebraic_GnormIdeal_GnormRefIdeal := by
  intro m g m' g' _ hargs
  refine ⟨fun c => Cert.GnormIdeal.Hand.G m c, ?_, ?_⟩
  · refine (θ_run Cert.GnormIdeal.defs _ _).mono (fun r h c => ?_) (Cert.GnormIdeal.Value.run_blocks m g)
    exact ⟨(h c).1.trans (Cert.GnormIdeal.Hand.final m c), (h c).2⟩
  · refine (θ_run Cert.GnormRefIdeal.defs _ _).mono (fun r h c => ?_) (Cert.GnormRefIdeal.Value.run m' g')
    refine ⟨(h c).1.trans ?_, (h c).2⟩
    rw [(hargs c).1, (hargs c).2.1, (hargs c).2.2]
    funext i
    unfold Cert.GnormIdeal.Hand.G
    idx_vars i
    unfold Gnorm.gated Gnorm.meanSq Gate.sg Gnorm.glane Gnorm.headOf Gnorm.laneOf
    pointwise
    simp only [show 128 * (i1.val / 128) + i1.val % 128 = i1.val from by omega]

end Cert.Hand

end
-- ==== Proof.RelBiasVal.lean ====
/- The relative bias: the kernel's product of the table with a one-hot matrix is the host's lookup in the table. -/
module

public import proofs.«01_k».proof.Proof.Gen.RelBiasIdeal.Value
public import proofs.«01_k».proof.Proof.Gen.RelBiasRefIdeal.Run
public import proofs.«01_k».proof.Proof.Bucket
public import proofs.«01_k».proof.Defs
public import Idealize.ShloMosaic.Lib.Tactic

@[expose] public section

set_option maxRecDepth 16384

noncomputable section

namespace Cert.RelBiasIdeal.Hand

open Cert.RelBiasIdeal Cert.RelBiasIdeal.Gen Idealize.ShloMosaic Idealize.ShloMosaic.TcCoe Idealize.SL.Sem
open Cert.Hand.Bucket

/-- An entry of the bias: the head's column of the table by the one-hot column of the pair of a query and a key. -/
def entry (x : FVec Ideal S32x16 .f32) (a : Fin 16) (j : Fin 32768) : EReal :=
  ∑ r : Fin 32, (x (ix2 r a) : EReal) * (if (bucket (j.val / 256) (j.val % 256)).toInt = (r.val : ℤ) then (1 : EReal) else 0)

/-- It is the table's entry of the pair's bucket. -/
theorem entry_eq (x : FVec Ideal S32x16 .f32) (a : Fin 16) (j : Fin 32768) (z : Fin 32) (h : bucket (j.val / 256) (j.val % 256) = BitVec.ofNat 32 z.val) :
    entry x a j = x (ix2 z a) := by
  unfold entry
  rw [h, toInt_small _ (by omega), Finset.sum_eq_single z]
  · rw [if_pos rfl, mul_one]
  · intro r _ hr
    rw [if_neg (fun e => hr (Fin.ext (by exact_mod_cast e.symm))), mul_zero]
  · intro hz
    exact absurd (Finset.mem_univ z) hz

theorem hz : (![0, 0] : Fin 2 → Nat) = fun _ => 0 := funext fun a => by fin_cases a <;> rfl

/-- One block's result at an index. -/
theorem out_apply (x0 : Vec Ideal S16x32 .f32) (x1 : Vec Ideal S32x1024 .f32) (y : S16x1024.Idx) :
    (out0_2 x0 x1 y : EReal) = ∑ r : Fin 32, (x0 (ix2 (y 0) r) : EReal) * (x1 (ix2 r (y 1)) : EReal) := by
  unfold out0_2
  rw [View.canon_unit_zero hz]
  rw [View.ld_unit_zero (S := S16x32) hz, View.ld_unit_zero (S := S32x1024) hz]
  idx_vars y
  pointwise [k0_pay1]

variable (m : (ℓ : Loc nD τ sig) → Buf (Elt Ideal) ℓ)

/-- The whole bias of the launch contents. -/
def G (c : Dev nD) : FVec Ideal S16x32768 .f32 := fun i => entry (m (c.tc.loc main_arg0)) (i 0) (i 1)

/-- The one-hot matrix the call is given: one where a pair's bucket is the row. -/
theorem hot (c : Dev nD) (r : Fin 32) (j : Fin 32768) :
    ((V m c main_v37 : FVec Ideal S32x32768 .f32) (ix2 r j) : EReal) = if (bucket (j.val / 256) (j.val % 256)).toInt = (r.val : ℤ) then (1 : EReal) else 0 := by
  rw [← hot_eq (j.val / 256) (j.val % 256) (by have := j.isLt; omega) (Nat.mod_lt _ (by omega)) r]
  unfold V bucket far Cert.Hand.Bucket.dist
  simp only [hostOps0, hostOps0_1, hostOps0_2, List.flatten_cons, List.flatten_nil, List.append_nil, List.cons_append,
    List.nil_append, StableHlo.TRef.ternary, StableHlo.TRef.toBuf, StableHlo.TRef.ofBuf, cast_eq]
  after_results_simp
  pointwise

/-- The transposed table the call is given. -/
theorem table (c : Dev nD) (a : Fin 16) (r : Fin 32) :
    ((V m c main_v0 : FVec Ideal S16x32 .f32) (ix2 a r) : EReal) = (m (c.tc.loc main_arg0) : FVec Ideal S32x16 .f32) (ix2 r a) := by
  unfold V
  simp only [hostOps0, hostOps0_1, hostOps0_2, List.flatten_cons, List.flatten_nil, List.append_nil, List.cons_append,
    List.nil_append, StableHlo.TRef.ternary, StableHlo.TRef.toBuf, StableHlo.TRef.ofBuf, cast_eq]
  after_results_simp
  pointwise

/-- The block indices of the windows at every point of the grid. -/
theorem index_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- A block of the table is the whole of it, transposed. -/
theorem blk0 (c : Dev nD) (t : Fin cfg0.N) (a : Fin 16) (r : Fin 32) :
    (iblk m c 0 t (ix2 a r) : EReal) = (m (c.tc.loc main_arg0) : FVec Ideal S32x16 .f32) (ix2 r a) := by
  rw [← table m c a r]
  obtain ⟨h00, h01, -⟩ := index_facts t
  unfold iblk
  rw [View.read_apply]
  show V m c main_v0 _ = V m c main_v0 _
  congr 1
  funext b
  apply Fin.ext
  match b with
  | ⟨0, _⟩ => show win0_0.index t 0 * 16 + 1 * a.val = a.val; rw [h00]; omega
  | ⟨1, _⟩ => show win0_0.index t 1 * 32 + 1 * r.val = r.val; rw [h01]; omega

/-- A block of the one-hot matrix holds its columns of it: one where a pair's bucket is the row. -/
theorem blk1 (c : Dev nD) (t : Fin cfg0.N) (r : Fin 32) (k : Fin 1024) (j : Fin 32768) (hj : j.val = 1024 * t.val + k.val) :
    (iblk m c 1 t (ix2 r k) : EReal) = if (bucket (j.val / 256) (j.val % 256)).toInt = (r.val : ℤ) then (1 : EReal) else 0 := by
  rw [← hot m c r j]
  obtain ⟨-, -, h10, h11, -⟩ := index_facts t
  unfold iblk
  rw [View.read_apply]
  show V m c main_v37 _ = V m c main_v37 _
  congr 1
  funext b
  apply Fin.ext
  match b with
  | ⟨0, _⟩ => show win0_1.index t 0 * 32 + 1 * r.val = r.val; rw [h10]; omega
  | ⟨1, _⟩ => show win0_1.index t 1 * 1024 + 1 * k.val = j.val; rw [h11, hj]; omega

/-- What a point writes back is its block of the whole bias. -/
theorem flushed_G (c : Dev nD) (t : Fin cfg0.N) :
    (dats m 0 c).flushed 2 t = ((cfg0.win 2).blk t).view.read (Elt Ideal) (G m c) := by
  obtain ⟨-, -, -, -, h20, h21⟩ := index_facts t
  rw [Value.flushed2]
  funext y
  rw [View.read_apply]
  show (out0_2 (iblk m c 0 t) (iblk m c 1 t) y : EReal) = G m c (((cfg0.win 2).blk t).view.emb y)
  have hN : t.val < 32 := N_0 ▸ t.isLt
  have hk : (y 1 : Nat) < 1024 := (y 1).isLt
  have e : (((cfg0.win 2).blk t).view.emb y : S16x32768.Idx) = ix2 (y 0) (⟨1024 * t.val + (y 1 : Nat), by omega⟩ : Fin 32768) := by
    funext b
    apply Fin.ext
    match b with
    | ⟨0, _⟩ => show win0_2.index t 0 * 16 + 1 * (y 0 : Nat) = (y 0 : Nat); rw [h20]; omega
    | ⟨1, _⟩ => show win0_2.index t 1 * 1024 + 1 * (y 1 : Nat) = 1024 * t.val + (y 1 : Nat); rw [h21]; omega
  refine Eq.trans ?_ (congrArg (G m c) e).symm
  rw [out_apply]
  unfold G entry
  refine Finset.sum_congr rfl fun r _ => congrArg₂ (· * ·) ?_ ?_
  · exact blk0 m c t (y 0) r
  · exact blk1 m c t r (y 1) ⟨1024 * t.val + (y 1 : Nat), by omega⟩ rfl

/-- The result array after the run is the whole bias. -/
theorem final (c : Dev nD) : (dats m 0 c).arrAt 2 cfg0.N = G m c :=
  (dats m 0 c).arrAt_eq_of_cover 2 (G m c) (fun t _ => flushed_G m c t) fun i => by
    have h0 : (i 0 : Nat) < 16 := (i 0).isLt
    have h1 : (i 1 : Nat) < 32768 := (i 1).isLt
    obtain ⟨t, hf, ha⟩ := (by decide +kernel : ∀ a : Fin 32, ∃ t : Fin grid0.N, (cfg0.win 2).flush t = true ∧ t.val = a.val) ⟨(i 1 : Nat) / 1024, by omega⟩
    obtain ⟨-, -, -, -, h2a, h2b⟩ := index_facts t
    refine ⟨t, hf, ?_⟩
    show i ∈ ((View.whole main_v38).slice (win0_2.rect t)).set
    rw [View.set_slice_whole, Rect.mem_set_unit]
    intro a
    match a with
    | ⟨0, _⟩ => show win0_2.index t 0 * 16 ≤ (i 0 : Nat) ∧ (i 0 : Nat) < win0_2.index t 0 * 16 + 16
                rw [h2a]; omega
    | ⟨1, _⟩ => show win0_2.index t 1 * 1024 ≤ (i 1 : Nat) ∧ (i 1 : Nat) < win0_2.index t 1 * 1024 + 1024
                rw [h2b, ha]; dsimp only; omega

end Cert.RelBiasIdeal.Hand

namespace Cert.RelBiasRefIdeal.Hand

open Cert.RelBiasRefIdeal Cert.RelBiasRefIdeal.Gen Idealize.ShloMosaic Idealize.ShloMosaic.TcCoe

/-- The lookup at an index: the row of the index word, where that word is a row. -/
theorem gather_apply (x : FVec Ideal S32x16 .f32) (idx : IVec S128x256x1 32) (q : Fin 128) (k : Fin 256) (a : Fin 16) (z : Fin 32)
    (h : idx (ix3 q k (0 : Fin 1)) = BitVec.ofNat 32 z.val) :
    (Host.gather gather_S32x16_S128x256x1_S128x256x16_2_0_n_n_0_2_116 x idx (ix3 q k a) : EReal) = x (ix2 z a) := by
  have s0 : gather_S32x16_S128x256x1_S128x256x16_2_0_n_n_0_2_116.start (ix3 q k a) idx 0 = min (idx (ix3 q k (0 : Fin 1))).toInt.toNat 31 := by
    show min (idx _).toInt.toNat 31 = _
    congr 4
    funext b
    apply Fin.ext
    match b with
    | ⟨0, _⟩ => rfl
    | ⟨1, _⟩ => rfl
    | ⟨2, _⟩ => rfl
  have hz := z.isLt
  unfold Host.gather
  refine congrArg x (funext fun b => Fin.ext ?_)
  match b with
  | ⟨0, _⟩ =>
    show gather_S32x16_S128x256x1_S128x256x16_2_0_n_n_0_2_116.start (ix3 q k a) idx 0 + 0 + 0 = z.val
    rw [s0, h, Cert.Hand.Bucket.toInt_small _ (by omega)]
    omega
  | ⟨1, _⟩ =>
    show 0 + 0 + a.val = a.val
    omega

/-- The flattened, transposed lookup at an index. -/
theorem ref_apply (x : FVec Ideal S32x16 .f32) (idx : IVec S128x256x1 32)
    (hidx : ∀ (q : Fin 128) (k : Fin 256), idx (ix3 q k (0 : Fin 1)) = Cert.Hand.Bucket.bucket q.val k.val) (a : Fin 16) (j : Fin 32768) :
    ((shapeCast S16x32768 (transpose S16x128x256 [2, 0, 1] (Host.gather gather_S32x16_S128x256x1_S128x256x16_2_0_n_n_0_2_116 x idx) transposes_S128x256x16_S16x128x256_2_0_1) shapeCasts_S16x128x256_S16x32768 : FVec Ideal S16x32768 .f32) (ix2 a j) : EReal)
      = Cert.RelBiasIdeal.Hand.entry x a j := by
  have hj := j.isLt
  obtain ⟨z, hz, e⟩ := Cert.Hand.Bucket.bucket_eq (j.val / 256) (j.val % 256) (by omega) (Nat.mod_lt _ (by omega))
  refine Eq.trans ?_ (Cert.RelBiasIdeal.Hand.entry_eq x a j ⟨z, hz⟩ e).symm
  pointwise
  exact gather_apply x idx _ _ _ ⟨z, hz⟩ ((hidx _ _).trans e)

end Cert.RelBiasRefIdeal.Hand

namespace Cert.Hand

open Idealize.ShloMosaic Idealize.SL.Sem

/-- The kernel's bias and the host's are one array. -/
theorem algebraic_relBias : Cert.algebraic_RelBiasIdeal_RelBiasRefIdeal := by
  intro m g m' g' _ hargs
  refine ⟨fun c => Cert.RelBiasIdeal.Hand.G m c, ?_, ?_⟩
  · refine (θ_run Cert.RelBiasIdeal.defs _ _).mono (fun r h c => ?_) (Cert.RelBiasIdeal.Value.run_blocks m g)
    exact ⟨(h c).1.trans (Cert.RelBiasIdeal.Hand.final m c), (h c).2⟩
  · refine (θ_run Cert.RelBiasRefIdeal.defs _ _).mono (fun r h c => ?_) (Cert.RelBiasRefIdeal.Value.run m' g')
    refine ⟨(h c).1.trans ?_, (h c).2⟩
    unfold Cert.RelBiasRefIdeal.Value.res_main_v37
    rw [hargs c]
    funext i
    unfold Cert.RelBiasIdeal.Hand.G
    idx_vars i
    refine Cert.RelBiasRefIdeal.Hand.ref_apply _ _ (fun q k => ?_) _ _
    rw [← Bucket.wrap_eq q.val k.val q.isLt k.isLt]
    unfold Bucket.bucket Bucket.far Bucket.dist
    pointwise

end Cert.Hand

end
-- ==== Proof.GdnInDxVal.lean ====
/- The input projection's gradient: the kernel accumulates over the columns of the cotangent what the host product sums. -/
module

public import proofs.«01_k».proof.Proof.Gen.GdnInDxIdeal.Value
public import proofs.«01_k».proof.Proof.Gen.GdnInDxRefIdeal.Run
public import proofs.«01_k».proof.Proof.Runs
public import proofs.«01_k».proof.Defs
public import Idealize.ShloMosaic.Lib.Tactic

@[expose] public section

set_option maxRecDepth 16384

noncomputable section

namespace Cert.GdnInDxIdeal.Hand

open Cert.GdnInDxIdeal Cert.GdnInDxIdeal.Gen Idealize.ShloMosaic Idealize.ShloMosaic.TcCoe Idealize.SL.Sem

/-- One column's part of an entry of the product. -/
def term (x0 : FVec Ideal S8192x6144 .bf16) (x1 : FVec Ideal S1024x6144 .bf16) (i : S8192x1024.Idx) (r : Fin 6144) : EReal :=
  (x0 (ix2 (i 0) r) : EReal) * (x1 (ix2 (i 1) r) : EReal)

theorem hz : (![0, 0] : Fin 2 → Nat) = fun _ => 0 := funext fun a => by fin_cases a <;> rfl

/-- One point's product at an index. -/
theorem pay1_apply (x0 : Vec Ideal S1024x1536 .bf16) (x1 : Vec Ideal S1024x1536 .bf16) (y : S1024x1024.Idx) :
    (k0_pay1 x0 x1 y : EReal) = ∑ k : Fin 1536, (x0 (ix2 (y 0) k) : EReal) * (x1 (ix2 (y 1) k) : EReal) := by
  idx_vars y
  skip
  pointwise [k0_pay1]

/-- The first point's store is its product. -/
theorem pay2_eq (x0 : Vec Ideal S1024x1536 .bf16) (x1 : Vec Ideal S1024x1536 .bf16) : k0_pay2 x0 x1 = k0_pay1 x0 x1 := by
  unfold k0_pay2
  exact shapeCast_self _ _

/-- A later point's store is the accumulator plus its product. -/
theorem pay3_apply (x0 : Vec Ideal S1024x1536 .bf16) (x1 : Vec Ideal S1024x1536 .bf16) (xs : Vec Ideal S1024x1024 .f32) (y : S1024x1024.Idx) :
    (k0_pay3 x0 x1 xs y : EReal) = (xs y : EReal) + k0_pay1 x0 x1 y := by
  unfold k0_pay3
  rw [shapeCast_self]
  rfl

variable (c : Dev nD) (i : grid0.Coords) (a3 : Memref sig .tc .vmem S1024x1536 .bf16) (q3 : a3.IsWhole) (a4 : Memref sig .tc .vmem S1024x1536 .bf16) (q4 : a4.IsWhole) (a5 : Memref sig .tc .vmem S1024x1024 .f32) (q5 : a5.IsWhole) (a6 : Memref sig .tc .vmem S1024x1024 .f32) (q6 : a6.IsWhole)
  (x0 : Vec Ideal S1024x1536 .bf16) (x1 : Vec Ideal S1024x1536 .bf16) (xs0 : Vec Ideal S1024x1024 .f32)

/-- What case A leaves in the accumulator. -/
theorem sout_A (hc0 : cond0_0 i) (hc1 : ¬cond0_1 i) (hc2 : ¬cond0_2 i) :
    sout0_A_0 c i a3 q3 a4 q4 a5 q5 a6 q6 hc0 hc1 hc2 x0 x1 = k0_pay2 x0 x1 := by
  unfold sout0_A_0
  rw [View.read_writes_eq_canon _ _ _ (fun y => scover0_A_0 (y := y) ..)]
  unfold kernelRun0_A
  dsimp only
  rw [View.canon_unit_zero (S := S1024x1024) hz]
  simp only [View.readAt_eq_ld, Memref.IsWhole.read_unread, View.ld_unit_zero (S := ⟨2, _⟩) hz]

/-- What case B leaves in the accumulator. -/
theorem sout_B (hc0 : ¬cond0_0 i) (hc1 : cond0_1 i) (hc2 : ¬cond0_2 i) :
    sout0_B_0 c i a3 q3 a4 q4 a5 q5 a6 q6 hc0 hc1 hc2 x0 x1 xs0 = k0_pay3 x0 x1 xs0 := by
  unfold sout0_B_0
  rw [View.read_writes_eq_canon _ _ _ (fun y => scover0_B_0 (y := y) ..)]
  unfold kernelRun0_B
  dsimp only
  rw [View.canon_unit_zero (S := S1024x1024) hz]
  simp only [View.readAt_eq_ld, Memref.IsWhole.read_unread, View.ld_unit_zero (S := ⟨2, _⟩) hz]

/-- What case C leaves in the accumulator. -/
theorem sout_C (hc0 : ¬cond0_0 i) (hc1 : cond0_1 i) (hc2 : cond0_2 i) :
    sout0_C_0 c i a3 q3 a4 q4 a5 q5 a6 q6 hc0 hc1 hc2 x0 x1 xs0 = k0_pay3 x0 x1 xs0 := by
  unfold sout0_C_0
  rw [View.read_writes_eq_canon _ _ _ (fun y => scover0_C_0 (y := y) ..)]
  unfold kernelRun0_C
  dsimp only
  sl_unfold_words
  rw [View.canon_unit_zero (S := S1024x1024) hz]
  simp only [View.readAt_eq_ld, Memref.IsWhole.read_unread, View.ld_unit_zero (S := ⟨2, _⟩) hz]

/-- What case C leaves in the result's block: the accumulator. -/
theorem out_C (hc0 : ¬cond0_0 i) (hc1 : cond0_1 i) (hc2 : cond0_2 i) :
    out0_C_2 c i a3 q3 a4 q4 a5 q5 a6 q6 hc0 hc1 hc2 x0 x1 xs0 = k0_pay3 x0 x1 xs0 := by
  unfold out0_C_2
  rw [View.read_writes_eq_canon _ _ _ (fun y => cover0_C_2 (y := y) ..)]
  unfold kernelRun0_C
  dsimp only
  sl_unfold_words
  rw [View.canon_unit_zero (S := S1024x1024) hz]
  rw [View.readCov_unit_zero (S := S1024x1024) _ hz]
  simp only [View.readAt_eq_ld, Memref.IsWhole.read_unread, View.ld_unit_zero (S := ⟨2, _⟩) hz]

variable (m : (ℓ : Loc nD τ sig) → Buf (Elt Ideal) ℓ)

/-- The whole product of the launch contents. -/
def G (c : Dev nD) : FVec Ideal S8192x1024 .f32 := fun i =>
  ∑ r : Fin 6144, term (m (c.tc.loc main_arg0)) (m (c.tc.loc main_arg1)) i r

/-- The block indices of the windows at every point of the grid. -/
theorem index_facts : ∀ t : Fin cfg0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N, _)

/-- A point's product is its run of columns' part of the whole. -/
theorem point (c : Dev nD) (t : Fin cfg0.N) (y : S1024x1024.Idx) (J : S8192x1024.Idx)
    (hJ0 : (J 0).val = 1024 * (t.val / 4) + (y 0).val) (hJ1 : (J 1).val = (y 1).val) :
    (k0_pay1 (iblk m c 0 t) (iblk m c 1 t) y : EReal)
      = Cert.Hand.runSum 1536 (term (m (c.tc.loc main_arg0)) (m (c.tc.loc main_arg1)) J) (t.val % 4) := by
  obtain ⟨h00, h01, h10, h11, -⟩ := index_facts t
  rw [pay1_apply]
  unfold Cert.Hand.runSum
  refine Finset.sum_congr rfl fun k _ => ?_
  have hk := k.isLt
  have hr : 1536 * (t.val % 4) + k.val < 6144 := by omega
  rw [Cert.Hand.atNat_of_lt _ _ hr]
  unfold term
  refine congrArg₂ (· * ·) (congrArg (m (c.tc.loc main_arg0)) (funext fun a => Fin.ext ?_)) (congrArg (m (c.tc.loc main_arg1)) (funext fun a => Fin.ext ?_))
  · match a with
    | ⟨0, _⟩ => show win0_0.index t 0 * 1024 + 1 * (y 0).val = (J 0).val; rw [h00, hJ0]; omega
    | ⟨1, _⟩ => show win0_0.index t 1 * 1536 + 1 * k.val = 1536 * (t.val % 4) + k.val; rw [h01]; omega
  · match a with
    | ⟨0, _⟩ => show win0_1.index t 0 * 1024 + 1 * (y 1).val = (J 1).val; rw [h10, hJ1]; omega
    | ⟨1, _⟩ => show win0_1.index t 1 * 1536 + 1 * k.val = 1536 * (t.val % 4) + k.val; rw [h11]; omega

/-- What the accumulator holds after a point: the runs of columns so far. -/
theorem acc_eq (c : Dev nD) : ∀ (n : ℕ) (h : n < cfg0.N) (y : S1024x1024.Idx) (J : S8192x1024.Idx)
    (_ : (J 0).val = 1024 * (n / 4) + (y 0).val) (_ : (J 1).val = (y 1).val),
    ((outsAt0 m c n h).2 y : EReal)
      = ∑ s ∈ Finset.range (n % 4 + 1), Cert.Hand.runSum 1536 (term (m (c.tc.loc main_arg0)) (m (c.tc.loc main_arg1)) J) s := by
  intro n
  induction n with
  | zero =>
    intro h y J h0 h1
    rw [outsAt0_A m c ⟨0, h⟩ rfl (by dsimp only; omega) (by dsimp only; omega)]
    dsimp only
    rw [sout_A, pay2_eq, point m c ⟨0, h⟩ y J h0 h1]
    simp
  | succ n ih =>
    intro h y J h0 h1
    by_cases hA : (n + 1) % 4 = 0
    · rw [outsAt0_A m c ⟨n + 1, h⟩ hA (by dsimp only; omega) (by dsimp only; omega)]
      dsimp only
      rw [sout_A, pay2_eq, point m c ⟨n + 1, h⟩ y J h0 h1]
      rw [hA, show Finset.range (0 + 1) = {0} from rfl, Finset.sum_singleton]
    · have hd : (n + 1) / 4 = n / 4 := by omega
      have hm : (n + 1) % 4 = n % 4 + 1 := by omega
      rw [Finset.sum_range_succ, hm, ← ih (Nat.lt_of_succ_lt h) y J (by simpa only [hd] using h0) h1]
      by_cases hC : (n + 1) % 4 = 3
      · rw [outsAt0_C m c ⟨n + 1, h⟩ hA (by dsimp only; omega) hC]
        dsimp only
        rw [sout_C, pay3_apply, point m c ⟨n + 1, h⟩ y J h0 h1]
        simp only [hm, Nat.add_sub_cancel]
      · rw [outsAt0_B m c ⟨n + 1, h⟩ hA (by dsimp only; omega) hC]
        dsimp only
        rw [sout_B, pay3_apply, point m c ⟨n + 1, h⟩ y J h0 h1]
        simp only [hm, Nat.add_sub_cancel]

/-- What a point writes back is its block of the whole product. -/
theorem flushed_G (c : Dev nD) (t : Fin cfg0.N) (hf : (cfg0.win 2).flush t = true) :
    (dats m 0 c).flushed 2 t = ((cfg0.win 2).blk t).view.read (Elt Ideal) (G m c) := by
  obtain ⟨-, -, -, -, h0, h1⟩ := index_facts t
  have ht : t.val % 4 = 3 := (by decide +kernel : ∀ t : Fin grid0.N, win0_2.flush t = true → t.val % 4 = 3) t hf
  rw [Value.flushed2]
  funext y
  rw [View.read_apply]
  have e := acc_eq m c t.val t.isLt y (((cfg0.win 2).blk t).view.emb y)
    (show win0_2.index t 0 * 1024 + 1 * (y 0 : Nat) = _ by rw [h0]; omega) (show win0_2.index t 1 * 1024 + 1 * (y 1 : Nat) = _ by rw [h1]; omega)
  rw [ht, Cert.Hand.sum_runs 4 1536 rfl] at e
  refine Eq.trans ?_ e
  have hA : ¬t.val % 4 = 0 := by omega
  show ((outsAt0 m c t.val t.isLt).1 y : EReal) = _
  rw [outsAt0_C m c t hA (by omega) ht]
  dsimp only
  rw [sout_C, out_C]

/-- The result array after the run is the whole product. -/
theorem final (c : Dev nD) : (dats m 0 c).arrAt 2 cfg0.N = G m c :=
  (dats m 0 c).arrAt_eq_of_cover 2 (G m c) (fun t hf => flushed_G m c t hf) fun i => by
    have h0 : (i 0 : Nat) < 8192 := (i 0).isLt
    have h1 : (i 1 : Nat) < 1024 := (i 1).isLt
    obtain ⟨t, hf, ha⟩ := (by decide +kernel : ∀ a : Fin 8, ∃ t : Fin grid0.N, (cfg0.win 2).flush t = true ∧ t.val / 4 = a.val) ⟨(i 0 : Nat) / 1024, by omega⟩
    obtain ⟨-, -, -, -, h2a, h2b⟩ := index_facts t
    refine ⟨t, hf, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024
                rw [h2a, ha]; dsimp only; omega
    | ⟨1, _⟩ => show win0_2.index t 1 * 1024 ≤ (i 1 : Nat) ∧ (i 1 : Nat) < win0_2.index t 1 * 1024 + 1024
                rw [h2b]; omega

end Cert.GdnInDxIdeal.Hand

namespace Cert.Hand

open Idealize.ShloMosaic Idealize.SL.Sem

/-- The kernel's product and the host's are one array. -/
theorem algebraic_gdnInDx : Cert.algebraic_GdnInDxIdeal_GdnInDxRefIdeal := by
  intro m g m' g' _ hargs
  refine ⟨fun c => Cert.GdnInDxIdeal.Hand.G m c, ?_, ?_⟩
  · refine (θ_run Cert.GdnInDxIdeal.defs _ _).mono (fun r h c => ?_) (Cert.GdnInDxIdeal.Value.run_blocks m g)
    exact ⟨(h c).1.trans (Cert.GdnInDxIdeal.Hand.final m c), (h c).2⟩
  · refine (θ_run Cert.GdnInDxRefIdeal.defs _ _).mono (fun r h c => ?_) (Cert.GdnInDxRefIdeal.Value.run m' g')
    refine ⟨(h c).1.trans ?_, (h c).2⟩
    rw [(hargs c).1, (hargs c).2]
    funext i
    unfold Cert.GdnInDxIdeal.Hand.G Cert.GdnInDxIdeal.Hand.term
    idx_vars i
    skip
    pointwise

end Cert.Hand

end
-- ==== Proof.FfnConvBwdVal.lean ====
/- The gradient of the feed-forward convolution in its input: every row's taps over the rows ahead of it. -/
module

public import proofs.«01_k».proof.Proof.Gen.FfnConvBwdIdeal.Value
public import proofs.«01_k».proof.Proof.Gen.FfnConvBwdRefIdeal.Run
public import Idealize.ShloMosaic.Lib.Pointwise
public import Idealize.ShloMosaic.Lib.Tactic
public import proofs.«01_k».proof.Defs

@[expose] public section

set_option maxRecDepth 65536

noncomputable section

namespace Cert.Hand.Conv

/-- A sequence some rows ahead, zero past its end. -/
def ahead (d : ℕ) (x : Fin 8192 → EReal) (r : Fin 8192) : EReal :=
  if h : r.val + d < 8192 then x ⟨r.val + d, h⟩ else 0

/-- A block's rows some rows up, the rows after it below them, or zero at the sequence's end. -/
def up (d t : ℕ) (x0 : Fin 256 → EReal) (x1 : Fin 8 → EReal) (k : Fin 256) : EReal :=
  if h : k.val + d < 256 then x0 ⟨k.val + d, h⟩ else if t = 31 then 0 else x1 ⟨(k.val + d - 256) % 8, Nat.mod_lt _ (by decide)⟩

/-- A block's rows some rows up are the sequence's. -/
theorem up_eq (d t : ℕ) (hd : d < 8) (ht : t < 32) (x : Fin 8192 → EReal) (x0 : Fin 256 → EReal) (x1 : Fin 8 → EReal)
    (h0 : ∀ (k : Fin 256) (r : Fin 8192), r.val = 256 * t + k.val → x0 k = x r)
    (h1 : ∀ (k : Fin 8) (r : Fin 8192), r.val = 256 * (t + 1) + k.val → x1 k = x r)
    (k : Fin 256) (r : Fin 8192) (hr : r.val = 256 * t + k.val) : up d t x0 x1 k = ahead d x r := by
  unfold up ahead
  by_cases h : k.val + d < 256
  · rw [dif_pos h, dif_pos (by omega)]
    exact h0 _ _ (by dsimp only; omega)
  · rw [dif_neg h]
    by_cases h31 : t = 31
    · rw [if_pos h31, dif_neg (by omega)]
    · rw [if_neg h31, dif_pos (by omega)]
      exact h1 _ _ (by dsimp only; omega)

end Cert.Hand.Conv

namespace Cert.FfnConvBwdIdeal.Hand

open Cert.FfnConvBwdIdeal Cert.FfnConvBwdIdeal.Gen Idealize.ShloMosaic Idealize.ShloMosaic.TcCoe Idealize.SL.Sem
open Cert.Hand.Conv (ahead up up_eq)

variable (m : (ℓ : Loc nD τ sig) → Buf (Elt Ideal) ℓ)

/-- The whole result of the launch contents. -/
def G (c : Dev nD) : FVec Ideal S8192x5632 .bf16 := fun i =>
  let x : Fin 8192 → EReal := fun r => m (c.tc.loc main_arg0) (ix2 r (i 1))
  let w : Fin 3 → EReal := fun j => m (c.tc.loc main_arg1) (ix2 j (i 1))
  w 2 * x (i 0) + w 0 * ahead 2 x (i 0) + w 1 * ahead 1 x (i 0)

/-- A block's rows, rotated up, with the rotated rows after it over the bottom. -/
def upV (p q : BitVec 32) (i : grid0.Coords) (x0 : Vec Ideal S256x5632 .bf16) (x1 : Vec Ideal S8x5632 .bf16) : FVec Ideal S256x5632 .f32 :=
  let v9 := dynamicRotate 0 p none (extf .f32 x0 bitsLt_bf16_f32 : FVec Ideal S256x5632 .f32) rotates_S256x5632_d0
  concatenate S256x5632 0 [⟨S248x5632, extractStridedSlice S248x5632 ![0, 0] v9 slices_S256x5632_o0_0_S248x5632⟩, ⟨S8x5632,
    select (cmpi .sge (iota .tc S8x5632 32 [0] iota_S8x5632_d0_w32) (broadcast S8x5632 q))
      (dynamicRotate 0 q none (Scalar.select (Scalar.cmpi .eq (BitVec.ofNat 32 (i 0).val) 31#32) (broadcast S8x5632 (Scalar.ofBits .f32 0x00000000#32)) (extf .f32 x1 bitsLt_bf16_f32)) rotates_S8x5632_d0)
      (extractStridedSlice S8x5632 ![248, 0] v9 slices_S256x5632_o248_0_S8x5632)⟩] concatenates_S248x5632_S8x5632_S256x5632_d0

/-- It, entry by entry. -/
theorem upV_apply (d : ℕ) (h1 : 0 < d) (h3 : d < 4) (i : grid0.Coords) (x0 : Vec Ideal S256x5632 .bf16) (x1 : Vec Ideal S8x5632 .bf16) (k : Fin 256) (n : Fin 5632) :
    (upV (BitVec.ofNat 32 (256 - d)) (BitVec.ofNat 32 (8 - d)) i x0 x1 (ix2 k n) : EReal) = up d (i 0).val (fun k => x0 (ix2 k n)) (fun k => x1 (ix2 k n)) k := by
  have hi : (i 0).val < 32 := (i 0).isLt
  unfold up upV
  have hc : ∀ (e : Fin 4) (a : Fin 8), IntOp.cmpi .sge (BitVec.ofNat 32 a.val) (BitVec.ofNat 32 (8 - e.val)) = if 8 ≤ a.val + e.val then 1#1 else 0#1 := by decide
  have hs : ∀ a : Fin 32, Scalar.cmpi .eq (BitVec.ofNat 32 a.val) 31#32 = if a.val = 31 then 1#1 else 0#1 := by decide
  pointwise
  simp only [show (BitVec.ofNat 32 (256 - d)).toNat % 256 = 256 - d from by rw [BitVec.toNat_ofNat]; omega, show (BitVec.ofNat 32 (8 - d)).toNat % 8 = 8 - d from by rw [BitVec.toNat_ofNat]; omega]
  by_cases h : k.val < 248
  · rw [dif_pos h, dif_pos (by omega)]
    simp only [show (k.val + 256 - (256 - d)) % 256 = k.val + d from by omega]
  · rw [dif_neg h, hc ⟨d, h3⟩ ⟨k.val - 248, by omega⟩, hs ⟨(i 0).val, hi⟩]
    by_cases h' : k.val + d < 256
    · rw [dif_pos h', if_neg (by dsimp only; omega)]
      simp only [show (248 + (k.val - 248) + 256 - (256 - d)) % 256 = k.val + d from by omega]
      rfl
    · rw [dif_neg h', if_pos (by dsimp only; omega)]
      simp only [show (k.val - 248 + 8 - (8 - d)) % 8 = (k.val + d - 256) % 8 from by omega]
      split <;> rfl

theorem hz : (![0, 0] : Fin 2 → Nat) = fun _ => 0 := funext fun a => by fin_cases a <;> rfl

/-- One block's result at an index. -/
theorem out_apply (i : grid0.Coords) (x0 : Vec Ideal S256x5632 .bf16) (x1 : Vec Ideal S8x5632 .bf16) (x2 : Vec Ideal S3x5632 .f32) (k : Fin 256) (n : Fin 5632) :
    (out0_3 i x0 x1 x2 (ix2 k n) : EReal) = x2 (ix2 (2 : Fin 3) n) * x0 (ix2 k n)
      + x2 (ix2 (0 : Fin 3) n) * up 2 (i 0).val (fun k => x0 (ix2 k n)) (fun k => x1 (ix2 k n)) k
      + x2 (ix2 (1 : Fin 3) n) * up 1 (i 0).val (fun k => x0 (ix2 k n)) (fun k => x1 (ix2 k n)) k := by
  unfold out0_3
  rw [View.canon_unit_zero hz, View.ld_unit_zero (S := S256x5632) hz, View.ld_unit_zero (S := S8x5632) hz, View.ld_unit_zero (S := S3x5632) hz]
  rw [← upV_apply 2 (by decide) (by decide), ← upV_apply 1 (by decide) (by decide)]
  rw [show k0_pay1 i x0 x1 x2 = truncf .bf16 (addf (addf (mulf (broadcastTo S256x5632 (extractStridedSlice S1x5632 ![2, 0] x2 slices_S3x5632_o2_0_S1x5632) broadcasts_S1x5632_S256x5632) (extf .f32 x0 bitsLt_bf16_f32))
    (mulf (broadcastTo S256x5632 (extractStridedSlice S1x5632 ![0, 0] x2 slices_S3x5632_o0_0_S1x5632) broadcasts_S1x5632_S256x5632) (upV 254#32 6#32 i x0 x1)))
    (mulf (broadcastTo S256x5632 (extractStridedSlice S1x5632 ![1, 0] x2 slices_S3x5632_o1_0_S1x5632) broadcasts_S1x5632_S256x5632) (upV 255#32 7#32 i x0 x1))) bitsLt_bf16_f32 from rfl]
  pointwise

/-- The block indices of the windows at every point of the grid. -/
theorem index_facts : ∀ t : Fin cfg0.N,
    win0_0.index t (0 : Fin 2) = t.val ∧ win0_0.index t (1 : Fin 2) = 0
    ∧ (t.val < 31 → win0_1.index t (0 : Fin 2) = 32 * (t.val + 1)) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

/-- A block of the rows. -/
theorem blk0 (c : Dev nD) (t : Fin cfg0.N) (k : Fin 256) (n : Fin 5632) (r : Fin 8192) (hr : r.val = 256 * t.val + k.val) :
    (iblk m c 0 t (ix2 k n) : EReal) = m (c.tc.loc main_arg0) (ix2 r n) := by
  obtain ⟨h0a, h0b, -⟩ := index_facts t
  refine congrArg (m (c.tc.loc main_arg0)) (funext fun b => Fin.ext ?_)
  match b with
  | ⟨0, _⟩ => show win0_0.index t 0 * 256 + 1 * k.val = r.val; rw [h0a, hr]; omega
  | ⟨1, _⟩ => show win0_0.index t 1 * 5632 + 1 * n.val = n.val; rw [h0b]; omega

/-- The rows after a block. -/
theorem blk1 (c : Dev nD) (t : Fin cfg0.N) (k : Fin 8) (n : Fin 5632) (r : Fin 8192) (hr : r.val = 256 * (t.val + 1) + k.val) :
    (iblk m c 1 t (ix2 k n) : EReal) = m (c.tc.loc main_arg0) (ix2 r n) := by
  obtain ⟨-, -, h1a, h1b, -⟩ := index_facts t
  refine congrArg (m (c.tc.loc main_arg0)) (funext fun b => Fin.ext ?_)
  match b with
  | ⟨0, _⟩ => show win0_1.index t 0 * 8 + 1 * k.val = r.val; rw [h1a (by omega)]; omega
  | ⟨1, _⟩ => show win0_1.index t 1 * 5632 + 1 * n.val = n.val; rw [h1b]; omega

/-- The taps are whole at every point. -/
theorem blk2 (c : Dev nD) (t : Fin cfg0.N) (k : Fin 3) (n : Fin 5632) :
    (iblk m c 2 t (ix2 k n) : EReal) = m (c.tc.loc main_arg1) (ix2 k n) := by
  obtain ⟨-, -, -, -, h2a, h2b, -⟩ := index_facts t
  refine congrArg (m (c.tc.loc main_arg1)) (funext fun b => Fin.ext ?_)
  match b with
  | ⟨0, _⟩ => show win0_2.index t 0 * 3 + 1 * k.val = k.val; rw [h2a]; omega
  | ⟨1, _⟩ => show win0_2.index t 1 * 5632 + 1 * n.val = n.val; rw [h2b]; omega

/-- What a point writes back is its block of the whole result. -/
theorem flushed_G (c : Dev nD) (t : Fin cfg0.N) :
    (dats m 0 c).flushed 3 t = ((cfg0.win 3).blk t).view.read (Elt Ideal) (G m c) := by
  obtain ⟨-, -, -, -, -, -, h3a, h3b, ht⟩ := index_facts t
  rw [Value.flushed3]
  funext y
  rw [View.read_apply]
  show (out0_3 (grid0.coords t) (iblk m c 0 t) (iblk m c 1 t) (iblk m c 2 t) y : EReal) = G m c (((cfg0.win 3).blk t).view.emb y)
  have hN : t.val < 32 := N_0 ▸ t.isLt
  have e : (((cfg0.win 3).blk t).view.emb y : S8192x5632.Idx) = ix2 (⟨256 * t.val + (y 0 : Nat), by have : (y 0 : Nat) < 256 := (y 0).isLt; omega⟩ : Fin 8192) (y 1) := by
    funext b
    apply Fin.ext
    match b with
    | ⟨0, _⟩ => show win0_3.index t 0 * 256 + 1 * (y 0 : Nat) = 256 * t.val + (y 0 : Nat); rw [h3a]; omega
    | ⟨1, _⟩ => show win0_3.index t 1 * 5632 + 1 * (y 1 : Nat) = (y 1 : Nat); rw [h3b]; omega
  refine Eq.trans ?_ (congrArg (G m c) e).symm
  idx_vars y
  refine (out_apply _ _ _ _ _ _).trans ?_
  rw [blk2, blk2, blk2, blk0 m c t _ _ ⟨256 * t.val + y0.val, by omega⟩ rfl, ht,
    up_eq 2 t.val (by decide) hN _ _ _ (fun k r h => blk0 m c t k _ r h) (fun k r h => blk1 m c t k _ r h) _ ⟨256 * t.val + y0.val, by omega⟩ rfl,
    up_eq 1 t.val (by decide) hN _ _ _ (fun k r h => blk0 m c t k _ r h) (fun k r h => blk1 m c t k _ r h) _ ⟨256 * t.val + y0.val, by omega⟩ rfl]
  rfl

/-- The result array after the run is the whole result. -/
theorem final (c : Dev nD) : (dats m 0 c).arrAt 3 cfg0.N = G m c :=
  (dats m 0 c).arrAt_eq_of_cover 3 (G m c) (fun t _ => flushed_G m c t) fun i => by
    have h0 : (i 0 : Nat) < 8192 := (i 0).isLt
    have h1 : (i 1 : Nat) < 5632 := (i 1).isLt
    obtain ⟨t, hf, ha⟩ := (by decide +kernel : ∀ a : Fin 32, ∃ t : Fin grid0.N, (cfg0.win 3).flush t = true ∧ t.val = a.val) ⟨(i 0 : Nat) / 256, by omega⟩
    obtain ⟨-, -, -, -, -, -, h3a, h3b, -⟩ := index_facts t
    refine ⟨t, hf, ?_⟩
    show i ∈ ((View.whole main_v0).slice (win0_3.rect t)).set
    rw [View.set_slice_whole, Rect.mem_set_unit]
    intro b
    match b with
    | ⟨0, _⟩ => show win0_3.index t 0 * 256 ≤ (i 0 : Nat) ∧ (i 0 : Nat) < win0_3.index t 0 * 256 + 256
                rw [h3a, ha]; dsimp only; omega
    | ⟨1, _⟩ => show win0_3.index t 1 * 5632 ≤ (i 1 : Nat) ∧ (i 1 : Nat) < win0_3.index t 1 * 5632 + 5632
                rw [h3b]; omega

end Cert.FfnConvBwdIdeal.Hand

namespace Cert.Hand

open Idealize.ShloMosaic Idealize.SL.Sem

open Cert.FfnConvBwdRefIdeal Cert.FfnConvBwdRefIdeal.Gen Idealize.ShloMosaic.StableHlo in
/-- The host's gradient at an index. -/
theorem convBwd_ref (x0 : FVec Ideal S8192x5632 .bf16) (x1 : FVec Ideal S3x5632 .f32) (i : S8192x5632.Idx) :
    (truncf .bf16 (extractStridedSlice S8192x5632 ![2, 0] (addf (addf (pad S8194x5632 ![2, 0] ![0, 0] ![0, 0] (mulf (extf .f32 x0 bitsLt_bf16_f32) (broadcastInDim S8192x5632 ![0, 1] bcast_S1x5632_S8192x5632_0_1 (broadcastInDim S1x5632 ![1] bcast_S5632_S1x5632_1 (shapeCast _ (extractStridedSlice S1x5632 ![2, 0] x1 slices_S3x5632_S1x5632_2_0) shapeCasts_S1x5632_S5632)))) (constant S_ .f32 0x00000000#32) pads_S8192x5632_S8194x5632_200_000 h_S_)
      (pad S8194x5632 ![1, 0] ![1, 0] ![0, 0] (mulf (extf .f32 x0 bitsLt_bf16_f32) (broadcastInDim S8192x5632 ![0, 1] bcast_S1x5632_S8192x5632_0_1 (broadcastInDim S1x5632 ![1] bcast_S5632_S1x5632_1 (shapeCast _ (extractStridedSlice S1x5632 ![1, 0] x1 slices_S3x5632_S1x5632_1_0) shapeCasts_S1x5632_S5632)))) (constant S_ .f32 0x00000000#32) pads_S8192x5632_S8194x5632_110_000 h_S_))
      (pad S8194x5632 ![0, 0] ![2, 0] ![0, 0] (mulf (extf .f32 x0 bitsLt_bf16_f32) (broadcastInDim S8192x5632 ![0, 1] bcast_S1x5632_S8192x5632_0_1 (broadcastInDim S1x5632 ![1] bcast_S5632_S1x5632_1 (shapeCast _ (extractStridedSlice S1x5632 ![0, 0] x1 slices_S3x5632_S1x5632_0_0) shapeCasts_S1x5632_S5632)))) (constant S_ .f32 0x00000000#32) pads_S8192x5632_S8194x5632_020_000 h_S_)) slices_S8194x5632_S8192x5632_2_0) bitsLt_bf16_f32 i : EReal)
    = x1 (ix2 (2 : Fin 3) (i 1)) * x0 (ix2 (i 0) (i 1)) + x1 (ix2 (0 : Fin 3) (i 1)) * Conv.ahead 2 (fun r => x0 (ix2 r (i 1))) (i 0) + x1 (ix2 (1 : Fin 3) (i 1)) * Conv.ahead 1 (fun r => x0 (ix2 r (i 1))) (i 0) := by
  idx_vars i
  unfold Conv.ahead
  pointwise
  simp only [mul_comm (x1 _), dite_mul, zero_mul, Nat.add_comm 2 i0.val, show i0.val + 2 - 1 = i0.val + 1 from rfl, show 1 ≤ i0.val + 2 from by omega, true_and]
  rw [add_right_comm]

/-- The kernel's gradient and the host's are one array. -/
theorem algebraic_ffnConvBwd : Cert.algebraic_FfnConvBwdIdeal_FfnConvBwdRefIdeal := by
  intro m g m' g' _ hargs
  refine ⟨fun c => Cert.FfnConvBwdIdeal.Hand.G m c, ?_, ?_⟩
  · refine (θ_run Cert.FfnConvBwdIdeal.defs _ _).mono (fun r h c => ?_) (Cert.FfnConvBwdIdeal.Value.run_blocks m g)
    exact ⟨(h c).1.trans (Cert.FfnConvBwdIdeal.Hand.final m c), (h c).2⟩
  · refine (θ_run Cert.FfnConvBwdRefIdeal.defs _ _).mono (fun r h c => ?_) (Cert.FfnConvBwdRefIdeal.Value.run m' g')
    refine ⟨(h c).1.trans ?_, (h c).2⟩
    rw [(hargs c).1, (hargs c).2]
    exact funext fun i => convBwd_ref _ _ i

end Cert.Hand

end
-- ==== Proof.GdnConvBwdVal.lean ====
/- The gradient of the delta rule's layer's main projection: the convolution's gradient in its input, then the output gate's part as it is. -/
module

public import proofs.«01_k».proof.Proof.Gen.GdnConvBwdIdeal.Value
public import proofs.«01_k».proof.Proof.Gen.GdnConvBwdRefIdeal.Run
public import proofs.«01_k».proof.Proof.FfnConvBwdVal
public import proofs.«01_k».proof.Defs

@[expose] public section

set_option maxRecDepth 65536

noncomputable section

namespace Cert.GdnConvBwdIdeal.Hand

open Cert.GdnConvBwdIdeal Cert.GdnConvBwdIdeal.Gen Idealize.ShloMosaic Idealize.ShloMosaic.TcCoe Idealize.SL.Sem
open Cert.Hand.Conv (ahead up up_eq)

variable (m : (ℓ : Loc nD τ sig) → Buf (Elt Ideal) ℓ)

/-- An entry of the gradient: the convolution's, from the taps, the rows and the rows ahead, or the output gate's. -/
def entry (w : Fin 4096 → Fin 4 → EReal) (x a1 a2 a3 : Fin 4096 → EReal) (z : Fin 2048 → EReal) (n : Fin 6144) : EReal :=
  if h : n.val < 4096 then w ⟨n.val, h⟩ 3 * x ⟨n.val, h⟩ + w ⟨n.val, h⟩ 0 * a3 ⟨n.val, h⟩ + w ⟨n.val, h⟩ 1 * a2 ⟨n.val, h⟩ + w ⟨n.val, h⟩ 2 * a1 ⟨n.val, h⟩
  else z ⟨n.val - 4096, by omega⟩

/-- The whole result, entry by entry. -/
def dpm (x0 : FVec Ideal S8192x4096 .bf16) (x1 : FVec Ideal S8192x2048 .bf16) (x2 : FVec Ideal S4x4096 .f32) : FVec Ideal S8192x6144 .bf16 := fun i =>
  entry (fun n j => x2 (ix2 j n)) (fun n => x0 (ix2 (i 0) n)) (fun n => ahead 1 (fun r => x0 (ix2 r n)) (i 0)) (fun n => ahead 2 (fun r => x0 (ix2 r n)) (i 0)) (fun n => ahead 3 (fun r => x0 (ix2 r n)) (i 0)) (fun n => x1 (ix2 (i 0) n)) (i 1)

/-- The whole result of the launch contents. -/
def G (c : Dev nD) : FVec Ideal S8192x6144 .bf16 := dpm (m (c.tc.loc main_arg0)) (m (c.tc.loc main_arg1)) (m (c.tc.loc main_arg2))

/-- A block's rows, rotated up, with the rotated rows after it over the bottom. -/
def upV (p q : BitVec 32) (i : grid0.Coords) (x0 : Vec Ideal S256x4096 .bf16) (x1 : Vec Ideal S8x4096 .bf16) : FVec Ideal S256x4096 .f32 :=
  let v9 := dynamicRotate 0 p none (extf .f32 x0 bitsLt_bf16_f32 : FVec Ideal S256x4096 .f32) rotates_S256x4096_d0
  concatenate S256x4096 0 [⟨S248x4096, extractStridedSlice S248x4096 ![0, 0] v9 slices_S256x4096_o0_0_S248x4096⟩, ⟨S8x4096,
    select (cmpi .sge (iota .tc S8x4096 32 [0] iota_S8x4096_d0_w32) (broadcast S8x4096 q))
      (dynamicRotate 0 q none (Scalar.select (Scalar.cmpi .eq (BitVec.ofNat 32 (i 0).val) 31#32) (broadcast S8x4096 (Scalar.ofBits .f32 0x00000000#32)) (extf .f32 x1 bitsLt_bf16_f32)) rotates_S8x4096_d0)
      (extractStridedSlice S8x4096 ![248, 0] v9 slices_S256x4096_o248_0_S8x4096)⟩] concatenates_S248x4096_S8x4096_S256x4096_d0

/-- It, entry by entry. -/
theorem upV_apply (d : ℕ) (h1 : 0 < d) (h3 : d < 4) (i : grid0.Coords) (x0 : Vec Ideal S256x4096 .bf16) (x1 : Vec Ideal S8x4096 .bf16) (k : Fin 256) (n : Fin 4096) :
    (upV (BitVec.ofNat 32 (256 - d)) (BitVec.ofNat 32 (8 - d)) i x0 x1 (ix2 k n) : EReal) = up d (i 0).val (fun k => x0 (ix2 k n)) (fun k => x1 (ix2 k n)) k := by
  have hi : (i 0).val < 32 := (i 0).isLt
  unfold up upV
  have hc : ∀ (e : Fin 4) (a : Fin 8), IntOp.cmpi .sge (BitVec.ofNat 32 a.val) (BitVec.ofNat 32 (8 - e.val)) = if 8 ≤ a.val + e.val then 1#1 else 0#1 := by decide
  have hs : ∀ a : Fin 32, Scalar.cmpi .eq (BitVec.ofNat 32 a.val) 31#32 = if a.val = 31 then 1#1 else 0#1 := by decide
  pointwise
  simp only [show (BitVec.ofNat 32 (256 - d)).toNat % 256 = 256 - d from by rw [BitVec.toNat_ofNat]; omega, show (BitVec.ofNat 32 (8 - d)).toNat % 8 = 8 - d from by rw [BitVec.toNat_ofNat]; omega]
  by_cases h : k.val < 248
  · rw [dif_pos h, dif_pos (by omega)]
    simp only [show (k.val + 256 - (256 - d)) % 256 = k.val + d from by omega]
  · rw [dif_neg h, hc ⟨d, h3⟩ ⟨k.val - 248, by omega⟩, hs ⟨(i 0).val, hi⟩]
    by_cases h' : k.val + d < 256
    · rw [dif_pos h', if_neg (by dsimp only; omega)]
      simp only [show (248 + (k.val - 248) + 256 - (256 - d)) % 256 = k.val + d from by omega]
      rfl
    · rw [dif_neg h', if_pos (by dsimp only; omega)]
      simp only [show (k.val - 248 + 8 - (8 - d)) % 8 = (k.val + d - 256) % 8 from by omega]
      split <;> rfl

theorem hz : (![0, 0] : Fin 2 → Nat) = fun _ => 0 := funext fun a => by fin_cases a <;> rfl

/-- One block's result at an index. -/
theorem out_apply (i : grid0.Coords) (x0 : Vec Ideal S256x4096 .bf16) (x1 : Vec Ideal S8x4096 .bf16) (x2 : Vec Ideal S256x2048 .bf16) (x3 : Vec Ideal S4x4096 .f32) (k : Fin 256) (n : Fin 6144) :
    (out0_4 i x0 x1 x2 x3 (ix2 k n) : EReal) = entry (fun n j => x3 (ix2 j n)) (fun n => x0 (ix2 k n)) (fun n => up 1 (i 0).val (fun k => x0 (ix2 k n)) (fun k => x1 (ix2 k n)) k) (fun n => up 2 (i 0).val (fun k => x0 (ix2 k n)) (fun k => x1 (ix2 k n)) k) (fun n => up 3 (i 0).val (fun k => x0 (ix2 k n)) (fun k => x1 (ix2 k n)) k) (fun n => x2 (ix2 k n)) n := by
  unfold out0_4
  rw [View.canon_unit_zero hz, View.ld_unit_zero (S := S256x4096) hz, View.ld_unit_zero (S := S8x4096) hz, View.ld_unit_zero (S := S256x2048) hz, View.ld_unit_zero (S := S4x4096) hz]
  rw [show k0_pay1 (BitVec.ofNat 32 (i 0).val) x2 x3 (k0_pay2 x0) (k0_pay3 x1) (k0_pay4 i x0 x1 x3) = concatenate S256x6144 1 [⟨S256x4096, truncf .bf16 (addf (addf (addf (mulf (broadcastTo S256x4096 (extractStridedSlice S1x4096 ![3, 0] x3 slices_S4x4096_o3_0_S1x4096) broadcasts_S1x4096_S256x4096) (extf .f32 x0 bitsLt_bf16_f32))
    (mulf (broadcastTo S256x4096 (extractStridedSlice S1x4096 ![0, 0] x3 slices_S4x4096_o0_0_S1x4096) broadcasts_S1x4096_S256x4096) (upV 253#32 5#32 i x0 x1)))
    (mulf (broadcastTo S256x4096 (extractStridedSlice S1x4096 ![1, 0] x3 slices_S4x4096_o1_0_S1x4096) broadcasts_S1x4096_S256x4096) (upV 254#32 6#32 i x0 x1)))
    (mulf (broadcastTo S256x4096 (extractStridedSlice S1x4096 ![2, 0] x3 slices_S4x4096_o2_0_S1x4096) broadcasts_S1x4096_S256x4096) (upV 255#32 7#32 i x0 x1))) bitsLt_bf16_f32⟩, ⟨S256x2048, x2⟩] concatenates_S256x4096_S256x2048_S256x6144_d1 from rfl]
  unfold entry
  simp only [← upV_apply 3 (by decide) (by decide), ← upV_apply 2 (by decide) (by decide), ← upV_apply 1 (by decide) (by decide)]
  pointwise

/-- The block indices of the windows at every point of the grid. -/
theorem index_facts : ∀ t : Fin cfg0.N,
    win0_0.index t (0 : Fin 2) = t.val ∧ win0_0.index t (1 : Fin 2) = 0
    ∧ (t.val < 31 → win0_1.index t (0 : Fin 2) = 32 * (t.val + 1)) ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (grid0.coords t 0).val = t.val :=
  (by decide +kernel : ∀ t : Fin grid0.N, _)

/-- A block of the rows. -/
theorem blk0 (c : Dev nD) (t : Fin cfg0.N) (k : Fin 256) (n : Fin 4096) (r : Fin 8192) (hr : r.val = 256 * t.val + k.val) :
    (iblk m c 0 t (ix2 k n) : EReal) = m (c.tc.loc main_arg0) (ix2 r n) := by
  obtain ⟨h0a, h0b, -⟩ := index_facts t
  refine congrArg (m (c.tc.loc main_arg0)) (funext fun b => Fin.ext ?_)
  match b with
  | ⟨0, _⟩ => show win0_0.index t 0 * 256 + 1 * k.val = r.val; rw [h0a, hr]; omega
  | ⟨1, _⟩ => show win0_0.index t 1 * 4096 + 1 * n.val = n.val; rw [h0b]; omega

/-- The rows after a block. -/
theorem blk1 (c : Dev nD) (t : Fin cfg0.N) (k : Fin 8) (n : Fin 4096) (r : Fin 8192) (hr : r.val = 256 * (t.val + 1) + k.val) :
    (iblk m c 1 t (ix2 k n) : EReal) = m (c.tc.loc main_arg0) (ix2 r n) := by
  obtain ⟨-, -, h1a, h1b, -⟩ := index_facts t
  refine congrArg (m (c.tc.loc main_arg0)) (funext fun b => Fin.ext ?_)
  match b with
  | ⟨0, _⟩ => show win0_1.index t 0 * 8 + 1 * k.val = r.val; rw [h1a (by omega)]; omega
  | ⟨1, _⟩ => show win0_1.index t 1 * 4096 + 1 * n.val = n.val; rw [h1b]; omega

/-- A block of the output gate's part. -/
theorem blk2 (c : Dev nD) (t : Fin cfg0.N) (k : Fin 256) (n : Fin 2048) (r : Fin 8192) (hr : r.val = 256 * t.val + k.val) :
    (iblk m c 2 t (ix2 k n) : EReal) = m (c.tc.loc main_arg1) (ix2 r n) := by
  obtain ⟨-, -, -, -, h2a, h2b, -⟩ := index_facts t
  refine congrArg (m (c.tc.loc main_arg1)) (funext fun b => Fin.ext ?_)
  match b with
  | ⟨0, _⟩ => show win0_2.index t 0 * 256 + 1 * k.val = r.val; rw [h2a, hr]; omega
  | ⟨1, _⟩ => show win0_2.index t 1 * 2048 + 1 * n.val = n.val; rw [h2b]; omega

/-- The taps are whole at every point. -/
theorem blk3 (c : Dev nD) (t : Fin cfg0.N) (k : Fin 4) (n : Fin 4096) :
    (iblk m c 3 t (ix2 k n) : EReal) = m (c.tc.loc main_arg2) (ix2 k n) := by
  obtain ⟨-, -, -, -, -, -, h3a, h3b, -⟩ := index_facts t
  refine congrArg (m (c.tc.loc main_arg2)) (funext fun b => Fin.ext ?_)
  match b with
  | ⟨0, _⟩ => show win0_3.index t 0 * 4 + 1 * k.val = k.val; rw [h3a]; omega
  | ⟨1, _⟩ => show win0_3.index t 1 * 4096 + 1 * n.val = n.val; rw [h3b]; omega

/-- What a point writes back is its block of the whole result. -/
theorem flushed_G (c : Dev nD) (t : Fin cfg0.N) :
    (dats m 0 c).flushed 4 t = ((cfg0.win 4).blk t).view.read (Elt Ideal) (G m c) := by
  obtain ⟨-, -, -, -, -, -, -, -, h4a, h4b, ht⟩ := index_facts t
  rw [Value.flushed4]
  funext y
  rw [View.read_apply]
  show (out0_4 (grid0.coords t) (iblk m c 0 t) (iblk m c 1 t) (iblk m c 2 t) (iblk m c 3 t) y : EReal) = G m c (((cfg0.win 4).blk t).view.emb y)
  have hN : t.val < 32 := N_0 ▸ t.isLt
  have e : (((cfg0.win 4).blk t).view.emb y : S8192x6144.Idx) = ix2 (⟨256 * t.val + (y 0 : Nat), by have : (y 0 : Nat) < 256 := (y 0).isLt; omega⟩ : Fin 8192) (y 1) := by
    funext b
    apply Fin.ext
    match b with
    | ⟨0, _⟩ => show win0_4.index t 0 * 256 + 1 * (y 0 : Nat) = 256 * t.val + (y 0 : Nat); rw [h4a]; omega
    | ⟨1, _⟩ => show win0_4.index t 1 * 6144 + 1 * (y 1 : Nat) = (y 1 : Nat); rw [h4b]; omega
  refine Eq.trans ?_ (congrArg (G m c) e).symm
  idx_vars y
  refine (out_apply _ _ _ _ _ _ _).trans ?_
  show _ = dpm _ _ _ (ix2 (⟨256 * t.val + y0.val, _⟩ : Fin 8192) y1)
  unfold dpm
  congr 1
  · funext n j
    exact blk3 m c t j n
  · funext n
    exact blk0 m c t y0 n _ rfl
  · funext n
    rw [ht]
    exact up_eq 1 t.val (by decide) hN _ _ _ (fun k r h => blk0 m c t k n r h) (fun k r h => blk1 m c t k n r h) y0 _ rfl
  · funext n
    rw [ht]
    exact up_eq 2 t.val (by decide) hN _ _ _ (fun k r h => blk0 m c t k n r h) (fun k r h => blk1 m c t k n r h) y0 _ rfl
  · funext n
    rw [ht]
    exact up_eq 3 t.val (by decide) hN _ _ _ (fun k r h => blk0 m c t k n r h) (fun k r h => blk1 m c t k n r h) y0 _ rfl
  · funext n
    exact blk2 m c t y0 n _ rfl

/-- The result array after the run is the whole result. -/
theorem final (c : Dev nD) : (dats m 0 c).arrAt 4 cfg0.N = G m c :=
  (dats m 0 c).arrAt_eq_of_cover 4 (G m c) (fun t _ => flushed_G m c t) fun i => by
    have h0 : (i 0 : Nat) < 8192 := (i 0).isLt
    have h1 : (i 1 : Nat) < 6144 := (i 1).isLt
    obtain ⟨t, hf, ha⟩ := (by decide +kernel : ∀ a : Fin 32, ∃ t : Fin grid0.N, (cfg0.win 4).flush t = true ∧ t.val = a.val) ⟨(i 0 : Nat) / 256, by omega⟩
    obtain ⟨-, -, -, -, -, -, -, -, h4a, h4b, -⟩ := index_facts t
    refine ⟨t, hf, ?_⟩
    show i ∈ ((View.whole main_v0).slice (win0_4.rect t)).set
    rw [View.set_slice_whole, Rect.mem_set_unit]
    intro b
    match b with
    | ⟨0, _⟩ => show win0_4.index t 0 * 256 ≤ (i 0 : Nat) ∧ (i 0 : Nat) < win0_4.index t 0 * 256 + 256
                rw [h4a, ha]; dsimp only; omega
    | ⟨1, _⟩ => show win0_4.index t 1 * 6144 ≤ (i 1 : Nat) ∧ (i 1 : Nat) < win0_4.index t 1 * 6144 + 6144
                rw [h4b]; omega

end Cert.GdnConvBwdIdeal.Hand

namespace Cert.Hand

open Idealize.ShloMosaic Idealize.SL.Sem

open Cert.GdnConvBwdRefIdeal Cert.GdnConvBwdRefIdeal.Gen Idealize.ShloMosaic.StableHlo in
/-- The host's gradient at an index. -/
theorem gdnConvBwd_ref (x0 : FVec Ideal S8192x4096 .bf16) (x1 : FVec Ideal S8192x2048 .bf16) (x2 : FVec Ideal S4x4096 .f32) (i : S8192x6144.Idx) :
    (concatenate S8192x6144 1 [⟨S8192x4096, (truncf .bf16 (extractStridedSlice S8192x4096 ![3, 0] (addf (addf (addf (pad S8195x4096 ![3, 0] ![0, 0] ![0, 0] (mulf (extf .f32 x0 bitsLt_bf16_f32) (broadcastInDim S8192x4096 ![0, 1] bcast_S1x4096_S8192x4096_0_1 (broadcastInDim S1x4096 ![1] bcast_S4096_S1x4096_1 (shapeCast _ (extractStridedSlice S1x4096 ![3, 0] x2 slices_S4x4096_S1x4096_3_0) shapeCasts_S1x4096_S4096)))) (constant S_ .f32 0x00000000#32) pads_S8192x4096_S8195x4096_300_000 h_S_)
      (pad S8195x4096 ![2, 0] ![1, 0] ![0, 0] (mulf (extf .f32 x0 bitsLt_bf16_f32) (broadcastInDim S8192x4096 ![0, 1] bcast_S1x4096_S8192x4096_0_1 (broadcastInDim S1x4096 ![1] bcast_S4096_S1x4096_1 (shapeCast _ (extractStridedSlice S1x4096 ![2, 0] x2 slices_S4x4096_S1x4096_2_0) shapeCasts_S1x4096_S4096)))) (constant S_ .f32 0x00000000#32) pads_S8192x4096_S8195x4096_210_000 h_S_))
      (pad S8195x4096 ![1, 0] ![2, 0] ![0, 0] (mulf (extf .f32 x0 bitsLt_bf16_f32) (broadcastInDim S8192x4096 ![0, 1] bcast_S1x4096_S8192x4096_0_1 (broadcastInDim S1x4096 ![1] bcast_S4096_S1x4096_1 (shapeCast _ (extractStridedSlice S1x4096 ![1, 0] x2 slices_S4x4096_S1x4096_1_0) shapeCasts_S1x4096_S4096)))) (constant S_ .f32 0x00000000#32) pads_S8192x4096_S8195x4096_120_000 h_S_))
      (pad S8195x4096 ![0, 0] ![3, 0] ![0, 0] (mulf (extf .f32 x0 bitsLt_bf16_f32) (broadcastInDim S8192x4096 ![0, 1] bcast_S1x4096_S8192x4096_0_1 (broadcastInDim S1x4096 ![1] bcast_S4096_S1x4096_1 (shapeCast _ (extractStridedSlice S1x4096 ![0, 0] x2 slices_S4x4096_S1x4096_0_0) shapeCasts_S1x4096_S4096)))) (constant S_ .f32 0x00000000#32) pads_S8192x4096_S8195x4096_030_000 h_S_)) slices_S8195x4096_S8192x4096_3_0) bitsLt_bf16_f32)⟩, ⟨S8192x2048, x1⟩] concatenates_S8192x4096_S8192x2048_S8192x6144_d1 i : EReal) = Cert.GdnConvBwdIdeal.Hand.dpm x0 x1 x2 i := by
  idx_vars i
  unfold Cert.GdnConvBwdIdeal.Hand.dpm Cert.GdnConvBwdIdeal.Hand.entry Conv.ahead
  pointwise
  by_cases h : i1.val < 4096
  · simp only [h, dite_true, and_true, mul_comm (x2 _), dite_mul, zero_mul, Nat.add_comm 3 i0.val, show i0.val + 3 - 1 = i0.val + 2 from rfl, show i0.val + 3 - 2 = i0.val + 1 from rfl, show 1 ≤ i0.val + 3 from by omega, show 2 ≤ i0.val + 3 from by omega, true_and]
    ac_rfl
  · rw [dif_neg h, dif_neg h]

/-- The kernel's gradient and the host's are one array. -/
theorem algebraic_gdnConvBwd : Cert.algebraic_GdnConvBwdIdeal_GdnConvBwdRefIdeal := by
  intro m g m' g' _ hargs
  refine ⟨fun c => Cert.GdnConvBwdIdeal.Hand.G m c, ?_, ?_⟩
  · refine (θ_run Cert.GdnConvBwdIdeal.defs _ _).mono (fun r h c => ?_) (Cert.GdnConvBwdIdeal.Value.run_blocks m g)
    exact ⟨(h c).1.trans (Cert.GdnConvBwdIdeal.Hand.final m c), (h c).2⟩
  · refine (θ_run Cert.GdnConvBwdRefIdeal.defs _ _).mono (fun r h c => ?_) (Cert.GdnConvBwdRefIdeal.Value.run m' g')
    refine ⟨(h c).1.trans ?_, (h c).2⟩
    rw [(hargs c).1, (hargs c).2.1, (hargs c).2.2]
    exact funext fun i => gdnConvBwd_ref _ _ _ i

end Cert.Hand

end
-- ==== Proof.lean ====
module

public import proofs.«01_k».proof.Defs
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxRefIdeal
public import proofs.«01_k».proof.Proof.Gen.Up0
public import proofs.«01_k».proof.Proof.Gen.Up0.Skeleton
public import proofs.«01_k».proof.Proof.Gen.Up0.Launch
public import proofs.«01_k».proof.Proof.Gen.Up0.Points
public import proofs.«01_k».proof.Proof.Gen.Up0.Frame
public import proofs.«01_k».proof.Proof.Gen.Up0Ideal
public import proofs.«01_k».proof.Proof.Gen.Up0Ideal.Skeleton
public import proofs.«01_k».proof.Proof.Gen.Up0Ideal.Launch
public import proofs.«01_k».proof.Proof.Gen.Up0Ideal.Points
public import proofs.«01_k».proof.Proof.Gen.Up0Ideal.Frame
public import proofs.«01_k».proof.Proof.Gen.Up0RefIdeal
public import proofs.«01_k».proof.Proof.Gen.Up1
public import proofs.«01_k».proof.Proof.Gen.Up1.Skeleton
public import proofs.«01_k».proof.Proof.Gen.Up1.Launch
public import proofs.«01_k».proof.Proof.Gen.Up1.Points
public import proofs.«01_k».proof.Proof.Gen.Up1.Frame
public import proofs.«01_k».proof.Proof.Gen.Up1Ideal
public import proofs.«01_k».proof.Proof.Gen.Up1Ideal.Skeleton
public import proofs.«01_k».proof.Proof.Gen.Up1Ideal.Launch
public import proofs.«01_k».proof.Proof.Gen.Up1Ideal.Points
public import proofs.«01_k».proof.Proof.Gen.Up1Ideal.Frame
public import proofs.«01_k».proof.Proof.Gen.Up1RefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.GdnIn
public import proofs.«01_k».proof.Proof.Gen.GdnIn.Skeleton
public import proofs.«01_k».proof.Proof.Gen.GdnIn.Launch
public import proofs.«01_k».proof.Proof.Gen.GdnIn.Points
public import proofs.«01_k».proof.Proof.Gen.GdnIn.Frame
public import proofs.«01_k».proof.Proof.Gen.GdnInIdeal
public import proofs.«01_k».proof.Proof.Gen.GdnInIdeal.Skeleton
public import proofs.«01_k».proof.Proof.Gen.GdnInIdeal.Launch
public import proofs.«01_k».proof.Proof.Gen.GdnInIdeal.Points
public import proofs.«01_k».proof.Proof.Gen.GdnInIdeal.Frame
public import proofs.«01_k».proof.Proof.Gen.GdnInRefIdeal
public import proofs.«01_k».proof.Proof.Gen.GdnOut
public import proofs.«01_k».proof.Proof.Gen.GdnOut.Skeleton
public import proofs.«01_k».proof.Proof.Gen.GdnOut.Launch
public import proofs.«01_k».proof.Proof.Gen.GdnOut.Points
public import proofs.«01_k».proof.Proof.Gen.GdnOut.Frame
public import proofs.«01_k».proof.Proof.Gen.GdnOutIdeal
public import proofs.«01_k».proof.Proof.Gen.GdnOutIdeal.Skeleton
public import proofs.«01_k».proof.Proof.Gen.GdnOutIdeal.Launch
public import proofs.«01_k».proof.Proof.Gen.GdnOutIdeal.Points
public import proofs.«01_k».proof.Proof.Gen.GdnOutIdeal.Frame
public import proofs.«01_k».proof.Proof.Gen.GdnOutRefIdeal
public import proofs.«01_k».proof.Proof.Gen.GdnOutDx
public import proofs.«01_k».proof.Proof.Gen.GdnOutDx.Skeleton
public import proofs.«01_k».proof.Proof.Gen.GdnOutDx.Launch
public import proofs.«01_k».proof.Proof.Gen.GdnOutDx.Points
public import proofs.«01_k».proof.Proof.Gen.GdnOutDx.Frame
public import proofs.«01_k».proof.Proof.Gen.GdnOutDxIdeal
public import proofs.«01_k».proof.Proof.Gen.GdnOutDxIdeal.Skeleton
public import proofs.«01_k».proof.Proof.Gen.GdnOutDxIdeal.Launch
public import proofs.«01_k».proof.Proof.Gen.GdnOutDxIdeal.Points
public import proofs.«01_k».proof.Proof.Gen.GdnOutDxIdeal.Frame
public import proofs.«01_k».proof.Proof.Gen.GdnOutDxRefIdeal
public import proofs.«01_k».proof.Proof.Gen.QProj
public import proofs.«01_k».proof.Proof.Gen.QProj.Skeleton
public import proofs.«01_k».proof.Proof.Gen.QProj.Launch
public import proofs.«01_k».proof.Proof.Gen.QProj.Points
public import proofs.«01_k».proof.Proof.Gen.QProj.Frame
public import proofs.«01_k».proof.Proof.Gen.QProjIdeal
public import proofs.«01_k».proof.Proof.Gen.QProjIdeal.Skeleton
public import proofs.«01_k».proof.Proof.Gen.QProjIdeal.Launch
public import proofs.«01_k».proof.Proof.Gen.QProjIdeal.Points
public import proofs.«01_k».proof.Proof.Gen.QProjIdeal.Frame
public import proofs.«01_k».proof.Proof.Gen.QProjRefIdeal
public import proofs.«01_k».proof.Proof.Gen.KvProj
public import proofs.«01_k».proof.Proof.Gen.KvProj.Skeleton
public import proofs.«01_k».proof.Proof.Gen.KvProj.Launch
public import proofs.«01_k».proof.Proof.Gen.KvProj.Points
public import proofs.«01_k».proof.Proof.Gen.KvProj.Frame
public import proofs.«01_k».proof.Proof.Gen.KvProjIdeal
public import proofs.«01_k».proof.Proof.Gen.KvProjIdeal.Skeleton
public import proofs.«01_k».proof.Proof.Gen.KvProjIdeal.Launch
public import proofs.«01_k».proof.Proof.Gen.KvProjIdeal.Points
public import proofs.«01_k».proof.Proof.Gen.KvProjIdeal.Frame
public import proofs.«01_k».proof.Proof.Gen.KvProjRefIdeal
public import proofs.«01_k».proof.Proof.Gen.OProj
public import proofs.«01_k».proof.Proof.Gen.OProj.Skeleton
public import proofs.«01_k».proof.Proof.Gen.OProj.Launch
public import proofs.«01_k».proof.Proof.Gen.OProj.Points
public import proofs.«01_k».proof.Proof.Gen.OProj.Frame
public import proofs.«01_k».proof.Proof.Gen.OProjIdeal
public import proofs.«01_k».proof.Proof.Gen.OProjIdeal.Skeleton
public import proofs.«01_k».proof.Proof.Gen.OProjIdeal.Launch
public import proofs.«01_k».proof.Proof.Gen.OProjIdeal.Points
public import proofs.«01_k».proof.Proof.Gen.OProjIdeal.Frame
public import proofs.«01_k».proof.Proof.Gen.OProjRefIdeal
public import proofs.«01_k».proof.Proof.Gen.OProjDx
public import proofs.«01_k».proof.Proof.Gen.OProjDx.Skeleton
public import proofs.«01_k».proof.Proof.Gen.OProjDx.Launch
public import proofs.«01_k».proof.Proof.Gen.OProjDx.Points
public import proofs.«01_k».proof.Proof.Gen.OProjDx.Frame
public import proofs.«01_k».proof.Proof.Gen.OProjDxIdeal
public import proofs.«01_k».proof.Proof.Gen.OProjDxIdeal.Skeleton
public import proofs.«01_k».proof.Proof.Gen.OProjDxIdeal.Launch
public import proofs.«01_k».proof.Proof.Gen.OProjDxIdeal.Points
public import proofs.«01_k».proof.Proof.Gen.OProjDxIdeal.Frame
public import proofs.«01_k».proof.Proof.Gen.OProjDxRefIdeal
public import proofs.«01_k».proof.Proof.Gen.QDw
public import proofs.«01_k».proof.Proof.Gen.QDw.Skeleton
public import proofs.«01_k».proof.Proof.Gen.QDw.Launch
public import proofs.«01_k».proof.Proof.Gen.QDw.Points
public import proofs.«01_k».proof.Proof.Gen.QDw.Frame
public import proofs.«01_k».proof.Proof.Gen.QDwIdeal
public import proofs.«01_k».proof.Proof.Gen.QDwIdeal.Skeleton
public import proofs.«01_k».proof.Proof.Gen.QDwIdeal.Launch
public import proofs.«01_k».proof.Proof.Gen.QDwIdeal.Points
public import proofs.«01_k».proof.Proof.Gen.QDwIdeal.Frame
public import proofs.«01_k».proof.Proof.Gen.QDwRefIdeal
public import proofs.«01_k».proof.Proof.Gen.KvDw
public import proofs.«01_k».proof.Proof.Gen.KvDw.Skeleton
public import proofs.«01_k».proof.Proof.Gen.KvDw.Launch
public import proofs.«01_k».proof.Proof.Gen.KvDw.Points
public import proofs.«01_k».proof.Proof.Gen.KvDw.Frame
public import proofs.«01_k».proof.Proof.Gen.KvDwIdeal
public import proofs.«01_k».proof.Proof.Gen.KvDwIdeal.Skeleton
public import proofs.«01_k».proof.Proof.Gen.KvDwIdeal.Launch
public import proofs.«01_k».proof.Proof.Gen.KvDwIdeal.Points
public import proofs.«01_k».proof.Proof.Gen.KvDwIdeal.Frame
public import proofs.«01_k».proof.Proof.Gen.KvDwRefIdeal
public import proofs.«01_k».proof.Proof.Gen.ODw
public import proofs.«01_k».proof.Proof.Gen.ODw.Skeleton
public import proofs.«01_k».proof.Proof.Gen.ODw.Launch
public import proofs.«01_k».proof.Proof.Gen.ODw.Points
public import proofs.«01_k».proof.Proof.Gen.ODw.Frame
public import proofs.«01_k».proof.Proof.Gen.ODwIdeal
public import proofs.«01_k».proof.Proof.Gen.ODwIdeal.Skeleton
public import proofs.«01_k».proof.Proof.Gen.ODwIdeal.Launch
public import proofs.«01_k».proof.Proof.Gen.ODwIdeal.Points
public import proofs.«01_k».proof.Proof.Gen.ODwIdeal.Frame
public import proofs.«01_k».proof.Proof.Gen.ODwRefIdeal
public import proofs.«01_k».proof.Proof.Gen.GdnOutDw
public import proofs.«01_k».proof.Proof.Gen.GdnOutDw.Skeleton
public import proofs.«01_k».proof.Proof.Gen.GdnOutDw.Launch
public import proofs.«01_k».proof.Proof.Gen.GdnOutDw.Points
public import proofs.«01_k».proof.Proof.Gen.GdnOutDw.Frame
public import proofs.«01_k».proof.Proof.Gen.GdnOutDwIdeal
public import proofs.«01_k».proof.Proof.Gen.GdnOutDwIdeal.Skeleton
public import proofs.«01_k».proof.Proof.Gen.GdnOutDwIdeal.Launch
public import proofs.«01_k».proof.Proof.Gen.GdnOutDwIdeal.Points
public import proofs.«01_k».proof.Proof.Gen.GdnOutDwIdeal.Frame
public import proofs.«01_k».proof.Proof.Gen.GdnOutDwRefIdeal
public import proofs.«01_k».proof.Proof.Gen.GdnInDw
public import proofs.«01_k».proof.Proof.Gen.GdnInDw.Skeleton
public import proofs.«01_k».proof.Proof.Gen.GdnInDw.Launch
public import proofs.«01_k».proof.Proof.Gen.GdnInDw.Points
public import proofs.«01_k».proof.Proof.Gen.GdnInDw.Frame
public import proofs.«01_k».proof.Proof.Gen.GdnInDwIdeal
public import proofs.«01_k».proof.Proof.Gen.GdnInDwIdeal.Skeleton
public import proofs.«01_k».proof.Proof.Gen.GdnInDwIdeal.Launch
public import proofs.«01_k».proof.Proof.Gen.GdnInDwIdeal.Points
public import proofs.«01_k».proof.Proof.Gen.GdnInDwIdeal.Frame
public import proofs.«01_k».proof.Proof.Gen.GdnInDwRefIdeal
public import proofs.«01_k».proof.Proof.Gen.Up1Dw
public import proofs.«01_k».proof.Proof.Gen.Up1Dw.Skeleton
public import proofs.«01_k».proof.Proof.Gen.Up1Dw.Launch
public import proofs.«01_k».proof.Proof.Gen.Up1Dw.Points
public import proofs.«01_k».proof.Proof.Gen.Up1Dw.Frame
public import proofs.«01_k».proof.Proof.Gen.Up1DwIdeal
public import proofs.«01_k».proof.Proof.Gen.Up1DwIdeal.Skeleton
public import proofs.«01_k».proof.Proof.Gen.Up1DwIdeal.Launch
public import proofs.«01_k».proof.Proof.Gen.Up1DwIdeal.Points
public import proofs.«01_k».proof.Proof.Gen.Up1DwIdeal.Frame
public import proofs.«01_k».proof.Proof.Gen.Up1DwRefIdeal
public import proofs.«01_k».proof.Proof.Gen.Up0Dw
public import proofs.«01_k».proof.Proof.Gen.Up0Dw.Skeleton
public import proofs.«01_k».proof.Proof.Gen.Up0Dw.Launch
public import proofs.«01_k».proof.Proof.Gen.Up0Dw.Points
public import proofs.«01_k».proof.Proof.Gen.Up0Dw.Frame
public import proofs.«01_k».proof.Proof.Gen.Up0DwIdeal
public import proofs.«01_k».proof.Proof.Gen.Up0DwIdeal.Skeleton
public import proofs.«01_k».proof.Proof.Gen.Up0DwIdeal.Launch
public import proofs.«01_k».proof.Proof.Gen.Up0DwIdeal.Points
public import proofs.«01_k».proof.Proof.Gen.Up0DwIdeal.Frame
public import proofs.«01_k».proof.Proof.Gen.Up0DwRefIdeal
public import proofs.«01_k».proof.Proof.Gen.Down1Dw
public import proofs.«01_k».proof.Proof.Gen.Down1Dw.Skeleton
public import proofs.«01_k».proof.Proof.Gen.Down1Dw.Launch
public import proofs.«01_k».proof.Proof.Gen.Down1Dw.Points
public import proofs.«01_k».proof.Proof.Gen.Down1Dw.Frame
public import proofs.«01_k».proof.Proof.Gen.Down1DwIdeal
public import proofs.«01_k».proof.Proof.Gen.Down1DwIdeal.Skeleton
public import proofs.«01_k».proof.Proof.Gen.Down1DwIdeal.Launch
public import proofs.«01_k».proof.Proof.Gen.Down1DwIdeal.Points
public import proofs.«01_k».proof.Proof.Gen.Down1DwIdeal.Frame
public import proofs.«01_k».proof.Proof.Gen.Down1DwRefIdeal
public import proofs.«01_k».proof.Proof.Gen.Down0Dw
public import proofs.«01_k».proof.Proof.Gen.Down0Dw.Skeleton
public import proofs.«01_k».proof.Proof.Gen.Down0Dw.Launch
public import proofs.«01_k».proof.Proof.Gen.Down0Dw.Points
public import proofs.«01_k».proof.Proof.Gen.Down0Dw.Frame
public import proofs.«01_k».proof.Proof.Gen.Down0DwIdeal
public import proofs.«01_k».proof.Proof.Gen.Down0DwIdeal.Skeleton
public import proofs.«01_k».proof.Proof.Gen.Down0DwIdeal.Launch
public import proofs.«01_k».proof.Proof.Gen.Down0DwIdeal.Points
public import proofs.«01_k».proof.Proof.Gen.Down0DwIdeal.Frame
public import proofs.«01_k».proof.Proof.Gen.Down0DwRefIdeal
public import proofs.«01_k».proof.Proof.Gen.Up1Dx
public import proofs.«01_k».proof.Proof.Gen.Up1Dx.Skeleton
public import proofs.«01_k».proof.Proof.Gen.Up1Dx.Launch
public import proofs.«01_k».proof.Proof.Gen.Up1Dx.Points
public import proofs.«01_k».proof.Proof.Gen.Up1Dx.Frame
public import proofs.«01_k».proof.Proof.Gen.Up1DxIdeal
public import proofs.«01_k».proof.Proof.Gen.Up1DxIdeal.Skeleton
public import proofs.«01_k».proof.Proof.Gen.Up1DxIdeal.Launch
public import proofs.«01_k».proof.Proof.Gen.Up1DxIdeal.Points
public import proofs.«01_k».proof.Proof.Gen.Up1DxIdeal.Frame
public import proofs.«01_k».proof.Proof.Gen.Up1DxRefIdeal
public import proofs.«01_k».proof.Proof.Gen.Up0Dx
public import proofs.«01_k».proof.Proof.Gen.Up0Dx.Skeleton
public import proofs.«01_k».proof.Proof.Gen.Up0Dx.Launch
public import proofs.«01_k».proof.Proof.Gen.Up0Dx.Points
public import proofs.«01_k».proof.Proof.Gen.Up0Dx.Frame
public import proofs.«01_k».proof.Proof.Gen.Up0DxIdeal
public import proofs.«01_k».proof.Proof.Gen.Up0DxIdeal.Skeleton
public import proofs.«01_k».proof.Proof.Gen.Up0DxIdeal.Launch
public import proofs.«01_k».proof.Proof.Gen.Up0DxIdeal.Points
public import proofs.«01_k».proof.Proof.Gen.Up0DxIdeal.Frame
public import proofs.«01_k».proof.Proof.Gen.Up0DxRefIdeal
public import proofs.«01_k».proof.Proof.Gen.QProjDx
public import proofs.«01_k».proof.Proof.Gen.QProjDx.Skeleton
public import proofs.«01_k».proof.Proof.Gen.QProjDx.Launch
public import proofs.«01_k».proof.Proof.Gen.QProjDx.Points
public import proofs.«01_k».proof.Proof.Gen.QProjDx.Frame
public import proofs.«01_k».proof.Proof.Gen.QProjDxIdeal
public import proofs.«01_k».proof.Proof.Gen.QProjDxIdeal.Skeleton
public import proofs.«01_k».proof.Proof.Gen.QProjDxIdeal.Launch
public import proofs.«01_k».proof.Proof.Gen.QProjDxIdeal.Points
public import proofs.«01_k».proof.Proof.Gen.QProjDxIdeal.Frame
public import proofs.«01_k».proof.Proof.Gen.QProjDxRefIdeal
public import proofs.«01_k».proof.Proof.Gen.KvProjDx
public import proofs.«01_k».proof.Proof.Gen.KvProjDx.Skeleton
public import proofs.«01_k».proof.Proof.Gen.KvProjDx.Launch
public import proofs.«01_k».proof.Proof.Gen.KvProjDx.Points
public import proofs.«01_k».proof.Proof.Gen.KvProjDx.Frame
public import proofs.«01_k».proof.Proof.Gen.KvProjDxIdeal
public import proofs.«01_k».proof.Proof.Gen.KvProjDxIdeal.Skeleton
public import proofs.«01_k».proof.Proof.Gen.KvProjDxIdeal.Launch
public import proofs.«01_k».proof.Proof.Gen.KvProjDxIdeal.Points
public import proofs.«01_k».proof.Proof.Gen.KvProjDxIdeal.Frame
public import proofs.«01_k».proof.Proof.Gen.KvProjDxRefIdeal
public import proofs.«01_k».proof.Proof.Gen.GdnInBaDx
public import proofs.«01_k».proof.Proof.Gen.GdnInBaDx.Skeleton
public import proofs.«01_k».proof.Proof.Gen.GdnInBaDx.Launch
public import proofs.«01_k».proof.Proof.Gen.GdnInBaDx.Points
public import proofs.«01_k».proof.Proof.Gen.GdnInBaDx.Frame
public import proofs.«01_k».proof.Proof.Gen.GdnInBaDxIdeal
public import proofs.«01_k».proof.Proof.Gen.GdnInBaDxIdeal.Skeleton
public import proofs.«01_k».proof.Proof.Gen.GdnInBaDxIdeal.Launch
public import proofs.«01_k».proof.Proof.Gen.GdnInBaDxIdeal.Points
public import proofs.«01_k».proof.Proof.Gen.GdnInBaDxIdeal.Frame
public import proofs.«01_k».proof.Proof.Gen.GdnInBaDxRefIdeal
public import proofs.«01_k».proof.Proof.Gen.AdamAWIn
public import proofs.«01_k».proof.Proof.Gen.AdamAWIn.Skeleton
public import proofs.«01_k».proof.Proof.Gen.AdamAWIn.Launch
public import proofs.«01_k».proof.Proof.Gen.AdamAWIn.Points
public import proofs.«01_k».proof.Proof.Gen.AdamAWIn.Frame
public import proofs.«01_k».proof.Proof.Gen.AdamAWInIdeal
public import proofs.«01_k».proof.Proof.Gen.AdamAWInIdeal.Skeleton
public import proofs.«01_k».proof.Proof.Gen.AdamAWInIdeal.Launch
public import proofs.«01_k».proof.Proof.Gen.AdamAWInIdeal.Points
public import proofs.«01_k».proof.Proof.Gen.AdamAWInIdeal.Frame
public import proofs.«01_k».proof.Proof.Gen.AdamAWInRefIdeal
public import proofs.«01_k».proof.Proof.Gen.AdamAWOut
public import proofs.«01_k».proof.Proof.Gen.AdamAWOut.Skeleton
public import proofs.«01_k».proof.Proof.Gen.AdamAWOut.Launch
public import proofs.«01_k».proof.Proof.Gen.AdamAWOut.Points
public import proofs.«01_k».proof.Proof.Gen.AdamAWOut.Frame
public import proofs.«01_k».proof.Proof.Gen.AdamAWOutIdeal
public import proofs.«01_k».proof.Proof.Gen.AdamAWOutIdeal.Skeleton
public import proofs.«01_k».proof.Proof.Gen.AdamAWOutIdeal.Launch
public import proofs.«01_k».proof.Proof.Gen.AdamAWOutIdeal.Points
public import proofs.«01_k».proof.Proof.Gen.AdamAWOutIdeal.Frame
public import proofs.«01_k».proof.Proof.Gen.AdamAWOutRefIdeal
public import proofs.«01_k».proof.Proof.Gen.AdamWKv
public import proofs.«01_k».proof.Proof.Gen.AdamWKv.Skeleton
public import proofs.«01_k».proof.Proof.Gen.AdamWKv.Launch
public import proofs.«01_k».proof.Proof.Gen.AdamWKv.Points
public import proofs.«01_k».proof.Proof.Gen.AdamWKv.Frame
public import proofs.«01_k».proof.Proof.Gen.AdamWKvIdeal
public import proofs.«01_k».proof.Proof.Gen.AdamWKvIdeal.Skeleton
public import proofs.«01_k».proof.Proof.Gen.AdamWKvIdeal.Launch
public import proofs.«01_k».proof.Proof.Gen.AdamWKvIdeal.Points
public import proofs.«01_k».proof.Proof.Gen.AdamWKvIdeal.Frame
public import proofs.«01_k».proof.Proof.Gen.AdamWKvRefIdeal
public import proofs.«01_k».proof.Proof.Gen.AdamBWQ
public import proofs.«01_k».proof.Proof.Gen.AdamBWQ.Skeleton
public import proofs.«01_k».proof.Proof.Gen.AdamBWQ.Launch
public import proofs.«01_k».proof.Proof.Gen.AdamBWQ.Points
public import proofs.«01_k».proof.Proof.Gen.AdamBWQ.Frame
public import proofs.«01_k».proof.Proof.Gen.AdamBWQIdeal
public import proofs.«01_k».proof.Proof.Gen.AdamBWQIdeal.Skeleton
public import proofs.«01_k».proof.Proof.Gen.AdamBWQIdeal.Launch
public import proofs.«01_k».proof.Proof.Gen.AdamBWQIdeal.Points
public import proofs.«01_k».proof.Proof.Gen.AdamBWQIdeal.Frame
public import proofs.«01_k».proof.Proof.Gen.AdamBWQRefIdeal
public import proofs.«01_k».proof.Proof.Gen.AdamBWO
public import proofs.«01_k».proof.Proof.Gen.AdamBWO.Skeleton
public import proofs.«01_k».proof.Proof.Gen.AdamBWO.Launch
public import proofs.«01_k».proof.Proof.Gen.AdamBWO.Points
public import proofs.«01_k».proof.Proof.Gen.AdamBWO.Frame
public import proofs.«01_k».proof.Proof.Gen.AdamBWOIdeal
public import proofs.«01_k».proof.Proof.Gen.AdamBWOIdeal.Skeleton
public import proofs.«01_k».proof.Proof.Gen.AdamBWOIdeal.Launch
public import proofs.«01_k».proof.Proof.Gen.AdamBWOIdeal.Points
public import proofs.«01_k».proof.Proof.Gen.AdamBWOIdeal.Frame
public import proofs.«01_k».proof.Proof.Gen.AdamBWORefIdeal
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.GdnInBaDw
public import proofs.«01_k».proof.Proof.Gen.GdnInBaDw.Skeleton
public import proofs.«01_k».proof.Proof.Gen.GdnInBaDw.Launch
public import proofs.«01_k».proof.Proof.Gen.GdnInBaDw.Points
public import proofs.«01_k».proof.Proof.Gen.GdnInBaDw.Frame
public import proofs.«01_k».proof.Proof.Gen.GdnInBaDwIdeal
public import proofs.«01_k».proof.Proof.Gen.GdnInBaDwIdeal.Skeleton
public import proofs.«01_k».proof.Proof.Gen.GdnInBaDwIdeal.Launch
public import proofs.«01_k».proof.Proof.Gen.GdnInBaDwIdeal.Points
public import proofs.«01_k».proof.Proof.Gen.GdnInBaDwIdeal.Frame
public import proofs.«01_k».proof.Proof.Gen.GdnInBaDwRefIdeal
public import proofs.«01_k».proof.Proof.Gen.RelBiasDw
public import proofs.«01_k».proof.Proof.Gen.RelBiasDw.Skeleton
public import proofs.«01_k».proof.Proof.Gen.RelBiasDw.Launch
public import proofs.«01_k».proof.Proof.Gen.RelBiasDw.Points
public import proofs.«01_k».proof.Proof.Gen.RelBiasDw.Frame
public import proofs.«01_k».proof.Proof.Gen.RelBiasDwIdeal
public import proofs.«01_k».proof.Proof.Gen.RelBiasDwIdeal.Skeleton
public import proofs.«01_k».proof.Proof.Gen.RelBiasDwIdeal.Launch
public import proofs.«01_k».proof.Proof.Gen.RelBiasDwIdeal.Points
public import proofs.«01_k».proof.Proof.Gen.RelBiasDwIdeal.Frame
public import proofs.«01_k».proof.Proof.Gen.RelBiasDwRefIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.GnormBwd
public import proofs.«01_k».proof.Proof.Gen.GnormBwd.Skeleton
public import proofs.«01_k».proof.Proof.Gen.GnormBwd.Launch
public import proofs.«01_k».proof.Proof.Gen.GnormBwd.Points
public import proofs.«01_k».proof.Proof.Gen.GnormBwd.Frame
public import proofs.«01_k».proof.Proof.Gen.GnormBwdIdeal
public import proofs.«01_k».proof.Proof.Gen.GnormBwdIdeal.Skeleton
public import proofs.«01_k».proof.Proof.Gen.GnormBwdIdeal.Launch
public import proofs.«01_k».proof.Proof.Gen.GnormBwdIdeal.Points
public import proofs.«01_k».proof.Proof.Gen.GnormBwdIdeal.Frame
public import proofs.«01_k».proof.Proof.Gen.GnormBwdRefIdeal
public import proofs.«01_k».proof.Proof.Gen.FfnActBwd
public import proofs.«01_k».proof.Proof.Gen.FfnActBwd.Skeleton
public import proofs.«01_k».proof.Proof.Gen.FfnActBwd.Launch
public import proofs.«01_k».proof.Proof.Gen.FfnActBwd.Points
public import proofs.«01_k».proof.Proof.Gen.FfnActBwd.Frame
public import proofs.«01_k».proof.Proof.Gen.FfnActBwdIdeal
public import proofs.«01_k».proof.Proof.Gen.FfnActBwdIdeal.Skeleton
public import proofs.«01_k».proof.Proof.Gen.FfnActBwdIdeal.Launch
public import proofs.«01_k».proof.Proof.Gen.FfnActBwdIdeal.Points
public import proofs.«01_k».proof.Proof.Gen.FfnActBwdIdeal.Frame
public import proofs.«01_k».proof.Proof.Gen.FfnActBwdRefIdeal
public import proofs.«01_k».proof.Proof.Gen.GdnPreBwd
public import proofs.«01_k».proof.Proof.Gen.GdnPreBwd.Skeleton
public import proofs.«01_k».proof.Proof.Gen.GdnPreBwd.Launch
public import proofs.«01_k».proof.Proof.Gen.GdnPreBwd.Points
public import proofs.«01_k».proof.Proof.Gen.GdnPreBwd.Frame
public import proofs.«01_k».proof.Proof.Gen.GdnPreBwdIdeal
public import proofs.«01_k».proof.Proof.Gen.GdnPreBwdIdeal.Skeleton
public import proofs.«01_k».proof.Proof.Gen.GdnPreBwdIdeal.Launch
public import proofs.«01_k».proof.Proof.Gen.GdnPreBwdIdeal.Points
public import proofs.«01_k».proof.Proof.Gen.GdnPreBwdIdeal.Frame
public import proofs.«01_k».proof.Proof.Gen.GdnPreBwdRefIdeal
public import proofs.«01_k».proof.Proof.Gen.GdnInBa
public import proofs.«01_k».proof.Proof.Gen.GdnInBa.Skeleton
public import proofs.«01_k».proof.Proof.Gen.GdnInBa.Launch
public import proofs.«01_k».proof.Proof.Gen.GdnInBa.Points
public import proofs.«01_k».proof.Proof.Gen.GdnInBa.Frame
public import proofs.«01_k».proof.Proof.Gen.GdnInBaIdeal
public import proofs.«01_k».proof.Proof.Gen.GdnInBaIdeal.Skeleton
public import proofs.«01_k».proof.Proof.Gen.GdnInBaIdeal.Launch
public import proofs.«01_k».proof.Proof.Gen.GdnInBaIdeal.Points
public import proofs.«01_k».proof.Proof.Gen.GdnInBaIdeal.Frame
public import proofs.«01_k».proof.Proof.Gen.GdnInBaRefIdeal
public import proofs.«01_k».proof.Proof.Gen.FfnAct
public import proofs.«01_k».proof.Proof.Gen.FfnAct.Skeleton
public import proofs.«01_k».proof.Proof.Gen.FfnAct.Launch
public import proofs.«01_k».proof.Proof.Gen.FfnAct.Points
public import proofs.«01_k».proof.Proof.Gen.FfnAct.Frame
public import proofs.«01_k».proof.Proof.Gen.FfnActIdeal
public import proofs.«01_k».proof.Proof.Gen.FfnActIdeal.Skeleton
public import proofs.«01_k».proof.Proof.Gen.FfnActIdeal.Launch
public import proofs.«01_k».proof.Proof.Gen.FfnActIdeal.Points
public import proofs.«01_k».proof.Proof.Gen.FfnActIdeal.Frame
public import proofs.«01_k».proof.Proof.Gen.FfnActRefIdeal
public import proofs.«01_k».proof.Proof.Gen.Gnorm
public import proofs.«01_k».proof.Proof.Gen.Gnorm.Skeleton
public import proofs.«01_k».proof.Proof.Gen.Gnorm.Launch
public import proofs.«01_k».proof.Proof.Gen.Gnorm.Points
public import proofs.«01_k».proof.Proof.Gen.Gnorm.Frame
public import proofs.«01_k».proof.Proof.Gen.GnormIdeal
public import proofs.«01_k».proof.Proof.Gen.GnormIdeal.Skeleton
public import proofs.«01_k».proof.Proof.Gen.GnormIdeal.Launch
public import proofs.«01_k».proof.Proof.Gen.GnormIdeal.Points
public import proofs.«01_k».proof.Proof.Gen.GnormIdeal.Frame
public import proofs.«01_k».proof.Proof.Gen.GnormRefIdeal
public import proofs.«01_k».proof.Proof.Gen.RelBias
public import proofs.«01_k».proof.Proof.Gen.RelBias.Skeleton
public import proofs.«01_k».proof.Proof.Gen.RelBias.Launch
public import proofs.«01_k».proof.Proof.Gen.RelBias.Points
public import proofs.«01_k».proof.Proof.Gen.RelBias.Frame
public import proofs.«01_k».proof.Proof.Gen.RelBiasIdeal
public import proofs.«01_k».proof.Proof.Gen.RelBiasIdeal.Skeleton
public import proofs.«01_k».proof.Proof.Gen.RelBiasIdeal.Launch
public import proofs.«01_k».proof.Proof.Gen.RelBiasIdeal.Points
public import proofs.«01_k».proof.Proof.Gen.RelBiasIdeal.Frame
public import proofs.«01_k».proof.Proof.Gen.RelBiasRefIdeal
public import proofs.«01_k».proof.Proof.Gen.GdnInDx
public import proofs.«01_k».proof.Proof.Gen.GdnInDx.Skeleton
public import proofs.«01_k».proof.Proof.Gen.GdnInDx.Launch
public import proofs.«01_k».proof.Proof.Gen.GdnInDx.Points
public import proofs.«01_k».proof.Proof.Gen.GdnInDx.Frame
public import proofs.«01_k».proof.Proof.Gen.GdnInDxIdeal
public import proofs.«01_k».proof.Proof.Gen.GdnInDxIdeal.Skeleton
public import proofs.«01_k».proof.Proof.Gen.GdnInDxIdeal.Launch
public import proofs.«01_k».proof.Proof.Gen.GdnInDxIdeal.Points
public import proofs.«01_k».proof.Proof.Gen.GdnInDxIdeal.Frame
public import proofs.«01_k».proof.Proof.Gen.GdnInDxRefIdeal
public import proofs.«01_k».proof.Proof.Gen.FfnConvBwd
public import proofs.«01_k».proof.Proof.Gen.FfnConvBwd.Skeleton
public import proofs.«01_k».proof.Proof.Gen.FfnConvBwd.Launch
public import proofs.«01_k».proof.Proof.Gen.FfnConvBwd.Points
public import proofs.«01_k».proof.Proof.Gen.FfnConvBwd.Frame
public import proofs.«01_k».proof.Proof.Gen.FfnConvBwdIdeal
public import proofs.«01_k».proof.Proof.Gen.FfnConvBwdIdeal.Skeleton
public import proofs.«01_k».proof.Proof.Gen.FfnConvBwdIdeal.Launch
public import proofs.«01_k».proof.Proof.Gen.FfnConvBwdIdeal.Points
public import proofs.«01_k».proof.Proof.Gen.FfnConvBwdIdeal.Frame
public import proofs.«01_k».proof.Proof.Gen.FfnConvBwdRefIdeal
public import proofs.«01_k».proof.Proof.Gen.GdnConvBwd
public import proofs.«01_k».proof.Proof.Gen.GdnConvBwd.Skeleton
public import proofs.«01_k».proof.Proof.Gen.GdnConvBwd.Launch
public import proofs.«01_k».proof.Proof.Gen.GdnConvBwd.Points
public import proofs.«01_k».proof.Proof.Gen.GdnConvBwd.Frame
public import proofs.«01_k».proof.Proof.Gen.GdnConvBwdIdeal
public import proofs.«01_k».proof.Proof.Gen.GdnConvBwdIdeal.Skeleton
public import proofs.«01_k».proof.Proof.Gen.GdnConvBwdIdeal.Launch
public import proofs.«01_k».proof.Proof.Gen.GdnConvBwdIdeal.Points
public import proofs.«01_k».proof.Proof.Gen.GdnConvBwdIdeal.Frame
public import proofs.«01_k».proof.Proof.Gen.GdnConvBwdRefIdeal
public import proofs.«01_k».proof.Proof.Gen.Pre_finite
public import proofs.«01_k».proof.Proof.Gen.Pre_regular_decay
public import proofs.«01_k».proof.Proof.DownDxVal
public import proofs.«01_k».proof.Proof.Up0Val
public import proofs.«01_k».proof.Proof.Up1Val
public import proofs.«01_k».proof.Proof.DownVal
public import proofs.«01_k».proof.Proof.GdnInVal
public import proofs.«01_k».proof.Proof.GdnOutVal
public import proofs.«01_k».proof.Proof.GdnOutDxVal
public import proofs.«01_k».proof.Proof.QProjVal
public import proofs.«01_k».proof.Proof.KvProjVal
public import proofs.«01_k».proof.Proof.OProjVal
public import proofs.«01_k».proof.Proof.OProjDxVal
public import proofs.«01_k».proof.Proof.QDwVal
public import proofs.«01_k».proof.Proof.KvDwVal
public import proofs.«01_k».proof.Proof.ODwVal
public import proofs.«01_k».proof.Proof.GdnOutDwVal
public import proofs.«01_k».proof.Proof.GdnInDwVal
public import proofs.«01_k».proof.Proof.Up1DwVal
public import proofs.«01_k».proof.Proof.Up0DwVal
public import proofs.«01_k».proof.Proof.Down1DwVal
public import proofs.«01_k».proof.Proof.Down0DwVal
public import proofs.«01_k».proof.Proof.Up1DxVal
public import proofs.«01_k».proof.Proof.Up0DxVal
public import proofs.«01_k».proof.Proof.QProjDxVal
public import proofs.«01_k».proof.Proof.KvProjDxVal
public import proofs.«01_k».proof.Proof.GdnInBaDxVal
public import proofs.«01_k».proof.Proof.AdamAWInVal
public import proofs.«01_k».proof.Proof.AdamAWOutVal
public import proofs.«01_k».proof.Proof.AdamWKvVal
public import proofs.«01_k».proof.Proof.AdamBWQVal
public import proofs.«01_k».proof.Proof.AdamBWOVal
public import proofs.«01_k».proof.Proof.AdamUpVal
public import proofs.«01_k».proof.Proof.AdamDownVal
public import proofs.«01_k».proof.Proof.AdamSmallVal
public import proofs.«01_k».proof.Proof.GdnInBaDwVal
public import proofs.«01_k».proof.Proof.RelBiasDwVal
public import proofs.«01_k».proof.Proof.FinalVal
public import proofs.«01_k».proof.Proof.GnormBwdVal
public import proofs.«01_k».proof.Proof.FfnActBwdVal
public import proofs.«01_k».proof.Proof.GdnPreBwdVal
public import proofs.«01_k».proof.Proof.GdnInBaVal
public import proofs.«01_k».proof.Proof.FfnActVal
public import proofs.«01_k».proof.Proof.GnormVal
public import proofs.«01_k».proof.Proof.RelBiasVal
public import proofs.«01_k».proof.Proof.GdnInDxVal
public import proofs.«01_k».proof.Proof.FfnConvBwdVal
public import proofs.«01_k».proof.Proof.GdnConvBwdVal
public import Idealize.ShloMosaic.Adequacy
public import Idealize.ShloMosaic.Init

@[expose] public section

noncomputable section

namespace Cert.Proof

open Idealize.ShloMosaic Idealize.SL.Sem Cert.DownDx

theorem claim : Cert.Claim := ⟨Cert.DownDx.Gen.facts,
  Cert.DownDxIdeal.Gen.facts,
  Cert.DownDxRefIdeal.Gen.facts,
  Cert.Up0.Gen.facts,
  Cert.Up0Ideal.Gen.facts,
  Cert.Up0RefIdeal.Gen.facts,
  Cert.Up1.Gen.facts,
  Cert.Up1Ideal.Gen.facts,
  Cert.Up1RefIdeal.Gen.facts,
  Cert.Down.Gen.facts,
  Cert.DownIdeal.Gen.facts,
  Cert.DownRefIdeal.Gen.facts,
  Cert.GdnIn.Gen.facts,
  Cert.GdnInIdeal.Gen.facts,
  Cert.GdnInRefIdeal.Gen.facts,
  Cert.GdnOut.Gen.facts,
  Cert.GdnOutIdeal.Gen.facts,
  Cert.GdnOutRefIdeal.Gen.facts,
  Cert.GdnOutDx.Gen.facts,
  Cert.GdnOutDxIdeal.Gen.facts,
  Cert.GdnOutDxRefIdeal.Gen.facts,
  Cert.QProj.Gen.facts,
  Cert.QProjIdeal.Gen.facts,
  Cert.QProjRefIdeal.Gen.facts,
  Cert.KvProj.Gen.facts,
  Cert.KvProjIdeal.Gen.facts,
  Cert.KvProjRefIdeal.Gen.facts,
  Cert.OProj.Gen.facts,
  Cert.OProjIdeal.Gen.facts,
  Cert.OProjRefIdeal.Gen.facts,
  Cert.OProjDx.Gen.facts,
  Cert.OProjDxIdeal.Gen.facts,
  Cert.OProjDxRefIdeal.Gen.facts,
  Cert.QDw.Gen.facts,
  Cert.QDwIdeal.Gen.facts,
  Cert.QDwRefIdeal.Gen.facts,
  Cert.KvDw.Gen.facts,
  Cert.KvDwIdeal.Gen.facts,
  Cert.KvDwRefIdeal.Gen.facts,
  Cert.ODw.Gen.facts,
  Cert.ODwIdeal.Gen.facts,
  Cert.ODwRefIdeal.Gen.facts,
  Cert.GdnOutDw.Gen.facts,
  Cert.GdnOutDwIdeal.Gen.facts,
  Cert.GdnOutDwRefIdeal.Gen.facts,
  Cert.GdnInDw.Gen.facts,
  Cert.GdnInDwIdeal.Gen.facts,
  Cert.GdnInDwRefIdeal.Gen.facts,
  Cert.Up1Dw.Gen.facts,
  Cert.Up1DwIdeal.Gen.facts,
  Cert.Up1DwRefIdeal.Gen.facts,
  Cert.Up0Dw.Gen.facts,
  Cert.Up0DwIdeal.Gen.facts,
  Cert.Up0DwRefIdeal.Gen.facts,
  Cert.Down1Dw.Gen.facts,
  Cert.Down1DwIdeal.Gen.facts,
  Cert.Down1DwRefIdeal.Gen.facts,
  Cert.Down0Dw.Gen.facts,
  Cert.Down0DwIdeal.Gen.facts,
  Cert.Down0DwRefIdeal.Gen.facts,
  Cert.Up1Dx.Gen.facts,
  Cert.Up1DxIdeal.Gen.facts,
  Cert.Up1DxRefIdeal.Gen.facts,
  Cert.Up0Dx.Gen.facts,
  Cert.Up0DxIdeal.Gen.facts,
  Cert.Up0DxRefIdeal.Gen.facts,
  Cert.QProjDx.Gen.facts,
  Cert.QProjDxIdeal.Gen.facts,
  Cert.QProjDxRefIdeal.Gen.facts,
  Cert.KvProjDx.Gen.facts,
  Cert.KvProjDxIdeal.Gen.facts,
  Cert.KvProjDxRefIdeal.Gen.facts,
  Cert.GdnInBaDx.Gen.facts,
  Cert.GdnInBaDxIdeal.Gen.facts,
  Cert.GdnInBaDxRefIdeal.Gen.facts,
  Cert.AdamAWIn.Gen.facts,
  Cert.AdamAWInIdeal.Gen.facts,
  Cert.AdamAWInRefIdeal.Gen.facts,
  Cert.AdamAWOut.Gen.facts,
  Cert.AdamAWOutIdeal.Gen.facts,
  Cert.AdamAWOutRefIdeal.Gen.facts,
  Cert.AdamWKv.Gen.facts,
  Cert.AdamWKvIdeal.Gen.facts,
  Cert.AdamWKvRefIdeal.Gen.facts,
  Cert.AdamBWQ.Gen.facts,
  Cert.AdamBWQIdeal.Gen.facts,
  Cert.AdamBWQRefIdeal.Gen.facts,
  Cert.AdamBWO.Gen.facts,
  Cert.AdamBWOIdeal.Gen.facts,
  Cert.AdamBWORefIdeal.Gen.facts,
  Cert.AdamUp.Gen.facts,
  Cert.AdamUpIdeal.Gen.facts,
  Cert.AdamUpRefIdeal.Gen.facts,
  Cert.AdamDown.Gen.facts,
  Cert.AdamDownIdeal.Gen.facts,
  Cert.AdamDownRefIdeal.Gen.facts,
  Cert.AdamSmall.Gen.facts,
  Cert.AdamSmallIdeal.Gen.facts,
  Cert.AdamSmallRefIdeal.Gen.facts,
  Cert.GdnInBaDw.Gen.facts,
  Cert.GdnInBaDwIdeal.Gen.facts,
  Cert.GdnInBaDwRefIdeal.Gen.facts,
  Cert.RelBiasDw.Gen.facts,
  Cert.RelBiasDwIdeal.Gen.facts,
  Cert.RelBiasDwRefIdeal.Gen.facts,
  Cert.Final.Gen.facts,
  Cert.FinalIdeal.Gen.facts,
  Cert.FinalRefIdeal.Gen.facts,
  Cert.GnormBwd.Gen.facts,
  Cert.GnormBwdIdeal.Gen.facts,
  Cert.GnormBwdRefIdeal.Gen.facts,
  Cert.FfnActBwd.Gen.facts,
  Cert.FfnActBwdIdeal.Gen.facts,
  Cert.FfnActBwdRefIdeal.Gen.facts,
  Cert.GdnPreBwd.Gen.facts,
  Cert.GdnPreBwdIdeal.Gen.facts,
  Cert.GdnPreBwdRefIdeal.Gen.facts,
  Cert.GdnInBa.Gen.facts,
  Cert.GdnInBaIdeal.Gen.facts,
  Cert.GdnInBaRefIdeal.Gen.facts,
  Cert.FfnAct.Gen.facts,
  Cert.FfnActIdeal.Gen.facts,
  Cert.FfnActRefIdeal.Gen.facts,
  Cert.Gnorm.Gen.facts,
  Cert.GnormIdeal.Gen.facts,
  Cert.GnormRefIdeal.Gen.facts,
  Cert.RelBias.Gen.facts,
  Cert.RelBiasIdeal.Gen.facts,
  Cert.RelBiasRefIdeal.Gen.facts,
  Cert.GdnInDx.Gen.facts,
  Cert.GdnInDxIdeal.Gen.facts,
  Cert.GdnInDxRefIdeal.Gen.facts,
  Cert.FfnConvBwd.Gen.facts,
  Cert.FfnConvBwdIdeal.Gen.facts,
  Cert.FfnConvBwdRefIdeal.Gen.facts,
  Cert.GdnConvBwd.Gen.facts,
  Cert.GdnConvBwdIdeal.Gen.facts,
  Cert.GdnConvBwdRefIdeal.Gen.facts,
  Cert.Pre_finite.Gen.facts,
  Cert.Pre_regular_decay.Gen.facts,
  fun m ρ _ => Cert.DownDx.Gen.frame m ρ,
  fun m ρ _ => Cert.DownDxIdeal.Gen.frame m ρ,
  fun m ρ _ => (θ_run Cert.DownDxRefIdeal.defs _ _).mono
    (fun r h => ⟨fun c => (h c).2, Idealize.ShloMosaic.sem_eq_zero_of_no_sems (by decide) r.2⟩)
    (Cert.DownDxRefIdeal.Value.run m ρ),
  fun m ρ _ => Cert.Up0.Gen.frame m ρ,
  fun m ρ _ => Cert.Up0Ideal.Gen.frame m ρ,
  fun m ρ _ => (θ_run Cert.Up0RefIdeal.defs _ _).mono
    (fun r h => ⟨fun c => (h c).2, Idealize.ShloMosaic.sem_eq_zero_of_no_sems (by decide) r.2⟩)
    (Cert.Up0RefIdeal.Value.run m ρ),
  fun m ρ _ => Cert.Up1.Gen.frame m ρ,
  fun m ρ _ => Cert.Up1Ideal.Gen.frame m ρ,
  fun m ρ _ => (θ_run Cert.Up1RefIdeal.defs _ _).mono
    (fun r h => ⟨fun c => (h c).2, Idealize.ShloMosaic.sem_eq_zero_of_no_sems (by decide) r.2⟩)
    (Cert.Up1RefIdeal.Value.run m ρ),
  fun m ρ _ => Cert.Down.Gen.frame m ρ,
  fun m ρ _ => Cert.DownIdeal.Gen.frame m ρ,
  fun m ρ _ => (θ_run Cert.DownRefIdeal.defs _ _).mono
    (fun r h => ⟨fun c => (h c).2, Idealize.ShloMosaic.sem_eq_zero_of_no_sems (by decide) r.2⟩)
    (Cert.DownRefIdeal.Value.run m ρ),
  fun m ρ _ => Cert.GdnIn.Gen.frame m ρ,
  fun m ρ _ => Cert.GdnInIdeal.Gen.frame m ρ,
  fun m ρ _ => (θ_run Cert.GdnInRefIdeal.defs _ _).mono
    (fun r h => ⟨fun c => (h c).2, Idealize.ShloMosaic.sem_eq_zero_of_no_sems (by decide) r.2⟩)
    (Cert.GdnInRefIdeal.Value.run m ρ),
  fun m ρ _ => Cert.GdnOut.Gen.frame m ρ,
  fun m ρ _ => Cert.GdnOutIdeal.Gen.frame m ρ,
  fun m ρ _ => (θ_run Cert.GdnOutRefIdeal.defs _ _).mono
    (fun r h => ⟨fun c => (h c).2, Idealize.ShloMosaic.sem_eq_zero_of_no_sems (by decide) r.2⟩)
    (Cert.GdnOutRefIdeal.Value.run m ρ),
  fun m ρ _ => Cert.GdnOutDx.Gen.frame m ρ,
  fun m ρ _ => Cert.GdnOutDxIdeal.Gen.frame m ρ,
  fun m ρ _ => (θ_run Cert.GdnOutDxRefIdeal.defs _ _).mono
    (fun r h => ⟨fun c => (h c).2, Idealize.ShloMosaic.sem_eq_zero_of_no_sems (by decide) r.2⟩)
    (Cert.GdnOutDxRefIdeal.Value.run m ρ),
  fun m ρ _ => Cert.QProj.Gen.frame m ρ,
  fun m ρ _ => Cert.QProjIdeal.Gen.frame m ρ,
  fun m ρ _ => (θ_run Cert.QProjRefIdeal.defs _ _).mono
    (fun r h => ⟨fun c => (h c).2, Idealize.ShloMosaic.sem_eq_zero_of_no_sems (by decide) r.2⟩)
    (Cert.QProjRefIdeal.Value.run m ρ),
  fun m ρ _ => Cert.KvProj.Gen.frame m ρ,
  fun m ρ _ => Cert.KvProjIdeal.Gen.frame m ρ,
  fun m ρ _ => (θ_run Cert.KvProjRefIdeal.defs _ _).mono
    (fun r h => ⟨fun c => (h c).2, Idealize.ShloMosaic.sem_eq_zero_of_no_sems (by decide) r.2⟩)
    (Cert.KvProjRefIdeal.Value.run m ρ),
  fun m ρ _ => Cert.OProj.Gen.frame m ρ,
  fun m ρ _ => Cert.OProjIdeal.Gen.frame m ρ,
  fun m ρ _ => (θ_run Cert.OProjRefIdeal.defs _ _).mono
    (fun r h => ⟨fun c => (h c).2, Idealize.ShloMosaic.sem_eq_zero_of_no_sems (by decide) r.2⟩)
    (Cert.OProjRefIdeal.Value.run m ρ),
  fun m ρ _ => Cert.OProjDx.Gen.frame m ρ,
  fun m ρ _ => Cert.OProjDxIdeal.Gen.frame m ρ,
  fun m ρ _ => (θ_run Cert.OProjDxRefIdeal.defs _ _).mono
    (fun r h => ⟨fun c => (h c).2, Idealize.ShloMosaic.sem_eq_zero_of_no_sems (by decide) r.2⟩)
    (Cert.OProjDxRefIdeal.Value.run m ρ),
  fun m ρ _ => Cert.QDw.Gen.frame m ρ,
  fun m ρ _ => Cert.QDwIdeal.Gen.frame m ρ,
  fun m ρ _ => (θ_run Cert.QDwRefIdeal.defs _ _).mono
    (fun r h => ⟨fun c => (h c).2, Idealize.ShloMosaic.sem_eq_zero_of_no_sems (by decide) r.2⟩)
    (Cert.QDwRefIdeal.Value.run m ρ),
  fun m ρ _ => Cert.KvDw.Gen.frame m ρ,
  fun m ρ _ => Cert.KvDwIdeal.Gen.frame m ρ,
  fun m ρ _ => (θ_run Cert.KvDwRefIdeal.defs _ _).mono
    (fun r h => ⟨fun c => (h c).2, Idealize.ShloMosaic.sem_eq_zero_of_no_sems (by decide) r.2⟩)
    (Cert.KvDwRefIdeal.Value.run m ρ),
  fun m ρ _ => Cert.ODw.Gen.frame m ρ,
  fun m ρ _ => Cert.ODwIdeal.Gen.frame m ρ,
  fun m ρ _ => (θ_run Cert.ODwRefIdeal.defs _ _).mono
    (fun r h => ⟨fun c => (h c).2, Idealize.ShloMosaic.sem_eq_zero_of_no_sems (by decide) r.2⟩)
    (Cert.ODwRefIdeal.Value.run m ρ),
  fun m ρ _ => Cert.GdnOutDw.Gen.frame m ρ,
  fun m ρ _ => Cert.GdnOutDwIdeal.Gen.frame m ρ,
  fun m ρ _ => (θ_run Cert.GdnOutDwRefIdeal.defs _ _).mono
    (fun r h => ⟨fun c => (h c).2, Idealize.ShloMosaic.sem_eq_zero_of_no_sems (by decide) r.2⟩)
    (Cert.GdnOutDwRefIdeal.Value.run m ρ),
  fun m ρ _ => Cert.GdnInDw.Gen.frame m ρ,
  fun m ρ _ => Cert.GdnInDwIdeal.Gen.frame m ρ,
  fun m ρ _ => (θ_run Cert.GdnInDwRefIdeal.defs _ _).mono
    (fun r h => ⟨fun c => (h c).2, Idealize.ShloMosaic.sem_eq_zero_of_no_sems (by decide) r.2⟩)
    (Cert.GdnInDwRefIdeal.Value.run m ρ),
  fun m ρ _ => Cert.Up1Dw.Gen.frame m ρ,
  fun m ρ _ => Cert.Up1DwIdeal.Gen.frame m ρ,
  fun m ρ _ => (θ_run Cert.Up1DwRefIdeal.defs _ _).mono
    (fun r h => ⟨fun c => (h c).2, Idealize.ShloMosaic.sem_eq_zero_of_no_sems (by decide) r.2⟩)
    (Cert.Up1DwRefIdeal.Value.run m ρ),
  fun m ρ _ => Cert.Up0Dw.Gen.frame m ρ,
  fun m ρ _ => Cert.Up0DwIdeal.Gen.frame m ρ,
  fun m ρ _ => (θ_run Cert.Up0DwRefIdeal.defs _ _).mono
    (fun r h => ⟨fun c => (h c).2, Idealize.ShloMosaic.sem_eq_zero_of_no_sems (by decide) r.2⟩)
    (Cert.Up0DwRefIdeal.Value.run m ρ),
  fun m ρ _ => Cert.Down1Dw.Gen.frame m ρ,
  fun m ρ _ => Cert.Down1DwIdeal.Gen.frame m ρ,
  fun m ρ _ => (θ_run Cert.Down1DwRefIdeal.defs _ _).mono
    (fun r h => ⟨fun c => (h c).2, Idealize.ShloMosaic.sem_eq_zero_of_no_sems (by decide) r.2⟩)
    (Cert.Down1DwRefIdeal.Value.run m ρ),
  fun m ρ _ => Cert.Down0Dw.Gen.frame m ρ,
  fun m ρ _ => Cert.Down0DwIdeal.Gen.frame m ρ,
  fun m ρ _ => (θ_run Cert.Down0DwRefIdeal.defs _ _).mono
    (fun r h => ⟨fun c => (h c).2, Idealize.ShloMosaic.sem_eq_zero_of_no_sems (by decide) r.2⟩)
    (Cert.Down0DwRefIdeal.Value.run m ρ),
  fun m ρ _ => Cert.Up1Dx.Gen.frame m ρ,
  fun m ρ _ => Cert.Up1DxIdeal.Gen.frame m ρ,
  fun m ρ _ => (θ_run Cert.Up1DxRefIdeal.defs _ _).mono
    (fun r h => ⟨fun c => (h c).2.2, Idealize.ShloMosaic.sem_eq_zero_of_no_sems (by decide) r.2⟩)
    (Cert.Up1DxRefIdeal.Value.run m ρ),
  fun m ρ _ => Cert.Up0Dx.Gen.frame m ρ,
  fun m ρ _ => Cert.Up0DxIdeal.Gen.frame m ρ,
  fun m ρ _ => (θ_run Cert.Up0DxRefIdeal.defs _ _).mono
    (fun r h => ⟨fun c => (h c).2.2, Idealize.ShloMosaic.sem_eq_zero_of_no_sems (by decide) r.2⟩)
    (Cert.Up0DxRefIdeal.Value.run m ρ),
  fun m ρ _ => Cert.QProjDx.Gen.frame m ρ,
  fun m ρ _ => Cert.QProjDxIdeal.Gen.frame m ρ,
  fun m ρ _ => (θ_run Cert.QProjDxRefIdeal.defs _ _).mono
    (fun r h => ⟨fun c => (h c).2.2, Idealize.ShloMosaic.sem_eq_zero_of_no_sems (by decide) r.2⟩)
    (Cert.QProjDxRefIdeal.Value.run m ρ),
  fun m ρ _ => Cert.KvProjDx.Gen.frame m ρ,
  fun m ρ _ => Cert.KvProjDxIdeal.Gen.frame m ρ,
  fun m ρ _ => (θ_run Cert.KvProjDxRefIdeal.defs _ _).mono
    (fun r h => ⟨fun c => (h c).2.2, Idealize.ShloMosaic.sem_eq_zero_of_no_sems (by decide) r.2⟩)
    (Cert.KvProjDxRefIdeal.Value.run m ρ),
  fun m ρ _ => Cert.GdnInBaDx.Gen.frame m ρ,
  fun m ρ _ => Cert.GdnInBaDxIdeal.Gen.frame m ρ,
  fun m ρ _ => (θ_run Cert.GdnInBaDxRefIdeal.defs _ _).mono
    (fun r h => ⟨fun c => (h c).2.2, Idealize.ShloMosaic.sem_eq_zero_of_no_sems (by decide) r.2⟩)
    (Cert.GdnInBaDxRefIdeal.Value.run m ρ),
  fun m ρ _ => Cert.AdamAWIn.Gen.frame m ρ,
  fun m ρ _ => Cert.AdamAWInIdeal.Gen.frame m ρ,
  fun m ρ _ => (θ_run Cert.AdamAWInRefIdeal.defs _ _).mono
    (fun r h => ⟨fun c => (h c).2.2.2, Idealize.ShloMosaic.sem_eq_zero_of_no_sems (by decide) r.2⟩)
    (Cert.AdamAWInRefIdeal.Value.run m ρ),
  fun m ρ _ => Cert.AdamAWOut.Gen.frame m ρ,
  fun m ρ _ => Cert.AdamAWOutIdeal.Gen.frame m ρ,
  fun m ρ _ => (θ_run Cert.AdamAWOutRefIdeal.defs _ _).mono
    (fun r h => ⟨fun c => (h c).2.2.2, Idealize.ShloMosaic.sem_eq_zero_of_no_sems (by decide) r.2⟩)
    (Cert.AdamAWOutRefIdeal.Value.run m ρ),
  fun m ρ _ => Cert.AdamWKv.Gen.frame m ρ,
  fun m ρ _ => Cert.AdamWKvIdeal.Gen.frame m ρ,
  fun m ρ _ => (θ_run Cert.AdamWKvRefIdeal.defs _ _).mono
    (fun r h => ⟨fun c => (h c).2.2.2, Idealize.ShloMosaic.sem_eq_zero_of_no_sems (by decide) r.2⟩)
    (Cert.AdamWKvRefIdeal.Value.run m ρ),
  fun m ρ _ => Cert.AdamBWQ.Gen.frame m ρ,
  fun m ρ _ => Cert.AdamBWQIdeal.Gen.frame m ρ,
  fun m ρ _ => (θ_run Cert.AdamBWQRefIdeal.defs _ _).mono
    (fun r h => ⟨fun c => (h c).2.2.2, Idealize.ShloMosaic.sem_eq_zero_of_no_sems (by decide) r.2⟩)
    (Cert.AdamBWQRefIdeal.Value.run m ρ),
  fun m ρ _ => Cert.AdamBWO.Gen.frame m ρ,
  fun m ρ _ => Cert.AdamBWOIdeal.Gen.frame m ρ,
  fun m ρ _ => (θ_run Cert.AdamBWORefIdeal.defs _ _).mono
    (fun r h => ⟨fun c => (h c).2.2.2, Idealize.ShloMosaic.sem_eq_zero_of_no_sems (by decide) r.2⟩)
    (Cert.AdamBWORefIdeal.Value.run m ρ),
  fun m ρ _ => Cert.AdamUp.Gen.frame m ρ,
  fun m ρ _ => Cert.AdamUpIdeal.Gen.frame m ρ,
  fun m ρ _ => (θ_run Cert.AdamUpRefIdeal.defs _ _).mono
    (fun r h => ⟨fun c => (h c).2.2.2, Idealize.ShloMosaic.sem_eq_zero_of_no_sems (by decide) r.2⟩)
    (Cert.AdamUpRefIdeal.Value.run m ρ),
  fun m ρ _ => Cert.AdamDown.Gen.frame m ρ,
  fun m ρ _ => Cert.AdamDownIdeal.Gen.frame m ρ,
  fun m ρ _ => (θ_run Cert.AdamDownRefIdeal.defs _ _).mono
    (fun r h => ⟨fun c => (h c).2.2.2, Idealize.ShloMosaic.sem_eq_zero_of_no_sems (by decide) r.2⟩)
    (Cert.AdamDownRefIdeal.Value.run m ρ),
  fun m ρ _ => Cert.AdamSmall.Gen.frame m ρ,
  fun m ρ _ => Cert.AdamSmallIdeal.Gen.frame m ρ,
  fun m ρ _ => (θ_run Cert.AdamSmallRefIdeal.defs _ _).mono
    (fun r h => ⟨fun c => (h c).2.2.2, Idealize.ShloMosaic.sem_eq_zero_of_no_sems (by decide) r.2⟩)
    (Cert.AdamSmallRefIdeal.Value.run m ρ),
  fun m ρ _ => Cert.GdnInBaDw.Gen.frame m ρ,
  fun m ρ _ => Cert.GdnInBaDwIdeal.Gen.frame m ρ,
  fun m ρ _ => (θ_run Cert.GdnInBaDwRefIdeal.defs _ _).mono
    (fun r h => ⟨fun c => (h c).2, Idealize.ShloMosaic.sem_eq_zero_of_no_sems (by decide) r.2⟩)
    (Cert.GdnInBaDwRefIdeal.Value.run m ρ),
  fun m ρ _ => Cert.RelBiasDw.Gen.frame m ρ,
  fun m ρ _ => Cert.RelBiasDwIdeal.Gen.frame m ρ,
  fun m ρ _ => (θ_run Cert.RelBiasDwRefIdeal.defs _ _).mono
    (fun r h => ⟨fun c => (h c).2, Idealize.ShloMosaic.sem_eq_zero_of_no_sems (by decide) r.2⟩)
    (Cert.RelBiasDwRefIdeal.Value.run m ρ),
  fun m ρ _ => Cert.Final.Gen.frame m ρ,
  fun m ρ _ => Cert.FinalIdeal.Gen.frame m ρ,
  fun m ρ _ => (θ_run Cert.FinalRefIdeal.defs _ _).mono
    (fun r h => ⟨fun c => (h c).2.2.2, Idealize.ShloMosaic.sem_eq_zero_of_no_sems (by decide) r.2⟩)
    (Cert.FinalRefIdeal.Value.run m ρ),
  fun m ρ _ => Cert.GnormBwd.Gen.frame m ρ,
  fun m ρ _ => Cert.GnormBwdIdeal.Gen.frame m ρ,
  fun m ρ _ => (θ_run Cert.GnormBwdRefIdeal.defs _ _).mono
    (fun r h => ⟨fun c => (h c).2.2.2, Idealize.ShloMosaic.sem_eq_zero_of_no_sems (by decide) r.2⟩)
    (Cert.GnormBwdRefIdeal.Value.run m ρ),
  fun m ρ _ => Cert.FfnActBwd.Gen.frame m ρ,
  fun m ρ _ => Cert.FfnActBwdIdeal.Gen.frame m ρ,
  fun m ρ _ => Cert.FfnActBwdIdeal.Gen.frame m ρ,
  fun m ρ _ => (θ_run Cert.FfnActBwdRefIdeal.defs _ _).mono
    (fun r h => ⟨fun c => (h c).2.2.2, Idealize.ShloMosaic.sem_eq_zero_of_no_sems (by decide) r.2⟩)
    (Cert.FfnActBwdRefIdeal.Value.run m ρ),
  fun m ρ _ => (θ_run Cert.FfnActBwdRefIdeal.defs _ _).mono
    (fun r h => ⟨fun c => (h c).2.2.2, Idealize.ShloMosaic.sem_eq_zero_of_no_sems (by decide) r.2⟩)
    (Cert.FfnActBwdRefIdeal.Value.run m ρ),
  fun m ρ _ => Cert.GdnPreBwd.Gen.frame m ρ,
  fun m ρ _ => Cert.GdnPreBwdIdeal.Gen.frame m ρ,
  fun m ρ _ => Cert.GdnPreBwdIdeal.Gen.frame m ρ,
  fun m ρ _ => (θ_run Cert.GdnPreBwdRefIdeal.defs _ _).mono
    (fun r h => ⟨fun c => (h c).2.2, Idealize.ShloMosaic.sem_eq_zero_of_no_sems (by decide) r.2⟩)
    (Cert.GdnPreBwdRefIdeal.Value.run m ρ),
  fun m ρ _ => (θ_run Cert.GdnPreBwdRefIdeal.defs _ _).mono
    (fun r h => ⟨fun c => (h c).2.2, Idealize.ShloMosaic.sem_eq_zero_of_no_sems (by decide) r.2⟩)
    (Cert.GdnPreBwdRefIdeal.Value.run m ρ),
  fun m ρ _ => Cert.GdnInBa.Gen.frame m ρ,
  fun m ρ _ => Cert.GdnInBaIdeal.Gen.frame m ρ,
  fun m ρ _ => (θ_run Cert.GdnInBaRefIdeal.defs _ _).mono
    (fun r h => ⟨fun c => (h c).2, Idealize.ShloMosaic.sem_eq_zero_of_no_sems (by decide) r.2⟩)
    (Cert.GdnInBaRefIdeal.Value.run m ρ),
  fun m ρ _ => Cert.FfnAct.Gen.frame m ρ,
  fun m ρ _ => Cert.FfnActIdeal.Gen.frame m ρ,
  fun m ρ _ => (θ_run Cert.FfnActRefIdeal.defs _ _).mono
    (fun r h => ⟨fun c => (h c).2, Idealize.ShloMosaic.sem_eq_zero_of_no_sems (by decide) r.2⟩)
    (Cert.FfnActRefIdeal.Value.run m ρ),
  fun m ρ _ => Cert.Gnorm.Gen.frame m ρ,
  fun m ρ _ => Cert.GnormIdeal.Gen.frame m ρ,
  fun m ρ _ => (θ_run Cert.GnormRefIdeal.defs _ _).mono
    (fun r h => ⟨fun c => (h c).2, Idealize.ShloMosaic.sem_eq_zero_of_no_sems (by decide) r.2⟩)
    (Cert.GnormRefIdeal.Value.run m ρ),
  fun m ρ _ => Cert.RelBias.Gen.frame m ρ,
  fun m ρ _ => Cert.RelBiasIdeal.Gen.frame m ρ,
  fun m ρ _ => (θ_run Cert.RelBiasRefIdeal.defs _ _).mono
    (fun r h => ⟨fun c => (h c).2, Idealize.ShloMosaic.sem_eq_zero_of_no_sems (by decide) r.2⟩)
    (Cert.RelBiasRefIdeal.Value.run m ρ),
  fun m ρ _ => Cert.GdnInDx.Gen.frame m ρ,
  fun m ρ _ => Cert.GdnInDxIdeal.Gen.frame m ρ,
  fun m ρ _ => (θ_run Cert.GdnInDxRefIdeal.defs _ _).mono
    (fun r h => ⟨fun c => (h c).2, Idealize.ShloMosaic.sem_eq_zero_of_no_sems (by decide) r.2⟩)
    (Cert.GdnInDxRefIdeal.Value.run m ρ),
  fun m ρ _ => Cert.FfnConvBwd.Gen.frame m ρ,
  fun m ρ _ => Cert.FfnConvBwdIdeal.Gen.frame m ρ,
  fun m ρ _ => (θ_run Cert.FfnConvBwdRefIdeal.defs _ _).mono
    (fun r h => ⟨fun c => (h c).2, Idealize.ShloMosaic.sem_eq_zero_of_no_sems (by decide) r.2⟩)
    (Cert.FfnConvBwdRefIdeal.Value.run m ρ),
  fun m ρ _ => Cert.GdnConvBwd.Gen.frame m ρ,
  fun m ρ _ => Cert.GdnConvBwdIdeal.Gen.frame m ρ,
  fun m ρ _ => (θ_run Cert.GdnConvBwdRefIdeal.defs _ _).mono
    (fun r h => ⟨fun c => (h c).2, Idealize.ShloMosaic.sem_eq_zero_of_no_sems (by decide) r.2⟩)
    (Cert.GdnConvBwdRefIdeal.Value.run m ρ),
  trivial,
  Cert.Hand.algebraic_downDx,
  trivial,
  Cert.Hand.algebraic_up0,
  trivial,
  Cert.Hand.algebraic_up1,
  trivial,
  Cert.Hand.algebraic_down,
  trivial,
  Cert.Hand.algebraic_gdnIn,
  trivial,
  Cert.Hand.algebraic_gdnOut,
  trivial,
  Cert.Hand.algebraic_gdnOutDx,
  trivial,
  Cert.Hand.algebraic_qProj,
  trivial,
  Cert.Hand.algebraic_kvProj,
  trivial,
  Cert.Hand.algebraic_oProj,
  trivial,
  Cert.Hand.algebraic_oProjDx,
  trivial,
  Cert.Hand.algebraic_qDw,
  trivial,
  Cert.Hand.algebraic_kvDw,
  trivial,
  Cert.Hand.algebraic_oDw,
  trivial,
  Cert.Hand.algebraic_gdnOutDw,
  trivial,
  Cert.Hand.algebraic_gdnInDw,
  trivial,
  Cert.Hand.algebraic_up1Dw,
  trivial,
  Cert.Hand.algebraic_up0Dw,
  trivial,
  Cert.Hand.algebraic_down1Dw,
  trivial,
  Cert.Hand.algebraic_down0Dw,
  trivial,
  Cert.Hand.algebraic_up1Dx,
  trivial,
  Cert.Hand.algebraic_up0Dx,
  trivial,
  Cert.Hand.algebraic_qProjDx,
  trivial,
  Cert.Hand.algebraic_kvProjDx,
  trivial,
  Cert.Hand.algebraic_gdnInBaDx,
  trivial,
  Cert.Hand.algebraic_adamAWIn,
  trivial,
  Cert.Hand.algebraic_adamAWOut,
  trivial,
  Cert.Hand.algebraic_adamWKv,
  trivial,
  Cert.Hand.algebraic_adamBWQ,
  trivial,
  Cert.Hand.algebraic_adamBWO,
  trivial,
  Cert.Hand.algebraic_adamUp,
  trivial,
  Cert.Hand.algebraic_adamDown,
  trivial,
  Cert.Hand.algebraic_adamSmall,
  trivial,
  Cert.Hand.algebraic_gdnInBaDw,
  trivial,
  Cert.Hand.algebraic_relBiasDw,
  trivial,
  Cert.Hand.algebraic_final,
  trivial,
  Cert.Hand.algebraic_gnormBwd,
  trivial,
  Cert.Hand.algebraic_ffnActBwd,
  trivial,
  Cert.Hand.algebraic_gdnPreBwd,
  trivial,
  Cert.Hand.algebraic_gdnInBa,
  trivial,
  Cert.Hand.algebraic_ffnAct,
  trivial,
  Cert.Hand.algebraic_gnorm,
  trivial,
  Cert.Hand.algebraic_relBias,
  trivial,
  Cert.Hand.algebraic_gdnInDx,
  trivial,
  Cert.Hand.algebraic_ffnConvBwd,
  trivial,
  Cert.Hand.algebraic_gdnConvBwd⟩

end Cert.Proof

end
